-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_all_finite [hPre_all_finite : Cert.Pre_all_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_all_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_all_finite [hPre_all_finite : Cert.Pre_all_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_all_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_all_finite [hPre_all_finite : Cert.Pre_all_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_all_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_all_finite [hPre_all_finite : Cert.Pre_all_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_all_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_all_finite [hPre_all_finite : Cert.Pre_all_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_all_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_all_finite [hPre_all_finite : Cert.Pre_all_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_all_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_all_finite [hPre_all_finite : Cert.Pre_all_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_all_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_all_finite [hPre_all_finite : Cert.Pre_all_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_all_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_all_finite [hPre_all_finite : Cert.Pre_all_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_all_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_all_finite [hPre_all_finite : Cert.Pre_all_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_all_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel1 (m : (ℓ : Loc Cert.Kernel1.nD Cert.Kernel1.τ Cert.Kernel1.sig) → Buf (Elt Bits) ℓ) : Prop :=
  True

def Pre_Kernel1Ideal (m : (ℓ : Loc Cert.Kernel1Ideal.nD Cert.Kernel1Ideal.τ Cert.Kernel1Ideal.sig) → Buf (Elt Ideal) ℓ) : Prop :=
  True

def Pre_Kernel1Ideal_all_finite [hPre_all_finite : Cert.Pre_all_finite.Facts] (m : (ℓ : Loc Cert.Kernel1Ideal.nD Cert.Kernel1Ideal.τ Cert.Kernel1Ideal.sig) → Buf (Elt Ideal) ℓ) : Prop :=
  ∀ c : Dev Cert.Kernel1Ideal.nD,
    (Cert.Pre_all_finite.fn (F := Ideal) (m ((c.tc : Thread Cert.Kernel1Ideal.nD Cert.Kernel1Ideal.τ).loc Cert.Kernel1Ideal.main_arg0)) (m ((c.tc : Thread Cert.Kernel1Ideal.nD Cert.Kernel1Ideal.τ).loc Cert.Kernel1Ideal.main_arg1)) (m ((c.tc : Thread Cert.Kernel1Ideal.nD Cert.Kernel1Ideal.τ).loc Cert.Kernel1Ideal.main_arg2)) (m ((c.tc : Thread Cert.Kernel1Ideal.nD Cert.Kernel1Ideal.τ).loc Cert.Kernel1Ideal.main_arg3)) (m ((c.tc : Thread Cert.Kernel1Ideal.nD Cert.Kernel1Ideal.τ).loc Cert.Kernel1Ideal.main_arg4)) (m ((c.tc : Thread Cert.Kernel1Ideal.nD Cert.Kernel1Ideal.τ).loc Cert.Kernel1Ideal.main_arg5))) = (fun _ => 1#1)

def Pre_Reference1Ideal (m : (ℓ : Loc Cert.Reference1Ideal.nD Cert.Reference1Ideal.τ Cert.Reference1Ideal.sig) → Buf (Elt Ideal) ℓ) : Prop :=
  True

def Pre_Reference1Ideal_all_finite [hPre_all_finite : Cert.Pre_all_finite.Facts] (m : (ℓ : Loc Cert.Reference1Ideal.nD Cert.Reference1Ideal.τ Cert.Reference1Ideal.sig) → Buf (Elt Ideal) ℓ) : Prop :=
  ∀ c : Dev Cert.Reference1Ideal.nD,
    (Cert.Pre_all_finite.fn (F := Ideal) (m ((c.tc : Thread Cert.Reference1Ideal.nD Cert.Reference1Ideal.τ).loc Cert.Reference1Ideal.main_arg0)) (m ((c.tc : Thread Cert.Reference1Ideal.nD Cert.Reference1Ideal.τ).loc Cert.Reference1Ideal.main_arg1)) (m ((c.tc : Thread Cert.Reference1Ideal.nD Cert.Reference1Ideal.τ).loc Cert.Reference1Ideal.main_arg2)) (m ((c.tc : Thread Cert.Reference1Ideal.nD Cert.Reference1Ideal.τ).loc Cert.Reference1Ideal.main_arg3)) (m ((c.tc : Thread Cert.Reference1Ideal.nD Cert.Reference1Ideal.τ).loc Cert.Reference1Ideal.main_arg4)) (m ((c.tc : Thread Cert.Reference1Ideal.nD Cert.Reference1Ideal.τ).loc Cert.Reference1Ideal.main_arg5))) = (fun _ => 1#1)

def Pre_Kernel0 (m : (ℓ : Loc Cert.Kernel0.nD Cert.Kernel0.τ Cert.Kernel0.sig) → Buf (Elt Bits) ℓ) : Prop :=
  True

def Pre_Kernel0Ideal (m : (ℓ : Loc Cert.Kernel0Ideal.nD Cert.Kernel0Ideal.τ Cert.Kernel0Ideal.sig) → Buf (Elt Ideal) ℓ) : Prop :=
  True

def Pre_Kernel0Ideal_all_finite [hPre_all_finite : Cert.Pre_all_finite.Facts] (m : (ℓ : Loc Cert.Kernel0Ideal.nD Cert.Kernel0Ideal.τ Cert.Kernel0Ideal.sig) → Buf (Elt Ideal) ℓ) : Prop :=
  ∀ c : Dev Cert.Kernel0Ideal.nD,
    (Cert.Pre_all_finite.fn (F := Ideal) (m ((c.tc : Thread Cert.Kernel0Ideal.nD Cert.Kernel0Ideal.τ).loc Cert.Kernel0Ideal.main_arg0)) (m ((c.tc : Thread Cert.Kernel0Ideal.nD Cert.Kernel0Ideal.τ).loc Cert.Kernel0Ideal.main_arg1)) (m ((c.tc : Thread Cert.Kernel0Ideal.nD Cert.Kernel0Ideal.τ).loc Cert.Kernel0Ideal.main_arg2)) (m ((c.tc : Thread Cert.Kernel0Ideal.nD Cert.Kernel0Ideal.τ).loc Cert.Kernel0Ideal.main_arg3)) (m ((c.tc : Thread Cert.Kernel0Ideal.nD Cert.Kernel0Ideal.τ).loc Cert.Kernel0Ideal.main_arg4)) (m ((c.tc : Thread Cert.Kernel0Ideal.nD Cert.Kernel0Ideal.τ).loc Cert.Kernel0Ideal.main_arg5))) = (fun _ => 1#1)

def Pre_Reference0Ideal (m : (ℓ : Loc Cert.Reference0Ideal.nD Cert.Reference0Ideal.τ Cert.Reference0Ideal.sig) → Buf (Elt Ideal) ℓ) : Prop :=
  True

def Pre_Reference0Ideal_all_finite [hPre_all_finite : Cert.Pre_all_finite.Facts] (m : (ℓ : Loc Cert.Reference0Ideal.nD Cert.Reference0Ideal.τ Cert.Reference0Ideal.sig) → Buf (Elt Ideal) ℓ) : Prop :=
  ∀ c : Dev Cert.Reference0Ideal.nD,
    (Cert.Pre_all_finite.fn (F := Ideal) (m ((c.tc : Thread Cert.Reference0Ideal.nD Cert.Reference0Ideal.τ).loc Cert.Reference0Ideal.main_arg0)) (m ((c.tc : Thread Cert.Reference0Ideal.nD Cert.Reference0Ideal.τ).loc Cert.Reference0Ideal.main_arg1)) (m ((c.tc : Thread Cert.Reference0Ideal.nD Cert.Reference0Ideal.τ).loc Cert.Reference0Ideal.main_arg2)) (m ((c.tc : Thread Cert.Reference0Ideal.nD Cert.Reference0Ideal.τ).loc Cert.Reference0Ideal.main_arg3)) (m ((c.tc : Thread Cert.Reference0Ideal.nD Cert.Reference0Ideal.τ).loc Cert.Reference0Ideal.main_arg4)) (m ((c.tc : Thread Cert.Reference0Ideal.nD Cert.Reference0Ideal.τ).loc Cert.Reference0Ideal.main_arg5))) = (fun _ => 1#1)

def Pre_KernelLoss (m : (ℓ : Loc Cert.KernelLoss.nD Cert.KernelLoss.τ Cert.KernelLoss.sig) → Buf (Elt Bits) ℓ) : Prop :=
  True

def Pre_KernelLossIdeal (m : (ℓ : Loc Cert.KernelLossIdeal.nD Cert.KernelLossIdeal.τ Cert.KernelLossIdeal.sig) → Buf (Elt Ideal) ℓ) : Prop :=
  True

def Pre_ReferenceLossIdeal (m : (ℓ : Loc Cert.ReferenceLossIdeal.nD Cert.ReferenceLossIdeal.τ Cert.ReferenceLossIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelNt (m : (ℓ : Loc Cert.KernelNt.nD Cert.KernelNt.τ Cert.KernelNt.sig) → Buf (Elt Bits) ℓ) : Prop :=
  True

def Pre_KernelNtIdeal (m : (ℓ : Loc Cert.KernelNtIdeal.nD Cert.KernelNtIdeal.τ Cert.KernelNtIdeal.sig) → Buf (Elt Ideal) ℓ) : Prop :=
  True

def Pre_ReferenceNtIdeal (m : (ℓ : Loc Cert.ReferenceNtIdeal.nD Cert.ReferenceNtIdeal.τ Cert.ReferenceNtIdeal.sig) → Buf (Elt Ideal) ℓ) : Prop :=
  True

def Pre_KernelDw (m : (ℓ : Loc Cert.KernelDw.nD Cert.KernelDw.τ Cert.KernelDw.sig) → Buf (Elt Bits) ℓ) : Prop :=
  True

def Pre_KernelDwIdeal (m : (ℓ : Loc Cert.KernelDwIdeal.nD Cert.KernelDwIdeal.τ Cert.KernelDwIdeal.sig) → Buf (Elt Ideal) ℓ) : Prop :=
  True

def Pre_ReferenceDwIdeal (m : (ℓ : Loc Cert.ReferenceDwIdeal.nD Cert.ReferenceDwIdeal.τ Cert.ReferenceDwIdeal.sig) → Buf (Elt Ideal) ℓ) : Prop :=
  True

def Pre_KernelWo (m : (ℓ : Loc Cert.KernelWo.nD Cert.KernelWo.τ Cert.KernelWo.sig) → Buf (Elt Bits) ℓ) : Prop :=
  True

def Pre_KernelWoIdeal (m : (ℓ : Loc Cert.KernelWoIdeal.nD Cert.KernelWoIdeal.τ Cert.KernelWoIdeal.sig) → Buf (Elt Ideal) ℓ) : Prop :=
  True

def Pre_ReferenceWoIdeal (m : (ℓ : Loc Cert.ReferenceWoIdeal.nD Cert.ReferenceWoIdeal.τ Cert.ReferenceWoIdeal.sig) → Buf (Elt Ideal) ℓ) : Prop :=
  True

def Pre_KernelCw (m : (ℓ : Loc Cert.KernelCw.nD Cert.KernelCw.τ Cert.KernelCw.sig) → Buf (Elt Bits) ℓ) : Prop :=
  True

def Pre_KernelCwIdeal (m : (ℓ : Loc Cert.KernelCwIdeal.nD Cert.KernelCwIdeal.τ Cert.KernelCwIdeal.sig) → Buf (Elt Ideal) ℓ) : Prop :=
  True

def Pre_ReferenceCwIdeal (m : (ℓ : Loc Cert.ReferenceCwIdeal.nD Cert.ReferenceCwIdeal.τ Cert.ReferenceCwIdeal.sig) → Buf (Elt Ideal) ℓ) : Prop :=
  True

def Pre_KernelFw (m : (ℓ : Loc Cert.KernelFw.nD Cert.KernelFw.τ Cert.KernelFw.sig) → Buf (Elt Bits) ℓ) : Prop :=
  True

def Pre_KernelFwIdeal (m : (ℓ : Loc Cert.KernelFwIdeal.nD Cert.KernelFwIdeal.τ Cert.KernelFwIdeal.sig) → Buf (Elt Ideal) ℓ) : Prop :=
  True

def Pre_ReferenceFwIdeal (m : (ℓ : Loc Cert.ReferenceFwIdeal.nD Cert.ReferenceFwIdeal.τ Cert.ReferenceFwIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Kernel6Ideal_pre_all_finite [hKernel6Ideal : Cert.Kernel6Ideal.Facts] [hPre_all_finite : Cert.Pre_all_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_all_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Reference6Ideal_pre_all_finite [hReference6Ideal : Cert.Reference6Ideal.Facts] [hPre_all_finite : Cert.Pre_all_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_all_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Kernel5Ideal_pre_all_finite [hKernel5Ideal : Cert.Kernel5Ideal.Facts] [hPre_all_finite : Cert.Pre_all_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_all_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_all_finite [hReference5Ideal : Cert.Reference5Ideal.Facts] [hPre_all_finite : Cert.Pre_all_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_all_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_all_finite [hKernel4Ideal : Cert.Kernel4Ideal.Facts] [hPre_all_finite : Cert.Pre_all_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_all_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_all_finite [hReference4Ideal : Cert.Reference4Ideal.Facts] [hPre_all_finite : Cert.Pre_all_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_all_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_all_finite [hKernel3Ideal : Cert.Kernel3Ideal.Facts] [hPre_all_finite : Cert.Pre_all_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_all_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_all_finite [hReference3Ideal : Cert.Reference3Ideal.Facts] [hPre_all_finite : Cert.Pre_all_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_all_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_all_finite [hKernel2Ideal : Cert.Kernel2Ideal.Facts] [hPre_all_finite : Cert.Pre_all_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_all_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_all_finite [hReference2Ideal : Cert.Reference2Ideal.Facts] [hPre_all_finite : Cert.Pre_all_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_all_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel1 [hKernel1 : Cert.Kernel1.Facts] : Prop :=
  ∀ (m : (ℓ : Loc Cert.Kernel1.nD Cert.Kernel1.τ Cert.Kernel1.sig) → Buf (Elt Bits) ℓ) (g : Dev Cert.Kernel1.nD → PrngReg), Pre_Kernel1 m →
    θ_run (Cert.Kernel1.defs (F := Bits)) (onTc (τ := Cert.Kernel1.τ) (Cert.Kernel1.main (F := Bits))) ⟨m, fun _ => 0, g⟩ (fun r => (∀ c : Dev Cert.Kernel1.nD,
      r.2.mem ((c.tc : Thread Cert.Kernel1.nD Cert.Kernel1.τ).loc Cert.Kernel1.main_arg0) = m ((c.tc : Thread Cert.Kernel1.nD Cert.Kernel1.τ).loc Cert.Kernel1.main_arg0)
      ∧ r.2.mem ((c.tc : Thread Cert.Kernel1.nD Cert.Kernel1.τ).loc Cert.Kernel1.main_arg1) = m ((c.tc : Thread Cert.Kernel1.nD Cert.Kernel1.τ).loc Cert.Kernel1.main_arg1)
      ∧ r.2.mem ((c.tc : Thread Cert.Kernel1.nD Cert.Kernel1.τ).loc Cert.Kernel1.main_arg2) = m ((c.tc : Thread Cert.Kernel1.nD Cert.Kernel1.τ).loc Cert.Kernel1.main_arg2)
      ∧ r.2.mem ((c.tc : Thread Cert.Kernel1.nD Cert.Kernel1.τ).loc Cert.Kernel1.main_arg3) = m ((c.tc : Thread Cert.Kernel1.nD Cert.Kernel1.τ).loc Cert.Kernel1.main_arg3)
      ∧ r.2.mem ((c.tc : Thread Cert.Kernel1.nD Cert.Kernel1.τ).loc Cert.Kernel1.main_arg4) = m ((c.tc : Thread Cert.Kernel1.nD Cert.Kernel1.τ).loc Cert.Kernel1.main_arg4)
      ∧ r.2.mem ((c.tc : Thread Cert.Kernel1.nD Cert.Kernel1.τ).loc Cert.Kernel1.main_arg5) = m ((c.tc : Thread Cert.Kernel1.nD Cert.Kernel1.τ).loc Cert.Kernel1.main_arg5))
      ∧ r.2.sem = fun _ => 0)

def quiescent_Kernel1Ideal [hKernel1Ideal : Cert.Kernel1Ideal.Facts] : Prop :=
  ∀ (m : (ℓ : Loc Cert.Kernel1Ideal.nD Cert.Kernel1Ideal.τ Cert.Kernel1Ideal.sig) → Buf (Elt Ideal) ℓ) (g : Dev Cert.Kernel1Ideal.nD → PrngReg), Pre_Kernel1Ideal m →
    θ_run (Cert.Kernel1Ideal.defs (F := Ideal)) (onTc (τ := Cert.Kernel1Ideal.τ) (Cert.Kernel1Ideal.main (F := Ideal))) ⟨m, fun _ => 0, g⟩ (fun r => (∀ c : Dev Cert.Kernel1Ideal.nD,
      r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
      ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
      ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
      ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3)
      ∧ r.2.mem ((c.tc : Thread Cert.Kernel1Ideal.nD Cert.Kernel1Ideal.τ).loc Cert.Kernel1Ideal.main_arg4) = m ((c.tc : Thread Cert.Kernel1Ideal.nD Cert.Kernel1Ideal.τ).loc Cert.Kernel1Ideal.main_arg4)
      ∧ r.2.mem ((c.tc : Thread Cert.Kernel1Ideal.nD Cert.Kernel1Ideal.τ).loc Cert.Kernel1Ideal.main_arg5) = m ((c.tc : Thread Cert.Kernel1Ideal.nD Cert.Kernel1Ideal.τ).loc Cert.Kernel1Ideal.main_arg5))
      ∧ r.2.sem = fun _ => 0)

def quiescent_Kernel1Ideal_pre_all_finite [hKernel1Ideal : Cert.Kernel1Ideal.Facts] [hPre_all_finite : Cert.Pre_all_finite.Facts] : Prop :=
  ∀ (m : (ℓ : Loc Cert.Kernel1Ideal.nD Cert.Kernel1Ideal.τ Cert.Kernel1Ideal.sig) → Buf (Elt Ideal) ℓ) (g : Dev Cert.Kernel1Ideal.nD → PrngReg), Pre_Kernel1Ideal_all_finite m →
    θ_run (Cert.Kernel1Ideal.defs (F := Ideal)) (onTc (τ := Cert.Kernel1Ideal.τ) (Cert.Kernel1Ideal.main (F := Ideal))) ⟨m, fun _ => 0, g⟩ (fun r => (∀ c : Dev Cert.Kernel1Ideal.nD,
      r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
      ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
      ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
      ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3)
      ∧ r.2.mem ((c.tc : Thread Cert.Kernel1Ideal.nD Cert.Kernel1Ideal.τ).loc Cert.Kernel1Ideal.main_arg4) = m ((c.tc : Thread Cert.Kernel1Ideal.nD Cert.Kernel1Ideal.τ).loc Cert.Kernel1Ideal.main_arg4)
      ∧ r.2.mem ((c.tc : Thread Cert.Kernel1Ideal.nD Cert.Kernel1Ideal.τ).loc Cert.Kernel1Ideal.main_arg5) = m ((c.tc : Thread Cert.Kernel1Ideal.nD Cert.Kernel1Ideal.τ).loc Cert.Kernel1Ideal.main_arg5))
      ∧ r.2.sem = fun _ => 0)

def quiescent_Reference1Ideal [hReference1Ideal : Cert.Reference1Ideal.Facts] : Prop :=
  ∀ (m : (ℓ : Loc Cert.Reference1Ideal.nD Cert.Reference1Ideal.τ Cert.Reference1Ideal.sig) → Buf (Elt Ideal) ℓ) (g : Dev Cert.Reference1Ideal.nD → PrngReg), Pre_Reference1Ideal m →
    θ_run (Cert.Reference1Ideal.defs (F := Ideal)) (onTc (τ := Cert.Reference1Ideal.τ) (Cert.Reference1Ideal.main (F := Ideal))) ⟨m, fun _ => 0, g⟩ (fun r => (∀ c : Dev Cert.Reference1Ideal.nD,
      r.2.mem ((c.tc : Thread Cert.Reference1Ideal.nD Cert.Reference1Ideal.τ).loc Cert.Reference1Ideal.main_arg0) = m ((c.tc : Thread Cert.Reference1Ideal.nD Cert.Reference1Ideal.τ).loc Cert.Reference1Ideal.main_arg0)
      ∧ r.2.mem ((c.tc : Thread Cert.Reference1Ideal.nD Cert.Reference1Ideal.τ).loc Cert.Reference1Ideal.main_arg1) = m ((c.tc : Thread Cert.Reference1Ideal.nD Cert.Reference1Ideal.τ).loc Cert.Reference1Ideal.main_arg1)
      ∧ r.2.mem ((c.tc : Thread Cert.Reference1Ideal.nD Cert.Reference1Ideal.τ).loc Cert.Reference1Ideal.main_arg2) = m ((c.tc : Thread Cert.Reference1Ideal.nD Cert.Reference1Ideal.τ).loc Cert.Reference1Ideal.main_arg2)
      ∧ r.2.mem ((c.tc : Thread Cert.Reference1Ideal.nD Cert.Reference1Ideal.τ).loc Cert.Reference1Ideal.main_arg3) = m ((c.tc : Thread Cert.Reference1Ideal.nD Cert.Reference1Ideal.τ).loc Cert.Reference1Ideal.main_arg3)
      ∧ r.2.mem ((c.tc : Thread Cert.Reference1Ideal.nD Cert.Reference1Ideal.τ).loc Cert.Reference1Ideal.main_arg4) = m ((c.tc : Thread Cert.Reference1Ideal.nD Cert.Reference1Ideal.τ).loc Cert.Reference1Ideal.main_arg4)
      ∧ r.2.mem ((c.tc : Thread Cert.Reference1Ideal.nD Cert.Reference1Ideal.τ).loc Cert.Reference1Ideal.main_arg5) = m ((c.tc : Thread Cert.Reference1Ideal.nD Cert.Reference1Ideal.τ).loc Cert.Reference1Ideal.main_arg5))
      ∧ r.2.sem = fun _ => 0)

def quiescent_Reference1Ideal_pre_all_finite [hReference1Ideal : Cert.Reference1Ideal.Facts] [hPre_all_finite : Cert.Pre_all_finite.Facts] : Prop :=
  ∀ (m : (ℓ : Loc Cert.Reference1Ideal.nD Cert.Reference1Ideal.τ Cert.Reference1Ideal.sig) → Buf (Elt Ideal) ℓ) (g : Dev Cert.Reference1Ideal.nD → PrngReg), Pre_Reference1Ideal_all_finite m →
    θ_run (Cert.Reference1Ideal.defs (F := Ideal)) (onTc (τ := Cert.Reference1Ideal.τ) (Cert.Reference1Ideal.main (F := Ideal))) ⟨m, fun _ => 0, g⟩ (fun r => (∀ c : Dev Cert.Reference1Ideal.nD,
      r.2.mem ((c.tc : Thread Cert.Reference1Ideal.nD Cert.Reference1Ideal.τ).loc Cert.Reference1Ideal.main_arg0) = m ((c.tc : Thread Cert.Reference1Ideal.nD Cert.Reference1Ideal.τ).loc Cert.Reference1Ideal.main_arg0)
      ∧ r.2.mem ((c.tc : Thread Cert.Reference1Ideal.nD Cert.Reference1Ideal.τ).loc Cert.Reference1Ideal.main_arg1) = m ((c.tc : Thread Cert.Reference1Ideal.nD Cert.Reference1Ideal.τ).loc Cert.Reference1Ideal.main_arg1)
      ∧ r.2.mem ((c.tc : Thread Cert.Reference1Ideal.nD Cert.Reference1Ideal.τ).loc Cert.Reference1Ideal.main_arg2) = m ((c.tc : Thread Cert.Reference1Ideal.nD Cert.Reference1Ideal.τ).loc Cert.Reference1Ideal.main_arg2)
      ∧ r.2.mem ((c.tc : Thread Cert.Reference1Ideal.nD Cert.Reference1Ideal.τ).loc Cert.Reference1Ideal.main_arg3) = m ((c.tc : Thread Cert.Reference1Ideal.nD Cert.Reference1Ideal.τ).loc Cert.Reference1Ideal.main_arg3)
      ∧ r.2.mem ((c.tc : Thread Cert.Reference1Ideal.nD Cert.Reference1Ideal.τ).loc Cert.Reference1Ideal.main_arg4) = m ((c.tc : Thread Cert.Reference1Ideal.nD Cert.Reference1Ideal.τ).loc Cert.Reference1Ideal.main_arg4)
      ∧ r.2.mem ((c.tc : Thread Cert.Reference1Ideal.nD Cert.Reference1Ideal.τ).loc Cert.Reference1Ideal.main_arg5) = m ((c.tc : Thread Cert.Reference1Ideal.nD Cert.Reference1Ideal.τ).loc Cert.Reference1Ideal.main_arg5))
      ∧ r.2.sem = fun _ => 0)

def quiescent_Kernel0 [hKernel0 : Cert.Kernel0.Facts] : Prop :=
  ∀ (m : (ℓ : Loc Cert.Kernel0.nD Cert.Kernel0.τ Cert.Kernel0.sig) → Buf (Elt Bits) ℓ) (g : Dev Cert.Kernel0.nD → PrngReg), Pre_Kernel0 m →
    θ_run (Cert.Kernel0.defs (F := Bits)) (onTc (τ := Cert.Kernel0.τ) (Cert.Kernel0.main (F := Bits))) ⟨m, fun _ => 0, g⟩ (fun r => (∀ c : Dev Cert.Kernel0.nD,
      r.2.mem ((c.tc : Thread Cert.Kernel0.nD Cert.Kernel0.τ).loc Cert.Kernel0.main_arg0) = m ((c.tc : Thread Cert.Kernel0.nD Cert.Kernel0.τ).loc Cert.Kernel0.main_arg0)
      ∧ r.2.mem ((c.tc : Thread Cert.Kernel0.nD Cert.Kernel0.τ).loc Cert.Kernel0.main_arg1) = m ((c.tc : Thread Cert.Kernel0.nD Cert.Kernel0.τ).loc Cert.Kernel0.main_arg1)
      ∧ r.2.mem ((c.tc : Thread Cert.Kernel0.nD Cert.Kernel0.τ).loc Cert.Kernel0.main_arg2) = m ((c.tc : Thread Cert.Kernel0.nD Cert.Kernel0.τ).loc Cert.Kernel0.main_arg2)
      ∧ r.2.mem ((c.tc : Thread Cert.Kernel0.nD Cert.Kernel0.τ).loc Cert.Kernel0.main_arg3) = m ((c.tc : Thread Cert.Kernel0.nD Cert.Kernel0.τ).loc Cert.Kernel0.main_arg3)
      ∧ r.2.mem ((c.tc : Thread Cert.Kernel0.nD Cert.Kernel0.τ).loc Cert.Kernel0.main_arg4) = m ((c.tc : Thread Cert.Kernel0.nD Cert.Kernel0.τ).loc Cert.Kernel0.main_arg4)
      ∧ r.2.mem ((c.tc : Thread Cert.Kernel0.nD Cert.Kernel0.τ).loc Cert.Kernel0.main_arg5) = m ((c.tc : Thread Cert.Kernel0.nD Cert.Kernel0.τ).loc Cert.Kernel0.main_arg5))
      ∧ r.2.sem = fun _ => 0)

def quiescent_Kernel0Ideal [hKernel0Ideal : Cert.Kernel0Ideal.Facts] : Prop :=
  ∀ (m : (ℓ : Loc Cert.Kernel0Ideal.nD Cert.Kernel0Ideal.τ Cert.Kernel0Ideal.sig) → Buf (Elt Ideal) ℓ) (g : Dev Cert.Kernel0Ideal.nD → PrngReg), Pre_Kernel0Ideal m →
    θ_run (Cert.Kernel0Ideal.defs (F := Ideal)) (onTc (τ := Cert.Kernel0Ideal.τ) (Cert.Kernel0Ideal.main (F := Ideal))) ⟨m, fun _ => 0, g⟩ (fun r => (∀ c : Dev Cert.Kernel0Ideal.nD,
      r.2.mem ((c.tc : Thread Cert.Kernel0Ideal.nD Cert.Kernel0Ideal.τ).loc Cert.Kernel0Ideal.main_arg0) = m ((c.tc : Thread Cert.Kernel0Ideal.nD Cert.Kernel0Ideal.τ).loc Cert.Kernel0Ideal.main_arg0)
      ∧ r.2.mem ((c.tc : Thread Cert.Kernel0Ideal.nD Cert.Kernel0Ideal.τ).loc Cert.Kernel0Ideal.main_arg1) = m ((c.tc : Thread Cert.Kernel0Ideal.nD Cert.Kernel0Ideal.τ).loc Cert.Kernel0Ideal.main_arg1)
      ∧ r.2.mem ((c.tc : Thread Cert.Kernel0Ideal.nD Cert.Kernel0Ideal.τ).loc Cert.Kernel0Ideal.main_arg2) = m ((c.tc : Thread Cert.Kernel0Ideal.nD Cert.Kernel0Ideal.τ).loc Cert.Kernel0Ideal.main_arg2)
      ∧ r.2.mem ((c.tc : Thread Cert.Kernel0Ideal.nD Cert.Kernel0Ideal.τ).loc Cert.Kernel0Ideal.main_arg3) = m ((c.tc : Thread Cert.Kernel0Ideal.nD Cert.Kernel0Ideal.τ).loc Cert.Kernel0Ideal.main_arg3)
      ∧ r.2.mem ((c.tc : Thread Cert.Kernel0Ideal.nD Cert.Kernel0Ideal.τ).loc Cert.Kernel0Ideal.main_arg4) = m ((c.tc : Thread Cert.Kernel0Ideal.nD Cert.Kernel0Ideal.τ).loc Cert.Kernel0Ideal.main_arg4)
      ∧ r.2.mem ((c.tc : Thread Cert.Kernel0Ideal.nD Cert.Kernel0Ideal.τ).loc Cert.Kernel0Ideal.main_arg5) = m ((c.tc : Thread Cert.Kernel0Ideal.nD Cert.Kernel0Ideal.τ).loc Cert.Kernel0Ideal.main_arg5))
      ∧ r.2.sem = fun _ => 0)

def quiescent_Kernel0Ideal_pre_all_finite [hKernel0Ideal : Cert.Kernel0Ideal.Facts] [hPre_all_finite : Cert.Pre_all_finite.Facts] : Prop :=
  ∀ (m : (ℓ : Loc Cert.Kernel0Ideal.nD Cert.Kernel0Ideal.τ Cert.Kernel0Ideal.sig) → Buf (Elt Ideal) ℓ) (g : Dev Cert.Kernel0Ideal.nD → PrngReg), Pre_Kernel0Ideal_all_finite m →
    θ_run (Cert.Kernel0Ideal.defs (F := Ideal)) (onTc (τ := Cert.Kernel0Ideal.τ) (Cert.Kernel0Ideal.main (F := Ideal))) ⟨m, fun _ => 0, g⟩ (fun r => (∀ c : Dev Cert.Kernel0Ideal.nD,
      r.2.mem ((c.tc : Thread Cert.Kernel0Ideal.nD Cert.Kernel0Ideal.τ).loc Cert.Kernel0Ideal.main_arg0) = m ((c.tc : Thread Cert.Kernel0Ideal.nD Cert.Kernel0Ideal.τ).loc Cert.Kernel0Ideal.main_arg0)
      ∧ r.2.mem ((c.tc : Thread Cert.Kernel0Ideal.nD Cert.Kernel0Ideal.τ).loc Cert.Kernel0Ideal.main_arg1) = m ((c.tc : Thread Cert.Kernel0Ideal.nD Cert.Kernel0Ideal.τ).loc Cert.Kernel0Ideal.main_arg1)
      ∧ r.2.mem ((c.tc : Thread Cert.Kernel0Ideal.nD Cert.Kernel0Ideal.τ).loc Cert.Kernel0Ideal.main_arg2) = m ((c.tc : Thread Cert.Kernel0Ideal.nD Cert.Kernel0Ideal.τ).loc Cert.Kernel0Ideal.main_arg2)
      ∧ r.2.mem ((c.tc : Thread Cert.Kernel0Ideal.nD Cert.Kernel0Ideal.τ).loc Cert.Kernel0Ideal.main_arg3) = m ((c.tc : Thread Cert.Kernel0Ideal.nD Cert.Kernel0Ideal.τ).loc Cert.Kernel0Ideal.main_arg3)
      ∧ r.2.mem ((c.tc : Thread Cert.Kernel0Ideal.nD Cert.Kernel0Ideal.τ).loc Cert.Kernel0Ideal.main_arg4) = m ((c.tc : Thread Cert.Kernel0Ideal.nD Cert.Kernel0Ideal.τ).loc Cert.Kernel0Ideal.main_arg4)
      ∧ r.2.mem ((c.tc : Thread Cert.Kernel0Ideal.nD Cert.Kernel0Ideal.τ).loc Cert.Kernel0Ideal.main_arg5) = m ((c.tc : Thread Cert.Kernel0Ideal.nD Cert.Kernel0Ideal.τ).loc Cert.Kernel0Ideal.main_arg5))
      ∧ r.2.sem = fun _ => 0)

def quiescent_Reference0Ideal [hReference0Ideal : Cert.Reference0Ideal.Facts] : Prop :=
  ∀ (m : (ℓ : Loc Cert.Reference0Ideal.nD Cert.Reference0Ideal.τ Cert.Reference0Ideal.sig) → Buf (Elt Ideal) ℓ) (g : Dev Cert.Reference0Ideal.nD → PrngReg), Pre_Reference0Ideal m →
    θ_run (Cert.Reference0Ideal.defs (F := Ideal)) (onTc (τ := Cert.Reference0Ideal.τ) (Cert.Reference0Ideal.main (F := Ideal))) ⟨m, fun _ => 0, g⟩ (fun r => (∀ c : Dev Cert.Reference0Ideal.nD,
      r.2.mem ((c.tc : Thread Cert.Reference0Ideal.nD Cert.Reference0Ideal.τ).loc Cert.Reference0Ideal.main_arg0) = m ((c.tc : Thread Cert.Reference0Ideal.nD Cert.Reference0Ideal.τ).loc Cert.Reference0Ideal.main_arg0)
      ∧ r.2.mem ((c.tc : Thread Cert.Reference0Ideal.nD Cert.Reference0Ideal.τ).loc Cert.Reference0Ideal.main_arg1) = m ((c.tc : Thread Cert.Reference0Ideal.nD Cert.Reference0Ideal.τ).loc Cert.Reference0Ideal.main_arg1)
      ∧ r.2.mem ((c.tc : Thread Cert.Reference0Ideal.nD Cert.Reference0Ideal.τ).loc Cert.Reference0Ideal.main_arg2) = m ((c.tc : Thread Cert.Reference0Ideal.nD Cert.Reference0Ideal.τ).loc Cert.Reference0Ideal.main_arg2)
      ∧ r.2.mem ((c.tc : Thread Cert.Reference0Ideal.nD Cert.Reference0Ideal.τ).loc Cert.Reference0Ideal.main_arg3) = m ((c.tc : Thread Cert.Reference0Ideal.nD Cert.Reference0Ideal.τ).loc Cert.Reference0Ideal.main_arg3)
      ∧ r.2.mem ((c.tc : Thread Cert.Reference0Ideal.nD Cert.Reference0Ideal.τ).loc Cert.Reference0Ideal.main_arg4) = m ((c.tc : Thread Cert.Reference0Ideal.nD Cert.Reference0Ideal.τ).loc Cert.Reference0Ideal.main_arg4)
      ∧ r.2.mem ((c.tc : Thread Cert.Reference0Ideal.nD Cert.Reference0Ideal.τ).loc Cert.Reference0Ideal.main_arg5) = m ((c.tc : Thread Cert.Reference0Ideal.nD Cert.Reference0Ideal.τ).loc Cert.Reference0Ideal.main_arg5))
      ∧ r.2.sem = fun _ => 0)

def quiescent_Reference0Ideal_pre_all_finite [hReference0Ideal : Cert.Reference0Ideal.Facts] [hPre_all_finite : Cert.Pre_all_finite.Facts] : Prop :=
  ∀ (m : (ℓ : Loc Cert.Reference0Ideal.nD Cert.Reference0Ideal.τ Cert.Reference0Ideal.sig) → Buf (Elt Ideal) ℓ) (g : Dev Cert.Reference0Ideal.nD → PrngReg), Pre_Reference0Ideal_all_finite m →
    θ_run (Cert.Reference0Ideal.defs (F := Ideal)) (onTc (τ := Cert.Reference0Ideal.τ) (Cert.Reference0Ideal.main (F := Ideal))) ⟨m, fun _ => 0, g⟩ (fun r => (∀ c : Dev Cert.Reference0Ideal.nD,
      r.2.mem ((c.tc : Thread Cert.Reference0Ideal.nD Cert.Reference0Ideal.τ).loc Cert.Reference0Ideal.main_arg0) = m ((c.tc : Thread Cert.Reference0Ideal.nD Cert.Reference0Ideal.τ).loc Cert.Reference0Ideal.main_arg0)
      ∧ r.2.mem ((c.tc : Thread Cert.Reference0Ideal.nD Cert.Reference0Ideal.τ).loc Cert.Reference0Ideal.main_arg1) = m ((c.tc : Thread Cert.Reference0Ideal.nD Cert.Reference0Ideal.τ).loc Cert.Reference0Ideal.main_arg1)
      ∧ r.2.mem ((c.tc : Thread Cert.Reference0Ideal.nD Cert.Reference0Ideal.τ).loc Cert.Reference0Ideal.main_arg2) = m ((c.tc : Thread Cert.Reference0Ideal.nD Cert.Reference0Ideal.τ).loc Cert.Reference0Ideal.main_arg2)
      ∧ r.2.mem ((c.tc : Thread Cert.Reference0Ideal.nD Cert.Reference0Ideal.τ).loc Cert.Reference0Ideal.main_arg3) = m ((c.tc : Thread Cert.Reference0Ideal.nD Cert.Reference0Ideal.τ).loc Cert.Reference0Ideal.main_arg3)
      ∧ r.2.mem ((c.tc : Thread Cert.Reference0Ideal.nD Cert.Reference0Ideal.τ).loc Cert.Reference0Ideal.main_arg4) = m ((c.tc : Thread Cert.Reference0Ideal.nD Cert.Reference0Ideal.τ).loc Cert.Reference0Ideal.main_arg4)
      ∧ r.2.mem ((c.tc : Thread Cert.Reference0Ideal.nD Cert.Reference0Ideal.τ).loc Cert.Reference0Ideal.main_arg5) = m ((c.tc : Thread Cert.Reference0Ideal.nD Cert.Reference0Ideal.τ).loc Cert.Reference0Ideal.main_arg5))
      ∧ r.2.sem = fun _ => 0)

def quiescent_KernelLoss [hKernelLoss : Cert.KernelLoss.Facts] : Prop :=
  ∀ (m : (ℓ : Loc Cert.KernelLoss.nD Cert.KernelLoss.τ Cert.KernelLoss.sig) → Buf (Elt Bits) ℓ) (g : Dev Cert.KernelLoss.nD → PrngReg), Pre_KernelLoss m →
    θ_run (Cert.KernelLoss.defs (F := Bits)) (onTc (τ := Cert.KernelLoss.τ) (Cert.KernelLoss.main (F := Bits))) ⟨m, fun _ => 0, g⟩ (fun r => (∀ c : Dev Cert.KernelLoss.nD,
      r.2.mem ((c.tc : Thread Cert.KernelLoss.nD Cert.KernelLoss.τ).loc Cert.KernelLoss.main_arg0) = m ((c.tc : Thread Cert.KernelLoss.nD Cert.KernelLoss.τ).loc Cert.KernelLoss.main_arg0)
      ∧ r.2.mem ((c.tc : Thread Cert.KernelLoss.nD Cert.KernelLoss.τ).loc Cert.KernelLoss.main_arg1) = m ((c.tc : Thread Cert.KernelLoss.nD Cert.KernelLoss.τ).loc Cert.KernelLoss.main_arg1)
      ∧ r.2.mem ((c.tc : Thread Cert.KernelLoss.nD Cert.KernelLoss.τ).loc Cert.KernelLoss.main_arg2) = m ((c.tc : Thread Cert.KernelLoss.nD Cert.KernelLoss.τ).loc Cert.KernelLoss.main_arg2))
      ∧ r.2.sem = fun _ => 0)

def quiescent_KernelLossIdeal [hKernelLossIdeal : Cert.KernelLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2))
      ∧ r.2.sem = fun _ => 0)

def quiescent_ReferenceLossIdeal [hReferenceLossIdeal : Cert.ReferenceLossIdeal.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2))
      ∧ r.2.sem = fun _ => 0)

def quiescent_KernelNt [hKernelNt : Cert.KernelNt.Facts] : Prop :=
  ∀ (m : (ℓ : Loc Cert.KernelNt.nD Cert.KernelNt.τ Cert.KernelNt.sig) → Buf (Elt Bits) ℓ) (g : Dev Cert.KernelNt.nD → PrngReg), Pre_KernelNt m →
    θ_run (Cert.KernelNt.defs (F := Bits)) (onTc (τ := Cert.KernelNt.τ) (Cert.KernelNt.main (F := Bits))) ⟨m, fun _ => 0, g⟩ (fun r => (∀ c : Dev Cert.KernelNt.nD,
      r.2.mem ((c.tc : Thread Cert.KernelNt.nD Cert.KernelNt.τ).loc Cert.KernelNt.main_arg0) = m ((c.tc : Thread Cert.KernelNt.nD Cert.KernelNt.τ).loc Cert.KernelNt.main_arg0)
      ∧ r.2.mem ((c.tc : Thread Cert.KernelNt.nD Cert.KernelNt.τ).loc Cert.KernelNt.main_arg1) = m ((c.tc : Thread Cert.KernelNt.nD Cert.KernelNt.τ).loc Cert.KernelNt.main_arg1)
      ∧ r.2.mem ((c.tc : Thread Cert.KernelNt.nD Cert.KernelNt.τ).loc Cert.KernelNt.main_arg2) = m ((c.tc : Thread Cert.KernelNt.nD Cert.KernelNt.τ).loc Cert.KernelNt.main_arg2))
      ∧ r.2.sem = fun _ => 0)

def quiescent_KernelNtIdeal [hKernelNtIdeal : Cert.KernelNtIdeal.Facts] : Prop :=
  ∀ (m : (ℓ : Loc Cert.KernelNtIdeal.nD Cert.KernelNtIdeal.τ Cert.KernelNtIdeal.sig) → Buf (Elt Ideal) ℓ) (g : Dev Cert.KernelNtIdeal.nD → PrngReg), Pre_KernelNtIdeal m →
    θ_run (Cert.KernelNtIdeal.defs (F := Ideal)) (onTc (τ := Cert.KernelNtIdeal.τ) (Cert.KernelNtIdeal.main (F := Ideal))) ⟨m, fun _ => 0, g⟩ (fun r => (∀ c : Dev Cert.KernelNtIdeal.nD,
      r.2.mem ((c.tc : Thread Cert.KernelNtIdeal.nD Cert.KernelNtIdeal.τ).loc Cert.KernelNtIdeal.main_arg0) = m ((c.tc : Thread Cert.KernelNtIdeal.nD Cert.KernelNtIdeal.τ).loc Cert.KernelNtIdeal.main_arg0)
      ∧ r.2.mem ((c.tc : Thread Cert.KernelNtIdeal.nD Cert.KernelNtIdeal.τ).loc Cert.KernelNtIdeal.main_arg1) = m ((c.tc : Thread Cert.KernelNtIdeal.nD Cert.KernelNtIdeal.τ).loc Cert.KernelNtIdeal.main_arg1)
      ∧ r.2.mem ((c.tc : Thread Cert.KernelNtIdeal.nD Cert.KernelNtIdeal.τ).loc Cert.KernelNtIdeal.main_arg2) = m ((c.tc : Thread Cert.KernelNtIdeal.nD Cert.KernelNtIdeal.τ).loc Cert.KernelNtIdeal.main_arg2))
      ∧ r.2.sem = fun _ => 0)

def quiescent_ReferenceNtIdeal [hReferenceNtIdeal : Cert.ReferenceNtIdeal.Facts] : Prop :=
  ∀ (m : (ℓ : Loc Cert.ReferenceNtIdeal.nD Cert.ReferenceNtIdeal.τ Cert.ReferenceNtIdeal.sig) → Buf (Elt Ideal) ℓ) (g : Dev Cert.ReferenceNtIdeal.nD → PrngReg), Pre_ReferenceNtIdeal m →
    θ_run (Cert.ReferenceNtIdeal.defs (F := Ideal)) (onTc (τ := Cert.ReferenceNtIdeal.τ) (Cert.ReferenceNtIdeal.main (F := Ideal))) ⟨m, fun _ => 0, g⟩ (fun r => (∀ c : Dev Cert.ReferenceNtIdeal.nD,
      r.2.mem ((c.tc : Thread Cert.ReferenceNtIdeal.nD Cert.ReferenceNtIdeal.τ).loc Cert.ReferenceNtIdeal.main_arg0) = m ((c.tc : Thread Cert.ReferenceNtIdeal.nD Cert.ReferenceNtIdeal.τ).loc Cert.ReferenceNtIdeal.main_arg0)
      ∧ r.2.mem ((c.tc : Thread Cert.ReferenceNtIdeal.nD Cert.ReferenceNtIdeal.τ).loc Cert.ReferenceNtIdeal.main_arg1) = m ((c.tc : Thread Cert.ReferenceNtIdeal.nD Cert.ReferenceNtIdeal.τ).loc Cert.ReferenceNtIdeal.main_arg1)
      ∧ r.2.mem ((c.tc : Thread Cert.ReferenceNtIdeal.nD Cert.ReferenceNtIdeal.τ).loc Cert.ReferenceNtIdeal.main_arg2) = m ((c.tc : Thread Cert.ReferenceNtIdeal.nD Cert.ReferenceNtIdeal.τ).loc Cert.ReferenceNtIdeal.main_arg2))
      ∧ r.2.sem = fun _ => 0)

def quiescent_KernelDw [hKernelDw : Cert.KernelDw.Facts] : Prop :=
  ∀ (m : (ℓ : Loc Cert.KernelDw.nD Cert.KernelDw.τ Cert.KernelDw.sig) → Buf (Elt Bits) ℓ) (g : Dev Cert.KernelDw.nD → PrngReg), Pre_KernelDw m →
    θ_run (Cert.KernelDw.defs (F := Bits)) (onTc (τ := Cert.KernelDw.τ) (Cert.KernelDw.main (F := Bits))) ⟨m, fun _ => 0, g⟩ (fun r => (∀ c : Dev Cert.KernelDw.nD,
      r.2.mem ((c.tc : Thread Cert.KernelDw.nD Cert.KernelDw.τ).loc Cert.KernelDw.main_arg0) = m ((c.tc : Thread Cert.KernelDw.nD Cert.KernelDw.τ).loc Cert.KernelDw.main_arg0)
      ∧ r.2.mem ((c.tc : Thread Cert.KernelDw.nD Cert.KernelDw.τ).loc Cert.KernelDw.main_arg1) = m ((c.tc : Thread Cert.KernelDw.nD Cert.KernelDw.τ).loc Cert.KernelDw.main_arg1)
      ∧ r.2.mem ((c.tc : Thread Cert.KernelDw.nD Cert.KernelDw.τ).loc Cert.KernelDw.main_arg2) = m ((c.tc : Thread Cert.KernelDw.nD Cert.KernelDw.τ).loc Cert.KernelDw.main_arg2)
      ∧ r.2.mem ((c.tc : Thread Cert.KernelDw.nD Cert.KernelDw.τ).loc Cert.KernelDw.main_arg3) = m ((c.tc : Thread Cert.KernelDw.nD Cert.KernelDw.τ).loc Cert.KernelDw.main_arg3))
      ∧ r.2.sem = fun _ => 0)

def quiescent_KernelDwIdeal [hKernelDwIdeal : Cert.KernelDwIdeal.Facts] : Prop :=
  ∀ (m : (ℓ : Loc Cert.KernelDwIdeal.nD Cert.KernelDwIdeal.τ Cert.KernelDwIdeal.sig) → Buf (Elt Ideal) ℓ) (g : Dev Cert.KernelDwIdeal.nD → PrngReg), Pre_KernelDwIdeal m →
    θ_run (Cert.KernelDwIdeal.defs (F := Ideal)) (onTc (τ := Cert.KernelDwIdeal.τ) (Cert.KernelDwIdeal.main (F := Ideal))) ⟨m, fun _ => 0, g⟩ (fun r => (∀ c : Dev Cert.KernelDwIdeal.nD,
      r.2.mem ((c.tc : Thread Cert.KernelDwIdeal.nD Cert.KernelDwIdeal.τ).loc Cert.KernelDwIdeal.main_arg0) = m ((c.tc : Thread Cert.KernelDwIdeal.nD Cert.KernelDwIdeal.τ).loc Cert.KernelDwIdeal.main_arg0)
      ∧ r.2.mem ((c.tc : Thread Cert.KernelDwIdeal.nD Cert.KernelDwIdeal.τ).loc Cert.KernelDwIdeal.main_arg1) = m ((c.tc : Thread Cert.KernelDwIdeal.nD Cert.KernelDwIdeal.τ).loc Cert.KernelDwIdeal.main_arg1)
      ∧ r.2.mem ((c.tc : Thread Cert.KernelDwIdeal.nD Cert.KernelDwIdeal.τ).loc Cert.KernelDwIdeal.main_arg2) = m ((c.tc : Thread Cert.KernelDwIdeal.nD Cert.KernelDwIdeal.τ).loc Cert.KernelDwIdeal.main_arg2)
      ∧ r.2.mem ((c.tc : Thread Cert.KernelDwIdeal.nD Cert.KernelDwIdeal.τ).loc Cert.KernelDwIdeal.main_arg3) = m ((c.tc : Thread Cert.KernelDwIdeal.nD Cert.KernelDwIdeal.τ).loc Cert.KernelDwIdeal.main_arg3))
      ∧ r.2.sem = fun _ => 0)

def quiescent_ReferenceDwIdeal [hReferenceDwIdeal : Cert.ReferenceDwIdeal.Facts] : Prop :=
  ∀ (m : (ℓ : Loc Cert.ReferenceDwIdeal.nD Cert.ReferenceDwIdeal.τ Cert.ReferenceDwIdeal.sig) → Buf (Elt Ideal) ℓ) (g : Dev Cert.ReferenceDwIdeal.nD → PrngReg), Pre_ReferenceDwIdeal m →
    θ_run (Cert.ReferenceDwIdeal.defs (F := Ideal)) (onTc (τ := Cert.ReferenceDwIdeal.τ) (Cert.ReferenceDwIdeal.main (F := Ideal))) ⟨m, fun _ => 0, g⟩ (fun r => (∀ c : Dev Cert.ReferenceDwIdeal.nD,
      r.2.mem ((c.tc : Thread Cert.ReferenceDwIdeal.nD Cert.ReferenceDwIdeal.τ).loc Cert.ReferenceDwIdeal.main_arg0) = m ((c.tc : Thread Cert.ReferenceDwIdeal.nD Cert.ReferenceDwIdeal.τ).loc Cert.ReferenceDwIdeal.main_arg0)
      ∧ r.2.mem ((c.tc : Thread Cert.ReferenceDwIdeal.nD Cert.ReferenceDwIdeal.τ).loc Cert.ReferenceDwIdeal.main_arg1) = m ((c.tc : Thread Cert.ReferenceDwIdeal.nD Cert.ReferenceDwIdeal.τ).loc Cert.ReferenceDwIdeal.main_arg1)
      ∧ r.2.mem ((c.tc : Thread Cert.ReferenceDwIdeal.nD Cert.ReferenceDwIdeal.τ).loc Cert.ReferenceDwIdeal.main_arg2) = m ((c.tc : Thread Cert.ReferenceDwIdeal.nD Cert.ReferenceDwIdeal.τ).loc Cert.ReferenceDwIdeal.main_arg2)
      ∧ r.2.mem ((c.tc : Thread Cert.ReferenceDwIdeal.nD Cert.ReferenceDwIdeal.τ).loc Cert.ReferenceDwIdeal.main_arg3) = m ((c.tc : Thread Cert.ReferenceDwIdeal.nD Cert.ReferenceDwIdeal.τ).loc Cert.ReferenceDwIdeal.main_arg3))
      ∧ r.2.sem = fun _ => 0)

def quiescent_KernelWo [hKernelWo : Cert.KernelWo.Facts] : Prop :=
  ∀ (m : (ℓ : Loc Cert.KernelWo.nD Cert.KernelWo.τ Cert.KernelWo.sig) → Buf (Elt Bits) ℓ) (g : Dev Cert.KernelWo.nD → PrngReg), Pre_KernelWo m →
    θ_run (Cert.KernelWo.defs (F := Bits)) (onTc (τ := Cert.KernelWo.τ) (Cert.KernelWo.main (F := Bits))) ⟨m, fun _ => 0, g⟩ (fun r => (∀ c : Dev Cert.KernelWo.nD,
      r.2.mem ((c.tc : Thread Cert.KernelWo.nD Cert.KernelWo.τ).loc Cert.KernelWo.main_arg0) = m ((c.tc : Thread Cert.KernelWo.nD Cert.KernelWo.τ).loc Cert.KernelWo.main_arg0)
      ∧ r.2.mem ((c.tc : Thread Cert.KernelWo.nD Cert.KernelWo.τ).loc Cert.KernelWo.main_arg1) = m ((c.tc : Thread Cert.KernelWo.nD Cert.KernelWo.τ).loc Cert.KernelWo.main_arg1)
      ∧ r.2.mem ((c.tc : Thread Cert.KernelWo.nD Cert.KernelWo.τ).loc Cert.KernelWo.main_arg2) = m ((c.tc : Thread Cert.KernelWo.nD Cert.KernelWo.τ).loc Cert.KernelWo.main_arg2))
      ∧ r.2.sem = fun _ => 0)

def quiescent_KernelWoIdeal [hKernelWoIdeal : Cert.KernelWoIdeal.Facts] : Prop :=
  ∀ (m : (ℓ : Loc Cert.KernelWoIdeal.nD Cert.KernelWoIdeal.τ Cert.KernelWoIdeal.sig) → Buf (Elt Ideal) ℓ) (g : Dev Cert.KernelWoIdeal.nD → PrngReg), Pre_KernelWoIdeal m →
    θ_run (Cert.KernelWoIdeal.defs (F := Ideal)) (onTc (τ := Cert.KernelWoIdeal.τ) (Cert.KernelWoIdeal.main (F := Ideal))) ⟨m, fun _ => 0, g⟩ (fun r => (∀ c : Dev Cert.KernelWoIdeal.nD,
      r.2.mem ((c.tc : Thread Cert.KernelWoIdeal.nD Cert.KernelWoIdeal.τ).loc Cert.KernelWoIdeal.main_arg0) = m ((c.tc : Thread Cert.KernelWoIdeal.nD Cert.KernelWoIdeal.τ).loc Cert.KernelWoIdeal.main_arg0)
      ∧ r.2.mem ((c.tc : Thread Cert.KernelWoIdeal.nD Cert.KernelWoIdeal.τ).loc Cert.KernelWoIdeal.main_arg1) = m ((c.tc : Thread Cert.KernelWoIdeal.nD Cert.KernelWoIdeal.τ).loc Cert.KernelWoIdeal.main_arg1)
      ∧ r.2.mem ((c.tc : Thread Cert.KernelWoIdeal.nD Cert.KernelWoIdeal.τ).loc Cert.KernelWoIdeal.main_arg2) = m ((c.tc : Thread Cert.KernelWoIdeal.nD Cert.KernelWoIdeal.τ).loc Cert.KernelWoIdeal.main_arg2))
      ∧ r.2.sem = fun _ => 0)

def quiescent_ReferenceWoIdeal [hReferenceWoIdeal : Cert.ReferenceWoIdeal.Facts] : Prop :=
  ∀ (m : (ℓ : Loc Cert.ReferenceWoIdeal.nD Cert.ReferenceWoIdeal.τ Cert.ReferenceWoIdeal.sig) → Buf (Elt Ideal) ℓ) (g : Dev Cert.ReferenceWoIdeal.nD → PrngReg), Pre_ReferenceWoIdeal m →
    θ_run (Cert.ReferenceWoIdeal.defs (F := Ideal)) (onTc (τ := Cert.ReferenceWoIdeal.τ) (Cert.ReferenceWoIdeal.main (F := Ideal))) ⟨m, fun _ => 0, g⟩ (fun r => (∀ c : Dev Cert.ReferenceWoIdeal.nD,
      r.2.mem ((c.tc : Thread Cert.ReferenceWoIdeal.nD Cert.ReferenceWoIdeal.τ).loc Cert.ReferenceWoIdeal.main_arg0) = m ((c.tc : Thread Cert.ReferenceWoIdeal.nD Cert.ReferenceWoIdeal.τ).loc Cert.ReferenceWoIdeal.main_arg0)
      ∧ r.2.mem ((c.tc : Thread Cert.ReferenceWoIdeal.nD Cert.ReferenceWoIdeal.τ).loc Cert.ReferenceWoIdeal.main_arg1) = m ((c.tc : Thread Cert.ReferenceWoIdeal.nD Cert.ReferenceWoIdeal.τ).loc Cert.ReferenceWoIdeal.main_arg1)
      ∧ r.2.mem ((c.tc : Thread Cert.ReferenceWoIdeal.nD Cert.ReferenceWoIdeal.τ).loc Cert.ReferenceWoIdeal.main_arg2) = m ((c.tc : Thread Cert.ReferenceWoIdeal.nD Cert.ReferenceWoIdeal.τ).loc Cert.ReferenceWoIdeal.main_arg2))
      ∧ r.2.sem = fun _ => 0)

def quiescent_KernelCw [hKernelCw : Cert.KernelCw.Facts] : Prop :=
  ∀ (m : (ℓ : Loc Cert.KernelCw.nD Cert.KernelCw.τ Cert.KernelCw.sig) → Buf (Elt Bits) ℓ) (g : Dev Cert.KernelCw.nD → PrngReg), Pre_KernelCw m →
    θ_run (Cert.KernelCw.defs (F := Bits)) (onTc (τ := Cert.KernelCw.τ) (Cert.KernelCw.main (F := Bits))) ⟨m, fun _ => 0, g⟩ (fun r => (∀ c : Dev Cert.KernelCw.nD,
      r.2.mem ((c.tc : Thread Cert.KernelCw.nD Cert.KernelCw.τ).loc Cert.KernelCw.main_arg0) = m ((c.tc : Thread Cert.KernelCw.nD Cert.KernelCw.τ).loc Cert.KernelCw.main_arg0)
      ∧ r.2.mem ((c.tc : Thread Cert.KernelCw.nD Cert.KernelCw.τ).loc Cert.KernelCw.main_arg1) = m ((c.tc : Thread Cert.KernelCw.nD Cert.KernelCw.τ).loc Cert.KernelCw.main_arg1)
      ∧ r.2.mem ((c.tc : Thread Cert.KernelCw.nD Cert.KernelCw.τ).loc Cert.KernelCw.main_arg2) = m ((c.tc : Thread Cert.KernelCw.nD Cert.KernelCw.τ).loc Cert.KernelCw.main_arg2)
      ∧ r.2.mem ((c.tc : Thread Cert.KernelCw.nD Cert.KernelCw.τ).loc Cert.KernelCw.main_arg3) = m ((c.tc : Thread Cert.KernelCw.nD Cert.KernelCw.τ).loc Cert.KernelCw.main_arg3))
      ∧ r.2.sem = fun _ => 0)

def quiescent_KernelCwIdeal [hKernelCwIdeal : Cert.KernelCwIdeal.Facts] : Prop :=
  ∀ (m : (ℓ : Loc Cert.KernelCwIdeal.nD Cert.KernelCwIdeal.τ Cert.KernelCwIdeal.sig) → Buf (Elt Ideal) ℓ) (g : Dev Cert.KernelCwIdeal.nD → PrngReg), Pre_KernelCwIdeal m →
    θ_run (Cert.KernelCwIdeal.defs (F := Ideal)) (onTc (τ := Cert.KernelCwIdeal.τ) (Cert.KernelCwIdeal.main (F := Ideal))) ⟨m, fun _ => 0, g⟩ (fun r => (∀ c : Dev Cert.KernelCwIdeal.nD,
      r.2.mem ((c.tc : Thread Cert.KernelCwIdeal.nD Cert.KernelCwIdeal.τ).loc Cert.KernelCwIdeal.main_arg0) = m ((c.tc : Thread Cert.KernelCwIdeal.nD Cert.KernelCwIdeal.τ).loc Cert.KernelCwIdeal.main_arg0)
      ∧ r.2.mem ((c.tc : Thread Cert.KernelCwIdeal.nD Cert.KernelCwIdeal.τ).loc Cert.KernelCwIdeal.main_arg1) = m ((c.tc : Thread Cert.KernelCwIdeal.nD Cert.KernelCwIdeal.τ).loc Cert.KernelCwIdeal.main_arg1)
      ∧ r.2.mem ((c.tc : Thread Cert.KernelCwIdeal.nD Cert.KernelCwIdeal.τ).loc Cert.KernelCwIdeal.main_arg2) = m ((c.tc : Thread Cert.KernelCwIdeal.nD Cert.KernelCwIdeal.τ).loc Cert.KernelCwIdeal.main_arg2)
      ∧ r.2.mem ((c.tc : Thread Cert.KernelCwIdeal.nD Cert.KernelCwIdeal.τ).loc Cert.KernelCwIdeal.main_arg3) = m ((c.tc : Thread Cert.KernelCwIdeal.nD Cert.KernelCwIdeal.τ).loc Cert.KernelCwIdeal.main_arg3))
      ∧ r.2.sem = fun _ => 0)

def quiescent_ReferenceCwIdeal [hReferenceCwIdeal : Cert.ReferenceCwIdeal.Facts] : Prop :=
  ∀ (m : (ℓ : Loc Cert.ReferenceCwIdeal.nD Cert.ReferenceCwIdeal.τ Cert.ReferenceCwIdeal.sig) → Buf (Elt Ideal) ℓ) (g : Dev Cert.ReferenceCwIdeal.nD → PrngReg), Pre_ReferenceCwIdeal m →
    θ_run (Cert.ReferenceCwIdeal.defs (F := Ideal)) (onTc (τ := Cert.ReferenceCwIdeal.τ) (Cert.ReferenceCwIdeal.main (F := Ideal))) ⟨m, fun _ => 0, g⟩ (fun r => (∀ c : Dev Cert.ReferenceCwIdeal.nD,
      r.2.mem ((c.tc : Thread Cert.ReferenceCwIdeal.nD Cert.ReferenceCwIdeal.τ).loc Cert.ReferenceCwIdeal.main_arg0) = m ((c.tc : Thread Cert.ReferenceCwIdeal.nD Cert.ReferenceCwIdeal.τ).loc Cert.ReferenceCwIdeal.main_arg0)
      ∧ r.2.mem ((c.tc : Thread Cert.ReferenceCwIdeal.nD Cert.ReferenceCwIdeal.τ).loc Cert.ReferenceCwIdeal.main_arg1) = m ((c.tc : Thread Cert.ReferenceCwIdeal.nD Cert.ReferenceCwIdeal.τ).loc Cert.ReferenceCwIdeal.main_arg1)
      ∧ r.2.mem ((c.tc : Thread Cert.ReferenceCwIdeal.nD Cert.ReferenceCwIdeal.τ).loc Cert.ReferenceCwIdeal.main_arg2) = m ((c.tc : Thread Cert.ReferenceCwIdeal.nD Cert.ReferenceCwIdeal.τ).loc Cert.ReferenceCwIdeal.main_arg2)
      ∧ r.2.mem ((c.tc : Thread Cert.ReferenceCwIdeal.nD Cert.ReferenceCwIdeal.τ).loc Cert.ReferenceCwIdeal.main_arg3) = m ((c.tc : Thread Cert.ReferenceCwIdeal.nD Cert.ReferenceCwIdeal.τ).loc Cert.ReferenceCwIdeal.main_arg3))
      ∧ r.2.sem = fun _ => 0)

def quiescent_KernelFw [hKernelFw : Cert.KernelFw.Facts] : Prop :=
  ∀ (m : (ℓ : Loc Cert.KernelFw.nD Cert.KernelFw.τ Cert.KernelFw.sig) → Buf (Elt Bits) ℓ) (g : Dev Cert.KernelFw.nD → PrngReg), Pre_KernelFw m →
    θ_run (Cert.KernelFw.defs (F := Bits)) (onTc (τ := Cert.KernelFw.τ) (Cert.KernelFw.main (F := Bits))) ⟨m, fun _ => 0, g⟩ (fun r => (∀ c : Dev Cert.KernelFw.nD,
      r.2.mem ((c.tc : Thread Cert.KernelFw.nD Cert.KernelFw.τ).loc Cert.KernelFw.main_arg0) = m ((c.tc : Thread Cert.KernelFw.nD Cert.KernelFw.τ).loc Cert.KernelFw.main_arg0)
      ∧ r.2.mem ((c.tc : Thread Cert.KernelFw.nD Cert.KernelFw.τ).loc Cert.KernelFw.main_arg1) = m ((c.tc : Thread Cert.KernelFw.nD Cert.KernelFw.τ).loc Cert.KernelFw.main_arg1)
      ∧ r.2.mem ((c.tc : Thread Cert.KernelFw.nD Cert.KernelFw.τ).loc Cert.KernelFw.main_arg2) = m ((c.tc : Thread Cert.KernelFw.nD Cert.KernelFw.τ).loc Cert.KernelFw.main_arg2)
      ∧ r.2.mem ((c.tc : Thread Cert.KernelFw.nD Cert.KernelFw.τ).loc Cert.KernelFw.main_arg3) = m ((c.tc : Thread Cert.KernelFw.nD Cert.KernelFw.τ).loc Cert.KernelFw.main_arg3))
      ∧ r.2.sem = fun _ => 0)

def quiescent_KernelFwIdeal [hKernelFwIdeal : Cert.KernelFwIdeal.Facts] : Prop :=
  ∀ (m : (ℓ : Loc Cert.KernelFwIdeal.nD Cert.KernelFwIdeal.τ Cert.KernelFwIdeal.sig) → Buf (Elt Ideal) ℓ) (g : Dev Cert.KernelFwIdeal.nD → PrngReg), Pre_KernelFwIdeal m →
    θ_run (Cert.KernelFwIdeal.defs (F := Ideal)) (onTc (τ := Cert.KernelFwIdeal.τ) (Cert.KernelFwIdeal.main (F := Ideal))) ⟨m, fun _ => 0, g⟩ (fun r => (∀ c : Dev Cert.KernelFwIdeal.nD,
      r.2.mem ((c.tc : Thread Cert.KernelFwIdeal.nD Cert.KernelFwIdeal.τ).loc Cert.KernelFwIdeal.main_arg0) = m ((c.tc : Thread Cert.KernelFwIdeal.nD Cert.KernelFwIdeal.τ).loc Cert.KernelFwIdeal.main_arg0)
      ∧ r.2.mem ((c.tc : Thread Cert.KernelFwIdeal.nD Cert.KernelFwIdeal.τ).loc Cert.KernelFwIdeal.main_arg1) = m ((c.tc : Thread Cert.KernelFwIdeal.nD Cert.KernelFwIdeal.τ).loc Cert.KernelFwIdeal.main_arg1)
      ∧ r.2.mem ((c.tc : Thread Cert.KernelFwIdeal.nD Cert.KernelFwIdeal.τ).loc Cert.KernelFwIdeal.main_arg2) = m ((c.tc : Thread Cert.KernelFwIdeal.nD Cert.KernelFwIdeal.τ).loc Cert.KernelFwIdeal.main_arg2)
      ∧ r.2.mem ((c.tc : Thread Cert.KernelFwIdeal.nD Cert.KernelFwIdeal.τ).loc Cert.KernelFwIdeal.main_arg3) = m ((c.tc : Thread Cert.KernelFwIdeal.nD Cert.KernelFwIdeal.τ).loc Cert.KernelFwIdeal.main_arg3))
      ∧ r.2.sem = fun _ => 0)

def quiescent_ReferenceFwIdeal [hReferenceFwIdeal : Cert.ReferenceFwIdeal.Facts] : Prop :=
  ∀ (m : (ℓ : Loc Cert.ReferenceFwIdeal.nD Cert.ReferenceFwIdeal.τ Cert.ReferenceFwIdeal.sig) → Buf (Elt Ideal) ℓ) (g : Dev Cert.ReferenceFwIdeal.nD → PrngReg), Pre_ReferenceFwIdeal m →
    θ_run (Cert.ReferenceFwIdeal.defs (F := Ideal)) (onTc (τ := Cert.ReferenceFwIdeal.τ) (Cert.ReferenceFwIdeal.main (F := Ideal))) ⟨m, fun _ => 0, g⟩ (fun r => (∀ c : Dev Cert.ReferenceFwIdeal.nD,
      r.2.mem ((c.tc : Thread Cert.ReferenceFwIdeal.nD Cert.ReferenceFwIdeal.τ).loc Cert.ReferenceFwIdeal.main_arg0) = m ((c.tc : Thread Cert.ReferenceFwIdeal.nD Cert.ReferenceFwIdeal.τ).loc Cert.ReferenceFwIdeal.main_arg0)
      ∧ r.2.mem ((c.tc : Thread Cert.ReferenceFwIdeal.nD Cert.ReferenceFwIdeal.τ).loc Cert.ReferenceFwIdeal.main_arg1) = m ((c.tc : Thread Cert.ReferenceFwIdeal.nD Cert.ReferenceFwIdeal.τ).loc Cert.ReferenceFwIdeal.main_arg1)
      ∧ r.2.mem ((c.tc : Thread Cert.ReferenceFwIdeal.nD Cert.ReferenceFwIdeal.τ).loc Cert.ReferenceFwIdeal.main_arg2) = m ((c.tc : Thread Cert.ReferenceFwIdeal.nD Cert.ReferenceFwIdeal.τ).loc Cert.ReferenceFwIdeal.main_arg2)
      ∧ r.2.mem ((c.tc : Thread Cert.ReferenceFwIdeal.nD Cert.ReferenceFwIdeal.τ).loc Cert.ReferenceFwIdeal.main_arg3) = m ((c.tc : Thread Cert.ReferenceFwIdeal.nD Cert.ReferenceFwIdeal.τ).loc Cert.ReferenceFwIdeal.main_arg3))
      ∧ r.2.sem = fun _ => 0)

def preserves_Kernel_KernelIdeal : Prop :=
  True

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v12_0)) (v2 : (c : Dev Cert.KernelIdeal.nD) → Buf (Elt Ideal) ((c.tc : Thread Cert.KernelIdeal.nD Cert.KernelIdeal.τ).loc Cert.KernelIdeal.main_v12_4)) (v3 : (c : Dev Cert.KernelIdeal.nD) → Buf (Elt Ideal) ((c.tc : Thread Cert.KernelIdeal.nD Cert.KernelIdeal.τ).loc Cert.KernelIdeal.main_v16)) (v4 : (c : Dev Cert.KernelIdeal.nD) → Buf (Elt Ideal) ((c.tc : Thread Cert.KernelIdeal.nD Cert.KernelIdeal.τ).loc Cert.KernelIdeal.main_v18)) (v5 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v12_0) = v1 c
          ∧ r.2.mem ((c.tc : Thread Cert.KernelIdeal.nD Cert.KernelIdeal.τ).loc Cert.KernelIdeal.main_v12_4) = v2 c
          ∧ r.2.mem ((c.tc : Thread Cert.KernelIdeal.nD Cert.KernelIdeal.τ).loc Cert.KernelIdeal.main_v16) = v3 c
          ∧ r.2.mem ((c.tc : Thread Cert.KernelIdeal.nD Cert.KernelIdeal.τ).loc Cert.KernelIdeal.main_v18) = v4 c
          ∧ r.2.mem ((c.tc : Thread Cert.KernelIdeal.nD Cert.KernelIdeal.τ).loc Cert.KernelIdeal.main_v20) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_v69) = v2 c
          ∧ r.2.mem ((c.tc : Thread Cert.ReferenceIdeal.nD Cert.ReferenceIdeal.τ).loc Cert.ReferenceIdeal.main_v71) = v3 c
          ∧ r.2.mem ((c.tc : Thread Cert.ReferenceIdeal.nD Cert.ReferenceIdeal.τ).loc Cert.ReferenceIdeal.main_v73) = v4 c
          ∧ r.2.mem ((c.tc : Thread Cert.ReferenceIdeal.nD Cert.ReferenceIdeal.τ).loc Cert.ReferenceIdeal.main_v74) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel6_Kernel6Ideal : Prop :=
  True

def algebraic_Kernel6Ideal_Reference6Ideal_pre_all_finite [hKernel6Ideal : Cert.Kernel6Ideal.Facts] [hReference6Ideal : Cert.Reference6Ideal.Facts] [hPre_all_finite : Cert.Pre_all_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_all_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v11_0)) (v1 : (c : Dev Cert.Kernel6Ideal.nD) → Buf (Elt Ideal) ((c.tc : Thread Cert.Kernel6Ideal.nD Cert.Kernel6Ideal.τ).loc Cert.Kernel6Ideal.main_v12_0)) (v2 : (c : Dev Cert.Kernel6Ideal.nD) → Buf (Elt Ideal) ((c.tc : Thread Cert.Kernel6Ideal.nD Cert.Kernel6Ideal.τ).loc Cert.Kernel6Ideal.main_v12_4)) (v3 : (c : Dev Cert.Kernel6Ideal.nD) → Buf (Elt Ideal) ((c.tc : Thread Cert.Kernel6Ideal.nD Cert.Kernel6Ideal.τ).loc Cert.Kernel6Ideal.main_v16)) (v4 : (c : Dev Cert.Kernel6Ideal.nD) → Buf (Elt Ideal) ((c.tc : Thread Cert.Kernel6Ideal.nD Cert.Kernel6Ideal.τ).loc Cert.Kernel6Ideal.main_v18)) (v5 : (c : Dev Cert.Kernel6Ideal.nD) → Buf (Elt Ideal) ((c.tc : Thread Cert.Kernel6Ideal.nD Cert.Kernel6Ideal.τ).loc Cert.Kernel6Ideal.main_v20)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v11_0) = v0 c
          ∧ r.2.mem ((c.tc : Thread Cert.Kernel6Ideal.nD Cert.Kernel6Ideal.τ).loc Cert.Kernel6Ideal.main_v12_0) = v1 c
          ∧ r.2.mem ((c.tc : Thread Cert.Kernel6Ideal.nD Cert.Kernel6Ideal.τ).loc Cert.Kernel6Ideal.main_v12_4) = v2 c
          ∧ r.2.mem ((c.tc : Thread Cert.Kernel6Ideal.nD Cert.Kernel6Ideal.τ).loc Cert.Kernel6Ideal.main_v16) = v3 c
          ∧ r.2.mem ((c.tc : Thread Cert.Kernel6Ideal.nD Cert.Kernel6Ideal.τ).loc Cert.Kernel6Ideal.main_v18) = v4 c
          ∧ r.2.mem ((c.tc : Thread Cert.Kernel6Ideal.nD Cert.Kernel6Ideal.τ).loc Cert.Kernel6Ideal.main_v20) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v31) = v0 c
          ∧ r.2.mem ((c.tc : Thread Cert.Reference6Ideal.nD Cert.Reference6Ideal.τ).loc Cert.Reference6Ideal.main_v68) = v1 c
          ∧ r.2.mem ((c.tc : Thread Cert.Reference6Ideal.nD Cert.Reference6Ideal.τ).loc Cert.Reference6Ideal.main_v69) = v2 c
          ∧ r.2.mem ((c.tc : Thread Cert.Reference6Ideal.nD Cert.Reference6Ideal.τ).loc Cert.Reference6Ideal.main_v71) = v3 c
          ∧ r.2.mem ((c.tc : Thread Cert.Reference6Ideal.nD Cert.Reference6Ideal.τ).loc Cert.Reference6Ideal.main_v73) = v4 c
          ∧ r.2.mem ((c.tc : Thread Cert.Reference6Ideal.nD Cert.Reference6Ideal.τ).loc Cert.Reference6Ideal.main_v74) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel5_Kernel5Ideal : Prop :=
  True

def algebraic_Kernel5Ideal_Reference5Ideal_pre_all_finite [hKernel5Ideal : Cert.Kernel5Ideal.Facts] [hReference5Ideal : Cert.Reference5Ideal.Facts] [hPre_all_finite : Cert.Pre_all_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_all_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v11_0)) (v1 : (c : Dev Cert.Kernel5Ideal.nD) → Buf (Elt Ideal) ((c.tc : Thread Cert.Kernel5Ideal.nD Cert.Kernel5Ideal.τ).loc Cert.Kernel5Ideal.main_v12_0)) (v2 : (c : Dev Cert.Kernel5Ideal.nD) → Buf (Elt Ideal) ((c.tc : Thread Cert.Kernel5Ideal.nD Cert.Kernel5Ideal.τ).loc Cert.Kernel5Ideal.main_v12_4)) (v3 : (c : Dev Cert.Kernel5Ideal.nD) → Buf (Elt Ideal) ((c.tc : Thread Cert.Kernel5Ideal.nD Cert.Kernel5Ideal.τ).loc Cert.Kernel5Ideal.main_v16)) (v4 : (c : Dev Cert.Kernel5Ideal.nD) → Buf (Elt Ideal) ((c.tc : Thread Cert.Kernel5Ideal.nD Cert.Kernel5Ideal.τ).loc Cert.Kernel5Ideal.main_v18)) (v5 : (c : Dev Cert.Kernel5Ideal.nD) → Buf (Elt Ideal) ((c.tc : Thread Cert.Kernel5Ideal.nD Cert.Kernel5Ideal.τ).loc Cert.Kernel5Ideal.main_v20)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v11_0) = v0 c
          ∧ r.2.mem ((c.tc : Thread Cert.Kernel5Ideal.nD Cert.Kernel5Ideal.τ).loc Cert.Kernel5Ideal.main_v12_0) = v1 c
          ∧ r.2.mem ((c.tc : Thread Cert.Kernel5Ideal.nD Cert.Kernel5Ideal.τ).loc Cert.Kernel5Ideal.main_v12_4) = v2 c
          ∧ r.2.mem ((c.tc : Thread Cert.Kernel5Ideal.nD Cert.Kernel5Ideal.τ).loc Cert.Kernel5Ideal.main_v16) = v3 c
          ∧ r.2.mem ((c.tc : Thread Cert.Kernel5Ideal.nD Cert.Kernel5Ideal.τ).loc Cert.Kernel5Ideal.main_v18) = v4 c
          ∧ r.2.mem ((c.tc : Thread Cert.Kernel5Ideal.nD Cert.Kernel5Ideal.τ).loc Cert.Kernel5Ideal.main_v20) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v31) = v0 c
          ∧ r.2.mem ((c.tc : Thread Cert.Reference5Ideal.nD Cert.Reference5Ideal.τ).loc Cert.Reference5Ideal.main_v68) = v1 c
          ∧ r.2.mem ((c.tc : Thread Cert.Reference5Ideal.nD Cert.Reference5Ideal.τ).loc Cert.Reference5Ideal.main_v69) = v2 c
          ∧ r.2.mem ((c.tc : Thread Cert.Reference5Ideal.nD Cert.Reference5Ideal.τ).loc Cert.Reference5Ideal.main_v71) = v3 c
          ∧ r.2.mem ((c.tc : Thread Cert.Reference5Ideal.nD Cert.Reference5Ideal.τ).loc Cert.Reference5Ideal.main_v73) = v4 c
          ∧ r.2.mem ((c.tc : Thread Cert.Reference5Ideal.nD Cert.Reference5Ideal.τ).loc Cert.Reference5Ideal.main_v74) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel4_Kernel4Ideal : Prop :=
  True

def algebraic_Kernel4Ideal_Reference4Ideal_pre_all_finite [hKernel4Ideal : Cert.Kernel4Ideal.Facts] [hReference4Ideal : Cert.Reference4Ideal.Facts] [hPre_all_finite : Cert.Pre_all_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_all_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v11_0)) (v1 : (c : Dev Cert.Kernel4Ideal.nD) → Buf (Elt Ideal) ((c.tc : Thread Cert.Kernel4Ideal.nD Cert.Kernel4Ideal.τ).loc Cert.Kernel4Ideal.main_v12_0)) (v2 : (c : Dev Cert.Kernel4Ideal.nD) → Buf (Elt Ideal) ((c.tc : Thread Cert.Kernel4Ideal.nD Cert.Kernel4Ideal.τ).loc Cert.Kernel4Ideal.main_v12_4)) (v3 : (c : Dev Cert.Kernel4Ideal.nD) → Buf (Elt Ideal) ((c.tc : Thread Cert.Kernel4Ideal.nD Cert.Kernel4Ideal.τ).loc Cert.Kernel4Ideal.main_v16)) (v4 : (c : Dev Cert.Kernel4Ideal.nD) → Buf (Elt Ideal) ((c.tc : Thread Cert.Kernel4Ideal.nD Cert.Kernel4Ideal.τ).loc Cert.Kernel4Ideal.main_v18)) (v5 : (c : Dev Cert.Kernel4Ideal.nD) → Buf (Elt Ideal) ((c.tc : Thread Cert.Kernel4Ideal.nD Cert.Kernel4Ideal.τ).loc Cert.Kernel4Ideal.main_v20)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v11_0) = v0 c
          ∧ r.2.mem ((c.tc : Thread Cert.Kernel4Ideal.nD Cert.Kernel4Ideal.τ).loc Cert.Kernel4Ideal.main_v12_0) = v1 c
          ∧ r.2.mem ((c.tc : Thread Cert.Kernel4Ideal.nD Cert.Kernel4Ideal.τ).loc Cert.Kernel4Ideal.main_v12_4) = v2 c
          ∧ r.2.mem ((c.tc : Thread Cert.Kernel4Ideal.nD Cert.Kernel4Ideal.τ).loc Cert.Kernel4Ideal.main_v16) = v3 c
          ∧ r.2.mem ((c.tc : Thread Cert.Kernel4Ideal.nD Cert.Kernel4Ideal.τ).loc Cert.Kernel4Ideal.main_v18) = v4 c
          ∧ r.2.mem ((c.tc : Thread Cert.Kernel4Ideal.nD Cert.Kernel4Ideal.τ).loc Cert.Kernel4Ideal.main_v20) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v31) = v0 c
          ∧ r.2.mem ((c.tc : Thread Cert.Reference4Ideal.nD Cert.Reference4Ideal.τ).loc Cert.Reference4Ideal.main_v68) = v1 c
          ∧ r.2.mem ((c.tc : Thread Cert.Reference4Ideal.nD Cert.Reference4Ideal.τ).loc Cert.Reference4Ideal.main_v69) = v2 c
          ∧ r.2.mem ((c.tc : Thread Cert.Reference4Ideal.nD Cert.Reference4Ideal.τ).loc Cert.Reference4Ideal.main_v71) = v3 c
          ∧ r.2.mem ((c.tc : Thread Cert.Reference4Ideal.nD Cert.Reference4Ideal.τ).loc Cert.Reference4Ideal.main_v73) = v4 c
          ∧ r.2.mem ((c.tc : Thread Cert.Reference4Ideal.nD Cert.Reference4Ideal.τ).loc Cert.Reference4Ideal.main_v74) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel3_Kernel3Ideal : Prop :=
  True

def algebraic_Kernel3Ideal_Reference3Ideal_pre_all_finite [hKernel3Ideal : Cert.Kernel3Ideal.Facts] [hReference3Ideal : Cert.Reference3Ideal.Facts] [hPre_all_finite : Cert.Pre_all_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_all_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v11_0)) (v1 : (c : Dev Cert.Kernel3Ideal.nD) → Buf (Elt Ideal) ((c.tc : Thread Cert.Kernel3Ideal.nD Cert.Kernel3Ideal.τ).loc Cert.Kernel3Ideal.main_v12_0)) (v2 : (c : Dev Cert.Kernel3Ideal.nD) → Buf (Elt Ideal) ((c.tc : Thread Cert.Kernel3Ideal.nD Cert.Kernel3Ideal.τ).loc Cert.Kernel3Ideal.main_v12_4)) (v3 : (c : Dev Cert.Kernel3Ideal.nD) → Buf (Elt Ideal) ((c.tc : Thread Cert.Kernel3Ideal.nD Cert.Kernel3Ideal.τ).loc Cert.Kernel3Ideal.main_v16)) (v4 : (c : Dev Cert.Kernel3Ideal.nD) → Buf (Elt Ideal) ((c.tc : Thread Cert.Kernel3Ideal.nD Cert.Kernel3Ideal.τ).loc Cert.Kernel3Ideal.main_v18)) (v5 : (c : Dev Cert.Kernel3Ideal.nD) → Buf (Elt Ideal) ((c.tc : Thread Cert.Kernel3Ideal.nD Cert.Kernel3Ideal.τ).loc Cert.Kernel3Ideal.main_v20)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11_0) = v0 c
          ∧ r.2.mem ((c.tc : Thread Cert.Kernel3Ideal.nD Cert.Kernel3Ideal.τ).loc Cert.Kernel3Ideal.main_v12_0) = v1 c
          ∧ r.2.mem ((c.tc : Thread Cert.Kernel3Ideal.nD Cert.Kernel3Ideal.τ).loc Cert.Kernel3Ideal.main_v12_4) = v2 c
          ∧ r.2.mem ((c.tc : Thread Cert.Kernel3Ideal.nD Cert.Kernel3Ideal.τ).loc Cert.Kernel3Ideal.main_v16) = v3 c
          ∧ r.2.mem ((c.tc : Thread Cert.Kernel3Ideal.nD Cert.Kernel3Ideal.τ).loc Cert.Kernel3Ideal.main_v18) = v4 c
          ∧ r.2.mem ((c.tc : Thread Cert.Kernel3Ideal.nD Cert.Kernel3Ideal.τ).loc Cert.Kernel3Ideal.main_v20) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v31) = v0 c
          ∧ r.2.mem ((c.tc : Thread Cert.Reference3Ideal.nD Cert.Reference3Ideal.τ).loc Cert.Reference3Ideal.main_v68) = v1 c
          ∧ r.2.mem ((c.tc : Thread Cert.Reference3Ideal.nD Cert.Reference3Ideal.τ).loc Cert.Reference3Ideal.main_v69) = v2 c
          ∧ r.2.mem ((c.tc : Thread Cert.Reference3Ideal.nD Cert.Reference3Ideal.τ).loc Cert.Reference3Ideal.main_v71) = v3 c
          ∧ r.2.mem ((c.tc : Thread Cert.Reference3Ideal.nD Cert.Reference3Ideal.τ).loc Cert.Reference3Ideal.main_v73) = v4 c
          ∧ r.2.mem ((c.tc : Thread Cert.Reference3Ideal.nD Cert.Reference3Ideal.τ).loc Cert.Reference3Ideal.main_v74) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel2_Kernel2Ideal : Prop :=
  True

def algebraic_Kernel2Ideal_Reference2Ideal_pre_all_finite [hKernel2Ideal : Cert.Kernel2Ideal.Facts] [hReference2Ideal : Cert.Reference2Ideal.Facts] [hPre_all_finite : Cert.Pre_all_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_all_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v11_0)) (v1 : (c : Dev Cert.Kernel2Ideal.nD) → Buf (Elt Ideal) ((c.tc : Thread Cert.Kernel2Ideal.nD Cert.Kernel2Ideal.τ).loc Cert.Kernel2Ideal.main_v12_0)) (v2 : (c : Dev Cert.Kernel2Ideal.nD) → Buf (Elt Ideal) ((c.tc : Thread Cert.Kernel2Ideal.nD Cert.Kernel2Ideal.τ).loc Cert.Kernel2Ideal.main_v12_4)) (v3 : (c : Dev Cert.Kernel2Ideal.nD) → Buf (Elt Ideal) ((c.tc : Thread Cert.Kernel2Ideal.nD Cert.Kernel2Ideal.τ).loc Cert.Kernel2Ideal.main_v16)) (v4 : (c : Dev Cert.Kernel2Ideal.nD) → Buf (Elt Ideal) ((c.tc : Thread Cert.Kernel2Ideal.nD Cert.Kernel2Ideal.τ).loc Cert.Kernel2Ideal.main_v18)) (v5 : (c : Dev Cert.Kernel2Ideal.nD) → Buf (Elt Ideal) ((c.tc : Thread Cert.Kernel2Ideal.nD Cert.Kernel2Ideal.τ).loc Cert.Kernel2Ideal.main_v20)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11_0) = v0 c
          ∧ r.2.mem ((c.tc : Thread Cert.Kernel2Ideal.nD Cert.Kernel2Ideal.τ).loc Cert.Kernel2Ideal.main_v12_0) = v1 c
          ∧ r.2.mem ((c.tc : Thread Cert.Kernel2Ideal.nD Cert.Kernel2Ideal.τ).loc Cert.Kernel2Ideal.main_v12_4) = v2 c
          ∧ r.2.mem ((c.tc : Thread Cert.Kernel2Ideal.nD Cert.Kernel2Ideal.τ).loc Cert.Kernel2Ideal.main_v16) = v3 c
          ∧ r.2.mem ((c.tc : Thread Cert.Kernel2Ideal.nD Cert.Kernel2Ideal.τ).loc Cert.Kernel2Ideal.main_v18) = v4 c
          ∧ r.2.mem ((c.tc : Thread Cert.Kernel2Ideal.nD Cert.Kernel2Ideal.τ).loc Cert.Kernel2Ideal.main_v20) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v31) = v0 c
          ∧ r.2.mem ((c.tc : Thread Cert.Reference2Ideal.nD Cert.Reference2Ideal.τ).loc Cert.Reference2Ideal.main_v68) = v1 c
          ∧ r.2.mem ((c.tc : Thread Cert.Reference2Ideal.nD Cert.Reference2Ideal.τ).loc Cert.Reference2Ideal.main_v69) = v2 c
          ∧ r.2.mem ((c.tc : Thread Cert.Reference2Ideal.nD Cert.Reference2Ideal.τ).loc Cert.Reference2Ideal.main_v71) = v3 c
          ∧ r.2.mem ((c.tc : Thread Cert.Reference2Ideal.nD Cert.Reference2Ideal.τ).loc Cert.Reference2Ideal.main_v73) = v4 c
          ∧ r.2.mem ((c.tc : Thread Cert.Reference2Ideal.nD Cert.Reference2Ideal.τ).loc Cert.Reference2Ideal.main_v74) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel1_Kernel1Ideal : Prop :=
  True

def algebraic_Kernel1Ideal_Reference1Ideal_pre_all_finite [hKernel1Ideal : Cert.Kernel1Ideal.Facts] [hReference1Ideal : Cert.Reference1Ideal.Facts] [hPre_all_finite : Cert.Pre_all_finite.Facts] : Prop :=
  ∀ (m : (ℓ : Loc Cert.Kernel1Ideal.nD Cert.Kernel1Ideal.τ Cert.Kernel1Ideal.sig) → Buf (Elt Ideal) ℓ) (g : Dev Cert.Kernel1Ideal.nD → PrngReg)
    (m' : (ℓ : Loc Cert.Reference1Ideal.nD Cert.Reference1Ideal.τ Cert.Reference1Ideal.sig) → Buf (Elt Ideal) ℓ) (g' : Dev Cert.Reference1Ideal.nD → PrngReg), Pre_Kernel1Ideal_all_finite m →
    (∀ c : Dev Cert.Kernel1Ideal.nD,
      m' ((c.tc : Thread Cert.Reference1Ideal.nD Cert.Reference1Ideal.τ).loc Cert.Reference1Ideal.main_arg0) = m ((c.tc : Thread Cert.Kernel1Ideal.nD Cert.Kernel1Ideal.τ).loc Cert.Kernel1Ideal.main_arg0)
      ∧ m' ((c.tc : Thread Cert.Reference1Ideal.nD Cert.Reference1Ideal.τ).loc Cert.Reference1Ideal.main_arg1) = m ((c.tc : Thread Cert.Kernel1Ideal.nD Cert.Kernel1Ideal.τ).loc Cert.Kernel1Ideal.main_arg1)
      ∧ m' ((c.tc : Thread Cert.Reference1Ideal.nD Cert.Reference1Ideal.τ).loc Cert.Reference1Ideal.main_arg2) = m ((c.tc : Thread Cert.Kernel1Ideal.nD Cert.Kernel1Ideal.τ).loc Cert.Kernel1Ideal.main_arg2)
      ∧ m' ((c.tc : Thread Cert.Reference1Ideal.nD Cert.Reference1Ideal.τ).loc Cert.Reference1Ideal.main_arg3) = m ((c.tc : Thread Cert.Kernel1Ideal.nD Cert.Kernel1Ideal.τ).loc Cert.Kernel1Ideal.main_arg3)
      ∧ m' ((c.tc : Thread Cert.Reference1Ideal.nD Cert.Reference1Ideal.τ).loc Cert.Reference1Ideal.main_arg4) = m ((c.tc : Thread Cert.Kernel1Ideal.nD Cert.Kernel1Ideal.τ).loc Cert.Kernel1Ideal.main_arg4)
      ∧ m' ((c.tc : Thread Cert.Reference1Ideal.nD Cert.Reference1Ideal.τ).loc Cert.Reference1Ideal.main_arg5) = m ((c.tc : Thread Cert.Kernel1Ideal.nD Cert.Kernel1Ideal.τ).loc Cert.Kernel1Ideal.main_arg5)) →
    ∃ (v0 : (c : Dev Cert.Kernel1Ideal.nD) → Buf (Elt Ideal) ((c.tc : Thread Cert.Kernel1Ideal.nD Cert.Kernel1Ideal.τ).loc Cert.Kernel1Ideal.main_v11_0)) (v1 : (c : Dev Cert.Kernel1Ideal.nD) → Buf (Elt Ideal) ((c.tc : Thread Cert.Kernel1Ideal.nD Cert.Kernel1Ideal.τ).loc Cert.Kernel1Ideal.main_v12_0)) (v2 : (c : Dev Cert.Kernel1Ideal.nD) → Buf (Elt Ideal) ((c.tc : Thread Cert.Kernel1Ideal.nD Cert.Kernel1Ideal.τ).loc Cert.Kernel1Ideal.main_v12_4)) (v3 : (c : Dev Cert.Kernel1Ideal.nD) → Buf (Elt Ideal) ((c.tc : Thread Cert.Kernel1Ideal.nD Cert.Kernel1Ideal.τ).loc Cert.Kernel1Ideal.main_v16)) (v4 : (c : Dev Cert.Kernel1Ideal.nD) → Buf (Elt Ideal) ((c.tc : Thread Cert.Kernel1Ideal.nD Cert.Kernel1Ideal.τ).loc Cert.Kernel1Ideal.main_v18)) (v5 : (c : Dev Cert.Kernel1Ideal.nD) → Buf (Elt Ideal) ((c.tc : Thread Cert.Kernel1Ideal.nD Cert.Kernel1Ideal.τ).loc Cert.Kernel1Ideal.main_v20)),
      θ_run (Cert.Kernel1Ideal.defs (F := Ideal)) (onTc (τ := Cert.Kernel1Ideal.τ) (Cert.Kernel1Ideal.main (F := Ideal))) ⟨m, fun _ => 0, g⟩ (fun r => ∀ c : Dev Cert.Kernel1Ideal.nD,
          r.2.mem ((c.tc : Thread Cert.Kernel1Ideal.nD Cert.Kernel1Ideal.τ).loc Cert.Kernel1Ideal.main_v11_0) = v0 c
          ∧ r.2.mem ((c.tc : Thread Cert.Kernel1Ideal.nD Cert.Kernel1Ideal.τ).loc Cert.Kernel1Ideal.main_v12_0) = v1 c
          ∧ r.2.mem ((c.tc : Thread Cert.Kernel1Ideal.nD Cert.Kernel1Ideal.τ).loc Cert.Kernel1Ideal.main_v12_4) = v2 c
          ∧ r.2.mem ((c.tc : Thread Cert.Kernel1Ideal.nD Cert.Kernel1Ideal.τ).loc Cert.Kernel1Ideal.main_v16) = v3 c
          ∧ r.2.mem ((c.tc : Thread Cert.Kernel1Ideal.nD Cert.Kernel1Ideal.τ).loc Cert.Kernel1Ideal.main_v18) = v4 c
          ∧ r.2.mem ((c.tc : Thread Cert.Kernel1Ideal.nD Cert.Kernel1Ideal.τ).loc Cert.Kernel1Ideal.main_v20) = v5 c
          ∧ r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
          ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
          ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
          ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3)
          ∧ r.2.mem ((c.tc : Thread Cert.Kernel1Ideal.nD Cert.Kernel1Ideal.τ).loc Cert.Kernel1Ideal.main_arg4) = m ((c.tc : Thread Cert.Kernel1Ideal.nD Cert.Kernel1Ideal.τ).loc Cert.Kernel1Ideal.main_arg4)
          ∧ r.2.mem ((c.tc : Thread Cert.Kernel1Ideal.nD Cert.Kernel1Ideal.τ).loc Cert.Kernel1Ideal.main_arg5) = m ((c.tc : Thread Cert.Kernel1Ideal.nD Cert.Kernel1Ideal.τ).loc Cert.Kernel1Ideal.main_arg5))
      ∧ θ_run (Cert.Reference1Ideal.defs (F := Ideal)) (onTc (τ := Cert.Reference1Ideal.τ) (Cert.Reference1Ideal.main (F := Ideal))) ⟨m', fun _ => 0, g'⟩ (fun r => ∀ c : Dev Cert.Reference1Ideal.nD,
          r.2.mem ((c.tc : Thread Cert.Reference1Ideal.nD Cert.Reference1Ideal.τ).loc Cert.Reference1Ideal.main_v31) = v0 c
          ∧ r.2.mem ((c.tc : Thread Cert.Reference1Ideal.nD Cert.Reference1Ideal.τ).loc Cert.Reference1Ideal.main_v68) = v1 c
          ∧ r.2.mem ((c.tc : Thread Cert.Reference1Ideal.nD Cert.Reference1Ideal.τ).loc Cert.Reference1Ideal.main_v69) = v2 c
          ∧ r.2.mem ((c.tc : Thread Cert.Reference1Ideal.nD Cert.Reference1Ideal.τ).loc Cert.Reference1Ideal.main_v71) = v3 c
          ∧ r.2.mem ((c.tc : Thread Cert.Reference1Ideal.nD Cert.Reference1Ideal.τ).loc Cert.Reference1Ideal.main_v73) = v4 c
          ∧ r.2.mem ((c.tc : Thread Cert.Reference1Ideal.nD Cert.Reference1Ideal.τ).loc Cert.Reference1Ideal.main_v74) = v5 c
          ∧ r.2.mem ((c.tc : Thread Cert.Reference1Ideal.nD Cert.Reference1Ideal.τ).loc Cert.Reference1Ideal.main_arg0) = m' ((c.tc : Thread Cert.Reference1Ideal.nD Cert.Reference1Ideal.τ).loc Cert.Reference1Ideal.main_arg0)
          ∧ r.2.mem ((c.tc : Thread Cert.Reference1Ideal.nD Cert.Reference1Ideal.τ).loc Cert.Reference1Ideal.main_arg1) = m' ((c.tc : Thread Cert.Reference1Ideal.nD Cert.Reference1Ideal.τ).loc Cert.Reference1Ideal.main_arg1)
          ∧ r.2.mem ((c.tc : Thread Cert.Reference1Ideal.nD Cert.Reference1Ideal.τ).loc Cert.Reference1Ideal.main_arg2) = m' ((c.tc : Thread Cert.Reference1Ideal.nD Cert.Reference1Ideal.τ).loc Cert.Reference1Ideal.main_arg2)
          ∧ r.2.mem ((c.tc : Thread Cert.Reference1Ideal.nD Cert.Reference1Ideal.τ).loc Cert.Reference1Ideal.main_arg3) = m' ((c.tc : Thread Cert.Reference1Ideal.nD Cert.Reference1Ideal.τ).loc Cert.Reference1Ideal.main_arg3)
          ∧ r.2.mem ((c.tc : Thread Cert.Reference1Ideal.nD Cert.Reference1Ideal.τ).loc Cert.Reference1Ideal.main_arg4) = m' ((c.tc : Thread Cert.Reference1Ideal.nD Cert.Reference1Ideal.τ).loc Cert.Reference1Ideal.main_arg4)
          ∧ r.2.mem ((c.tc : Thread Cert.Reference1Ideal.nD Cert.Reference1Ideal.τ).loc Cert.Reference1Ideal.main_arg5) = m' ((c.tc : Thread Cert.Reference1Ideal.nD Cert.Reference1Ideal.τ).loc Cert.Reference1Ideal.main_arg5))

def preserves_Kernel0_Kernel0Ideal : Prop :=
  True

def algebraic_Kernel0Ideal_Reference0Ideal_pre_all_finite [hKernel0Ideal : Cert.Kernel0Ideal.Facts] [hReference0Ideal : Cert.Reference0Ideal.Facts] [hPre_all_finite : Cert.Pre_all_finite.Facts] : Prop :=
  ∀ (m : (ℓ : Loc Cert.Kernel0Ideal.nD Cert.Kernel0Ideal.τ Cert.Kernel0Ideal.sig) → Buf (Elt Ideal) ℓ) (g : Dev Cert.Kernel0Ideal.nD → PrngReg)
    (m' : (ℓ : Loc Cert.Reference0Ideal.nD Cert.Reference0Ideal.τ Cert.Reference0Ideal.sig) → Buf (Elt Ideal) ℓ) (g' : Dev Cert.Reference0Ideal.nD → PrngReg), Pre_Kernel0Ideal_all_finite m →
    (∀ c : Dev Cert.Kernel0Ideal.nD,
      m' ((c.tc : Thread Cert.Reference0Ideal.nD Cert.Reference0Ideal.τ).loc Cert.Reference0Ideal.main_arg0) = m ((c.tc : Thread Cert.Kernel0Ideal.nD Cert.Kernel0Ideal.τ).loc Cert.Kernel0Ideal.main_arg0)
      ∧ m' ((c.tc : Thread Cert.Reference0Ideal.nD Cert.Reference0Ideal.τ).loc Cert.Reference0Ideal.main_arg1) = m ((c.tc : Thread Cert.Kernel0Ideal.nD Cert.Kernel0Ideal.τ).loc Cert.Kernel0Ideal.main_arg1)
      ∧ m' ((c.tc : Thread Cert.Reference0Ideal.nD Cert.Reference0Ideal.τ).loc Cert.Reference0Ideal.main_arg2) = m ((c.tc : Thread Cert.Kernel0Ideal.nD Cert.Kernel0Ideal.τ).loc Cert.Kernel0Ideal.main_arg2)
      ∧ m' ((c.tc : Thread Cert.Reference0Ideal.nD Cert.Reference0Ideal.τ).loc Cert.Reference0Ideal.main_arg3) = m ((c.tc : Thread Cert.Kernel0Ideal.nD Cert.Kernel0Ideal.τ).loc Cert.Kernel0Ideal.main_arg3)
      ∧ m' ((c.tc : Thread Cert.Reference0Ideal.nD Cert.Reference0Ideal.τ).loc Cert.Reference0Ideal.main_arg4) = m ((c.tc : Thread Cert.Kernel0Ideal.nD Cert.Kernel0Ideal.τ).loc Cert.Kernel0Ideal.main_arg4)
      ∧ m' ((c.tc : Thread Cert.Reference0Ideal.nD Cert.Reference0Ideal.τ).loc Cert.Reference0Ideal.main_arg5) = m ((c.tc : Thread Cert.Kernel0Ideal.nD Cert.Kernel0Ideal.τ).loc Cert.Kernel0Ideal.main_arg5)) →
    ∃ (v0 : (c : Dev Cert.Kernel0Ideal.nD) → Buf (Elt Ideal) ((c.tc : Thread Cert.Kernel0Ideal.nD Cert.Kernel0Ideal.τ).loc Cert.Kernel0Ideal.main_v11_0)) (v1 : (c : Dev Cert.Kernel0Ideal.nD) → Buf (Elt Ideal) ((c.tc : Thread Cert.Kernel0Ideal.nD Cert.Kernel0Ideal.τ).loc Cert.Kernel0Ideal.main_v12_0)) (v2 : (c : Dev Cert.Kernel0Ideal.nD) → Buf (Elt Ideal) ((c.tc : Thread Cert.Kernel0Ideal.nD Cert.Kernel0Ideal.τ).loc Cert.Kernel0Ideal.main_v12_4)) (v3 : (c : Dev Cert.Kernel0Ideal.nD) → Buf (Elt Ideal) ((c.tc : Thread Cert.Kernel0Ideal.nD Cert.Kernel0Ideal.τ).loc Cert.Kernel0Ideal.main_v16)) (v4 : (c : Dev Cert.Kernel0Ideal.nD) → Buf (Elt Ideal) ((c.tc : Thread Cert.Kernel0Ideal.nD Cert.Kernel0Ideal.τ).loc Cert.Kernel0Ideal.main_v18)) (v5 : (c : Dev Cert.Kernel0Ideal.nD) → Buf (Elt Ideal) ((c.tc : Thread Cert.Kernel0Ideal.nD Cert.Kernel0Ideal.τ).loc Cert.Kernel0Ideal.main_v20)),
      θ_run (Cert.Kernel0Ideal.defs (F := Ideal)) (onTc (τ := Cert.Kernel0Ideal.τ) (Cert.Kernel0Ideal.main (F := Ideal))) ⟨m, fun _ => 0, g⟩ (fun r => ∀ c : Dev Cert.Kernel0Ideal.nD,
          r.2.mem ((c.tc : Thread Cert.Kernel0Ideal.nD Cert.Kernel0Ideal.τ).loc Cert.Kernel0Ideal.main_v11_0) = v0 c
          ∧ r.2.mem ((c.tc : Thread Cert.Kernel0Ideal.nD Cert.Kernel0Ideal.τ).loc Cert.Kernel0Ideal.main_v12_0) = v1 c
          ∧ r.2.mem ((c.tc : Thread Cert.Kernel0Ideal.nD Cert.Kernel0Ideal.τ).loc Cert.Kernel0Ideal.main_v12_4) = v2 c
          ∧ r.2.mem ((c.tc : Thread Cert.Kernel0Ideal.nD Cert.Kernel0Ideal.τ).loc Cert.Kernel0Ideal.main_v16) = v3 c
          ∧ r.2.mem ((c.tc : Thread Cert.Kernel0Ideal.nD Cert.Kernel0Ideal.τ).loc Cert.Kernel0Ideal.main_v18) = v4 c
          ∧ r.2.mem ((c.tc : Thread Cert.Kernel0Ideal.nD Cert.Kernel0Ideal.τ).loc Cert.Kernel0Ideal.main_v20) = v5 c
          ∧ r.2.mem ((c.tc : Thread Cert.Kernel0Ideal.nD Cert.Kernel0Ideal.τ).loc Cert.Kernel0Ideal.main_arg0) = m ((c.tc : Thread Cert.Kernel0Ideal.nD Cert.Kernel0Ideal.τ).loc Cert.Kernel0Ideal.main_arg0)
          ∧ r.2.mem ((c.tc : Thread Cert.Kernel0Ideal.nD Cert.Kernel0Ideal.τ).loc Cert.Kernel0Ideal.main_arg1) = m ((c.tc : Thread Cert.Kernel0Ideal.nD Cert.Kernel0Ideal.τ).loc Cert.Kernel0Ideal.main_arg1)
          ∧ r.2.mem ((c.tc : Thread Cert.Kernel0Ideal.nD Cert.Kernel0Ideal.τ).loc Cert.Kernel0Ideal.main_arg2) = m ((c.tc : Thread Cert.Kernel0Ideal.nD Cert.Kernel0Ideal.τ).loc Cert.Kernel0Ideal.main_arg2)
          ∧ r.2.mem ((c.tc : Thread Cert.Kernel0Ideal.nD Cert.Kernel0Ideal.τ).loc Cert.Kernel0Ideal.main_arg3) = m ((c.tc : Thread Cert.Kernel0Ideal.nD Cert.Kernel0Ideal.τ).loc Cert.Kernel0Ideal.main_arg3)
          ∧ r.2.mem ((c.tc : Thread Cert.Kernel0Ideal.nD Cert.Kernel0Ideal.τ).loc Cert.Kernel0Ideal.main_arg4) = m ((c.tc : Thread Cert.Kernel0Ideal.nD Cert.Kernel0Ideal.τ).loc Cert.Kernel0Ideal.main_arg4)
          ∧ r.2.mem ((c.tc : Thread Cert.Kernel0Ideal.nD Cert.Kernel0Ideal.τ).loc Cert.Kernel0Ideal.main_arg5) = m ((c.tc : Thread Cert.Kernel0Ideal.nD Cert.Kernel0Ideal.τ).loc Cert.Kernel0Ideal.main_arg5))
      ∧ θ_run (Cert.Reference0Ideal.defs (F := Ideal)) (onTc (τ := Cert.Reference0Ideal.τ) (Cert.Reference0Ideal.main (F := Ideal))) ⟨m', fun _ => 0, g'⟩ (fun r => ∀ c : Dev Cert.Reference0Ideal.nD,
          r.2.mem ((c.tc : Thread Cert.Reference0Ideal.nD Cert.Reference0Ideal.τ).loc Cert.Reference0Ideal.main_v31) = v0 c
          ∧ r.2.mem ((c.tc : Thread Cert.Reference0Ideal.nD Cert.Reference0Ideal.τ).loc Cert.Reference0Ideal.main_v68) = v1 c
          ∧ r.2.mem ((c.tc : Thread Cert.Reference0Ideal.nD Cert.Reference0Ideal.τ).loc Cert.Reference0Ideal.main_v69) = v2 c
          ∧ r.2.mem ((c.tc : Thread Cert.Reference0Ideal.nD Cert.Reference0Ideal.τ).loc Cert.Reference0Ideal.main_v71) = v3 c
          ∧ r.2.mem ((c.tc : Thread Cert.Reference0Ideal.nD Cert.Reference0Ideal.τ).loc Cert.Reference0Ideal.main_v73) = v4 c
          ∧ r.2.mem ((c.tc : Thread Cert.Reference0Ideal.nD Cert.Reference0Ideal.τ).loc Cert.Reference0Ideal.main_v74) = v5 c
          ∧ r.2.mem ((c.tc : Thread Cert.Reference0Ideal.nD Cert.Reference0Ideal.τ).loc Cert.Reference0Ideal.main_arg0) = m' ((c.tc : Thread Cert.Reference0Ideal.nD Cert.Reference0Ideal.τ).loc Cert.Reference0Ideal.main_arg0)
          ∧ r.2.mem ((c.tc : Thread Cert.Reference0Ideal.nD Cert.Reference0Ideal.τ).loc Cert.Reference0Ideal.main_arg1) = m' ((c.tc : Thread Cert.Reference0Ideal.nD Cert.Reference0Ideal.τ).loc Cert.Reference0Ideal.main_arg1)
          ∧ r.2.mem ((c.tc : Thread Cert.Reference0Ideal.nD Cert.Reference0Ideal.τ).loc Cert.Reference0Ideal.main_arg2) = m' ((c.tc : Thread Cert.Reference0Ideal.nD Cert.Reference0Ideal.τ).loc Cert.Reference0Ideal.main_arg2)
          ∧ r.2.mem ((c.tc : Thread Cert.Reference0Ideal.nD Cert.Reference0Ideal.τ).loc Cert.Reference0Ideal.main_arg3) = m' ((c.tc : Thread Cert.Reference0Ideal.nD Cert.Reference0Ideal.τ).loc Cert.Reference0Ideal.main_arg3)
          ∧ r.2.mem ((c.tc : Thread Cert.Reference0Ideal.nD Cert.Reference0Ideal.τ).loc Cert.Reference0Ideal.main_arg4) = m' ((c.tc : Thread Cert.Reference0Ideal.nD Cert.Reference0Ideal.τ).loc Cert.Reference0Ideal.main_arg4)
          ∧ r.2.mem ((c.tc : Thread Cert.Reference0Ideal.nD Cert.Reference0Ideal.τ).loc Cert.Reference0Ideal.main_arg5) = m' ((c.tc : Thread Cert.Reference0Ideal.nD Cert.Reference0Ideal.τ).loc Cert.Reference0Ideal.main_arg5))

def preserves_KernelLoss_KernelLossIdeal : Prop :=
  True

def algebraic_KernelLossIdeal_ReferenceLossIdeal [hKernelLossIdeal : Cert.KernelLossIdeal.Facts] [hReferenceLossIdeal : Cert.ReferenceLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg)
    (m' : (ℓ : Loc Cert.ReferenceLossIdeal.nD Cert.ReferenceLossIdeal.τ Cert.ReferenceLossIdeal.sig) → Buf (Elt Ideal) ℓ) (g' : Dev Cert.ReferenceLossIdeal.nD → PrngReg), Pre_KernelLossIdeal m →
    (∀ c : Dev Cert.KernelLossIdeal.nD,
      m' ((c.tc : Thread Cert.ReferenceLossIdeal.nD Cert.ReferenceLossIdeal.τ).loc Cert.ReferenceLossIdeal.main_arg0) = m ((c.tc : Thread Cert.KernelLossIdeal.nD Cert.KernelLossIdeal.τ).loc Cert.KernelLossIdeal.main_arg0)
      ∧ m' ((c.tc : Thread Cert.ReferenceLossIdeal.nD Cert.ReferenceLossIdeal.τ).loc Cert.ReferenceLossIdeal.main_arg1) = m ((c.tc : Thread Cert.KernelLossIdeal.nD Cert.KernelLossIdeal.τ).loc Cert.KernelLossIdeal.main_arg1)
      ∧ m' ((c.tc : Thread Cert.ReferenceLossIdeal.nD Cert.ReferenceLossIdeal.τ).loc Cert.ReferenceLossIdeal.main_arg2) = m ((c.tc : Thread Cert.KernelLossIdeal.nD Cert.KernelLossIdeal.τ).loc Cert.KernelLossIdeal.main_arg2)) →
    ∃ (v0 : (c : Dev Cert.KernelLossIdeal.nD) → Buf (Elt Ideal) ((c.tc : Thread Cert.KernelLossIdeal.nD Cert.KernelLossIdeal.τ).loc Cert.KernelLossIdeal.main_v1_0)) (v1 : (c : Dev Cert.KernelLossIdeal.nD) → Buf (Elt Ideal) ((c.tc : Thread Cert.KernelLossIdeal.nD Cert.KernelLossIdeal.τ).loc Cert.KernelLossIdeal.main_v1_1)) (v2 : (c : Dev Cert.KernelLossIdeal.nD) → Buf (Elt Ideal) ((c.tc : Thread Cert.KernelLossIdeal.nD Cert.KernelLossIdeal.τ).loc Cert.KernelLossIdeal.main_v1_2)),
      θ_run (Cert.KernelLossIdeal.defs (F := Ideal)) (onTc (τ := Cert.KernelLossIdeal.τ) (Cert.KernelLossIdeal.main (F := Ideal))) ⟨m, fun _ => 0, g⟩ (fun r => ∀ c : Dev Cert.KernelLossIdeal.nD,
          r.2.mem ((c.tc : Thread Cert.KernelLossIdeal.nD Cert.KernelLossIdeal.τ).loc Cert.KernelLossIdeal.main_v1_0) = v0 c
          ∧ r.2.mem ((c.tc : Thread Cert.KernelLossIdeal.nD Cert.KernelLossIdeal.τ).loc Cert.KernelLossIdeal.main_v1_1) = v1 c
          ∧ r.2.mem ((c.tc : Thread Cert.KernelLossIdeal.nD Cert.KernelLossIdeal.τ).loc Cert.KernelLossIdeal.main_v1_2) = v2 c
          ∧ r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
          ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
          ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2))
      ∧ θ_run (Cert.ReferenceLossIdeal.defs (F := Ideal)) (onTc (τ := Cert.ReferenceLossIdeal.τ) (Cert.ReferenceLossIdeal.main (F := Ideal))) ⟨m', fun _ => 0, g'⟩ (fun r => ∀ c : Dev Cert.ReferenceLossIdeal.nD,
          r.2.mem ((c.tc : Thread Cert.ReferenceLossIdeal.nD Cert.ReferenceLossIdeal.τ).loc Cert.ReferenceLossIdeal.main_v51) = v0 c
          ∧ r.2.mem ((c.tc : Thread Cert.ReferenceLossIdeal.nD Cert.ReferenceLossIdeal.τ).loc Cert.ReferenceLossIdeal.main_v50) = v1 c
          ∧ r.2.mem ((c.tc : Thread Cert.ReferenceLossIdeal.nD Cert.ReferenceLossIdeal.τ).loc Cert.ReferenceLossIdeal.main_v52) = v2 c
          ∧ r.2.mem ((c.tc : Thread Cert.ReferenceLossIdeal.nD Cert.ReferenceLossIdeal.τ).loc Cert.ReferenceLossIdeal.main_arg0) = m' ((c.tc : Thread Cert.ReferenceLossIdeal.nD Cert.ReferenceLossIdeal.τ).loc Cert.ReferenceLossIdeal.main_arg0)
          ∧ r.2.mem ((c.tc : Thread Cert.ReferenceLossIdeal.nD Cert.ReferenceLossIdeal.τ).loc Cert.ReferenceLossIdeal.main_arg1) = m' ((c.tc : Thread Cert.ReferenceLossIdeal.nD Cert.ReferenceLossIdeal.τ).loc Cert.ReferenceLossIdeal.main_arg1)
          ∧ r.2.mem ((c.tc : Thread Cert.ReferenceLossIdeal.nD Cert.ReferenceLossIdeal.τ).loc Cert.ReferenceLossIdeal.main_arg2) = m' ((c.tc : Thread Cert.ReferenceLossIdeal.nD Cert.ReferenceLossIdeal.τ).loc Cert.ReferenceLossIdeal.main_arg2))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)) →
    ∃ (v0 : (c : Dev Cert.KernelOutIdeal.nD) → Buf (Elt Ideal) ((c.tc : Thread Cert.KernelOutIdeal.nD Cert.KernelOutIdeal.τ).loc Cert.KernelOutIdeal.main_v3)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v3) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v2) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2))

def preserves_KernelNt_KernelNtIdeal : Prop :=
  True

def algebraic_KernelNtIdeal_ReferenceNtIdeal [hKernelNtIdeal : Cert.KernelNtIdeal.Facts] [hReferenceNtIdeal : Cert.ReferenceNtIdeal.Facts] : Prop :=
  ∀ (m : (ℓ : Loc Cert.KernelNtIdeal.nD Cert.KernelNtIdeal.τ Cert.KernelNtIdeal.sig) → Buf (Elt Ideal) ℓ) (g : Dev Cert.KernelNtIdeal.nD → PrngReg)
    (m' : (ℓ : Loc Cert.ReferenceNtIdeal.nD Cert.ReferenceNtIdeal.τ Cert.ReferenceNtIdeal.sig) → Buf (Elt Ideal) ℓ) (g' : Dev Cert.ReferenceNtIdeal.nD → PrngReg), Pre_KernelNtIdeal m →
    (∀ c : Dev Cert.KernelNtIdeal.nD,
      m' ((c.tc : Thread Cert.ReferenceNtIdeal.nD Cert.ReferenceNtIdeal.τ).loc Cert.ReferenceNtIdeal.main_arg0) = m ((c.tc : Thread Cert.KernelNtIdeal.nD Cert.KernelNtIdeal.τ).loc Cert.KernelNtIdeal.main_arg0)
      ∧ m' ((c.tc : Thread Cert.ReferenceNtIdeal.nD Cert.ReferenceNtIdeal.τ).loc Cert.ReferenceNtIdeal.main_arg1) = m ((c.tc : Thread Cert.KernelNtIdeal.nD Cert.KernelNtIdeal.τ).loc Cert.KernelNtIdeal.main_arg1)
      ∧ m' ((c.tc : Thread Cert.ReferenceNtIdeal.nD Cert.ReferenceNtIdeal.τ).loc Cert.ReferenceNtIdeal.main_arg2) = m ((c.tc : Thread Cert.KernelNtIdeal.nD Cert.KernelNtIdeal.τ).loc Cert.KernelNtIdeal.main_arg2)) →
    ∃ (v0 : (c : Dev Cert.KernelNtIdeal.nD) → Buf (Elt Ideal) ((c.tc : Thread Cert.KernelNtIdeal.nD Cert.KernelNtIdeal.τ).loc Cert.KernelNtIdeal.main_v3_0)) (v1 : (c : Dev Cert.KernelNtIdeal.nD) → Buf (Elt Ideal) ((c.tc : Thread Cert.KernelNtIdeal.nD Cert.KernelNtIdeal.τ).loc Cert.KernelNtIdeal.main_v3_1)),
      θ_run (Cert.KernelNtIdeal.defs (F := Ideal)) (onTc (τ := Cert.KernelNtIdeal.τ) (Cert.KernelNtIdeal.main (F := Ideal))) ⟨m, fun _ => 0, g⟩ (fun r => ∀ c : Dev Cert.KernelNtIdeal.nD,
          r.2.mem ((c.tc : Thread Cert.KernelNtIdeal.nD Cert.KernelNtIdeal.τ).loc Cert.KernelNtIdeal.main_v3_0) = v0 c
          ∧ r.2.mem ((c.tc : Thread Cert.KernelNtIdeal.nD Cert.KernelNtIdeal.τ).loc Cert.KernelNtIdeal.main_v3_1) = v1 c
          ∧ r.2.mem ((c.tc : Thread Cert.KernelNtIdeal.nD Cert.KernelNtIdeal.τ).loc Cert.KernelNtIdeal.main_arg0) = m ((c.tc : Thread Cert.KernelNtIdeal.nD Cert.KernelNtIdeal.τ).loc Cert.KernelNtIdeal.main_arg0)
          ∧ r.2.mem ((c.tc : Thread Cert.KernelNtIdeal.nD Cert.KernelNtIdeal.τ).loc Cert.KernelNtIdeal.main_arg1) = m ((c.tc : Thread Cert.KernelNtIdeal.nD Cert.KernelNtIdeal.τ).loc Cert.KernelNtIdeal.main_arg1)
          ∧ r.2.mem ((c.tc : Thread Cert.KernelNtIdeal.nD Cert.KernelNtIdeal.τ).loc Cert.KernelNtIdeal.main_arg2) = m ((c.tc : Thread Cert.KernelNtIdeal.nD Cert.KernelNtIdeal.τ).loc Cert.KernelNtIdeal.main_arg2))
      ∧ θ_run (Cert.ReferenceNtIdeal.defs (F := Ideal)) (onTc (τ := Cert.ReferenceNtIdeal.τ) (Cert.ReferenceNtIdeal.main (F := Ideal))) ⟨m', fun _ => 0, g'⟩ (fun r => ∀ c : Dev Cert.ReferenceNtIdeal.nD,
          r.2.mem ((c.tc : Thread Cert.ReferenceNtIdeal.nD Cert.ReferenceNtIdeal.τ).loc Cert.ReferenceNtIdeal.main_v2) = v0 c
          ∧ r.2.mem ((c.tc : Thread Cert.ReferenceNtIdeal.nD Cert.ReferenceNtIdeal.τ).loc Cert.ReferenceNtIdeal.main_v3) = v1 c
          ∧ r.2.mem ((c.tc : Thread Cert.ReferenceNtIdeal.nD Cert.ReferenceNtIdeal.τ).loc Cert.ReferenceNtIdeal.main_arg0) = m' ((c.tc : Thread Cert.ReferenceNtIdeal.nD Cert.ReferenceNtIdeal.τ).loc Cert.ReferenceNtIdeal.main_arg0)
          ∧ r.2.mem ((c.tc : Thread Cert.ReferenceNtIdeal.nD Cert.ReferenceNtIdeal.τ).loc Cert.ReferenceNtIdeal.main_arg1) = m' ((c.tc : Thread Cert.ReferenceNtIdeal.nD Cert.ReferenceNtIdeal.τ).loc Cert.ReferenceNtIdeal.main_arg1)
          ∧ r.2.mem ((c.tc : Thread Cert.ReferenceNtIdeal.nD Cert.ReferenceNtIdeal.τ).loc Cert.ReferenceNtIdeal.main_arg2) = m' ((c.tc : Thread Cert.ReferenceNtIdeal.nD Cert.ReferenceNtIdeal.τ).loc Cert.ReferenceNtIdeal.main_arg2))

def preserves_KernelDw_KernelDwIdeal : Prop :=
  True

def algebraic_KernelDwIdeal_ReferenceDwIdeal [hKernelDwIdeal : Cert.KernelDwIdeal.Facts] [hReferenceDwIdeal : Cert.ReferenceDwIdeal.Facts] : Prop :=
  ∀ (m : (ℓ : Loc Cert.KernelDwIdeal.nD Cert.KernelDwIdeal.τ Cert.KernelDwIdeal.sig) → Buf (Elt Ideal) ℓ) (g : Dev Cert.KernelDwIdeal.nD → PrngReg)
    (m' : (ℓ : Loc Cert.ReferenceDwIdeal.nD Cert.ReferenceDwIdeal.τ Cert.ReferenceDwIdeal.sig) → Buf (Elt Ideal) ℓ) (g' : Dev Cert.ReferenceDwIdeal.nD → PrngReg), Pre_KernelDwIdeal m →
    (∀ c : Dev Cert.KernelDwIdeal.nD,
      m' ((c.tc : Thread Cert.ReferenceDwIdeal.nD Cert.ReferenceDwIdeal.τ).loc Cert.ReferenceDwIdeal.main_arg0) = m ((c.tc : Thread Cert.KernelDwIdeal.nD Cert.KernelDwIdeal.τ).loc Cert.KernelDwIdeal.main_arg0)
      ∧ m' ((c.tc : Thread Cert.ReferenceDwIdeal.nD Cert.ReferenceDwIdeal.τ).loc Cert.ReferenceDwIdeal.main_arg1) = m ((c.tc : Thread Cert.KernelDwIdeal.nD Cert.KernelDwIdeal.τ).loc Cert.KernelDwIdeal.main_arg1)
      ∧ m' ((c.tc : Thread Cert.ReferenceDwIdeal.nD Cert.ReferenceDwIdeal.τ).loc Cert.ReferenceDwIdeal.main_arg2) = m ((c.tc : Thread Cert.KernelDwIdeal.nD Cert.KernelDwIdeal.τ).loc Cert.KernelDwIdeal.main_arg2)
      ∧ m' ((c.tc : Thread Cert.ReferenceDwIdeal.nD Cert.ReferenceDwIdeal.τ).loc Cert.ReferenceDwIdeal.main_arg3) = m ((c.tc : Thread Cert.KernelDwIdeal.nD Cert.KernelDwIdeal.τ).loc Cert.KernelDwIdeal.main_arg3)) →
    ∃ (v0 : (c : Dev Cert.KernelDwIdeal.nD) → Buf (Elt Ideal) ((c.tc : Thread Cert.KernelDwIdeal.nD Cert.KernelDwIdeal.τ).loc Cert.KernelDwIdeal.main_v17)),
      θ_run (Cert.KernelDwIdeal.defs (F := Ideal)) (onTc (τ := Cert.KernelDwIdeal.τ) (Cert.KernelDwIdeal.main (F := Ideal))) ⟨m, fun _ => 0, g⟩ (fun r => ∀ c : Dev Cert.KernelDwIdeal.nD,
          r.2.mem ((c.tc : Thread Cert.KernelDwIdeal.nD Cert.KernelDwIdeal.τ).loc Cert.KernelDwIdeal.main_v17) = v0 c
          ∧ r.2.mem ((c.tc : Thread Cert.KernelDwIdeal.nD Cert.KernelDwIdeal.τ).loc Cert.KernelDwIdeal.main_arg0) = m ((c.tc : Thread Cert.KernelDwIdeal.nD Cert.KernelDwIdeal.τ).loc Cert.KernelDwIdeal.main_arg0)
          ∧ r.2.mem ((c.tc : Thread Cert.KernelDwIdeal.nD Cert.KernelDwIdeal.τ).loc Cert.KernelDwIdeal.main_arg1) = m ((c.tc : Thread Cert.KernelDwIdeal.nD Cert.KernelDwIdeal.τ).loc Cert.KernelDwIdeal.main_arg1)
          ∧ r.2.mem ((c.tc : Thread Cert.KernelDwIdeal.nD Cert.KernelDwIdeal.τ).loc Cert.KernelDwIdeal.main_arg2) = m ((c.tc : Thread Cert.KernelDwIdeal.nD Cert.KernelDwIdeal.τ).loc Cert.KernelDwIdeal.main_arg2)
          ∧ r.2.mem ((c.tc : Thread Cert.KernelDwIdeal.nD Cert.KernelDwIdeal.τ).loc Cert.KernelDwIdeal.main_arg3) = m ((c.tc : Thread Cert.KernelDwIdeal.nD Cert.KernelDwIdeal.τ).loc Cert.KernelDwIdeal.main_arg3))
      ∧ θ_run (Cert.ReferenceDwIdeal.defs (F := Ideal)) (onTc (τ := Cert.ReferenceDwIdeal.τ) (Cert.ReferenceDwIdeal.main (F := Ideal))) ⟨m', fun _ => 0, g'⟩ (fun r => ∀ c : Dev Cert.ReferenceDwIdeal.nD,
          r.2.mem ((c.tc : Thread Cert.ReferenceDwIdeal.nD Cert.ReferenceDwIdeal.τ).loc Cert.ReferenceDwIdeal.main_v21) = v0 c
          ∧ r.2.mem ((c.tc : Thread Cert.ReferenceDwIdeal.nD Cert.ReferenceDwIdeal.τ).loc Cert.ReferenceDwIdeal.main_arg0) = m' ((c.tc : Thread Cert.ReferenceDwIdeal.nD Cert.ReferenceDwIdeal.τ).loc Cert.ReferenceDwIdeal.main_arg0)
          ∧ r.2.mem ((c.tc : Thread Cert.ReferenceDwIdeal.nD Cert.ReferenceDwIdeal.τ).loc Cert.ReferenceDwIdeal.main_arg1) = m' ((c.tc : Thread Cert.ReferenceDwIdeal.nD Cert.ReferenceDwIdeal.τ).loc Cert.ReferenceDwIdeal.main_arg1)
          ∧ r.2.mem ((c.tc : Thread Cert.ReferenceDwIdeal.nD Cert.ReferenceDwIdeal.τ).loc Cert.ReferenceDwIdeal.main_arg2) = m' ((c.tc : Thread Cert.ReferenceDwIdeal.nD Cert.ReferenceDwIdeal.τ).loc Cert.ReferenceDwIdeal.main_arg2)
          ∧ r.2.mem ((c.tc : Thread Cert.ReferenceDwIdeal.nD Cert.ReferenceDwIdeal.τ).loc Cert.ReferenceDwIdeal.main_arg3) = m' ((c.tc : Thread Cert.ReferenceDwIdeal.nD Cert.ReferenceDwIdeal.τ).loc Cert.ReferenceDwIdeal.main_arg3))

def preserves_KernelWo_KernelWoIdeal : Prop :=
  True

def algebraic_KernelWoIdeal_ReferenceWoIdeal [hKernelWoIdeal : Cert.KernelWoIdeal.Facts] [hReferenceWoIdeal : Cert.ReferenceWoIdeal.Facts] : Prop :=
  ∀ (m : (ℓ : Loc Cert.KernelWoIdeal.nD Cert.KernelWoIdeal.τ Cert.KernelWoIdeal.sig) → Buf (Elt Ideal) ℓ) (g : Dev Cert.KernelWoIdeal.nD → PrngReg)
    (m' : (ℓ : Loc Cert.ReferenceWoIdeal.nD Cert.ReferenceWoIdeal.τ Cert.ReferenceWoIdeal.sig) → Buf (Elt Ideal) ℓ) (g' : Dev Cert.ReferenceWoIdeal.nD → PrngReg), Pre_KernelWoIdeal m →
    (∀ c : Dev Cert.KernelWoIdeal.nD,
      m' ((c.tc : Thread Cert.ReferenceWoIdeal.nD Cert.ReferenceWoIdeal.τ).loc Cert.ReferenceWoIdeal.main_arg0) = m ((c.tc : Thread Cert.KernelWoIdeal.nD Cert.KernelWoIdeal.τ).loc Cert.KernelWoIdeal.main_arg0)
      ∧ m' ((c.tc : Thread Cert.ReferenceWoIdeal.nD Cert.ReferenceWoIdeal.τ).loc Cert.ReferenceWoIdeal.main_arg1) = m ((c.tc : Thread Cert.KernelWoIdeal.nD Cert.KernelWoIdeal.τ).loc Cert.KernelWoIdeal.main_arg1)
      ∧ m' ((c.tc : Thread Cert.ReferenceWoIdeal.nD Cert.ReferenceWoIdeal.τ).loc Cert.ReferenceWoIdeal.main_arg2) = m ((c.tc : Thread Cert.KernelWoIdeal.nD Cert.KernelWoIdeal.τ).loc Cert.KernelWoIdeal.main_arg2)) →
    ∃ (v0 : (c : Dev Cert.KernelWoIdeal.nD) → Buf (Elt Ideal) ((c.tc : Thread Cert.KernelWoIdeal.nD Cert.KernelWoIdeal.τ).loc Cert.KernelWoIdeal.main_v2)),
      θ_run (Cert.KernelWoIdeal.defs (F := Ideal)) (onTc (τ := Cert.KernelWoIdeal.τ) (Cert.KernelWoIdeal.main (F := Ideal))) ⟨m, fun _ => 0, g⟩ (fun r => ∀ c : Dev Cert.KernelWoIdeal.nD,
          r.2.mem ((c.tc : Thread Cert.KernelWoIdeal.nD Cert.KernelWoIdeal.τ).loc Cert.KernelWoIdeal.main_v2) = v0 c
          ∧ r.2.mem ((c.tc : Thread Cert.KernelWoIdeal.nD Cert.KernelWoIdeal.τ).loc Cert.KernelWoIdeal.main_arg0) = m ((c.tc : Thread Cert.KernelWoIdeal.nD Cert.KernelWoIdeal.τ).loc Cert.KernelWoIdeal.main_arg0)
          ∧ r.2.mem ((c.tc : Thread Cert.KernelWoIdeal.nD Cert.KernelWoIdeal.τ).loc Cert.KernelWoIdeal.main_arg1) = m ((c.tc : Thread Cert.KernelWoIdeal.nD Cert.KernelWoIdeal.τ).loc Cert.KernelWoIdeal.main_arg1)
          ∧ r.2.mem ((c.tc : Thread Cert.KernelWoIdeal.nD Cert.KernelWoIdeal.τ).loc Cert.KernelWoIdeal.main_arg2) = m ((c.tc : Thread Cert.KernelWoIdeal.nD Cert.KernelWoIdeal.τ).loc Cert.KernelWoIdeal.main_arg2))
      ∧ θ_run (Cert.ReferenceWoIdeal.defs (F := Ideal)) (onTc (τ := Cert.ReferenceWoIdeal.τ) (Cert.ReferenceWoIdeal.main (F := Ideal))) ⟨m', fun _ => 0, g'⟩ (fun r => ∀ c : Dev Cert.ReferenceWoIdeal.nD,
          r.2.mem ((c.tc : Thread Cert.ReferenceWoIdeal.nD Cert.ReferenceWoIdeal.τ).loc Cert.ReferenceWoIdeal.main_v5) = v0 c
          ∧ r.2.mem ((c.tc : Thread Cert.ReferenceWoIdeal.nD Cert.ReferenceWoIdeal.τ).loc Cert.ReferenceWoIdeal.main_arg0) = m' ((c.tc : Thread Cert.ReferenceWoIdeal.nD Cert.ReferenceWoIdeal.τ).loc Cert.ReferenceWoIdeal.main_arg0)
          ∧ r.2.mem ((c.tc : Thread Cert.ReferenceWoIdeal.nD Cert.ReferenceWoIdeal.τ).loc Cert.ReferenceWoIdeal.main_arg1) = m' ((c.tc : Thread Cert.ReferenceWoIdeal.nD Cert.ReferenceWoIdeal.τ).loc Cert.ReferenceWoIdeal.main_arg1)
          ∧ r.2.mem ((c.tc : Thread Cert.ReferenceWoIdeal.nD Cert.ReferenceWoIdeal.τ).loc Cert.ReferenceWoIdeal.main_arg2) = m' ((c.tc : Thread Cert.ReferenceWoIdeal.nD Cert.ReferenceWoIdeal.τ).loc Cert.ReferenceWoIdeal.main_arg2))

def preserves_KernelCw_KernelCwIdeal : Prop :=
  True

def algebraic_KernelCwIdeal_ReferenceCwIdeal [hKernelCwIdeal : Cert.KernelCwIdeal.Facts] [hReferenceCwIdeal : Cert.ReferenceCwIdeal.Facts] : Prop :=
  ∀ (m : (ℓ : Loc Cert.KernelCwIdeal.nD Cert.KernelCwIdeal.τ Cert.KernelCwIdeal.sig) → Buf (Elt Ideal) ℓ) (g : Dev Cert.KernelCwIdeal.nD → PrngReg)
    (m' : (ℓ : Loc Cert.ReferenceCwIdeal.nD Cert.ReferenceCwIdeal.τ Cert.ReferenceCwIdeal.sig) → Buf (Elt Ideal) ℓ) (g' : Dev Cert.ReferenceCwIdeal.nD → PrngReg), Pre_KernelCwIdeal m →
    (∀ c : Dev Cert.KernelCwIdeal.nD,
      m' ((c.tc : Thread Cert.ReferenceCwIdeal.nD Cert.ReferenceCwIdeal.τ).loc Cert.ReferenceCwIdeal.main_arg0) = m ((c.tc : Thread Cert.KernelCwIdeal.nD Cert.KernelCwIdeal.τ).loc Cert.KernelCwIdeal.main_arg0)
      ∧ m' ((c.tc : Thread Cert.ReferenceCwIdeal.nD Cert.ReferenceCwIdeal.τ).loc Cert.ReferenceCwIdeal.main_arg1) = m ((c.tc : Thread Cert.KernelCwIdeal.nD Cert.KernelCwIdeal.τ).loc Cert.KernelCwIdeal.main_arg1)
      ∧ m' ((c.tc : Thread Cert.ReferenceCwIdeal.nD Cert.ReferenceCwIdeal.τ).loc Cert.ReferenceCwIdeal.main_arg2) = m ((c.tc : Thread Cert.KernelCwIdeal.nD Cert.KernelCwIdeal.τ).loc Cert.KernelCwIdeal.main_arg2)
      ∧ m' ((c.tc : Thread Cert.ReferenceCwIdeal.nD Cert.ReferenceCwIdeal.τ).loc Cert.ReferenceCwIdeal.main_arg3) = m ((c.tc : Thread Cert.KernelCwIdeal.nD Cert.KernelCwIdeal.τ).loc Cert.KernelCwIdeal.main_arg3)) →
    ∃ (v0 : (c : Dev Cert.KernelCwIdeal.nD) → Buf (Elt Ideal) ((c.tc : Thread Cert.KernelCwIdeal.nD Cert.KernelCwIdeal.τ).loc Cert.KernelCwIdeal.main_v17)),
      θ_run (Cert.KernelCwIdeal.defs (F := Ideal)) (onTc (τ := Cert.KernelCwIdeal.τ) (Cert.KernelCwIdeal.main (F := Ideal))) ⟨m, fun _ => 0, g⟩ (fun r => ∀ c : Dev Cert.KernelCwIdeal.nD,
          r.2.mem ((c.tc : Thread Cert.KernelCwIdeal.nD Cert.KernelCwIdeal.τ).loc Cert.KernelCwIdeal.main_v17) = v0 c
          ∧ r.2.mem ((c.tc : Thread Cert.KernelCwIdeal.nD Cert.KernelCwIdeal.τ).loc Cert.KernelCwIdeal.main_arg0) = m ((c.tc : Thread Cert.KernelCwIdeal.nD Cert.KernelCwIdeal.τ).loc Cert.KernelCwIdeal.main_arg0)
          ∧ r.2.mem ((c.tc : Thread Cert.KernelCwIdeal.nD Cert.KernelCwIdeal.τ).loc Cert.KernelCwIdeal.main_arg1) = m ((c.tc : Thread Cert.KernelCwIdeal.nD Cert.KernelCwIdeal.τ).loc Cert.KernelCwIdeal.main_arg1)
          ∧ r.2.mem ((c.tc : Thread Cert.KernelCwIdeal.nD Cert.KernelCwIdeal.τ).loc Cert.KernelCwIdeal.main_arg2) = m ((c.tc : Thread Cert.KernelCwIdeal.nD Cert.KernelCwIdeal.τ).loc Cert.KernelCwIdeal.main_arg2)
          ∧ r.2.mem ((c.tc : Thread Cert.KernelCwIdeal.nD Cert.KernelCwIdeal.τ).loc Cert.KernelCwIdeal.main_arg3) = m ((c.tc : Thread Cert.KernelCwIdeal.nD Cert.KernelCwIdeal.τ).loc Cert.KernelCwIdeal.main_arg3))
      ∧ θ_run (Cert.ReferenceCwIdeal.defs (F := Ideal)) (onTc (τ := Cert.ReferenceCwIdeal.τ) (Cert.ReferenceCwIdeal.main (F := Ideal))) ⟨m', fun _ => 0, g'⟩ (fun r => ∀ c : Dev Cert.ReferenceCwIdeal.nD,
          r.2.mem ((c.tc : Thread Cert.ReferenceCwIdeal.nD Cert.ReferenceCwIdeal.τ).loc Cert.ReferenceCwIdeal.main_v21) = v0 c
          ∧ r.2.mem ((c.tc : Thread Cert.ReferenceCwIdeal.nD Cert.ReferenceCwIdeal.τ).loc Cert.ReferenceCwIdeal.main_arg0) = m' ((c.tc : Thread Cert.ReferenceCwIdeal.nD Cert.ReferenceCwIdeal.τ).loc Cert.ReferenceCwIdeal.main_arg0)
          ∧ r.2.mem ((c.tc : Thread Cert.ReferenceCwIdeal.nD Cert.ReferenceCwIdeal.τ).loc Cert.ReferenceCwIdeal.main_arg1) = m' ((c.tc : Thread Cert.ReferenceCwIdeal.nD Cert.ReferenceCwIdeal.τ).loc Cert.ReferenceCwIdeal.main_arg1)
          ∧ r.2.mem ((c.tc : Thread Cert.ReferenceCwIdeal.nD Cert.ReferenceCwIdeal.τ).loc Cert.ReferenceCwIdeal.main_arg2) = m' ((c.tc : Thread Cert.ReferenceCwIdeal.nD Cert.ReferenceCwIdeal.τ).loc Cert.ReferenceCwIdeal.main_arg2)
          ∧ r.2.mem ((c.tc : Thread Cert.ReferenceCwIdeal.nD Cert.ReferenceCwIdeal.τ).loc Cert.ReferenceCwIdeal.main_arg3) = m' ((c.tc : Thread Cert.ReferenceCwIdeal.nD Cert.ReferenceCwIdeal.τ).loc Cert.ReferenceCwIdeal.main_arg3))

def preserves_KernelFw_KernelFwIdeal : Prop :=
  True

def algebraic_KernelFwIdeal_ReferenceFwIdeal [hKernelFwIdeal : Cert.KernelFwIdeal.Facts] [hReferenceFwIdeal : Cert.ReferenceFwIdeal.Facts] : Prop :=
  ∀ (m : (ℓ : Loc Cert.KernelFwIdeal.nD Cert.KernelFwIdeal.τ Cert.KernelFwIdeal.sig) → Buf (Elt Ideal) ℓ) (g : Dev Cert.KernelFwIdeal.nD → PrngReg)
    (m' : (ℓ : Loc Cert.ReferenceFwIdeal.nD Cert.ReferenceFwIdeal.τ Cert.ReferenceFwIdeal.sig) → Buf (Elt Ideal) ℓ) (g' : Dev Cert.ReferenceFwIdeal.nD → PrngReg), Pre_KernelFwIdeal m →
    (∀ c : Dev Cert.KernelFwIdeal.nD,
      m' ((c.tc : Thread Cert.ReferenceFwIdeal.nD Cert.ReferenceFwIdeal.τ).loc Cert.ReferenceFwIdeal.main_arg0) = m ((c.tc : Thread Cert.KernelFwIdeal.nD Cert.KernelFwIdeal.τ).loc Cert.KernelFwIdeal.main_arg0)
      ∧ m' ((c.tc : Thread Cert.ReferenceFwIdeal.nD Cert.ReferenceFwIdeal.τ).loc Cert.ReferenceFwIdeal.main_arg1) = m ((c.tc : Thread Cert.KernelFwIdeal.nD Cert.KernelFwIdeal.τ).loc Cert.KernelFwIdeal.main_arg1)
      ∧ m' ((c.tc : Thread Cert.ReferenceFwIdeal.nD Cert.ReferenceFwIdeal.τ).loc Cert.ReferenceFwIdeal.main_arg2) = m ((c.tc : Thread Cert.KernelFwIdeal.nD Cert.KernelFwIdeal.τ).loc Cert.KernelFwIdeal.main_arg2)
      ∧ m' ((c.tc : Thread Cert.ReferenceFwIdeal.nD Cert.ReferenceFwIdeal.τ).loc Cert.ReferenceFwIdeal.main_arg3) = m ((c.tc : Thread Cert.KernelFwIdeal.nD Cert.KernelFwIdeal.τ).loc Cert.KernelFwIdeal.main_arg3)) →
    ∃ (v0 : (c : Dev Cert.KernelFwIdeal.nD) → Buf (Elt Ideal) ((c.tc : Thread Cert.KernelFwIdeal.nD Cert.KernelFwIdeal.τ).loc Cert.KernelFwIdeal.main_v17)),
      θ_run (Cert.KernelFwIdeal.defs (F := Ideal)) (onTc (τ := Cert.KernelFwIdeal.τ) (Cert.KernelFwIdeal.main (F := Ideal))) ⟨m, fun _ => 0, g⟩ (fun r => ∀ c : Dev Cert.KernelFwIdeal.nD,
          r.2.mem ((c.tc : Thread Cert.KernelFwIdeal.nD Cert.KernelFwIdeal.τ).loc Cert.KernelFwIdeal.main_v17) = v0 c
          ∧ r.2.mem ((c.tc : Thread Cert.KernelFwIdeal.nD Cert.KernelFwIdeal.τ).loc Cert.KernelFwIdeal.main_arg0) = m ((c.tc : Thread Cert.KernelFwIdeal.nD Cert.KernelFwIdeal.τ).loc Cert.KernelFwIdeal.main_arg0)
          ∧ r.2.mem ((c.tc : Thread Cert.KernelFwIdeal.nD Cert.KernelFwIdeal.τ).loc Cert.KernelFwIdeal.main_arg1) = m ((c.tc : Thread Cert.KernelFwIdeal.nD Cert.KernelFwIdeal.τ).loc Cert.KernelFwIdeal.main_arg1)
          ∧ r.2.mem ((c.tc : Thread Cert.KernelFwIdeal.nD Cert.KernelFwIdeal.τ).loc Cert.KernelFwIdeal.main_arg2) = m ((c.tc : Thread Cert.KernelFwIdeal.nD Cert.KernelFwIdeal.τ).loc Cert.KernelFwIdeal.main_arg2)
          ∧ r.2.mem ((c.tc : Thread Cert.KernelFwIdeal.nD Cert.KernelFwIdeal.τ).loc Cert.KernelFwIdeal.main_arg3) = m ((c.tc : Thread Cert.KernelFwIdeal.nD Cert.KernelFwIdeal.τ).loc Cert.KernelFwIdeal.main_arg3))
      ∧ θ_run (Cert.ReferenceFwIdeal.defs (F := Ideal)) (onTc (τ := Cert.ReferenceFwIdeal.τ) (Cert.ReferenceFwIdeal.main (F := Ideal))) ⟨m', fun _ => 0, g'⟩ (fun r => ∀ c : Dev Cert.ReferenceFwIdeal.nD,
          r.2.mem ((c.tc : Thread Cert.ReferenceFwIdeal.nD Cert.ReferenceFwIdeal.τ).loc Cert.ReferenceFwIdeal.main_v21) = v0 c
          ∧ r.2.mem ((c.tc : Thread Cert.ReferenceFwIdeal.nD Cert.ReferenceFwIdeal.τ).loc Cert.ReferenceFwIdeal.main_arg0) = m' ((c.tc : Thread Cert.ReferenceFwIdeal.nD Cert.ReferenceFwIdeal.τ).loc Cert.ReferenceFwIdeal.main_arg0)
          ∧ r.2.mem ((c.tc : Thread Cert.ReferenceFwIdeal.nD Cert.ReferenceFwIdeal.τ).loc Cert.ReferenceFwIdeal.main_arg1) = m' ((c.tc : Thread Cert.ReferenceFwIdeal.nD Cert.ReferenceFwIdeal.τ).loc Cert.ReferenceFwIdeal.main_arg1)
          ∧ r.2.mem ((c.tc : Thread Cert.ReferenceFwIdeal.nD Cert.ReferenceFwIdeal.τ).loc Cert.ReferenceFwIdeal.main_arg2) = m' ((c.tc : Thread Cert.ReferenceFwIdeal.nD Cert.ReferenceFwIdeal.τ).loc Cert.ReferenceFwIdeal.main_arg2)
          ∧ r.2.mem ((c.tc : Thread Cert.ReferenceFwIdeal.nD Cert.ReferenceFwIdeal.τ).loc Cert.ReferenceFwIdeal.main_arg3) = m' ((c.tc : Thread Cert.ReferenceFwIdeal.nD Cert.ReferenceFwIdeal.τ).loc Cert.ReferenceFwIdeal.main_arg3))

def Claim : Prop :=
  ∃ (hKernel : Cert.Kernel.Facts) (hKernelIdeal : Cert.KernelIdeal.Facts) (hReferenceIdeal : Cert.ReferenceIdeal.Facts) (hKernel6 : Cert.Kernel6.Facts) (hKernel6Ideal : Cert.Kernel6Ideal.Facts) (hReference6Ideal : Cert.Reference6Ideal.Facts) (hKernel5 : Cert.Kernel5.Facts) (hKernel5Ideal : Cert.Kernel5Ideal.Facts) (hReference5Ideal : Cert.Reference5Ideal.Facts) (hKernel4 : Cert.Kernel4.Facts) (hKernel4Ideal : Cert.Kernel4Ideal.Facts) (hReference4Ideal : Cert.Reference4Ideal.Facts) (hKernel3 : Cert.Kernel3.Facts) (hKernel3Ideal : Cert.Kernel3Ideal.Facts) (hReference3Ideal : Cert.Reference3Ideal.Facts) (hKernel2 : Cert.Kernel2.Facts) (hKernel2Ideal : Cert.Kernel2Ideal.Facts) (hReference2Ideal : Cert.Reference2Ideal.Facts) (hKernel1 : Cert.Kernel1.Facts) (hKernel1Ideal : Cert.Kernel1Ideal.Facts) (hReference1Ideal : Cert.Reference1Ideal.Facts) (hKernel0 : Cert.Kernel0.Facts) (hKernel0Ideal : Cert.Kernel0Ideal.Facts) (hReference0Ideal : Cert.Reference0Ideal.Facts) (hKernelLoss : Cert.KernelLoss.Facts) (hKernelLossIdeal : Cert.KernelLossIdeal.Facts) (hReferenceLossIdeal : Cert.ReferenceLossIdeal.Facts) (hKernelOut : Cert.KernelOut.Facts) (hKernelOutIdeal : Cert.KernelOutIdeal.Facts) (hReferenceOutIdeal : Cert.ReferenceOutIdeal.Facts) (hKernelNt : Cert.KernelNt.Facts) (hKernelNtIdeal : Cert.KernelNtIdeal.Facts) (hReferenceNtIdeal : Cert.ReferenceNtIdeal.Facts) (hKernelDw : Cert.KernelDw.Facts) (hKernelDwIdeal : Cert.KernelDwIdeal.Facts) (hReferenceDwIdeal : Cert.ReferenceDwIdeal.Facts) (hKernelWo : Cert.KernelWo.Facts) (hKernelWoIdeal : Cert.KernelWoIdeal.Facts) (hReferenceWoIdeal : Cert.ReferenceWoIdeal.Facts) (hKernelCw : Cert.KernelCw.Facts) (hKernelCwIdeal : Cert.KernelCwIdeal.Facts) (hReferenceCwIdeal : Cert.ReferenceCwIdeal.Facts) (hKernelFw : Cert.KernelFw.Facts) (hKernelFwIdeal : Cert.KernelFwIdeal.Facts) (hReferenceFwIdeal : Cert.ReferenceFwIdeal.Facts) (hPre_all_finite : Cert.Pre_all_finite.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ quiescent_Kernel6 (hKernel6 := hKernel6)
    ∧ quiescent_Kernel6Ideal (hKernel6Ideal := hKernel6Ideal)
    ∧ quiescent_Kernel6Ideal_pre_all_finite (hKernel6Ideal := hKernel6Ideal) (hPre_all_finite := hPre_all_finite)
    ∧ quiescent_Reference6Ideal (hReference6Ideal := hReference6Ideal)
    ∧ quiescent_Reference6Ideal_pre_all_finite (hReference6Ideal := hReference6Ideal) (hPre_all_finite := hPre_all_finite)
    ∧ quiescent_Kernel5 (hKernel5 := hKernel5)
    ∧ quiescent_Kernel5Ideal (hKernel5Ideal := hKernel5Ideal)
    ∧ quiescent_Kernel5Ideal_pre_all_finite (hKernel5Ideal := hKernel5Ideal) (hPre_all_finite := hPre_all_finite)
    ∧ quiescent_Reference5Ideal (hReference5Ideal := hReference5Ideal)
    ∧ quiescent_Reference5Ideal_pre_all_finite (hReference5Ideal := hReference5Ideal) (hPre_all_finite := hPre_all_finite)
    ∧ quiescent_Kernel4 (hKernel4 := hKernel4)
    ∧ quiescent_Kernel4Ideal (hKernel4Ideal := hKernel4Ideal)
    ∧ quiescent_Kernel4Ideal_pre_all_finite (hKernel4Ideal := hKernel4Ideal) (hPre_all_finite := hPre_all_finite)
    ∧ quiescent_Reference4Ideal (hReference4Ideal := hReference4Ideal)
    ∧ quiescent_Reference4Ideal_pre_all_finite (hReference4Ideal := hReference4Ideal) (hPre_all_finite := hPre_all_finite)
    ∧ quiescent_Kernel3 (hKernel3 := hKernel3)
    ∧ quiescent_Kernel3Ideal (hKernel3Ideal := hKernel3Ideal)
    ∧ quiescent_Kernel3Ideal_pre_all_finite (hKernel3Ideal := hKernel3Ideal) (hPre_all_finite := hPre_all_finite)
    ∧ quiescent_Reference3Ideal (hReference3Ideal := hReference3Ideal)
    ∧ quiescent_Reference3Ideal_pre_all_finite (hReference3Ideal := hReference3Ideal) (hPre_all_finite := hPre_all_finite)
    ∧ quiescent_Kernel2 (hKernel2 := hKernel2)
    ∧ quiescent_Kernel2Ideal (hKernel2Ideal := hKernel2Ideal)
    ∧ quiescent_Kernel2Ideal_pre_all_finite (hKernel2Ideal := hKernel2Ideal) (hPre_all_finite := hPre_all_finite)
    ∧ quiescent_Reference2Ideal (hReference2Ideal := hReference2Ideal)
    ∧ quiescent_Reference2Ideal_pre_all_finite (hReference2Ideal := hReference2Ideal) (hPre_all_finite := hPre_all_finite)
    ∧ quiescent_Kernel1 (hKernel1 := hKernel1)
    ∧ quiescent_Kernel1Ideal (hKernel1Ideal := hKernel1Ideal)
    ∧ quiescent_Kernel1Ideal_pre_all_finite (hKernel1Ideal := hKernel1Ideal) (hPre_all_finite := hPre_all_finite)
    ∧ quiescent_Reference1Ideal (hReference1Ideal := hReference1Ideal)
    ∧ quiescent_Reference1Ideal_pre_all_finite (hReference1Ideal := hReference1Ideal) (hPre_all_finite := hPre_all_finite)
    ∧ quiescent_Kernel0 (hKernel0 := hKernel0)
    ∧ quiescent_Kernel0Ideal (hKernel0Ideal := hKernel0Ideal)
    ∧ quiescent_Kernel0Ideal_pre_all_finite (hKernel0Ideal := hKernel0Ideal) (hPre_all_finite := hPre_all_finite)
    ∧ quiescent_Reference0Ideal (hReference0Ideal := hReference0Ideal)
    ∧ quiescent_Reference0Ideal_pre_all_finite (hReference0Ideal := hReference0Ideal) (hPre_all_finite := hPre_all_finite)
    ∧ quiescent_KernelLoss (hKernelLoss := hKernelLoss)
    ∧ quiescent_KernelLossIdeal (hKernelLossIdeal := hKernelLossIdeal)
    ∧ quiescent_ReferenceLossIdeal (hReferenceLossIdeal := hReferenceLossIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelNt (hKernelNt := hKernelNt)
    ∧ quiescent_KernelNtIdeal (hKernelNtIdeal := hKernelNtIdeal)
    ∧ quiescent_ReferenceNtIdeal (hReferenceNtIdeal := hReferenceNtIdeal)
    ∧ quiescent_KernelDw (hKernelDw := hKernelDw)
    ∧ quiescent_KernelDwIdeal (hKernelDwIdeal := hKernelDwIdeal)
    ∧ quiescent_ReferenceDwIdeal (hReferenceDwIdeal := hReferenceDwIdeal)
    ∧ quiescent_KernelWo (hKernelWo := hKernelWo)
    ∧ quiescent_KernelWoIdeal (hKernelWoIdeal := hKernelWoIdeal)
    ∧ quiescent_ReferenceWoIdeal (hReferenceWoIdeal := hReferenceWoIdeal)
    ∧ quiescent_KernelCw (hKernelCw := hKernelCw)
    ∧ quiescent_KernelCwIdeal (hKernelCwIdeal := hKernelCwIdeal)
    ∧ quiescent_ReferenceCwIdeal (hReferenceCwIdeal := hReferenceCwIdeal)
    ∧ quiescent_KernelFw (hKernelFw := hKernelFw)
    ∧ quiescent_KernelFwIdeal (hKernelFwIdeal := hKernelFwIdeal)
    ∧ quiescent_ReferenceFwIdeal (hReferenceFwIdeal := hReferenceFwIdeal)
    ∧ preserves_Kernel_KernelIdeal
    ∧ algebraic_KernelIdeal_ReferenceIdeal_pre_all_finite (hKernelIdeal := hKernelIdeal) (hReferenceIdeal := hReferenceIdeal) (hPre_all_finite := hPre_all_finite)
    ∧ preserves_Kernel6_Kernel6Ideal
    ∧ algebraic_Kernel6Ideal_Reference6Ideal_pre_all_finite (hKernel6Ideal := hKernel6Ideal) (hReference6Ideal := hReference6Ideal) (hPre_all_finite := hPre_all_finite)
    ∧ preserves_Kernel5_Kernel5Ideal
    ∧ algebraic_Kernel5Ideal_Reference5Ideal_pre_all_finite (hKernel5Ideal := hKernel5Ideal) (hReference5Ideal := hReference5Ideal) (hPre_all_finite := hPre_all_finite)
    ∧ preserves_Kernel4_Kernel4Ideal
    ∧ algebraic_Kernel4Ideal_Reference4Ideal_pre_all_finite (hKernel4Ideal := hKernel4Ideal) (hReference4Ideal := hReference4Ideal) (hPre_all_finite := hPre_all_finite)
    ∧ preserves_Kernel3_Kernel3Ideal
    ∧ algebraic_Kernel3Ideal_Reference3Ideal_pre_all_finite (hKernel3Ideal := hKernel3Ideal) (hReference3Ideal := hReference3Ideal) (hPre_all_finite := hPre_all_finite)
    ∧ preserves_Kernel2_Kernel2Ideal
    ∧ algebraic_Kernel2Ideal_Reference2Ideal_pre_all_finite (hKernel2Ideal := hKernel2Ideal) (hReference2Ideal := hReference2Ideal) (hPre_all_finite := hPre_all_finite)
    ∧ preserves_Kernel1_Kernel1Ideal
    ∧ algebraic_Kernel1Ideal_Reference1Ideal_pre_all_finite (hKernel1Ideal := hKernel1Ideal) (hReference1Ideal := hReference1Ideal) (hPre_all_finite := hPre_all_finite)
    ∧ preserves_Kernel0_Kernel0Ideal
    ∧ algebraic_Kernel0Ideal_Reference0Ideal_pre_all_finite (hKernel0Ideal := hKernel0Ideal) (hReference0Ideal := hReference0Ideal) (hPre_all_finite := hPre_all_finite)
    ∧ preserves_KernelLoss_KernelLossIdeal
    ∧ algebraic_KernelLossIdeal_ReferenceLossIdeal (hKernelLossIdeal := hKernelLossIdeal) (hReferenceLossIdeal := hReferenceLossIdeal)
    ∧ preserves_KernelOut_KernelOutIdeal
    ∧ algebraic_KernelOutIdeal_ReferenceOutIdeal (hKernelOutIdeal := hKernelOutIdeal) (hReferenceOutIdeal := hReferenceOutIdeal)
    ∧ preserves_KernelNt_KernelNtIdeal
    ∧ algebraic_KernelNtIdeal_ReferenceNtIdeal (hKernelNtIdeal := hKernelNtIdeal) (hReferenceNtIdeal := hReferenceNtIdeal)
    ∧ preserves_KernelDw_KernelDwIdeal
    ∧ algebraic_KernelDwIdeal_ReferenceDwIdeal (hKernelDwIdeal := hKernelDwIdeal) (hReferenceDwIdeal := hReferenceDwIdeal)
    ∧ preserves_KernelWo_KernelWoIdeal
    ∧ algebraic_KernelWoIdeal_ReferenceWoIdeal (hKernelWoIdeal := hKernelWoIdeal) (hReferenceWoIdeal := hReferenceWoIdeal)
    ∧ preserves_KernelCw_KernelCwIdeal
    ∧ algebraic_KernelCwIdeal_ReferenceCwIdeal (hKernelCwIdeal := hKernelCwIdeal) (hReferenceCwIdeal := hReferenceCwIdeal)
    ∧ preserves_KernelFw_KernelFwIdeal
    ∧ algebraic_KernelFwIdeal_ReferenceFwIdeal (hKernelFwIdeal := hKernelFwIdeal) (hReferenceFwIdeal := hReferenceFwIdeal)
-- ==== Pre_all_finite.lean ====
abbrev S8192x1024 : Shape := ⟨2, ![8192, 1024]⟩
abbrev S4x2x1024 : Shape := ⟨3, ![4, 2, 1024]⟩
abbrev S4x2x1024x2816 : Shape := ⟨4, ![4, 2, 1024, 2816]⟩
abbrev S4x2x2816x1024 : Shape := ⟨4, ![4, 2, 2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4x2x1024 : S_.BroadcastsInDim S4x2x1024 (![] : Fin 0 → Fin S4x2x1024.rank)
  reducesTo_S4x2x1024_S_d0_1_2 : S4x2x1024.ReducesTo [0, 1, 2] S_
  bcast_S_S4x2x1024x2816 : S_.BroadcastsInDim S4x2x1024x2816 (![] : Fin 0 → Fin S4x2x1024x2816.rank)
  reducesTo_S4x2x1024x2816_S_d0_1_2_3 : S4x2x1024x2816.ReducesTo [0, 1, 2, 3] S_
  bcast_S_S4x2x2816x1024 : S_.BroadcastsInDim S4x2x2816x1024 (![] : Fin 0 → Fin S4x2x2816x1024.rank)
  reducesTo_S4x2x2816x1024_S_d0_1_2_3 : S4x2x2816x1024.ReducesTo [0, 1, 2, 3] S_

variable [Facts]

def fn_part1 {F : FTy → Type} [FloatOps F] (main_arg4 : FVec F S4x2x2816x1024 .f32) (main_arg5 : FVec F S8192x1024 .f32) (main_v13 : IVec S_ 1) (main_v16 : IVec S4x2x1024x2816 1) : IVec S_ 1 :=
  let main_c_5 : IVec S_ 1 := constantI S_ 1 1#1
  let main_v17 : IVec S_ 1 := (fun x v => Host.reduce IntOp.andi x v reducesTo_S4x2x1024x2816_S_d0_1_2_3 h_S_) main_v16 main_c_5
  let main_v18 : IVec S_ 1 := andi main_v13 main_v17
  let main_v19 : FVec F S4x2x2816x1024 .f32 := Host.absf main_arg4
  let main_cst_6 : FVec F S_ .f32 := constant S_ .f32 0x7F800000#32
  let main_v20 : FVec F S4x2x2816x1024 .f32 := broadcastInDim S4x2x2816x1024 ![] bcast_S_S4x2x2816x1024 main_cst_6
  let main_v21 : IVec S4x2x2816x1024 1 := cmpf .olt main_v19 main_v20
  let main_c_7 : IVec S_ 1 := constantI S_ 1 1#1
  let main_v22 : IVec S_ 1 := (fun x v => Host.reduce IntOp.andi x v reducesTo_S4x2x2816x1024_S_d0_1_2_3 h_S_) main_v21 main_c_7
  let main_v23 : IVec S_ 1 := andi main_v18 main_v22
  let main_v24 : FVec F S8192x1024 .f32 := Host.absf main_arg5
  let main_cst_8 : FVec F S_ .f32 := constant S_ .f32 0x7F800000#32
  let main_v25 : FVec F S8192x1024 .f32 := broadcastInDim S8192x1024 ![] bcast_S_S8192x1024 main_cst_8
  let main_v26 : IVec S8192x1024 1 := cmpf .olt main_v24 main_v25
  let main_c_9 : IVec S_ 1 := constantI S_ 1 1#1
  let main_v27 : IVec S_ 1 := (fun x v => Host.reduce IntOp.andi x v reducesTo_S8192x1024_S_d0_1 h_S_) main_v26 main_c_9
  let main_v28 : IVec S_ 1 := andi main_v23 main_v27
  main_v28

def fn {F : FTy → Type} [FloatOps F] (main_arg0 : FVec F S8192x1024 .f32) (main_arg1 : FVec F S4x2x1024 .f32) (main_arg2 : FVec F S4x2x1024x2816 .f32) (main_arg3 : FVec F S4x2x1024x2816 .f32) (main_arg4 : FVec F S4x2x2816x1024 .f32) (main_arg5 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S4x2x1024 .f32 := Host.absf main_arg1
  let main_cst_0 : FVec F S_ .f32 := constant S_ .f32 0x7F800000#32
  let main_v5 : FVec F S4x2x1024 .f32 := broadcastInDim S4x2x1024 ![] bcast_S_S4x2x1024 main_cst_0
  let main_v6 : IVec S4x2x1024 1 := cmpf .olt main_v4 main_v5
  let main_c_1 : IVec S_ 1 := constantI S_ 1 1#1
  let main_v7 : IVec S_ 1 := (fun x v => Host.reduce IntOp.andi x v reducesTo_S4x2x1024_S_d0_1_2 h_S_) main_v6 main_c_1
  let main_v8 : IVec S_ 1 := andi main_v3 main_v7
  let main_v9 : FVec F S4x2x1024x2816 .f32 := Host.absf main_arg2
  let main_cst_2 : FVec F S_ .f32 := constant S_ .f32 0x7F800000#32
  let main_v10 : FVec F S4x2x1024x2816 .f32 := broadcastInDim S4x2x1024x2816 ![] bcast_S_S4x2x1024x2816 main_cst_2
  let main_v11 : IVec S4x2x1024x2816 1 := cmpf .olt main_v9 main_v10
  let main_c_3 : IVec S_ 1 := constantI S_ 1 1#1
  let main_v12 : IVec S_ 1 := (fun x v => Host.reduce IntOp.andi x v reducesTo_S4x2x1024x2816_S_d0_1_2_3 h_S_) main_v11 main_c_3
  let main_v13 : IVec S_ 1 := andi main_v8 main_v12
  let main_v14 : FVec F S4x2x1024x2816 .f32 := Host.absf main_arg3
  let main_cst_4 : FVec F S_ .f32 := constant S_ .f32 0x7F800000#32
  let main_v15 : FVec F S4x2x1024x2816 .f32 := broadcastInDim S4x2x1024x2816 ![] bcast_S_S4x2x1024x2816 main_cst_4
  let main_v16 : IVec S4x2x1024x2816 1 := cmpf .olt main_v14 main_v15
  fn_part1 (F := F) main_arg4 main_arg5 main_v13 main_v16
-- ==== Kernel.lean ====
abbrev S8192x1024 : Shape := ⟨2, ![8192, 1024]⟩
abbrev S4x2x1024 : Shape := ⟨3, ![4, 2, 1024]⟩
abbrev S4x2x1024x2816 : Shape := ⟨4, ![4, 2, 1024, 2816]⟩
abbrev S4x2x2816x1024 : Shape := ⟨4, ![4, 2, 2816, 1024]⟩
abbrev S8x1024x4x704 : Shape := ⟨4, ![8, 1024, 4, 704]⟩
abbrev S4x8x1024x704 : Shape := ⟨4, ![4, 8, 1024, 704]⟩
abbrev S8x4x704x1024 : Shape := ⟨4, ![8, 4, 704, 1024]⟩
abbrev S4x8x704x1024 : Shape := ⟨4, ![4, 8, 704, 1024]⟩
abbrev S8x1024 : Shape := ⟨2, ![8, 1024]⟩
abbrev S1x1024 : Shape := ⟨2, ![1, 1024]⟩
abbrev S4x8192x704 : Shape := ⟨3, ![4, 8192, 704]⟩
abbrev S1024x1024 : Shape := ⟨2, ![1024, 1024]⟩
abbrev S1x1x1024x704 : Shape := ⟨4, ![1, 1, 1024, 704]⟩
abbrev S1x1x704x1024 : Shape := ⟨4, ![1, 1, 704, 1024]⟩
abbrev S1x1024x704 : Shape := ⟨3, ![1, 1024, 704]⟩
abbrev S1024 : Shape := ⟨1, ![1024]⟩
abbrev S1024x1 : Shape := ⟨2, ![1024, 1]⟩
abbrev S1024x704 : Shape := ⟨2, ![1024, 704]⟩
abbrev S704x1024 : Shape := ⟨2, ![704, 1024]⟩
abbrev S512x1024 : Shape := ⟨2, ![512, 1024]⟩
abbrev S1x512x704 : Shape := ⟨3, ![1, 512, 704]⟩
abbrev S512x704 : Shape := ⟨2, ![512, 704]⟩
abbrev S512 : Shape := ⟨1, ![512]⟩
abbrev S512x1 : Shape := ⟨2, ![512, 1]⟩
abbrev S2048x1024 : Shape := ⟨2, ![2048, 1024]⟩
abbrev S1x2048x704 : Shape := ⟨3, ![1, 2048, 704]⟩
abbrev S1024x2048 : Shape := ⟨2, ![1024, 2048]⟩
abbrev S2048x704 : Shape := ⟨2, ![2048, 704]⟩
abbrev S1x4096x704 : Shape := ⟨3, ![1, 4096, 704]⟩
abbrev S4096x1024 : Shape := ⟨2, ![4096, 1024]⟩
abbrev S4096x704 : Shape := ⟨2, ![4096, 704]⟩
abbrev S4x1x1024x704 : Shape := ⟨4, ![4, 1, 1024, 704]⟩
abbrev S4x1024x704 : Shape := ⟨3, ![4, 1024, 704]⟩
abbrev S4x1x704x1024 : Shape := ⟨4, ![4, 1, 704, 1024]⟩
abbrev S4x704x1024 : Shape := ⟨3, ![4, 704, 1024]⟩

abbrev nBuf : Space → Nat
  | .hbm => 36
  | .vmem => 60
  | .smem => 0
  | _ => 0

abbrev bufTy : (tb : Table) → Fin (tcTables nBuf tb) → BufTy
  | .hbm, ⟨0, _⟩ => ⟨S8192x1024, .f32⟩
  | .hbm, ⟨1, _⟩ => ⟨S4x2x1024, .f32⟩
  | .hbm, ⟨2, _⟩ => ⟨S4x2x1024x2816, .f32⟩
  | .hbm, ⟨3, _⟩ => ⟨S4x2x1024x2816, .f32⟩
  | .hbm, ⟨4, _⟩ => ⟨S4x2x2816x1024, .f32⟩
  | .hbm, ⟨5, _⟩ => ⟨S8192x1024, .f32⟩
  | .hbm, ⟨6, _⟩ => ⟨S4x2x1024x2816, .bf16⟩
  | .hbm, ⟨7, _⟩ => ⟨S8x1024x4x704, .bf16⟩
  | .hbm, ⟨8, _⟩ => ⟨S4x8x1024x704, .bf16⟩
  | .hbm, ⟨9, _⟩ => ⟨S4x2x1024x2816, .bf16⟩
  | .hbm, ⟨10, _⟩ => ⟨S8x1024x4x704, .bf16⟩
  | .hbm, ⟨11, _⟩ => ⟨S4x8x1024x704, .bf16⟩
  | .hbm, ⟨12, _⟩ => ⟨S4x2x2816x1024, .bf16⟩
  | .hbm, ⟨13, _⟩ => ⟨S8x4x704x1024, .bf16⟩
  | .hbm, ⟨14, _⟩ => ⟨S4x8x704x1024, .bf16⟩
  | .hbm, ⟨15, _⟩ => ⟨S8x1024, .f32⟩
  | .hbm, ⟨16, _⟩ => ⟨S1x1024, .f32⟩
  | .hbm, ⟨17, _⟩ => ⟨S8192x1024, .f32⟩
  | .hbm, ⟨18, _⟩ => ⟨S8192x1024, .bf16⟩
  | .hbm, ⟨19, _⟩ => ⟨S4x8192x704, .bf16⟩
  | .hbm, ⟨20, _⟩ => ⟨S4x8192x704, .bf16⟩
  | .hbm, ⟨21, _⟩ => ⟨S4x8192x704, .bf16⟩
  | .hbm, ⟨22, _⟩ => ⟨S8192x1024, .f32⟩
  | .hbm, ⟨23, _⟩ => ⟨S4x8192x704, .bf16⟩
  | .hbm, ⟨24, _⟩ => ⟨S4x8192x704, .bf16⟩
  | .hbm, ⟨25, _⟩ => ⟨S8192x1024, .bf16⟩
  | .hbm, ⟨26, _⟩ => ⟨S1x1024, .f32⟩
  | .hbm, ⟨27, _⟩ => ⟨S4x8x1024x704, .f32⟩
  | .hbm, ⟨28, _⟩ => ⟨S4x8x1024x704, .f32⟩
  | .hbm, ⟨29, _⟩ => ⟨S4x8x704x1024, .f32⟩
  | .hbm, ⟨30, _⟩ => ⟨S4x1x1024x704, .f32⟩
  | .hbm, ⟨31, _⟩ => ⟨S4x1024x704, .f32⟩
  | .hbm, ⟨32, _⟩ => ⟨S4x1x1024x704, .f32⟩
  | .hbm, ⟨33, _⟩ => ⟨S4x1024x704, .f32⟩
  | .hbm, ⟨34, _⟩ => ⟨S4x1x704x1024, .f32⟩
  | .hbm, ⟨35, _⟩ => ⟨S4x704x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024x704, .bf16⟩
  | .local _ .vmem, ⟨4, _⟩ => ⟨S1x1x1024x704, .bf16⟩
  | .local _ .vmem, ⟨5, _⟩ => ⟨S1x1x1024x704, .bf16⟩
  | .local _ .vmem, ⟨6, _⟩ => ⟨S1x1x1024x704, .bf16⟩
  | .local _ .vmem, ⟨7, _⟩ => ⟨S1x1x704x1024, .bf16⟩
  | .local _ .vmem, ⟨8, _⟩ => ⟨S1x1x704x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1024x704, .bf16⟩
  | .local _ .vmem, ⟨14, _⟩ => ⟨S1x1024x704, .bf16⟩
  | .local _ .vmem, ⟨15, _⟩ => ⟨S1x1024x704, .bf16⟩
  | .local _ .vmem, ⟨16, _⟩ => ⟨S1x1024x704, .bf16⟩
  | .local _ .vmem, ⟨17, _⟩ => ⟨S1x1024x704, .bf16⟩
  | .local _ .vmem, ⟨18, _⟩ => ⟨S1x1024x704, .bf16⟩
  | .local _ .vmem, ⟨19, _⟩ => ⟨S1024x1024, .f32⟩
  | .local _ .vmem, ⟨20, _⟩ => ⟨S512x1024, .f32⟩
  | .local _ .vmem, ⟨21, _⟩ => ⟨S512x1024, .f32⟩
  | .local _ .vmem, ⟨22, _⟩ => ⟨S1x1024, .f32⟩
  | .local _ .vmem, ⟨23, _⟩ => ⟨S512x1024, .f32⟩
  | .local _ .vmem, ⟨24, _⟩ => ⟨S512x1024, .f32⟩
  | .local _ .vmem, ⟨25, _⟩ => ⟨S1x512x704, .bf16⟩
  | .local _ .vmem, ⟨26, _⟩ => ⟨S1x512x704, .bf16⟩
  | .local _ .vmem, ⟨27, _⟩ => ⟨S1x512x704, .bf16⟩
  | .local _ .vmem, ⟨28, _⟩ => ⟨S1x512x704, .bf16⟩
  | .local _ .vmem, ⟨29, _⟩ => ⟨S1x1x1024x704, .bf16⟩
  | .local _ .vmem, ⟨30, _⟩ => ⟨S1x1x1024x704, .bf16⟩
  | .local _ .vmem, ⟨31, _⟩ => ⟨S1x1x1024x704, .bf16⟩
  | .local _ .vmem, ⟨32, _⟩ => ⟨S1x1x1024x704, .bf16⟩
  | .local _ .vmem, ⟨33, _⟩ => ⟨S1x1x704x1024, .bf16⟩
  | .local _ .vmem, ⟨34, _⟩ => ⟨S1x1x704x1024, .bf16⟩
  | .local _ .vmem, ⟨35, _⟩ => ⟨S512x1024, .f32⟩
  | .local _ .vmem, ⟨36, _⟩ => ⟨S512x1024, .f32⟩
  | .local _ .vmem, ⟨37, _⟩ => ⟨S1x512x704, .bf16⟩
  | .local _ .vmem, ⟨38, _⟩ => ⟨S1x512x704, .bf16⟩
  | .local _ .vmem, ⟨39, _⟩ => ⟨S1x512x704, .bf16⟩
  | .local _ .vmem, ⟨40, _⟩ => ⟨S1x512x704, .bf16⟩
  | .local _ .vmem, ⟨41, _⟩ => ⟨S512x1024, .bf16⟩
  | .local _ .vmem, ⟨42, _⟩ => ⟨S512x1024, .bf16⟩
  | .local _ .vmem, ⟨43, _⟩ => ⟨S1x1024, .f32⟩
  | .local _ .vmem, ⟨44, _⟩ => ⟨S2048x1024, .bf16⟩
  | .local _ .vmem, ⟨45, _⟩ => ⟨S2048x1024, .bf16⟩
  | .local _ .vmem, ⟨46, _⟩ => ⟨S1x2048x704, .bf16⟩
  | .local _ .vmem, ⟨47, _⟩ => ⟨S1x2048x704, .bf16⟩
  | .local _ .vmem, ⟨48, _⟩ => ⟨S1x2048x704, .bf16⟩
  | .local _ .vmem, ⟨49, _⟩ => ⟨S1x2048x704, .bf16⟩
  | .local _ .vmem, ⟨50, _⟩ => ⟨S1x1x1024x704, .f32⟩
  | .local _ .vmem, ⟨51, _⟩ => ⟨S1x1x1024x704, .f32⟩
  | .local _ .vmem, ⟨52, _⟩ => ⟨S1x1x1024x704, .f32⟩
  | .local _ .vmem, ⟨53, _⟩ => ⟨S1x1x1024x704, .f32⟩
  | .local _ .vmem, ⟨54, _⟩ => ⟨S1x4096x704, .bf16⟩
  | .local _ .vmem, ⟨55, _⟩ => ⟨S1x4096x704, .bf16⟩
  | .local _ .vmem, ⟨56, _⟩ => ⟨S4096x1024, .bf16⟩
  | .local _ .vmem, ⟨57, _⟩ => ⟨S4096x1024, .bf16⟩
  | .local _ .vmem, ⟨58, _⟩ => ⟨S1x1x704x1024, .f32⟩
  | .local _ .vmem, ⟨59, _⟩ => ⟨S1x1x704x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTc nBuf bufTy 0 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v11_2 : Ref sig .tc := ⟨.hbm, 19, rfl⟩
abbrev main_v11_3 : Ref sig .tc := ⟨.hbm, 20, rfl⟩
abbrev main_v11_4 : Ref sig .tc := ⟨.hbm, 21, rfl⟩
abbrev main_v12_0 : Ref sig .tc := ⟨.hbm, 22, rfl⟩
abbrev main_v12_1 : Ref sig .tc := ⟨.hbm, 23, rfl⟩
abbrev main_v12_2 : Ref sig .tc := ⟨.hbm, 24, rfl⟩
abbrev main_v12_3 : Ref sig .tc := ⟨.hbm, 25, rfl⟩
abbrev main_v12_4 : Ref sig .tc := ⟨.hbm, 26, rfl⟩
abbrev main_v13_0 : Ref sig .tc := ⟨.hbm, 27, rfl⟩
abbrev main_v13_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg3_1 : Ref sig .tc := ⟨.vmem, 26, rfl⟩
abbrev cc1_stg4_0 : Ref sig .tc := ⟨.vmem, 27, rfl⟩
abbrev cc1_stg4_1 : Ref sig .tc := ⟨.vmem, 28, rfl⟩
abbrev cc1_stg5_0 : Ref sig .tc := ⟨.vmem, 29, rfl⟩
abbrev cc1_stg5_1 : Ref sig .tc := ⟨.vmem, 30, rfl⟩
abbrev cc1_stg6_0 : Ref sig .tc := ⟨.vmem, 31, rfl⟩
abbrev cc1_stg6_1 : Ref sig .tc := ⟨.vmem, 32, rfl⟩
abbrev cc1_stg7_0 : Ref sig .tc := ⟨.vmem, 33, rfl⟩
abbrev cc1_stg7_1 : Ref sig .tc := ⟨.vmem, 34, rfl⟩
abbrev cc1_stg8_0 : Ref sig .tc := ⟨.vmem, 35, rfl⟩
abbrev cc1_stg8_1 : Ref sig .tc := ⟨.vmem, 36, rfl⟩
abbrev cc1_stg9_0 : Ref sig .tc := ⟨.vmem, 37, rfl⟩
abbrev cc1_stg9_1 : Ref sig .tc := ⟨.vmem, 38, rfl⟩
abbrev cc1_stg10_0 : Ref sig .tc := ⟨.vmem, 39, rfl⟩
abbrev cc1_stg10_1 : Ref sig .tc := ⟨.vmem, 40, rfl⟩
abbrev cc1_stg11_0 : Ref sig .tc := ⟨.vmem, 41, rfl⟩
abbrev cc1_stg11_1 : Ref sig .tc := ⟨.vmem, 42, rfl⟩
abbrev cc1_stg12_0 : Ref sig .tc := ⟨.vmem, 43, rfl⟩
abbrev cc2_stg0_0 : Ref sig .tc := ⟨.vmem, 44, rfl⟩
abbrev cc2_stg0_1 : Ref sig .tc := ⟨.vmem, 45, rfl⟩
abbrev cc2_stg1_0 : Ref sig .tc := ⟨.vmem, 46, rfl⟩
abbrev cc2_stg1_1 : Ref sig .tc := ⟨.vmem, 47, rfl⟩
abbrev cc2_stg2_0 : Ref sig .tc := ⟨.vmem, 48, rfl⟩
abbrev cc2_stg2_1 : Ref sig .tc := ⟨.vmem, 49, rfl⟩
abbrev cc2_stg3_0 : Ref sig .tc := ⟨.vmem, 50, rfl⟩
abbrev cc2_stg3_1 : Ref sig .tc := ⟨.vmem, 51, rfl⟩
abbrev cc2_stg4_0 : Ref sig .tc := ⟨.vmem, 52, rfl⟩
abbrev cc2_stg4_1 : Ref sig .tc := ⟨.vmem, 53, rfl⟩
abbrev cc3_stg0_0 : Ref sig .tc := ⟨.vmem, 54, rfl⟩
abbrev cc3_stg0_1 : Ref sig .tc := ⟨.vmem, 55, rfl⟩
abbrev cc3_stg1_0 : Ref sig .tc := ⟨.vmem, 56, rfl⟩
abbrev cc3_stg1_1 : Ref sig .tc := ⟨.vmem, 57, rfl⟩
abbrev cc3_stg2_0 : Ref sig .tc := ⟨.vmem, 58, rfl⟩
abbrev cc3_stg2_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc1_sem0_0 : DmaSem sig := 19
abbrev cc1_sem0_1 : DmaSem sig := 20
abbrev cc1_sem1_0 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31
abbrev cc1_sem7_0 : DmaSem sig := 32
abbrev cc1_sem7_1 : DmaSem sig := 33
abbrev cc1_sem8_0 : DmaSem sig := 34
abbrev cc1_sem8_1 : DmaSem sig := 35
abbrev cc1_sem9_0 : DmaSem sig := 36
abbrev cc1_sem9_1 : DmaSem sig := 37
abbrev cc1_sem10_0 : DmaSem sig := 38
abbrev cc1_sem10_1 : DmaSem sig := 39
abbrev cc1_sem11_0 : DmaSem sig := 40
abbrev cc1_sem11_1 : DmaSem sig := 41
abbrev cc1_sem12_0 : DmaSem sig := 42
abbrev cc2_sem0_0 : DmaSem sig := 43
abbrev cc2_sem0_1 : DmaSem sig := 44
abbrev cc2_sem1_0 : DmaSem sig := 45
abbrev cc2_sem1_1 : DmaSem sig := 46
abbrev cc2_sem2_0 : DmaSem sig := 47
abbrev cc2_sem2_1 : DmaSem sig := 48
abbrev cc2_sem3_0 : DmaSem sig := 49
abbrev cc2_sem3_1 : DmaSem sig := 50
abbrev cc2_sem4_0 : DmaSem sig := 51
abbrev cc2_sem4_1 : DmaSem sig := 52
abbrev cc3_sem0_0 : DmaSem sig := 53
abbrev cc3_sem0_1 : DmaSem sig := 54
abbrev cc3_sem1_0 : DmaSem sig := 55
abbrev cc3_sem1_1 : DmaSem sig := 56
abbrev cc3_sem2_0 : DmaSem sig := 57
abbrev cc3_sem2_1 : DmaSem sig := 58

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v47 : BitVec 1 := Scalar.cmpi .eq arg1 c3_i32
  let v48 : BitVec 32 := Scalar.extui v47
  let c0_i32_34 : BitVec 32 := 0#32
  let v49 : BitVec 1 := Scalar.cmpi .ne v48 c0_i32_34
  v49

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c7_i32 : BitVec 32 := 7#32
  let c0_i32 : BitVec 32 := 0#32
  let c0_i32_0 : BitVec 32 := 0#32
  let c0_i32_1 : BitVec 32 := 0#32
  ![arg1.toNat, c7_i32.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c7_i32 : BitVec 32 := 7#32
  let c0_i32 : BitVec 32 := 0#32
  let c0_i32_0 : BitVec 32 := 0#32
  let c0_i32_1 : BitVec 32 := 0#32
  ![arg1.toNat, c7_i32.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c7_i32 : BitVec 32 := 7#32
  let c0_i32 : BitVec 32 := 0#32
  let c0_i32_0 : BitVec 32 := 0#32
  let c0_i32_1 : BitVec 32 := 0#32
  ![arg1.toNat, c7_i32.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨2, ![16, 4], ![false, false]⟩

def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k1_cond2 (i : grid1.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def k1_cond3 (i : grid1.Coords) : BitVec 1 :=
  let arg1 : BitVec 32 := BitVec.ofNat 32 (i 1).val
  let c3_i32 : BitVec 32 := 3#32
  let v40 : BitVec 1 := Scalar.cmpi .eq arg1 c3_i32
  let v41 : BitVec 32 := Scalar.extui v40
  let c0_i32_35 : BitVec 32 := 0#32
  let v42 : BitVec 1 := Scalar.cmpi .ne v41 c0_i32_35
  v42

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_5 (i : grid1.Coords) : Fin 4 → Nat :=
  let arg0 : BitVec 32 := BitVec.ofNat 32 (i 0).val
  let arg1 : BitVec 32 := BitVec.ofNat 32 (i 1).val
  let c7_i32 : BitVec 32 := 7#32
  let c0_i32 : BitVec 32 := 0#32
  let c0_i32_0 : BitVec 32 := 0#32
  let c0_i32_1 : BitVec 32 := 0#32
  ![arg1.toNat, c7_i32.toNat, c0_i32.toNat, c0_i32_0.toNat]

def cc1_transform_6 (i : grid1.Coords) : Fin 4 → Nat :=
  let arg0 : BitVec 32 := BitVec.ofNat 32 (i 0).val
  let arg1 : BitVec 32 := BitVec.ofNat 32 (i 1).val
  let c7_i32 : BitVec 32 := 7#32
  let c0_i32 : BitVec 32 := 0#32
  let c0_i32_0 : BitVec 32 := 0#32
  let c0_i32_1 : BitVec 32 := 0#32
  ![arg1.toNat, c7_i32.toNat, c0_i32.toNat, c0_i32_0.toNat]

def cc1_transform_7 (i : grid1.Coords) : Fin 4 → Nat :=
  let arg0 : BitVec 32 := BitVec.ofNat 32 (i 0).val
  let arg1 : BitVec 32 := BitVec.ofNat 32 (i 1).val
  let c7_i32 : BitVec 32 := 7#32
  let c0_i32 : BitVec 32 := 0#32
  let c0_i32_0 : BitVec 32 := 0#32
  let c0_i32_1 : BitVec 32 := 0#32
  ![arg1.toNat, c7_i32.toNat, c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x704 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x512x704 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1x1024x704 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S1x1x1024x704 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true]

abbrev stage1_7 : Fin 2 → Memref sig .tc .vmem S1x1x704x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![false, true]

abbrev stage1_8 : Fin 2 → Memref sig .tc .vmem S512x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S1x512x704 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1x512x704 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S512x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, false]

abbrev stage1_12 : Fin 1 → Memref sig .tc .vmem S1x1024 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false, false]

abbrev grid2 : Pipeline.Grid := ⟨2, ![4, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_3 (i : grid2.Coords) : Fin 4 → Nat :=
  let arg0 : BitVec 32 := BitVec.ofNat 32 (i 0).val
  let arg1 : BitVec 32 := BitVec.ofNat 32 (i 1).val
  let c7_i32 : BitVec 32 := 7#32
  let c0_i32 : BitVec 32 := 0#32
  let c0_i32_0 : BitVec 32 := 0#32
  let c0_i32_1 : BitVec 32 := 0#32
  ![arg0.toNat, c7_i32.toNat, c0_i32.toNat, c0_i32_0.toNat]

def cc2_transform_4 (i : grid2.Coords) : Fin 4 → Nat :=
  let arg0 : BitVec 32 := BitVec.ofNat 32 (i 0).val
  let arg1 : BitVec 32 := BitVec.ofNat 32 (i 1).val
  let c7_i32 : BitVec 32 := 7#32
  let c0_i32 : BitVec 32 := 0#32
  let c0_i32_0 : BitVec 32 := 0#32
  let c0_i32_1 : BitVec 32 := 0#32
  ![arg0.toNat, c7_i32.toNat, c0_i32.toNat, c0_i32_0.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1x2048x704 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x2048x704 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x1x1024x704 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x1x1024x704 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev grid3 : Pipeline.Grid := ⟨2, ![4, 2], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 4 → Nat :=
  let arg0 : BitVec 32 := BitVec.ofNat 32 (i 0).val
  let arg1 : BitVec 32 := BitVec.ofNat 32 (i 1).val
  let c7_i32 : BitVec 32 := 7#32
  let c0_i32 : BitVec 32 := 0#32
  let c0_i32_0 : BitVec 32 := 0#32
  let c0_i32_1 : BitVec 32 := 0#32
  ![arg0.toNat, c7_i32.toNat, c0_i32.toNat, c0_i32_0.toNat]

abbrev stage3_0 : Fin 2 → Memref sig .tc .vmem S1x4096x704 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1x1x704x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]
-- ==== KernelIdeal.lean ====
abbrev S8192x1024 : Shape := ⟨2, ![8192, 1024]⟩
abbrev S4x2x1024 : Shape := ⟨3, ![4, 2, 1024]⟩
abbrev S4x2x1024x2816 : Shape := ⟨4, ![4, 2, 1024, 2816]⟩
abbrev S4x2x2816x1024 : Shape := ⟨4, ![4, 2, 2816, 1024]⟩
abbrev S8x1024x4x704 : Shape := ⟨4, ![8, 1024, 4, 704]⟩
abbrev S4x8x1024x704 : Shape := ⟨4, ![4, 8, 1024, 704]⟩
abbrev S8x4x704x1024 : Shape := ⟨4, ![8, 4, 704, 1024]⟩
abbrev S4x8x704x1024 : Shape := ⟨4, ![4, 8, 704, 1024]⟩
abbrev S8x1024 : Shape := ⟨2, ![8, 1024]⟩
abbrev S1x1024 : Shape := ⟨2, ![1, 1024]⟩
abbrev S4x8192x704 : Shape := ⟨3, ![4, 8192, 704]⟩
abbrev S1024x1024 : Shape := ⟨2, ![1024, 1024]⟩
abbrev S1x1x1024x704 : Shape := ⟨4, ![1, 1, 1024, 704]⟩
abbrev S1x1x704x1024 : Shape := ⟨4, ![1, 1, 704, 1024]⟩
abbrev S1x1024x704 : Shape := ⟨3, ![1, 1024, 704]⟩
abbrev S1024 : Shape := ⟨1, ![1024]⟩
abbrev S1024x1 : Shape := ⟨2, ![1024, 1]⟩
abbrev S1024x704 : Shape := ⟨2, ![1024, 704]⟩
abbrev S704x1024 : Shape := ⟨2, ![704, 1024]⟩
abbrev S512x1024 : Shape := ⟨2, ![512, 1024]⟩
abbrev S1x512x704 : Shape := ⟨3, ![1, 512, 704]⟩
abbrev S512x704 : Shape := ⟨2, ![512, 704]⟩
abbrev S512 : Shape := ⟨1, ![512]⟩
abbrev S512x1 : Shape := ⟨2, ![512, 1]⟩
abbrev S2048x1024 : Shape := ⟨2, ![2048, 1024]⟩
abbrev S1x2048x704 : Shape := ⟨3, ![1, 2048, 704]⟩
abbrev S1024x2048 : Shape := ⟨2, ![1024, 2048]⟩
abbrev S2048x704 : Shape := ⟨2, ![2048, 704]⟩
abbrev S1x4096x704 : Shape := ⟨3, ![1, 4096, 704]⟩
abbrev S4096x1024 : Shape := ⟨2, ![4096, 1024]⟩
abbrev S4096x704 : Shape := ⟨2, ![4096, 704]⟩
abbrev S4x1x1024x704 : Shape := ⟨4, ![4, 1, 1024, 704]⟩
abbrev S4x1024x704 : Shape := ⟨3, ![4, 1024, 704]⟩
abbrev S4x1x704x1024 : Shape := ⟨4, ![4, 1, 704, 1024]⟩
abbrev S4x704x1024 : Shape := ⟨3, ![4, 704, 1024]⟩

abbrev nBuf : Space → Nat
  | .hbm => 36
  | .vmem => 60
  | .smem => 0
  | _ => 0

abbrev bufTy : (tb : Table) → Fin (tcTables nBuf tb) → BufTy
  | .hbm, ⟨0, _⟩ => ⟨S8192x1024, .f32⟩
  | .hbm, ⟨1, _⟩ => ⟨S4x2x1024, .f32⟩
  | .hbm, ⟨2, _⟩ => ⟨S4x2x1024x2816, .f32⟩
  | .hbm, ⟨3, _⟩ => ⟨S4x2x1024x2816, .f32⟩
  | .hbm, ⟨4, _⟩ => ⟨S4x2x2816x1024, .f32⟩
  | .hbm, ⟨5, _⟩ => ⟨S8192x1024, .f32⟩
  | .hbm, ⟨6, _⟩ => ⟨S4x2x1024x2816, .bf16⟩
  | .hbm, ⟨7, _⟩ => ⟨S8x1024x4x704, .bf16⟩
  | .hbm, ⟨8, _⟩ => ⟨S4x8x1024x704, .bf16⟩
  | .hbm, ⟨9, _⟩ => ⟨S4x2x1024x2816, .bf16⟩
  | .hbm, ⟨10, _⟩ => ⟨S8x1024x4x704, .bf16⟩
  | .hbm, ⟨11, _⟩ => ⟨S4x8x1024x704, .bf16⟩
  | .hbm, ⟨12, _⟩ => ⟨S4x2x2816x1024, .bf16⟩
  | .hbm, ⟨13, _⟩ => ⟨S8x4x704x1024, .bf16⟩
  | .hbm, ⟨14, _⟩ => ⟨S4x8x704x1024, .bf16⟩
  | .hbm, ⟨15, _⟩ => ⟨S8x1024, .f32⟩
  | .hbm, ⟨16, _⟩ => ⟨S1x1024, .f32⟩
  | .hbm, ⟨17, _⟩ => ⟨S8192x1024, .f32⟩
  | .hbm, ⟨18, _⟩ => ⟨S8192x1024, .bf16⟩
  | .hbm, ⟨19, _⟩ => ⟨S4x8192x704, .bf16⟩
  | .hbm, ⟨20, _⟩ => ⟨S4x8192x704, .bf16⟩
  | .hbm, ⟨21, _⟩ => ⟨S4x8192x704, .bf16⟩
  | .hbm, ⟨22, _⟩ => ⟨S8192x1024, .f32⟩
  | .hbm, ⟨23, _⟩ => ⟨S4x8192x704, .bf16⟩
  | .hbm, ⟨24, _⟩ => ⟨S4x8192x704, .bf16⟩
  | .hbm, ⟨25, _⟩ => ⟨S8192x1024, .bf16⟩
  | .hbm, ⟨26, _⟩ => ⟨S1x1024, .f32⟩
  | .hbm, ⟨27, _⟩ => ⟨S4x8x1024x704, .f32⟩
  | .hbm, ⟨28, _⟩ => ⟨S4x8x1024x704, .f32⟩
  | .hbm, ⟨29, _⟩ => ⟨S4x8x704x1024, .f32⟩
  | .hbm, ⟨30, _⟩ => ⟨S4x1x1024x704, .f32⟩
  | .hbm, ⟨31, _⟩ => ⟨S4x1024x704, .f32⟩
  | .hbm, ⟨32, _⟩ => ⟨S4x1x1024x704, .f32⟩
  | .hbm, ⟨33, _⟩ => ⟨S4x1024x704, .f32⟩
  | .hbm, ⟨34, _⟩ => ⟨S4x1x704x1024, .f32⟩
  | .hbm, ⟨35, _⟩ => ⟨S4x704x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024x704, .bf16⟩
  | .local _ .vmem, ⟨4, _⟩ => ⟨S1x1x1024x704, .bf16⟩
  | .local _ .vmem, ⟨5, _⟩ => ⟨S1x1x1024x704, .bf16⟩
  | .local _ .vmem, ⟨6, _⟩ => ⟨S1x1x1024x704, .bf16⟩
  | .local _ .vmem, ⟨7, _⟩ => ⟨S1x1x704x1024, .bf16⟩
  | .local _ .vmem, ⟨8, _⟩ => ⟨S1x1x704x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1024x704, .bf16⟩
  | .local _ .vmem, ⟨14, _⟩ => ⟨S1x1024x704, .bf16⟩
  | .local _ .vmem, ⟨15, _⟩ => ⟨S1x1024x704, .bf16⟩
  | .local _ .vmem, ⟨16, _⟩ => ⟨S1x1024x704, .bf16⟩
  | .local _ .vmem, ⟨17, _⟩ => ⟨S1x1024x704, .bf16⟩
  | .local _ .vmem, ⟨18, _⟩ => ⟨S1x1024x704, .bf16⟩
  | .local _ .vmem, ⟨19, _⟩ => ⟨S1024x1024, .f32⟩
  | .local _ .vmem, ⟨20, _⟩ => ⟨S512x1024, .f32⟩
  | .local _ .vmem, ⟨21, _⟩ => ⟨S512x1024, .f32⟩
  | .local _ .vmem, ⟨22, _⟩ => ⟨S1x1024, .f32⟩
  | .local _ .vmem, ⟨23, _⟩ => ⟨S512x1024, .f32⟩
  | .local _ .vmem, ⟨24, _⟩ => ⟨S512x1024, .f32⟩
  | .local _ .vmem, ⟨25, _⟩ => ⟨S1x512x704, .bf16⟩
  | .local _ .vmem, ⟨26, _⟩ => ⟨S1x512x704, .bf16⟩
  | .local _ .vmem, ⟨27, _⟩ => ⟨S1x512x704, .bf16⟩
  | .local _ .vmem, ⟨28, _⟩ => ⟨S1x512x704, .bf16⟩
  | .local _ .vmem, ⟨29, _⟩ => ⟨S1x1x1024x704, .bf16⟩
  | .local _ .vmem, ⟨30, _⟩ => ⟨S1x1x1024x704, .bf16⟩
  | .local _ .vmem, ⟨31, _⟩ => ⟨S1x1x1024x704, .bf16⟩
  | .local _ .vmem, ⟨32, _⟩ => ⟨S1x1x1024x704, .bf16⟩
  | .local _ .vmem, ⟨33, _⟩ => ⟨S1x1x704x1024, .bf16⟩
  | .local _ .vmem, ⟨34, _⟩ => ⟨S1x1x704x1024, .bf16⟩
  | .local _ .vmem, ⟨35, _⟩ => ⟨S512x1024, .f32⟩
  | .local _ .vmem, ⟨36, _⟩ => ⟨S512x1024, .f32⟩
  | .local _ .vmem, ⟨37, _⟩ => ⟨S1x512x704, .bf16⟩
  | .local _ .vmem, ⟨38, _⟩ => ⟨S1x512x704, .bf16⟩
  | .local _ .vmem, ⟨39, _⟩ => ⟨S1x512x704, .bf16⟩
  | .local _ .vmem, ⟨40, _⟩ => ⟨S1x512x704, .bf16⟩
  | .local _ .vmem, ⟨41, _⟩ => ⟨S512x1024, .bf16⟩
  | .local _ .vmem, ⟨42, _⟩ => ⟨S512x1024, .bf16⟩
  | .local _ .vmem, ⟨43, _⟩ => ⟨S1x1024, .f32⟩
  | .local _ .vmem, ⟨44, _⟩ => ⟨S2048x1024, .bf16⟩
  | .local _ .vmem, ⟨45, _⟩ => ⟨S2048x1024, .bf16⟩
  | .local _ .vmem, ⟨46, _⟩ => ⟨S1x2048x704, .bf16⟩
  | .local _ .vmem, ⟨47, _⟩ => ⟨S1x2048x704, .bf16⟩
  | .local _ .vmem, ⟨48, _⟩ => ⟨S1x2048x704, .bf16⟩
  | .local _ .vmem, ⟨49, _⟩ => ⟨S1x2048x704, .bf16⟩
  | .local _ .vmem, ⟨50, _⟩ => ⟨S1x1x1024x704, .f32⟩
  | .local _ .vmem, ⟨51, _⟩ => ⟨S1x1x1024x704, .f32⟩
  | .local _ .vmem, ⟨52, _⟩ => ⟨S1x1x1024x704, .f32⟩
  | .local _ .vmem, ⟨53, _⟩ => ⟨S1x1x1024x704, .f32⟩
  | .local _ .vmem, ⟨54, _⟩ => ⟨S1x4096x704, .bf16⟩
  | .local _ .vmem, ⟨55, _⟩ => ⟨S1x4096x704, .bf16⟩
  | .local _ .vmem, ⟨56, _⟩ => ⟨S4096x1024, .bf16⟩
  | .local _ .vmem, ⟨57, _⟩ => ⟨S4096x1024, .bf16⟩
  | .local _ .vmem, ⟨58, _⟩ => ⟨S1x1x704x1024, .f32⟩
  | .local _ .vmem, ⟨59, _⟩ => ⟨S1x1x704x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTc nBuf bufTy 0 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v11_2 : Ref sig .tc := ⟨.hbm, 19, rfl⟩
abbrev main_v11_3 : Ref sig .tc := ⟨.hbm, 20, rfl⟩
abbrev main_v11_4 : Ref sig .tc := ⟨.hbm, 21, rfl⟩
abbrev main_v12_0 : Ref sig .tc := ⟨.hbm, 22, rfl⟩
abbrev main_v12_1 : Ref sig .tc := ⟨.hbm, 23, rfl⟩
abbrev main_v12_2 : Ref sig .tc := ⟨.hbm, 24, rfl⟩
abbrev main_v12_3 : Ref sig .tc := ⟨.hbm, 25, rfl⟩
abbrev main_v12_4 : Ref sig .tc := ⟨.hbm, 26, rfl⟩
abbrev main_v13_0 : Ref sig .tc := ⟨.hbm, 27, rfl⟩
abbrev main_v13_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg3_1 : Ref sig .tc := ⟨.vmem, 26, rfl⟩
abbrev cc1_stg4_0 : Ref sig .tc := ⟨.vmem, 27, rfl⟩
abbrev cc1_stg4_1 : Ref sig .tc := ⟨.vmem, 28, rfl⟩
abbrev cc1_stg5_0 : Ref sig .tc := ⟨.vmem, 29, rfl⟩
abbrev cc1_stg5_1 : Ref sig .tc := ⟨.vmem, 30, rfl⟩
abbrev cc1_stg6_0 : Ref sig .tc := ⟨.vmem, 31, rfl⟩
abbrev cc1_stg6_1 : Ref sig .tc := ⟨.vmem, 32, rfl⟩
abbrev cc1_stg7_0 : Ref sig .tc := ⟨.vmem, 33, rfl⟩
abbrev cc1_stg7_1 : Ref sig .tc := ⟨.vmem, 34, rfl⟩
abbrev cc1_stg8_0 : Ref sig .tc := ⟨.vmem, 35, rfl⟩
abbrev cc1_stg8_1 : Ref sig .tc := ⟨.vmem, 36, rfl⟩
abbrev cc1_stg9_0 : Ref sig .tc := ⟨.vmem, 37, rfl⟩
abbrev cc1_stg9_1 : Ref sig .tc := ⟨.vmem, 38, rfl⟩
abbrev cc1_stg10_0 : Ref sig .tc := ⟨.vmem, 39, rfl⟩
abbrev cc1_stg10_1 : Ref sig .tc := ⟨.vmem, 40, rfl⟩
abbrev cc1_stg11_0 : Ref sig .tc := ⟨.vmem, 41, rfl⟩
abbrev cc1_stg11_1 : Ref sig .tc := ⟨.vmem, 42, rfl⟩
abbrev cc1_stg12_0 : Ref sig .tc := ⟨.vmem, 43, rfl⟩
abbrev cc2_stg0_0 : Ref sig .tc := ⟨.vmem, 44, rfl⟩
abbrev cc2_stg0_1 : Ref sig .tc := ⟨.vmem, 45, rfl⟩
abbrev cc2_stg1_0 : Ref sig .tc := ⟨.vmem, 46, rfl⟩
abbrev cc2_stg1_1 : Ref sig .tc := ⟨.vmem, 47, rfl⟩
abbrev cc2_stg2_0 : Ref sig .tc := ⟨.vmem, 48, rfl⟩
abbrev cc2_stg2_1 : Ref sig .tc := ⟨.vmem, 49, rfl⟩
abbrev cc2_stg3_0 : Ref sig .tc := ⟨.vmem, 50, rfl⟩
abbrev cc2_stg3_1 : Ref sig .tc := ⟨.vmem, 51, rfl⟩
abbrev cc2_stg4_0 : Ref sig .tc := ⟨.vmem, 52, rfl⟩
abbrev cc2_stg4_1 : Ref sig .tc := ⟨.vmem, 53, rfl⟩
abbrev cc3_stg0_0 : Ref sig .tc := ⟨.vmem, 54, rfl⟩
abbrev cc3_stg0_1 : Ref sig .tc := ⟨.vmem, 55, rfl⟩
abbrev cc3_stg1_0 : Ref sig .tc := ⟨.vmem, 56, rfl⟩
abbrev cc3_stg1_1 : Ref sig .tc := ⟨.vmem, 57, rfl⟩
abbrev cc3_stg2_0 : Ref sig .tc := ⟨.vmem, 58, rfl⟩
abbrev cc3_stg2_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc1_sem0_0 : DmaSem sig := 19
abbrev cc1_sem0_1 : DmaSem sig := 20
abbrev cc1_sem1_0 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31
abbrev cc1_sem7_0 : DmaSem sig := 32
abbrev cc1_sem7_1 : DmaSem sig := 33
abbrev cc1_sem8_0 : DmaSem sig := 34
abbrev cc1_sem8_1 : DmaSem sig := 35
abbrev cc1_sem9_0 : DmaSem sig := 36
abbrev cc1_sem9_1 : DmaSem sig := 37
abbrev cc1_sem10_0 : DmaSem sig := 38
abbrev cc1_sem10_1 : DmaSem sig := 39
abbrev cc1_sem11_0 : DmaSem sig := 40
abbrev cc1_sem11_1 : DmaSem sig := 41
abbrev cc1_sem12_0 : DmaSem sig := 42
abbrev cc2_sem0_0 : DmaSem sig := 43
abbrev cc2_sem0_1 : DmaSem sig := 44
abbrev cc2_sem1_0 : DmaSem sig := 45
abbrev cc2_sem1_1 : DmaSem sig := 46
abbrev cc2_sem2_0 : DmaSem sig := 47
abbrev cc2_sem2_1 : DmaSem sig := 48
abbrev cc2_sem3_0 : DmaSem sig := 49
abbrev cc2_sem3_1 : DmaSem sig := 50
abbrev cc2_sem4_0 : DmaSem sig := 51
abbrev cc2_sem4_1 : DmaSem sig := 52
abbrev cc3_sem0_0 : DmaSem sig := 53
abbrev cc3_sem0_1 : DmaSem sig := 54
abbrev cc3_sem1_0 : DmaSem sig := 55
abbrev cc3_sem1_1 : DmaSem sig := 56
abbrev cc3_sem2_0 : DmaSem sig := 57
abbrev cc3_sem2_1 : DmaSem sig := 58

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v47 : BitVec 1 := Scalar.cmpi .eq arg1 c3_i32
  let v48 : BitVec 32 := Scalar.extui v47
  let c0_i32_34 : BitVec 32 := 0#32
  let v49 : BitVec 1 := Scalar.cmpi .ne v48 c0_i32_34
  v49

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c7_i32 : BitVec 32 := 7#32
  let c0_i32 : BitVec 32 := 0#32
  let c0_i32_0 : BitVec 32 := 0#32
  let c0_i32_1 : BitVec 32 := 0#32
  ![arg1.toNat, c7_i32.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c7_i32 : BitVec 32 := 7#32
  let c0_i32 : BitVec 32 := 0#32
  let c0_i32_0 : BitVec 32 := 0#32
  let c0_i32_1 : BitVec 32 := 0#32
  ![arg1.toNat, c7_i32.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c7_i32 : BitVec 32 := 7#32
  let c0_i32 : BitVec 32 := 0#32
  let c0_i32_0 : BitVec 32 := 0#32
  let c0_i32_1 : BitVec 32 := 0#32
  ![arg1.toNat, c7_i32.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨2, ![16, 4], ![false, false]⟩

def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k1_cond2 (i : grid1.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def k1_cond3 (i : grid1.Coords) : BitVec 1 :=
  let arg1 : BitVec 32 := BitVec.ofNat 32 (i 1).val
  let c3_i32 : BitVec 32 := 3#32
  let v40 : BitVec 1 := Scalar.cmpi .eq arg1 c3_i32
  let v41 : BitVec 32 := Scalar.extui v40
  let c0_i32_35 : BitVec 32 := 0#32
  let v42 : BitVec 1 := Scalar.cmpi .ne v41 c0_i32_35
  v42

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_5 (i : grid1.Coords) : Fin 4 → Nat :=
  let arg0 : BitVec 32 := BitVec.ofNat 32 (i 0).val
  let arg1 : BitVec 32 := BitVec.ofNat 32 (i 1).val
  let c7_i32 : BitVec 32 := 7#32
  let c0_i32 : BitVec 32 := 0#32
  let c0_i32_0 : BitVec 32 := 0#32
  let c0_i32_1 : BitVec 32 := 0#32
  ![arg1.toNat, c7_i32.toNat, c0_i32.toNat, c0_i32_0.toNat]

def cc1_transform_6 (i : grid1.Coords) : Fin 4 → Nat :=
  let arg0 : BitVec 32 := BitVec.ofNat 32 (i 0).val
  let arg1 : BitVec 32 := BitVec.ofNat 32 (i 1).val
  let c7_i32 : BitVec 32 := 7#32
  let c0_i32 : BitVec 32 := 0#32
  let c0_i32_0 : BitVec 32 := 0#32
  let c0_i32_1 : BitVec 32 := 0#32
  ![arg1.toNat, c7_i32.toNat, c0_i32.toNat, c0_i32_0.toNat]

def cc1_transform_7 (i : grid1.Coords) : Fin 4 → Nat :=
  let arg0 : BitVec 32 := BitVec.ofNat 32 (i 0).val
  let arg1 : BitVec 32 := BitVec.ofNat 32 (i 1).val
  let c7_i32 : BitVec 32 := 7#32
  let c0_i32 : BitVec 32 := 0#32
  let c0_i32_0 : BitVec 32 := 0#32
  let c0_i32_1 : BitVec 32 := 0#32
  ![arg1.toNat, c7_i32.toNat, c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x704 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x512x704 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1x1024x704 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S1x1x1024x704 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true]

abbrev stage1_7 : Fin 2 → Memref sig .tc .vmem S1x1x704x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![false, true]

abbrev stage1_8 : Fin 2 → Memref sig .tc .vmem S512x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S1x512x704 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1x512x704 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S512x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, false]

abbrev stage1_12 : Fin 1 → Memref sig .tc .vmem S1x1024 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false, false]

abbrev grid2 : Pipeline.Grid := ⟨2, ![4, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_3 (i : grid2.Coords) : Fin 4 → Nat :=
  let arg0 : BitVec 32 := BitVec.ofNat 32 (i 0).val
  let arg1 : BitVec 32 := BitVec.ofNat 32 (i 1).val
  let c7_i32 : BitVec 32 := 7#32
  let c0_i32 : BitVec 32 := 0#32
  let c0_i32_0 : BitVec 32 := 0#32
  let c0_i32_1 : BitVec 32 := 0#32
  ![arg0.toNat, c7_i32.toNat, c0_i32.toNat, c0_i32_0.toNat]

def cc2_transform_4 (i : grid2.Coords) : Fin 4 → Nat :=
  let arg0 : BitVec 32 := BitVec.ofNat 32 (i 0).val
  let arg1 : BitVec 32 := BitVec.ofNat 32 (i 1).val
  let c7_i32 : BitVec 32 := 7#32
  let c0_i32 : BitVec 32 := 0#32
  let c0_i32_0 : BitVec 32 := 0#32
  let c0_i32_1 : BitVec 32 := 0#32
  ![arg0.toNat, c7_i32.toNat, c0_i32.toNat, c0_i32_0.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1x2048x704 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x2048x704 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x1x1024x704 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x1x1024x704 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev grid3 : Pipeline.Grid := ⟨2, ![4, 2], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 4 → Nat :=
  let arg0 : BitVec 32 := BitVec.ofNat 32 (i 0).val
  let arg1 : BitVec 32 := BitVec.ofNat 32 (i 1).val
  let c7_i32 : BitVec 32 := 7#32
  let c0_i32 : BitVec 32 := 0#32
  let c0_i32_0 : BitVec 32 := 0#32
  let c0_i32_1 : BitVec 32 := 0#32
  ![arg0.toNat, c7_i32.toNat, c0_i32.toNat, c0_i32_0.toNat]

abbrev stage3_0 : Fin 2 → Memref sig .tc .vmem S1x4096x704 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1x1x704x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]
-- ==== ReferenceIdeal.lean ====
abbrev S8192x1024 : Shape := ⟨2, ![8192, 1024]⟩
abbrev S4x2x1024 : Shape := ⟨3, ![4, 2, 1024]⟩
abbrev S4x2x1024x2816 : Shape := ⟨4, ![4, 2, 1024, 2816]⟩
abbrev S4x2x2816x1024 : Shape := ⟨4, ![4, 2, 2816, 1024]⟩
abbrev S1x1x1024 : Shape := ⟨3, ![1, 1, 1024]⟩
abbrev S1024 : Shape := ⟨1, ![1024]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S1024x4x704 : Shape := ⟨3, ![1024, 4, 704]⟩
abbrev S4x1024x704 : Shape := ⟨3, ![4, 1024, 704]⟩
abbrev S4x704x1024 : Shape := ⟨3, ![4, 704, 1024]⟩

abbrev nBuf : Space → Nat
  | .hbm => 107
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x2x1024, .f32⟩
  | .hbm, ⟨2, _⟩ => ⟨S4x2x1024x2816, .f32⟩
  | .hbm, ⟨3, _⟩ => ⟨S4x2x1024x2816, .f32⟩
  | .hbm, ⟨4, _⟩ => ⟨S4x2x2816x1024, .f32⟩
  | .hbm, ⟨5, _⟩ => ⟨S8192x1024, .f32⟩
  | .hbm, ⟨6, _⟩ => ⟨S1x1x1024, .f32⟩
  | .hbm, ⟨7, _⟩ => ⟨S1024, .f32⟩
  | .hbm, ⟨8, _⟩ => ⟨S1x1x1024x2816, .f32⟩
  | .hbm, ⟨9, _⟩ => ⟨S1024x2816, .f32⟩
  | .hbm, ⟨10, _⟩ => ⟨S1x1x1024x2816, .f32⟩
  | .hbm, ⟨11, _⟩ => ⟨S1024x2816, .f32⟩
  | .hbm, ⟨12, _⟩ => ⟨S1x1x2816x1024, .f32⟩
  | .hbm, ⟨13, _⟩ => ⟨S2816x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S_, .f32⟩
  | .hbm, ⟨38, _⟩ => ⟨S8192x2816, .f32⟩
  | .hbm, ⟨39, _⟩ => ⟨S8192x2816, .f32⟩
  | .hbm, ⟨40, _⟩ => ⟨S_, .f32⟩
  | .hbm, ⟨41, _⟩ => ⟨S8192x2816, .f32⟩
  | .hbm, ⟨42, _⟩ => ⟨S8192x2816, .f32⟩
  | .hbm, ⟨43, _⟩ => ⟨S_, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x1024, .f32⟩
  | .hbm, ⟨51, _⟩ => ⟨S_, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192x1024, .f32⟩
  | .hbm, ⟨58, _⟩ => ⟨S8192x1024, .f32⟩
  | .hbm, ⟨59, _⟩ => ⟨S1024x2816, .f32⟩
  | .hbm, ⟨60, _⟩ => ⟨S2816x1024, .f32⟩
  | .hbm, ⟨61, _⟩ => ⟨S8192x2816, .f32⟩
  | .hbm, ⟨62, _⟩ => ⟨S8192x2816, .f32⟩
  | .hbm, ⟨63, _⟩ => ⟨S8192x2816, .f32⟩
  | .hbm, ⟨64, _⟩ => ⟨S2816x1024, .f32⟩
  | .hbm, ⟨65, _⟩ => ⟨S1024x2816, .f32⟩
  | .hbm, ⟨66, _⟩ => ⟨S8192x1024, .f32⟩
  | .hbm, ⟨67, _⟩ => ⟨S8192x2816, .f32⟩
  | .hbm, ⟨68, _⟩ => ⟨S8192x2816, .f32⟩
  | .hbm, ⟨69, _⟩ => ⟨S8192x2816, .f32⟩
  | .hbm, ⟨70, _⟩ => ⟨S8192x2816, .f32⟩
  | .hbm, ⟨71, _⟩ => ⟨S2816x1024, .f32⟩
  | .hbm, ⟨72, _⟩ => ⟨S1024x2816, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S8192x1024, .f32⟩
  | .hbm, ⟨80, _⟩ => ⟨S8192x1024, .f32⟩
  | .hbm, ⟨81, _⟩ => ⟨S_, .f32⟩
  | .hbm, ⟨82, _⟩ => ⟨S1024, .f32⟩
  | .hbm, ⟨83, _⟩ => ⟨S8192x1024, .f32⟩
  | .hbm, ⟨84, _⟩ => ⟨S_, .f32⟩
  | .hbm, ⟨85, _⟩ => ⟨S8192, .f32⟩
  | .hbm, ⟨86, _⟩ => ⟨S8192x1, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x1, .f32⟩
  | .hbm, ⟨91, _⟩ => ⟨S_, .f32⟩
  | .hbm, ⟨92, _⟩ => ⟨S8192x1, .f32⟩
  | .hbm, ⟨93, _⟩ => ⟨S8192x1, .f32⟩
  | .hbm, ⟨94, _⟩ => ⟨S_, .f32⟩
  | .hbm, ⟨95, _⟩ => ⟨S8192, .f32⟩
  | .hbm, ⟨96, _⟩ => ⟨S8192x1024, .f32⟩
  | .hbm, ⟨97, _⟩ => ⟨S8192x1024, .f32⟩
  | .hbm, ⟨98, _⟩ => ⟨S8192x1024, .f32⟩
  | .hbm, ⟨99, _⟩ => ⟨S8192x1024, .f32⟩
  | .hbm, ⟨100, _⟩ => ⟨S8192x1024, .f32⟩
  | .hbm, ⟨101, _⟩ => ⟨S1x1024, .f32⟩
  | .hbm, ⟨102, _⟩ => ⟨S1024x4x704, .f32⟩
  | .hbm, ⟨103, _⟩ => ⟨S4x1024x704, .f32⟩
  | .hbm, ⟨104, _⟩ => ⟨S1024x4x704, .f32⟩
  | .hbm, ⟨105, _⟩ => ⟨S4x1024x704, .f32⟩
  | .hbm, ⟨106, _⟩ => ⟨S4x704x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_v25_2 : Ref sig .tc := ⟨.hbm, 42, rfl⟩
abbrev main_call0_cst_1 : Ref sig .tc := ⟨.hbm, 43, rfl⟩
abbrev main_call0_v6 : Ref sig .tc := ⟨.hbm, 44, rfl⟩
abbrev main_call0_v7 : Ref sig .tc := ⟨.hbm, 45, rfl⟩
abbrev main_v25_1 : Ref sig .tc := ⟨.hbm, 46, rfl⟩
abbrev main_v25_0 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_3 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_4 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_5 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_6 : Ref sig .tc := ⟨.hbm, 81, rfl⟩
abbrev main_v53 : Ref sig .tc := ⟨.hbm, 82, rfl⟩
abbrev main_v54 : Ref sig .tc := ⟨.hbm, 83, rfl⟩
abbrev main_cst_7 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_8 : Ref sig .tc := ⟨.hbm, 91, rfl⟩
abbrev main_v61 : Ref sig .tc := ⟨.hbm, 92, rfl⟩
abbrev main_v62 : Ref sig .tc := ⟨.hbm, 93, rfl⟩
abbrev main_cst_9 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩

abbrev nD : Nat := 1
abbrev τ : Topo := Topo.v7x

variable {F : FTy → Type} [FloatOps F]
-- ==== Kernel6.lean ====
abbrev S8192x1024 : Shape := ⟨2, ![8192, 1024]⟩
abbrev S4x2x1024 : Shape := ⟨3, ![4, 2, 1024]⟩
abbrev S4x2x1024x2816 : Shape := ⟨4, ![4, 2, 1024, 2816]⟩
abbrev S4x2x2816x1024 : Shape := ⟨4, ![4, 2, 2816, 1024]⟩
abbrev S8x1024x4x704 : Shape := ⟨4, ![8, 1024, 4, 704]⟩
abbrev S4x8x1024x704 : Shape := ⟨4, ![4, 8, 1024, 704]⟩
abbrev S8x4x704x1024 : Shape := ⟨4, ![8, 4, 704, 1024]⟩
abbrev S4x8x704x1024 : Shape := ⟨4, ![4, 8, 704, 1024]⟩
abbrev S8x1024 : Shape := ⟨2, ![8, 1024]⟩
abbrev S1x1024 : Shape := ⟨2, ![1, 1024]⟩
abbrev S4x8192x704 : Shape := ⟨3, ![4, 8192, 704]⟩
abbrev S1024x1024 : Shape := ⟨2, ![1024, 1024]⟩
abbrev S1x1x1024x704 : Shape := ⟨4, ![1, 1, 1024, 704]⟩
abbrev S1x1x704x1024 : Shape := ⟨4, ![1, 1, 704, 1024]⟩
abbrev S1x1024x704 : Shape := ⟨3, ![1, 1024, 704]⟩
abbrev S1024 : Shape := ⟨1, ![1024]⟩
abbrev S1024x1 : Shape := ⟨2, ![1024, 1]⟩
abbrev S1024x704 : Shape := ⟨2, ![1024, 704]⟩
abbrev S704x1024 : Shape := ⟨2, ![704, 1024]⟩
abbrev S512x1024 : Shape := ⟨2, ![512, 1024]⟩
abbrev S1x512x704 : Shape := ⟨3, ![1, 512, 704]⟩
abbrev S512x704 : Shape := ⟨2, ![512, 704]⟩
abbrev S512 : Shape := ⟨1, ![512]⟩
abbrev S512x1 : Shape := ⟨2, ![512, 1]⟩
abbrev S2048x1024 : Shape := ⟨2, ![2048, 1024]⟩
abbrev S1x2048x704 : Shape := ⟨3, ![1, 2048, 704]⟩
abbrev S1024x2048 : Shape := ⟨2, ![1024, 2048]⟩
abbrev S2048x704 : Shape := ⟨2, ![2048, 704]⟩
abbrev S1x4096x704 : Shape := ⟨3, ![1, 4096, 704]⟩
abbrev S4096x1024 : Shape := ⟨2, ![4096, 1024]⟩
abbrev S4096x704 : Shape := ⟨2, ![4096, 704]⟩
abbrev S4x1x1024x704 : Shape := ⟨4, ![4, 1, 1024, 704]⟩
abbrev S4x1024x704 : Shape := ⟨3, ![4, 1024, 704]⟩
abbrev S4x1x704x1024 : Shape := ⟨4, ![4, 1, 704, 1024]⟩
abbrev S4x704x1024 : Shape := ⟨3, ![4, 704, 1024]⟩

abbrev nBuf : Space → Nat
  | .hbm => 36
  | .vmem => 60
  | .smem => 0
  | _ => 0

abbrev bufTy : (tb : Table) → Fin (tcTables nBuf tb) → BufTy
  | .hbm, ⟨0, _⟩ => ⟨S8192x1024, .f32⟩
  | .hbm, ⟨1, _⟩ => ⟨S4x2x1024, .f32⟩
  | .hbm, ⟨2, _⟩ => ⟨S4x2x1024x2816, .f32⟩
  | .hbm, ⟨3, _⟩ => ⟨S4x2x1024x2816, .f32⟩
  | .hbm, ⟨4, _⟩ => ⟨S4x2x2816x1024, .f32⟩
  | .hbm, ⟨5, _⟩ => ⟨S8192x1024, .f32⟩
  | .hbm, ⟨6, _⟩ => ⟨S4x2x1024x2816, .bf16⟩
  | .hbm, ⟨7, _⟩ => ⟨S8x1024x4x704, .bf16⟩
  | .hbm, ⟨8, _⟩ => ⟨S4x8x1024x704, .bf16⟩
  | .hbm, ⟨9, _⟩ => ⟨S4x2x1024x2816, .bf16⟩
  | .hbm, ⟨10, _⟩ => ⟨S8x1024x4x704, .bf16⟩
  | .hbm, ⟨11, _⟩ => ⟨S4x8x1024x704, .bf16⟩
  | .hbm, ⟨12, _⟩ => ⟨S4x2x2816x1024, .bf16⟩
  | .hbm, ⟨13, _⟩ => ⟨S8x4x704x1024, .bf16⟩
  | .hbm, ⟨14, _⟩ => ⟨S4x8x704x1024, .bf16⟩
  | .hbm, ⟨15, _⟩ => ⟨S8x1024, .f32⟩
  | .hbm, ⟨16, _⟩ => ⟨S1x1024, .f32⟩
  | .hbm, ⟨17, _⟩ => ⟨S8192x1024, .f32⟩
  | .hbm, ⟨18, _⟩ => ⟨S8192x1024, .bf16⟩
  | .hbm, ⟨19, _⟩ => ⟨S4x8192x704, .bf16⟩
  | .hbm, ⟨20, _⟩ => ⟨S4x8192x704, .bf16⟩
  | .hbm, ⟨21, _⟩ => ⟨S4x8192x704, .bf16⟩
  | .hbm, ⟨22, _⟩ => ⟨S8192x1024, .f32⟩
  | .hbm, ⟨23, _⟩ => ⟨S4x8192x704, .bf16⟩
  | .hbm, ⟨24, _⟩ => ⟨S4x8192x704, .bf16⟩
  | .hbm, ⟨25, _⟩ => ⟨S8192x1024, .bf16⟩
  | .hbm, ⟨26, _⟩ => ⟨S1x1024, .f32⟩
  | .hbm, ⟨27, _⟩ => ⟨S4x8x1024x704, .f32⟩
  | .hbm, ⟨28, _⟩ => ⟨S4x8x1024x704, .f32⟩
  | .hbm, ⟨29, _⟩ => ⟨S4x8x704x1024, .f32⟩
  | .hbm, ⟨30, _⟩ => ⟨S4x1x1024x704, .f32⟩
  | .hbm, ⟨31, _⟩ => ⟨S4x1024x704, .f32⟩
  | .hbm, ⟨32, _⟩ => ⟨S4x1x1024x704, .f32⟩
  | .hbm, ⟨33, _⟩ => ⟨S4x1024x704, .f32⟩
  | .hbm, ⟨34, _⟩ => ⟨S4x1x704x1024, .f32⟩
  | .hbm, ⟨35, _⟩ => ⟨S4x704x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024x704, .bf16⟩
  | .local _ .vmem, ⟨4, _⟩ => ⟨S1x1x1024x704, .bf16⟩
  | .local _ .vmem, ⟨5, _⟩ => ⟨S1x1x1024x704, .bf16⟩
  | .local _ .vmem, ⟨6, _⟩ => ⟨S1x1x1024x704, .bf16⟩
  | .local _ .vmem, ⟨7, _⟩ => ⟨S1x1x704x1024, .bf16⟩
  | .local _ .vmem, ⟨8, _⟩ => ⟨S1x1x704x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1024x704, .bf16⟩
  | .local _ .vmem, ⟨14, _⟩ => ⟨S1x1024x704, .bf16⟩
  | .local _ .vmem, ⟨15, _⟩ => ⟨S1x1024x704, .bf16⟩
  | .local _ .vmem, ⟨16, _⟩ => ⟨S1x1024x704, .bf16⟩
  | .local _ .vmem, ⟨17, _⟩ => ⟨S1x1024x704, .bf16⟩
  | .local _ .vmem, ⟨18, _⟩ => ⟨S1x1024x704, .bf16⟩
  | .local _ .vmem, ⟨19, _⟩ => ⟨S1024x1024, .f32⟩
  | .local _ .vmem, ⟨20, _⟩ => ⟨S512x1024, .f32⟩
  | .local _ .vmem, ⟨21, _⟩ => ⟨S512x1024, .f32⟩
  | .local _ .vmem, ⟨22, _⟩ => ⟨S1x1024, .f32⟩
  | .local _ .vmem, ⟨23, _⟩ => ⟨S512x1024, .f32⟩
  | .local _ .vmem, ⟨24, _⟩ => ⟨S512x1024, .f32⟩
  | .local _ .vmem, ⟨25, _⟩ => ⟨S1x512x704, .bf16⟩
  | .local _ .vmem, ⟨26, _⟩ => ⟨S1x512x704, .bf16⟩
  | .local _ .vmem, ⟨27, _⟩ => ⟨S1x512x704, .bf16⟩
  | .local _ .vmem, ⟨28, _⟩ => ⟨S1x512x704, .bf16⟩
  | .local _ .vmem, ⟨29, _⟩ => ⟨S1x1x1024x704, .bf16⟩
  | .local _ .vmem, ⟨30, _⟩ => ⟨S1x1x1024x704, .bf16⟩
  | .local _ .vmem, ⟨31, _⟩ => ⟨S1x1x1024x704, .bf16⟩
  | .local _ .vmem, ⟨32, _⟩ => ⟨S1x1x1024x704, .bf16⟩
  | .local _ .vmem, ⟨33, _⟩ => ⟨S1x1x704x1024, .bf16⟩
  | .local _ .vmem, ⟨34, _⟩ => ⟨S1x1x704x1024, .bf16⟩
  | .local _ .vmem, ⟨35, _⟩ => ⟨S512x1024, .f32⟩
  | .local _ .vmem, ⟨36, _⟩ => ⟨S512x1024, .f32⟩
  | .local _ .vmem, ⟨37, _⟩ => ⟨S1x512x704, .bf16⟩
  | .local _ .vmem, ⟨38, _⟩ => ⟨S1x512x704, .bf16⟩
  | .local _ .vmem, ⟨39, _⟩ => ⟨S1x512x704, .bf16⟩
  | .local _ .vmem, ⟨40, _⟩ => ⟨S1x512x704, .bf16⟩
  | .local _ .vmem, ⟨41, _⟩ => ⟨S512x1024, .bf16⟩
  | .local _ .vmem, ⟨42, _⟩ => ⟨S512x1024, .bf16⟩
  | .local _ .vmem, ⟨43, _⟩ => ⟨S1x1024, .f32⟩
  | .local _ .vmem, ⟨44, _⟩ => ⟨S2048x1024, .bf16⟩
  | .local _ .vmem, ⟨45, _⟩ => ⟨S2048x1024, .bf16⟩
  | .local _ .vmem, ⟨46, _⟩ => ⟨S1x2048x704, .bf16⟩
  | .local _ .vmem, ⟨47, _⟩ => ⟨S1x2048x704, .bf16⟩
  | .local _ .vmem, ⟨48, _⟩ => ⟨S1x2048x704, .bf16⟩
  | .local _ .vmem, ⟨49, _⟩ => ⟨S1x2048x704, .bf16⟩
  | .local _ .vmem, ⟨50, _⟩ => ⟨S1x1x1024x704, .f32⟩
  | .local _ .vmem, ⟨51, _⟩ => ⟨S1x1x1024x704, .f32⟩
  | .local _ .vmem, ⟨52, _⟩ => ⟨S1x1x1024x704, .f32⟩
  | .local _ .vmem, ⟨53, _⟩ => ⟨S1x1x1024x704, .f32⟩
  | .local _ .vmem, ⟨54, _⟩ => ⟨S1x4096x704, .bf16⟩
  | .local _ .vmem, ⟨55, _⟩ => ⟨S1x4096x704, .bf16⟩
  | .local _ .vmem, ⟨56, _⟩ => ⟨S4096x1024, .bf16⟩
  | .local _ .vmem, ⟨57, _⟩ => ⟨S4096x1024, .bf16⟩
  | .local _ .vmem, ⟨58, _⟩ => ⟨S1x1x704x1024, .f32⟩
  | .local _ .vmem, ⟨59, _⟩ => ⟨S1x1x704x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTc nBuf bufTy 0 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v11_2 : Ref sig .tc := ⟨.hbm, 19, rfl⟩
abbrev main_v11_3 : Ref sig .tc := ⟨.hbm, 20, rfl⟩
abbrev main_v11_4 : Ref sig .tc := ⟨.hbm, 21, rfl⟩
abbrev main_v12_0 : Ref sig .tc := ⟨.hbm, 22, rfl⟩
abbrev main_v12_1 : Ref sig .tc := ⟨.hbm, 23, rfl⟩
abbrev main_v12_2 : Ref sig .tc := ⟨.hbm, 24, rfl⟩
abbrev main_v12_3 : Ref sig .tc := ⟨.hbm, 25, rfl⟩
abbrev main_v12_4 : Ref sig .tc := ⟨.hbm, 26, rfl⟩
abbrev main_v13_0 : Ref sig .tc := ⟨.hbm, 27, rfl⟩
abbrev main_v13_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg3_1 : Ref sig .tc := ⟨.vmem, 26, rfl⟩
abbrev cc1_stg4_0 : Ref sig .tc := ⟨.vmem, 27, rfl⟩
abbrev cc1_stg4_1 : Ref sig .tc := ⟨.vmem, 28, rfl⟩
abbrev cc1_stg5_0 : Ref sig .tc := ⟨.vmem, 29, rfl⟩
abbrev cc1_stg5_1 : Ref sig .tc := ⟨.vmem, 30, rfl⟩
abbrev cc1_stg6_0 : Ref sig .tc := ⟨.vmem, 31, rfl⟩
abbrev cc1_stg6_1 : Ref sig .tc := ⟨.vmem, 32, rfl⟩
abbrev cc1_stg7_0 : Ref sig .tc := ⟨.vmem, 33, rfl⟩
abbrev cc1_stg7_1 : Ref sig .tc := ⟨.vmem, 34, rfl⟩
abbrev cc1_stg8_0 : Ref sig .tc := ⟨.vmem, 35, rfl⟩
abbrev cc1_stg8_1 : Ref sig .tc := ⟨.vmem, 36, rfl⟩
abbrev cc1_stg9_0 : Ref sig .tc := ⟨.vmem, 37, rfl⟩
abbrev cc1_stg9_1 : Ref sig .tc := ⟨.vmem, 38, rfl⟩
abbrev cc1_stg10_0 : Ref sig .tc := ⟨.vmem, 39, rfl⟩
abbrev cc1_stg10_1 : Ref sig .tc := ⟨.vmem, 40, rfl⟩
abbrev cc1_stg11_0 : Ref sig .tc := ⟨.vmem, 41, rfl⟩
abbrev cc1_stg11_1 : Ref sig .tc := ⟨.vmem, 42, rfl⟩
abbrev cc1_stg12_0 : Ref sig .tc := ⟨.vmem, 43, rfl⟩
abbrev cc2_stg0_0 : Ref sig .tc := ⟨.vmem, 44, rfl⟩
abbrev cc2_stg0_1 : Ref sig .tc := ⟨.vmem, 45, rfl⟩
abbrev cc2_stg1_0 : Ref sig .tc := ⟨.vmem, 46, rfl⟩
abbrev cc2_stg1_1 : Ref sig .tc := ⟨.vmem, 47, rfl⟩
abbrev cc2_stg2_0 : Ref sig .tc := ⟨.vmem, 48, rfl⟩
abbrev cc2_stg2_1 : Ref sig .tc := ⟨.vmem, 49, rfl⟩
abbrev cc2_stg3_0 : Ref sig .tc := ⟨.vmem, 50, rfl⟩
abbrev cc2_stg3_1 : Ref sig .tc := ⟨.vmem, 51, rfl⟩
abbrev cc2_stg4_0 : Ref sig .tc := ⟨.vmem, 52, rfl⟩
abbrev cc2_stg4_1 : Ref sig .tc := ⟨.vmem, 53, rfl⟩
abbrev cc3_stg0_0 : Ref sig .tc := ⟨.vmem, 54, rfl⟩
abbrev cc3_stg0_1 : Ref sig .tc := ⟨.vmem, 55, rfl⟩
abbrev cc3_stg1_0 : Ref sig .tc := ⟨.vmem, 56, rfl⟩
abbrev cc3_stg1_1 : Ref sig .tc := ⟨.vmem, 57, rfl⟩
abbrev cc3_stg2_0 : Ref sig .tc := ⟨.vmem, 58, rfl⟩
abbrev cc3_stg2_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc1_sem0_0 : DmaSem sig := 19
abbrev cc1_sem0_1 : DmaSem sig := 20
abbrev cc1_sem1_0 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31
abbrev cc1_sem7_0 : DmaSem sig := 32
abbrev cc1_sem7_1 : DmaSem sig := 33
abbrev cc1_sem8_0 : DmaSem sig := 34
abbrev cc1_sem8_1 : DmaSem sig := 35
abbrev cc1_sem9_0 : DmaSem sig := 36
abbrev cc1_sem9_1 : DmaSem sig := 37
abbrev cc1_sem10_0 : DmaSem sig := 38
abbrev cc1_sem10_1 : DmaSem sig := 39
abbrev cc1_sem11_0 : DmaSem sig := 40
abbrev cc1_sem11_1 : DmaSem sig := 41
abbrev cc1_sem12_0 : DmaSem sig := 42
abbrev cc2_sem0_0 : DmaSem sig := 43
abbrev cc2_sem0_1 : DmaSem sig := 44
abbrev cc2_sem1_0 : DmaSem sig := 45
abbrev cc2_sem1_1 : DmaSem sig := 46
abbrev cc2_sem2_0 : DmaSem sig := 47
abbrev cc2_sem2_1 : DmaSem sig := 48
abbrev cc2_sem3_0 : DmaSem sig := 49
abbrev cc2_sem3_1 : DmaSem sig := 50
abbrev cc2_sem4_0 : DmaSem sig := 51
abbrev cc2_sem4_1 : DmaSem sig := 52
abbrev cc3_sem0_0 : DmaSem sig := 53
abbrev cc3_sem0_1 : DmaSem sig := 54
abbrev cc3_sem1_0 : DmaSem sig := 55
abbrev cc3_sem1_1 : DmaSem sig := 56
abbrev cc3_sem2_0 : DmaSem sig := 57
abbrev cc3_sem2_1 : DmaSem sig := 58

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v47 : BitVec 1 := Scalar.cmpi .eq arg1 c3_i32
  let v48 : BitVec 32 := Scalar.extui v47
  let c0_i32_34 : BitVec 32 := 0#32
  let v49 : BitVec 1 := Scalar.cmpi .ne v48 c0_i32_34
  v49

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c6_i32 : BitVec 32 := 6#32
  let c0_i32 : BitVec 32 := 0#32
  let c0_i32_0 : BitVec 32 := 0#32
  let c0_i32_1 : BitVec 32 := 0#32
  ![arg1.toNat, c6_i32.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c6_i32 : BitVec 32 := 6#32
  let c0_i32 : BitVec 32 := 0#32
  let c0_i32_0 : BitVec 32 := 0#32
  let c0_i32_1 : BitVec 32 := 0#32
  ![arg1.toNat, c6_i32.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c6_i32 : BitVec 32 := 6#32
  let c0_i32 : BitVec 32 := 0#32
  let c0_i32_0 : BitVec 32 := 0#32
  let c0_i32_1 : BitVec 32 := 0#32
  ![arg1.toNat, c6_i32.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨2, ![16, 4], ![false, false]⟩

def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k1_cond2 (i : grid1.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def k1_cond3 (i : grid1.Coords) : BitVec 1 :=
  let arg1 : BitVec 32 := BitVec.ofNat 32 (i 1).val
  let c3_i32 : BitVec 32 := 3#32
  let v40 : BitVec 1 := Scalar.cmpi .eq arg1 c3_i32
  let v41 : BitVec 32 := Scalar.extui v40
  let c0_i32_35 : BitVec 32 := 0#32
  let v42 : BitVec 1 := Scalar.cmpi .ne v41 c0_i32_35
  v42

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_5 (i : grid1.Coords) : Fin 4 → Nat :=
  let arg0 : BitVec 32 := BitVec.ofNat 32 (i 0).val
  let arg1 : BitVec 32 := BitVec.ofNat 32 (i 1).val
  let c6_i32 : BitVec 32 := 6#32
  let c0_i32 : BitVec 32 := 0#32
  let c0_i32_0 : BitVec 32 := 0#32
  let c0_i32_1 : BitVec 32 := 0#32
  ![arg1.toNat, c6_i32.toNat, c0_i32.toNat, c0_i32_0.toNat]

def cc1_transform_6 (i : grid1.Coords) : Fin 4 → Nat :=
  let arg0 : BitVec 32 := BitVec.ofNat 32 (i 0).val
  let arg1 : BitVec 32 := BitVec.ofNat 32 (i 1).val
  let c6_i32 : BitVec 32 := 6#32
  let c0_i32 : BitVec 32 := 0#32
  let c0_i32_0 : BitVec 32 := 0#32
  let c0_i32_1 : BitVec 32 := 0#32
  ![arg1.toNat, c6_i32.toNat, c0_i32.toNat, c0_i32_0.toNat]

def cc1_transform_7 (i : grid1.Coords) : Fin 4 → Nat :=
  let arg0 : BitVec 32 := BitVec.ofNat 32 (i 0).val
  let arg1 : BitVec 32 := BitVec.ofNat 32 (i 1).val
  let c6_i32 : BitVec 32 := 6#32
  let c0_i32 : BitVec 32 := 0#32
  let c0_i32_0 : BitVec 32 := 0#32
  let c0_i32_1 : BitVec 32 := 0#32
  ![arg1.toNat, c6_i32.toNat, c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x704 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x512x704 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1x1024x704 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S1x1x1024x704 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true]

abbrev stage1_7 : Fin 2 → Memref sig .tc .vmem S1x1x704x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![false, true]

abbrev stage1_8 : Fin 2 → Memref sig .tc .vmem S512x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S1x512x704 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1x512x704 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S512x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, false]

abbrev stage1_12 : Fin 1 → Memref sig .tc .vmem S1x1024 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false, false]

abbrev grid2 : Pipeline.Grid := ⟨2, ![4, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_3 (i : grid2.Coords) : Fin 4 → Nat :=
  let arg0 : BitVec 32 := BitVec.ofNat 32 (i 0).val
  let arg1 : BitVec 32 := BitVec.ofNat 32 (i 1).val
  let c6_i32 : BitVec 32 := 6#32
  let c0_i32 : BitVec 32 := 0#32
  let c0_i32_0 : BitVec 32 := 0#32
  let c0_i32_1 : BitVec 32 := 0#32
  ![arg0.toNat, c6_i32.toNat, c0_i32.toNat, c0_i32_0.toNat]

def cc2_transform_4 (i : grid2.Coords) : Fin 4 → Nat :=
  let arg0 : BitVec 32 := BitVec.ofNat 32 (i 0).val
  let arg1 : BitVec 32 := BitVec.ofNat 32 (i 1).val
  let c6_i32 : BitVec 32 := 6#32
  let c0_i32 : BitVec 32 := 0#32
  let c0_i32_0 : BitVec 32 := 0#32
  let c0_i32_1 : BitVec 32 := 0#32
  ![arg0.toNat, c6_i32.toNat, c0_i32.toNat, c0_i32_0.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1x2048x704 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x2048x704 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x1x1024x704 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x1x1024x704 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev grid3 : Pipeline.Grid := ⟨2, ![4, 2], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 4 → Nat :=
  let arg0 : BitVec 32 := BitVec.ofNat 32 (i 0).val
  let arg1 : BitVec 32 := BitVec.ofNat 32 (i 1).val
  let c6_i32 : BitVec 32 := 6#32
  let c0_i32 : BitVec 32 := 0#32
  let c0_i32_0 : BitVec 32 := 0#32
  let c0_i32_1 : BitVec 32 := 0#32
  ![arg0.toNat, c6_i32.toNat, c0_i32.toNat, c0_i32_0.toNat]

abbrev stage3_0 : Fin 2 → Memref sig .tc .vmem S1x4096x704 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1x1x704x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]
-- ==== Kernel6Ideal.lean ====
abbrev S8192x1024 : Shape := ⟨2, ![8192, 1024]⟩
abbrev S4x2x1024 : Shape := ⟨3, ![4, 2, 1024]⟩
abbrev S4x2x1024x2816 : Shape := ⟨4, ![4, 2, 1024, 2816]⟩
abbrev S4x2x2816x1024 : Shape := ⟨4, ![4, 2, 2816, 1024]⟩
abbrev S8x1024x4x704 : Shape := ⟨4, ![8, 1024, 4, 704]⟩
abbrev S4x8x1024x704 : Shape := ⟨4, ![4, 8, 1024, 704]⟩
abbrev S8x4x704x1024 : Shape := ⟨4, ![8, 4, 704, 1024]⟩
abbrev S4x8x704x1024 : Shape := ⟨4, ![4, 8, 704, 1024]⟩
abbrev S8x1024 : Shape := ⟨2, ![8, 1024]⟩
abbrev S1x1024 : Shape := ⟨2, ![1, 1024]⟩
abbrev S4x8192x704 : Shape := ⟨3, ![4, 8192, 704]⟩
abbrev S1024x1024 : Shape := ⟨2, ![1024, 1024]⟩
abbrev S1x1x1024x704 : Shape := ⟨4, ![1, 1, 1024, 704]⟩
abbrev S1x1x704x1024 : Shape := ⟨4, ![1, 1, 704, 1024]⟩
abbrev S1x1024x704 : Shape := ⟨3, ![1, 1024, 704]⟩
abbrev S1024 : Shape := ⟨1, ![1024]⟩
abbrev S1024x1 : Shape := ⟨2, ![1024, 1]⟩
abbrev S1024x704 : Shape := ⟨2, ![1024, 704]⟩
abbrev S704x1024 : Shape := ⟨2, ![704, 1024]⟩
abbrev S512x1024 : Shape := ⟨2, ![512, 1024]⟩
abbrev S1x512x704 : Shape := ⟨3, ![1, 512, 704]⟩
abbrev S512x704 : Shape := ⟨2, ![512, 704]⟩
abbrev S512 : Shape := ⟨1, ![512]⟩
abbrev S512x1 : Shape := ⟨2, ![512, 1]⟩
abbrev S2048x1024 : Shape := ⟨2, ![2048, 1024]⟩
abbrev S1x2048x704 : Shape := ⟨3, ![1, 2048, 704]⟩
abbrev S1024x2048 : Shape := ⟨2, ![1024, 2048]⟩
abbrev S2048x704 : Shape := ⟨2, ![2048, 704]⟩
abbrev S1x4096x704 : Shape := ⟨3, ![1, 4096, 704]⟩
abbrev S4096x1024 : Shape := ⟨2, ![4096, 1024]⟩
abbrev S4096x704 : Shape := ⟨2, ![4096, 704]⟩
abbrev S4x1x1024x704 : Shape := ⟨4, ![4, 1, 1024, 704]⟩
abbrev S4x1024x704 : Shape := ⟨3, ![4, 1024, 704]⟩
abbrev S4x1x704x1024 : Shape := ⟨4, ![4, 1, 704, 1024]⟩
abbrev S4x704x1024 : Shape := ⟨3, ![4, 704, 1024]⟩

abbrev nBuf : Space → Nat
  | .hbm => 36
  | .vmem => 60
  | .smem => 0
  | _ => 0

abbrev bufTy : (tb : Table) → Fin (tcTables nBuf tb) → BufTy
  | .hbm, ⟨0, _⟩ => ⟨S8192x1024, .f32⟩
  | .hbm, ⟨1, _⟩ => ⟨S4x2x1024, .f32⟩
  | .hbm, ⟨2, _⟩ => ⟨S4x2x1024x2816, .f32⟩
  | .hbm, ⟨3, _⟩ => ⟨S4x2x1024x2816, .f32⟩
  | .hbm, ⟨4, _⟩ => ⟨S4x2x2816x1024, .f32⟩
  | .hbm, ⟨5, _⟩ => ⟨S8192x1024, .f32⟩
  | .hbm, ⟨6, _⟩ => ⟨S4x2x1024x2816, .bf16⟩
  | .hbm, ⟨7, _⟩ => ⟨S8x1024x4x704, .bf16⟩
  | .hbm, ⟨8, _⟩ => ⟨S4x8x1024x704, .bf16⟩
  | .hbm, ⟨9, _⟩ => ⟨S4x2x1024x2816, .bf16⟩
  | .hbm, ⟨10, _⟩ => ⟨S8x1024x4x704, .bf16⟩
  | .hbm, ⟨11, _⟩ => ⟨S4x8x1024x704, .bf16⟩
  | .hbm, ⟨12, _⟩ => ⟨S4x2x2816x1024, .bf16⟩
  | .hbm, ⟨13, _⟩ => ⟨S8x4x704x1024, .bf16⟩
  | .hbm, ⟨14, _⟩ => ⟨S4x8x704x1024, .bf16⟩
  | .hbm, ⟨15, _⟩ => ⟨S8x1024, .f32⟩
  | .hbm, ⟨16, _⟩ => ⟨S1x1024, .f32⟩
  | .hbm, ⟨17, _⟩ => ⟨S8192x1024, .f32⟩
  | .hbm, ⟨18, _⟩ => ⟨S8192x1024, .bf16⟩
  | .hbm, ⟨19, _⟩ => ⟨S4x8192x704, .bf16⟩
  | .hbm, ⟨20, _⟩ => ⟨S4x8192x704, .bf16⟩
  | .hbm, ⟨21, _⟩ => ⟨S4x8192x704, .bf16⟩
  | .hbm, ⟨22, _⟩ => ⟨S8192x1024, .f32⟩
  | .hbm, ⟨23, _⟩ => ⟨S4x8192x704, .bf16⟩
  | .hbm, ⟨24, _⟩ => ⟨S4x8192x704, .bf16⟩
  | .hbm, ⟨25, _⟩ => ⟨S8192x1024, .bf16⟩
  | .hbm, ⟨26, _⟩ => ⟨S1x1024, .f32⟩
  | .hbm, ⟨27, _⟩ => ⟨S4x8x1024x704, .f32⟩
  | .hbm, ⟨28, _⟩ => ⟨S4x8x1024x704, .f32⟩
  | .hbm, ⟨29, _⟩ => ⟨S4x8x704x1024, .f32⟩
  | .hbm, ⟨30, _⟩ => ⟨S4x1x1024x704, .f32⟩
  | .hbm, ⟨31, _⟩ => ⟨S4x1024x704, .f32⟩
  | .hbm, ⟨32, _⟩ => ⟨S4x1x1024x704, .f32⟩
  | .hbm, ⟨33, _⟩ => ⟨S4x1024x704, .f32⟩
  | .hbm, ⟨34, _⟩ => ⟨S4x1x704x1024, .f32⟩
  | .hbm, ⟨35, _⟩ => ⟨S4x704x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024x704, .bf16⟩
  | .local _ .vmem, ⟨4, _⟩ => ⟨S1x1x1024x704, .bf16⟩
  | .local _ .vmem, ⟨5, _⟩ => ⟨S1x1x1024x704, .bf16⟩
  | .local _ .vmem, ⟨6, _⟩ => ⟨S1x1x1024x704, .bf16⟩
  | .local _ .vmem, ⟨7, _⟩ => ⟨S1x1x704x1024, .bf16⟩
  | .local _ .vmem, ⟨8, _⟩ => ⟨S1x1x704x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1024x704, .bf16⟩
  | .local _ .vmem, ⟨14, _⟩ => ⟨S1x1024x704, .bf16⟩
  | .local _ .vmem, ⟨15, _⟩ => ⟨S1x1024x704, .bf16⟩
  | .local _ .vmem, ⟨16, _⟩ => ⟨S1x1024x704, .bf16⟩
  | .local _ .vmem, ⟨17, _⟩ => ⟨S1x1024x704, .bf16⟩
  | .local _ .vmem, ⟨18, _⟩ => ⟨S1x1024x704, .bf16⟩
  | .local _ .vmem, ⟨19, _⟩ => ⟨S1024x1024, .f32⟩
  | .local _ .vmem, ⟨20, _⟩ => ⟨S512x1024, .f32⟩
  | .local _ .vmem, ⟨21, _⟩ => ⟨S512x1024, .f32⟩
  | .local _ .vmem, ⟨22, _⟩ => ⟨S1x1024, .f32⟩
  | .local _ .vmem, ⟨23, _⟩ => ⟨S512x1024, .f32⟩
  | .local _ .vmem, ⟨24, _⟩ => ⟨S512x1024, .f32⟩
  | .local _ .vmem, ⟨25, _⟩ => ⟨S1x512x704, .bf16⟩
  | .local _ .vmem, ⟨26, _⟩ => ⟨S1x512x704, .bf16⟩
  | .local _ .vmem, ⟨27, _⟩ => ⟨S1x512x704, .bf16⟩
  | .local _ .vmem, ⟨28, _⟩ => ⟨S1x512x704, .bf16⟩
  | .local _ .vmem, ⟨29, _⟩ => ⟨S1x1x1024x704, .bf16⟩
  | .local _ .vmem, ⟨30, _⟩ => ⟨S1x1x1024x704, .bf16⟩
  | .local _ .vmem, ⟨31, _⟩ => ⟨S1x1x1024x704, .bf16⟩
  | .local _ .vmem, ⟨32, _⟩ => ⟨S1x1x1024x704, .bf16⟩
  | .local _ .vmem, ⟨33, _⟩ => ⟨S1x1x704x1024, .bf16⟩
  | .local _ .vmem, ⟨34, _⟩ => ⟨S1x1x704x1024, .bf16⟩
  | .local _ .vmem, ⟨35, _⟩ => ⟨S512x1024, .f32⟩
  | .local _ .vmem, ⟨36, _⟩ => ⟨S512x1024, .f32⟩
  | .local _ .vmem, ⟨37, _⟩ => ⟨S1x512x704, .bf16⟩
  | .local _ .vmem, ⟨38, _⟩ => ⟨S1x512x704, .bf16⟩
  | .local _ .vmem, ⟨39, _⟩ => ⟨S1x512x704, .bf16⟩
  | .local _ .vmem, ⟨40, _⟩ => ⟨S1x512x704, .bf16⟩
  | .local _ .vmem, ⟨41, _⟩ => ⟨S512x1024, .bf16⟩
  | .local _ .vmem, ⟨42, _⟩ => ⟨S512x1024, .bf16⟩
  | .local _ .vmem, ⟨43, _⟩ => ⟨S1x1024, .f32⟩
  | .local _ .vmem, ⟨44, _⟩ => ⟨S2048x1024, .bf16⟩
  | .local _ .vmem, ⟨45, _⟩ => ⟨S2048x1024, .bf16⟩
  | .local _ .vmem, ⟨46, _⟩ => ⟨S1x2048x704, .bf16⟩
  | .local _ .vmem, ⟨47, _⟩ => ⟨S1x2048x704, .bf16⟩
  | .local _ .vmem, ⟨48, _⟩ => ⟨S1x2048x704, .bf16⟩
  | .local _ .vmem, ⟨49, _⟩ => ⟨S1x2048x704, .bf16⟩
  | .local _ .vmem, ⟨50, _⟩ => ⟨S1x1x1024x704, .f32⟩
  | .local _ .vmem, ⟨51, _⟩ => ⟨S1x1x1024x704, .f32⟩
  | .local _ .vmem, ⟨52, _⟩ => ⟨S1x1x1024x704, .f32⟩
  | .local _ .vmem, ⟨53, _⟩ => ⟨S1x1x1024x704, .f32⟩
  | .local _ .vmem, ⟨54, _⟩ => ⟨S1x4096x704, .bf16⟩
  | .local _ .vmem, ⟨55, _⟩ => ⟨S1x4096x704, .bf16⟩
  | .local _ .vmem, ⟨56, _⟩ => ⟨S4096x1024, .bf16⟩
  | .local _ .vmem, ⟨57, _⟩ => ⟨S4096x1024, .bf16⟩
  | .local _ .vmem, ⟨58, _⟩ => ⟨S1x1x704x1024, .f32⟩
  | .local _ .vmem, ⟨59, _⟩ => ⟨S1x1x704x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTc nBuf bufTy 0 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v11_2 : Ref sig .tc := ⟨.hbm, 19, rfl⟩
abbrev main_v11_3 : Ref sig .tc := ⟨.hbm, 20, rfl⟩
abbrev main_v11_4 : Ref sig .tc := ⟨.hbm, 21, rfl⟩
abbrev main_v12_0 : Ref sig .tc := ⟨.hbm, 22, rfl⟩
abbrev main_v12_1 : Ref sig .tc := ⟨.hbm, 23, rfl⟩
abbrev main_v12_2 : Ref sig .tc := ⟨.hbm, 24, rfl⟩
abbrev main_v12_3 : Ref sig .tc := ⟨.hbm, 25, rfl⟩
abbrev main_v12_4 : Ref sig .tc := ⟨.hbm, 26, rfl⟩
abbrev main_v13_0 : Ref sig .tc := ⟨.hbm, 27, rfl⟩
abbrev main_v13_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg3_1 : Ref sig .tc := ⟨.vmem, 26, rfl⟩
abbrev cc1_stg4_0 : Ref sig .tc := ⟨.vmem, 27, rfl⟩
abbrev cc1_stg4_1 : Ref sig .tc := ⟨.vmem, 28, rfl⟩
abbrev cc1_stg5_0 : Ref sig .tc := ⟨.vmem, 29, rfl⟩
abbrev cc1_stg5_1 : Ref sig .tc := ⟨.vmem, 30, rfl⟩
abbrev cc1_stg6_0 : Ref sig .tc := ⟨.vmem, 31, rfl⟩
abbrev cc1_stg6_1 : Ref sig .tc := ⟨.vmem, 32, rfl⟩
abbrev cc1_stg7_0 : Ref sig .tc := ⟨.vmem, 33, rfl⟩
abbrev cc1_stg7_1 : Ref sig .tc := ⟨.vmem, 34, rfl⟩
abbrev cc1_stg8_0 : Ref sig .tc := ⟨.vmem, 35, rfl⟩
abbrev cc1_stg8_1 : Ref sig .tc := ⟨.vmem, 36, rfl⟩
abbrev cc1_stg9_0 : Ref sig .tc := ⟨.vmem, 37, rfl⟩
abbrev cc1_stg9_1 : Ref sig .tc := ⟨.vmem, 38, rfl⟩
abbrev cc1_stg10_0 : Ref sig .tc := ⟨.vmem, 39, rfl⟩
abbrev cc1_stg10_1 : Ref sig .tc := ⟨.vmem, 40, rfl⟩
abbrev cc1_stg11_0 : Ref sig .tc := ⟨.vmem, 41, rfl⟩
abbrev cc1_stg11_1 : Ref sig .tc := ⟨.vmem, 42, rfl⟩
abbrev cc1_stg12_0 : Ref sig .tc := ⟨.vmem, 43, rfl⟩
abbrev cc2_stg0_0 : Ref sig .tc := ⟨.vmem, 44, rfl⟩
abbrev cc2_stg0_1 : Ref sig .tc := ⟨.vmem, 45, rfl⟩
abbrev cc2_stg1_0 : Ref sig .tc := ⟨.vmem, 46, rfl⟩
abbrev cc2_stg1_1 : Ref sig .tc := ⟨.vmem, 47, rfl⟩
abbrev cc2_stg2_0 : Ref sig .tc := ⟨.vmem, 48, rfl⟩
abbrev cc2_stg2_1 : Ref sig .tc := ⟨.vmem, 49, rfl⟩
abbrev cc2_stg3_0 : Ref sig .tc := ⟨.vmem, 50, rfl⟩
abbrev cc2_stg3_1 : Ref sig .tc := ⟨.vmem, 51, rfl⟩
abbrev cc2_stg4_0 : Ref sig .tc := ⟨.vmem, 52, rfl⟩
abbrev cc2_stg4_1 : Ref sig .tc := ⟨.vmem, 53, rfl⟩
abbrev cc3_stg0_0 : Ref sig .tc := ⟨.vmem, 54, rfl⟩
abbrev cc3_stg0_1 : Ref sig .tc := ⟨.vmem, 55, rfl⟩
abbrev cc3_stg1_0 : Ref sig .tc := ⟨.vmem, 56, rfl⟩
abbrev cc3_stg1_1 : Ref sig .tc := ⟨.vmem, 57, rfl⟩
abbrev cc3_stg2_0 : Ref sig .tc := ⟨.vmem, 58, rfl⟩
abbrev cc3_stg2_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc1_sem0_0 : DmaSem sig := 19
abbrev cc1_sem0_1 : DmaSem sig := 20
abbrev cc1_sem1_0 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31
abbrev cc1_sem7_0 : DmaSem sig := 32
abbrev cc1_sem7_1 : DmaSem sig := 33
abbrev cc1_sem8_0 : DmaSem sig := 34
abbrev cc1_sem8_1 : DmaSem sig := 35
abbrev cc1_sem9_0 : DmaSem sig := 36
abbrev cc1_sem9_1 : DmaSem sig := 37
abbrev cc1_sem10_0 : DmaSem sig := 38
abbrev cc1_sem10_1 : DmaSem sig := 39
abbrev cc1_sem11_0 : DmaSem sig := 40
abbrev cc1_sem11_1 : DmaSem sig := 41
abbrev cc1_sem12_0 : DmaSem sig := 42
abbrev cc2_sem0_0 : DmaSem sig := 43
abbrev cc2_sem0_1 : DmaSem sig := 44
abbrev cc2_sem1_0 : DmaSem sig := 45
abbrev cc2_sem1_1 : DmaSem sig := 46
abbrev cc2_sem2_0 : DmaSem sig := 47
abbrev cc2_sem2_1 : DmaSem sig := 48
abbrev cc2_sem3_0 : DmaSem sig := 49
abbrev cc2_sem3_1 : DmaSem sig := 50
abbrev cc2_sem4_0 : DmaSem sig := 51
abbrev cc2_sem4_1 : DmaSem sig := 52
abbrev cc3_sem0_0 : DmaSem sig := 53
abbrev cc3_sem0_1 : DmaSem sig := 54
abbrev cc3_sem1_0 : DmaSem sig := 55
abbrev cc3_sem1_1 : DmaSem sig := 56
abbrev cc3_sem2_0 : DmaSem sig := 57
abbrev cc3_sem2_1 : DmaSem sig := 58

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v47 : BitVec 1 := Scalar.cmpi .eq arg1 c3_i32
  let v48 : BitVec 32 := Scalar.extui v47
  let c0_i32_34 : BitVec 32 := 0#32
  let v49 : BitVec 1 := Scalar.cmpi .ne v48 c0_i32_34
  v49

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c6_i32 : BitVec 32 := 6#32
  let c0_i32 : BitVec 32 := 0#32
  let c0_i32_0 : BitVec 32 := 0#32
  let c0_i32_1 : BitVec 32 := 0#32
  ![arg1.toNat, c6_i32.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c6_i32 : BitVec 32 := 6#32
  let c0_i32 : BitVec 32 := 0#32
  let c0_i32_0 : BitVec 32 := 0#32
  let c0_i32_1 : BitVec 32 := 0#32
  ![arg1.toNat, c6_i32.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c6_i32 : BitVec 32 := 6#32
  let c0_i32 : BitVec 32 := 0#32
  let c0_i32_0 : BitVec 32 := 0#32
  let c0_i32_1 : BitVec 32 := 0#32
  ![arg1.toNat, c6_i32.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨2, ![16, 4], ![false, false]⟩

def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k1_cond2 (i : grid1.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def k1_cond3 (i : grid1.Coords) : BitVec 1 :=
  let arg1 : BitVec 32 := BitVec.ofNat 32 (i 1).val
  let c3_i32 : BitVec 32 := 3#32
  let v40 : BitVec 1 := Scalar.cmpi .eq arg1 c3_i32
  let v41 : BitVec 32 := Scalar.extui v40
  let c0_i32_35 : BitVec 32 := 0#32
  let v42 : BitVec 1 := Scalar.cmpi .ne v41 c0_i32_35
  v42

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_5 (i : grid1.Coords) : Fin 4 → Nat :=
  let arg0 : BitVec 32 := BitVec.ofNat 32 (i 0).val
  let arg1 : BitVec 32 := BitVec.ofNat 32 (i 1).val
  let c6_i32 : BitVec 32 := 6#32
  let c0_i32 : BitVec 32 := 0#32
  let c0_i32_0 : BitVec 32 := 0#32
  let c0_i32_1 : BitVec 32 := 0#32
  ![arg1.toNat, c6_i32.toNat, c0_i32.toNat, c0_i32_0.toNat]

def cc1_transform_6 (i : grid1.Coords) : Fin 4 → Nat :=
  let arg0 : BitVec 32 := BitVec.ofNat 32 (i 0).val
  let arg1 : BitVec 32 := BitVec.ofNat 32 (i 1).val
  let c6_i32 : BitVec 32 := 6#32
  let c0_i32 : BitVec 32 := 0#32
  let c0_i32_0 : BitVec 32 := 0#32
  let c0_i32_1 : BitVec 32 := 0#32
  ![arg1.toNat, c6_i32.toNat, c0_i32.toNat, c0_i32_0.toNat]

def cc1_transform_7 (i : grid1.Coords) : Fin 4 → Nat :=
  let arg0 : BitVec 32 := BitVec.ofNat 32 (i 0).val
  let arg1 : BitVec 32 := BitVec.ofNat 32 (i 1).val
  let c6_i32 : BitVec 32 := 6#32
  let c0_i32 : BitVec 32 := 0#32
  let c0_i32_0 : BitVec 32 := 0#32
  let c0_i32_1 : BitVec 32 := 0#32
  ![arg1.toNat, c6_i32.toNat, c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x704 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x512x704 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1x1024x704 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S1x1x1024x704 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true]

abbrev stage1_7 : Fin 2 → Memref sig .tc .vmem S1x1x704x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![false, true]

abbrev stage1_8 : Fin 2 → Memref sig .tc .vmem S512x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S1x512x704 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1x512x704 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S512x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, false]

abbrev stage1_12 : Fin 1 → Memref sig .tc .vmem S1x1024 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false, false]

abbrev grid2 : Pipeline.Grid := ⟨2, ![4, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_3 (i : grid2.Coords) : Fin 4 → Nat :=
  let arg0 : BitVec 32 := BitVec.ofNat 32 (i 0).val
  let arg1 : BitVec 32 := BitVec.ofNat 32 (i 1).val
  let c6_i32 : BitVec 32 := 6#32
  let c0_i32 : BitVec 32 := 0#32
  let c0_i32_0 : BitVec 32 := 0#32
  let c0_i32_1 : BitVec 32 := 0#32
  ![arg0.toNat, c6_i32.toNat, c0_i32.toNat, c0_i32_0.toNat]

def cc2_transform_4 (i : grid2.Coords) : Fin 4 → Nat :=
  let arg0 : BitVec 32 := BitVec.ofNat 32 (i 0).val
  let arg1 : BitVec 32 := BitVec.ofNat 32 (i 1).val
  let c6_i32 : BitVec 32 := 6#32
  let c0_i32 : BitVec 32 := 0#32
  let c0_i32_0 : BitVec 32 := 0#32
  let c0_i32_1 : BitVec 32 := 0#32
  ![arg0.toNat, c6_i32.toNat, c0_i32.toNat, c0_i32_0.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1x2048x704 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x2048x704 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x1x1024x704 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x1x1024x704 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev grid3 : Pipeline.Grid := ⟨2, ![4, 2], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 4 → Nat :=
  let arg0 : BitVec 32 := BitVec.ofNat 32 (i 0).val
  let arg1 : BitVec 32 := BitVec.ofNat 32 (i 1).val
  let c6_i32 : BitVec 32 := 6#32
  let c0_i32 : BitVec 32 := 0#32
  let c0_i32_0 : BitVec 32 := 0#32
  let c0_i32_1 : BitVec 32 := 0#32
  ![arg0.toNat, c6_i32.toNat, c0_i32.toNat, c0_i32_0.toNat]

abbrev stage3_0 : Fin 2 → Memref sig .tc .vmem S1x4096x704 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1x1x704x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]
-- ==== Reference6Ideal.lean ====
abbrev S8192x1024 : Shape := ⟨2, ![8192, 1024]⟩
abbrev S4x2x1024 : Shape := ⟨3, ![4, 2, 1024]⟩
abbrev S4x2x1024x2816 : Shape := ⟨4, ![4, 2, 1024, 2816]⟩
abbrev S4x2x2816x1024 : Shape := ⟨4, ![4, 2, 2816, 1024]⟩
abbrev S1x1x1024 : Shape := ⟨3, ![1, 1, 1024]⟩
abbrev S1024 : Shape := ⟨1, ![1024]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S1024x4x704 : Shape := ⟨3, ![1024, 4, 704]⟩
abbrev S4x1024x704 : Shape := ⟨3, ![4, 1024, 704]⟩
abbrev S4x704x1024 : Shape := ⟨3, ![4, 704, 1024]⟩

abbrev nBuf : Space → Nat
  | .hbm => 107
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x2x1024, .f32⟩
  | .hbm, ⟨2, _⟩ => ⟨S4x2x1024x2816, .f32⟩
  | .hbm, ⟨3, _⟩ => ⟨S4x2x1024x2816, .f32⟩
  | .hbm, ⟨4, _⟩ => ⟨S4x2x2816x1024, .f32⟩
  | .hbm, ⟨5, _⟩ => ⟨S8192x1024, .f32⟩
  | .hbm, ⟨6, _⟩ => ⟨S1x1x1024, .f32⟩
  | .hbm, ⟨7, _⟩ => ⟨S1024, .f32⟩
  | .hbm, ⟨8, _⟩ => ⟨S1x1x1024x2816, .f32⟩
  | .hbm, ⟨9, _⟩ => ⟨S1024x2816, .f32⟩
  | .hbm, ⟨10, _⟩ => ⟨S1x1x1024x2816, .f32⟩
  | .hbm, ⟨11, _⟩ => ⟨S1024x2816, .f32⟩
  | .hbm, ⟨12, _⟩ => ⟨S1x1x2816x1024, .f32⟩
  | .hbm, ⟨13, _⟩ => ⟨S2816x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S_, .f32⟩
  | .hbm, ⟨38, _⟩ => ⟨S8192x2816, .f32⟩
  | .hbm, ⟨39, _⟩ => ⟨S8192x2816, .f32⟩
  | .hbm, ⟨40, _⟩ => ⟨S_, .f32⟩
  | .hbm, ⟨41, _⟩ => ⟨S8192x2816, .f32⟩
  | .hbm, ⟨42, _⟩ => ⟨S8192x2816, .f32⟩
  | .hbm, ⟨43, _⟩ => ⟨S_, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x1024, .f32⟩
  | .hbm, ⟨51, _⟩ => ⟨S_, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192x1024, .f32⟩
  | .hbm, ⟨58, _⟩ => ⟨S8192x1024, .f32⟩
  | .hbm, ⟨59, _⟩ => ⟨S1024x2816, .f32⟩
  | .hbm, ⟨60, _⟩ => ⟨S2816x1024, .f32⟩
  | .hbm, ⟨61, _⟩ => ⟨S8192x2816, .f32⟩
  | .hbm, ⟨62, _⟩ => ⟨S8192x2816, .f32⟩
  | .hbm, ⟨63, _⟩ => ⟨S8192x2816, .f32⟩
  | .hbm, ⟨64, _⟩ => ⟨S2816x1024, .f32⟩
  | .hbm, ⟨65, _⟩ => ⟨S1024x2816, .f32⟩
  | .hbm, ⟨66, _⟩ => ⟨S8192x1024, .f32⟩
  | .hbm, ⟨67, _⟩ => ⟨S8192x2816, .f32⟩
  | .hbm, ⟨68, _⟩ => ⟨S8192x2816, .f32⟩
  | .hbm, ⟨69, _⟩ => ⟨S8192x2816, .f32⟩
  | .hbm, ⟨70, _⟩ => ⟨S8192x2816, .f32⟩
  | .hbm, ⟨71, _⟩ => ⟨S2816x1024, .f32⟩
  | .hbm, ⟨72, _⟩ => ⟨S1024x2816, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S8192x1024, .f32⟩
  | .hbm, ⟨80, _⟩ => ⟨S8192x1024, .f32⟩
  | .hbm, ⟨81, _⟩ => ⟨S_, .f32⟩
  | .hbm, ⟨82, _⟩ => ⟨S1024, .f32⟩
  | .hbm, ⟨83, _⟩ => ⟨S8192x1024, .f32⟩
  | .hbm, ⟨84, _⟩ => ⟨S_, .f32⟩
  | .hbm, ⟨85, _⟩ => ⟨S8192, .f32⟩
  | .hbm, ⟨86, _⟩ => ⟨S8192x1, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x1, .f32⟩
  | .hbm, ⟨91, _⟩ => ⟨S_, .f32⟩
  | .hbm, ⟨92, _⟩ => ⟨S8192x1, .f32⟩
  | .hbm, ⟨93, _⟩ => ⟨S8192x1, .f32⟩
  | .hbm, ⟨94, _⟩ => ⟨S_, .f32⟩
  | .hbm, ⟨95, _⟩ => ⟨S8192, .f32⟩
  | .hbm, ⟨96, _⟩ => ⟨S8192x1024, .f32⟩
  | .hbm, ⟨97, _⟩ => ⟨S8192x1024, .f32⟩
  | .hbm, ⟨98, _⟩ => ⟨S8192x1024, .f32⟩
  | .hbm, ⟨99, _⟩ => ⟨S8192x1024, .f32⟩
  | .hbm, ⟨100, _⟩ => ⟨S8192x1024, .f32⟩
  | .hbm, ⟨101, _⟩ => ⟨S1x1024, .f32⟩
  | .hbm, ⟨102, _⟩ => ⟨S1024x4x704, .f32⟩
  | .hbm, ⟨103, _⟩ => ⟨S4x1024x704, .f32⟩
  | .hbm, ⟨104, _⟩ => ⟨S1024x4x704, .f32⟩
  | .hbm, ⟨105, _⟩ => ⟨S4x1024x704, .f32⟩
  | .hbm, ⟨106, _⟩ => ⟨S4x704x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_v25_2 : Ref sig .tc := ⟨.hbm, 42, rfl⟩
abbrev main_call0_cst_1 : Ref sig .tc := ⟨.hbm, 43, rfl⟩
abbrev main_call0_v6 : Ref sig .tc := ⟨.hbm, 44, rfl⟩
abbrev main_call0_v7 : Ref sig .tc := ⟨.hbm, 45, rfl⟩
abbrev main_v25_1 : Ref sig .tc := ⟨.hbm, 46, rfl⟩
abbrev main_v25_0 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_3 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_4 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_5 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_6 : Ref sig .tc := ⟨.hbm, 81, rfl⟩
abbrev main_v53 : Ref sig .tc := ⟨.hbm, 82, rfl⟩
abbrev main_v54 : Ref sig .tc := ⟨.hbm, 83, rfl⟩
abbrev main_cst_7 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_8 : Ref sig .tc := ⟨.hbm, 91, rfl⟩
abbrev main_v61 : Ref sig .tc := ⟨.hbm, 92, rfl⟩
abbrev main_v62 : Ref sig .tc := ⟨.hbm, 93, rfl⟩
abbrev main_cst_9 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩

abbrev nD : Nat := 1
abbrev τ : Topo := Topo.v7x

variable {F : FTy → Type} [FloatOps F]
-- ==== Kernel5.lean ====
abbrev S8192x1024 : Shape := ⟨2, ![8192, 1024]⟩
abbrev S4x2x1024 : Shape := ⟨3, ![4, 2, 1024]⟩
abbrev S4x2x1024x2816 : Shape := ⟨4, ![4, 2, 1024, 2816]⟩
abbrev S4x2x2816x1024 : Shape := ⟨4, ![4, 2, 2816, 1024]⟩
abbrev S8x1024x4x704 : Shape := ⟨4, ![8, 1024, 4, 704]⟩
abbrev S4x8x1024x704 : Shape := ⟨4, ![4, 8, 1024, 704]⟩
abbrev S8x4x704x1024 : Shape := ⟨4, ![8, 4, 704, 1024]⟩
abbrev S4x8x704x1024 : Shape := ⟨4, ![4, 8, 704, 1024]⟩
abbrev S8x1024 : Shape := ⟨2, ![8, 1024]⟩
abbrev S1x1024 : Shape := ⟨2, ![1, 1024]⟩
abbrev S4x8192x704 : Shape := ⟨3, ![4, 8192, 704]⟩
abbrev S1024x1024 : Shape := ⟨2, ![1024, 1024]⟩
abbrev S1x1x1024x704 : Shape := ⟨4, ![1, 1, 1024, 704]⟩
abbrev S1x1x704x1024 : Shape := ⟨4, ![1, 1, 704, 1024]⟩
abbrev S1x1024x704 : Shape := ⟨3, ![1, 1024, 704]⟩
abbrev S1024 : Shape := ⟨1, ![1024]⟩
abbrev S1024x1 : Shape := ⟨2, ![1024, 1]⟩
abbrev S1024x704 : Shape := ⟨2, ![1024, 704]⟩
abbrev S704x1024 : Shape := ⟨2, ![704, 1024]⟩
abbrev S512x1024 : Shape := ⟨2, ![512, 1024]⟩
abbrev S1x512x704 : Shape := ⟨3, ![1, 512, 704]⟩
abbrev S512x704 : Shape := ⟨2, ![512, 704]⟩
abbrev S512 : Shape := ⟨1, ![512]⟩
abbrev S512x1 : Shape := ⟨2, ![512, 1]⟩
abbrev S2048x1024 : Shape := ⟨2, ![2048, 1024]⟩
abbrev S1x2048x704 : Shape := ⟨3, ![1, 2048, 704]⟩
abbrev S1024x2048 : Shape := ⟨2, ![1024, 2048]⟩
abbrev S2048x704 : Shape := ⟨2, ![2048, 704]⟩
abbrev S1x4096x704 : Shape := ⟨3, ![1, 4096, 704]⟩
abbrev S4096x1024 : Shape := ⟨2, ![4096, 1024]⟩
abbrev S4096x704 : Shape := ⟨2, ![4096, 704]⟩
abbrev S4x1x1024x704 : Shape := ⟨4, ![4, 1, 1024, 704]⟩
abbrev S4x1024x704 : Shape := ⟨3, ![4, 1024, 704]⟩
abbrev S4x1x704x1024 : Shape := ⟨4, ![4, 1, 704, 1024]⟩
abbrev S4x704x1024 : Shape := ⟨3, ![4, 704, 1024]⟩

abbrev nBuf : Space → Nat
  | .hbm => 36
  | .vmem => 60
  | .smem => 0
  | _ => 0

abbrev bufTy : (tb : Table) → Fin (tcTables nBuf tb) → BufTy
  | .hbm, ⟨0, _⟩ => ⟨S8192x1024, .f32⟩
  | .hbm, ⟨1, _⟩ => ⟨S4x2x1024, .f32⟩
  | .hbm, ⟨2, _⟩ => ⟨S4x2x1024x2816, .f32⟩
  | .hbm, ⟨3, _⟩ => ⟨S4x2x1024x2816, .f32⟩
  | .hbm, ⟨4, _⟩ => ⟨S4x2x2816x1024, .f32⟩
  | .hbm, ⟨5, _⟩ => ⟨S8192x1024, .f32⟩
  | .hbm, ⟨6, _⟩ => ⟨S4x2x1024x2816, .bf16⟩
  | .hbm, ⟨7, _⟩ => ⟨S8x1024x4x704, .bf16⟩
  | .hbm, ⟨8, _⟩ => ⟨S4x8x1024x704, .bf16⟩
  | .hbm, ⟨9, _⟩ => ⟨S4x2x1024x2816, .bf16⟩
  | .hbm, ⟨10, _⟩ => ⟨S8x1024x4x704, .bf16⟩
  | .hbm, ⟨11, _⟩ => ⟨S4x8x1024x704, .bf16⟩
  | .hbm, ⟨12, _⟩ => ⟨S4x2x2816x1024, .bf16⟩
  | .hbm, ⟨13, _⟩ => ⟨S8x4x704x1024, .bf16⟩
  | .hbm, ⟨14, _⟩ => ⟨S4x8x704x1024, .bf16⟩
  | .hbm, ⟨15, _⟩ => ⟨S8x1024, .f32⟩
  | .hbm, ⟨16, _⟩ => ⟨S1x1024, .f32⟩
  | .hbm, ⟨17, _⟩ => ⟨S8192x1024, .f32⟩
  | .hbm, ⟨18, _⟩ => ⟨S8192x1024, .bf16⟩
  | .hbm, ⟨19, _⟩ => ⟨S4x8192x704, .bf16⟩
  | .hbm, ⟨20, _⟩ => ⟨S4x8192x704, .bf16⟩
  | .hbm, ⟨21, _⟩ => ⟨S4x8192x704, .bf16⟩
  | .hbm, ⟨22, _⟩ => ⟨S8192x1024, .f32⟩
  | .hbm, ⟨23, _⟩ => ⟨S4x8192x704, .bf16⟩
  | .hbm, ⟨24, _⟩ => ⟨S4x8192x704, .bf16⟩
  | .hbm, ⟨25, _⟩ => ⟨S8192x1024, .bf16⟩
  | .hbm, ⟨26, _⟩ => ⟨S1x1024, .f32⟩
  | .hbm, ⟨27, _⟩ => ⟨S4x8x1024x704, .f32⟩
  | .hbm, ⟨28, _⟩ => ⟨S4x8x1024x704, .f32⟩
  | .hbm, ⟨29, _⟩ => ⟨S4x8x704x1024, .f32⟩
  | .hbm, ⟨30, _⟩ => ⟨S4x1x1024x704, .f32⟩
  | .hbm, ⟨31, _⟩ => ⟨S4x1024x704, .f32⟩
  | .hbm, ⟨32, _⟩ => ⟨S4x1x1024x704, .f32⟩
  | .hbm, ⟨33, _⟩ => ⟨S4x1024x704, .f32⟩
  | .hbm, ⟨34, _⟩ => ⟨S4x1x704x1024, .f32⟩
  | .hbm, ⟨35, _⟩ => ⟨S4x704x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024x704, .bf16⟩
  | .local _ .vmem, ⟨4, _⟩ => ⟨S1x1x1024x704, .bf16⟩
  | .local _ .vmem, ⟨5, _⟩ => ⟨S1x1x1024x704, .bf16⟩
  | .local _ .vmem, ⟨6, _⟩ => ⟨S1x1x1024x704, .bf16⟩
  | .local _ .vmem, ⟨7, _⟩ => ⟨S1x1x704x1024, .bf16⟩
  | .local _ .vmem, ⟨8, _⟩ => ⟨S1x1x704x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1024x704, .bf16⟩
  | .local _ .vmem, ⟨14, _⟩ => ⟨S1x1024x704, .bf16⟩
  | .local _ .vmem, ⟨15, _⟩ => ⟨S1x1024x704, .bf16⟩
  | .local _ .vmem, ⟨16, _⟩ => ⟨S1x1024x704, .bf16⟩
  | .local _ .vmem, ⟨17, _⟩ => ⟨S1x1024x704, .bf16⟩
  | .local _ .vmem, ⟨18, _⟩ => ⟨S1x1024x704, .bf16⟩
  | .local _ .vmem, ⟨19, _⟩ => ⟨S1024x1024, .f32⟩
  | .local _ .vmem, ⟨20, _⟩ => ⟨S512x1024, .f32⟩
  | .local _ .vmem, ⟨21, _⟩ => ⟨S512x1024, .f32⟩
  | .local _ .vmem, ⟨22, _⟩ => ⟨S1x1024, .f32⟩
  | .local _ .vmem, ⟨23, _⟩ => ⟨S512x1024, .f32⟩
  | .local _ .vmem, ⟨24, _⟩ => ⟨S512x1024, .f32⟩
  | .local _ .vmem, ⟨25, _⟩ => ⟨S1x512x704, .bf16⟩
  | .local _ .vmem, ⟨26, _⟩ => ⟨S1x512x704, .bf16⟩
  | .local _ .vmem, ⟨27, _⟩ => ⟨S1x512x704, .bf16⟩
  | .local _ .vmem, ⟨28, _⟩ => ⟨S1x512x704, .bf16⟩
  | .local _ .vmem, ⟨29, _⟩ => ⟨S1x1x1024x704, .bf16⟩
  | .local _ .vmem, ⟨30, _⟩ => ⟨S1x1x1024x704, .bf16⟩
  | .local _ .vmem, ⟨31, _⟩ => ⟨S1x1x1024x704, .bf16⟩
  | .local _ .vmem, ⟨32, _⟩ => ⟨S1x1x1024x704, .bf16⟩
  | .local _ .vmem, ⟨33, _⟩ => ⟨S1x1x704x1024, .bf16⟩
  | .local _ .vmem, ⟨34, _⟩ => ⟨S1x1x704x1024, .bf16⟩
  | .local _ .vmem, ⟨35, _⟩ => ⟨S512x1024, .f32⟩
  | .local _ .vmem, ⟨36, _⟩ => ⟨S512x1024, .f32⟩
  | .local _ .vmem, ⟨37, _⟩ => ⟨S1x512x704, .bf16⟩
  | .local _ .vmem, ⟨38, _⟩ => ⟨S1x512x704, .bf16⟩
  | .local _ .vmem, ⟨39, _⟩ => ⟨S1x512x704, .bf16⟩
  | .local _ .vmem, ⟨40, _⟩ => ⟨S1x512x704, .bf16⟩
  | .local _ .vmem, ⟨41, _⟩ => ⟨S512x1024, .bf16⟩
  | .local _ .vmem, ⟨42, _⟩ => ⟨S512x1024, .bf16⟩
  | .local _ .vmem, ⟨43, _⟩ => ⟨S1x1024, .f32⟩
  | .local _ .vmem, ⟨44, _⟩ => ⟨S2048x1024, .bf16⟩
  | .local _ .vmem, ⟨45, _⟩ => ⟨S2048x1024, .bf16⟩
  | .local _ .vmem, ⟨46, _⟩ => ⟨S1x2048x704, .bf16⟩
  | .local _ .vmem, ⟨47, _⟩ => ⟨S1x2048x704, .bf16⟩
  | .local _ .vmem, ⟨48, _⟩ => ⟨S1x2048x704, .bf16⟩
  | .local _ .vmem, ⟨49, _⟩ => ⟨S1x2048x704, .bf16⟩
  | .local _ .vmem, ⟨50, _⟩ => ⟨S1x1x1024x704, .f32⟩
  | .local _ .vmem, ⟨51, _⟩ => ⟨S1x1x1024x704, .f32⟩
  | .local _ .vmem, ⟨52, _⟩ => ⟨S1x1x1024x704, .f32⟩
  | .local _ .vmem, ⟨53, _⟩ => ⟨S1x1x1024x704, .f32⟩
  | .local _ .vmem, ⟨54, _⟩ => ⟨S1x4096x704, .bf16⟩
  | .local _ .vmem, ⟨55, _⟩ => ⟨S1x4096x704, .bf16⟩
  | .local _ .vmem, ⟨56, _⟩ => ⟨S4096x1024, .bf16⟩
  | .local _ .vmem, ⟨57, _⟩ => ⟨S4096x1024, .bf16⟩
  | .local _ .vmem, ⟨58, _⟩ => ⟨S1x1x704x1024, .f32⟩
  | .local _ .vmem, ⟨59, _⟩ => ⟨S1x1x704x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTc nBuf bufTy 0 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v11_2 : Ref sig .tc := ⟨.hbm, 19, rfl⟩
abbrev main_v11_3 : Ref sig .tc := ⟨.hbm, 20, rfl⟩
abbrev main_v11_4 : Ref sig .tc := ⟨.hbm, 21, rfl⟩
abbrev main_v12_0 : Ref sig .tc := ⟨.hbm, 22, rfl⟩
abbrev main_v12_1 : Ref sig .tc := ⟨.hbm, 23, rfl⟩
abbrev main_v12_2 : Ref sig .tc := ⟨.hbm, 24, rfl⟩
abbrev main_v12_3 : Ref sig .tc := ⟨.hbm, 25, rfl⟩
abbrev main_v12_4 : Ref sig .tc := ⟨.hbm, 26, rfl⟩
abbrev main_v13_0 : Ref sig .tc := ⟨.hbm, 27, rfl⟩
abbrev main_v13_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg3_1 : Ref sig .tc := ⟨.vmem, 26, rfl⟩
abbrev cc1_stg4_0 : Ref sig .tc := ⟨.vmem, 27, rfl⟩
abbrev cc1_stg4_1 : Ref sig .tc := ⟨.vmem, 28, rfl⟩
abbrev cc1_stg5_0 : Ref sig .tc := ⟨.vmem, 29, rfl⟩
abbrev cc1_stg5_1 : Ref sig .tc := ⟨.vmem, 30, rfl⟩
abbrev cc1_stg6_0 : Ref sig .tc := ⟨.vmem, 31, rfl⟩
abbrev cc1_stg6_1 : Ref sig .tc := ⟨.vmem, 32, rfl⟩
abbrev cc1_stg7_0 : Ref sig .tc := ⟨.vmem, 33, rfl⟩
abbrev cc1_stg7_1 : Ref sig .tc := ⟨.vmem, 34, rfl⟩
abbrev cc1_stg8_0 : Ref sig .tc := ⟨.vmem, 35, rfl⟩
abbrev cc1_stg8_1 : Ref sig .tc := ⟨.vmem, 36, rfl⟩
abbrev cc1_stg9_0 : Ref sig .tc := ⟨.vmem, 37, rfl⟩
abbrev cc1_stg9_1 : Ref sig .tc := ⟨.vmem, 38, rfl⟩
abbrev cc1_stg10_0 : Ref sig .tc := ⟨.vmem, 39, rfl⟩
abbrev cc1_stg10_1 : Ref sig .tc := ⟨.vmem, 40, rfl⟩
abbrev cc1_stg11_0 : Ref sig .tc := ⟨.vmem, 41, rfl⟩
abbrev cc1_stg11_1 : Ref sig .tc := ⟨.vmem, 42, rfl⟩
abbrev cc1_stg12_0 : Ref sig .tc := ⟨.vmem, 43, rfl⟩
abbrev cc2_stg0_0 : Ref sig .tc := ⟨.vmem, 44, rfl⟩
abbrev cc2_stg0_1 : Ref sig .tc := ⟨.vmem, 45, rfl⟩
abbrev cc2_stg1_0 : Ref sig .tc := ⟨.vmem, 46, rfl⟩
abbrev cc2_stg1_1 : Ref sig .tc := ⟨.vmem, 47, rfl⟩
abbrev cc2_stg2_0 : Ref sig .tc := ⟨.vmem, 48, rfl⟩
abbrev cc2_stg2_1 : Ref sig .tc := ⟨.vmem, 49, rfl⟩
abbrev cc2_stg3_0 : Ref sig .tc := ⟨.vmem, 50, rfl⟩
abbrev cc2_stg3_1 : Ref sig .tc := ⟨.vmem, 51, rfl⟩
abbrev cc2_stg4_0 : Ref sig .tc := ⟨.vmem, 52, rfl⟩
abbrev cc2_stg4_1 : Ref sig .tc := ⟨.vmem, 53, rfl⟩
abbrev cc3_stg0_0 : Ref sig .tc := ⟨.vmem, 54, rfl⟩
abbrev cc3_stg0_1 : Ref sig .tc := ⟨.vmem, 55, rfl⟩
abbrev cc3_stg1_0 : Ref sig .tc := ⟨.vmem, 56, rfl⟩
abbrev cc3_stg1_1 : Ref sig .tc := ⟨.vmem, 57, rfl⟩
abbrev cc3_stg2_0 : Ref sig .tc := ⟨.vmem, 58, rfl⟩
abbrev cc3_stg2_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc1_sem0_0 : DmaSem sig := 19
abbrev cc1_sem0_1 : DmaSem sig := 20
abbrev cc1_sem1_0 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31
abbrev cc1_sem7_0 : DmaSem sig := 32
abbrev cc1_sem7_1 : DmaSem sig := 33
abbrev cc1_sem8_0 : DmaSem sig := 34
abbrev cc1_sem8_1 : DmaSem sig := 35
abbrev cc1_sem9_0 : DmaSem sig := 36
abbrev cc1_sem9_1 : DmaSem sig := 37
abbrev cc1_sem10_0 : DmaSem sig := 38
abbrev cc1_sem10_1 : DmaSem sig := 39
abbrev cc1_sem11_0 : DmaSem sig := 40
abbrev cc1_sem11_1 : DmaSem sig := 41
abbrev cc1_sem12_0 : DmaSem sig := 42
abbrev cc2_sem0_0 : DmaSem sig := 43
abbrev cc2_sem0_1 : DmaSem sig := 44
abbrev cc2_sem1_0 : DmaSem sig := 45
abbrev cc2_sem1_1 : DmaSem sig := 46
abbrev cc2_sem2_0 : DmaSem sig := 47
abbrev cc2_sem2_1 : DmaSem sig := 48
abbrev cc2_sem3_0 : DmaSem sig := 49
abbrev cc2_sem3_1 : DmaSem sig := 50
abbrev cc2_sem4_0 : DmaSem sig := 51
abbrev cc2_sem4_1 : DmaSem sig := 52
abbrev cc3_sem0_0 : DmaSem sig := 53
abbrev cc3_sem0_1 : DmaSem sig := 54
abbrev cc3_sem1_0 : DmaSem sig := 55
abbrev cc3_sem1_1 : DmaSem sig := 56
abbrev cc3_sem2_0 : DmaSem sig := 57
abbrev cc3_sem2_1 : DmaSem sig := 58

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v47 : BitVec 1 := Scalar.cmpi .eq arg1 c3_i32
  let v48 : BitVec 32 := Scalar.extui v47
  let c0_i32_34 : BitVec 32 := 0#32
  let v49 : BitVec 1 := Scalar.cmpi .ne v48 c0_i32_34
  v49

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  let c0_i32_1 : BitVec 32 := 0#32
  ![arg1.toNat, c5_i32.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  let c0_i32_1 : BitVec 32 := 0#32
  ![arg1.toNat, c5_i32.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  let c0_i32_1 : BitVec 32 := 0#32
  ![arg1.toNat, c5_i32.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨2, ![16, 4], ![false, false]⟩

def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k1_cond2 (i : grid1.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def k1_cond3 (i : grid1.Coords) : BitVec 1 :=
  let arg1 : BitVec 32 := BitVec.ofNat 32 (i 1).val
  let c3_i32 : BitVec 32 := 3#32
  let v40 : BitVec 1 := Scalar.cmpi .eq arg1 c3_i32
  let v41 : BitVec 32 := Scalar.extui v40
  let c0_i32_35 : BitVec 32 := 0#32
  let v42 : BitVec 1 := Scalar.cmpi .ne v41 c0_i32_35
  v42

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_5 (i : grid1.Coords) : Fin 4 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  let c0_i32_1 : BitVec 32 := 0#32
  ![arg1.toNat, c5_i32.toNat, c0_i32.toNat, c0_i32_0.toNat]

def cc1_transform_6 (i : grid1.Coords) : Fin 4 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  let c0_i32_1 : BitVec 32 := 0#32
  ![arg1.toNat, c5_i32.toNat, c0_i32.toNat, c0_i32_0.toNat]

def cc1_transform_7 (i : grid1.Coords) : Fin 4 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  let c0_i32_1 : BitVec 32 := 0#32
  ![arg1.toNat, c5_i32.toNat, c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x704 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x512x704 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1x1024x704 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S1x1x1024x704 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true]

abbrev stage1_7 : Fin 2 → Memref sig .tc .vmem S1x1x704x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![false, true]

abbrev stage1_8 : Fin 2 → Memref sig .tc .vmem S512x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S1x512x704 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1x512x704 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S512x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, false]

abbrev stage1_12 : Fin 1 → Memref sig .tc .vmem S1x1024 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false, false]

abbrev grid2 : Pipeline.Grid := ⟨2, ![4, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_3 (i : grid2.Coords) : Fin 4 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  let c0_i32_1 : BitVec 32 := 0#32
  ![arg0.toNat, c5_i32.toNat, c0_i32.toNat, c0_i32_0.toNat]

def cc2_transform_4 (i : grid2.Coords) : Fin 4 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  let c0_i32_1 : BitVec 32 := 0#32
  ![arg0.toNat, c5_i32.toNat, c0_i32.toNat, c0_i32_0.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1x2048x704 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x2048x704 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x1x1024x704 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x1x1024x704 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev grid3 : Pipeline.Grid := ⟨2, ![4, 2], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 4 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  let c0_i32_1 : BitVec 32 := 0#32
  ![arg0.toNat, c5_i32.toNat, c0_i32.toNat, c0_i32_0.toNat]

abbrev stage3_0 : Fin 2 → Memref sig .tc .vmem S1x4096x704 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1x1x704x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]
-- ==== Kernel5Ideal.lean ====
abbrev S8192x1024 : Shape := ⟨2, ![8192, 1024]⟩
abbrev S4x2x1024 : Shape := ⟨3, ![4, 2, 1024]⟩
abbrev S4x2x1024x2816 : Shape := ⟨4, ![4, 2, 1024, 2816]⟩
abbrev S4x2x2816x1024 : Shape := ⟨4, ![4, 2, 2816, 1024]⟩
abbrev S8x1024x4x704 : Shape := ⟨4, ![8, 1024, 4, 704]⟩
abbrev S4x8x1024x704 : Shape := ⟨4, ![4, 8, 1024, 704]⟩
abbrev S8x4x704x1024 : Shape := ⟨4, ![8, 4, 704, 1024]⟩
abbrev S4x8x704x1024 : Shape := ⟨4, ![4, 8, 704, 1024]⟩
abbrev S8x1024 : Shape := ⟨2, ![8, 1024]⟩
abbrev S1x1024 : Shape := ⟨2, ![1, 1024]⟩
abbrev S4x8192x704 : Shape := ⟨3, ![4, 8192, 704]⟩
abbrev S1024x1024 : Shape := ⟨2, ![1024, 1024]⟩
abbrev S1x1x1024x704 : Shape := ⟨4, ![1, 1, 1024, 704]⟩
abbrev S1x1x704x1024 : Shape := ⟨4, ![1, 1, 704, 1024]⟩
abbrev S1x1024x704 : Shape := ⟨3, ![1, 1024, 704]⟩
abbrev S1024 : Shape := ⟨1, ![1024]⟩
abbrev S1024x1 : Shape := ⟨2, ![1024, 1]⟩
abbrev S1024x704 : Shape := ⟨2, ![1024, 704]⟩
abbrev S704x1024 : Shape := ⟨2, ![704, 1024]⟩
abbrev S512x1024 : Shape := ⟨2, ![512, 1024]⟩
abbrev S1x512x704 : Shape := ⟨3, ![1, 512, 704]⟩
abbrev S512x704 : Shape := ⟨2, ![512, 704]⟩
abbrev S512 : Shape := ⟨1, ![512]⟩
abbrev S512x1 : Shape := ⟨2, ![512, 1]⟩
abbrev S2048x1024 : Shape := ⟨2, ![2048, 1024]⟩
abbrev S1x2048x704 : Shape := ⟨3, ![1, 2048, 704]⟩
abbrev S1024x2048 : Shape := ⟨2, ![1024, 2048]⟩
abbrev S2048x704 : Shape := ⟨2, ![2048, 704]⟩
abbrev S1x4096x704 : Shape := ⟨3, ![1, 4096, 704]⟩
abbrev S4096x1024 : Shape := ⟨2, ![4096, 1024]⟩
abbrev S4096x704 : Shape := ⟨2, ![4096, 704]⟩
abbrev S4x1x1024x704 : Shape := ⟨4, ![4, 1, 1024, 704]⟩
abbrev S4x1024x704 : Shape := ⟨3, ![4, 1024, 704]⟩
abbrev S4x1x704x1024 : Shape := ⟨4, ![4, 1, 704, 1024]⟩
abbrev S4x704x1024 : Shape := ⟨3, ![4, 704, 1024]⟩

abbrev nBuf : Space → Nat
  | .hbm => 36
  | .vmem => 60
  | .smem => 0
  | _ => 0

abbrev bufTy : (tb : Table) → Fin (tcTables nBuf tb) → BufTy
  | .hbm, ⟨0, _⟩ => ⟨S8192x1024, .f32⟩
  | .hbm, ⟨1, _⟩ => ⟨S4x2x1024, .f32⟩
  | .hbm, ⟨2, _⟩ => ⟨S4x2x1024x2816, .f32⟩
  | .hbm, ⟨3, _⟩ => ⟨S4x2x1024x2816, .f32⟩
  | .hbm, ⟨4, _⟩ => ⟨S4x2x2816x1024, .f32⟩
  | .hbm, ⟨5, _⟩ => ⟨S8192x1024, .f32⟩
  | .hbm, ⟨6, _⟩ => ⟨S4x2x1024x2816, .bf16⟩
  | .hbm, ⟨7, _⟩ => ⟨S8x1024x4x704, .bf16⟩
  | .hbm, ⟨8, _⟩ => ⟨S4x8x1024x704, .bf16⟩
  | .hbm, ⟨9, _⟩ => ⟨S4x2x1024x2816, .bf16⟩
  | .hbm, ⟨10, _⟩ => ⟨S8x1024x4x704, .bf16⟩
  | .hbm, ⟨11, _⟩ => ⟨S4x8x1024x704, .bf16⟩
  | .hbm, ⟨12, _⟩ => ⟨S4x2x2816x1024, .bf16⟩
  | .hbm, ⟨13, _⟩ => ⟨S8x4x704x1024, .bf16⟩
  | .hbm, ⟨14, _⟩ => ⟨S4x8x704x1024, .bf16⟩
  | .hbm, ⟨15, _⟩ => ⟨S8x1024, .f32⟩
  | .hbm, ⟨16, _⟩ => ⟨S1x1024, .f32⟩
  | .hbm, ⟨17, _⟩ => ⟨S8192x1024, .f32⟩
  | .hbm, ⟨18, _⟩ => ⟨S8192x1024, .bf16⟩
  | .hbm, ⟨19, _⟩ => ⟨S4x8192x704, .bf16⟩
  | .hbm, ⟨20, _⟩ => ⟨S4x8192x704, .bf16⟩
  | .hbm, ⟨21, _⟩ => ⟨S4x8192x704, .bf16⟩
  | .hbm, ⟨22, _⟩ => ⟨S8192x1024, .f32⟩
  | .hbm, ⟨23, _⟩ => ⟨S4x8192x704, .bf16⟩
  | .hbm, ⟨24, _⟩ => ⟨S4x8192x704, .bf16⟩
  | .hbm, ⟨25, _⟩ => ⟨S8192x1024, .bf16⟩
  | .hbm, ⟨26, _⟩ => ⟨S1x1024, .f32⟩
  | .hbm, ⟨27, _⟩ => ⟨S4x8x1024x704, .f32⟩
  | .hbm, ⟨28, _⟩ => ⟨S4x8x1024x704, .f32⟩
  | .hbm, ⟨29, _⟩ => ⟨S4x8x704x1024, .f32⟩
  | .hbm, ⟨30, _⟩ => ⟨S4x1x1024x704, .f32⟩
  | .hbm, ⟨31, _⟩ => ⟨S4x1024x704, .f32⟩
  | .hbm, ⟨32, _⟩ => ⟨S4x1x1024x704, .f32⟩
  | .hbm, ⟨33, _⟩ => ⟨S4x1024x704, .f32⟩
  | .hbm, ⟨34, _⟩ => ⟨S4x1x704x1024, .f32⟩
  | .hbm, ⟨35, _⟩ => ⟨S4x704x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024x704, .bf16⟩
  | .local _ .vmem, ⟨4, _⟩ => ⟨S1x1x1024x704, .bf16⟩
  | .local _ .vmem, ⟨5, _⟩ => ⟨S1x1x1024x704, .bf16⟩
  | .local _ .vmem, ⟨6, _⟩ => ⟨S1x1x1024x704, .bf16⟩
  | .local _ .vmem, ⟨7, _⟩ => ⟨S1x1x704x1024, .bf16⟩
  | .local _ .vmem, ⟨8, _⟩ => ⟨S1x1x704x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1024x704, .bf16⟩
  | .local _ .vmem, ⟨14, _⟩ => ⟨S1x1024x704, .bf16⟩
  | .local _ .vmem, ⟨15, _⟩ => ⟨S1x1024x704, .bf16⟩
  | .local _ .vmem, ⟨16, _⟩ => ⟨S1x1024x704, .bf16⟩
  | .local _ .vmem, ⟨17, _⟩ => ⟨S1x1024x704, .bf16⟩
  | .local _ .vmem, ⟨18, _⟩ => ⟨S1x1024x704, .bf16⟩
  | .local _ .vmem, ⟨19, _⟩ => ⟨S1024x1024, .f32⟩
  | .local _ .vmem, ⟨20, _⟩ => ⟨S512x1024, .f32⟩
  | .local _ .vmem, ⟨21, _⟩ => ⟨S512x1024, .f32⟩
  | .local _ .vmem, ⟨22, _⟩ => ⟨S1x1024, .f32⟩
  | .local _ .vmem, ⟨23, _⟩ => ⟨S512x1024, .f32⟩
  | .local _ .vmem, ⟨24, _⟩ => ⟨S512x1024, .f32⟩
  | .local _ .vmem, ⟨25, _⟩ => ⟨S1x512x704, .bf16⟩
  | .local _ .vmem, ⟨26, _⟩ => ⟨S1x512x704, .bf16⟩
  | .local _ .vmem, ⟨27, _⟩ => ⟨S1x512x704, .bf16⟩
  | .local _ .vmem, ⟨28, _⟩ => ⟨S1x512x704, .bf16⟩
  | .local _ .vmem, ⟨29, _⟩ => ⟨S1x1x1024x704, .bf16⟩
  | .local _ .vmem, ⟨30, _⟩ => ⟨S1x1x1024x704, .bf16⟩
  | .local _ .vmem, ⟨31, _⟩ => ⟨S1x1x1024x704, .bf16⟩
  | .local _ .vmem, ⟨32, _⟩ => ⟨S1x1x1024x704, .bf16⟩
  | .local _ .vmem, ⟨33, _⟩ => ⟨S1x1x704x1024, .bf16⟩
  | .local _ .vmem, ⟨34, _⟩ => ⟨S1x1x704x1024, .bf16⟩
  | .local _ .vmem, ⟨35, _⟩ => ⟨S512x1024, .f32⟩
  | .local _ .vmem, ⟨36, _⟩ => ⟨S512x1024, .f32⟩
  | .local _ .vmem, ⟨37, _⟩ => ⟨S1x512x704, .bf16⟩
  | .local _ .vmem, ⟨38, _⟩ => ⟨S1x512x704, .bf16⟩
  | .local _ .vmem, ⟨39, _⟩ => ⟨S1x512x704, .bf16⟩
  | .local _ .vmem, ⟨40, _⟩ => ⟨S1x512x704, .bf16⟩
  | .local _ .vmem, ⟨41, _⟩ => ⟨S512x1024, .bf16⟩
  | .local _ .vmem, ⟨42, _⟩ => ⟨S512x1024, .bf16⟩
  | .local _ .vmem, ⟨43, _⟩ => ⟨S1x1024, .f32⟩
  | .local _ .vmem, ⟨44, _⟩ => ⟨S2048x1024, .bf16⟩
  | .local _ .vmem, ⟨45, _⟩ => ⟨S2048x1024, .bf16⟩
  | .local _ .vmem, ⟨46, _⟩ => ⟨S1x2048x704, .bf16⟩
  | .local _ .vmem, ⟨47, _⟩ => ⟨S1x2048x704, .bf16⟩
  | .local _ .vmem, ⟨48, _⟩ => ⟨S1x2048x704, .bf16⟩
  | .local _ .vmem, ⟨49, _⟩ => ⟨S1x2048x704, .bf16⟩
  | .local _ .vmem, ⟨50, _⟩ => ⟨S1x1x1024x704, .f32⟩
  | .local _ .vmem, ⟨51, _⟩ => ⟨S1x1x1024x704, .f32⟩
  | .local _ .vmem, ⟨52, _⟩ => ⟨S1x1x1024x704, .f32⟩
  | .local _ .vmem, ⟨53, _⟩ => ⟨S1x1x1024x704, .f32⟩
  | .local _ .vmem, ⟨54, _⟩ => ⟨S1x4096x704, .bf16⟩
  | .local _ .vmem, ⟨55, _⟩ => ⟨S1x4096x704, .bf16⟩
  | .local _ .vmem, ⟨56, _⟩ => ⟨S4096x1024, .bf16⟩
  | .local _ .vmem, ⟨57, _⟩ => ⟨S4096x1024, .bf16⟩
  | .local _ .vmem, ⟨58, _⟩ => ⟨S1x1x704x1024, .f32⟩
  | .local _ .vmem, ⟨59, _⟩ => ⟨S1x1x704x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTc nBuf bufTy 0 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v11_2 : Ref sig .tc := ⟨.hbm, 19, rfl⟩
abbrev main_v11_3 : Ref sig .tc := ⟨.hbm, 20, rfl⟩
abbrev main_v11_4 : Ref sig .tc := ⟨.hbm, 21, rfl⟩
abbrev main_v12_0 : Ref sig .tc := ⟨.hbm, 22, rfl⟩
abbrev main_v12_1 : Ref sig .tc := ⟨.hbm, 23, rfl⟩
abbrev main_v12_2 : Ref sig .tc := ⟨.hbm, 24, rfl⟩
abbrev main_v12_3 : Ref sig .tc := ⟨.hbm, 25, rfl⟩
abbrev main_v12_4 : Ref sig .tc := ⟨.hbm, 26, rfl⟩
abbrev main_v13_0 : Ref sig .tc := ⟨.hbm, 27, rfl⟩
abbrev main_v13_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg3_1 : Ref sig .tc := ⟨.vmem, 26, rfl⟩
abbrev cc1_stg4_0 : Ref sig .tc := ⟨.vmem, 27, rfl⟩
abbrev cc1_stg4_1 : Ref sig .tc := ⟨.vmem, 28, rfl⟩
abbrev cc1_stg5_0 : Ref sig .tc := ⟨.vmem, 29, rfl⟩
abbrev cc1_stg5_1 : Ref sig .tc := ⟨.vmem, 30, rfl⟩
abbrev cc1_stg6_0 : Ref sig .tc := ⟨.vmem, 31, rfl⟩
abbrev cc1_stg6_1 : Ref sig .tc := ⟨.vmem, 32, rfl⟩
abbrev cc1_stg7_0 : Ref sig .tc := ⟨.vmem, 33, rfl⟩
abbrev cc1_stg7_1 : Ref sig .tc := ⟨.vmem, 34, rfl⟩
abbrev cc1_stg8_0 : Ref sig .tc := ⟨.vmem, 35, rfl⟩
abbrev cc1_stg8_1 : Ref sig .tc := ⟨.vmem, 36, rfl⟩
abbrev cc1_stg9_0 : Ref sig .tc := ⟨.vmem, 37, rfl⟩
abbrev cc1_stg9_1 : Ref sig .tc := ⟨.vmem, 38, rfl⟩
abbrev cc1_stg10_0 : Ref sig .tc := ⟨.vmem, 39, rfl⟩
abbrev cc1_stg10_1 : Ref sig .tc := ⟨.vmem, 40, rfl⟩
abbrev cc1_stg11_0 : Ref sig .tc := ⟨.vmem, 41, rfl⟩
abbrev cc1_stg11_1 : Ref sig .tc := ⟨.vmem, 42, rfl⟩
abbrev cc1_stg12_0 : Ref sig .tc := ⟨.vmem, 43, rfl⟩
abbrev cc2_stg0_0 : Ref sig .tc := ⟨.vmem, 44, rfl⟩
abbrev cc2_stg0_1 : Ref sig .tc := ⟨.vmem, 45, rfl⟩
abbrev cc2_stg1_0 : Ref sig .tc := ⟨.vmem, 46, rfl⟩
abbrev cc2_stg1_1 : Ref sig .tc := ⟨.vmem, 47, rfl⟩
abbrev cc2_stg2_0 : Ref sig .tc := ⟨.vmem, 48, rfl⟩
abbrev cc2_stg2_1 : Ref sig .tc := ⟨.vmem, 49, rfl⟩
abbrev cc2_stg3_0 : Ref sig .tc := ⟨.vmem, 50, rfl⟩
abbrev cc2_stg3_1 : Ref sig .tc := ⟨.vmem, 51, rfl⟩
abbrev cc2_stg4_0 : Ref sig .tc := ⟨.vmem, 52, rfl⟩
abbrev cc2_stg4_1 : Ref sig .tc := ⟨.vmem, 53, rfl⟩
abbrev cc3_stg0_0 : Ref sig .tc := ⟨.vmem, 54, rfl⟩
abbrev cc3_stg0_1 : Ref sig .tc := ⟨.vmem, 55, rfl⟩
abbrev cc3_stg1_0 : Ref sig .tc := ⟨.vmem, 56, rfl⟩
abbrev cc3_stg1_1 : Ref sig .tc := ⟨.vmem, 57, rfl⟩
abbrev cc3_stg2_0 : Ref sig .tc := ⟨.vmem, 58, rfl⟩
abbrev cc3_stg2_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc1_sem0_0 : DmaSem sig := 19
abbrev cc1_sem0_1 : DmaSem sig := 20
abbrev cc1_sem1_0 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31
abbrev cc1_sem7_0 : DmaSem sig := 32
abbrev cc1_sem7_1 : DmaSem sig := 33
abbrev cc1_sem8_0 : DmaSem sig := 34
abbrev cc1_sem8_1 : DmaSem sig := 35
abbrev cc1_sem9_0 : DmaSem sig := 36
abbrev cc1_sem9_1 : DmaSem sig := 37
abbrev cc1_sem10_0 : DmaSem sig := 38
abbrev cc1_sem10_1 : DmaSem sig := 39
abbrev cc1_sem11_0 : DmaSem sig := 40
abbrev cc1_sem11_1 : DmaSem sig := 41
abbrev cc1_sem12_0 : DmaSem sig := 42
abbrev cc2_sem0_0 : DmaSem sig := 43
abbrev cc2_sem0_1 : DmaSem sig := 44
abbrev cc2_sem1_0 : DmaSem sig := 45
abbrev cc2_sem1_1 : DmaSem sig := 46
abbrev cc2_sem2_0 : DmaSem sig := 47
abbrev cc2_sem2_1 : DmaSem sig := 48
abbrev cc2_sem3_0 : DmaSem sig := 49
abbrev cc2_sem3_1 : DmaSem sig := 50
abbrev cc2_sem4_0 : DmaSem sig := 51
abbrev cc2_sem4_1 : DmaSem sig := 52
abbrev cc3_sem0_0 : DmaSem sig := 53
abbrev cc3_sem0_1 : DmaSem sig := 54
abbrev cc3_sem1_0 : DmaSem sig := 55
abbrev cc3_sem1_1 : DmaSem sig := 56
abbrev cc3_sem2_0 : DmaSem sig := 57
abbrev cc3_sem2_1 : DmaSem sig := 58

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v47 : BitVec 1 := Scalar.cmpi .eq arg1 c3_i32
  let v48 : BitVec 32 := Scalar.extui v47
  let c0_i32_34 : BitVec 32 := 0#32
  let v49 : BitVec 1 := Scalar.cmpi .ne v48 c0_i32_34
  v49

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  let c0_i32_1 : BitVec 32 := 0#32
  ![arg1.toNat, c5_i32.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  let c0_i32_1 : BitVec 32 := 0#32
  ![arg1.toNat, c5_i32.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  let c0_i32_1 : BitVec 32 := 0#32
  ![arg1.toNat, c5_i32.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨2, ![16, 4], ![false, false]⟩

def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k1_cond2 (i : grid1.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def k1_cond3 (i : grid1.Coords) : BitVec 1 :=
  let arg1 : BitVec 32 := BitVec.ofNat 32 (i 1).val
  let c3_i32 : BitVec 32 := 3#32
  let v40 : BitVec 1 := Scalar.cmpi .eq arg1 c3_i32
  let v41 : BitVec 32 := Scalar.extui v40
  let c0_i32_35 : BitVec 32 := 0#32
  let v42 : BitVec 1 := Scalar.cmpi .ne v41 c0_i32_35
  v42

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_5 (i : grid1.Coords) : Fin 4 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  let c0_i32_1 : BitVec 32 := 0#32
  ![arg1.toNat, c5_i32.toNat, c0_i32.toNat, c0_i32_0.toNat]

def cc1_transform_6 (i : grid1.Coords) : Fin 4 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  let c0_i32_1 : BitVec 32 := 0#32
  ![arg1.toNat, c5_i32.toNat, c0_i32.toNat, c0_i32_0.toNat]

def cc1_transform_7 (i : grid1.Coords) : Fin 4 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  let c0_i32_1 : BitVec 32 := 0#32
  ![arg1.toNat, c5_i32.toNat, c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x704 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x512x704 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1x1024x704 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S1x1x1024x704 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true]

abbrev stage1_7 : Fin 2 → Memref sig .tc .vmem S1x1x704x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![false, true]

abbrev stage1_8 : Fin 2 → Memref sig .tc .vmem S512x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S1x512x704 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1x512x704 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S512x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, false]

abbrev stage1_12 : Fin 1 → Memref sig .tc .vmem S1x1024 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false, false]

abbrev grid2 : Pipeline.Grid := ⟨2, ![4, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_3 (i : grid2.Coords) : Fin 4 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  let c0_i32_1 : BitVec 32 := 0#32
  ![arg0.toNat, c5_i32.toNat, c0_i32.toNat, c0_i32_0.toNat]

def cc2_transform_4 (i : grid2.Coords) : Fin 4 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  let c0_i32_1 : BitVec 32 := 0#32
  ![arg0.toNat, c5_i32.toNat, c0_i32.toNat, c0_i32_0.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1x2048x704 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x2048x704 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x1x1024x704 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x1x1024x704 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev grid3 : Pipeline.Grid := ⟨2, ![4, 2], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 4 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  let c0_i32_1 : BitVec 32 := 0#32
  ![arg0.toNat, c5_i32.toNat, c0_i32.toNat, c0_i32_0.toNat]

abbrev stage3_0 : Fin 2 → Memref sig .tc .vmem S1x4096x704 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1x1x704x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]
-- ==== Reference5Ideal.lean ====
abbrev S8192x1024 : Shape := ⟨2, ![8192, 1024]⟩
abbrev S4x2x1024 : Shape := ⟨3, ![4, 2, 1024]⟩
abbrev S4x2x1024x2816 : Shape := ⟨4, ![4, 2, 1024, 2816]⟩
abbrev S4x2x2816x1024 : Shape := ⟨4, ![4, 2, 2816, 1024]⟩
abbrev S1x1x1024 : Shape := ⟨3, ![1, 1, 1024]⟩
abbrev S1024 : Shape := ⟨1, ![1024]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S1024x4x704 : Shape := ⟨3, ![1024, 4, 704]⟩
abbrev S4x1024x704 : Shape := ⟨3, ![4, 1024, 704]⟩
abbrev S4x704x1024 : Shape := ⟨3, ![4, 704, 1024]⟩

abbrev nBuf : Space → Nat
  | .hbm => 107
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x2x1024, .f32⟩
  | .hbm, ⟨2, _⟩ => ⟨S4x2x1024x2816, .f32⟩
  | .hbm, ⟨3, _⟩ => ⟨S4x2x1024x2816, .f32⟩
  | .hbm, ⟨4, _⟩ => ⟨S4x2x2816x1024, .f32⟩
  | .hbm, ⟨5, _⟩ => ⟨S8192x1024, .f32⟩
  | .hbm, ⟨6, _⟩ => ⟨S1x1x1024, .f32⟩
  | .hbm, ⟨7, _⟩ => ⟨S1024, .f32⟩
  | .hbm, ⟨8, _⟩ => ⟨S1x1x1024x2816, .f32⟩
  | .hbm, ⟨9, _⟩ => ⟨S1024x2816, .f32⟩
  | .hbm, ⟨10, _⟩ => ⟨S1x1x1024x2816, .f32⟩
  | .hbm, ⟨11, _⟩ => ⟨S1024x2816, .f32⟩
  | .hbm, ⟨12, _⟩ => ⟨S1x1x2816x1024, .f32⟩
  | .hbm, ⟨13, _⟩ => ⟨S2816x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S_, .f32⟩
  | .hbm, ⟨38, _⟩ => ⟨S8192x2816, .f32⟩
  | .hbm, ⟨39, _⟩ => ⟨S8192x2816, .f32⟩
  | .hbm, ⟨40, _⟩ => ⟨S_, .f32⟩
  | .hbm, ⟨41, _⟩ => ⟨S8192x2816, .f32⟩
  | .hbm, ⟨42, _⟩ => ⟨S8192x2816, .f32⟩
  | .hbm, ⟨43, _⟩ => ⟨S_, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x1024, .f32⟩
  | .hbm, ⟨51, _⟩ => ⟨S_, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192x1024, .f32⟩
  | .hbm, ⟨58, _⟩ => ⟨S8192x1024, .f32⟩
  | .hbm, ⟨59, _⟩ => ⟨S1024x2816, .f32⟩
  | .hbm, ⟨60, _⟩ => ⟨S2816x1024, .f32⟩
  | .hbm, ⟨61, _⟩ => ⟨S8192x2816, .f32⟩
  | .hbm, ⟨62, _⟩ => ⟨S8192x2816, .f32⟩
  | .hbm, ⟨63, _⟩ => ⟨S8192x2816, .f32⟩
  | .hbm, ⟨64, _⟩ => ⟨S2816x1024, .f32⟩
  | .hbm, ⟨65, _⟩ => ⟨S1024x2816, .f32⟩
  | .hbm, ⟨66, _⟩ => ⟨S8192x1024, .f32⟩
  | .hbm, ⟨67, _⟩ => ⟨S8192x2816, .f32⟩
  | .hbm, ⟨68, _⟩ => ⟨S8192x2816, .f32⟩
  | .hbm, ⟨69, _⟩ => ⟨S8192x2816, .f32⟩
  | .hbm, ⟨70, _⟩ => ⟨S8192x2816, .f32⟩
  | .hbm, ⟨71, _⟩ => ⟨S2816x1024, .f32⟩
  | .hbm, ⟨72, _⟩ => ⟨S1024x2816, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S8192x1024, .f32⟩
  | .hbm, ⟨80, _⟩ => ⟨S8192x1024, .f32⟩
  | .hbm, ⟨81, _⟩ => ⟨S_, .f32⟩
  | .hbm, ⟨82, _⟩ => ⟨S1024, .f32⟩
  | .hbm, ⟨83, _⟩ => ⟨S8192x1024, .f32⟩
  | .hbm, ⟨84, _⟩ => ⟨S_, .f32⟩
  | .hbm, ⟨85, _⟩ => ⟨S8192, .f32⟩
  | .hbm, ⟨86, _⟩ => ⟨S8192x1, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x1, .f32⟩
  | .hbm, ⟨91, _⟩ => ⟨S_, .f32⟩
  | .hbm, ⟨92, _⟩ => ⟨S8192x1, .f32⟩
  | .hbm, ⟨93, _⟩ => ⟨S8192x1, .f32⟩
  | .hbm, ⟨94, _⟩ => ⟨S_, .f32⟩
  | .hbm, ⟨95, _⟩ => ⟨S8192, .f32⟩
  | .hbm, ⟨96, _⟩ => ⟨S8192x1024, .f32⟩
  | .hbm, ⟨97, _⟩ => ⟨S8192x1024, .f32⟩
  | .hbm, ⟨98, _⟩ => ⟨S8192x1024, .f32⟩
  | .hbm, ⟨99, _⟩ => ⟨S8192x1024, .f32⟩
  | .hbm, ⟨100, _⟩ => ⟨S8192x1024, .f32⟩
  | .hbm, ⟨101, _⟩ => ⟨S1x1024, .f32⟩
  | .hbm, ⟨102, _⟩ => ⟨S1024x4x704, .f32⟩
  | .hbm, ⟨103, _⟩ => ⟨S4x1024x704, .f32⟩
  | .hbm, ⟨104, _⟩ => ⟨S1024x4x704, .f32⟩
  | .hbm, ⟨105, _⟩ => ⟨S4x1024x704, .f32⟩
  | .hbm, ⟨106, _⟩ => ⟨S4x704x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_v25_2 : Ref sig .tc := ⟨.hbm, 42, rfl⟩
abbrev main_call0_cst_1 : Ref sig .tc := ⟨.hbm, 43, rfl⟩
abbrev main_call0_v6 : Ref sig .tc := ⟨.hbm, 44, rfl⟩
abbrev main_call0_v7 : Ref sig .tc := ⟨.hbm, 45, rfl⟩
abbrev main_v25_1 : Ref sig .tc := ⟨.hbm, 46, rfl⟩
abbrev main_v25_0 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_3 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_4 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_5 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_6 : Ref sig .tc := ⟨.hbm, 81, rfl⟩
abbrev main_v53 : Ref sig .tc := ⟨.hbm, 82, rfl⟩
abbrev main_v54 : Ref sig .tc := ⟨.hbm, 83, rfl⟩
abbrev main_cst_7 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_8 : Ref sig .tc := ⟨.hbm, 91, rfl⟩
abbrev main_v61 : Ref sig .tc := ⟨.hbm, 92, rfl⟩
abbrev main_v62 : Ref sig .tc := ⟨.hbm, 93, rfl⟩
abbrev main_cst_9 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩

abbrev nD : Nat := 1
abbrev τ : Topo := Topo.v7x

variable {F : FTy → Type} [FloatOps F]
-- ==== Kernel4.lean ====
abbrev S8192x1024 : Shape := ⟨2, ![8192, 1024]⟩
abbrev S4x2x1024 : Shape := ⟨3, ![4, 2, 1024]⟩
abbrev S4x2x1024x2816 : Shape := ⟨4, ![4, 2, 1024, 2816]⟩
abbrev S4x2x2816x1024 : Shape := ⟨4, ![4, 2, 2816, 1024]⟩
abbrev S8x1024x4x704 : Shape := ⟨4, ![8, 1024, 4, 704]⟩
abbrev S4x8x1024x704 : Shape := ⟨4, ![4, 8, 1024, 704]⟩
abbrev S8x4x704x1024 : Shape := ⟨4, ![8, 4, 704, 1024]⟩
abbrev S4x8x704x1024 : Shape := ⟨4, ![4, 8, 704, 1024]⟩
abbrev S8x1024 : Shape := ⟨2, ![8, 1024]⟩
abbrev S1x1024 : Shape := ⟨2, ![1, 1024]⟩
abbrev S4x8192x704 : Shape := ⟨3, ![4, 8192, 704]⟩
abbrev S1024x1024 : Shape := ⟨2, ![1024, 1024]⟩
abbrev S1x1x1024x704 : Shape := ⟨4, ![1, 1, 1024, 704]⟩
abbrev S1x1x704x1024 : Shape := ⟨4, ![1, 1, 704, 1024]⟩
abbrev S1x1024x704 : Shape := ⟨3, ![1, 1024, 704]⟩
abbrev S1024 : Shape := ⟨1, ![1024]⟩
abbrev S1024x1 : Shape := ⟨2, ![1024, 1]⟩
abbrev S1024x704 : Shape := ⟨2, ![1024, 704]⟩
abbrev S704x1024 : Shape := ⟨2, ![704, 1024]⟩
abbrev S512x1024 : Shape := ⟨2, ![512, 1024]⟩
abbrev S1x512x704 : Shape := ⟨3, ![1, 512, 704]⟩
abbrev S512x704 : Shape := ⟨2, ![512, 704]⟩
abbrev S512 : Shape := ⟨1, ![512]⟩
abbrev S512x1 : Shape := ⟨2, ![512, 1]⟩
abbrev S2048x1024 : Shape := ⟨2, ![2048, 1024]⟩
abbrev S1x2048x704 : Shape := ⟨3, ![1, 2048, 704]⟩
abbrev S1024x2048 : Shape := ⟨2, ![1024, 2048]⟩
abbrev S2048x704 : Shape := ⟨2, ![2048, 704]⟩
abbrev S1x4096x704 : Shape := ⟨3, ![1, 4096, 704]⟩
abbrev S4096x1024 : Shape := ⟨2, ![4096, 1024]⟩
abbrev S4096x704 : Shape := ⟨2, ![4096, 704]⟩
abbrev S4x1x1024x704 : Shape := ⟨4, ![4, 1, 1024, 704]⟩
abbrev S4x1024x704 : Shape := ⟨3, ![4, 1024, 704]⟩
abbrev S4x1x704x1024 : Shape := ⟨4, ![4, 1, 704, 1024]⟩
abbrev S4x704x1024 : Shape := ⟨3, ![4, 704, 1024]⟩

abbrev nBuf : Space → Nat
  | .hbm => 36
  | .vmem => 60
  | .smem => 0
  | _ => 0

abbrev bufTy : (tb : Table) → Fin (tcTables nBuf tb) → BufTy
  | .hbm, ⟨0, _⟩ => ⟨S8192x1024, .f32⟩
  | .hbm, ⟨1, _⟩ => ⟨S4x2x1024, .f32⟩
  | .hbm, ⟨2, _⟩ => ⟨S4x2x1024x2816, .f32⟩
  | .hbm, ⟨3, _⟩ => ⟨S4x2x1024x2816, .f32⟩
  | .hbm, ⟨4, _⟩ => ⟨S4x2x2816x1024, .f32⟩
  | .hbm, ⟨5, _⟩ => ⟨S8192x1024, .f32⟩
  | .hbm, ⟨6, _⟩ => ⟨S4x2x1024x2816, .bf16⟩
  | .hbm, ⟨7, _⟩ => ⟨S8x1024x4x704, .bf16⟩
  | .hbm, ⟨8, _⟩ => ⟨S4x8x1024x704, .bf16⟩
  | .hbm, ⟨9, _⟩ => ⟨S4x2x1024x2816, .bf16⟩
  | .hbm, ⟨10, _⟩ => ⟨S8x1024x4x704, .bf16⟩
  | .hbm, ⟨11, _⟩ => ⟨S4x8x1024x704, .bf16⟩
  | .hbm, ⟨12, _⟩ => ⟨S4x2x2816x1024, .bf16⟩
  | .hbm, ⟨13, _⟩ => ⟨S8x4x704x1024, .bf16⟩
  | .hbm, ⟨14, _⟩ => ⟨S4x8x704x1024, .bf16⟩
  | .hbm, ⟨15, _⟩ => ⟨S8x1024, .f32⟩
  | .hbm, ⟨16, _⟩ => ⟨S1x1024, .f32⟩
  | .hbm, ⟨17, _⟩ => ⟨S8192x1024, .f32⟩
  | .hbm, ⟨18, _⟩ => ⟨S8192x1024, .bf16⟩
  | .hbm, ⟨19, _⟩ => ⟨S4x8192x704, .bf16⟩
  | .hbm, ⟨20, _⟩ => ⟨S4x8192x704, .bf16⟩
  | .hbm, ⟨21, _⟩ => ⟨S4x8192x704, .bf16⟩
  | .hbm, ⟨22, _⟩ => ⟨S8192x1024, .f32⟩
  | .hbm, ⟨23, _⟩ => ⟨S4x8192x704, .bf16⟩
  | .hbm, ⟨24, _⟩ => ⟨S4x8192x704, .bf16⟩
  | .hbm, ⟨25, _⟩ => ⟨S8192x1024, .bf16⟩
  | .hbm, ⟨26, _⟩ => ⟨S1x1024, .f32⟩
  | .hbm, ⟨27, _⟩ => ⟨S4x8x1024x704, .f32⟩
  | .hbm, ⟨28, _⟩ => ⟨S4x8x1024x704, .f32⟩
  | .hbm, ⟨29, _⟩ => ⟨S4x8x704x1024, .f32⟩
  | .hbm, ⟨30, _⟩ => ⟨S4x1x1024x704, .f32⟩
  | .hbm, ⟨31, _⟩ => ⟨S4x1024x704, .f32⟩
  | .hbm, ⟨32, _⟩ => ⟨S4x1x1024x704, .f32⟩
  | .hbm, ⟨33, _⟩ => ⟨S4x1024x704, .f32⟩
  | .hbm, ⟨34, _⟩ => ⟨S4x1x704x1024, .f32⟩
  | .hbm, ⟨35, _⟩ => ⟨S4x704x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024x704, .bf16⟩
  | .local _ .vmem, ⟨4, _⟩ => ⟨S1x1x1024x704, .bf16⟩
  | .local _ .vmem, ⟨5, _⟩ => ⟨S1x1x1024x704, .bf16⟩
  | .local _ .vmem, ⟨6, _⟩ => ⟨S1x1x1024x704, .bf16⟩
  | .local _ .vmem, ⟨7, _⟩ => ⟨S1x1x704x1024, .bf16⟩
  | .local _ .vmem, ⟨8, _⟩ => ⟨S1x1x704x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1024x704, .bf16⟩
  | .local _ .vmem, ⟨14, _⟩ => ⟨S1x1024x704, .bf16⟩
  | .local _ .vmem, ⟨15, _⟩ => ⟨S1x1024x704, .bf16⟩
  | .local _ .vmem, ⟨16, _⟩ => ⟨S1x1024x704, .bf16⟩
  | .local _ .vmem, ⟨17, _⟩ => ⟨S1x1024x704, .bf16⟩
  | .local _ .vmem, ⟨18, _⟩ => ⟨S1x1024x704, .bf16⟩
  | .local _ .vmem, ⟨19, _⟩ => ⟨S1024x1024, .f32⟩
  | .local _ .vmem, ⟨20, _⟩ => ⟨S512x1024, .f32⟩
  | .local _ .vmem, ⟨21, _⟩ => ⟨S512x1024, .f32⟩
  | .local _ .vmem, ⟨22, _⟩ => ⟨S1x1024, .f32⟩
  | .local _ .vmem, ⟨23, _⟩ => ⟨S512x1024, .f32⟩
  | .local _ .vmem, ⟨24, _⟩ => ⟨S512x1024, .f32⟩
  | .local _ .vmem, ⟨25, _⟩ => ⟨S1x512x704, .bf16⟩
  | .local _ .vmem, ⟨26, _⟩ => ⟨S1x512x704, .bf16⟩
  | .local _ .vmem, ⟨27, _⟩ => ⟨S1x512x704, .bf16⟩
  | .local _ .vmem, ⟨28, _⟩ => ⟨S1x512x704, .bf16⟩
  | .local _ .vmem, ⟨29, _⟩ => ⟨S1x1x1024x704, .bf16⟩
  | .local _ .vmem, ⟨30, _⟩ => ⟨S1x1x1024x704, .bf16⟩
  | .local _ .vmem, ⟨31, _⟩ => ⟨S1x1x1024x704, .bf16⟩
  | .local _ .vmem, ⟨32, _⟩ => ⟨S1x1x1024x704, .bf16⟩
  | .local _ .vmem, ⟨33, _⟩ => ⟨S1x1x704x1024, .bf16⟩
  | .local _ .vmem, ⟨34, _⟩ => ⟨S1x1x704x1024, .bf16⟩
  | .local _ .vmem, ⟨35, _⟩ => ⟨S512x1024, .f32⟩
  | .local _ .vmem, ⟨36, _⟩ => ⟨S512x1024, .f32⟩
  | .local _ .vmem, ⟨37, _⟩ => ⟨S1x512x704, .bf16⟩
  | .local _ .vmem, ⟨38, _⟩ => ⟨S1x512x704, .bf16⟩
  | .local _ .vmem, ⟨39, _⟩ => ⟨S1x512x704, .bf16⟩
  | .local _ .vmem, ⟨40, _⟩ => ⟨S1x512x704, .bf16⟩
  | .local _ .vmem, ⟨41, _⟩ => ⟨S512x1024, .bf16⟩
  | .local _ .vmem, ⟨42, _⟩ => ⟨S512x1024, .bf16⟩
  | .local _ .vmem, ⟨43, _⟩ => ⟨S1x1024, .f32⟩
  | .local _ .vmem, ⟨44, _⟩ => ⟨S2048x1024, .bf16⟩
  | .local _ .vmem, ⟨45, _⟩ => ⟨S2048x1024, .bf16⟩
  | .local _ .vmem, ⟨46, _⟩ => ⟨S1x2048x704, .bf16⟩
  | .local _ .vmem, ⟨47, _⟩ => ⟨S1x2048x704, .bf16⟩
  | .local _ .vmem, ⟨48, _⟩ => ⟨S1x2048x704, .bf16⟩
  | .local _ .vmem, ⟨49, _⟩ => ⟨S1x2048x704, .bf16⟩
  | .local _ .vmem, ⟨50, _⟩ => ⟨S1x1x1024x704, .f32⟩
  | .local _ .vmem, ⟨51, _⟩ => ⟨S1x1x1024x704, .f32⟩
  | .local _ .vmem, ⟨52, _⟩ => ⟨S1x1x1024x704, .f32⟩
  | .local _ .vmem, ⟨53, _⟩ => ⟨S1x1x1024x704, .f32⟩
  | .local _ .vmem, ⟨54, _⟩ => ⟨S1x4096x704, .bf16⟩
  | .local _ .vmem, ⟨55, _⟩ => ⟨S1x4096x704, .bf16⟩
  | .local _ .vmem, ⟨56, _⟩ => ⟨S4096x1024, .bf16⟩
  | .local _ .vmem, ⟨57, _⟩ => ⟨S4096x1024, .bf16⟩
  | .local _ .vmem, ⟨58, _⟩ => ⟨S1x1x704x1024, .f32⟩
  | .local _ .vmem, ⟨59, _⟩ => ⟨S1x1x704x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTc nBuf bufTy 0 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v11_2 : Ref sig .tc := ⟨.hbm, 19, rfl⟩
abbrev main_v11_3 : Ref sig .tc := ⟨.hbm, 20, rfl⟩
abbrev main_v11_4 : Ref sig .tc := ⟨.hbm, 21, rfl⟩
abbrev main_v12_0 : Ref sig .tc := ⟨.hbm, 22, rfl⟩
abbrev main_v12_1 : Ref sig .tc := ⟨.hbm, 23, rfl⟩
abbrev main_v12_2 : Ref sig .tc := ⟨.hbm, 24, rfl⟩
abbrev main_v12_3 : Ref sig .tc := ⟨.hbm, 25, rfl⟩
abbrev main_v12_4 : Ref sig .tc := ⟨.hbm, 26, rfl⟩
abbrev main_v13_0 : Ref sig .tc := ⟨.hbm, 27, rfl⟩
abbrev main_v13_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg3_1 : Ref sig .tc := ⟨.vmem, 26, rfl⟩
abbrev cc1_stg4_0 : Ref sig .tc := ⟨.vmem, 27, rfl⟩
abbrev cc1_stg4_1 : Ref sig .tc := ⟨.vmem, 28, rfl⟩
abbrev cc1_stg5_0 : Ref sig .tc := ⟨.vmem, 29, rfl⟩
abbrev cc1_stg5_1 : Ref sig .tc := ⟨.vmem, 30, rfl⟩
abbrev cc1_stg6_0 : Ref sig .tc := ⟨.vmem, 31, rfl⟩
abbrev cc1_stg6_1 : Ref sig .tc := ⟨.vmem, 32, rfl⟩
abbrev cc1_stg7_0 : Ref sig .tc := ⟨.vmem, 33, rfl⟩
abbrev cc1_stg7_1 : Ref sig .tc := ⟨.vmem, 34, rfl⟩
abbrev cc1_stg8_0 : Ref sig .tc := ⟨.vmem, 35, rfl⟩
abbrev cc1_stg8_1 : Ref sig .tc := ⟨.vmem, 36, rfl⟩
abbrev cc1_stg9_0 : Ref sig .tc := ⟨.vmem, 37, rfl⟩
abbrev cc1_stg9_1 : Ref sig .tc := ⟨.vmem, 38, rfl⟩
abbrev cc1_stg10_0 : Ref sig .tc := ⟨.vmem, 39, rfl⟩
abbrev cc1_stg10_1 : Ref sig .tc := ⟨.vmem, 40, rfl⟩
abbrev cc1_stg11_0 : Ref sig .tc := ⟨.vmem, 41, rfl⟩
abbrev cc1_stg11_1 : Ref sig .tc := ⟨.vmem, 42, rfl⟩
abbrev cc1_stg12_0 : Ref sig .tc := ⟨.vmem, 43, rfl⟩
abbrev cc2_stg0_0 : Ref sig .tc := ⟨.vmem, 44, rfl⟩
abbrev cc2_stg0_1 : Ref sig .tc := ⟨.vmem, 45, rfl⟩
abbrev cc2_stg1_0 : Ref sig .tc := ⟨.vmem, 46, rfl⟩
abbrev cc2_stg1_1 : Ref sig .tc := ⟨.vmem, 47, rfl⟩
abbrev cc2_stg2_0 : Ref sig .tc := ⟨.vmem, 48, rfl⟩
abbrev cc2_stg2_1 : Ref sig .tc := ⟨.vmem, 49, rfl⟩
abbrev cc2_stg3_0 : Ref sig .tc := ⟨.vmem, 50, rfl⟩
abbrev cc2_stg3_1 : Ref sig .tc := ⟨.vmem, 51, rfl⟩
abbrev cc2_stg4_0 : Ref sig .tc := ⟨.vmem, 52, rfl⟩
abbrev cc2_stg4_1 : Ref sig .tc := ⟨.vmem, 53, rfl⟩
abbrev cc3_stg0_0 : Ref sig .tc := ⟨.vmem, 54, rfl⟩
abbrev cc3_stg0_1 : Ref sig .tc := ⟨.vmem, 55, rfl⟩
abbrev cc3_stg1_0 : Ref sig .tc := ⟨.vmem, 56, rfl⟩
abbrev cc3_stg1_1 : Ref sig .tc := ⟨.vmem, 57, rfl⟩
abbrev cc3_stg2_0 : Ref sig .tc := ⟨.vmem, 58, rfl⟩
abbrev cc3_stg2_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc1_sem0_0 : DmaSem sig := 19
abbrev cc1_sem0_1 : DmaSem sig := 20
abbrev cc1_sem1_0 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31
abbrev cc1_sem7_0 : DmaSem sig := 32
abbrev cc1_sem7_1 : DmaSem sig := 33
abbrev cc1_sem8_0 : DmaSem sig := 34
abbrev cc1_sem8_1 : DmaSem sig := 35
abbrev cc1_sem9_0 : DmaSem sig := 36
abbrev cc1_sem9_1 : DmaSem sig := 37
abbrev cc1_sem10_0 : DmaSem sig := 38
abbrev cc1_sem10_1 : DmaSem sig := 39
abbrev cc1_sem11_0 : DmaSem sig := 40
abbrev cc1_sem11_1 : DmaSem sig := 41
abbrev cc1_sem12_0 : DmaSem sig := 42
abbrev cc2_sem0_0 : DmaSem sig := 43
abbrev cc2_sem0_1 : DmaSem sig := 44
abbrev cc2_sem1_0 : DmaSem sig := 45
abbrev cc2_sem1_1 : DmaSem sig := 46
abbrev cc2_sem2_0 : DmaSem sig := 47
abbrev cc2_sem2_1 : DmaSem sig := 48
abbrev cc2_sem3_0 : DmaSem sig := 49
abbrev cc2_sem3_1 : DmaSem sig := 50
abbrev cc2_sem4_0 : DmaSem sig := 51
abbrev cc2_sem4_1 : DmaSem sig := 52
abbrev cc3_sem0_0 : DmaSem sig := 53
abbrev cc3_sem0_1 : DmaSem sig := 54
abbrev cc3_sem1_0 : DmaSem sig := 55
abbrev cc3_sem1_1 : DmaSem sig := 56
abbrev cc3_sem2_0 : DmaSem sig := 57
abbrev cc3_sem2_1 : DmaSem sig := 58

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v47 : BitVec 1 := Scalar.cmpi .eq arg1 c3_i32
  let v48 : BitVec 32 := Scalar.extui v47
  let c0_i32_34 : BitVec 32 := 0#32
  let v49 : BitVec 1 := Scalar.cmpi .ne v48 c0_i32_34
  v49

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  let c0_i32_1 : BitVec 32 := 0#32
  ![arg1.toNat, c4_i32.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  let c0_i32_1 : BitVec 32 := 0#32
  ![arg1.toNat, c4_i32.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  let c0_i32_1 : BitVec 32 := 0#32
  ![arg1.toNat, c4_i32.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨2, ![16, 4], ![false, false]⟩

def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k1_cond2 (i : grid1.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def k1_cond3 (i : grid1.Coords) : BitVec 1 :=
  let arg1 : BitVec 32 := BitVec.ofNat 32 (i 1).val
  let c3_i32 : BitVec 32 := 3#32
  let v40 : BitVec 1 := Scalar.cmpi .eq arg1 c3_i32
  let v41 : BitVec 32 := Scalar.extui v40
  let c0_i32_35 : BitVec 32 := 0#32
  let v42 : BitVec 1 := Scalar.cmpi .ne v41 c0_i32_35
  v42

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_5 (i : grid1.Coords) : Fin 4 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  let c0_i32_1 : BitVec 32 := 0#32
  ![arg1.toNat, c4_i32.toNat, c0_i32.toNat, c0_i32_0.toNat]

def cc1_transform_6 (i : grid1.Coords) : Fin 4 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  let c0_i32_1 : BitVec 32 := 0#32
  ![arg1.toNat, c4_i32.toNat, c0_i32.toNat, c0_i32_0.toNat]

def cc1_transform_7 (i : grid1.Coords) : Fin 4 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  let c0_i32_1 : BitVec 32 := 0#32
  ![arg1.toNat, c4_i32.toNat, c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x704 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x512x704 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1x1024x704 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S1x1x1024x704 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true]

abbrev stage1_7 : Fin 2 → Memref sig .tc .vmem S1x1x704x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![false, true]

abbrev stage1_8 : Fin 2 → Memref sig .tc .vmem S512x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S1x512x704 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1x512x704 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S512x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, false]

abbrev stage1_12 : Fin 1 → Memref sig .tc .vmem S1x1024 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false, false]

abbrev grid2 : Pipeline.Grid := ⟨2, ![4, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_3 (i : grid2.Coords) : Fin 4 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  let c0_i32_1 : BitVec 32 := 0#32
  ![arg0.toNat, c4_i32.toNat, c0_i32.toNat, c0_i32_0.toNat]

def cc2_transform_4 (i : grid2.Coords) : Fin 4 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  let c0_i32_1 : BitVec 32 := 0#32
  ![arg0.toNat, c4_i32.toNat, c0_i32.toNat, c0_i32_0.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1x2048x704 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x2048x704 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x1x1024x704 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x1x1024x704 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev grid3 : Pipeline.Grid := ⟨2, ![4, 2], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 4 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  let c0_i32_1 : BitVec 32 := 0#32
  ![arg0.toNat, c4_i32.toNat, c0_i32.toNat, c0_i32_0.toNat]

abbrev stage3_0 : Fin 2 → Memref sig .tc .vmem S1x4096x704 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1x1x704x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]
-- ==== Kernel4Ideal.lean ====
abbrev S8192x1024 : Shape := ⟨2, ![8192, 1024]⟩
abbrev S4x2x1024 : Shape := ⟨3, ![4, 2, 1024]⟩
abbrev S4x2x1024x2816 : Shape := ⟨4, ![4, 2, 1024, 2816]⟩
abbrev S4x2x2816x1024 : Shape := ⟨4, ![4, 2, 2816, 1024]⟩
abbrev S8x1024x4x704 : Shape := ⟨4, ![8, 1024, 4, 704]⟩
abbrev S4x8x1024x704 : Shape := ⟨4, ![4, 8, 1024, 704]⟩
abbrev S8x4x704x1024 : Shape := ⟨4, ![8, 4, 704, 1024]⟩
abbrev S4x8x704x1024 : Shape := ⟨4, ![4, 8, 704, 1024]⟩
abbrev S8x1024 : Shape := ⟨2, ![8, 1024]⟩
abbrev S1x1024 : Shape := ⟨2, ![1, 1024]⟩
abbrev S4x8192x704 : Shape := ⟨3, ![4, 8192, 704]⟩
abbrev S1024x1024 : Shape := ⟨2, ![1024, 1024]⟩
abbrev S1x1x1024x704 : Shape := ⟨4, ![1, 1, 1024, 704]⟩
abbrev S1x1x704x1024 : Shape := ⟨4, ![1, 1, 704, 1024]⟩
abbrev S1x1024x704 : Shape := ⟨3, ![1, 1024, 704]⟩
abbrev S1024 : Shape := ⟨1, ![1024]⟩
abbrev S1024x1 : Shape := ⟨2, ![1024, 1]⟩
abbrev S1024x704 : Shape := ⟨2, ![1024, 704]⟩
abbrev S704x1024 : Shape := ⟨2, ![704, 1024]⟩
abbrev S512x1024 : Shape := ⟨2, ![512, 1024]⟩
abbrev S1x512x704 : Shape := ⟨3, ![1, 512, 704]⟩
abbrev S512x704 : Shape := ⟨2, ![512, 704]⟩
abbrev S512 : Shape := ⟨1, ![512]⟩
abbrev S512x1 : Shape := ⟨2, ![512, 1]⟩
abbrev S2048x1024 : Shape := ⟨2, ![2048, 1024]⟩
abbrev S1x2048x704 : Shape := ⟨3, ![1, 2048, 704]⟩
abbrev S1024x2048 : Shape := ⟨2, ![1024, 2048]⟩
abbrev S2048x704 : Shape := ⟨2, ![2048, 704]⟩
abbrev S1x4096x704 : Shape := ⟨3, ![1, 4096, 704]⟩
abbrev S4096x1024 : Shape := ⟨2, ![4096, 1024]⟩
abbrev S4096x704 : Shape := ⟨2, ![4096, 704]⟩
abbrev S4x1x1024x704 : Shape := ⟨4, ![4, 1, 1024, 704]⟩
abbrev S4x1024x704 : Shape := ⟨3, ![4, 1024, 704]⟩
abbrev S4x1x704x1024 : Shape := ⟨4, ![4, 1, 704, 1024]⟩
abbrev S4x704x1024 : Shape := ⟨3, ![4, 704, 1024]⟩

abbrev nBuf : Space → Nat
  | .hbm => 36
  | .vmem => 60
  | .smem => 0
  | _ => 0

abbrev bufTy : (tb : Table) → Fin (tcTables nBuf tb) → BufTy
  | .hbm, ⟨0, _⟩ => ⟨S8192x1024, .f32⟩
  | .hbm, ⟨1, _⟩ => ⟨S4x2x1024, .f32⟩
  | .hbm, ⟨2, _⟩ => ⟨S4x2x1024x2816, .f32⟩
  | .hbm, ⟨3, _⟩ => ⟨S4x2x1024x2816, .f32⟩
  | .hbm, ⟨4, _⟩ => ⟨S4x2x2816x1024, .f32⟩
  | .hbm, ⟨5, _⟩ => ⟨S8192x1024, .f32⟩
  | .hbm, ⟨6, _⟩ => ⟨S4x2x1024x2816, .bf16⟩
  | .hbm, ⟨7, _⟩ => ⟨S8x1024x4x704, .bf16⟩
  | .hbm, ⟨8, _⟩ => ⟨S4x8x1024x704, .bf16⟩
  | .hbm, ⟨9, _⟩ => ⟨S4x2x1024x2816, .bf16⟩
  | .hbm, ⟨10, _⟩ => ⟨S8x1024x4x704, .bf16⟩
  | .hbm, ⟨11, _⟩ => ⟨S4x8x1024x704, .bf16⟩
  | .hbm, ⟨12, _⟩ => ⟨S4x2x2816x1024, .bf16⟩
  | .hbm, ⟨13, _⟩ => ⟨S8x4x704x1024, .bf16⟩
  | .hbm, ⟨14, _⟩ => ⟨S4x8x704x1024, .bf16⟩
  | .hbm, ⟨15, _⟩ => ⟨S8x1024, .f32⟩
  | .hbm, ⟨16, _⟩ => ⟨S1x1024, .f32⟩
  | .hbm, ⟨17, _⟩ => ⟨S8192x1024, .f32⟩
  | .hbm, ⟨18, _⟩ => ⟨S8192x1024, .bf16⟩
  | .hbm, ⟨19, _⟩ => ⟨S4x8192x704, .bf16⟩
  | .hbm, ⟨20, _⟩ => ⟨S4x8192x704, .bf16⟩
  | .hbm, ⟨21, _⟩ => ⟨S4x8192x704, .bf16⟩
  | .hbm, ⟨22, _⟩ => ⟨S8192x1024, .f32⟩
  | .hbm, ⟨23, _⟩ => ⟨S4x8192x704, .bf16⟩
  | .hbm, ⟨24, _⟩ => ⟨S4x8192x704, .bf16⟩
  | .hbm, ⟨25, _⟩ => ⟨S8192x1024, .bf16⟩
  | .hbm, ⟨26, _⟩ => ⟨S1x1024, .f32⟩
  | .hbm, ⟨27, _⟩ => ⟨S4x8x1024x704, .f32⟩
  | .hbm, ⟨28, _⟩ => ⟨S4x8x1024x704, .f32⟩
  | .hbm, ⟨29, _⟩ => ⟨S4x8x704x1024, .f32⟩
  | .hbm, ⟨30, _⟩ => ⟨S4x1x1024x704, .f32⟩
  | .hbm, ⟨31, _⟩ => ⟨S4x1024x704, .f32⟩
  | .hbm, ⟨32, _⟩ => ⟨S4x1x1024x704, .f32⟩
  | .hbm, ⟨33, _⟩ => ⟨S4x1024x704, .f32⟩
  | .hbm, ⟨34, _⟩ => ⟨S4x1x704x1024, .f32⟩
  | .hbm, ⟨35, _⟩ => ⟨S4x704x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024x704, .bf16⟩
  | .local _ .vmem, ⟨4, _⟩ => ⟨S1x1x1024x704, .bf16⟩
  | .local _ .vmem, ⟨5, _⟩ => ⟨S1x1x1024x704, .bf16⟩
  | .local _ .vmem, ⟨6, _⟩ => ⟨S1x1x1024x704, .bf16⟩
  | .local _ .vmem, ⟨7, _⟩ => ⟨S1x1x704x1024, .bf16⟩
  | .local _ .vmem, ⟨8, _⟩ => ⟨S1x1x704x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1024x704, .bf16⟩
  | .local _ .vmem, ⟨14, _⟩ => ⟨S1x1024x704, .bf16⟩
  | .local _ .vmem, ⟨15, _⟩ => ⟨S1x1024x704, .bf16⟩
  | .local _ .vmem, ⟨16, _⟩ => ⟨S1x1024x704, .bf16⟩
  | .local _ .vmem, ⟨17, _⟩ => ⟨S1x1024x704, .bf16⟩
  | .local _ .vmem, ⟨18, _⟩ => ⟨S1x1024x704, .bf16⟩
  | .local _ .vmem, ⟨19, _⟩ => ⟨S1024x1024, .f32⟩
  | .local _ .vmem, ⟨20, _⟩ => ⟨S512x1024, .f32⟩
  | .local _ .vmem, ⟨21, _⟩ => ⟨S512x1024, .f32⟩
  | .local _ .vmem, ⟨22, _⟩ => ⟨S1x1024, .f32⟩
  | .local _ .vmem, ⟨23, _⟩ => ⟨S512x1024, .f32⟩
  | .local _ .vmem, ⟨24, _⟩ => ⟨S512x1024, .f32⟩
  | .local _ .vmem, ⟨25, _⟩ => ⟨S1x512x704, .bf16⟩
  | .local _ .vmem, ⟨26, _⟩ => ⟨S1x512x704, .bf16⟩
  | .local _ .vmem, ⟨27, _⟩ => ⟨S1x512x704, .bf16⟩
  | .local _ .vmem, ⟨28, _⟩ => ⟨S1x512x704, .bf16⟩
  | .local _ .vmem, ⟨29, _⟩ => ⟨S1x1x1024x704, .bf16⟩
  | .local _ .vmem, ⟨30, _⟩ => ⟨S1x1x1024x704, .bf16⟩
  | .local _ .vmem, ⟨31, _⟩ => ⟨S1x1x1024x704, .bf16⟩
  | .local _ .vmem, ⟨32, _⟩ => ⟨S1x1x1024x704, .bf16⟩
  | .local _ .vmem, ⟨33, _⟩ => ⟨S1x1x704x1024, .bf16⟩
  | .local _ .vmem, ⟨34, _⟩ => ⟨S1x1x704x1024, .bf16⟩
  | .local _ .vmem, ⟨35, _⟩ => ⟨S512x1024, .f32⟩
  | .local _ .vmem, ⟨36, _⟩ => ⟨S512x1024, .f32⟩
  | .local _ .vmem, ⟨37, _⟩ => ⟨S1x512x704, .bf16⟩
  | .local _ .vmem, ⟨38, _⟩ => ⟨S1x512x704, .bf16⟩
  | .local _ .vmem, ⟨39, _⟩ => ⟨S1x512x704, .bf16⟩
  | .local _ .vmem, ⟨40, _⟩ => ⟨S1x512x704, .bf16⟩
  | .local _ .vmem, ⟨41, _⟩ => ⟨S512x1024, .bf16⟩
  | .local _ .vmem, ⟨42, _⟩ => ⟨S512x1024, .bf16⟩
  | .local _ .vmem, ⟨43, _⟩ => ⟨S1x1024, .f32⟩
  | .local _ .vmem, ⟨44, _⟩ => ⟨S2048x1024, .bf16⟩
  | .local _ .vmem, ⟨45, _⟩ => ⟨S2048x1024, .bf16⟩
  | .local _ .vmem, ⟨46, _⟩ => ⟨S1x2048x704, .bf16⟩
  | .local _ .vmem, ⟨47, _⟩ => ⟨S1x2048x704, .bf16⟩
  | .local _ .vmem, ⟨48, _⟩ => ⟨S1x2048x704, .bf16⟩
  | .local _ .vmem, ⟨49, _⟩ => ⟨S1x2048x704, .bf16⟩
  | .local _ .vmem, ⟨50, _⟩ => ⟨S1x1x1024x704, .f32⟩
  | .local _ .vmem, ⟨51, _⟩ => ⟨S1x1x1024x704, .f32⟩
  | .local _ .vmem, ⟨52, _⟩ => ⟨S1x1x1024x704, .f32⟩
  | .local _ .vmem, ⟨53, _⟩ => ⟨S1x1x1024x704, .f32⟩
  | .local _ .vmem, ⟨54, _⟩ => ⟨S1x4096x704, .bf16⟩
  | .local _ .vmem, ⟨55, _⟩ => ⟨S1x4096x704, .bf16⟩
  | .local _ .vmem, ⟨56, _⟩ => ⟨S4096x1024, .bf16⟩
  | .local _ .vmem, ⟨57, _⟩ => ⟨S4096x1024, .bf16⟩
  | .local _ .vmem, ⟨58, _⟩ => ⟨S1x1x704x1024, .f32⟩
  | .local _ .vmem, ⟨59, _⟩ => ⟨S1x1x704x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTc nBuf bufTy 0 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v11_2 : Ref sig .tc := ⟨.hbm, 19, rfl⟩
abbrev main_v11_3 : Ref sig .tc := ⟨.hbm, 20, rfl⟩
abbrev main_v11_4 : Ref sig .tc := ⟨.hbm, 21, rfl⟩
abbrev main_v12_0 : Ref sig .tc := ⟨.hbm, 22, rfl⟩
abbrev main_v12_1 : Ref sig .tc := ⟨.hbm, 23, rfl⟩
abbrev main_v12_2 : Ref sig .tc := ⟨.hbm, 24, rfl⟩
abbrev main_v12_3 : Ref sig .tc := ⟨.hbm, 25, rfl⟩
abbrev main_v12_4 : Ref sig .tc := ⟨.hbm, 26, rfl⟩
abbrev main_v13_0 : Ref sig .tc := ⟨.hbm, 27, rfl⟩
abbrev main_v13_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg3_1 : Ref sig .tc := ⟨.vmem, 26, rfl⟩
abbrev cc1_stg4_0 : Ref sig .tc := ⟨.vmem, 27, rfl⟩
abbrev cc1_stg4_1 : Ref sig .tc := ⟨.vmem, 28, rfl⟩
abbrev cc1_stg5_0 : Ref sig .tc := ⟨.vmem, 29, rfl⟩
abbrev cc1_stg5_1 : Ref sig .tc := ⟨.vmem, 30, rfl⟩
abbrev cc1_stg6_0 : Ref sig .tc := ⟨.vmem, 31, rfl⟩
abbrev cc1_stg6_1 : Ref sig .tc := ⟨.vmem, 32, rfl⟩
abbrev cc1_stg7_0 : Ref sig .tc := ⟨.vmem, 33, rfl⟩
abbrev cc1_stg7_1 : Ref sig .tc := ⟨.vmem, 34, rfl⟩
abbrev cc1_stg8_0 : Ref sig .tc := ⟨.vmem, 35, rfl⟩
abbrev cc1_stg8_1 : Ref sig .tc := ⟨.vmem, 36, rfl⟩
abbrev cc1_stg9_0 : Ref sig .tc := ⟨.vmem, 37, rfl⟩
abbrev cc1_stg9_1 : Ref sig .tc := ⟨.vmem, 38, rfl⟩
abbrev cc1_stg10_0 : Ref sig .tc := ⟨.vmem, 39, rfl⟩
abbrev cc1_stg10_1 : Ref sig .tc := ⟨.vmem, 40, rfl⟩
abbrev cc1_stg11_0 : Ref sig .tc := ⟨.vmem, 41, rfl⟩
abbrev cc1_stg11_1 : Ref sig .tc := ⟨.vmem, 42, rfl⟩
abbrev cc1_stg12_0 : Ref sig .tc := ⟨.vmem, 43, rfl⟩
abbrev cc2_stg0_0 : Ref sig .tc := ⟨.vmem, 44, rfl⟩
abbrev cc2_stg0_1 : Ref sig .tc := ⟨.vmem, 45, rfl⟩
abbrev cc2_stg1_0 : Ref sig .tc := ⟨.vmem, 46, rfl⟩
abbrev cc2_stg1_1 : Ref sig .tc := ⟨.vmem, 47, rfl⟩
abbrev cc2_stg2_0 : Ref sig .tc := ⟨.vmem, 48, rfl⟩
abbrev cc2_stg2_1 : Ref sig .tc := ⟨.vmem, 49, rfl⟩
abbrev cc2_stg3_0 : Ref sig .tc := ⟨.vmem, 50, rfl⟩
abbrev cc2_stg3_1 : Ref sig .tc := ⟨.vmem, 51, rfl⟩
abbrev cc2_stg4_0 : Ref sig .tc := ⟨.vmem, 52, rfl⟩
abbrev cc2_stg4_1 : Ref sig .tc := ⟨.vmem, 53, rfl⟩
abbrev cc3_stg0_0 : Ref sig .tc := ⟨.vmem, 54, rfl⟩
abbrev cc3_stg0_1 : Ref sig .tc := ⟨.vmem, 55, rfl⟩
abbrev cc3_stg1_0 : Ref sig .tc := ⟨.vmem, 56, rfl⟩
abbrev cc3_stg1_1 : Ref sig .tc := ⟨.vmem, 57, rfl⟩
abbrev cc3_stg2_0 : Ref sig .tc := ⟨.vmem, 58, rfl⟩
abbrev cc3_stg2_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc1_sem0_0 : DmaSem sig := 19
abbrev cc1_sem0_1 : DmaSem sig := 20
abbrev cc1_sem1_0 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31
abbrev cc1_sem7_0 : DmaSem sig := 32
abbrev cc1_sem7_1 : DmaSem sig := 33
abbrev cc1_sem8_0 : DmaSem sig := 34
abbrev cc1_sem8_1 : DmaSem sig := 35
abbrev cc1_sem9_0 : DmaSem sig := 36
abbrev cc1_sem9_1 : DmaSem sig := 37
abbrev cc1_sem10_0 : DmaSem sig := 38
abbrev cc1_sem10_1 : DmaSem sig := 39
abbrev cc1_sem11_0 : DmaSem sig := 40
abbrev cc1_sem11_1 : DmaSem sig := 41
abbrev cc1_sem12_0 : DmaSem sig := 42
abbrev cc2_sem0_0 : DmaSem sig := 43
abbrev cc2_sem0_1 : DmaSem sig := 44
abbrev cc2_sem1_0 : DmaSem sig := 45
abbrev cc2_sem1_1 : DmaSem sig := 46
abbrev cc2_sem2_0 : DmaSem sig := 47
abbrev cc2_sem2_1 : DmaSem sig := 48
abbrev cc2_sem3_0 : DmaSem sig := 49
abbrev cc2_sem3_1 : DmaSem sig := 50
abbrev cc2_sem4_0 : DmaSem sig := 51
abbrev cc2_sem4_1 : DmaSem sig := 52
abbrev cc3_sem0_0 : DmaSem sig := 53
abbrev cc3_sem0_1 : DmaSem sig := 54
abbrev cc3_sem1_0 : DmaSem sig := 55
abbrev cc3_sem1_1 : DmaSem sig := 56
abbrev cc3_sem2_0 : DmaSem sig := 57
abbrev cc3_sem2_1 : DmaSem sig := 58

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v47 : BitVec 1 := Scalar.cmpi .eq arg1 c3_i32
  let v48 : BitVec 32 := Scalar.extui v47
  let c0_i32_34 : BitVec 32 := 0#32
  let v49 : BitVec 1 := Scalar.cmpi .ne v48 c0_i32_34
  v49

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  let c0_i32_1 : BitVec 32 := 0#32
  ![arg1.toNat, c4_i32.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  let c0_i32_1 : BitVec 32 := 0#32
  ![arg1.toNat, c4_i32.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  let c0_i32_1 : BitVec 32 := 0#32
  ![arg1.toNat, c4_i32.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨2, ![16, 4], ![false, false]⟩

def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k1_cond2 (i : grid1.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def k1_cond3 (i : grid1.Coords) : BitVec 1 :=
  let arg1 : BitVec 32 := BitVec.ofNat 32 (i 1).val
  let c3_i32 : BitVec 32 := 3#32
  let v40 : BitVec 1 := Scalar.cmpi .eq arg1 c3_i32
  let v41 : BitVec 32 := Scalar.extui v40
  let c0_i32_35 : BitVec 32 := 0#32
  let v42 : BitVec 1 := Scalar.cmpi .ne v41 c0_i32_35
  v42

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_5 (i : grid1.Coords) : Fin 4 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  let c0_i32_1 : BitVec 32 := 0#32
  ![arg1.toNat, c4_i32.toNat, c0_i32.toNat, c0_i32_0.toNat]

def cc1_transform_6 (i : grid1.Coords) : Fin 4 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  let c0_i32_1 : BitVec 32 := 0#32
  ![arg1.toNat, c4_i32.toNat, c0_i32.toNat, c0_i32_0.toNat]

def cc1_transform_7 (i : grid1.Coords) : Fin 4 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  let c0_i32_1 : BitVec 32 := 0#32
  ![arg1.toNat, c4_i32.toNat, c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x704 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x512x704 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1x1024x704 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S1x1x1024x704 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true]

abbrev stage1_7 : Fin 2 → Memref sig .tc .vmem S1x1x704x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![false, true]

abbrev stage1_8 : Fin 2 → Memref sig .tc .vmem S512x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S1x512x704 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1x512x704 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S512x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, false]

abbrev stage1_12 : Fin 1 → Memref sig .tc .vmem S1x1024 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false, false]

abbrev grid2 : Pipeline.Grid := ⟨2, ![4, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_3 (i : grid2.Coords) : Fin 4 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  let c0_i32_1 : BitVec 32 := 0#32
  ![arg0.toNat, c4_i32.toNat, c0_i32.toNat, c0_i32_0.toNat]

def cc2_transform_4 (i : grid2.Coords) : Fin 4 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  let c0_i32_1 : BitVec 32 := 0#32
  ![arg0.toNat, c4_i32.toNat, c0_i32.toNat, c0_i32_0.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1x2048x704 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x2048x704 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x1x1024x704 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x1x1024x704 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev grid3 : Pipeline.Grid := ⟨2, ![4, 2], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 4 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  let c0_i32_1 : BitVec 32 := 0#32
  ![arg0.toNat, c4_i32.toNat, c0_i32.toNat, c0_i32_0.toNat]

abbrev stage3_0 : Fin 2 → Memref sig .tc .vmem S1x4096x704 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1x1x704x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]
-- ==== Reference4Ideal.lean ====
abbrev S8192x1024 : Shape := ⟨2, ![8192, 1024]⟩
abbrev S4x2x1024 : Shape := ⟨3, ![4, 2, 1024]⟩
abbrev S4x2x1024x2816 : Shape := ⟨4, ![4, 2, 1024, 2816]⟩
abbrev S4x2x2816x1024 : Shape := ⟨4, ![4, 2, 2816, 1024]⟩
abbrev S1x1x1024 : Shape := ⟨3, ![1, 1, 1024]⟩
abbrev S1024 : Shape := ⟨1, ![1024]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S1024x4x704 : Shape := ⟨3, ![1024, 4, 704]⟩
abbrev S4x1024x704 : Shape := ⟨3, ![4, 1024, 704]⟩
abbrev S4x704x1024 : Shape := ⟨3, ![4, 704, 1024]⟩

abbrev nBuf : Space → Nat
  | .hbm => 107
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x2x1024, .f32⟩
  | .hbm, ⟨2, _⟩ => ⟨S4x2x1024x2816, .f32⟩
  | .hbm, ⟨3, _⟩ => ⟨S4x2x1024x2816, .f32⟩
  | .hbm, ⟨4, _⟩ => ⟨S4x2x2816x1024, .f32⟩
  | .hbm, ⟨5, _⟩ => ⟨S8192x1024, .f32⟩
  | .hbm, ⟨6, _⟩ => ⟨S1x1x1024, .f32⟩
  | .hbm, ⟨7, _⟩ => ⟨S1024, .f32⟩
  | .hbm, ⟨8, _⟩ => ⟨S1x1x1024x2816, .f32⟩
  | .hbm, ⟨9, _⟩ => ⟨S1024x2816, .f32⟩
  | .hbm, ⟨10, _⟩ => ⟨S1x1x1024x2816, .f32⟩
  | .hbm, ⟨11, _⟩ => ⟨S1024x2816, .f32⟩
  | .hbm, ⟨12, _⟩ => ⟨S1x1x2816x1024, .f32⟩
  | .hbm, ⟨13, _⟩ => ⟨S2816x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S_, .f32⟩
  | .hbm, ⟨38, _⟩ => ⟨S8192x2816, .f32⟩
  | .hbm, ⟨39, _⟩ => ⟨S8192x2816, .f32⟩
  | .hbm, ⟨40, _⟩ => ⟨S_, .f32⟩
  | .hbm, ⟨41, _⟩ => ⟨S8192x2816, .f32⟩
  | .hbm, ⟨42, _⟩ => ⟨S8192x2816, .f32⟩
  | .hbm, ⟨43, _⟩ => ⟨S_, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x1024, .f32⟩
  | .hbm, ⟨51, _⟩ => ⟨S_, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192x1024, .f32⟩
  | .hbm, ⟨58, _⟩ => ⟨S8192x1024, .f32⟩
  | .hbm, ⟨59, _⟩ => ⟨S1024x2816, .f32⟩
  | .hbm, ⟨60, _⟩ => ⟨S2816x1024, .f32⟩
  | .hbm, ⟨61, _⟩ => ⟨S8192x2816, .f32⟩
  | .hbm, ⟨62, _⟩ => ⟨S8192x2816, .f32⟩
  | .hbm, ⟨63, _⟩ => ⟨S8192x2816, .f32⟩
  | .hbm, ⟨64, _⟩ => ⟨S2816x1024, .f32⟩
  | .hbm, ⟨65, _⟩ => ⟨S1024x2816, .f32⟩
  | .hbm, ⟨66, _⟩ => ⟨S8192x1024, .f32⟩
  | .hbm, ⟨67, _⟩ => ⟨S8192x2816, .f32⟩
  | .hbm, ⟨68, _⟩ => ⟨S8192x2816, .f32⟩
  | .hbm, ⟨69, _⟩ => ⟨S8192x2816, .f32⟩
  | .hbm, ⟨70, _⟩ => ⟨S8192x2816, .f32⟩
  | .hbm, ⟨71, _⟩ => ⟨S2816x1024, .f32⟩
  | .hbm, ⟨72, _⟩ => ⟨S1024x2816, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S8192x1024, .f32⟩
  | .hbm, ⟨80, _⟩ => ⟨S8192x1024, .f32⟩
  | .hbm, ⟨81, _⟩ => ⟨S_, .f32⟩
  | .hbm, ⟨82, _⟩ => ⟨S1024, .f32⟩
  | .hbm, ⟨83, _⟩ => ⟨S8192x1024, .f32⟩
  | .hbm, ⟨84, _⟩ => ⟨S_, .f32⟩
  | .hbm, ⟨85, _⟩ => ⟨S8192, .f32⟩
  | .hbm, ⟨86, _⟩ => ⟨S8192x1, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x1, .f32⟩
  | .hbm, ⟨91, _⟩ => ⟨S_, .f32⟩
  | .hbm, ⟨92, _⟩ => ⟨S8192x1, .f32⟩
  | .hbm, ⟨93, _⟩ => ⟨S8192x1, .f32⟩
  | .hbm, ⟨94, _⟩ => ⟨S_, .f32⟩
  | .hbm, ⟨95, _⟩ => ⟨S8192, .f32⟩
  | .hbm, ⟨96, _⟩ => ⟨S8192x1024, .f32⟩
  | .hbm, ⟨97, _⟩ => ⟨S8192x1024, .f32⟩
  | .hbm, ⟨98, _⟩ => ⟨S8192x1024, .f32⟩
  | .hbm, ⟨99, _⟩ => ⟨S8192x1024, .f32⟩
  | .hbm, ⟨100, _⟩ => ⟨S8192x1024, .f32⟩
  | .hbm, ⟨101, _⟩ => ⟨S1x1024, .f32⟩
  | .hbm, ⟨102, _⟩ => ⟨S1024x4x704, .f32⟩
  | .hbm, ⟨103, _⟩ => ⟨S4x1024x704, .f32⟩
  | .hbm, ⟨104, _⟩ => ⟨S1024x4x704, .f32⟩
  | .hbm, ⟨105, _⟩ => ⟨S4x1024x704, .f32⟩
  | .hbm, ⟨106, _⟩ => ⟨S4x704x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_v25_2 : Ref sig .tc := ⟨.hbm, 42, rfl⟩
abbrev main_call0_cst_1 : Ref sig .tc := ⟨.hbm, 43, rfl⟩
abbrev main_call0_v6 : Ref sig .tc := ⟨.hbm, 44, rfl⟩
abbrev main_call0_v7 : Ref sig .tc := ⟨.hbm, 45, rfl⟩
abbrev main_v25_1 : Ref sig .tc := ⟨.hbm, 46, rfl⟩
abbrev main_v25_0 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_3 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_4 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_5 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_6 : Ref sig .tc := ⟨.hbm, 81, rfl⟩
abbrev main_v53 : Ref sig .tc := ⟨.hbm, 82, rfl⟩
abbrev main_v54 : Ref sig .tc := ⟨.hbm, 83, rfl⟩
abbrev main_cst_7 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_8 : Ref sig .tc := ⟨.hbm, 91, rfl⟩
abbrev main_v61 : Ref sig .tc := ⟨.hbm, 92, rfl⟩
abbrev main_v62 : Ref sig .tc := ⟨.hbm, 93, rfl⟩
abbrev main_cst_9 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩

abbrev nD : Nat := 1
abbrev τ : Topo := Topo.v7x

variable {F : FTy → Type} [FloatOps F]
-- ==== Kernel3.lean ====
abbrev S8192x1024 : Shape := ⟨2, ![8192, 1024]⟩
abbrev S4x2x1024 : Shape := ⟨3, ![4, 2, 1024]⟩
abbrev S4x2x1024x2816 : Shape := ⟨4, ![4, 2, 1024, 2816]⟩
abbrev S4x2x2816x1024 : Shape := ⟨4, ![4, 2, 2816, 1024]⟩
abbrev S8x1024x4x704 : Shape := ⟨4, ![8, 1024, 4, 704]⟩
abbrev S4x8x1024x704 : Shape := ⟨4, ![4, 8, 1024, 704]⟩
abbrev S8x4x704x1024 : Shape := ⟨4, ![8, 4, 704, 1024]⟩
abbrev S4x8x704x1024 : Shape := ⟨4, ![4, 8, 704, 1024]⟩
abbrev S8x1024 : Shape := ⟨2, ![8, 1024]⟩
abbrev S1x1024 : Shape := ⟨2, ![1, 1024]⟩
abbrev S4x8192x704 : Shape := ⟨3, ![4, 8192, 704]⟩
abbrev S1024x1024 : Shape := ⟨2, ![1024, 1024]⟩
abbrev S1x1x1024x704 : Shape := ⟨4, ![1, 1, 1024, 704]⟩
abbrev S1x1x704x1024 : Shape := ⟨4, ![1, 1, 704, 1024]⟩
abbrev S1x1024x704 : Shape := ⟨3, ![1, 1024, 704]⟩
abbrev S1024 : Shape := ⟨1, ![1024]⟩
abbrev S1024x1 : Shape := ⟨2, ![1024, 1]⟩
abbrev S1024x704 : Shape := ⟨2, ![1024, 704]⟩
abbrev S704x1024 : Shape := ⟨2, ![704, 1024]⟩
abbrev S512x1024 : Shape := ⟨2, ![512, 1024]⟩
abbrev S1x512x704 : Shape := ⟨3, ![1, 512, 704]⟩
abbrev S512x704 : Shape := ⟨2, ![512, 704]⟩
abbrev S512 : Shape := ⟨1, ![512]⟩
abbrev S512x1 : Shape := ⟨2, ![512, 1]⟩
abbrev S2048x1024 : Shape := ⟨2, ![2048, 1024]⟩
abbrev S1x2048x704 : Shape := ⟨3, ![1, 2048, 704]⟩
abbrev S1024x2048 : Shape := ⟨2, ![1024, 2048]⟩
abbrev S2048x704 : Shape := ⟨2, ![2048, 704]⟩
abbrev S1x4096x704 : Shape := ⟨3, ![1, 4096, 704]⟩
abbrev S4096x1024 : Shape := ⟨2, ![4096, 1024]⟩
abbrev S4096x704 : Shape := ⟨2, ![4096, 704]⟩
abbrev S4x1x1024x704 : Shape := ⟨4, ![4, 1, 1024, 704]⟩
abbrev S4x1024x704 : Shape := ⟨3, ![4, 1024, 704]⟩
abbrev S4x1x704x1024 : Shape := ⟨4, ![4, 1, 704, 1024]⟩
abbrev S4x704x1024 : Shape := ⟨3, ![4, 704, 1024]⟩

abbrev nBuf : Space → Nat
  | .hbm => 36
  | .vmem => 60
  | .smem => 0
  | _ => 0

abbrev bufTy : (tb : Table) → Fin (tcTables nBuf tb) → BufTy
  | .hbm, ⟨0, _⟩ => ⟨S8192x1024, .f32⟩
  | .hbm, ⟨1, _⟩ => ⟨S4x2x1024, .f32⟩
  | .hbm, ⟨2, _⟩ => ⟨S4x2x1024x2816, .f32⟩
  | .hbm, ⟨3, _⟩ => ⟨S4x2x1024x2816, .f32⟩
  | .hbm, ⟨4, _⟩ => ⟨S4x2x2816x1024, .f32⟩
  | .hbm, ⟨5, _⟩ => ⟨S8192x1024, .f32⟩
  | .hbm, ⟨6, _⟩ => ⟨S4x2x1024x2816, .bf16⟩
  | .hbm, ⟨7, _⟩ => ⟨S8x1024x4x704, .bf16⟩
  | .hbm, ⟨8, _⟩ => ⟨S4x8x1024x704, .bf16⟩
  | .hbm, ⟨9, _⟩ => ⟨S4x2x1024x2816, .bf16⟩
  | .hbm, ⟨10, _⟩ => ⟨S8x1024x4x704, .bf16⟩
  | .hbm, ⟨11, _⟩ => ⟨S4x8x1024x704, .bf16⟩
  | .hbm, ⟨12, _⟩ => ⟨S4x2x2816x1024, .bf16⟩
  | .hbm, ⟨13, _⟩ => ⟨S8x4x704x1024, .bf16⟩
  | .hbm, ⟨14, _⟩ => ⟨S4x8x704x1024, .bf16⟩
  | .hbm, ⟨15, _⟩ => ⟨S8x1024, .f32⟩
  | .hbm, ⟨16, _⟩ => ⟨S1x1024, .f32⟩
  | .hbm, ⟨17, _⟩ => ⟨S8192x1024, .f32⟩
  | .hbm, ⟨18, _⟩ => ⟨S8192x1024, .bf16⟩
  | .hbm, ⟨19, _⟩ => ⟨S4x8192x704, .bf16⟩
  | .hbm, ⟨20, _⟩ => ⟨S4x8192x704, .bf16⟩
  | .hbm, ⟨21, _⟩ => ⟨S4x8192x704, .bf16⟩
  | .hbm, ⟨22, _⟩ => ⟨S8192x1024, .f32⟩
  | .hbm, ⟨23, _⟩ => ⟨S4x8192x704, .bf16⟩
  | .hbm, ⟨24, _⟩ => ⟨S4x8192x704, .bf16⟩
  | .hbm, ⟨25, _⟩ => ⟨S8192x1024, .bf16⟩
  | .hbm, ⟨26, _⟩ => ⟨S1x1024, .f32⟩
  | .hbm, ⟨27, _⟩ => ⟨S4x8x1024x704, .f32⟩
  | .hbm, ⟨28, _⟩ => ⟨S4x8x1024x704, .f32⟩
  | .hbm, ⟨29, _⟩ => ⟨S4x8x704x1024, .f32⟩
  | .hbm, ⟨30, _⟩ => ⟨S4x1x1024x704, .f32⟩
  | .hbm, ⟨31, _⟩ => ⟨S4x1024x704, .f32⟩
  | .hbm, ⟨32, _⟩ => ⟨S4x1x1024x704, .f32⟩
  | .hbm, ⟨33, _⟩ => ⟨S4x1024x704, .f32⟩
  | .hbm, ⟨34, _⟩ => ⟨S4x1x704x1024, .f32⟩
  | .hbm, ⟨35, _⟩ => ⟨S4x704x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024x704, .bf16⟩
  | .local _ .vmem, ⟨4, _⟩ => ⟨S1x1x1024x704, .bf16⟩
  | .local _ .vmem, ⟨5, _⟩ => ⟨S1x1x1024x704, .bf16⟩
  | .local _ .vmem, ⟨6, _⟩ => ⟨S1x1x1024x704, .bf16⟩
  | .local _ .vmem, ⟨7, _⟩ => ⟨S1x1x704x1024, .bf16⟩
  | .local _ .vmem, ⟨8, _⟩ => ⟨S1x1x704x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1024x704, .bf16⟩
  | .local _ .vmem, ⟨14, _⟩ => ⟨S1x1024x704, .bf16⟩
  | .local _ .vmem, ⟨15, _⟩ => ⟨S1x1024x704, .bf16⟩
  | .local _ .vmem, ⟨16, _⟩ => ⟨S1x1024x704, .bf16⟩
  | .local _ .vmem, ⟨17, _⟩ => ⟨S1x1024x704, .bf16⟩
  | .local _ .vmem, ⟨18, _⟩ => ⟨S1x1024x704, .bf16⟩
  | .local _ .vmem, ⟨19, _⟩ => ⟨S1024x1024, .f32⟩
  | .local _ .vmem, ⟨20, _⟩ => ⟨S512x1024, .f32⟩
  | .local _ .vmem, ⟨21, _⟩ => ⟨S512x1024, .f32⟩
  | .local _ .vmem, ⟨22, _⟩ => ⟨S1x1024, .f32⟩
  | .local _ .vmem, ⟨23, _⟩ => ⟨S512x1024, .f32⟩
  | .local _ .vmem, ⟨24, _⟩ => ⟨S512x1024, .f32⟩
  | .local _ .vmem, ⟨25, _⟩ => ⟨S1x512x704, .bf16⟩
  | .local _ .vmem, ⟨26, _⟩ => ⟨S1x512x704, .bf16⟩
  | .local _ .vmem, ⟨27, _⟩ => ⟨S1x512x704, .bf16⟩
  | .local _ .vmem, ⟨28, _⟩ => ⟨S1x512x704, .bf16⟩
  | .local _ .vmem, ⟨29, _⟩ => ⟨S1x1x1024x704, .bf16⟩
  | .local _ .vmem, ⟨30, _⟩ => ⟨S1x1x1024x704, .bf16⟩
  | .local _ .vmem, ⟨31, _⟩ => ⟨S1x1x1024x704, .bf16⟩
  | .local _ .vmem, ⟨32, _⟩ => ⟨S1x1x1024x704, .bf16⟩
  | .local _ .vmem, ⟨33, _⟩ => ⟨S1x1x704x1024, .bf16⟩
  | .local _ .vmem, ⟨34, _⟩ => ⟨S1x1x704x1024, .bf16⟩
  | .local _ .vmem, ⟨35, _⟩ => ⟨S512x1024, .f32⟩
  | .local _ .vmem, ⟨36, _⟩ => ⟨S512x1024, .f32⟩
  | .local _ .vmem, ⟨37, _⟩ => ⟨S1x512x704, .bf16⟩
  | .local _ .vmem, ⟨38, _⟩ => ⟨S1x512x704, .bf16⟩
  | .local _ .vmem, ⟨39, _⟩ => ⟨S1x512x704, .bf16⟩
  | .local _ .vmem, ⟨40, _⟩ => ⟨S1x512x704, .bf16⟩
  | .local _ .vmem, ⟨41, _⟩ => ⟨S512x1024, .bf16⟩
  | .local _ .vmem, ⟨42, _⟩ => ⟨S512x1024, .bf16⟩
  | .local _ .vmem, ⟨43, _⟩ => ⟨S1x1024, .f32⟩
  | .local _ .vmem, ⟨44, _⟩ => ⟨S2048x1024, .bf16⟩
  | .local _ .vmem, ⟨45, _⟩ => ⟨S2048x1024, .bf16⟩
  | .local _ .vmem, ⟨46, _⟩ => ⟨S1x2048x704, .bf16⟩
  | .local _ .vmem, ⟨47, _⟩ => ⟨S1x2048x704, .bf16⟩
  | .local _ .vmem, ⟨48, _⟩ => ⟨S1x2048x704, .bf16⟩
  | .local _ .vmem, ⟨49, _⟩ => ⟨S1x2048x704, .bf16⟩
  | .local _ .vmem, ⟨50, _⟩ => ⟨S1x1x1024x704, .f32⟩
  | .local _ .vmem, ⟨51, _⟩ => ⟨S1x1x1024x704, .f32⟩
  | .local _ .vmem, ⟨52, _⟩ => ⟨S1x1x1024x704, .f32⟩
  | .local _ .vmem, ⟨53, _⟩ => ⟨S1x1x1024x704, .f32⟩
  | .local _ .vmem, ⟨54, _⟩ => ⟨S1x4096x704, .bf16⟩
  | .local _ .vmem, ⟨55, _⟩ => ⟨S1x4096x704, .bf16⟩
  | .local _ .vmem, ⟨56, _⟩ => ⟨S4096x1024, .bf16⟩
  | .local _ .vmem, ⟨57, _⟩ => ⟨S4096x1024, .bf16⟩
  | .local _ .vmem, ⟨58, _⟩ => ⟨S1x1x704x1024, .f32⟩
  | .local _ .vmem, ⟨59, _⟩ => ⟨S1x1x704x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTc nBuf bufTy 0 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v11_2 : Ref sig .tc := ⟨.hbm, 19, rfl⟩
abbrev main_v11_3 : Ref sig .tc := ⟨.hbm, 20, rfl⟩
abbrev main_v11_4 : Ref sig .tc := ⟨.hbm, 21, rfl⟩
abbrev main_v12_0 : Ref sig .tc := ⟨.hbm, 22, rfl⟩
abbrev main_v12_1 : Ref sig .tc := ⟨.hbm, 23, rfl⟩
abbrev main_v12_2 : Ref sig .tc := ⟨.hbm, 24, rfl⟩
abbrev main_v12_3 : Ref sig .tc := ⟨.hbm, 25, rfl⟩
abbrev main_v12_4 : Ref sig .tc := ⟨.hbm, 26, rfl⟩
abbrev main_v13_0 : Ref sig .tc := ⟨.hbm, 27, rfl⟩
abbrev main_v13_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg3_1 : Ref sig .tc := ⟨.vmem, 26, rfl⟩
abbrev cc1_stg4_0 : Ref sig .tc := ⟨.vmem, 27, rfl⟩
abbrev cc1_stg4_1 : Ref sig .tc := ⟨.vmem, 28, rfl⟩
abbrev cc1_stg5_0 : Ref sig .tc := ⟨.vmem, 29, rfl⟩
abbrev cc1_stg5_1 : Ref sig .tc := ⟨.vmem, 30, rfl⟩
abbrev cc1_stg6_0 : Ref sig .tc := ⟨.vmem, 31, rfl⟩
abbrev cc1_stg6_1 : Ref sig .tc := ⟨.vmem, 32, rfl⟩
abbrev cc1_stg7_0 : Ref sig .tc := ⟨.vmem, 33, rfl⟩
abbrev cc1_stg7_1 : Ref sig .tc := ⟨.vmem, 34, rfl⟩
abbrev cc1_stg8_0 : Ref sig .tc := ⟨.vmem, 35, rfl⟩
abbrev cc1_stg8_1 : Ref sig .tc := ⟨.vmem, 36, rfl⟩
abbrev cc1_stg9_0 : Ref sig .tc := ⟨.vmem, 37, rfl⟩
abbrev cc1_stg9_1 : Ref sig .tc := ⟨.vmem, 38, rfl⟩
abbrev cc1_stg10_0 : Ref sig .tc := ⟨.vmem, 39, rfl⟩
abbrev cc1_stg10_1 : Ref sig .tc := ⟨.vmem, 40, rfl⟩
abbrev cc1_stg11_0 : Ref sig .tc := ⟨.vmem, 41, rfl⟩
abbrev cc1_stg11_1 : Ref sig .tc := ⟨.vmem, 42, rfl⟩
abbrev cc1_stg12_0 : Ref sig .tc := ⟨.vmem, 43, rfl⟩
abbrev cc2_stg0_0 : Ref sig .tc := ⟨.vmem, 44, rfl⟩
abbrev cc2_stg0_1 : Ref sig .tc := ⟨.vmem, 45, rfl⟩
abbrev cc2_stg1_0 : Ref sig .tc := ⟨.vmem, 46, rfl⟩
abbrev cc2_stg1_1 : Ref sig .tc := ⟨.vmem, 47, rfl⟩
abbrev cc2_stg2_0 : Ref sig .tc := ⟨.vmem, 48, rfl⟩
abbrev cc2_stg2_1 : Ref sig .tc := ⟨.vmem, 49, rfl⟩
abbrev cc2_stg3_0 : Ref sig .tc := ⟨.vmem, 50, rfl⟩
abbrev cc2_stg3_1 : Ref sig .tc := ⟨.vmem, 51, rfl⟩
abbrev cc2_stg4_0 : Ref sig .tc := ⟨.vmem, 52, rfl⟩
abbrev cc2_stg4_1 : Ref sig .tc := ⟨.vmem, 53, rfl⟩
abbrev cc3_stg0_0 : Ref sig .tc := ⟨.vmem, 54, rfl⟩
abbrev cc3_stg0_1 : Ref sig .tc := ⟨.vmem, 55, rfl⟩
abbrev cc3_stg1_0 : Ref sig .tc := ⟨.vmem, 56, rfl⟩
abbrev cc3_stg1_1 : Ref sig .tc := ⟨.vmem, 57, rfl⟩
abbrev cc3_stg2_0 : Ref sig .tc := ⟨.vmem, 58, rfl⟩
abbrev cc3_stg2_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc1_sem0_0 : DmaSem sig := 19
abbrev cc1_sem0_1 : DmaSem sig := 20
abbrev cc1_sem1_0 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31
abbrev cc1_sem7_0 : DmaSem sig := 32
abbrev cc1_sem7_1 : DmaSem sig := 33
abbrev cc1_sem8_0 : DmaSem sig := 34
abbrev cc1_sem8_1 : DmaSem sig := 35
abbrev cc1_sem9_0 : DmaSem sig := 36
abbrev cc1_sem9_1 : DmaSem sig := 37
abbrev cc1_sem10_0 : DmaSem sig := 38
abbrev cc1_sem10_1 : DmaSem sig := 39
abbrev cc1_sem11_0 : DmaSem sig := 40
abbrev cc1_sem11_1 : DmaSem sig := 41
abbrev cc1_sem12_0 : DmaSem sig := 42
abbrev cc2_sem0_0 : DmaSem sig := 43
abbrev cc2_sem0_1 : DmaSem sig := 44
abbrev cc2_sem1_0 : DmaSem sig := 45
abbrev cc2_sem1_1 : DmaSem sig := 46
abbrev cc2_sem2_0 : DmaSem sig := 47
abbrev cc2_sem2_1 : DmaSem sig := 48
abbrev cc2_sem3_0 : DmaSem sig := 49
abbrev cc2_sem3_1 : DmaSem sig := 50
abbrev cc2_sem4_0 : DmaSem sig := 51
abbrev cc2_sem4_1 : DmaSem sig := 52
abbrev cc3_sem0_0 : DmaSem sig := 53
abbrev cc3_sem0_1 : DmaSem sig := 54
abbrev cc3_sem1_0 : DmaSem sig := 55
abbrev cc3_sem1_1 : DmaSem sig := 56
abbrev cc3_sem2_0 : DmaSem sig := 57
abbrev cc3_sem2_1 : DmaSem sig := 58

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v47 : BitVec 1 := Scalar.cmpi .eq arg1 c3_i32
  let v48 : BitVec 32 := Scalar.extui v47
  let c0_i32_34 : BitVec 32 := 0#32
  let v49 : BitVec 1 := Scalar.cmpi .ne v48 c0_i32_34
  v49

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![arg1.toNat, c3_i32.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![arg1.toNat, c3_i32.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![arg1.toNat, c3_i32.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨2, ![16, 4], ![false, false]⟩

def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k1_cond2 (i : grid1.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def k1_cond3 (i : grid1.Coords) : BitVec 1 :=
  let arg1 : BitVec 32 := BitVec.ofNat 32 (i 1).val
  let c3_i32 : BitVec 32 := 3#32
  let v40 : BitVec 1 := Scalar.cmpi .eq arg1 c3_i32
  let v41 : BitVec 32 := Scalar.extui v40
  let c0_i32_35 : BitVec 32 := 0#32
  let v42 : BitVec 1 := Scalar.cmpi .ne v41 c0_i32_35
  v42

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_5 (i : grid1.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![arg1.toNat, c3_i32.toNat, c0_i32.toNat, c0_i32_0.toNat]

def cc1_transform_6 (i : grid1.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![arg1.toNat, c3_i32.toNat, c0_i32.toNat, c0_i32_0.toNat]

def cc1_transform_7 (i : grid1.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![arg1.toNat, c3_i32.toNat, c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x704 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x512x704 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1x1024x704 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S1x1x1024x704 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true]

abbrev stage1_7 : Fin 2 → Memref sig .tc .vmem S1x1x704x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![false, true]

abbrev stage1_8 : Fin 2 → Memref sig .tc .vmem S512x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S1x512x704 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1x512x704 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S512x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, false]

abbrev stage1_12 : Fin 1 → Memref sig .tc .vmem S1x1024 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false, false]

abbrev grid2 : Pipeline.Grid := ⟨2, ![4, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_3 (i : grid2.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![arg0.toNat, c3_i32.toNat, c0_i32.toNat, c0_i32_0.toNat]

def cc2_transform_4 (i : grid2.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![arg0.toNat, c3_i32.toNat, c0_i32.toNat, c0_i32_0.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1x2048x704 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x2048x704 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x1x1024x704 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x1x1024x704 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev grid3 : Pipeline.Grid := ⟨2, ![4, 2], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![arg0.toNat, c3_i32.toNat, c0_i32.toNat, c0_i32_0.toNat]

abbrev stage3_0 : Fin 2 → Memref sig .tc .vmem S1x4096x704 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1x1x704x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]
-- ==== Kernel3Ideal.lean ====
abbrev S8192x1024 : Shape := ⟨2, ![8192, 1024]⟩
abbrev S4x2x1024 : Shape := ⟨3, ![4, 2, 1024]⟩
abbrev S4x2x1024x2816 : Shape := ⟨4, ![4, 2, 1024, 2816]⟩
abbrev S4x2x2816x1024 : Shape := ⟨4, ![4, 2, 2816, 1024]⟩
abbrev S8x1024x4x704 : Shape := ⟨4, ![8, 1024, 4, 704]⟩
abbrev S4x8x1024x704 : Shape := ⟨4, ![4, 8, 1024, 704]⟩
abbrev S8x4x704x1024 : Shape := ⟨4, ![8, 4, 704, 1024]⟩
abbrev S4x8x704x1024 : Shape := ⟨4, ![4, 8, 704, 1024]⟩
abbrev S8x1024 : Shape := ⟨2, ![8, 1024]⟩
abbrev S1x1024 : Shape := ⟨2, ![1, 1024]⟩
abbrev S4x8192x704 : Shape := ⟨3, ![4, 8192, 704]⟩
abbrev S1024x1024 : Shape := ⟨2, ![1024, 1024]⟩
abbrev S1x1x1024x704 : Shape := ⟨4, ![1, 1, 1024, 704]⟩
abbrev S1x1x704x1024 : Shape := ⟨4, ![1, 1, 704, 1024]⟩
abbrev S1x1024x704 : Shape := ⟨3, ![1, 1024, 704]⟩
abbrev S1024 : Shape := ⟨1, ![1024]⟩
abbrev S1024x1 : Shape := ⟨2, ![1024, 1]⟩
abbrev S1024x704 : Shape := ⟨2, ![1024, 704]⟩
abbrev S704x1024 : Shape := ⟨2, ![704, 1024]⟩
abbrev S512x1024 : Shape := ⟨2, ![512, 1024]⟩
abbrev S1x512x704 : Shape := ⟨3, ![1, 512, 704]⟩
abbrev S512x704 : Shape := ⟨2, ![512, 704]⟩
abbrev S512 : Shape := ⟨1, ![512]⟩
abbrev S512x1 : Shape := ⟨2, ![512, 1]⟩
abbrev S2048x1024 : Shape := ⟨2, ![2048, 1024]⟩
abbrev S1x2048x704 : Shape := ⟨3, ![1, 2048, 704]⟩
abbrev S1024x2048 : Shape := ⟨2, ![1024, 2048]⟩
abbrev S2048x704 : Shape := ⟨2, ![2048, 704]⟩
abbrev S1x4096x704 : Shape := ⟨3, ![1, 4096, 704]⟩
abbrev S4096x1024 : Shape := ⟨2, ![4096, 1024]⟩
abbrev S4096x704 : Shape := ⟨2, ![4096, 704]⟩
abbrev S4x1x1024x704 : Shape := ⟨4, ![4, 1, 1024, 704]⟩
abbrev S4x1024x704 : Shape := ⟨3, ![4, 1024, 704]⟩
abbrev S4x1x704x1024 : Shape := ⟨4, ![4, 1, 704, 1024]⟩
abbrev S4x704x1024 : Shape := ⟨3, ![4, 704, 1024]⟩

abbrev nBuf : Space → Nat
  | .hbm => 36
  | .vmem => 60
  | .smem => 0
  | _ => 0

abbrev bufTy : (tb : Table) → Fin (tcTables nBuf tb) → BufTy
  | .hbm, ⟨0, _⟩ => ⟨S8192x1024, .f32⟩
  | .hbm, ⟨1, _⟩ => ⟨S4x2x1024, .f32⟩
  | .hbm, ⟨2, _⟩ => ⟨S4x2x1024x2816, .f32⟩
  | .hbm, ⟨3, _⟩ => ⟨S4x2x1024x2816, .f32⟩
  | .hbm, ⟨4, _⟩ => ⟨S4x2x2816x1024, .f32⟩
  | .hbm, ⟨5, _⟩ => ⟨S8192x1024, .f32⟩
  | .hbm, ⟨6, _⟩ => ⟨S4x2x1024x2816, .bf16⟩
  | .hbm, ⟨7, _⟩ => ⟨S8x1024x4x704, .bf16⟩
  | .hbm, ⟨8, _⟩ => ⟨S4x8x1024x704, .bf16⟩
  | .hbm, ⟨9, _⟩ => ⟨S4x2x1024x2816, .bf16⟩
  | .hbm, ⟨10, _⟩ => ⟨S8x1024x4x704, .bf16⟩
  | .hbm, ⟨11, _⟩ => ⟨S4x8x1024x704, .bf16⟩
  | .hbm, ⟨12, _⟩ => ⟨S4x2x2816x1024, .bf16⟩
  | .hbm, ⟨13, _⟩ => ⟨S8x4x704x1024, .bf16⟩
  | .hbm, ⟨14, _⟩ => ⟨S4x8x704x1024, .bf16⟩
  | .hbm, ⟨15, _⟩ => ⟨S8x1024, .f32⟩
  | .hbm, ⟨16, _⟩ => ⟨S1x1024, .f32⟩
  | .hbm, ⟨17, _⟩ => ⟨S8192x1024, .f32⟩
  | .hbm, ⟨18, _⟩ => ⟨S8192x1024, .bf16⟩
  | .hbm, ⟨19, _⟩ => ⟨S4x8192x704, .bf16⟩
  | .hbm, ⟨20, _⟩ => ⟨S4x8192x704, .bf16⟩
  | .hbm, ⟨21, _⟩ => ⟨S4x8192x704, .bf16⟩
  | .hbm, ⟨22, _⟩ => ⟨S8192x1024, .f32⟩
  | .hbm, ⟨23, _⟩ => ⟨S4x8192x704, .bf16⟩
  | .hbm, ⟨24, _⟩ => ⟨S4x8192x704, .bf16⟩
  | .hbm, ⟨25, _⟩ => ⟨S8192x1024, .bf16⟩
  | .hbm, ⟨26, _⟩ => ⟨S1x1024, .f32⟩
  | .hbm, ⟨27, _⟩ => ⟨S4x8x1024x704, .f32⟩
  | .hbm, ⟨28, _⟩ => ⟨S4x8x1024x704, .f32⟩
  | .hbm, ⟨29, _⟩ => ⟨S4x8x704x1024, .f32⟩
  | .hbm, ⟨30, _⟩ => ⟨S4x1x1024x704, .f32⟩
  | .hbm, ⟨31, _⟩ => ⟨S4x1024x704, .f32⟩
  | .hbm, ⟨32, _⟩ => ⟨S4x1x1024x704, .f32⟩
  | .hbm, ⟨33, _⟩ => ⟨S4x1024x704, .f32⟩
  | .hbm, ⟨34, _⟩ => ⟨S4x1x704x1024, .f32⟩
  | .hbm, ⟨35, _⟩ => ⟨S4x704x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024x704, .bf16⟩
  | .local _ .vmem, ⟨4, _⟩ => ⟨S1x1x1024x704, .bf16⟩
  | .local _ .vmem, ⟨5, _⟩ => ⟨S1x1x1024x704, .bf16⟩
  | .local _ .vmem, ⟨6, _⟩ => ⟨S1x1x1024x704, .bf16⟩
  | .local _ .vmem, ⟨7, _⟩ => ⟨S1x1x704x1024, .bf16⟩
  | .local _ .vmem, ⟨8, _⟩ => ⟨S1x1x704x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1024x704, .bf16⟩
  | .local _ .vmem, ⟨14, _⟩ => ⟨S1x1024x704, .bf16⟩
  | .local _ .vmem, ⟨15, _⟩ => ⟨S1x1024x704, .bf16⟩
  | .local _ .vmem, ⟨16, _⟩ => ⟨S1x1024x704, .bf16⟩
  | .local _ .vmem, ⟨17, _⟩ => ⟨S1x1024x704, .bf16⟩
  | .local _ .vmem, ⟨18, _⟩ => ⟨S1x1024x704, .bf16⟩
  | .local _ .vmem, ⟨19, _⟩ => ⟨S1024x1024, .f32⟩
  | .local _ .vmem, ⟨20, _⟩ => ⟨S512x1024, .f32⟩
  | .local _ .vmem, ⟨21, _⟩ => ⟨S512x1024, .f32⟩
  | .local _ .vmem, ⟨22, _⟩ => ⟨S1x1024, .f32⟩
  | .local _ .vmem, ⟨23, _⟩ => ⟨S512x1024, .f32⟩
  | .local _ .vmem, ⟨24, _⟩ => ⟨S512x1024, .f32⟩
  | .local _ .vmem, ⟨25, _⟩ => ⟨S1x512x704, .bf16⟩
  | .local _ .vmem, ⟨26, _⟩ => ⟨S1x512x704, .bf16⟩
  | .local _ .vmem, ⟨27, _⟩ => ⟨S1x512x704, .bf16⟩
  | .local _ .vmem, ⟨28, _⟩ => ⟨S1x512x704, .bf16⟩
  | .local _ .vmem, ⟨29, _⟩ => ⟨S1x1x1024x704, .bf16⟩
  | .local _ .vmem, ⟨30, _⟩ => ⟨S1x1x1024x704, .bf16⟩
  | .local _ .vmem, ⟨31, _⟩ => ⟨S1x1x1024x704, .bf16⟩
  | .local _ .vmem, ⟨32, _⟩ => ⟨S1x1x1024x704, .bf16⟩
  | .local _ .vmem, ⟨33, _⟩ => ⟨S1x1x704x1024, .bf16⟩
  | .local _ .vmem, ⟨34, _⟩ => ⟨S1x1x704x1024, .bf16⟩
  | .local _ .vmem, ⟨35, _⟩ => ⟨S512x1024, .f32⟩
  | .local _ .vmem, ⟨36, _⟩ => ⟨S512x1024, .f32⟩
  | .local _ .vmem, ⟨37, _⟩ => ⟨S1x512x704, .bf16⟩
  | .local _ .vmem, ⟨38, _⟩ => ⟨S1x512x704, .bf16⟩
  | .local _ .vmem, ⟨39, _⟩ => ⟨S1x512x704, .bf16⟩
  | .local _ .vmem, ⟨40, _⟩ => ⟨S1x512x704, .bf16⟩
  | .local _ .vmem, ⟨41, _⟩ => ⟨S512x1024, .bf16⟩
  | .local _ .vmem, ⟨42, _⟩ => ⟨S512x1024, .bf16⟩
  | .local _ .vmem, ⟨43, _⟩ => ⟨S1x1024, .f32⟩
  | .local _ .vmem, ⟨44, _⟩ => ⟨S2048x1024, .bf16⟩
  | .local _ .vmem, ⟨45, _⟩ => ⟨S2048x1024, .bf16⟩
  | .local _ .vmem, ⟨46, _⟩ => ⟨S1x2048x704, .bf16⟩
  | .local _ .vmem, ⟨47, _⟩ => ⟨S1x2048x704, .bf16⟩
  | .local _ .vmem, ⟨48, _⟩ => ⟨S1x2048x704, .bf16⟩
  | .local _ .vmem, ⟨49, _⟩ => ⟨S1x2048x704, .bf16⟩
  | .local _ .vmem, ⟨50, _⟩ => ⟨S1x1x1024x704, .f32⟩
  | .local _ .vmem, ⟨51, _⟩ => ⟨S1x1x1024x704, .f32⟩
  | .local _ .vmem, ⟨52, _⟩ => ⟨S1x1x1024x704, .f32⟩
  | .local _ .vmem, ⟨53, _⟩ => ⟨S1x1x1024x704, .f32⟩
  | .local _ .vmem, ⟨54, _⟩ => ⟨S1x4096x704, .bf16⟩
  | .local _ .vmem, ⟨55, _⟩ => ⟨S1x4096x704, .bf16⟩
  | .local _ .vmem, ⟨56, _⟩ => ⟨S4096x1024, .bf16⟩
  | .local _ .vmem, ⟨57, _⟩ => ⟨S4096x1024, .bf16⟩
  | .local _ .vmem, ⟨58, _⟩ => ⟨S1x1x704x1024, .f32⟩
  | .local _ .vmem, ⟨59, _⟩ => ⟨S1x1x704x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTc nBuf bufTy 0 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v11_2 : Ref sig .tc := ⟨.hbm, 19, rfl⟩
abbrev main_v11_3 : Ref sig .tc := ⟨.hbm, 20, rfl⟩
abbrev main_v11_4 : Ref sig .tc := ⟨.hbm, 21, rfl⟩
abbrev main_v12_0 : Ref sig .tc := ⟨.hbm, 22, rfl⟩
abbrev main_v12_1 : Ref sig .tc := ⟨.hbm, 23, rfl⟩
abbrev main_v12_2 : Ref sig .tc := ⟨.hbm, 24, rfl⟩
abbrev main_v12_3 : Ref sig .tc := ⟨.hbm, 25, rfl⟩
abbrev main_v12_4 : Ref sig .tc := ⟨.hbm, 26, rfl⟩
abbrev main_v13_0 : Ref sig .tc := ⟨.hbm, 27, rfl⟩
abbrev main_v13_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg3_1 : Ref sig .tc := ⟨.vmem, 26, rfl⟩
abbrev cc1_stg4_0 : Ref sig .tc := ⟨.vmem, 27, rfl⟩
abbrev cc1_stg4_1 : Ref sig .tc := ⟨.vmem, 28, rfl⟩
abbrev cc1_stg5_0 : Ref sig .tc := ⟨.vmem, 29, rfl⟩
abbrev cc1_stg5_1 : Ref sig .tc := ⟨.vmem, 30, rfl⟩
abbrev cc1_stg6_0 : Ref sig .tc := ⟨.vmem, 31, rfl⟩
abbrev cc1_stg6_1 : Ref sig .tc := ⟨.vmem, 32, rfl⟩
abbrev cc1_stg7_0 : Ref sig .tc := ⟨.vmem, 33, rfl⟩
abbrev cc1_stg7_1 : Ref sig .tc := ⟨.vmem, 34, rfl⟩
abbrev cc1_stg8_0 : Ref sig .tc := ⟨.vmem, 35, rfl⟩
abbrev cc1_stg8_1 : Ref sig .tc := ⟨.vmem, 36, rfl⟩
abbrev cc1_stg9_0 : Ref sig .tc := ⟨.vmem, 37, rfl⟩
abbrev cc1_stg9_1 : Ref sig .tc := ⟨.vmem, 38, rfl⟩
abbrev cc1_stg10_0 : Ref sig .tc := ⟨.vmem, 39, rfl⟩
abbrev cc1_stg10_1 : Ref sig .tc := ⟨.vmem, 40, rfl⟩
abbrev cc1_stg11_0 : Ref sig .tc := ⟨.vmem, 41, rfl⟩
abbrev cc1_stg11_1 : Ref sig .tc := ⟨.vmem, 42, rfl⟩
abbrev cc1_stg12_0 : Ref sig .tc := ⟨.vmem, 43, rfl⟩
abbrev cc2_stg0_0 : Ref sig .tc := ⟨.vmem, 44, rfl⟩
abbrev cc2_stg0_1 : Ref sig .tc := ⟨.vmem, 45, rfl⟩
abbrev cc2_stg1_0 : Ref sig .tc := ⟨.vmem, 46, rfl⟩
abbrev cc2_stg1_1 : Ref sig .tc := ⟨.vmem, 47, rfl⟩
abbrev cc2_stg2_0 : Ref sig .tc := ⟨.vmem, 48, rfl⟩
abbrev cc2_stg2_1 : Ref sig .tc := ⟨.vmem, 49, rfl⟩
abbrev cc2_stg3_0 : Ref sig .tc := ⟨.vmem, 50, rfl⟩
abbrev cc2_stg3_1 : Ref sig .tc := ⟨.vmem, 51, rfl⟩
abbrev cc2_stg4_0 : Ref sig .tc := ⟨.vmem, 52, rfl⟩
abbrev cc2_stg4_1 : Ref sig .tc := ⟨.vmem, 53, rfl⟩
abbrev cc3_stg0_0 : Ref sig .tc := ⟨.vmem, 54, rfl⟩
abbrev cc3_stg0_1 : Ref sig .tc := ⟨.vmem, 55, rfl⟩
abbrev cc3_stg1_0 : Ref sig .tc := ⟨.vmem, 56, rfl⟩
abbrev cc3_stg1_1 : Ref sig .tc := ⟨.vmem, 57, rfl⟩
abbrev cc3_stg2_0 : Ref sig .tc := ⟨.vmem, 58, rfl⟩
abbrev cc3_stg2_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc1_sem0_0 : DmaSem sig := 19
abbrev cc1_sem0_1 : DmaSem sig := 20
abbrev cc1_sem1_0 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31
abbrev cc1_sem7_0 : DmaSem sig := 32
abbrev cc1_sem7_1 : DmaSem sig := 33
abbrev cc1_sem8_0 : DmaSem sig := 34
abbrev cc1_sem8_1 : DmaSem sig := 35
abbrev cc1_sem9_0 : DmaSem sig := 36
abbrev cc1_sem9_1 : DmaSem sig := 37
abbrev cc1_sem10_0 : DmaSem sig := 38
abbrev cc1_sem10_1 : DmaSem sig := 39
abbrev cc1_sem11_0 : DmaSem sig := 40
abbrev cc1_sem11_1 : DmaSem sig := 41
abbrev cc1_sem12_0 : DmaSem sig := 42
abbrev cc2_sem0_0 : DmaSem sig := 43
abbrev cc2_sem0_1 : DmaSem sig := 44
abbrev cc2_sem1_0 : DmaSem sig := 45
abbrev cc2_sem1_1 : DmaSem sig := 46
abbrev cc2_sem2_0 : DmaSem sig := 47
abbrev cc2_sem2_1 : DmaSem sig := 48
abbrev cc2_sem3_0 : DmaSem sig := 49
abbrev cc2_sem3_1 : DmaSem sig := 50
abbrev cc2_sem4_0 : DmaSem sig := 51
abbrev cc2_sem4_1 : DmaSem sig := 52
abbrev cc3_sem0_0 : DmaSem sig := 53
abbrev cc3_sem0_1 : DmaSem sig := 54
abbrev cc3_sem1_0 : DmaSem sig := 55
abbrev cc3_sem1_1 : DmaSem sig := 56
abbrev cc3_sem2_0 : DmaSem sig := 57
abbrev cc3_sem2_1 : DmaSem sig := 58

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v47 : BitVec 1 := Scalar.cmpi .eq arg1 c3_i32
  let v48 : BitVec 32 := Scalar.extui v47
  let c0_i32_34 : BitVec 32 := 0#32
  let v49 : BitVec 1 := Scalar.cmpi .ne v48 c0_i32_34
  v49

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![arg1.toNat, c3_i32.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![arg1.toNat, c3_i32.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![arg1.toNat, c3_i32.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨2, ![16, 4], ![false, false]⟩

def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k1_cond2 (i : grid1.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def k1_cond3 (i : grid1.Coords) : BitVec 1 :=
  let arg1 : BitVec 32 := BitVec.ofNat 32 (i 1).val
  let c3_i32 : BitVec 32 := 3#32
  let v40 : BitVec 1 := Scalar.cmpi .eq arg1 c3_i32
  let v41 : BitVec 32 := Scalar.extui v40
  let c0_i32_35 : BitVec 32 := 0#32
  let v42 : BitVec 1 := Scalar.cmpi .ne v41 c0_i32_35
  v42

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_5 (i : grid1.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![arg1.toNat, c3_i32.toNat, c0_i32.toNat, c0_i32_0.toNat]

def cc1_transform_6 (i : grid1.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![arg1.toNat, c3_i32.toNat, c0_i32.toNat, c0_i32_0.toNat]

def cc1_transform_7 (i : grid1.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![arg1.toNat, c3_i32.toNat, c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x704 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x512x704 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1x1024x704 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S1x1x1024x704 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true]

abbrev stage1_7 : Fin 2 → Memref sig .tc .vmem S1x1x704x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![false, true]

abbrev stage1_8 : Fin 2 → Memref sig .tc .vmem S512x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S1x512x704 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1x512x704 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S512x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, false]

abbrev stage1_12 : Fin 1 → Memref sig .tc .vmem S1x1024 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false, false]

abbrev grid2 : Pipeline.Grid := ⟨2, ![4, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_3 (i : grid2.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![arg0.toNat, c3_i32.toNat, c0_i32.toNat, c0_i32_0.toNat]

def cc2_transform_4 (i : grid2.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![arg0.toNat, c3_i32.toNat, c0_i32.toNat, c0_i32_0.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1x2048x704 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x2048x704 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x1x1024x704 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x1x1024x704 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev grid3 : Pipeline.Grid := ⟨2, ![4, 2], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![arg0.toNat, c3_i32.toNat, c0_i32.toNat, c0_i32_0.toNat]

abbrev stage3_0 : Fin 2 → Memref sig .tc .vmem S1x4096x704 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1x1x704x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]
-- ==== Reference3Ideal.lean ====
abbrev S8192x1024 : Shape := ⟨2, ![8192, 1024]⟩
abbrev S4x2x1024 : Shape := ⟨3, ![4, 2, 1024]⟩
abbrev S4x2x1024x2816 : Shape := ⟨4, ![4, 2, 1024, 2816]⟩
abbrev S4x2x2816x1024 : Shape := ⟨4, ![4, 2, 2816, 1024]⟩
abbrev S1x1x1024 : Shape := ⟨3, ![1, 1, 1024]⟩
abbrev S1024 : Shape := ⟨1, ![1024]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S1024x4x704 : Shape := ⟨3, ![1024, 4, 704]⟩
abbrev S4x1024x704 : Shape := ⟨3, ![4, 1024, 704]⟩
abbrev S4x704x1024 : Shape := ⟨3, ![4, 704, 1024]⟩

abbrev nBuf : Space → Nat
  | .hbm => 107
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x2x1024, .f32⟩
  | .hbm, ⟨2, _⟩ => ⟨S4x2x1024x2816, .f32⟩
  | .hbm, ⟨3, _⟩ => ⟨S4x2x1024x2816, .f32⟩
  | .hbm, ⟨4, _⟩ => ⟨S4x2x2816x1024, .f32⟩
  | .hbm, ⟨5, _⟩ => ⟨S8192x1024, .f32⟩
  | .hbm, ⟨6, _⟩ => ⟨S1x1x1024, .f32⟩
  | .hbm, ⟨7, _⟩ => ⟨S1024, .f32⟩
  | .hbm, ⟨8, _⟩ => ⟨S1x1x1024x2816, .f32⟩
  | .hbm, ⟨9, _⟩ => ⟨S1024x2816, .f32⟩
  | .hbm, ⟨10, _⟩ => ⟨S1x1x1024x2816, .f32⟩
  | .hbm, ⟨11, _⟩ => ⟨S1024x2816, .f32⟩
  | .hbm, ⟨12, _⟩ => ⟨S1x1x2816x1024, .f32⟩
  | .hbm, ⟨13, _⟩ => ⟨S2816x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S_, .f32⟩
  | .hbm, ⟨38, _⟩ => ⟨S8192x2816, .f32⟩
  | .hbm, ⟨39, _⟩ => ⟨S8192x2816, .f32⟩
  | .hbm, ⟨40, _⟩ => ⟨S_, .f32⟩
  | .hbm, ⟨41, _⟩ => ⟨S8192x2816, .f32⟩
  | .hbm, ⟨42, _⟩ => ⟨S8192x2816, .f32⟩
  | .hbm, ⟨43, _⟩ => ⟨S_, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x1024, .f32⟩
  | .hbm, ⟨51, _⟩ => ⟨S_, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192x1024, .f32⟩
  | .hbm, ⟨58, _⟩ => ⟨S8192x1024, .f32⟩
  | .hbm, ⟨59, _⟩ => ⟨S1024x2816, .f32⟩
  | .hbm, ⟨60, _⟩ => ⟨S2816x1024, .f32⟩
  | .hbm, ⟨61, _⟩ => ⟨S8192x2816, .f32⟩
  | .hbm, ⟨62, _⟩ => ⟨S8192x2816, .f32⟩
  | .hbm, ⟨63, _⟩ => ⟨S8192x2816, .f32⟩
  | .hbm, ⟨64, _⟩ => ⟨S2816x1024, .f32⟩
  | .hbm, ⟨65, _⟩ => ⟨S1024x2816, .f32⟩
  | .hbm, ⟨66, _⟩ => ⟨S8192x1024, .f32⟩
  | .hbm, ⟨67, _⟩ => ⟨S8192x2816, .f32⟩
  | .hbm, ⟨68, _⟩ => ⟨S8192x2816, .f32⟩
  | .hbm, ⟨69, _⟩ => ⟨S8192x2816, .f32⟩
  | .hbm, ⟨70, _⟩ => ⟨S8192x2816, .f32⟩
  | .hbm, ⟨71, _⟩ => ⟨S2816x1024, .f32⟩
  | .hbm, ⟨72, _⟩ => ⟨S1024x2816, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S8192x1024, .f32⟩
  | .hbm, ⟨80, _⟩ => ⟨S8192x1024, .f32⟩
  | .hbm, ⟨81, _⟩ => ⟨S_, .f32⟩
  | .hbm, ⟨82, _⟩ => ⟨S1024, .f32⟩
  | .hbm, ⟨83, _⟩ => ⟨S8192x1024, .f32⟩
  | .hbm, ⟨84, _⟩ => ⟨S_, .f32⟩
  | .hbm, ⟨85, _⟩ => ⟨S8192, .f32⟩
  | .hbm, ⟨86, _⟩ => ⟨S8192x1, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x1, .f32⟩
  | .hbm, ⟨91, _⟩ => ⟨S_, .f32⟩
  | .hbm, ⟨92, _⟩ => ⟨S8192x1, .f32⟩
  | .hbm, ⟨93, _⟩ => ⟨S8192x1, .f32⟩
  | .hbm, ⟨94, _⟩ => ⟨S_, .f32⟩
  | .hbm, ⟨95, _⟩ => ⟨S8192, .f32⟩
  | .hbm, ⟨96, _⟩ => ⟨S8192x1024, .f32⟩
  | .hbm, ⟨97, _⟩ => ⟨S8192x1024, .f32⟩
  | .hbm, ⟨98, _⟩ => ⟨S8192x1024, .f32⟩
  | .hbm, ⟨99, _⟩ => ⟨S8192x1024, .f32⟩
  | .hbm, ⟨100, _⟩ => ⟨S8192x1024, .f32⟩
  | .hbm, ⟨101, _⟩ => ⟨S1x1024, .f32⟩
  | .hbm, ⟨102, _⟩ => ⟨S1024x4x704, .f32⟩
  | .hbm, ⟨103, _⟩ => ⟨S4x1024x704, .f32⟩
  | .hbm, ⟨104, _⟩ => ⟨S1024x4x704, .f32⟩
  | .hbm, ⟨105, _⟩ => ⟨S4x1024x704, .f32⟩
  | .hbm, ⟨106, _⟩ => ⟨S4x704x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_v25_2 : Ref sig .tc := ⟨.hbm, 42, rfl⟩
abbrev main_call0_cst_1 : Ref sig .tc := ⟨.hbm, 43, rfl⟩
abbrev main_call0_v6 : Ref sig .tc := ⟨.hbm, 44, rfl⟩
abbrev main_call0_v7 : Ref sig .tc := ⟨.hbm, 45, rfl⟩
abbrev main_v25_1 : Ref sig .tc := ⟨.hbm, 46, rfl⟩
abbrev main_v25_0 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_3 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_4 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_5 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_6 : Ref sig .tc := ⟨.hbm, 81, rfl⟩
abbrev main_v53 : Ref sig .tc := ⟨.hbm, 82, rfl⟩
abbrev main_v54 : Ref sig .tc := ⟨.hbm, 83, rfl⟩
abbrev main_cst_7 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_8 : Ref sig .tc := ⟨.hbm, 91, rfl⟩
abbrev main_v61 : Ref sig .tc := ⟨.hbm, 92, rfl⟩
abbrev main_v62 : Ref sig .tc := ⟨.hbm, 93, rfl⟩
abbrev main_cst_9 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩

abbrev nD : Nat := 1
abbrev τ : Topo := Topo.v7x

variable {F : FTy → Type} [FloatOps F]
-- ==== Kernel2.lean ====
abbrev S8192x1024 : Shape := ⟨2, ![8192, 1024]⟩
abbrev S4x2x1024 : Shape := ⟨3, ![4, 2, 1024]⟩
abbrev S4x2x1024x2816 : Shape := ⟨4, ![4, 2, 1024, 2816]⟩
abbrev S4x2x2816x1024 : Shape := ⟨4, ![4, 2, 2816, 1024]⟩
abbrev S8x1024x4x704 : Shape := ⟨4, ![8, 1024, 4, 704]⟩
abbrev S4x8x1024x704 : Shape := ⟨4, ![4, 8, 1024, 704]⟩
abbrev S8x4x704x1024 : Shape := ⟨4, ![8, 4, 704, 1024]⟩
abbrev S4x8x704x1024 : Shape := ⟨4, ![4, 8, 704, 1024]⟩
abbrev S8x1024 : Shape := ⟨2, ![8, 1024]⟩
abbrev S1x1024 : Shape := ⟨2, ![1, 1024]⟩
abbrev S4x8192x704 : Shape := ⟨3, ![4, 8192, 704]⟩
abbrev S1024x1024 : Shape := ⟨2, ![1024, 1024]⟩
abbrev S1x1x1024x704 : Shape := ⟨4, ![1, 1, 1024, 704]⟩
abbrev S1x1x704x1024 : Shape := ⟨4, ![1, 1, 704, 1024]⟩
abbrev S1x1024x704 : Shape := ⟨3, ![1, 1024, 704]⟩
abbrev S1024 : Shape := ⟨1, ![1024]⟩
abbrev S1024x1 : Shape := ⟨2, ![1024, 1]⟩
abbrev S1024x704 : Shape := ⟨2, ![1024, 704]⟩
abbrev S704x1024 : Shape := ⟨2, ![704, 1024]⟩
abbrev S512x1024 : Shape := ⟨2, ![512, 1024]⟩
abbrev S1x512x704 : Shape := ⟨3, ![1, 512, 704]⟩
abbrev S512x704 : Shape := ⟨2, ![512, 704]⟩
abbrev S512 : Shape := ⟨1, ![512]⟩
abbrev S512x1 : Shape := ⟨2, ![512, 1]⟩
abbrev S2048x1024 : Shape := ⟨2, ![2048, 1024]⟩
abbrev S1x2048x704 : Shape := ⟨3, ![1, 2048, 704]⟩
abbrev S1024x2048 : Shape := ⟨2, ![1024, 2048]⟩
abbrev S2048x704 : Shape := ⟨2, ![2048, 704]⟩
abbrev S1x4096x704 : Shape := ⟨3, ![1, 4096, 704]⟩
abbrev S4096x1024 : Shape := ⟨2, ![4096, 1024]⟩
abbrev S4096x704 : Shape := ⟨2, ![4096, 704]⟩
abbrev S4x1x1024x704 : Shape := ⟨4, ![4, 1, 1024, 704]⟩
abbrev S4x1024x704 : Shape := ⟨3, ![4, 1024, 704]⟩
abbrev S4x1x704x1024 : Shape := ⟨4, ![4, 1, 704, 1024]⟩
abbrev S4x704x1024 : Shape := ⟨3, ![4, 704, 1024]⟩

abbrev nBuf : Space → Nat
  | .hbm => 36
  | .vmem => 60
  | .smem => 0
  | _ => 0

abbrev bufTy : (tb : Table) → Fin (tcTables nBuf tb) → BufTy
  | .hbm, ⟨0, _⟩ => ⟨S8192x1024, .f32⟩
  | .hbm, ⟨1, _⟩ => ⟨S4x2x1024, .f32⟩
  | .hbm, ⟨2, _⟩ => ⟨S4x2x1024x2816, .f32⟩
  | .hbm, ⟨3, _⟩ => ⟨S4x2x1024x2816, .f32⟩
  | .hbm, ⟨4, _⟩ => ⟨S4x2x2816x1024, .f32⟩
  | .hbm, ⟨5, _⟩ => ⟨S8192x1024, .f32⟩
  | .hbm, ⟨6, _⟩ => ⟨S4x2x1024x2816, .bf16⟩
  | .hbm, ⟨7, _⟩ => ⟨S8x1024x4x704, .bf16⟩
  | .hbm, ⟨8, _⟩ => ⟨S4x8x1024x704, .bf16⟩
  | .hbm, ⟨9, _⟩ => ⟨S4x2x1024x2816, .bf16⟩
  | .hbm, ⟨10, _⟩ => ⟨S8x1024x4x704, .bf16⟩
  | .hbm, ⟨11, _⟩ => ⟨S4x8x1024x704, .bf16⟩
  | .hbm, ⟨12, _⟩ => ⟨S4x2x2816x1024, .bf16⟩
  | .hbm, ⟨13, _⟩ => ⟨S8x4x704x1024, .bf16⟩
  | .hbm, ⟨14, _⟩ => ⟨S4x8x704x1024, .bf16⟩
  | .hbm, ⟨15, _⟩ => ⟨S8x1024, .f32⟩
  | .hbm, ⟨16, _⟩ => ⟨S1x1024, .f32⟩
  | .hbm, ⟨17, _⟩ => ⟨S8192x1024, .f32⟩
  | .hbm, ⟨18, _⟩ => ⟨S8192x1024, .bf16⟩
  | .hbm, ⟨19, _⟩ => ⟨S4x8192x704, .bf16⟩
  | .hbm, ⟨20, _⟩ => ⟨S4x8192x704, .bf16⟩
  | .hbm, ⟨21, _⟩ => ⟨S4x8192x704, .bf16⟩
  | .hbm, ⟨22, _⟩ => ⟨S8192x1024, .f32⟩
  | .hbm, ⟨23, _⟩ => ⟨S4x8192x704, .bf16⟩
  | .hbm, ⟨24, _⟩ => ⟨S4x8192x704, .bf16⟩
  | .hbm, ⟨25, _⟩ => ⟨S8192x1024, .bf16⟩
  | .hbm, ⟨26, _⟩ => ⟨S1x1024, .f32⟩
  | .hbm, ⟨27, _⟩ => ⟨S4x8x1024x704, .f32⟩
  | .hbm, ⟨28, _⟩ => ⟨S4x8x1024x704, .f32⟩
  | .hbm, ⟨29, _⟩ => ⟨S4x8x704x1024, .f32⟩
  | .hbm, ⟨30, _⟩ => ⟨S4x1x1024x704, .f32⟩
  | .hbm, ⟨31, _⟩ => ⟨S4x1024x704, .f32⟩
  | .hbm, ⟨32, _⟩ => ⟨S4x1x1024x704, .f32⟩
  | .hbm, ⟨33, _⟩ => ⟨S4x1024x704, .f32⟩
  | .hbm, ⟨34, _⟩ => ⟨S4x1x704x1024, .f32⟩
  | .hbm, ⟨35, _⟩ => ⟨S4x704x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024x704, .bf16⟩
  | .local _ .vmem, ⟨4, _⟩ => ⟨S1x1x1024x704, .bf16⟩
  | .local _ .vmem, ⟨5, _⟩ => ⟨S1x1x1024x704, .bf16⟩
  | .local _ .vmem, ⟨6, _⟩ => ⟨S1x1x1024x704, .bf16⟩
  | .local _ .vmem, ⟨7, _⟩ => ⟨S1x1x704x1024, .bf16⟩
  | .local _ .vmem, ⟨8, _⟩ => ⟨S1x1x704x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1024x704, .bf16⟩
  | .local _ .vmem, ⟨14, _⟩ => ⟨S1x1024x704, .bf16⟩
  | .local _ .vmem, ⟨15, _⟩ => ⟨S1x1024x704, .bf16⟩
  | .local _ .vmem, ⟨16, _⟩ => ⟨S1x1024x704, .bf16⟩
  | .local _ .vmem, ⟨17, _⟩ => ⟨S1x1024x704, .bf16⟩
  | .local _ .vmem, ⟨18, _⟩ => ⟨S1x1024x704, .bf16⟩
  | .local _ .vmem, ⟨19, _⟩ => ⟨S1024x1024, .f32⟩
  | .local _ .vmem, ⟨20, _⟩ => ⟨S512x1024, .f32⟩
  | .local _ .vmem, ⟨21, _⟩ => ⟨S512x1024, .f32⟩
  | .local _ .vmem, ⟨22, _⟩ => ⟨S1x1024, .f32⟩
  | .local _ .vmem, ⟨23, _⟩ => ⟨S512x1024, .f32⟩
  | .local _ .vmem, ⟨24, _⟩ => ⟨S512x1024, .f32⟩
  | .local _ .vmem, ⟨25, _⟩ => ⟨S1x512x704, .bf16⟩
  | .local _ .vmem, ⟨26, _⟩ => ⟨S1x512x704, .bf16⟩
  | .local _ .vmem, ⟨27, _⟩ => ⟨S1x512x704, .bf16⟩
  | .local _ .vmem, ⟨28, _⟩ => ⟨S1x512x704, .bf16⟩
  | .local _ .vmem, ⟨29, _⟩ => ⟨S1x1x1024x704, .bf16⟩
  | .local _ .vmem, ⟨30, _⟩ => ⟨S1x1x1024x704, .bf16⟩
  | .local _ .vmem, ⟨31, _⟩ => ⟨S1x1x1024x704, .bf16⟩
  | .local _ .vmem, ⟨32, _⟩ => ⟨S1x1x1024x704, .bf16⟩
  | .local _ .vmem, ⟨33, _⟩ => ⟨S1x1x704x1024, .bf16⟩
  | .local _ .vmem, ⟨34, _⟩ => ⟨S1x1x704x1024, .bf16⟩
  | .local _ .vmem, ⟨35, _⟩ => ⟨S512x1024, .f32⟩
  | .local _ .vmem, ⟨36, _⟩ => ⟨S512x1024, .f32⟩
  | .local _ .vmem, ⟨37, _⟩ => ⟨S1x512x704, .bf16⟩
  | .local _ .vmem, ⟨38, _⟩ => ⟨S1x512x704, .bf16⟩
  | .local _ .vmem, ⟨39, _⟩ => ⟨S1x512x704, .bf16⟩
  | .local _ .vmem, ⟨40, _⟩ => ⟨S1x512x704, .bf16⟩
  | .local _ .vmem, ⟨41, _⟩ => ⟨S512x1024, .bf16⟩
  | .local _ .vmem, ⟨42, _⟩ => ⟨S512x1024, .bf16⟩
  | .local _ .vmem, ⟨43, _⟩ => ⟨S1x1024, .f32⟩
  | .local _ .vmem, ⟨44, _⟩ => ⟨S2048x1024, .bf16⟩
  | .local _ .vmem, ⟨45, _⟩ => ⟨S2048x1024, .bf16⟩
  | .local _ .vmem, ⟨46, _⟩ => ⟨S1x2048x704, .bf16⟩
  | .local _ .vmem, ⟨47, _⟩ => ⟨S1x2048x704, .bf16⟩
  | .local _ .vmem, ⟨48, _⟩ => ⟨S1x2048x704, .bf16⟩
  | .local _ .vmem, ⟨49, _⟩ => ⟨S1x2048x704, .bf16⟩
  | .local _ .vmem, ⟨50, _⟩ => ⟨S1x1x1024x704, .f32⟩
  | .local _ .vmem, ⟨51, _⟩ => ⟨S1x1x1024x704, .f32⟩
  | .local _ .vmem, ⟨52, _⟩ => ⟨S1x1x1024x704, .f32⟩
  | .local _ .vmem, ⟨53, _⟩ => ⟨S1x1x1024x704, .f32⟩
  | .local _ .vmem, ⟨54, _⟩ => ⟨S1x4096x704, .bf16⟩
  | .local _ .vmem, ⟨55, _⟩ => ⟨S1x4096x704, .bf16⟩
  | .local _ .vmem, ⟨56, _⟩ => ⟨S4096x1024, .bf16⟩
  | .local _ .vmem, ⟨57, _⟩ => ⟨S4096x1024, .bf16⟩
  | .local _ .vmem, ⟨58, _⟩ => ⟨S1x1x704x1024, .f32⟩
  | .local _ .vmem, ⟨59, _⟩ => ⟨S1x1x704x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTc nBuf bufTy 0 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v11_2 : Ref sig .tc := ⟨.hbm, 19, rfl⟩
abbrev main_v11_3 : Ref sig .tc := ⟨.hbm, 20, rfl⟩
abbrev main_v11_4 : Ref sig .tc := ⟨.hbm, 21, rfl⟩
abbrev main_v12_0 : Ref sig .tc := ⟨.hbm, 22, rfl⟩
abbrev main_v12_1 : Ref sig .tc := ⟨.hbm, 23, rfl⟩
abbrev main_v12_2 : Ref sig .tc := ⟨.hbm, 24, rfl⟩
abbrev main_v12_3 : Ref sig .tc := ⟨.hbm, 25, rfl⟩
abbrev main_v12_4 : Ref sig .tc := ⟨.hbm, 26, rfl⟩
abbrev main_v13_0 : Ref sig .tc := ⟨.hbm, 27, rfl⟩
abbrev main_v13_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg3_1 : Ref sig .tc := ⟨.vmem, 26, rfl⟩
abbrev cc1_stg4_0 : Ref sig .tc := ⟨.vmem, 27, rfl⟩
abbrev cc1_stg4_1 : Ref sig .tc := ⟨.vmem, 28, rfl⟩
abbrev cc1_stg5_0 : Ref sig .tc := ⟨.vmem, 29, rfl⟩
abbrev cc1_stg5_1 : Ref sig .tc := ⟨.vmem, 30, rfl⟩
abbrev cc1_stg6_0 : Ref sig .tc := ⟨.vmem, 31, rfl⟩
abbrev cc1_stg6_1 : Ref sig .tc := ⟨.vmem, 32, rfl⟩
abbrev cc1_stg7_0 : Ref sig .tc := ⟨.vmem, 33, rfl⟩
abbrev cc1_stg7_1 : Ref sig .tc := ⟨.vmem, 34, rfl⟩
abbrev cc1_stg8_0 : Ref sig .tc := ⟨.vmem, 35, rfl⟩
abbrev cc1_stg8_1 : Ref sig .tc := ⟨.vmem, 36, rfl⟩
abbrev cc1_stg9_0 : Ref sig .tc := ⟨.vmem, 37, rfl⟩
abbrev cc1_stg9_1 : Ref sig .tc := ⟨.vmem, 38, rfl⟩
abbrev cc1_stg10_0 : Ref sig .tc := ⟨.vmem, 39, rfl⟩
abbrev cc1_stg10_1 : Ref sig .tc := ⟨.vmem, 40, rfl⟩
abbrev cc1_stg11_0 : Ref sig .tc := ⟨.vmem, 41, rfl⟩
abbrev cc1_stg11_1 : Ref sig .tc := ⟨.vmem, 42, rfl⟩
abbrev cc1_stg12_0 : Ref sig .tc := ⟨.vmem, 43, rfl⟩
abbrev cc2_stg0_0 : Ref sig .tc := ⟨.vmem, 44, rfl⟩
abbrev cc2_stg0_1 : Ref sig .tc := ⟨.vmem, 45, rfl⟩
abbrev cc2_stg1_0 : Ref sig .tc := ⟨.vmem, 46, rfl⟩
abbrev cc2_stg1_1 : Ref sig .tc := ⟨.vmem, 47, rfl⟩
abbrev cc2_stg2_0 : Ref sig .tc := ⟨.vmem, 48, rfl⟩
abbrev cc2_stg2_1 : Ref sig .tc := ⟨.vmem, 49, rfl⟩
abbrev cc2_stg3_0 : Ref sig .tc := ⟨.vmem, 50, rfl⟩
abbrev cc2_stg3_1 : Ref sig .tc := ⟨.vmem, 51, rfl⟩
abbrev cc2_stg4_0 : Ref sig .tc := ⟨.vmem, 52, rfl⟩
abbrev cc2_stg4_1 : Ref sig .tc := ⟨.vmem, 53, rfl⟩
abbrev cc3_stg0_0 : Ref sig .tc := ⟨.vmem, 54, rfl⟩
abbrev cc3_stg0_1 : Ref sig .tc := ⟨.vmem, 55, rfl⟩
abbrev cc3_stg1_0 : Ref sig .tc := ⟨.vmem, 56, rfl⟩
abbrev cc3_stg1_1 : Ref sig .tc := ⟨.vmem, 57, rfl⟩
abbrev cc3_stg2_0 : Ref sig .tc := ⟨.vmem, 58, rfl⟩
abbrev cc3_stg2_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc1_sem0_0 : DmaSem sig := 19
abbrev cc1_sem0_1 : DmaSem sig := 20
abbrev cc1_sem1_0 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31
abbrev cc1_sem7_0 : DmaSem sig := 32
abbrev cc1_sem7_1 : DmaSem sig := 33
abbrev cc1_sem8_0 : DmaSem sig := 34
abbrev cc1_sem8_1 : DmaSem sig := 35
abbrev cc1_sem9_0 : DmaSem sig := 36
abbrev cc1_sem9_1 : DmaSem sig := 37
abbrev cc1_sem10_0 : DmaSem sig := 38
abbrev cc1_sem10_1 : DmaSem sig := 39
abbrev cc1_sem11_0 : DmaSem sig := 40
abbrev cc1_sem11_1 : DmaSem sig := 41
abbrev cc1_sem12_0 : DmaSem sig := 42
abbrev cc2_sem0_0 : DmaSem sig := 43
abbrev cc2_sem0_1 : DmaSem sig := 44
abbrev cc2_sem1_0 : DmaSem sig := 45
abbrev cc2_sem1_1 : DmaSem sig := 46
abbrev cc2_sem2_0 : DmaSem sig := 47
abbrev cc2_sem2_1 : DmaSem sig := 48
abbrev cc2_sem3_0 : DmaSem sig := 49
abbrev cc2_sem3_1 : DmaSem sig := 50
abbrev cc2_sem4_0 : DmaSem sig := 51
abbrev cc2_sem4_1 : DmaSem sig := 52
abbrev cc3_sem0_0 : DmaSem sig := 53
abbrev cc3_sem0_1 : DmaSem sig := 54
abbrev cc3_sem1_0 : DmaSem sig := 55
abbrev cc3_sem1_1 : DmaSem sig := 56
abbrev cc3_sem2_0 : DmaSem sig := 57
abbrev cc3_sem2_1 : DmaSem sig := 58

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v47 : BitVec 1 := Scalar.cmpi .eq arg1 c3_i32
  let v48 : BitVec 32 := Scalar.extui v47
  let c0_i32_34 : BitVec 32 := 0#32
  let v49 : BitVec 1 := Scalar.cmpi .ne v48 c0_i32_34
  v49

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![arg1.toNat, c2_i32.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![arg1.toNat, c2_i32.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![arg1.toNat, c2_i32.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨2, ![16, 4], ![false, false]⟩

def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k1_cond2 (i : grid1.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def k1_cond3 (i : grid1.Coords) : BitVec 1 :=
  let arg1 : BitVec 32 := BitVec.ofNat 32 (i 1).val
  let c3_i32 : BitVec 32 := 3#32
  let v40 : BitVec 1 := Scalar.cmpi .eq arg1 c3_i32
  let v41 : BitVec 32 := Scalar.extui v40
  let c0_i32_35 : BitVec 32 := 0#32
  let v42 : BitVec 1 := Scalar.cmpi .ne v41 c0_i32_35
  v42

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_5 (i : grid1.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![arg1.toNat, c2_i32.toNat, c0_i32.toNat, c0_i32_0.toNat]

def cc1_transform_6 (i : grid1.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![arg1.toNat, c2_i32.toNat, c0_i32.toNat, c0_i32_0.toNat]

def cc1_transform_7 (i : grid1.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![arg1.toNat, c2_i32.toNat, c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x704 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x512x704 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1x1024x704 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S1x1x1024x704 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true]

abbrev stage1_7 : Fin 2 → Memref sig .tc .vmem S1x1x704x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![false, true]

abbrev stage1_8 : Fin 2 → Memref sig .tc .vmem S512x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S1x512x704 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1x512x704 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S512x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, false]

abbrev stage1_12 : Fin 1 → Memref sig .tc .vmem S1x1024 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false, false]

abbrev grid2 : Pipeline.Grid := ⟨2, ![4, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_3 (i : grid2.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![arg0.toNat, c2_i32.toNat, c0_i32.toNat, c0_i32_0.toNat]

def cc2_transform_4 (i : grid2.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![arg0.toNat, c2_i32.toNat, c0_i32.toNat, c0_i32_0.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1x2048x704 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x2048x704 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x1x1024x704 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x1x1024x704 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev grid3 : Pipeline.Grid := ⟨2, ![4, 2], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![arg0.toNat, c2_i32.toNat, c0_i32.toNat, c0_i32_0.toNat]

abbrev stage3_0 : Fin 2 → Memref sig .tc .vmem S1x4096x704 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1x1x704x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]
-- ==== Kernel2Ideal.lean ====
abbrev S8192x1024 : Shape := ⟨2, ![8192, 1024]⟩
abbrev S4x2x1024 : Shape := ⟨3, ![4, 2, 1024]⟩
abbrev S4x2x1024x2816 : Shape := ⟨4, ![4, 2, 1024, 2816]⟩
abbrev S4x2x2816x1024 : Shape := ⟨4, ![4, 2, 2816, 1024]⟩
abbrev S8x1024x4x704 : Shape := ⟨4, ![8, 1024, 4, 704]⟩
abbrev S4x8x1024x704 : Shape := ⟨4, ![4, 8, 1024, 704]⟩
abbrev S8x4x704x1024 : Shape := ⟨4, ![8, 4, 704, 1024]⟩
abbrev S4x8x704x1024 : Shape := ⟨4, ![4, 8, 704, 1024]⟩
abbrev S8x1024 : Shape := ⟨2, ![8, 1024]⟩
abbrev S1x1024 : Shape := ⟨2, ![1, 1024]⟩
abbrev S4x8192x704 : Shape := ⟨3, ![4, 8192, 704]⟩
abbrev S1024x1024 : Shape := ⟨2, ![1024, 1024]⟩
abbrev S1x1x1024x704 : Shape := ⟨4, ![1, 1, 1024, 704]⟩
abbrev S1x1x704x1024 : Shape := ⟨4, ![1, 1, 704, 1024]⟩
abbrev S1x1024x704 : Shape := ⟨3, ![1, 1024, 704]⟩
abbrev S1024 : Shape := ⟨1, ![1024]⟩
abbrev S1024x1 : Shape := ⟨2, ![1024, 1]⟩
abbrev S1024x704 : Shape := ⟨2, ![1024, 704]⟩
abbrev S704x1024 : Shape := ⟨2, ![704, 1024]⟩
abbrev S512x1024 : Shape := ⟨2, ![512, 1024]⟩
abbrev S1x512x704 : Shape := ⟨3, ![1, 512, 704]⟩
abbrev S512x704 : Shape := ⟨2, ![512, 704]⟩
abbrev S512 : Shape := ⟨1, ![512]⟩
abbrev S512x1 : Shape := ⟨2, ![512, 1]⟩
abbrev S2048x1024 : Shape := ⟨2, ![2048, 1024]⟩
abbrev S1x2048x704 : Shape := ⟨3, ![1, 2048, 704]⟩
abbrev S1024x2048 : Shape := ⟨2, ![1024, 2048]⟩
abbrev S2048x704 : Shape := ⟨2, ![2048, 704]⟩
abbrev S1x4096x704 : Shape := ⟨3, ![1, 4096, 704]⟩
abbrev S4096x1024 : Shape := ⟨2, ![4096, 1024]⟩
abbrev S4096x704 : Shape := ⟨2, ![4096, 704]⟩
abbrev S4x1x1024x704 : Shape := ⟨4, ![4, 1, 1024, 704]⟩
abbrev S4x1024x704 : Shape := ⟨3, ![4, 1024, 704]⟩
abbrev S4x1x704x1024 : Shape := ⟨4, ![4, 1, 704, 1024]⟩
abbrev S4x704x1024 : Shape := ⟨3, ![4, 704, 1024]⟩

abbrev nBuf : Space → Nat
  | .hbm => 36
  | .vmem => 60
  | .smem => 0
  | _ => 0

abbrev bufTy : (tb : Table) → Fin (tcTables nBuf tb) → BufTy
  | .hbm, ⟨0, _⟩ => ⟨S8192x1024, .f32⟩
  | .hbm, ⟨1, _⟩ => ⟨S4x2x1024, .f32⟩
  | .hbm, ⟨2, _⟩ => ⟨S4x2x1024x2816, .f32⟩
  | .hbm, ⟨3, _⟩ => ⟨S4x2x1024x2816, .f32⟩
  | .hbm, ⟨4, _⟩ => ⟨S4x2x2816x1024, .f32⟩
  | .hbm, ⟨5, _⟩ => ⟨S8192x1024, .f32⟩
  | .hbm, ⟨6, _⟩ => ⟨S4x2x1024x2816, .bf16⟩
  | .hbm, ⟨7, _⟩ => ⟨S8x1024x4x704, .bf16⟩
  | .hbm, ⟨8, _⟩ => ⟨S4x8x1024x704, .bf16⟩
  | .hbm, ⟨9, _⟩ => ⟨S4x2x1024x2816, .bf16⟩
  | .hbm, ⟨10, _⟩ => ⟨S8x1024x4x704, .bf16⟩
  | .hbm, ⟨11, _⟩ => ⟨S4x8x1024x704, .bf16⟩
  | .hbm, ⟨12, _⟩ => ⟨S4x2x2816x1024, .bf16⟩
  | .hbm, ⟨13, _⟩ => ⟨S8x4x704x1024, .bf16⟩
  | .hbm, ⟨14, _⟩ => ⟨S4x8x704x1024, .bf16⟩
  | .hbm, ⟨15, _⟩ => ⟨S8x1024, .f32⟩
  | .hbm, ⟨16, _⟩ => ⟨S1x1024, .f32⟩
  | .hbm, ⟨17, _⟩ => ⟨S8192x1024, .f32⟩
  | .hbm, ⟨18, _⟩ => ⟨S8192x1024, .bf16⟩
  | .hbm, ⟨19, _⟩ => ⟨S4x8192x704, .bf16⟩
  | .hbm, ⟨20, _⟩ => ⟨S4x8192x704, .bf16⟩
  | .hbm, ⟨21, _⟩ => ⟨S4x8192x704, .bf16⟩
  | .hbm, ⟨22, _⟩ => ⟨S8192x1024, .f32⟩
  | .hbm, ⟨23, _⟩ => ⟨S4x8192x704, .bf16⟩
  | .hbm, ⟨24, _⟩ => ⟨S4x8192x704, .bf16⟩
  | .hbm, ⟨25, _⟩ => ⟨S8192x1024, .bf16⟩
  | .hbm, ⟨26, _⟩ => ⟨S1x1024, .f32⟩
  | .hbm, ⟨27, _⟩ => ⟨S4x8x1024x704, .f32⟩
  | .hbm, ⟨28, _⟩ => ⟨S4x8x1024x704, .f32⟩
  | .hbm, ⟨29, _⟩ => ⟨S4x8x704x1024, .f32⟩
  | .hbm, ⟨30, _⟩ => ⟨S4x1x1024x704, .f32⟩
  | .hbm, ⟨31, _⟩ => ⟨S4x1024x704, .f32⟩
  | .hbm, ⟨32, _⟩ => ⟨S4x1x1024x704, .f32⟩
  | .hbm, ⟨33, _⟩ => ⟨S4x1024x704, .f32⟩
  | .hbm, ⟨34, _⟩ => ⟨S4x1x704x1024, .f32⟩
  | .hbm, ⟨35, _⟩ => ⟨S4x704x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024x704, .bf16⟩
  | .local _ .vmem, ⟨4, _⟩ => ⟨S1x1x1024x704, .bf16⟩
  | .local _ .vmem, ⟨5, _⟩ => ⟨S1x1x1024x704, .bf16⟩
  | .local _ .vmem, ⟨6, _⟩ => ⟨S1x1x1024x704, .bf16⟩
  | .local _ .vmem, ⟨7, _⟩ => ⟨S1x1x704x1024, .bf16⟩
  | .local _ .vmem, ⟨8, _⟩ => ⟨S1x1x704x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1024x704, .bf16⟩
  | .local _ .vmem, ⟨14, _⟩ => ⟨S1x1024x704, .bf16⟩
  | .local _ .vmem, ⟨15, _⟩ => ⟨S1x1024x704, .bf16⟩
  | .local _ .vmem, ⟨16, _⟩ => ⟨S1x1024x704, .bf16⟩
  | .local _ .vmem, ⟨17, _⟩ => ⟨S1x1024x704, .bf16⟩
  | .local _ .vmem, ⟨18, _⟩ => ⟨S1x1024x704, .bf16⟩
  | .local _ .vmem, ⟨19, _⟩ => ⟨S1024x1024, .f32⟩
  | .local _ .vmem, ⟨20, _⟩ => ⟨S512x1024, .f32⟩
  | .local _ .vmem, ⟨21, _⟩ => ⟨S512x1024, .f32⟩
  | .local _ .vmem, ⟨22, _⟩ => ⟨S1x1024, .f32⟩
  | .local _ .vmem, ⟨23, _⟩ => ⟨S512x1024, .f32⟩
  | .local _ .vmem, ⟨24, _⟩ => ⟨S512x1024, .f32⟩
  | .local _ .vmem, ⟨25, _⟩ => ⟨S1x512x704, .bf16⟩
  | .local _ .vmem, ⟨26, _⟩ => ⟨S1x512x704, .bf16⟩
  | .local _ .vmem, ⟨27, _⟩ => ⟨S1x512x704, .bf16⟩
  | .local _ .vmem, ⟨28, _⟩ => ⟨S1x512x704, .bf16⟩
  | .local _ .vmem, ⟨29, _⟩ => ⟨S1x1x1024x704, .bf16⟩
  | .local _ .vmem, ⟨30, _⟩ => ⟨S1x1x1024x704, .bf16⟩
  | .local _ .vmem, ⟨31, _⟩ => ⟨S1x1x1024x704, .bf16⟩
  | .local _ .vmem, ⟨32, _⟩ => ⟨S1x1x1024x704, .bf16⟩
  | .local _ .vmem, ⟨33, _⟩ => ⟨S1x1x704x1024, .bf16⟩
  | .local _ .vmem, ⟨34, _⟩ => ⟨S1x1x704x1024, .bf16⟩
  | .local _ .vmem, ⟨35, _⟩ => ⟨S512x1024, .f32⟩
  | .local _ .vmem, ⟨36, _⟩ => ⟨S512x1024, .f32⟩
  | .local _ .vmem, ⟨37, _⟩ => ⟨S1x512x704, .bf16⟩
  | .local _ .vmem, ⟨38, _⟩ => ⟨S1x512x704, .bf16⟩
  | .local _ .vmem, ⟨39, _⟩ => ⟨S1x512x704, .bf16⟩
  | .local _ .vmem, ⟨40, _⟩ => ⟨S1x512x704, .bf16⟩
  | .local _ .vmem, ⟨41, _⟩ => ⟨S512x1024, .bf16⟩
  | .local _ .vmem, ⟨42, _⟩ => ⟨S512x1024, .bf16⟩
  | .local _ .vmem, ⟨43, _⟩ => ⟨S1x1024, .f32⟩
  | .local _ .vmem, ⟨44, _⟩ => ⟨S2048x1024, .bf16⟩
  | .local _ .vmem, ⟨45, _⟩ => ⟨S2048x1024, .bf16⟩
  | .local _ .vmem, ⟨46, _⟩ => ⟨S1x2048x704, .bf16⟩
  | .local _ .vmem, ⟨47, _⟩ => ⟨S1x2048x704, .bf16⟩
  | .local _ .vmem, ⟨48, _⟩ => ⟨S1x2048x704, .bf16⟩
  | .local _ .vmem, ⟨49, _⟩ => ⟨S1x2048x704, .bf16⟩
  | .local _ .vmem, ⟨50, _⟩ => ⟨S1x1x1024x704, .f32⟩
  | .local _ .vmem, ⟨51, _⟩ => ⟨S1x1x1024x704, .f32⟩
  | .local _ .vmem, ⟨52, _⟩ => ⟨S1x1x1024x704, .f32⟩
  | .local _ .vmem, ⟨53, _⟩ => ⟨S1x1x1024x704, .f32⟩
  | .local _ .vmem, ⟨54, _⟩ => ⟨S1x4096x704, .bf16⟩
  | .local _ .vmem, ⟨55, _⟩ => ⟨S1x4096x704, .bf16⟩
  | .local _ .vmem, ⟨56, _⟩ => ⟨S4096x1024, .bf16⟩
  | .local _ .vmem, ⟨57, _⟩ => ⟨S4096x1024, .bf16⟩
  | .local _ .vmem, ⟨58, _⟩ => ⟨S1x1x704x1024, .f32⟩
  | .local _ .vmem, ⟨59, _⟩ => ⟨S1x1x704x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTc nBuf bufTy 0 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v11_2 : Ref sig .tc := ⟨.hbm, 19, rfl⟩
abbrev main_v11_3 : Ref sig .tc := ⟨.hbm, 20, rfl⟩
abbrev main_v11_4 : Ref sig .tc := ⟨.hbm, 21, rfl⟩
abbrev main_v12_0 : Ref sig .tc := ⟨.hbm, 22, rfl⟩
abbrev main_v12_1 : Ref sig .tc := ⟨.hbm, 23, rfl⟩
abbrev main_v12_2 : Ref sig .tc := ⟨.hbm, 24, rfl⟩
abbrev main_v12_3 : Ref sig .tc := ⟨.hbm, 25, rfl⟩
abbrev main_v12_4 : Ref sig .tc := ⟨.hbm, 26, rfl⟩
abbrev main_v13_0 : Ref sig .tc := ⟨.hbm, 27, rfl⟩
abbrev main_v13_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg3_1 : Ref sig .tc := ⟨.vmem, 26, rfl⟩
abbrev cc1_stg4_0 : Ref sig .tc := ⟨.vmem, 27, rfl⟩
abbrev cc1_stg4_1 : Ref sig .tc := ⟨.vmem, 28, rfl⟩
abbrev cc1_stg5_0 : Ref sig .tc := ⟨.vmem, 29, rfl⟩
abbrev cc1_stg5_1 : Ref sig .tc := ⟨.vmem, 30, rfl⟩
abbrev cc1_stg6_0 : Ref sig .tc := ⟨.vmem, 31, rfl⟩
abbrev cc1_stg6_1 : Ref sig .tc := ⟨.vmem, 32, rfl⟩
abbrev cc1_stg7_0 : Ref sig .tc := ⟨.vmem, 33, rfl⟩
abbrev cc1_stg7_1 : Ref sig .tc := ⟨.vmem, 34, rfl⟩
abbrev cc1_stg8_0 : Ref sig .tc := ⟨.vmem, 35, rfl⟩
abbrev cc1_stg8_1 : Ref sig .tc := ⟨.vmem, 36, rfl⟩
abbrev cc1_stg9_0 : Ref sig .tc := ⟨.vmem, 37, rfl⟩
abbrev cc1_stg9_1 : Ref sig .tc := ⟨.vmem, 38, rfl⟩
abbrev cc1_stg10_0 : Ref sig .tc := ⟨.vmem, 39, rfl⟩
abbrev cc1_stg10_1 : Ref sig .tc := ⟨.vmem, 40, rfl⟩
abbrev cc1_stg11_0 : Ref sig .tc := ⟨.vmem, 41, rfl⟩
abbrev cc1_stg11_1 : Ref sig .tc := ⟨.vmem, 42, rfl⟩
abbrev cc1_stg12_0 : Ref sig .tc := ⟨.vmem, 43, rfl⟩
abbrev cc2_stg0_0 : Ref sig .tc := ⟨.vmem, 44, rfl⟩
abbrev cc2_stg0_1 : Ref sig .tc := ⟨.vmem, 45, rfl⟩
abbrev cc2_stg1_0 : Ref sig .tc := ⟨.vmem, 46, rfl⟩
abbrev cc2_stg1_1 : Ref sig .tc := ⟨.vmem, 47, rfl⟩
abbrev cc2_stg2_0 : Ref sig .tc := ⟨.vmem, 48, rfl⟩
abbrev cc2_stg2_1 : Ref sig .tc := ⟨.vmem, 49, rfl⟩
abbrev cc2_stg3_0 : Ref sig .tc := ⟨.vmem, 50, rfl⟩
abbrev cc2_stg3_1 : Ref sig .tc := ⟨.vmem, 51, rfl⟩
abbrev cc2_stg4_0 : Ref sig .tc := ⟨.vmem, 52, rfl⟩
abbrev cc2_stg4_1 : Ref sig .tc := ⟨.vmem, 53, rfl⟩
abbrev cc3_stg0_0 : Ref sig .tc := ⟨.vmem, 54, rfl⟩
abbrev cc3_stg0_1 : Ref sig .tc := ⟨.vmem, 55, rfl⟩
abbrev cc3_stg1_0 : Ref sig .tc := ⟨.vmem, 56, rfl⟩
abbrev cc3_stg1_1 : Ref sig .tc := ⟨.vmem, 57, rfl⟩
abbrev cc3_stg2_0 : Ref sig .tc := ⟨.vmem, 58, rfl⟩
abbrev cc3_stg2_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc1_sem0_0 : DmaSem sig := 19
abbrev cc1_sem0_1 : DmaSem sig := 20
abbrev cc1_sem1_0 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31
abbrev cc1_sem7_0 : DmaSem sig := 32
abbrev cc1_sem7_1 : DmaSem sig := 33
abbrev cc1_sem8_0 : DmaSem sig := 34
abbrev cc1_sem8_1 : DmaSem sig := 35
abbrev cc1_sem9_0 : DmaSem sig := 36
abbrev cc1_sem9_1 : DmaSem sig := 37
abbrev cc1_sem10_0 : DmaSem sig := 38
abbrev cc1_sem10_1 : DmaSem sig := 39
abbrev cc1_sem11_0 : DmaSem sig := 40
abbrev cc1_sem11_1 : DmaSem sig := 41
abbrev cc1_sem12_0 : DmaSem sig := 42
abbrev cc2_sem0_0 : DmaSem sig := 43
abbrev cc2_sem0_1 : DmaSem sig := 44
abbrev cc2_sem1_0 : DmaSem sig := 45
abbrev cc2_sem1_1 : DmaSem sig := 46
abbrev cc2_sem2_0 : DmaSem sig := 47
abbrev cc2_sem2_1 : DmaSem sig := 48
abbrev cc2_sem3_0 : DmaSem sig := 49
abbrev cc2_sem3_1 : DmaSem sig := 50
abbrev cc2_sem4_0 : DmaSem sig := 51
abbrev cc2_sem4_1 : DmaSem sig := 52
abbrev cc3_sem0_0 : DmaSem sig := 53
abbrev cc3_sem0_1 : DmaSem sig := 54
abbrev cc3_sem1_0 : DmaSem sig := 55
abbrev cc3_sem1_1 : DmaSem sig := 56
abbrev cc3_sem2_0 : DmaSem sig := 57
abbrev cc3_sem2_1 : DmaSem sig := 58

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v47 : BitVec 1 := Scalar.cmpi .eq arg1 c3_i32
  let v48 : BitVec 32 := Scalar.extui v47
  let c0_i32_34 : BitVec 32 := 0#32
  let v49 : BitVec 1 := Scalar.cmpi .ne v48 c0_i32_34
  v49

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![arg1.toNat, c2_i32.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![arg1.toNat, c2_i32.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![arg1.toNat, c2_i32.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨2, ![16, 4], ![false, false]⟩

def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k1_cond2 (i : grid1.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def k1_cond3 (i : grid1.Coords) : BitVec 1 :=
  let arg1 : BitVec 32 := BitVec.ofNat 32 (i 1).val
  let c3_i32 : BitVec 32 := 3#32
  let v40 : BitVec 1 := Scalar.cmpi .eq arg1 c3_i32
  let v41 : BitVec 32 := Scalar.extui v40
  let c0_i32_35 : BitVec 32 := 0#32
  let v42 : BitVec 1 := Scalar.cmpi .ne v41 c0_i32_35
  v42

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_5 (i : grid1.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![arg1.toNat, c2_i32.toNat, c0_i32.toNat, c0_i32_0.toNat]

def cc1_transform_6 (i : grid1.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![arg1.toNat, c2_i32.toNat, c0_i32.toNat, c0_i32_0.toNat]

def cc1_transform_7 (i : grid1.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![arg1.toNat, c2_i32.toNat, c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x704 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x512x704 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1x1024x704 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S1x1x1024x704 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true]

abbrev stage1_7 : Fin 2 → Memref sig .tc .vmem S1x1x704x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![false, true]

abbrev stage1_8 : Fin 2 → Memref sig .tc .vmem S512x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S1x512x704 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1x512x704 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S512x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, false]

abbrev stage1_12 : Fin 1 → Memref sig .tc .vmem S1x1024 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false, false]

abbrev grid2 : Pipeline.Grid := ⟨2, ![4, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_3 (i : grid2.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![arg0.toNat, c2_i32.toNat, c0_i32.toNat, c0_i32_0.toNat]

def cc2_transform_4 (i : grid2.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![arg0.toNat, c2_i32.toNat, c0_i32.toNat, c0_i32_0.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1x2048x704 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x2048x704 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x1x1024x704 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x1x1024x704 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev grid3 : Pipeline.Grid := ⟨2, ![4, 2], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![arg0.toNat, c2_i32.toNat, c0_i32.toNat, c0_i32_0.toNat]

abbrev stage3_0 : Fin 2 → Memref sig .tc .vmem S1x4096x704 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1x1x704x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]
-- ==== Reference2Ideal.lean ====
abbrev S8192x1024 : Shape := ⟨2, ![8192, 1024]⟩
abbrev S4x2x1024 : Shape := ⟨3, ![4, 2, 1024]⟩
abbrev S4x2x1024x2816 : Shape := ⟨4, ![4, 2, 1024, 2816]⟩
abbrev S4x2x2816x1024 : Shape := ⟨4, ![4, 2, 2816, 1024]⟩
abbrev S1x1x1024 : Shape := ⟨3, ![1, 1, 1024]⟩
abbrev S1024 : Shape := ⟨1, ![1024]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S1024x4x704 : Shape := ⟨3, ![1024, 4, 704]⟩
abbrev S4x1024x704 : Shape := ⟨3, ![4, 1024, 704]⟩
abbrev S4x704x1024 : Shape := ⟨3, ![4, 704, 1024]⟩

abbrev nBuf : Space → Nat
  | .hbm => 107
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x2x1024, .f32⟩
  | .hbm, ⟨2, _⟩ => ⟨S4x2x1024x2816, .f32⟩
  | .hbm, ⟨3, _⟩ => ⟨S4x2x1024x2816, .f32⟩
  | .hbm, ⟨4, _⟩ => ⟨S4x2x2816x1024, .f32⟩
  | .hbm, ⟨5, _⟩ => ⟨S8192x1024, .f32⟩
  | .hbm, ⟨6, _⟩ => ⟨S1x1x1024, .f32⟩
  | .hbm, ⟨7, _⟩ => ⟨S1024, .f32⟩
  | .hbm, ⟨8, _⟩ => ⟨S1x1x1024x2816, .f32⟩
  | .hbm, ⟨9, _⟩ => ⟨S1024x2816, .f32⟩
  | .hbm, ⟨10, _⟩ => ⟨S1x1x1024x2816, .f32⟩
  | .hbm, ⟨11, _⟩ => ⟨S1024x2816, .f32⟩
  | .hbm, ⟨12, _⟩ => ⟨S1x1x2816x1024, .f32⟩
  | .hbm, ⟨13, _⟩ => ⟨S2816x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S_, .f32⟩
  | .hbm, ⟨38, _⟩ => ⟨S8192x2816, .f32⟩
  | .hbm, ⟨39, _⟩ => ⟨S8192x2816, .f32⟩
  | .hbm, ⟨40, _⟩ => ⟨S_, .f32⟩
  | .hbm, ⟨41, _⟩ => ⟨S8192x2816, .f32⟩
  | .hbm, ⟨42, _⟩ => ⟨S8192x2816, .f32⟩
  | .hbm, ⟨43, _⟩ => ⟨S_, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x1024, .f32⟩
  | .hbm, ⟨51, _⟩ => ⟨S_, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192x1024, .f32⟩
  | .hbm, ⟨58, _⟩ => ⟨S8192x1024, .f32⟩
  | .hbm, ⟨59, _⟩ => ⟨S1024x2816, .f32⟩
  | .hbm, ⟨60, _⟩ => ⟨S2816x1024, .f32⟩
  | .hbm, ⟨61, _⟩ => ⟨S8192x2816, .f32⟩
  | .hbm, ⟨62, _⟩ => ⟨S8192x2816, .f32⟩
  | .hbm, ⟨63, _⟩ => ⟨S8192x2816, .f32⟩
  | .hbm, ⟨64, _⟩ => ⟨S2816x1024, .f32⟩
  | .hbm, ⟨65, _⟩ => ⟨S1024x2816, .f32⟩
  | .hbm, ⟨66, _⟩ => ⟨S8192x1024, .f32⟩
  | .hbm, ⟨67, _⟩ => ⟨S8192x2816, .f32⟩
  | .hbm, ⟨68, _⟩ => ⟨S8192x2816, .f32⟩
  | .hbm, ⟨69, _⟩ => ⟨S8192x2816, .f32⟩
  | .hbm, ⟨70, _⟩ => ⟨S8192x2816, .f32⟩
  | .hbm, ⟨71, _⟩ => ⟨S2816x1024, .f32⟩
  | .hbm, ⟨72, _⟩ => ⟨S1024x2816, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S8192x1024, .f32⟩
  | .hbm, ⟨80, _⟩ => ⟨S8192x1024, .f32⟩
  | .hbm, ⟨81, _⟩ => ⟨S_, .f32⟩
  | .hbm, ⟨82, _⟩ => ⟨S1024, .f32⟩
  | .hbm, ⟨83, _⟩ => ⟨S8192x1024, .f32⟩
  | .hbm, ⟨84, _⟩ => ⟨S_, .f32⟩
  | .hbm, ⟨85, _⟩ => ⟨S8192, .f32⟩
  | .hbm, ⟨86, _⟩ => ⟨S8192x1, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x1, .f32⟩
  | .hbm, ⟨91, _⟩ => ⟨S_, .f32⟩
  | .hbm, ⟨92, _⟩ => ⟨S8192x1, .f32⟩
  | .hbm, ⟨93, _⟩ => ⟨S8192x1, .f32⟩
  | .hbm, ⟨94, _⟩ => ⟨S_, .f32⟩
  | .hbm, ⟨95, _⟩ => ⟨S8192, .f32⟩
  | .hbm, ⟨96, _⟩ => ⟨S8192x1024, .f32⟩
  | .hbm, ⟨97, _⟩ => ⟨S8192x1024, .f32⟩
  | .hbm, ⟨98, _⟩ => ⟨S8192x1024, .f32⟩
  | .hbm, ⟨99, _⟩ => ⟨S8192x1024, .f32⟩
  | .hbm, ⟨100, _⟩ => ⟨S8192x1024, .f32⟩
  | .hbm, ⟨101, _⟩ => ⟨S1x1024, .f32⟩
  | .hbm, ⟨102, _⟩ => ⟨S1024x4x704, .f32⟩
  | .hbm, ⟨103, _⟩ => ⟨S4x1024x704, .f32⟩
  | .hbm, ⟨104, _⟩ => ⟨S1024x4x704, .f32⟩
  | .hbm, ⟨105, _⟩ => ⟨S4x1024x704, .f32⟩
  | .hbm, ⟨106, _⟩ => ⟨S4x704x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_v25_2 : Ref sig .tc := ⟨.hbm, 42, rfl⟩
abbrev main_call0_cst_1 : Ref sig .tc := ⟨.hbm, 43, rfl⟩
abbrev main_call0_v6 : Ref sig .tc := ⟨.hbm, 44, rfl⟩
abbrev main_call0_v7 : Ref sig .tc := ⟨.hbm, 45, rfl⟩
abbrev main_v25_1 : Ref sig .tc := ⟨.hbm, 46, rfl⟩
abbrev main_v25_0 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_3 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_4 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_5 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_6 : Ref sig .tc := ⟨.hbm, 81, rfl⟩
abbrev main_v53 : Ref sig .tc := ⟨.hbm, 82, rfl⟩
abbrev main_v54 : Ref sig .tc := ⟨.hbm, 83, rfl⟩
abbrev main_cst_7 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_8 : Ref sig .tc := ⟨.hbm, 91, rfl⟩
abbrev main_v61 : Ref sig .tc := ⟨.hbm, 92, rfl⟩
abbrev main_v62 : Ref sig .tc := ⟨.hbm, 93, rfl⟩
abbrev main_cst_9 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩

abbrev nD : Nat := 1
abbrev τ : Topo := Topo.v7x

variable {F : FTy → Type} [FloatOps F]
-- ==== Kernel1.lean ====
abbrev S8192x1024 : Shape := ⟨2, ![8192, 1024]⟩
abbrev S4x2x1024 : Shape := ⟨3, ![4, 2, 1024]⟩
abbrev S4x2x1024x2816 : Shape := ⟨4, ![4, 2, 1024, 2816]⟩
abbrev S4x2x2816x1024 : Shape := ⟨4, ![4, 2, 2816, 1024]⟩
abbrev S8x1024x4x704 : Shape := ⟨4, ![8, 1024, 4, 704]⟩
abbrev S4x8x1024x704 : Shape := ⟨4, ![4, 8, 1024, 704]⟩
abbrev S8x4x704x1024 : Shape := ⟨4, ![8, 4, 704, 1024]⟩
abbrev S4x8x704x1024 : Shape := ⟨4, ![4, 8, 704, 1024]⟩
abbrev S8x1024 : Shape := ⟨2, ![8, 1024]⟩
abbrev S1x1024 : Shape := ⟨2, ![1, 1024]⟩
abbrev S4x8192x704 : Shape := ⟨3, ![4, 8192, 704]⟩
abbrev S1024x1024 : Shape := ⟨2, ![1024, 1024]⟩
abbrev S1x1x1024x704 : Shape := ⟨4, ![1, 1, 1024, 704]⟩
abbrev S1x1x704x1024 : Shape := ⟨4, ![1, 1, 704, 1024]⟩
abbrev S1x1024x704 : Shape := ⟨3, ![1, 1024, 704]⟩
abbrev S1024 : Shape := ⟨1, ![1024]⟩
abbrev S1024x1 : Shape := ⟨2, ![1024, 1]⟩
abbrev S1024x704 : Shape := ⟨2, ![1024, 704]⟩
abbrev S704x1024 : Shape := ⟨2, ![704, 1024]⟩
abbrev S512x1024 : Shape := ⟨2, ![512, 1024]⟩
abbrev S1x512x704 : Shape := ⟨3, ![1, 512, 704]⟩
abbrev S512x704 : Shape := ⟨2, ![512, 704]⟩
abbrev S512 : Shape := ⟨1, ![512]⟩
abbrev S512x1 : Shape := ⟨2, ![512, 1]⟩
abbrev S2048x1024 : Shape := ⟨2, ![2048, 1024]⟩
abbrev S1x2048x704 : Shape := ⟨3, ![1, 2048, 704]⟩
abbrev S1024x2048 : Shape := ⟨2, ![1024, 2048]⟩
abbrev S2048x704 : Shape := ⟨2, ![2048, 704]⟩
abbrev S1x4096x704 : Shape := ⟨3, ![1, 4096, 704]⟩
abbrev S4096x1024 : Shape := ⟨2, ![4096, 1024]⟩
abbrev S4096x704 : Shape := ⟨2, ![4096, 704]⟩
abbrev S4x1x1024x704 : Shape := ⟨4, ![4, 1, 1024, 704]⟩
abbrev S4x1024x704 : Shape := ⟨3, ![4, 1024, 704]⟩
abbrev S4x1x704x1024 : Shape := ⟨4, ![4, 1, 704, 1024]⟩
abbrev S4x704x1024 : Shape := ⟨3, ![4, 704, 1024]⟩

abbrev nBuf : Space → Nat
  | .hbm => 36
  | .vmem => 60
  | .smem => 0
  | _ => 0

abbrev bufTy : (tb : Table) → Fin (tcTables nBuf tb) → BufTy
  | .hbm, ⟨0, _⟩ => ⟨S8192x1024, .f32⟩
  | .hbm, ⟨1, _⟩ => ⟨S4x2x1024, .f32⟩
  | .hbm, ⟨2, _⟩ => ⟨S4x2x1024x2816, .f32⟩
  | .hbm, ⟨3, _⟩ => ⟨S4x2x1024x2816, .f32⟩
  | .hbm, ⟨4, _⟩ => ⟨S4x2x2816x1024, .f32⟩
  | .hbm, ⟨5, _⟩ => ⟨S8192x1024, .f32⟩
  | .hbm, ⟨6, _⟩ => ⟨S4x2x1024x2816, .bf16⟩
  | .hbm, ⟨7, _⟩ => ⟨S8x1024x4x704, .bf16⟩
  | .hbm, ⟨8, _⟩ => ⟨S4x8x1024x704, .bf16⟩
  | .hbm, ⟨9, _⟩ => ⟨S4x2x1024x2816, .bf16⟩
  | .hbm, ⟨10, _⟩ => ⟨S8x1024x4x704, .bf16⟩
  | .hbm, ⟨11, _⟩ => ⟨S4x8x1024x704, .bf16⟩
  | .hbm, ⟨12, _⟩ => ⟨S4x2x2816x1024, .bf16⟩
  | .hbm, ⟨13, _⟩ => ⟨S8x4x704x1024, .bf16⟩
  | .hbm, ⟨14, _⟩ => ⟨S4x8x704x1024, .bf16⟩
  | .hbm, ⟨15, _⟩ => ⟨S8x1024, .f32⟩
  | .hbm, ⟨16, _⟩ => ⟨S1x1024, .f32⟩
  | .hbm, ⟨17, _⟩ => ⟨S8192x1024, .f32⟩
  | .hbm, ⟨18, _⟩ => ⟨S8192x1024, .bf16⟩
  | .hbm, ⟨19, _⟩ => ⟨S4x8192x704, .bf16⟩
  | .hbm, ⟨20, _⟩ => ⟨S4x8192x704, .bf16⟩
  | .hbm, ⟨21, _⟩ => ⟨S4x8192x704, .bf16⟩
  | .hbm, ⟨22, _⟩ => ⟨S8192x1024, .f32⟩
  | .hbm, ⟨23, _⟩ => ⟨S4x8192x704, .bf16⟩
  | .hbm, ⟨24, _⟩ => ⟨S4x8192x704, .bf16⟩
  | .hbm, ⟨25, _⟩ => ⟨S8192x1024, .bf16⟩
  | .hbm, ⟨26, _⟩ => ⟨S1x1024, .f32⟩
  | .hbm, ⟨27, _⟩ => ⟨S4x8x1024x704, .f32⟩
  | .hbm, ⟨28, _⟩ => ⟨S4x8x1024x704, .f32⟩
  | .hbm, ⟨29, _⟩ => ⟨S4x8x704x1024, .f32⟩
  | .hbm, ⟨30, _⟩ => ⟨S4x1x1024x704, .f32⟩
  | .hbm, ⟨31, _⟩ => ⟨S4x1024x704, .f32⟩
  | .hbm, ⟨32, _⟩ => ⟨S4x1x1024x704, .f32⟩
  | .hbm, ⟨33, _⟩ => ⟨S4x1024x704, .f32⟩
  | .hbm, ⟨34, _⟩ => ⟨S4x1x704x1024, .f32⟩
  | .hbm, ⟨35, _⟩ => ⟨S4x704x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024x704, .bf16⟩
  | .local _ .vmem, ⟨4, _⟩ => ⟨S1x1x1024x704, .bf16⟩
  | .local _ .vmem, ⟨5, _⟩ => ⟨S1x1x1024x704, .bf16⟩
  | .local _ .vmem, ⟨6, _⟩ => ⟨S1x1x1024x704, .bf16⟩
  | .local _ .vmem, ⟨7, _⟩ => ⟨S1x1x704x1024, .bf16⟩
  | .local _ .vmem, ⟨8, _⟩ => ⟨S1x1x704x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1024x704, .bf16⟩
  | .local _ .vmem, ⟨14, _⟩ => ⟨S1x1024x704, .bf16⟩
  | .local _ .vmem, ⟨15, _⟩ => ⟨S1x1024x704, .bf16⟩
  | .local _ .vmem, ⟨16, _⟩ => ⟨S1x1024x704, .bf16⟩
  | .local _ .vmem, ⟨17, _⟩ => ⟨S1x1024x704, .bf16⟩
  | .local _ .vmem, ⟨18, _⟩ => ⟨S1x1024x704, .bf16⟩
  | .local _ .vmem, ⟨19, _⟩ => ⟨S1024x1024, .f32⟩
  | .local _ .vmem, ⟨20, _⟩ => ⟨S512x1024, .f32⟩
  | .local _ .vmem, ⟨21, _⟩ => ⟨S512x1024, .f32⟩
  | .local _ .vmem, ⟨22, _⟩ => ⟨S1x1024, .f32⟩
  | .local _ .vmem, ⟨23, _⟩ => ⟨S512x1024, .f32⟩
  | .local _ .vmem, ⟨24, _⟩ => ⟨S512x1024, .f32⟩
  | .local _ .vmem, ⟨25, _⟩ => ⟨S1x512x704, .bf16⟩
  | .local _ .vmem, ⟨26, _⟩ => ⟨S1x512x704, .bf16⟩
  | .local _ .vmem, ⟨27, _⟩ => ⟨S1x512x704, .bf16⟩
  | .local _ .vmem, ⟨28, _⟩ => ⟨S1x512x704, .bf16⟩
  | .local _ .vmem, ⟨29, _⟩ => ⟨S1x1x1024x704, .bf16⟩
  | .local _ .vmem, ⟨30, _⟩ => ⟨S1x1x1024x704, .bf16⟩
  | .local _ .vmem, ⟨31, _⟩ => ⟨S1x1x1024x704, .bf16⟩
  | .local _ .vmem, ⟨32, _⟩ => ⟨S1x1x1024x704, .bf16⟩
  | .local _ .vmem, ⟨33, _⟩ => ⟨S1x1x704x1024, .bf16⟩
  | .local _ .vmem, ⟨34, _⟩ => ⟨S1x1x704x1024, .bf16⟩
  | .local _ .vmem, ⟨35, _⟩ => ⟨S512x1024, .f32⟩
  | .local _ .vmem, ⟨36, _⟩ => ⟨S512x1024, .f32⟩
  | .local _ .vmem, ⟨37, _⟩ => ⟨S1x512x704, .bf16⟩
  | .local _ .vmem, ⟨38, _⟩ => ⟨S1x512x704, .bf16⟩
  | .local _ .vmem, ⟨39, _⟩ => ⟨S1x512x704, .bf16⟩
  | .local _ .vmem, ⟨40, _⟩ => ⟨S1x512x704, .bf16⟩
  | .local _ .vmem, ⟨41, _⟩ => ⟨S512x1024, .bf16⟩
  | .local _ .vmem, ⟨42, _⟩ => ⟨S512x1024, .bf16⟩
  | .local _ .vmem, ⟨43, _⟩ => ⟨S1x1024, .f32⟩
  | .local _ .vmem, ⟨44, _⟩ => ⟨S2048x1024, .bf16⟩
  | .local _ .vmem, ⟨45, _⟩ => ⟨S2048x1024, .bf16⟩
  | .local _ .vmem, ⟨46, _⟩ => ⟨S1x2048x704, .bf16⟩
  | .local _ .vmem, ⟨47, _⟩ => ⟨S1x2048x704, .bf16⟩
  | .local _ .vmem, ⟨48, _⟩ => ⟨S1x2048x704, .bf16⟩
  | .local _ .vmem, ⟨49, _⟩ => ⟨S1x2048x704, .bf16⟩
  | .local _ .vmem, ⟨50, _⟩ => ⟨S1x1x1024x704, .f32⟩
  | .local _ .vmem, ⟨51, _⟩ => ⟨S1x1x1024x704, .f32⟩
  | .local _ .vmem, ⟨52, _⟩ => ⟨S1x1x1024x704, .f32⟩
  | .local _ .vmem, ⟨53, _⟩ => ⟨S1x1x1024x704, .f32⟩
  | .local _ .vmem, ⟨54, _⟩ => ⟨S1x4096x704, .bf16⟩
  | .local _ .vmem, ⟨55, _⟩ => ⟨S1x4096x704, .bf16⟩
  | .local _ .vmem, ⟨56, _⟩ => ⟨S4096x1024, .bf16⟩
  | .local _ .vmem, ⟨57, _⟩ => ⟨S4096x1024, .bf16⟩
  | .local _ .vmem, ⟨58, _⟩ => ⟨S1x1x704x1024, .f32⟩
  | .local _ .vmem, ⟨59, _⟩ => ⟨S1x1x704x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTc nBuf bufTy 0 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v11_2 : Ref sig .tc := ⟨.hbm, 19, rfl⟩
abbrev main_v11_3 : Ref sig .tc := ⟨.hbm, 20, rfl⟩
abbrev main_v11_4 : Ref sig .tc := ⟨.hbm, 21, rfl⟩
abbrev main_v12_0 : Ref sig .tc := ⟨.hbm, 22, rfl⟩
abbrev main_v12_1 : Ref sig .tc := ⟨.hbm, 23, rfl⟩
abbrev main_v12_2 : Ref sig .tc := ⟨.hbm, 24, rfl⟩
abbrev main_v12_3 : Ref sig .tc := ⟨.hbm, 25, rfl⟩
abbrev main_v12_4 : Ref sig .tc := ⟨.hbm, 26, rfl⟩
abbrev main_v13_0 : Ref sig .tc := ⟨.hbm, 27, rfl⟩
abbrev main_v13_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg3_1 : Ref sig .tc := ⟨.vmem, 26, rfl⟩
abbrev cc1_stg4_0 : Ref sig .tc := ⟨.vmem, 27, rfl⟩
abbrev cc1_stg4_1 : Ref sig .tc := ⟨.vmem, 28, rfl⟩
abbrev cc1_stg5_0 : Ref sig .tc := ⟨.vmem, 29, rfl⟩
abbrev cc1_stg5_1 : Ref sig .tc := ⟨.vmem, 30, rfl⟩
abbrev cc1_stg6_0 : Ref sig .tc := ⟨.vmem, 31, rfl⟩
abbrev cc1_stg6_1 : Ref sig .tc := ⟨.vmem, 32, rfl⟩
abbrev cc1_stg7_0 : Ref sig .tc := ⟨.vmem, 33, rfl⟩
abbrev cc1_stg7_1 : Ref sig .tc := ⟨.vmem, 34, rfl⟩
abbrev cc1_stg8_0 : Ref sig .tc := ⟨.vmem, 35, rfl⟩
abbrev cc1_stg8_1 : Ref sig .tc := ⟨.vmem, 36, rfl⟩
abbrev cc1_stg9_0 : Ref sig .tc := ⟨.vmem, 37, rfl⟩
abbrev cc1_stg9_1 : Ref sig .tc := ⟨.vmem, 38, rfl⟩
abbrev cc1_stg10_0 : Ref sig .tc := ⟨.vmem, 39, rfl⟩
abbrev cc1_stg10_1 : Ref sig .tc := ⟨.vmem, 40, rfl⟩
abbrev cc1_stg11_0 : Ref sig .tc := ⟨.vmem, 41, rfl⟩
abbrev cc1_stg11_1 : Ref sig .tc := ⟨.vmem, 42, rfl⟩
abbrev cc1_stg12_0 : Ref sig .tc := ⟨.vmem, 43, rfl⟩
abbrev cc2_stg0_0 : Ref sig .tc := ⟨.vmem, 44, rfl⟩
abbrev cc2_stg0_1 : Ref sig .tc := ⟨.vmem, 45, rfl⟩
abbrev cc2_stg1_0 : Ref sig .tc := ⟨.vmem, 46, rfl⟩
abbrev cc2_stg1_1 : Ref sig .tc := ⟨.vmem, 47, rfl⟩
abbrev cc2_stg2_0 : Ref sig .tc := ⟨.vmem, 48, rfl⟩
abbrev cc2_stg2_1 : Ref sig .tc := ⟨.vmem, 49, rfl⟩
abbrev cc2_stg3_0 : Ref sig .tc := ⟨.vmem, 50, rfl⟩
abbrev cc2_stg3_1 : Ref sig .tc := ⟨.vmem, 51, rfl⟩
abbrev cc2_stg4_0 : Ref sig .tc := ⟨.vmem, 52, rfl⟩
abbrev cc2_stg4_1 : Ref sig .tc := ⟨.vmem, 53, rfl⟩
abbrev cc3_stg0_0 : Ref sig .tc := ⟨.vmem, 54, rfl⟩
abbrev cc3_stg0_1 : Ref sig .tc := ⟨.vmem, 55, rfl⟩
abbrev cc3_stg1_0 : Ref sig .tc := ⟨.vmem, 56, rfl⟩
abbrev cc3_stg1_1 : Ref sig .tc := ⟨.vmem, 57, rfl⟩
abbrev cc3_stg2_0 : Ref sig .tc := ⟨.vmem, 58, rfl⟩
abbrev cc3_stg2_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc1_sem0_0 : DmaSem sig := 19
abbrev cc1_sem0_1 : DmaSem sig := 20
abbrev cc1_sem1_0 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31
abbrev cc1_sem7_0 : DmaSem sig := 32
abbrev cc1_sem7_1 : DmaSem sig := 33
abbrev cc1_sem8_0 : DmaSem sig := 34
abbrev cc1_sem8_1 : DmaSem sig := 35
abbrev cc1_sem9_0 : DmaSem sig := 36
abbrev cc1_sem9_1 : DmaSem sig := 37
abbrev cc1_sem10_0 : DmaSem sig := 38
abbrev cc1_sem10_1 : DmaSem sig := 39
abbrev cc1_sem11_0 : DmaSem sig := 40
abbrev cc1_sem11_1 : DmaSem sig := 41
abbrev cc1_sem12_0 : DmaSem sig := 42
abbrev cc2_sem0_0 : DmaSem sig := 43
abbrev cc2_sem0_1 : DmaSem sig := 44
abbrev cc2_sem1_0 : DmaSem sig := 45
abbrev cc2_sem1_1 : DmaSem sig := 46
abbrev cc2_sem2_0 : DmaSem sig := 47
abbrev cc2_sem2_1 : DmaSem sig := 48
abbrev cc2_sem3_0 : DmaSem sig := 49
abbrev cc2_sem3_1 : DmaSem sig := 50
abbrev cc2_sem4_0 : DmaSem sig := 51
abbrev cc2_sem4_1 : DmaSem sig := 52
abbrev cc3_sem0_0 : DmaSem sig := 53
abbrev cc3_sem0_1 : DmaSem sig := 54
abbrev cc3_sem1_0 : DmaSem sig := 55
abbrev cc3_sem1_1 : DmaSem sig := 56
abbrev cc3_sem2_0 : DmaSem sig := 57
abbrev cc3_sem2_1 : DmaSem sig := 58

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v47 : BitVec 1 := Scalar.cmpi .eq arg1 c3_i32
  let v48 : BitVec 32 := Scalar.extui v47
  let c0_i32_34 : BitVec 32 := 0#32
  let v49 : BitVec 1 := Scalar.cmpi .ne v48 c0_i32_34
  v49

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg1.toNat, c1_i32.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg1.toNat, c1_i32.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg1.toNat, c1_i32.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨2, ![16, 4], ![false, false]⟩

def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k1_cond2 (i : grid1.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def k1_cond3 (i : grid1.Coords) : BitVec 1 :=
  let arg1 : BitVec 32 := BitVec.ofNat 32 (i 1).val
  let c3_i32 : BitVec 32 := 3#32
  let v40 : BitVec 1 := Scalar.cmpi .eq arg1 c3_i32
  let v41 : BitVec 32 := Scalar.extui v40
  let c0_i32_35 : BitVec 32 := 0#32
  let v42 : BitVec 1 := Scalar.cmpi .ne v41 c0_i32_35
  v42

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_5 (i : grid1.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg1.toNat, c1_i32.toNat, c0_i32.toNat, c0_i32_0.toNat]

def cc1_transform_6 (i : grid1.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg1.toNat, c1_i32.toNat, c0_i32.toNat, c0_i32_0.toNat]

def cc1_transform_7 (i : grid1.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg1.toNat, c1_i32.toNat, c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x704 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x512x704 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1x1024x704 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S1x1x1024x704 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true]

abbrev stage1_7 : Fin 2 → Memref sig .tc .vmem S1x1x704x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![false, true]

abbrev stage1_8 : Fin 2 → Memref sig .tc .vmem S512x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S1x512x704 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1x512x704 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S512x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, false]

abbrev stage1_12 : Fin 1 → Memref sig .tc .vmem S1x1024 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false, false]

abbrev grid2 : Pipeline.Grid := ⟨2, ![4, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_3 (i : grid2.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc2_transform_4 (i : grid2.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1x2048x704 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x2048x704 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x1x1024x704 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x1x1024x704 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev grid3 : Pipeline.Grid := ⟨2, ![4, 2], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

abbrev stage3_0 : Fin 2 → Memref sig .tc .vmem S1x4096x704 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1x1x704x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]
-- ==== Kernel1Ideal.lean ====
abbrev S8192x1024 : Shape := ⟨2, ![8192, 1024]⟩
abbrev S4x2x1024 : Shape := ⟨3, ![4, 2, 1024]⟩
abbrev S4x2x1024x2816 : Shape := ⟨4, ![4, 2, 1024, 2816]⟩
abbrev S4x2x2816x1024 : Shape := ⟨4, ![4, 2, 2816, 1024]⟩
abbrev S8x1024x4x704 : Shape := ⟨4, ![8, 1024, 4, 704]⟩
abbrev S4x8x1024x704 : Shape := ⟨4, ![4, 8, 1024, 704]⟩
abbrev S8x4x704x1024 : Shape := ⟨4, ![8, 4, 704, 1024]⟩
abbrev S4x8x704x1024 : Shape := ⟨4, ![4, 8, 704, 1024]⟩
abbrev S8x1024 : Shape := ⟨2, ![8, 1024]⟩
abbrev S1x1024 : Shape := ⟨2, ![1, 1024]⟩
abbrev S4x8192x704 : Shape := ⟨3, ![4, 8192, 704]⟩
abbrev S1024x1024 : Shape := ⟨2, ![1024, 1024]⟩
abbrev S1x1x1024x704 : Shape := ⟨4, ![1, 1, 1024, 704]⟩
abbrev S1x1x704x1024 : Shape := ⟨4, ![1, 1, 704, 1024]⟩
abbrev S1x1024x704 : Shape := ⟨3, ![1, 1024, 704]⟩
abbrev S1024 : Shape := ⟨1, ![1024]⟩
abbrev S1024x1 : Shape := ⟨2, ![1024, 1]⟩
abbrev S1024x704 : Shape := ⟨2, ![1024, 704]⟩
abbrev S704x1024 : Shape := ⟨2, ![704, 1024]⟩
abbrev S512x1024 : Shape := ⟨2, ![512, 1024]⟩
abbrev S1x512x704 : Shape := ⟨3, ![1, 512, 704]⟩
abbrev S512x704 : Shape := ⟨2, ![512, 704]⟩
abbrev S512 : Shape := ⟨1, ![512]⟩
abbrev S512x1 : Shape := ⟨2, ![512, 1]⟩
abbrev S2048x1024 : Shape := ⟨2, ![2048, 1024]⟩
abbrev S1x2048x704 : Shape := ⟨3, ![1, 2048, 704]⟩
abbrev S1024x2048 : Shape := ⟨2, ![1024, 2048]⟩
abbrev S2048x704 : Shape := ⟨2, ![2048, 704]⟩
abbrev S1x4096x704 : Shape := ⟨3, ![1, 4096, 704]⟩
abbrev S4096x1024 : Shape := ⟨2, ![4096, 1024]⟩
abbrev S4096x704 : Shape := ⟨2, ![4096, 704]⟩
abbrev S4x1x1024x704 : Shape := ⟨4, ![4, 1, 1024, 704]⟩
abbrev S4x1024x704 : Shape := ⟨3, ![4, 1024, 704]⟩
abbrev S4x1x704x1024 : Shape := ⟨4, ![4, 1, 704, 1024]⟩
abbrev S4x704x1024 : Shape := ⟨3, ![4, 704, 1024]⟩

abbrev nBuf : Space → Nat
  | .hbm => 36
  | .vmem => 60
  | .smem => 0
  | _ => 0

abbrev bufTy : (tb : Table) → Fin (tcTables nBuf tb) → BufTy
  | .hbm, ⟨0, _⟩ => ⟨S8192x1024, .f32⟩
  | .hbm, ⟨1, _⟩ => ⟨S4x2x1024, .f32⟩
  | .hbm, ⟨2, _⟩ => ⟨S4x2x1024x2816, .f32⟩
  | .hbm, ⟨3, _⟩ => ⟨S4x2x1024x2816, .f32⟩
  | .hbm, ⟨4, _⟩ => ⟨S4x2x2816x1024, .f32⟩
  | .hbm, ⟨5, _⟩ => ⟨S8192x1024, .f32⟩
  | .hbm, ⟨6, _⟩ => ⟨S4x2x1024x2816, .bf16⟩
  | .hbm, ⟨7, _⟩ => ⟨S8x1024x4x704, .bf16⟩
  | .hbm, ⟨8, _⟩ => ⟨S4x8x1024x704, .bf16⟩
  | .hbm, ⟨9, _⟩ => ⟨S4x2x1024x2816, .bf16⟩
  | .hbm, ⟨10, _⟩ => ⟨S8x1024x4x704, .bf16⟩
  | .hbm, ⟨11, _⟩ => ⟨S4x8x1024x704, .bf16⟩
  | .hbm, ⟨12, _⟩ => ⟨S4x2x2816x1024, .bf16⟩
  | .hbm, ⟨13, _⟩ => ⟨S8x4x704x1024, .bf16⟩
  | .hbm, ⟨14, _⟩ => ⟨S4x8x704x1024, .bf16⟩
  | .hbm, ⟨15, _⟩ => ⟨S8x1024, .f32⟩
  | .hbm, ⟨16, _⟩ => ⟨S1x1024, .f32⟩
  | .hbm, ⟨17, _⟩ => ⟨S8192x1024, .f32⟩
  | .hbm, ⟨18, _⟩ => ⟨S8192x1024, .bf16⟩
  | .hbm, ⟨19, _⟩ => ⟨S4x8192x704, .bf16⟩
  | .hbm, ⟨20, _⟩ => ⟨S4x8192x704, .bf16⟩
  | .hbm, ⟨21, _⟩ => ⟨S4x8192x704, .bf16⟩
  | .hbm, ⟨22, _⟩ => ⟨S8192x1024, .f32⟩
  | .hbm, ⟨23, _⟩ => ⟨S4x8192x704, .bf16⟩
  | .hbm, ⟨24, _⟩ => ⟨S4x8192x704, .bf16⟩
  | .hbm, ⟨25, _⟩ => ⟨S8192x1024, .bf16⟩
  | .hbm, ⟨26, _⟩ => ⟨S1x1024, .f32⟩
  | .hbm, ⟨27, _⟩ => ⟨S4x8x1024x704, .f32⟩
  | .hbm, ⟨28, _⟩ => ⟨S4x8x1024x704, .f32⟩
  | .hbm, ⟨29, _⟩ => ⟨S4x8x704x1024, .f32⟩
  | .hbm, ⟨30, _⟩ => ⟨S4x1x1024x704, .f32⟩
  | .hbm, ⟨31, _⟩ => ⟨S4x1024x704, .f32⟩
  | .hbm, ⟨32, _⟩ => ⟨S4x1x1024x704, .f32⟩
  | .hbm, ⟨33, _⟩ => ⟨S4x1024x704, .f32⟩
  | .hbm, ⟨34, _⟩ => ⟨S4x1x704x1024, .f32⟩
  | .hbm, ⟨35, _⟩ => ⟨S4x704x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024x704, .bf16⟩
  | .local _ .vmem, ⟨4, _⟩ => ⟨S1x1x1024x704, .bf16⟩
  | .local _ .vmem, ⟨5, _⟩ => ⟨S1x1x1024x704, .bf16⟩
  | .local _ .vmem, ⟨6, _⟩ => ⟨S1x1x1024x704, .bf16⟩
  | .local _ .vmem, ⟨7, _⟩ => ⟨S1x1x704x1024, .bf16⟩
  | .local _ .vmem, ⟨8, _⟩ => ⟨S1x1x704x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1024x704, .bf16⟩
  | .local _ .vmem, ⟨14, _⟩ => ⟨S1x1024x704, .bf16⟩
  | .local _ .vmem, ⟨15, _⟩ => ⟨S1x1024x704, .bf16⟩
  | .local _ .vmem, ⟨16, _⟩ => ⟨S1x1024x704, .bf16⟩
  | .local _ .vmem, ⟨17, _⟩ => ⟨S1x1024x704, .bf16⟩
  | .local _ .vmem, ⟨18, _⟩ => ⟨S1x1024x704, .bf16⟩
  | .local _ .vmem, ⟨19, _⟩ => ⟨S1024x1024, .f32⟩
  | .local _ .vmem, ⟨20, _⟩ => ⟨S512x1024, .f32⟩
  | .local _ .vmem, ⟨21, _⟩ => ⟨S512x1024, .f32⟩
  | .local _ .vmem, ⟨22, _⟩ => ⟨S1x1024, .f32⟩
  | .local _ .vmem, ⟨23, _⟩ => ⟨S512x1024, .f32⟩
  | .local _ .vmem, ⟨24, _⟩ => ⟨S512x1024, .f32⟩
  | .local _ .vmem, ⟨25, _⟩ => ⟨S1x512x704, .bf16⟩
  | .local _ .vmem, ⟨26, _⟩ => ⟨S1x512x704, .bf16⟩
  | .local _ .vmem, ⟨27, _⟩ => ⟨S1x512x704, .bf16⟩
  | .local _ .vmem, ⟨28, _⟩ => ⟨S1x512x704, .bf16⟩
  | .local _ .vmem, ⟨29, _⟩ => ⟨S1x1x1024x704, .bf16⟩
  | .local _ .vmem, ⟨30, _⟩ => ⟨S1x1x1024x704, .bf16⟩
  | .local _ .vmem, ⟨31, _⟩ => ⟨S1x1x1024x704, .bf16⟩
  | .local _ .vmem, ⟨32, _⟩ => ⟨S1x1x1024x704, .bf16⟩
  | .local _ .vmem, ⟨33, _⟩ => ⟨S1x1x704x1024, .bf16⟩
  | .local _ .vmem, ⟨34, _⟩ => ⟨S1x1x704x1024, .bf16⟩
  | .local _ .vmem, ⟨35, _⟩ => ⟨S512x1024, .f32⟩
  | .local _ .vmem, ⟨36, _⟩ => ⟨S512x1024, .f32⟩
  | .local _ .vmem, ⟨37, _⟩ => ⟨S1x512x704, .bf16⟩
  | .local _ .vmem, ⟨38, _⟩ => ⟨S1x512x704, .bf16⟩
  | .local _ .vmem, ⟨39, _⟩ => ⟨S1x512x704, .bf16⟩
  | .local _ .vmem, ⟨40, _⟩ => ⟨S1x512x704, .bf16⟩
  | .local _ .vmem, ⟨41, _⟩ => ⟨S512x1024, .bf16⟩
  | .local _ .vmem, ⟨42, _⟩ => ⟨S512x1024, .bf16⟩
  | .local _ .vmem, ⟨43, _⟩ => ⟨S1x1024, .f32⟩
  | .local _ .vmem, ⟨44, _⟩ => ⟨S2048x1024, .bf16⟩
  | .local _ .vmem, ⟨45, _⟩ => ⟨S2048x1024, .bf16⟩
  | .local _ .vmem, ⟨46, _⟩ => ⟨S1x2048x704, .bf16⟩
  | .local _ .vmem, ⟨47, _⟩ => ⟨S1x2048x704, .bf16⟩
  | .local _ .vmem, ⟨48, _⟩ => ⟨S1x2048x704, .bf16⟩
  | .local _ .vmem, ⟨49, _⟩ => ⟨S1x2048x704, .bf16⟩
  | .local _ .vmem, ⟨50, _⟩ => ⟨S1x1x1024x704, .f32⟩
  | .local _ .vmem, ⟨51, _⟩ => ⟨S1x1x1024x704, .f32⟩
  | .local _ .vmem, ⟨52, _⟩ => ⟨S1x1x1024x704, .f32⟩
  | .local _ .vmem, ⟨53, _⟩ => ⟨S1x1x1024x704, .f32⟩
  | .local _ .vmem, ⟨54, _⟩ => ⟨S1x4096x704, .bf16⟩
  | .local _ .vmem, ⟨55, _⟩ => ⟨S1x4096x704, .bf16⟩
  | .local _ .vmem, ⟨56, _⟩ => ⟨S4096x1024, .bf16⟩
  | .local _ .vmem, ⟨57, _⟩ => ⟨S4096x1024, .bf16⟩
  | .local _ .vmem, ⟨58, _⟩ => ⟨S1x1x704x1024, .f32⟩
  | .local _ .vmem, ⟨59, _⟩ => ⟨S1x1x704x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTc nBuf bufTy 0 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v11_2 : Ref sig .tc := ⟨.hbm, 19, rfl⟩
abbrev main_v11_3 : Ref sig .tc := ⟨.hbm, 20, rfl⟩
abbrev main_v11_4 : Ref sig .tc := ⟨.hbm, 21, rfl⟩
abbrev main_v12_0 : Ref sig .tc := ⟨.hbm, 22, rfl⟩
abbrev main_v12_1 : Ref sig .tc := ⟨.hbm, 23, rfl⟩
abbrev main_v12_2 : Ref sig .tc := ⟨.hbm, 24, rfl⟩
abbrev main_v12_3 : Ref sig .tc := ⟨.hbm, 25, rfl⟩
abbrev main_v12_4 : Ref sig .tc := ⟨.hbm, 26, rfl⟩
abbrev main_v13_0 : Ref sig .tc := ⟨.hbm, 27, rfl⟩
abbrev main_v13_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg3_1 : Ref sig .tc := ⟨.vmem, 26, rfl⟩
abbrev cc1_stg4_0 : Ref sig .tc := ⟨.vmem, 27, rfl⟩
abbrev cc1_stg4_1 : Ref sig .tc := ⟨.vmem, 28, rfl⟩
abbrev cc1_stg5_0 : Ref sig .tc := ⟨.vmem, 29, rfl⟩
abbrev cc1_stg5_1 : Ref sig .tc := ⟨.vmem, 30, rfl⟩
abbrev cc1_stg6_0 : Ref sig .tc := ⟨.vmem, 31, rfl⟩
abbrev cc1_stg6_1 : Ref sig .tc := ⟨.vmem, 32, rfl⟩
abbrev cc1_stg7_0 : Ref sig .tc := ⟨.vmem, 33, rfl⟩
abbrev cc1_stg7_1 : Ref sig .tc := ⟨.vmem, 34, rfl⟩
abbrev cc1_stg8_0 : Ref sig .tc := ⟨.vmem, 35, rfl⟩
abbrev cc1_stg8_1 : Ref sig .tc := ⟨.vmem, 36, rfl⟩
abbrev cc1_stg9_0 : Ref sig .tc := ⟨.vmem, 37, rfl⟩
abbrev cc1_stg9_1 : Ref sig .tc := ⟨.vmem, 38, rfl⟩
abbrev cc1_stg10_0 : Ref sig .tc := ⟨.vmem, 39, rfl⟩
abbrev cc1_stg10_1 : Ref sig .tc := ⟨.vmem, 40, rfl⟩
abbrev cc1_stg11_0 : Ref sig .tc := ⟨.vmem, 41, rfl⟩
abbrev cc1_stg11_1 : Ref sig .tc := ⟨.vmem, 42, rfl⟩
abbrev cc1_stg12_0 : Ref sig .tc := ⟨.vmem, 43, rfl⟩
abbrev cc2_stg0_0 : Ref sig .tc := ⟨.vmem, 44, rfl⟩
abbrev cc2_stg0_1 : Ref sig .tc := ⟨.vmem, 45, rfl⟩
abbrev cc2_stg1_0 : Ref sig .tc := ⟨.vmem, 46, rfl⟩
abbrev cc2_stg1_1 : Ref sig .tc := ⟨.vmem, 47, rfl⟩
abbrev cc2_stg2_0 : Ref sig .tc := ⟨.vmem, 48, rfl⟩
abbrev cc2_stg2_1 : Ref sig .tc := ⟨.vmem, 49, rfl⟩
abbrev cc2_stg3_0 : Ref sig .tc := ⟨.vmem, 50, rfl⟩
abbrev cc2_stg3_1 : Ref sig .tc := ⟨.vmem, 51, rfl⟩
abbrev cc2_stg4_0 : Ref sig .tc := ⟨.vmem, 52, rfl⟩
abbrev cc2_stg4_1 : Ref sig .tc := ⟨.vmem, 53, rfl⟩
abbrev cc3_stg0_0 : Ref sig .tc := ⟨.vmem, 54, rfl⟩
abbrev cc3_stg0_1 : Ref sig .tc := ⟨.vmem, 55, rfl⟩
abbrev cc3_stg1_0 : Ref sig .tc := ⟨.vmem, 56, rfl⟩
abbrev cc3_stg1_1 : Ref sig .tc := ⟨.vmem, 57, rfl⟩
abbrev cc3_stg2_0 : Ref sig .tc := ⟨.vmem, 58, rfl⟩
abbrev cc3_stg2_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc1_sem0_0 : DmaSem sig := 19
abbrev cc1_sem0_1 : DmaSem sig := 20
abbrev cc1_sem1_0 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31
abbrev cc1_sem7_0 : DmaSem sig := 32
abbrev cc1_sem7_1 : DmaSem sig := 33
abbrev cc1_sem8_0 : DmaSem sig := 34
abbrev cc1_sem8_1 : DmaSem sig := 35
abbrev cc1_sem9_0 : DmaSem sig := 36
abbrev cc1_sem9_1 : DmaSem sig := 37
abbrev cc1_sem10_0 : DmaSem sig := 38
abbrev cc1_sem10_1 : DmaSem sig := 39
abbrev cc1_sem11_0 : DmaSem sig := 40
abbrev cc1_sem11_1 : DmaSem sig := 41
abbrev cc1_sem12_0 : DmaSem sig := 42
abbrev cc2_sem0_0 : DmaSem sig := 43
abbrev cc2_sem0_1 : DmaSem sig := 44
abbrev cc2_sem1_0 : DmaSem sig := 45
abbrev cc2_sem1_1 : DmaSem sig := 46
abbrev cc2_sem2_0 : DmaSem sig := 47
abbrev cc2_sem2_1 : DmaSem sig := 48
abbrev cc2_sem3_0 : DmaSem sig := 49
abbrev cc2_sem3_1 : DmaSem sig := 50
abbrev cc2_sem4_0 : DmaSem sig := 51
abbrev cc2_sem4_1 : DmaSem sig := 52
abbrev cc3_sem0_0 : DmaSem sig := 53
abbrev cc3_sem0_1 : DmaSem sig := 54
abbrev cc3_sem1_0 : DmaSem sig := 55
abbrev cc3_sem1_1 : DmaSem sig := 56
abbrev cc3_sem2_0 : DmaSem sig := 57
abbrev cc3_sem2_1 : DmaSem sig := 58

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v47 : BitVec 1 := Scalar.cmpi .eq arg1 c3_i32
  let v48 : BitVec 32 := Scalar.extui v47
  let c0_i32_34 : BitVec 32 := 0#32
  let v49 : BitVec 1 := Scalar.cmpi .ne v48 c0_i32_34
  v49

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg1.toNat, c1_i32.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg1.toNat, c1_i32.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg1.toNat, c1_i32.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨2, ![16, 4], ![false, false]⟩

def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k1_cond2 (i : grid1.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def k1_cond3 (i : grid1.Coords) : BitVec 1 :=
  let arg1 : BitVec 32 := BitVec.ofNat 32 (i 1).val
  let c3_i32 : BitVec 32 := 3#32
  let v40 : BitVec 1 := Scalar.cmpi .eq arg1 c3_i32
  let v41 : BitVec 32 := Scalar.extui v40
  let c0_i32_35 : BitVec 32 := 0#32
  let v42 : BitVec 1 := Scalar.cmpi .ne v41 c0_i32_35
  v42

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_5 (i : grid1.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg1.toNat, c1_i32.toNat, c0_i32.toNat, c0_i32_0.toNat]

def cc1_transform_6 (i : grid1.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg1.toNat, c1_i32.toNat, c0_i32.toNat, c0_i32_0.toNat]

def cc1_transform_7 (i : grid1.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg1.toNat, c1_i32.toNat, c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x704 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x512x704 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1x1024x704 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S1x1x1024x704 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true]

abbrev stage1_7 : Fin 2 → Memref sig .tc .vmem S1x1x704x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![false, true]

abbrev stage1_8 : Fin 2 → Memref sig .tc .vmem S512x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S1x512x704 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1x512x704 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S512x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, false]

abbrev stage1_12 : Fin 1 → Memref sig .tc .vmem S1x1024 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false, false]

abbrev grid2 : Pipeline.Grid := ⟨2, ![4, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_3 (i : grid2.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc2_transform_4 (i : grid2.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1x2048x704 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x2048x704 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x1x1024x704 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x1x1024x704 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev grid3 : Pipeline.Grid := ⟨2, ![4, 2], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

abbrev stage3_0 : Fin 2 → Memref sig .tc .vmem S1x4096x704 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1x1x704x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]
-- ==== Reference1Ideal.lean ====
abbrev S8192x1024 : Shape := ⟨2, ![8192, 1024]⟩
abbrev S4x2x1024 : Shape := ⟨3, ![4, 2, 1024]⟩
abbrev S4x2x1024x2816 : Shape := ⟨4, ![4, 2, 1024, 2816]⟩
abbrev S4x2x2816x1024 : Shape := ⟨4, ![4, 2, 2816, 1024]⟩
abbrev S1x1x1024 : Shape := ⟨3, ![1, 1, 1024]⟩
abbrev S1024 : Shape := ⟨1, ![1024]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S1024x4x704 : Shape := ⟨3, ![1024, 4, 704]⟩
abbrev S4x1024x704 : Shape := ⟨3, ![4, 1024, 704]⟩
abbrev S4x704x1024 : Shape := ⟨3, ![4, 704, 1024]⟩

abbrev nBuf : Space → Nat
  | .hbm => 107
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x2x1024, .f32⟩
  | .hbm, ⟨2, _⟩ => ⟨S4x2x1024x2816, .f32⟩
  | .hbm, ⟨3, _⟩ => ⟨S4x2x1024x2816, .f32⟩
  | .hbm, ⟨4, _⟩ => ⟨S4x2x2816x1024, .f32⟩
  | .hbm, ⟨5, _⟩ => ⟨S8192x1024, .f32⟩
  | .hbm, ⟨6, _⟩ => ⟨S1x1x1024, .f32⟩
  | .hbm, ⟨7, _⟩ => ⟨S1024, .f32⟩
  | .hbm, ⟨8, _⟩ => ⟨S1x1x1024x2816, .f32⟩
  | .hbm, ⟨9, _⟩ => ⟨S1024x2816, .f32⟩
  | .hbm, ⟨10, _⟩ => ⟨S1x1x1024x2816, .f32⟩
  | .hbm, ⟨11, _⟩ => ⟨S1024x2816, .f32⟩
  | .hbm, ⟨12, _⟩ => ⟨S1x1x2816x1024, .f32⟩
  | .hbm, ⟨13, _⟩ => ⟨S2816x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S_, .f32⟩
  | .hbm, ⟨38, _⟩ => ⟨S8192x2816, .f32⟩
  | .hbm, ⟨39, _⟩ => ⟨S8192x2816, .f32⟩
  | .hbm, ⟨40, _⟩ => ⟨S_, .f32⟩
  | .hbm, ⟨41, _⟩ => ⟨S8192x2816, .f32⟩
  | .hbm, ⟨42, _⟩ => ⟨S8192x2816, .f32⟩
  | .hbm, ⟨43, _⟩ => ⟨S_, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x1024, .f32⟩
  | .hbm, ⟨51, _⟩ => ⟨S_, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192x1024, .f32⟩
  | .hbm, ⟨58, _⟩ => ⟨S8192x1024, .f32⟩
  | .hbm, ⟨59, _⟩ => ⟨S1024x2816, .f32⟩
  | .hbm, ⟨60, _⟩ => ⟨S2816x1024, .f32⟩
  | .hbm, ⟨61, _⟩ => ⟨S8192x2816, .f32⟩
  | .hbm, ⟨62, _⟩ => ⟨S8192x2816, .f32⟩
  | .hbm, ⟨63, _⟩ => ⟨S8192x2816, .f32⟩
  | .hbm, ⟨64, _⟩ => ⟨S2816x1024, .f32⟩
  | .hbm, ⟨65, _⟩ => ⟨S1024x2816, .f32⟩
  | .hbm, ⟨66, _⟩ => ⟨S8192x1024, .f32⟩
  | .hbm, ⟨67, _⟩ => ⟨S8192x2816, .f32⟩
  | .hbm, ⟨68, _⟩ => ⟨S8192x2816, .f32⟩
  | .hbm, ⟨69, _⟩ => ⟨S8192x2816, .f32⟩
  | .hbm, ⟨70, _⟩ => ⟨S8192x2816, .f32⟩
  | .hbm, ⟨71, _⟩ => ⟨S2816x1024, .f32⟩
  | .hbm, ⟨72, _⟩ => ⟨S1024x2816, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S8192x1024, .f32⟩
  | .hbm, ⟨80, _⟩ => ⟨S8192x1024, .f32⟩
  | .hbm, ⟨81, _⟩ => ⟨S_, .f32⟩
  | .hbm, ⟨82, _⟩ => ⟨S1024, .f32⟩
  | .hbm, ⟨83, _⟩ => ⟨S8192x1024, .f32⟩
  | .hbm, ⟨84, _⟩ => ⟨S_, .f32⟩
  | .hbm, ⟨85, _⟩ => ⟨S8192, .f32⟩
  | .hbm, ⟨86, _⟩ => ⟨S8192x1, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x1, .f32⟩
  | .hbm, ⟨91, _⟩ => ⟨S_, .f32⟩
  | .hbm, ⟨92, _⟩ => ⟨S8192x1, .f32⟩
  | .hbm, ⟨93, _⟩ => ⟨S8192x1, .f32⟩
  | .hbm, ⟨94, _⟩ => ⟨S_, .f32⟩
  | .hbm, ⟨95, _⟩ => ⟨S8192, .f32⟩
  | .hbm, ⟨96, _⟩ => ⟨S8192x1024, .f32⟩
  | .hbm, ⟨97, _⟩ => ⟨S8192x1024, .f32⟩
  | .hbm, ⟨98, _⟩ => ⟨S8192x1024, .f32⟩
  | .hbm, ⟨99, _⟩ => ⟨S8192x1024, .f32⟩
  | .hbm, ⟨100, _⟩ => ⟨S8192x1024, .f32⟩
  | .hbm, ⟨101, _⟩ => ⟨S1x1024, .f32⟩
  | .hbm, ⟨102, _⟩ => ⟨S1024x4x704, .f32⟩
  | .hbm, ⟨103, _⟩ => ⟨S4x1024x704, .f32⟩
  | .hbm, ⟨104, _⟩ => ⟨S1024x4x704, .f32⟩
  | .hbm, ⟨105, _⟩ => ⟨S4x1024x704, .f32⟩
  | .hbm, ⟨106, _⟩ => ⟨S4x704x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_v25_2 : Ref sig .tc := ⟨.hbm, 42, rfl⟩
abbrev main_call0_cst_1 : Ref sig .tc := ⟨.hbm, 43, rfl⟩
abbrev main_call0_v6 : Ref sig .tc := ⟨.hbm, 44, rfl⟩
abbrev main_call0_v7 : Ref sig .tc := ⟨.hbm, 45, rfl⟩
abbrev main_v25_1 : Ref sig .tc := ⟨.hbm, 46, rfl⟩
abbrev main_v25_0 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_3 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_4 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_5 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_6 : Ref sig .tc := ⟨.hbm, 81, rfl⟩
abbrev main_v53 : Ref sig .tc := ⟨.hbm, 82, rfl⟩
abbrev main_v54 : Ref sig .tc := ⟨.hbm, 83, rfl⟩
abbrev main_cst_7 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_8 : Ref sig .tc := ⟨.hbm, 91, rfl⟩
abbrev main_v61 : Ref sig .tc := ⟨.hbm, 92, rfl⟩
abbrev main_v62 : Ref sig .tc := ⟨.hbm, 93, rfl⟩
abbrev main_cst_9 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩

abbrev nD : Nat := 1
abbrev τ : Topo := Topo.v7x

variable {F : FTy → Type} [FloatOps F]
-- ==== Kernel0.lean ====
abbrev S8192x1024 : Shape := ⟨2, ![8192, 1024]⟩
abbrev S4x2x1024 : Shape := ⟨3, ![4, 2, 1024]⟩
abbrev S4x2x1024x2816 : Shape := ⟨4, ![4, 2, 1024, 2816]⟩
abbrev S4x2x2816x1024 : Shape := ⟨4, ![4, 2, 2816, 1024]⟩
abbrev S8x1024x4x704 : Shape := ⟨4, ![8, 1024, 4, 704]⟩
abbrev S4x8x1024x704 : Shape := ⟨4, ![4, 8, 1024, 704]⟩
abbrev S8x4x704x1024 : Shape := ⟨4, ![8, 4, 704, 1024]⟩
abbrev S4x8x704x1024 : Shape := ⟨4, ![4, 8, 704, 1024]⟩
abbrev S8x1024 : Shape := ⟨2, ![8, 1024]⟩
abbrev S1x1024 : Shape := ⟨2, ![1, 1024]⟩
abbrev S4x8192x704 : Shape := ⟨3, ![4, 8192, 704]⟩
abbrev S1024x1024 : Shape := ⟨2, ![1024, 1024]⟩
abbrev S1x1x1024x704 : Shape := ⟨4, ![1, 1, 1024, 704]⟩
abbrev S1x1x704x1024 : Shape := ⟨4, ![1, 1, 704, 1024]⟩
abbrev S1x1024x704 : Shape := ⟨3, ![1, 1024, 704]⟩
abbrev S1024 : Shape := ⟨1, ![1024]⟩
abbrev S1024x1 : Shape := ⟨2, ![1024, 1]⟩
abbrev S1024x704 : Shape := ⟨2, ![1024, 704]⟩
abbrev S704x1024 : Shape := ⟨2, ![704, 1024]⟩
abbrev S512x1024 : Shape := ⟨2, ![512, 1024]⟩
abbrev S1x512x704 : Shape := ⟨3, ![1, 512, 704]⟩
abbrev S512x704 : Shape := ⟨2, ![512, 704]⟩
abbrev S512 : Shape := ⟨1, ![512]⟩
abbrev S512x1 : Shape := ⟨2, ![512, 1]⟩
abbrev S2048x1024 : Shape := ⟨2, ![2048, 1024]⟩
abbrev S1x2048x704 : Shape := ⟨3, ![1, 2048, 704]⟩
abbrev S1024x2048 : Shape := ⟨2, ![1024, 2048]⟩
abbrev S2048x704 : Shape := ⟨2, ![2048, 704]⟩
abbrev S1x4096x704 : Shape := ⟨3, ![1, 4096, 704]⟩
abbrev S4096x1024 : Shape := ⟨2, ![4096, 1024]⟩
abbrev S4096x704 : Shape := ⟨2, ![4096, 704]⟩
abbrev S4x1x1024x704 : Shape := ⟨4, ![4, 1, 1024, 704]⟩
abbrev S4x1024x704 : Shape := ⟨3, ![4, 1024, 704]⟩
abbrev S4x1x704x1024 : Shape := ⟨4, ![4, 1, 704, 1024]⟩
abbrev S4x704x1024 : Shape := ⟨3, ![4, 704, 1024]⟩

abbrev nBuf : Space → Nat
  | .hbm => 36
  | .vmem => 60
  | .smem => 0
  | _ => 0

abbrev bufTy : (tb : Table) → Fin (tcTables nBuf tb) → BufTy
  | .hbm, ⟨0, _⟩ => ⟨S8192x1024, .f32⟩
  | .hbm, ⟨1, _⟩ => ⟨S4x2x1024, .f32⟩
  | .hbm, ⟨2, _⟩ => ⟨S4x2x1024x2816, .f32⟩
  | .hbm, ⟨3, _⟩ => ⟨S4x2x1024x2816, .f32⟩
  | .hbm, ⟨4, _⟩ => ⟨S4x2x2816x1024, .f32⟩
  | .hbm, ⟨5, _⟩ => ⟨S8192x1024, .f32⟩
  | .hbm, ⟨6, _⟩ => ⟨S4x2x1024x2816, .bf16⟩
  | .hbm, ⟨7, _⟩ => ⟨S8x1024x4x704, .bf16⟩
  | .hbm, ⟨8, _⟩ => ⟨S4x8x1024x704, .bf16⟩
  | .hbm, ⟨9, _⟩ => ⟨S4x2x1024x2816, .bf16⟩
  | .hbm, ⟨10, _⟩ => ⟨S8x1024x4x704, .bf16⟩
  | .hbm, ⟨11, _⟩ => ⟨S4x8x1024x704, .bf16⟩
  | .hbm, ⟨12, _⟩ => ⟨S4x2x2816x1024, .bf16⟩
  | .hbm, ⟨13, _⟩ => ⟨S8x4x704x1024, .bf16⟩
  | .hbm, ⟨14, _⟩ => ⟨S4x8x704x1024, .bf16⟩
  | .hbm, ⟨15, _⟩ => ⟨S8x1024, .f32⟩
  | .hbm, ⟨16, _⟩ => ⟨S1x1024, .f32⟩
  | .hbm, ⟨17, _⟩ => ⟨S8192x1024, .f32⟩
  | .hbm, ⟨18, _⟩ => ⟨S8192x1024, .bf16⟩
  | .hbm, ⟨19, _⟩ => ⟨S4x8192x704, .bf16⟩
  | .hbm, ⟨20, _⟩ => ⟨S4x8192x704, .bf16⟩
  | .hbm, ⟨21, _⟩ => ⟨S4x8192x704, .bf16⟩
  | .hbm, ⟨22, _⟩ => ⟨S8192x1024, .f32⟩
  | .hbm, ⟨23, _⟩ => ⟨S4x8192x704, .bf16⟩
  | .hbm, ⟨24, _⟩ => ⟨S4x8192x704, .bf16⟩
  | .hbm, ⟨25, _⟩ => ⟨S8192x1024, .bf16⟩
  | .hbm, ⟨26, _⟩ => ⟨S1x1024, .f32⟩
  | .hbm, ⟨27, _⟩ => ⟨S4x8x1024x704, .f32⟩
  | .hbm, ⟨28, _⟩ => ⟨S4x8x1024x704, .f32⟩
  | .hbm, ⟨29, _⟩ => ⟨S4x8x704x1024, .f32⟩
  | .hbm, ⟨30, _⟩ => ⟨S4x1x1024x704, .f32⟩
  | .hbm, ⟨31, _⟩ => ⟨S4x1024x704, .f32⟩
  | .hbm, ⟨32, _⟩ => ⟨S4x1x1024x704, .f32⟩
  | .hbm, ⟨33, _⟩ => ⟨S4x1024x704, .f32⟩
  | .hbm, ⟨34, _⟩ => ⟨S4x1x704x1024, .f32⟩
  | .hbm, ⟨35, _⟩ => ⟨S4x704x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024x704, .bf16⟩
  | .local _ .vmem, ⟨4, _⟩ => ⟨S1x1x1024x704, .bf16⟩
  | .local _ .vmem, ⟨5, _⟩ => ⟨S1x1x1024x704, .bf16⟩
  | .local _ .vmem, ⟨6, _⟩ => ⟨S1x1x1024x704, .bf16⟩
  | .local _ .vmem, ⟨7, _⟩ => ⟨S1x1x704x1024, .bf16⟩
  | .local _ .vmem, ⟨8, _⟩ => ⟨S1x1x704x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1024x704, .bf16⟩
  | .local _ .vmem, ⟨14, _⟩ => ⟨S1x1024x704, .bf16⟩
  | .local _ .vmem, ⟨15, _⟩ => ⟨S1x1024x704, .bf16⟩
  | .local _ .vmem, ⟨16, _⟩ => ⟨S1x1024x704, .bf16⟩
  | .local _ .vmem, ⟨17, _⟩ => ⟨S1x1024x704, .bf16⟩
  | .local _ .vmem, ⟨18, _⟩ => ⟨S1x1024x704, .bf16⟩
  | .local _ .vmem, ⟨19, _⟩ => ⟨S1024x1024, .f32⟩
  | .local _ .vmem, ⟨20, _⟩ => ⟨S512x1024, .f32⟩
  | .local _ .vmem, ⟨21, _⟩ => ⟨S512x1024, .f32⟩
  | .local _ .vmem, ⟨22, _⟩ => ⟨S1x1024, .f32⟩
  | .local _ .vmem, ⟨23, _⟩ => ⟨S512x1024, .f32⟩
  | .local _ .vmem, ⟨24, _⟩ => ⟨S512x1024, .f32⟩
  | .local _ .vmem, ⟨25, _⟩ => ⟨S1x512x704, .bf16⟩
  | .local _ .vmem, ⟨26, _⟩ => ⟨S1x512x704, .bf16⟩
  | .local _ .vmem, ⟨27, _⟩ => ⟨S1x512x704, .bf16⟩
  | .local _ .vmem, ⟨28, _⟩ => ⟨S1x512x704, .bf16⟩
  | .local _ .vmem, ⟨29, _⟩ => ⟨S1x1x1024x704, .bf16⟩
  | .local _ .vmem, ⟨30, _⟩ => ⟨S1x1x1024x704, .bf16⟩
  | .local _ .vmem, ⟨31, _⟩ => ⟨S1x1x1024x704, .bf16⟩
  | .local _ .vmem, ⟨32, _⟩ => ⟨S1x1x1024x704, .bf16⟩
  | .local _ .vmem, ⟨33, _⟩ => ⟨S1x1x704x1024, .bf16⟩
  | .local _ .vmem, ⟨34, _⟩ => ⟨S1x1x704x1024, .bf16⟩
  | .local _ .vmem, ⟨35, _⟩ => ⟨S512x1024, .f32⟩
  | .local _ .vmem, ⟨36, _⟩ => ⟨S512x1024, .f32⟩
  | .local _ .vmem, ⟨37, _⟩ => ⟨S1x512x704, .bf16⟩
  | .local _ .vmem, ⟨38, _⟩ => ⟨S1x512x704, .bf16⟩
  | .local _ .vmem, ⟨39, _⟩ => ⟨S1x512x704, .bf16⟩
  | .local _ .vmem, ⟨40, _⟩ => ⟨S1x512x704, .bf16⟩
  | .local _ .vmem, ⟨41, _⟩ => ⟨S512x1024, .bf16⟩
  | .local _ .vmem, ⟨42, _⟩ => ⟨S512x1024, .bf16⟩
  | .local _ .vmem, ⟨43, _⟩ => ⟨S1x1024, .f32⟩
  | .local _ .vmem, ⟨44, _⟩ => ⟨S2048x1024, .bf16⟩
  | .local _ .vmem, ⟨45, _⟩ => ⟨S2048x1024, .bf16⟩
  | .local _ .vmem, ⟨46, _⟩ => ⟨S1x2048x704, .bf16⟩
  | .local _ .vmem, ⟨47, _⟩ => ⟨S1x2048x704, .bf16⟩
  | .local _ .vmem, ⟨48, _⟩ => ⟨S1x2048x704, .bf16⟩
  | .local _ .vmem, ⟨49, _⟩ => ⟨S1x2048x704, .bf16⟩
  | .local _ .vmem, ⟨50, _⟩ => ⟨S1x1x1024x704, .f32⟩
  | .local _ .vmem, ⟨51, _⟩ => ⟨S1x1x1024x704, .f32⟩
  | .local _ .vmem, ⟨52, _⟩ => ⟨S1x1x1024x704, .f32⟩
  | .local _ .vmem, ⟨53, _⟩ => ⟨S1x1x1024x704, .f32⟩
  | .local _ .vmem, ⟨54, _⟩ => ⟨S1x4096x704, .bf16⟩
  | .local _ .vmem, ⟨55, _⟩ => ⟨S1x4096x704, .bf16⟩
  | .local _ .vmem, ⟨56, _⟩ => ⟨S4096x1024, .bf16⟩
  | .local _ .vmem, ⟨57, _⟩ => ⟨S4096x1024, .bf16⟩
  | .local _ .vmem, ⟨58, _⟩ => ⟨S1x1x704x1024, .f32⟩
  | .local _ .vmem, ⟨59, _⟩ => ⟨S1x1x704x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTc nBuf bufTy 0 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v11_2 : Ref sig .tc := ⟨.hbm, 19, rfl⟩
abbrev main_v11_3 : Ref sig .tc := ⟨.hbm, 20, rfl⟩
abbrev main_v11_4 : Ref sig .tc := ⟨.hbm, 21, rfl⟩
abbrev main_v12_0 : Ref sig .tc := ⟨.hbm, 22, rfl⟩
abbrev main_v12_1 : Ref sig .tc := ⟨.hbm, 23, rfl⟩
abbrev main_v12_2 : Ref sig .tc := ⟨.hbm, 24, rfl⟩
abbrev main_v12_3 : Ref sig .tc := ⟨.hbm, 25, rfl⟩
abbrev main_v12_4 : Ref sig .tc := ⟨.hbm, 26, rfl⟩
abbrev main_v13_0 : Ref sig .tc := ⟨.hbm, 27, rfl⟩
abbrev main_v13_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg3_1 : Ref sig .tc := ⟨.vmem, 26, rfl⟩
abbrev cc1_stg4_0 : Ref sig .tc := ⟨.vmem, 27, rfl⟩
abbrev cc1_stg4_1 : Ref sig .tc := ⟨.vmem, 28, rfl⟩
abbrev cc1_stg5_0 : Ref sig .tc := ⟨.vmem, 29, rfl⟩
abbrev cc1_stg5_1 : Ref sig .tc := ⟨.vmem, 30, rfl⟩
abbrev cc1_stg6_0 : Ref sig .tc := ⟨.vmem, 31, rfl⟩
abbrev cc1_stg6_1 : Ref sig .tc := ⟨.vmem, 32, rfl⟩
abbrev cc1_stg7_0 : Ref sig .tc := ⟨.vmem, 33, rfl⟩
abbrev cc1_stg7_1 : Ref sig .tc := ⟨.vmem, 34, rfl⟩
abbrev cc1_stg8_0 : Ref sig .tc := ⟨.vmem, 35, rfl⟩
abbrev cc1_stg8_1 : Ref sig .tc := ⟨.vmem, 36, rfl⟩
abbrev cc1_stg9_0 : Ref sig .tc := ⟨.vmem, 37, rfl⟩
abbrev cc1_stg9_1 : Ref sig .tc := ⟨.vmem, 38, rfl⟩
abbrev cc1_stg10_0 : Ref sig .tc := ⟨.vmem, 39, rfl⟩
abbrev cc1_stg10_1 : Ref sig .tc := ⟨.vmem, 40, rfl⟩
abbrev cc1_stg11_0 : Ref sig .tc := ⟨.vmem, 41, rfl⟩
abbrev cc1_stg11_1 : Ref sig .tc := ⟨.vmem, 42, rfl⟩
abbrev cc1_stg12_0 : Ref sig .tc := ⟨.vmem, 43, rfl⟩
abbrev cc2_stg0_0 : Ref sig .tc := ⟨.vmem, 44, rfl⟩
abbrev cc2_stg0_1 : Ref sig .tc := ⟨.vmem, 45, rfl⟩
abbrev cc2_stg1_0 : Ref sig .tc := ⟨.vmem, 46, rfl⟩
abbrev cc2_stg1_1 : Ref sig .tc := ⟨.vmem, 47, rfl⟩
abbrev cc2_stg2_0 : Ref sig .tc := ⟨.vmem, 48, rfl⟩
abbrev cc2_stg2_1 : Ref sig .tc := ⟨.vmem, 49, rfl⟩
abbrev cc2_stg3_0 : Ref sig .tc := ⟨.vmem, 50, rfl⟩
abbrev cc2_stg3_1 : Ref sig .tc := ⟨.vmem, 51, rfl⟩
abbrev cc2_stg4_0 : Ref sig .tc := ⟨.vmem, 52, rfl⟩
abbrev cc2_stg4_1 : Ref sig .tc := ⟨.vmem, 53, rfl⟩
abbrev cc3_stg0_0 : Ref sig .tc := ⟨.vmem, 54, rfl⟩
abbrev cc3_stg0_1 : Ref sig .tc := ⟨.vmem, 55, rfl⟩
abbrev cc3_stg1_0 : Ref sig .tc := ⟨.vmem, 56, rfl⟩
abbrev cc3_stg1_1 : Ref sig .tc := ⟨.vmem, 57, rfl⟩
abbrev cc3_stg2_0 : Ref sig .tc := ⟨.vmem, 58, rfl⟩
abbrev cc3_stg2_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc1_sem0_0 : DmaSem sig := 19
abbrev cc1_sem0_1 : DmaSem sig := 20
abbrev cc1_sem1_0 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31
abbrev cc1_sem7_0 : DmaSem sig := 32
abbrev cc1_sem7_1 : DmaSem sig := 33
abbrev cc1_sem8_0 : DmaSem sig := 34
abbrev cc1_sem8_1 : DmaSem sig := 35
abbrev cc1_sem9_0 : DmaSem sig := 36
abbrev cc1_sem9_1 : DmaSem sig := 37
abbrev cc1_sem10_0 : DmaSem sig := 38
abbrev cc1_sem10_1 : DmaSem sig := 39
abbrev cc1_sem11_0 : DmaSem sig := 40
abbrev cc1_sem11_1 : DmaSem sig := 41
abbrev cc1_sem12_0 : DmaSem sig := 42
abbrev cc2_sem0_0 : DmaSem sig := 43
abbrev cc2_sem0_1 : DmaSem sig := 44
abbrev cc2_sem1_0 : DmaSem sig := 45
abbrev cc2_sem1_1 : DmaSem sig := 46
abbrev cc2_sem2_0 : DmaSem sig := 47
abbrev cc2_sem2_1 : DmaSem sig := 48
abbrev cc2_sem3_0 : DmaSem sig := 49
abbrev cc2_sem3_1 : DmaSem sig := 50
abbrev cc2_sem4_0 : DmaSem sig := 51
abbrev cc2_sem4_1 : DmaSem sig := 52
abbrev cc3_sem0_0 : DmaSem sig := 53
abbrev cc3_sem0_1 : DmaSem sig := 54
abbrev cc3_sem1_0 : DmaSem sig := 55
abbrev cc3_sem1_1 : DmaSem sig := 56
abbrev cc3_sem2_0 : DmaSem sig := 57
abbrev cc3_sem2_1 : DmaSem sig := 58

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v47 : BitVec 1 := Scalar.cmpi .eq arg1 c3_i32
  let v48 : BitVec 32 := Scalar.extui v47
  let c0_i32_34 : BitVec 32 := 0#32
  let v49 : BitVec 1 := Scalar.cmpi .ne v48 c0_i32_34
  v49

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨2, ![16, 4], ![false, false]⟩

def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k1_cond2 (i : grid1.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def k1_cond3 (i : grid1.Coords) : BitVec 1 :=
  let arg1 : BitVec 32 := BitVec.ofNat 32 (i 1).val
  let c3_i32 : BitVec 32 := 3#32
  let v40 : BitVec 1 := Scalar.cmpi .eq arg1 c3_i32
  let v41 : BitVec 32 := Scalar.extui v40
  let c0_i32_35 : BitVec 32 := 0#32
  let v42 : BitVec 1 := Scalar.cmpi .ne v41 c0_i32_35
  v42

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc1_transform_6 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc1_transform_7 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x704 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x512x704 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1x1024x704 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S1x1x1024x704 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true]

abbrev stage1_7 : Fin 2 → Memref sig .tc .vmem S1x1x704x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![false, true]

abbrev stage1_8 : Fin 2 → Memref sig .tc .vmem S512x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S1x512x704 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1x512x704 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S512x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, false]

abbrev stage1_12 : Fin 1 → Memref sig .tc .vmem S1x1024 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false, false]

abbrev grid2 : Pipeline.Grid := ⟨2, ![4, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_3 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_4 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1x2048x704 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x2048x704 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x1x1024x704 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x1x1024x704 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev grid3 : Pipeline.Grid := ⟨2, ![4, 2], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage3_0 : Fin 2 → Memref sig .tc .vmem S1x4096x704 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1x1x704x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]
-- ==== Reference0Ideal.lean ====
abbrev S8192x1024 : Shape := ⟨2, ![8192, 1024]⟩
abbrev S4x2x1024 : Shape := ⟨3, ![4, 2, 1024]⟩
abbrev S4x2x1024x2816 : Shape := ⟨4, ![4, 2, 1024, 2816]⟩
abbrev S4x2x2816x1024 : Shape := ⟨4, ![4, 2, 2816, 1024]⟩
abbrev S1x1x1024 : Shape := ⟨3, ![1, 1, 1024]⟩
abbrev S1024 : Shape := ⟨1, ![1024]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S1024x4x704 : Shape := ⟨3, ![1024, 4, 704]⟩
abbrev S4x1024x704 : Shape := ⟨3, ![4, 1024, 704]⟩
abbrev S4x704x1024 : Shape := ⟨3, ![4, 704, 1024]⟩

abbrev nBuf : Space → Nat
  | .hbm => 107
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x2x1024, .f32⟩
  | .hbm, ⟨2, _⟩ => ⟨S4x2x1024x2816, .f32⟩
  | .hbm, ⟨3, _⟩ => ⟨S4x2x1024x2816, .f32⟩
  | .hbm, ⟨4, _⟩ => ⟨S4x2x2816x1024, .f32⟩
  | .hbm, ⟨5, _⟩ => ⟨S8192x1024, .f32⟩
  | .hbm, ⟨6, _⟩ => ⟨S1x1x1024, .f32⟩
  | .hbm, ⟨7, _⟩ => ⟨S1024, .f32⟩
  | .hbm, ⟨8, _⟩ => ⟨S1x1x1024x2816, .f32⟩
  | .hbm, ⟨9, _⟩ => ⟨S1024x2816, .f32⟩
  | .hbm, ⟨10, _⟩ => ⟨S1x1x1024x2816, .f32⟩
  | .hbm, ⟨11, _⟩ => ⟨S1024x2816, .f32⟩
  | .hbm, ⟨12, _⟩ => ⟨S1x1x2816x1024, .f32⟩
  | .hbm, ⟨13, _⟩ => ⟨S2816x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S_, .f32⟩
  | .hbm, ⟨38, _⟩ => ⟨S8192x2816, .f32⟩
  | .hbm, ⟨39, _⟩ => ⟨S8192x2816, .f32⟩
  | .hbm, ⟨40, _⟩ => ⟨S_, .f32⟩
  | .hbm, ⟨41, _⟩ => ⟨S8192x2816, .f32⟩
  | .hbm, ⟨42, _⟩ => ⟨S8192x2816, .f32⟩
  | .hbm, ⟨43, _⟩ => ⟨S_, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x1024, .f32⟩
  | .hbm, ⟨51, _⟩ => ⟨S_, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192x1024, .f32⟩
  | .hbm, ⟨58, _⟩ => ⟨S8192x1024, .f32⟩
  | .hbm, ⟨59, _⟩ => ⟨S1024x2816, .f32⟩
  | .hbm, ⟨60, _⟩ => ⟨S2816x1024, .f32⟩
  | .hbm, ⟨61, _⟩ => ⟨S8192x2816, .f32⟩
  | .hbm, ⟨62, _⟩ => ⟨S8192x2816, .f32⟩
  | .hbm, ⟨63, _⟩ => ⟨S8192x2816, .f32⟩
  | .hbm, ⟨64, _⟩ => ⟨S2816x1024, .f32⟩
  | .hbm, ⟨65, _⟩ => ⟨S1024x2816, .f32⟩
  | .hbm, ⟨66, _⟩ => ⟨S8192x1024, .f32⟩
  | .hbm, ⟨67, _⟩ => ⟨S8192x2816, .f32⟩
  | .hbm, ⟨68, _⟩ => ⟨S8192x2816, .f32⟩
  | .hbm, ⟨69, _⟩ => ⟨S8192x2816, .f32⟩
  | .hbm, ⟨70, _⟩ => ⟨S8192x2816, .f32⟩
  | .hbm, ⟨71, _⟩ => ⟨S2816x1024, .f32⟩
  | .hbm, ⟨72, _⟩ => ⟨S1024x2816, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S8192x1024, .f32⟩
  | .hbm, ⟨80, _⟩ => ⟨S8192x1024, .f32⟩
  | .hbm, ⟨81, _⟩ => ⟨S_, .f32⟩
  | .hbm, ⟨82, _⟩ => ⟨S1024, .f32⟩
  | .hbm, ⟨83, _⟩ => ⟨S8192x1024, .f32⟩
  | .hbm, ⟨84, _⟩ => ⟨S_, .f32⟩
  | .hbm, ⟨85, _⟩ => ⟨S8192, .f32⟩
  | .hbm, ⟨86, _⟩ => ⟨S8192x1, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x1, .f32⟩
  | .hbm, ⟨91, _⟩ => ⟨S_, .f32⟩
  | .hbm, ⟨92, _⟩ => ⟨S8192x1, .f32⟩
  | .hbm, ⟨93, _⟩ => ⟨S8192x1, .f32⟩
  | .hbm, ⟨94, _⟩ => ⟨S_, .f32⟩
  | .hbm, ⟨95, _⟩ => ⟨S8192, .f32⟩
  | .hbm, ⟨96, _⟩ => ⟨S8192x1024, .f32⟩
  | .hbm, ⟨97, _⟩ => ⟨S8192x1024, .f32⟩
  | .hbm, ⟨98, _⟩ => ⟨S8192x1024, .f32⟩
  | .hbm, ⟨99, _⟩ => ⟨S8192x1024, .f32⟩
  | .hbm, ⟨100, _⟩ => ⟨S8192x1024, .f32⟩
  | .hbm, ⟨101, _⟩ => ⟨S1x1024, .f32⟩
  | .hbm, ⟨102, _⟩ => ⟨S1024x4x704, .f32⟩
  | .hbm, ⟨103, _⟩ => ⟨S4x1024x704, .f32⟩
  | .hbm, ⟨104, _⟩ => ⟨S1024x4x704, .f32⟩
  | .hbm, ⟨105, _⟩ => ⟨S4x1024x704, .f32⟩
  | .hbm, ⟨106, _⟩ => ⟨S4x704x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_v25_2 : Ref sig .tc := ⟨.hbm, 42, rfl⟩
abbrev main_call0_cst_1 : Ref sig .tc := ⟨.hbm, 43, rfl⟩
abbrev main_call0_v6 : Ref sig .tc := ⟨.hbm, 44, rfl⟩
abbrev main_call0_v7 : Ref sig .tc := ⟨.hbm, 45, rfl⟩
abbrev main_v25_1 : Ref sig .tc := ⟨.hbm, 46, rfl⟩
abbrev main_v25_0 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_3 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_4 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_5 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_6 : Ref sig .tc := ⟨.hbm, 81, rfl⟩
abbrev main_v53 : Ref sig .tc := ⟨.hbm, 82, rfl⟩
abbrev main_v54 : Ref sig .tc := ⟨.hbm, 83, rfl⟩
abbrev main_cst_7 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_8 : Ref sig .tc := ⟨.hbm, 91, rfl⟩
abbrev main_v61 : Ref sig .tc := ⟨.hbm, 92, rfl⟩
abbrev main_v62 : Ref sig .tc := ⟨.hbm, 93, rfl⟩
abbrev main_cst_9 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩

abbrev nD : Nat := 1
abbrev τ : Topo := Topo.v7x

variable {F : FTy → Type} [FloatOps F]
-- ==== KernelLoss.lean ====
abbrev S8192x1024 : Shape := ⟨2, ![8192, 1024]⟩
abbrev S1024 : Shape := ⟨1, ![1024]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 7
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S1x1024, .f32⟩
  | .hbm, ⟨4, _⟩ => ⟨S8x128, .f32⟩
  | .hbm, ⟨5, _⟩ => ⟨S8192x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S8x128, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceLossIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8x128 : Shape := ⟨2, ![8, 128]⟩

abbrev nBuf : Space → Nat
  | .hbm => 73
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8x128, .f32⟩
  | .hbm, ⟨72, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== KernelOut.lean ====
abbrev S8192x1024 : Shape := ⟨2, ![8192, 1024]⟩
abbrev S1x1024x1024 : Shape := ⟨3, ![1, 1024, 1024]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x1024x1024, .f32⟩
  | .hbm, ⟨2, _⟩ => ⟨S8192x1024, .f32⟩
  | .hbm, ⟨3, _⟩ => ⟨S8192x1024, .bf16⟩
  | .hbm, ⟨4, _⟩ => ⟨S1024x1024, .f32⟩
  | .hbm, ⟨5, _⟩ => ⟨S1024x1024, .bf16⟩
  | .hbm, ⟨6, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceOutIdeal.lean ====
abbrev S8192x1024 : Shape := ⟨2, ![8192, 1024]⟩
abbrev S1x1024x1024 : Shape := ⟨3, ![1, 1024, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024x1024, .f32⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelNt.lean ====
abbrev S8192x1024 : Shape := ⟨2, ![8192, 1024]⟩
abbrev S1x1024x1024 : Shape := ⟨3, ![1, 1024, 1024]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x1024x1024, .f32⟩
  | .hbm, ⟨2, _⟩ => ⟨S8192x1024, .f32⟩
  | .hbm, ⟨3, _⟩ => ⟨S1024x1024, .f32⟩
  | .hbm, ⟨4, _⟩ => ⟨S1024x1024, .bf16⟩
  | .hbm, ⟨5, _⟩ => ⟨S1024x1024, .bf16⟩
  | .hbm, ⟨6, _⟩ => ⟨S8192x1024, .f32⟩
  | .hbm, ⟨7, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .bf16⟩
  | .local _ .vmem, ⟨6, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceNtIdeal.lean ====
abbrev S8192x1024 : Shape := ⟨2, ![8192, 1024]⟩
abbrev S1x1024x1024 : Shape := ⟨3, ![1, 1024, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024x1024, .f32⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelDw.lean ====
abbrev S8192x1024 : Shape := ⟨2, ![8192, 1024]⟩
abbrev S4x1024 : Shape := ⟨2, ![4, 1024]⟩
abbrev S1x1024x4096 : Shape := ⟨3, ![1, 1024, 4096]⟩
abbrev S8192x4096 : Shape := ⟨2, ![8192, 4096]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 25
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S4x1024, .f32⟩
  | .hbm, ⟨2, _⟩ => ⟨S1x1024x4096, .f32⟩
  | .hbm, ⟨3, _⟩ => ⟨S8192x4096, .f32⟩
  | .hbm, ⟨4, _⟩ => ⟨S1x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x1024, .bf16⟩
  | .hbm, ⟨23, _⟩ => ⟨S8192x4096, .bf16⟩
  | .hbm, ⟨24, _⟩ => ⟨S4x1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  ![arg1.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceDwIdeal.lean ====
abbrev S8192x1024 : Shape := ⟨2, ![8192, 1024]⟩
abbrev S4x1024 : Shape := ⟨2, ![4, 1024]⟩
abbrev S1x1024x4096 : Shape := ⟨3, ![1, 1024, 4096]⟩
abbrev S8192x4096 : Shape := ⟨2, ![8192, 4096]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x1024, .f32⟩
  | .hbm, ⟨2, _⟩ => ⟨S1x1024x4096, .f32⟩
  | .hbm, ⟨3, _⟩ => ⟨S8192x4096, .f32⟩
  | .hbm, ⟨4, _⟩ => ⟨S1x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S1024x4096, .f32⟩
  | .hbm, ⟨23, _⟩ => ⟨S8192x4096, .f32⟩
  | .hbm, ⟨24, _⟩ => ⟨S4096x1024, .f32⟩
  | .hbm, ⟨25, _⟩ => ⟨S1024x4096, .f32⟩
  | .hbm, ⟨26, _⟩ => ⟨S1x1024x4096, .f32⟩
  | .hbm, ⟨27, _⟩ => ⟨S1024x4x1024, .f32⟩
  | .hbm, ⟨28, _⟩ => ⟨S4x1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== KernelWo.lean ====
abbrev S8192x1024 : Shape := ⟨2, ![8192, 1024]⟩
abbrev S1x1024x1024 : Shape := ⟨3, ![1, 1024, 1024]⟩
abbrev S4x256x1024 : Shape := ⟨3, ![4, 256, 1024]⟩
abbrev S2048x256 : Shape := ⟨2, ![2048, 256]⟩
abbrev S2048x1024 : Shape := ⟨2, ![2048, 1024]⟩
abbrev S1x256x1024 : Shape := ⟨3, ![1, 256, 1024]⟩
abbrev S256x1024 : Shape := ⟨2, ![256, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1x1024x1024, .f32⟩
  | .hbm, ⟨2, _⟩ => ⟨S8192x1024, .f32⟩
  | .hbm, ⟨3, _⟩ => ⟨S8192x1024, .bf16⟩
  | .hbm, ⟨4, _⟩ => ⟨S8192x1024, .bf16⟩
  | .hbm, ⟨5, _⟩ => ⟨S4x256x1024, .f32⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S1x256x1024, .f32⟩
  | .local _ .vmem, ⟨5, _⟩ => ⟨S1x256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceWoIdeal.lean ====
abbrev S8192x1024 : Shape := ⟨2, ![8192, 1024]⟩
abbrev S1x1024x1024 : Shape := ⟨3, ![1, 1024, 1024]⟩
abbrev S1024x1024 : Shape := ⟨2, ![1024, 1024]⟩
abbrev S4x256x1024 : Shape := ⟨3, ![4, 256, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024x1024, .f32⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S1x1024x1024, .f32⟩
  | .hbm, ⟨8, _⟩ => ⟨S4x256x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelCw.lean ====
abbrev S8192x1024 : Shape := ⟨2, ![8192, 1024]⟩
abbrev S4x1024 : Shape := ⟨2, ![4, 1024]⟩
abbrev S1x1024x2048 : Shape := ⟨3, ![1, 1024, 2048]⟩
abbrev S8192x2048 : Shape := ⟨2, ![8192, 2048]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S4x1024x512 : Shape := ⟨3, ![4, 1024, 512]⟩
abbrev S2048x1024 : Shape := ⟨2, ![2048, 1024]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 25
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S4x1024, .f32⟩
  | .hbm, ⟨2, _⟩ => ⟨S1x1024x2048, .f32⟩
  | .hbm, ⟨3, _⟩ => ⟨S8192x2048, .f32⟩
  | .hbm, ⟨4, _⟩ => ⟨S1x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x1024, .bf16⟩
  | .hbm, ⟨23, _⟩ => ⟨S8192x2048, .bf16⟩
  | .hbm, ⟨24, _⟩ => ⟨S4x1024x512, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1x1024x512, .f32⟩
  | .local _ .vmem, ⟨5, _⟩ => ⟨S1x1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  ![arg1.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceCwIdeal.lean ====
abbrev S8192x1024 : Shape := ⟨2, ![8192, 1024]⟩
abbrev S4x1024 : Shape := ⟨2, ![4, 1024]⟩
abbrev S1x1024x2048 : Shape := ⟨3, ![1, 1024, 2048]⟩
abbrev S8192x2048 : Shape := ⟨2, ![8192, 2048]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x2048 : Shape := ⟨2, ![1024, 2048]⟩
abbrev S2048x1024 : Shape := ⟨2, ![2048, 1024]⟩
abbrev S1024x4x512 : Shape := ⟨3, ![1024, 4, 512]⟩
abbrev S4x1024x512 : Shape := ⟨3, ![4, 1024, 512]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x1024, .f32⟩
  | .hbm, ⟨2, _⟩ => ⟨S1x1024x2048, .f32⟩
  | .hbm, ⟨3, _⟩ => ⟨S8192x2048, .f32⟩
  | .hbm, ⟨4, _⟩ => ⟨S1x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S1024x2048, .f32⟩
  | .hbm, ⟨23, _⟩ => ⟨S8192x2048, .f32⟩
  | .hbm, ⟨24, _⟩ => ⟨S2048x1024, .f32⟩
  | .hbm, ⟨25, _⟩ => ⟨S1024x2048, .f32⟩
  | .hbm, ⟨26, _⟩ => ⟨S1x1024x2048, .f32⟩
  | .hbm, ⟨27, _⟩ => ⟨S1024x4x512, .f32⟩
  | .hbm, ⟨28, _⟩ => ⟨S4x1024x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== KernelFw.lean ====
abbrev S8192x1024 : Shape := ⟨2, ![8192, 1024]⟩
abbrev S4x1024 : Shape := ⟨2, ![4, 1024]⟩
abbrev S1x1024x3200 : Shape := ⟨3, ![1, 1024, 3200]⟩
abbrev S8192x3200 : Shape := ⟨2, ![8192, 3200]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S5x1024x640 : Shape := ⟨3, ![5, 1024, 640]⟩
abbrev S2048x1024 : Shape := ⟨2, ![2048, 1024]⟩
abbrev S2048x640 : Shape := ⟨2, ![2048, 640]⟩
abbrev S1x1024x640 : Shape := ⟨3, ![1, 1024, 640]⟩
abbrev S1024x640 : Shape := ⟨2, ![1024, 640]⟩

abbrev nBuf : Space → Nat
  | .hbm => 25
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S4x1024, .f32⟩
  | .hbm, ⟨2, _⟩ => ⟨S1x1024x3200, .f32⟩
  | .hbm, ⟨3, _⟩ => ⟨S8192x3200, .f32⟩
  | .hbm, ⟨4, _⟩ => ⟨S1x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x1024, .bf16⟩
  | .hbm, ⟨23, _⟩ => ⟨S8192x3200, .bf16⟩
  | .hbm, ⟨24, _⟩ => ⟨S5x1024x640, .f32⟩
  | .local _ .vmem, ⟨0, _⟩ => ⟨S2048x1024, .bf16⟩
  | .local _ .vmem, ⟨1, _⟩ => ⟨S2048x1024, .bf16⟩
  | .local _ .vmem, ⟨2, _⟩ => ⟨S2048x640, .bf16⟩
  | .local _ .vmem, ⟨3, _⟩ => ⟨S2048x640, .bf16⟩
  | .local _ .vmem, ⟨4, _⟩ => ⟨S1x1024x640, .f32⟩
  | .local _ .vmem, ⟨5, _⟩ => ⟨S1x1024x640, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  ![arg1.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceFwIdeal.lean ====
abbrev S8192x1024 : Shape := ⟨2, ![8192, 1024]⟩
abbrev S4x1024 : Shape := ⟨2, ![4, 1024]⟩
abbrev S1x1024x3200 : Shape := ⟨3, ![1, 1024, 3200]⟩
abbrev S8192x3200 : Shape := ⟨2, ![8192, 3200]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x3200 : Shape := ⟨2, ![1024, 3200]⟩
abbrev S3200x1024 : Shape := ⟨2, ![3200, 1024]⟩
abbrev S1024x5x640 : Shape := ⟨3, ![1024, 5, 640]⟩
abbrev S5x1024x640 : Shape := ⟨3, ![5, 1024, 640]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x1024, .f32⟩
  | .hbm, ⟨2, _⟩ => ⟨S1x1024x3200, .f32⟩
  | .hbm, ⟨3, _⟩ => ⟨S8192x3200, .f32⟩
  | .hbm, ⟨4, _⟩ => ⟨S1x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S1024x3200, .f32⟩
  | .hbm, ⟨23, _⟩ => ⟨S8192x3200, .f32⟩
  | .hbm, ⟨24, _⟩ => ⟨S3200x1024, .f32⟩
  | .hbm, ⟨25, _⟩ => ⟨S1024x3200, .f32⟩
  | .hbm, ⟨26, _⟩ => ⟨S1x1024x3200, .f32⟩
  | .hbm, ⟨27, _⟩ => ⟨S1024x5x640, .f32⟩
  | .hbm, ⟨28, _⟩ => ⟨S5x1024x640, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Proof.Finite.lean ====
/- What the precondition says of the arguments: every element of each of the six arrays is a real number. -/
module

public import proofs.«01_k».proof.Defs
public import Idealize.ShloMosaic.Lib.ReduceAll
public import Idealize.ShloMosaic.Lib.Pointwise

@[expose] public section

noncomputable section

namespace Cert.HalfFFN.Finite

open Idealize.ShloMosaic Cert.Pre_all_finite

/-- The side conditions of the precondition's operations hold. -/
theorem facts : Cert.Pre_all_finite.Facts where
  bcast_S_S8192x1024 := by decide
  reducesTo_S8192x1024_S_d0_1 := by decide
  h_S_ := by decide
  bcast_S_S4x2x1024 := by decide
  reducesTo_S4x2x1024_S_d0_1_2 := by decide
  bcast_S_S4x2x1024x2816 := by decide
  reducesTo_S4x2x1024x2816_S_d0_1_2_3 := by decide
  bcast_S_S4x2x2816x1024 := by decide
  reducesTo_S4x2x2816x1024_S_d0_1_2_3 := by decide

/-- The f32 pattern of infinity is the top element. -/
theorem inf_bits : Ideal.ofBits FTy.f32 0x7F800000#32 = ⊤ := by simp [Ideal.ofBits, Ideal.ieee]

/-- An extended real whose absolute value lies below the top is a real number. -/
theorem real_of_abs_lt (x : EReal) (h : max x (-x) < ⊤) : ∃ a : ℝ, x = (a : EReal) := by
  induction x using EReal.rec with
  | bot => simp at h
  | top => simp at h
  | coe a => exact ⟨a, rfl⟩

instance : Subsingleton S_.Idx := ⟨fun a b => funext fun d => d.elim0⟩

/-- An array that the comparison found below infinity everywhere holds real numbers only. -/
theorem real_of_all {s : Shape} {axes : List (Fin s.rank)} (x : FVec Ideal s .f32) (hb : S_.BroadcastsInDim s (![] : Fin 0 → Fin s.rank))
    (hr : s.ReducesTo axes S_) (hu : 0 < S_.numel)
    (e : Host.reduce IntOp.andi (cmpf .olt (Host.absf x) (broadcastInDim s ![] hb (constant (F := Ideal) S_ .f32 0x7F800000#32)))
      (constantI S_ 1 1#1) hr hu (fun d => d.elim0) = 1#1) (i : s.Idx) : ∃ a : ℝ, (x i : EReal) = (a : EReal) := by
  have h := Host.reduce_andi_all _ _ hr hu _ e i
  apply real_of_abs_lt
  have h' : Ideal.cmp .olt (max (x i) (-(x i))) (Ideal.ofBits FTy.f32 0x7F800000#32) = 1#1 := h
  rw [inf_bits] at h'
  by_contra hn
  have h0 : Ideal.cmp .olt (max (x i) (-(x i))) ⊤ = BitVec.ofBool (decide ((max (x i) (-(x i)) : EReal) < ⊤)) := rfl
  rw [h0, decide_eq_false hn] at h'
  exact absurd h' (by decide)

/-- Every element of an array is a real number. -/
def AllReal {s : Shape} (x : FVec Ideal s .f32) : Prop := ∀ i : s.Idx, ∃ a : ℝ, (x i : EReal) = (a : EReal)

/-- The precondition, read. -/
theorem all_real [Facts] (x0 : FVec Ideal S8192x1024 .f32) (x1 : FVec Ideal S4x2x1024 .f32) (x2 x3 : FVec Ideal S4x2x1024x2816 .f32)
    (x4 : FVec Ideal S4x2x2816x1024 .f32) (x5 : FVec Ideal S8192x1024 .f32) (h : fn (F := Ideal) x0 x1 x2 x3 x4 x5 = fun _ => 1#1) :
    AllReal x0 ∧ AllReal x1 ∧ AllReal x2 ∧ AllReal x3 ∧ AllReal x4 ∧ AllReal x5 := by
  have h := congrFun h (fun d => d.elim0)
  have a5 := IntOp.andi_eq_one.1 h
  have a4 := IntOp.andi_eq_one.1 a5.1
  have a3 := IntOp.andi_eq_one.1 a4.1
  have a2 := IntOp.andi_eq_one.1 a3.1
  have a1 := IntOp.andi_eq_one.1 a2.1
  exact ⟨real_of_all x0 _ _ _ a1.1, real_of_all x1 _ _ _ a1.2, real_of_all x2 _ _ _ a2.2, real_of_all x3 _ _ _ a3.2,
    real_of_all x4 _ _ _ a4.2, real_of_all x5 _ _ _ a5.2⟩

end Cert.HalfFFN.Finite

end
-- ==== Proof.LayerWindows.lean ====
/- The text of one half layer's program with the half layer left open: the same four calls, the same host lines, and
   the number of the half layer (0 to 7) wherever the printed program has a number. Each printed program is this text at
   its own number. -/
module

public import proofs.«01_k».proof.Proof.Gen.KernelIdeal
public import Idealize.ShloMosaic.Lib.Affine
public import Idealize.ShloMosaic.Lib.Decide
public import Idealize.ShloMosaic.Lib.Exec

@[expose] public section

noncomputable section

namespace Cert.HalfFFN

open Cert.KernelIdeal Cert.KernelIdeal.Gen
open Idealize.ShloMosaic Idealize.ShloMosaic.TcCoe
open Idealize.SL Idealize.SL.Sem

/-- Which of the eight half layers: layer `e / 2`, half `e % 2`. -/
class Half where
  /-- Its number. -/
  e : Fin 8

variable {F : FTy → Type} [FloatOps F] [Half]

/-! ## The windows that address one half layer -/

/-- The block of call 0's window 2: the column shard of the grid point, of this half layer. -/
def cc0_transform_2 (i : grid0.Coords) : Fin 4 → Nat := ![(BitVec.ofNat 32 (i 1).val).toNat, Half.e.val, (0#32).toNat, (0#32).toNat]
theorem hreads0_2 : ∀ i i' : grid0.Coords, (∀ a, reads0_2 a = true → i a = i' a) → cc0_transform_2 i = cc0_transform_2 i' := fun i i' h => by unfold cc0_transform_2; rw [h 1 rfl]
theorem hinb0_2 : ∀ (i : grid0.Coords) a, (cc0_transform_2 i a + 1) * S1x1x1024x704.size a ≤ S4x8x1024x704.size a :=
  (by decide +kernel : ∀ e : Fin 8, ∀ (i : grid0.Coords) a, ((![(BitVec.ofNat 32 (i 1).val).toNat, e.val, (0#32).toNat, (0#32).toNat] : Fin 4 → Nat) a + 1) * S1x1x1024x704.size a ≤ S4x8x1024x704.size a) Half.e
theorem hwx0_2 : ∀ i : grid0.Coords, EltTy.bits .bf16 = 32 ∨ (Rect.block (s := S4x8x1024x704) S1x1x1024x704.size (cc0_transform_2 i) (hinb0_2 i)).WholeWords (EltTy.packing .bf16) := fun _ => .inr (Affine.block_words_dvd (of_decide_eq_true rfl) (by decide))
/-- Window 2. -/
abbrev win0_2 : Pipeline.Window sig grid0 :=
  Pipeline.Window.ofSpec (Memref.whole main_v2) S1x1x1024x704.size cc0_transform_2 reads0_2 false false 2 stage0_2 sem0_2
    hrank0 hreads0_2 hinb0_2 nbuf0_2 (Memref.isWhole_whole _) hwx0_2 hstage0_2

/-- The block of call 0's window 3: the column shard of the grid point, of this half layer. -/
def cc0_transform_3 (i : grid0.Coords) : Fin 4 → Nat := ![(BitVec.ofNat 32 (i 1).val).toNat, Half.e.val, (0#32).toNat, (0#32).toNat]
theorem hreads0_3 : ∀ i i' : grid0.Coords, (∀ a, reads0_3 a = true → i a = i' a) → cc0_transform_3 i = cc0_transform_3 i' := fun i i' h => by unfold cc0_transform_3; rw [h 1 rfl]
theorem hinb0_3 : ∀ (i : grid0.Coords) a, (cc0_transform_3 i a + 1) * S1x1x1024x704.size a ≤ S4x8x1024x704.size a :=
  (by decide +kernel : ∀ e : Fin 8, ∀ (i : grid0.Coords) a, ((![(BitVec.ofNat 32 (i 1).val).toNat, e.val, (0#32).toNat, (0#32).toNat] : Fin 4 → Nat) a + 1) * S1x1x1024x704.size a ≤ S4x8x1024x704.size a) Half.e
theorem hwx0_3 : ∀ i : grid0.Coords, EltTy.bits .bf16 = 32 ∨ (Rect.block (s := S4x8x1024x704) S1x1x1024x704.size (cc0_transform_3 i) (hinb0_3 i)).WholeWords (EltTy.packing .bf16) := fun _ => .inr (Affine.block_words_dvd (of_decide_eq_true rfl) (by decide))
/-- Window 3. -/
abbrev win0_3 : Pipeline.Window sig grid0 :=
  Pipeline.Window.ofSpec (Memref.whole main_v5) S1x1x1024x704.size cc0_transform_3 reads0_3 false false 2 stage0_3 sem0_3
    hrank0 hreads0_3 hinb0_3 nbuf0_3 (Memref.isWhole_whole _) hwx0_3 hstage0_3

/-- The block of call 0's window 4: the column shard of the grid point, of this half layer. -/
def cc0_transform_4 (i : grid0.Coords) : Fin 4 → Nat := ![(BitVec.ofNat 32 (i 1).val).toNat, Half.e.val, (0#32).toNat, (0#32).toNat]
theorem hreads0_4 : ∀ i i' : grid0.Coords, (∀ a, reads0_4 a = true → i a = i' a) → cc0_transform_4 i = cc0_transform_4 i' := fun i i' h => by unfold cc0_transform_4; rw [h 1 rfl]
theorem hinb0_4 : ∀ (i : grid0.Coords) a, (cc0_transform_4 i a + 1) * S1x1x704x1024.size a ≤ S4x8x704x1024.size a :=
  (by decide +kernel : ∀ e : Fin 8, ∀ (i : grid0.Coords) a, ((![(BitVec.ofNat 32 (i 1).val).toNat, e.val, (0#32).toNat, (0#32).toNat] : Fin 4 → Nat) a + 1) * S1x1x704x1024.size a ≤ S4x8x704x1024.size a) Half.e
theorem hwx0_4 : ∀ i : grid0.Coords, EltTy.bits .bf16 = 32 ∨ (Rect.block (s := S4x8x704x1024) S1x1x704x1024.size (cc0_transform_4 i) (hinb0_4 i)).WholeWords (EltTy.packing .bf16) := fun _ => .inr (Affine.block_words_dvd (of_decide_eq_true rfl) (by decide))
/-- Window 4. -/
abbrev win0_4 : Pipeline.Window sig grid0 :=
  Pipeline.Window.ofSpec (Memref.whole main_v8) S1x1x704x1024.size cc0_transform_4 reads0_4 false false 2 stage0_4 sem0_4
    hrank0 hreads0_4 hinb0_4 nbuf0_4 (Memref.isWhole_whole _) hwx0_4 hstage0_4

/-- The block of call 1's window 5: the column shard of the grid point, of this half layer. -/
def cc1_transform_5 (i : grid1.Coords) : Fin 4 → Nat := ![(BitVec.ofNat 32 (i 1).val).toNat, Half.e.val, (0#32).toNat, (0#32).toNat]
theorem hreads1_5 : ∀ i i' : grid1.Coords, (∀ a, reads1_5 a = true → i a = i' a) → cc1_transform_5 i = cc1_transform_5 i' := fun i i' h => by unfold cc1_transform_5; rw [h 1 rfl]
theorem hinb1_5 : ∀ (i : grid1.Coords) a, (cc1_transform_5 i a + 1) * S1x1x1024x704.size a ≤ S4x8x1024x704.size a :=
  (by decide +kernel : ∀ e : Fin 8, ∀ (i : grid1.Coords) a, ((![(BitVec.ofNat 32 (i 1).val).toNat, e.val, (0#32).toNat, (0#32).toNat] : Fin 4 → Nat) a + 1) * S1x1x1024x704.size a ≤ S4x8x1024x704.size a) Half.e
theorem hwx1_5 : ∀ i : grid1.Coords, EltTy.bits .bf16 = 32 ∨ (Rect.block (s := S4x8x1024x704) S1x1x1024x704.size (cc1_transform_5 i) (hinb1_5 i)).WholeWords (EltTy.packing .bf16) := fun _ => .inr (Affine.block_words_dvd (of_decide_eq_true rfl) (by decide))
/-- Window 5. -/
abbrev win1_5 : Pipeline.Window sig grid1 :=
  Pipeline.Window.ofSpec (Memref.whole main_v2) S1x1x1024x704.size cc1_transform_5 reads1_5 false false 2 stage1_5 sem1_5
    hrank1 hreads1_5 hinb1_5 nbuf1_5 (Memref.isWhole_whole _) hwx1_5 hstage1_5

/-- The block of call 1's window 6: the column shard of the grid point, of this half layer. -/
def cc1_transform_6 (i : grid1.Coords) : Fin 4 → Nat := ![(BitVec.ofNat 32 (i 1).val).toNat, Half.e.val, (0#32).toNat, (0#32).toNat]
theorem hreads1_6 : ∀ i i' : grid1.Coords, (∀ a, reads1_6 a = true → i a = i' a) → cc1_transform_6 i = cc1_transform_6 i' := fun i i' h => by unfold cc1_transform_6; rw [h 1 rfl]
theorem hinb1_6 : ∀ (i : grid1.Coords) a, (cc1_transform_6 i a + 1) * S1x1x1024x704.size a ≤ S4x8x1024x704.size a :=
  (by decide +kernel : ∀ e : Fin 8, ∀ (i : grid1.Coords) a, ((![(BitVec.ofNat 32 (i 1).val).toNat, e.val, (0#32).toNat, (0#32).toNat] : Fin 4 → Nat) a + 1) * S1x1x1024x704.size a ≤ S4x8x1024x704.size a) Half.e
theorem hwx1_6 : ∀ i : grid1.Coords, EltTy.bits .bf16 = 32 ∨ (Rect.block (s := S4x8x1024x704) S1x1x1024x704.size (cc1_transform_6 i) (hinb1_6 i)).WholeWords (EltTy.packing .bf16) := fun _ => .inr (Affine.block_words_dvd (of_decide_eq_true rfl) (by decide))
/-- Window 6. -/
abbrev win1_6 : Pipeline.Window sig grid1 :=
  Pipeline.Window.ofSpec (Memref.whole main_v5) S1x1x1024x704.size cc1_transform_6 reads1_6 false false 2 stage1_6 sem1_6
    hrank1 hreads1_6 hinb1_6 nbuf1_6 (Memref.isWhole_whole _) hwx1_6 hstage1_6

/-- The block of call 1's window 7: the column shard of the grid point, of this half layer. -/
def cc1_transform_7 (i : grid1.Coords) : Fin 4 → Nat := ![(BitVec.ofNat 32 (i 1).val).toNat, Half.e.val, (0#32).toNat, (0#32).toNat]
theorem hreads1_7 : ∀ i i' : grid1.Coords, (∀ a, reads1_7 a = true → i a = i' a) → cc1_transform_7 i = cc1_transform_7 i' := fun i i' h => by unfold cc1_transform_7; rw [h 1 rfl]
theorem hinb1_7 : ∀ (i : grid1.Coords) a, (cc1_transform_7 i a + 1) * S1x1x704x1024.size a ≤ S4x8x704x1024.size a :=
  (by decide +kernel : ∀ e : Fin 8, ∀ (i : grid1.Coords) a, ((![(BitVec.ofNat 32 (i 1).val).toNat, e.val, (0#32).toNat, (0#32).toNat] : Fin 4 → Nat) a + 1) * S1x1x704x1024.size a ≤ S4x8x704x1024.size a) Half.e
theorem hwx1_7 : ∀ i : grid1.Coords, EltTy.bits .bf16 = 32 ∨ (Rect.block (s := S4x8x704x1024) S1x1x704x1024.size (cc1_transform_7 i) (hinb1_7 i)).WholeWords (EltTy.packing .bf16) := fun _ => .inr (Affine.block_words_dvd (of_decide_eq_true rfl) (by decide))
/-- Window 7. -/
abbrev win1_7 : Pipeline.Window sig grid1 :=
  Pipeline.Window.ofSpec (Memref.whole main_v8) S1x1x704x1024.size cc1_transform_7 reads1_7 false false 2 stage1_7 sem1_7
    hrank1 hreads1_7 hinb1_7 nbuf1_7 (Memref.isWhole_whole _) hwx1_7 hstage1_7

/-- The block of call 2's window 3: the column shard of the grid point, of this half layer. -/
def cc2_transform_3 (i : grid2.Coords) : Fin 4 → Nat := ![(BitVec.ofNat 32 (i 0).val).toNat, Half.e.val, (0#32).toNat, (0#32).toNat]
theorem hreads2_3 : ∀ i i' : grid2.Coords, (∀ a, reads2_3 a = true → i a = i' a) → cc2_transform_3 i = cc2_transform_3 i' := fun i i' h => by unfold cc2_transform_3; rw [h 0 rfl]
theorem hinb2_3 : ∀ (i : grid2.Coords) a, (cc2_transform_3 i a + 1) * S1x1x1024x704.size a ≤ S4x8x1024x704.size a :=
  (by decide +kernel : ∀ e : Fin 8, ∀ (i : grid2.Coords) a, ((![(BitVec.ofNat 32 (i 0).val).toNat, e.val, (0#32).toNat, (0#32).toNat] : Fin 4 → Nat) a + 1) * S1x1x1024x704.size a ≤ S4x8x1024x704.size a) Half.e
theorem hwx2_3 : ∀ i : grid2.Coords, EltTy.bits .f32 = 32 ∨ (Rect.block (s := S4x8x1024x704) S1x1x1024x704.size (cc2_transform_3 i) (hinb2_3 i)).WholeWords (EltTy.packing .f32) := fun _ => .inl rfl
/-- Window 3. -/
abbrev win2_3 : Pipeline.Window sig grid2 :=
  Pipeline.Window.ofSpec (Memref.whole main_v13_0) S1x1x1024x704.size cc2_transform_3 reads2_3 true false 2 stage2_3 sem2_3
    hrank2 hreads2_3 hinb2_3 nbuf2_3 (Memref.isWhole_whole _) hwx2_3 hstage2_3

/-- The block of call 2's window 4: the column shard of the grid point, of this half layer. -/
def cc2_transform_4 (i : grid2.Coords) : Fin 4 → Nat := ![(BitVec.ofNat 32 (i 0).val).toNat, Half.e.val, (0#32).toNat, (0#32).toNat]
theorem hreads2_4 : ∀ i i' : grid2.Coords, (∀ a, reads2_4 a = true → i a = i' a) → cc2_transform_4 i = cc2_transform_4 i' := fun i i' h => by unfold cc2_transform_4; rw [h 0 rfl]
theorem hinb2_4 : ∀ (i : grid2.Coords) a, (cc2_transform_4 i a + 1) * S1x1x1024x704.size a ≤ S4x8x1024x704.size a :=
  (by decide +kernel : ∀ e : Fin 8, ∀ (i : grid2.Coords) a, ((![(BitVec.ofNat 32 (i 0).val).toNat, e.val, (0#32).toNat, (0#32).toNat] : Fin 4 → Nat) a + 1) * S1x1x1024x704.size a ≤ S4x8x1024x704.size a) Half.e
theorem hwx2_4 : ∀ i : grid2.Coords, EltTy.bits .f32 = 32 ∨ (Rect.block (s := S4x8x1024x704) S1x1x1024x704.size (cc2_transform_4 i) (hinb2_4 i)).WholeWords (EltTy.packing .f32) := fun _ => .inl rfl
/-- Window 4. -/
abbrev win2_4 : Pipeline.Window sig grid2 :=
  Pipeline.Window.ofSpec (Memref.whole main_v13_1) S1x1x1024x704.size cc2_transform_4 reads2_4 true false 2 stage2_4 sem2_4
    hrank2 hreads2_4 hinb2_4 nbuf2_4 (Memref.isWhole_whole _) hwx2_4 hstage2_4

/-- The block of call 3's window 2: the column shard of the grid point, of this half layer. -/
def cc3_transform_2 (i : grid3.Coords) : Fin 4 → Nat := ![(BitVec.ofNat 32 (i 0).val).toNat, Half.e.val, (0#32).toNat, (0#32).toNat]
theorem hreads3_2 : ∀ i i' : grid3.Coords, (∀ a, reads3_2 a = true → i a = i' a) → cc3_transform_2 i = cc3_transform_2 i' := fun i i' h => by unfold cc3_transform_2; rw [h 0 rfl]
theorem hinb3_2 : ∀ (i : grid3.Coords) a, (cc3_transform_2 i a + 1) * S1x1x704x1024.size a ≤ S4x8x704x1024.size a :=
  (by decide +kernel : ∀ e : Fin 8, ∀ (i : grid3.Coords) a, ((![(BitVec.ofNat 32 (i 0).val).toNat, e.val, (0#32).toNat, (0#32).toNat] : Fin 4 → Nat) a + 1) * S1x1x704x1024.size a ≤ S4x8x704x1024.size a) Half.e
theorem hwx3_2 : ∀ i : grid3.Coords, EltTy.bits .f32 = 32 ∨ (Rect.block (s := S4x8x704x1024) S1x1x704x1024.size (cc3_transform_2 i) (hinb3_2 i)).WholeWords (EltTy.packing .f32) := fun _ => .inl rfl
/-- Window 2. -/
abbrev win3_2 : Pipeline.Window sig grid3 :=
  Pipeline.Window.ofSpec (Memref.whole main_v14) S1x1x704x1024.size cc3_transform_2 reads3_2 true false 2 stage3_2 sem3_2
    hrank3 hreads3_2 hinb3_2 nbuf3_2 (Memref.isWhole_whole _) hwx3_2 hstage3_2

/-- custom_call 0's windows, in operand order; -/
abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
/-- and but for their index maps. -/
abbrev spec0 : Fin 10 → Pipeline.WinSpec sig grid0.rank := fun w => (win0 w).toWinSpec

/-- custom_call 1's windows, in operand order; -/
abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
/-- and but for their index maps. -/
abbrev spec1 : Fin 13 → Pipeline.WinSpec sig grid1.rank := fun w => (win1 w).toWinSpec

/-- custom_call 2's windows, in operand order; -/
abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
/-- and but for their index maps. -/
abbrev spec2 : Fin 5 → Pipeline.WinSpec sig grid2.rank := fun w => (win2 w).toWinSpec

/-- custom_call 3's windows, in operand order; -/
abbrev win3 : Fin 3 → Pipeline.Window sig grid3 := fun | 0 => win3_0 | 1 => win3_1 | 2 => win3_2 | ⟨_ + 3, h⟩ => absurd h (Nat.not_lt.2 (Nat.le_add_left _ _))
/-- and but for their index maps. -/
abbrev spec3 : Fin 3 → Pipeline.WinSpec sig grid3.rank := fun w => (win3 w).toWinSpec

/-- The labels of the four kernel bodies. -/
abbrev Λ₀ : Labels := ⟨Fin 4, fun | 0 => Fin grid0.N × ((w : Fin 10) → Fin (win0 w).nbuf) | 1 => Fin grid1.N × ((w : Fin 13) → Fin (win1 w).nbuf) | 2 => Fin grid2.N × ((w : Fin 5) → Fin (win2 w).nbuf) | 3 => Fin grid3.N × ((w : Fin 3) → Fin (win3 w).nbuf) | ⟨_ + 4, h⟩ => absurd h (Nat.not_lt.2 (Nat.le_add_left _ _)), fun _ => PUnit⟩

end Cert.HalfFFN

end
-- ==== Proof.LayerBody.lean ====
/- The four kernel bodies as sequences of memory operations over named payloads, over the labels of the half layer left open. -/
module

public import proofs.«01_k».proof.Proof.LayerWindows
public import proofs.«01_k».proof.Proof.Gen.KernelIdeal.Skeleton

@[expose] public section

set_option synthInstance.maxSize 4096

noncomputable section

namespace Cert.HalfFFN

open Cert.KernelIdeal Cert.KernelIdeal.Gen
open Idealize.ShloMosaic Idealize.ShloMosaic.TcCoe
open Idealize.SL Idealize.SL.Sem

variable {F : FTy → Type} [FloatOps F] [Half]

/-- The forward call's first part. -/
noncomputable def k0_part1 (i : grid0.Coords) (arg2 : Memref sig .tc .vmem S1024x1024 .f32) (harg2 : arg2.IsWhole) (arg3 : Memref sig .tc .vmem S1x1024 .f32) (harg3 : arg3.IsWhole) (arg4 : Memref sig .tc .vmem S1x1x1024x704 .bf16) (harg4 : arg4.IsWhole) (arg5 : Memref sig .tc .vmem S1x1x1024x704 .bf16) (harg5 : arg5.IsWhole) (arg6 : Memref sig .tc .vmem S1x1x704x1024 .bf16) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1x1024x704 .bf16) (harg9 : arg9.IsWhole) (arg10 : Memref sig .tc .vmem S1x1024x704 .bf16) (harg10 : arg10.IsWhole) (arg11 : Memref sig .tc .vmem S1x1024x704 .bf16) (harg11 : arg11.IsWhole) (arg12 : Memref sig .tc .vmem S1024x1024 .f32) (harg12 : arg12.IsWhole) :
    Prog (TpuEff nD τ sig (Elt F) Λ₀ .tc) (Σ' (arg1 : BitVec 32) (v10 : FVec F S1024x704 .f32) (v18 : FVec F S1024x704 .f32), FVec F S1024x704 .bf16) := do
  let arg1 : BitVec 32 := BitVec.ofNat 32 (i 1).val
  if k0_h1 : k0_cond1 i = 1#1 then do
    let v50 : Vec F S1024x1024 .f32 ← Prog.lift (.load arg2 (Rect.unit (s := S1024x1024) ![0, 0] S1024x1024.size inb_S1024x1024_S1024x1024_0_0).toLoadRect (View.loadsAt_vmem h_S1024x1024))
    let v51 : Vec F S1x1024 .f32 ← Prog.lift (.load arg3 (Rect.unit (s := S1x1024) ![0, 0] S1x1024.size inb_S1x1024_S1x1024_0_0).toLoadRect (View.loadsAt_vmem h_S1x1024))
    let v66 : Vec F S1024x1024 .bf16 ← Prog.lift (.load arg8 (Rect.unit (s := S1024x1024) ![0, 0] S1024x1024.size inb_S1024x1024_S1024x1024_0_0).toLoadRect (View.loadsAt_vmem h_S1024x1024))
    Prog.lift (.store arg8 (Rect.unit (s := S1024x1024) ![0, 0] S1024x1024.size inb_S1024x1024_S1024x1024_0_0) (k0_pay6 v50 v51) Finset.univ (View.stores_vmem h_S1024x1024 (harg8.storeExact_slice rfl _ packedbf16_S1024x1024_S1024x1024_0_0) (fun _ => rfl)) (.inl rfl))
    let v68 : Vec F S1024x1024 .f32 ← Prog.lift (.load arg12 (Rect.unit (s := S1024x1024) ![0, 0] S1024x1024.size inb_S1024x1024_S1024x1024_0_0).toLoadRect (View.loadsAt_vmem h_S1024x1024))
    Prog.lift (.store arg12 (Rect.unit (s := S1024x1024) ![0, 0] S1024x1024.size inb_S1024x1024_S1024x1024_0_0) (k0_pay7 (F := F)) Finset.univ (View.stores_vmem_bits_univ h_S1024x1024 rfl) (.inl rfl))
    pure ⟨⟩
  else do
    pure ⟨⟩
  let v3 : Vec F S1024x1024 .bf16 ← Prog.lift (.load arg8 (Rect.unit (s := S1024x1024) ![0, 0] S1024x1024.size inb_S1024x1024_S1024x1024_0_0).toLoadRect (View.loadsAt_vmem h_S1024x1024))
  let v5 : Vec F S1x1x1024x704 .bf16 ← Prog.lift (.load arg4 (Rect.unit (s := S1x1x1024x704) ![0, 0, 0, 0] S1x1x1024x704.size inb_S1x1x1024x704_S1x1x1024x704_0_0_0_0).toLoadRect (View.loadsAt_vmem h_S1x1x1024x704))
  let v8 : Vec F S1x1x1024x704 .bf16 ← Prog.lift (.load arg5 (Rect.unit (s := S1x1x1024x704) ![0, 0, 0, 0] S1x1x1024x704.size inb_S1x1x1024x704_S1x1x1024x704_0_0_0_0).toLoadRect (View.loadsAt_vmem h_S1x1x1024x704))
  let v27 : Vec F S1x1024x704 .bf16 ← Prog.lift (.load arg9 (Rect.unit (s := S1x1024x704) ![0, 0, 0] S1x1024x704.size inb_S1x1024x704_S1x1024x704_0_0_0).toLoadRect (View.loadsAt_vmem h_S1x1024x704))
  Prog.lift (.store arg9 (Rect.unit (s := S1x1024x704) ![0, 0, 0] S1x1024x704.size inb_S1x1024x704_S1x1024x704_0_0_0) (k0_pay13 v3 v5 v8) Finset.univ (View.stores_vmem h_S1x1024x704 (harg9.storeExact_slice rfl _ packedbf16_S1x1024x704_S1x1024x704_0_0_0) (fun _ => rfl)) (.inl rfl))
  pure ⟨arg1, k0_pay10 v3 v8, k0_pay12 v3 v5, k0_pay14 v3 v5⟩

/-- The forward call. -/
noncomputable def cc0_ffn_fwd (i : grid0.Coords) (arg2 : Memref sig .tc .vmem S1024x1024 .f32) (harg2 : arg2.IsWhole) (arg3 : Memref sig .tc .vmem S1x1024 .f32) (harg3 : arg3.IsWhole) (arg4 : Memref sig .tc .vmem S1x1x1024x704 .bf16) (harg4 : arg4.IsWhole) (arg5 : Memref sig .tc .vmem S1x1x1024x704 .bf16) (harg5 : arg5.IsWhole) (arg6 : Memref sig .tc .vmem S1x1x704x1024 .bf16) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1x1024x704 .bf16) (harg9 : arg9.IsWhole) (arg10 : Memref sig .tc .vmem S1x1024x704 .bf16) (harg10 : arg10.IsWhole) (arg11 : Memref sig .tc .vmem S1x1024x704 .bf16) (harg11 : arg11.IsWhole) (arg12 : Memref sig .tc .vmem S1024x1024 .f32) (harg12 : arg12.IsWhole) :
    Prog (TpuEff nD τ sig (Elt F) Λ₀ .tc) PUnit := do
  let ⟨arg1, v10, v18, v30⟩ : Σ' (arg1 : BitVec 32) (v10 : FVec F S1024x704 .f32) (v18 : FVec F S1024x704 .f32), FVec F S1024x704 .bf16 ← k0_part1 i arg2 harg2 arg3 harg3 arg4 harg4 arg5 harg5 arg6 harg6 arg7 harg7 arg8 harg8 arg9 harg9 arg10 harg10 arg11 harg11 arg12 harg12
  let v31 : Vec F S1x1024x704 .bf16 ← Prog.lift (.load arg10 (Rect.unit (s := S1x1024x704) ![0, 0, 0] S1x1024x704.size inb_S1x1024x704_S1x1024x704_0_0_0).toLoadRect (View.loadsAt_vmem h_S1x1024x704))
  Prog.lift (.store arg10 (Rect.unit (s := S1x1024x704) ![0, 0, 0] S1x1024x704.size inb_S1x1024x704_S1x1024x704_0_0_0) (k0_pay1 v30) Finset.univ (View.stores_vmem h_S1x1024x704 (harg10.storeExact_slice rfl _ packedbf16_S1x1024x704_S1x1024x704_0_0_0) (fun _ => rfl)) (.inl rfl))
  let v36 : Vec F S1x1024x704 .bf16 ← Prog.lift (.load arg11 (Rect.unit (s := S1x1024x704) ![0, 0, 0] S1x1024x704.size inb_S1x1024x704_S1x1024x704_0_0_0).toLoadRect (View.loadsAt_vmem h_S1x1024x704))
  Prog.lift (.store arg11 (Rect.unit (s := S1x1024x704) ![0, 0, 0] S1x1024x704.size inb_S1x1024x704_S1x1024x704_0_0_0) (k0_pay3 v10 v18) Finset.univ (View.stores_vmem h_S1x1024x704 (harg11.storeExact_slice rfl _ packedbf16_S1x1024x704_S1x1024x704_0_0_0) (fun _ => rfl)) (.inl rfl))
  let v39 : Vec F S1024x1024 .f32 ← Prog.lift (.load arg12 (Rect.unit (s := S1024x1024) ![0, 0] S1024x1024.size inb_S1024x1024_S1024x1024_0_0).toLoadRect (View.loadsAt_vmem h_S1024x1024))
  let v40 : Vec F S1x1x704x1024 .bf16 ← Prog.lift (.load arg6 (Rect.unit (s := S1x1x704x1024) ![0, 0, 0, 0] S1x1x704x1024.size inb_S1x1x704x1024_S1x1x704x1024_0_0_0_0).toLoadRect (View.loadsAt_vmem h_S1x1x704x1024))
  let v44 : Vec F S1024x1024 .f32 ← Prog.lift (.load arg12 (Rect.unit (s := S1024x1024) ![0, 0] S1024x1024.size inb_S1024x1024_S1024x1024_0_0).toLoadRect (View.loadsAt_vmem h_S1024x1024))
  Prog.lift (.store arg12 (Rect.unit (s := S1024x1024) ![0, 0] S1024x1024.size inb_S1024x1024_S1024x1024_0_0) (k0_pay4 v10 v18 v39 v40) Finset.univ (View.stores_vmem_bits_univ h_S1024x1024 rfl) (.inl rfl))
  if k0_h2 : k0_cond2 i = 1#1 then do
    let v50 : Vec F S1024x1024 .f32 ← Prog.lift (.load arg2 (Rect.unit (s := S1024x1024) ![0, 0] S1024x1024.size inb_S1024x1024_S1024x1024_0_0).toLoadRect (View.loadsAt_vmem h_S1024x1024))
    let v51 : Vec F S1024x1024 .f32 ← Prog.lift (.load arg12 (Rect.unit (s := S1024x1024) ![0, 0] S1024x1024.size inb_S1024x1024_S1024x1024_0_0).toLoadRect (View.loadsAt_vmem h_S1024x1024))
    let v55 : Vec F S1024x1024 .f32 ← Prog.lift (.load arg7 (Rect.unit (s := S1024x1024) ![0, 0] S1024x1024.size inb_S1024x1024_S1024x1024_0_0).toLoadRect (View.loadsAt_vmem h_S1024x1024))
    Prog.lift (.store arg7 (Rect.unit (s := S1024x1024) ![0, 0] S1024x1024.size inb_S1024x1024_S1024x1024_0_0) (k0_pay5 v50 v51) Finset.univ (View.stores_vmem_bits_univ h_S1024x1024 rfl) (.inl rfl))
    pure ⟨⟩
  else do
    pure ⟨⟩
  pure ⟨⟩

/-- The backward call's first part. -/
noncomputable def k1_part1 (i : grid1.Coords) (arg2 : Memref sig .tc .vmem S512x1024 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S1x512x704 .bf16) (harg5 : arg5.IsWhole) (arg6 : Memref sig .tc .vmem S1x512x704 .bf16) (harg6 : arg6.IsWhole) (arg7 : Memref sig .tc .vmem S1x1x1024x704 .bf16) (harg7 : arg7.IsWhole) (arg8 : Memref sig .tc .vmem S1x1x1024x704 .bf16) (harg8 : arg8.IsWhole) (arg9 : Memref sig .tc .vmem S1x1x704x1024 .bf16) (harg9 : arg9.IsWhole) (arg10 : Memref sig .tc .vmem S512x1024 .f32) (harg10 : arg10.IsWhole) (arg11 : Memref sig .tc .vmem S1x512x704 .bf16) (harg11 : arg11.IsWhole) (arg12 : Memref sig .tc .vmem S1x512x704 .bf16) (harg12 : arg12.IsWhole) (arg13 : Memref sig .tc .vmem S512x1024 .bf16) (harg13 : arg13.IsWhole) (arg14 : Memref sig .tc .vmem S1x1024 .f32) (harg14 : arg14.IsWhole) :
    Prog (TpuEff nD τ sig (Elt F) Λ₀ .tc) (Σ' (arg1 : BitVec 32) (v17 : FVec F S512x704 .bf16), FVec F S512x704 .bf16) := do
  let arg1 : BitVec 32 := BitVec.ofNat 32 (i 1).val
  if k1_h1 : k1_cond1 i = 1#1 then do
    let v43 : Vec F S512x1024 .f32 ← Prog.lift (.load arg4 (Rect.unit (s := S512x1024) ![0, 0] S512x1024.size inb_S512x1024_S512x1024_0_0).toLoadRect (View.loadsAt_vmem h_S512x1024))
    let v47 : Vec F S512x1024 .bf16 ← Prog.lift (.load arg13 (Rect.unit (s := S512x1024) ![0, 0] S512x1024.size inb_S512x1024_S512x1024_0_0).toLoadRect (View.loadsAt_vmem h_S512x1024))
    Prog.lift (.store arg13 (Rect.unit (s := S512x1024) ![0, 0] S512x1024.size inb_S512x1024_S512x1024_0_0) (k1_pay7 v43) Finset.univ (View.stores_vmem h_S512x1024 (harg13.storeExact_slice rfl _ packedbf16_S512x1024_S512x1024_0_0) (fun _ => rfl)) (.inl rfl))
    let v49 : Vec F S512x1024 .f32 ← Prog.lift (.load arg10 (Rect.unit (s := S512x1024) ![0, 0] S512x1024.size inb_S512x1024_S512x1024_0_0).toLoadRect (View.loadsAt_vmem h_S512x1024))
    Prog.lift (.store arg10 (Rect.unit (s := S512x1024) ![0, 0] S512x1024.size inb_S512x1024_S512x1024_0_0) (k1_pay8 (F := F)) Finset.univ (View.stores_vmem_bits_univ h_S512x1024 rfl) (.inl rfl))
    pure ⟨⟩
  else do
    pure ⟨⟩
  if k1_h2 : k1_cond2 i = 1#1 then do
    let v44 : Vec F S1x1024 .f32 ← Prog.lift (.load arg14 (Rect.unit (s := S1x1024) ![0, 0] S1x1024.size inb_S1x1024_S1x1024_0_0).toLoadRect (View.loadsAt_vmem h_S1x1024))
    Prog.lift (.store arg14 (Rect.unit (s := S1x1024) ![0, 0] S1x1024.size inb_S1x1024_S1x1024_0_0) (k1_pay9 (F := F)) Finset.univ (View.stores_vmem_bits_univ h_S1x1024 rfl) (.inl rfl))
    pure ⟨⟩
  else do
    pure ⟨⟩
  let v8 : Vec F S512x1024 .bf16 ← Prog.lift (.load arg13 (Rect.unit (s := S512x1024) ![0, 0] S512x1024.size inb_S512x1024_S512x1024_0_0).toLoadRect (View.loadsAt_vmem h_S512x1024))
  let v10 : Vec F S1x1x704x1024 .bf16 ← Prog.lift (.load arg9 (Rect.unit (s := S1x1x704x1024) ![0, 0, 0, 0] S1x1x704x1024.size inb_S1x1x704x1024_S1x1x704x1024_0_0_0_0).toLoadRect (View.loadsAt_vmem h_S1x1x704x1024))
  let v13 : Vec F S1x512x704 .bf16 ← Prog.lift (.load arg5 (Rect.unit (s := S1x512x704) ![0, 0, 0] S1x512x704.size inb_S1x512x704_S1x512x704_0_0_0).toLoadRect (View.loadsAt_vmem h_S1x512x704))
  let v18 : Vec F S1x512x704 .bf16 ← Prog.lift (.load arg6 (Rect.unit (s := S1x512x704) ![0, 0, 0] S1x512x704.size inb_S1x512x704_S1x512x704_0_0_0).toLoadRect (View.loadsAt_vmem h_S1x512x704))
  let v23 : Vec F S1x512x704 .bf16 ← Prog.lift (.load arg11 (Rect.unit (s := S1x512x704) ![0, 0, 0] S1x512x704.size inb_S1x512x704_S1x512x704_0_0_0).toLoadRect (View.loadsAt_vmem h_S1x512x704))
  Prog.lift (.store arg11 (Rect.unit (s := S1x512x704) ![0, 0, 0] S1x512x704.size inb_S1x512x704_S1x512x704_0_0_0) (k1_pay13 v8 v10 v13) Finset.univ (View.stores_vmem h_S1x512x704 (harg11.storeExact_slice rfl _ packedbf16_S1x512x704_S1x512x704_0_0_0) (fun _ => rfl)) (.inl rfl))
  let v26 : Vec F S1x512x704 .bf16 ← Prog.lift (.load arg12 (Rect.unit (s := S1x512x704) ![0, 0, 0] S1x512x704.size inb_S1x512x704_S1x512x704_0_0_0).toLoadRect (View.loadsAt_vmem h_S1x512x704))
  Prog.lift (.store arg12 (Rect.unit (s := S1x512x704) ![0, 0, 0] S1x512x704.size inb_S1x512x704_S1x512x704_0_0_0) (k1_pay14 v8 v10 v18) Finset.univ (View.stores_vmem h_S1x512x704 (harg12.storeExact_slice rfl _ packedbf16_S1x512x704_S1x512x704_0_0_0) (fun _ => rfl)) (.inl rfl))
  pure ⟨arg1, k1_pay11 v8 v10 v13, k1_pay12 v8 v10 v18⟩

/-- The backward call. -/
noncomputable def cc1_ffn_bwd_dx (i : grid1.Coords) (arg2 : Memref sig .tc .vmem S512x1024 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S1x512x704 .bf16) (harg5 : arg5.IsWhole) (arg6 : Memref sig .tc .vmem S1x512x704 .bf16) (harg6 : arg6.IsWhole) (arg7 : Memref sig .tc .vmem S1x1x1024x704 .bf16) (harg7 : arg7.IsWhole) (arg8 : Memref sig .tc .vmem S1x1x1024x704 .bf16) (harg8 : arg8.IsWhole) (arg9 : Memref sig .tc .vmem S1x1x704x1024 .bf16) (harg9 : arg9.IsWhole) (arg10 : Memref sig .tc .vmem S512x1024 .f32) (harg10 : arg10.IsWhole) (arg11 : Memref sig .tc .vmem S1x512x704 .bf16) (harg11 : arg11.IsWhole) (arg12 : Memref sig .tc .vmem S1x512x704 .bf16) (harg12 : arg12.IsWhole) (arg13 : Memref sig .tc .vmem S512x1024 .bf16) (harg13 : arg13.IsWhole) (arg14 : Memref sig .tc .vmem S1x1024 .f32) (harg14 : arg14.IsWhole) :
    Prog (TpuEff nD τ sig (Elt F) Λ₀ .tc) PUnit := do
  let ⟨arg1, v17, v22⟩ : Σ' (arg1 : BitVec 32) (v17 : FVec F S512x704 .bf16), FVec F S512x704 .bf16 ← k1_part1 i arg2 harg2 arg3 harg3 arg4 harg4 arg5 harg5 arg6 harg6 arg7 harg7 arg8 harg8 arg9 harg9 arg10 harg10 arg11 harg11 arg12 harg12 arg13 harg13 arg14 harg14
  let v29 : Vec F S512x1024 .f32 ← Prog.lift (.load arg10 (Rect.unit (s := S512x1024) ![0, 0] S512x1024.size inb_S512x1024_S512x1024_0_0).toLoadRect (View.loadsAt_vmem h_S512x1024))
  let v31 : Vec F S1x1x1024x704 .bf16 ← Prog.lift (.load arg7 (Rect.unit (s := S1x1x1024x704) ![0, 0, 0, 0] S1x1x1024x704.size inb_S1x1x1024x704_S1x1x1024x704_0_0_0_0).toLoadRect (View.loadsAt_vmem h_S1x1x1024x704))
  let v34 : Vec F S1x1x1024x704 .bf16 ← Prog.lift (.load arg8 (Rect.unit (s := S1x1x1024x704) ![0, 0, 0, 0] S1x1x1024x704.size inb_S1x1x1024x704_S1x1x1024x704_0_0_0_0).toLoadRect (View.loadsAt_vmem h_S1x1x1024x704))
  let v39 : Vec F S512x1024 .f32 ← Prog.lift (.load arg10 (Rect.unit (s := S512x1024) ![0, 0] S512x1024.size inb_S512x1024_S512x1024_0_0).toLoadRect (View.loadsAt_vmem h_S512x1024))
  Prog.lift (.store arg10 (Rect.unit (s := S512x1024) ![0, 0] S512x1024.size inb_S512x1024_S512x1024_0_0) (k1_pay1 v17 v22 v29 v31 v34) Finset.univ (View.stores_vmem_bits_univ h_S512x1024 rfl) (.inl rfl))
  if k1_h3 : k1_cond3 i = 1#1 then do
    let v43 : Vec F S512x1024 .f32 ← Prog.lift (.load arg10 (Rect.unit (s := S512x1024) ![0, 0] S512x1024.size inb_S512x1024_S512x1024_0_0).toLoadRect (View.loadsAt_vmem h_S512x1024))
    let v45 : Vec F S512x1024 .f32 ← Prog.lift (.load arg2 (Rect.unit (s := S512x1024) ![0, 0] S512x1024.size inb_S512x1024_S512x1024_0_0).toLoadRect (View.loadsAt_vmem h_S512x1024))
    let v46 : Vec F S1x1024 .f32 ← Prog.lift (.load arg3 (Rect.unit (s := S1x1024) ![0, 0] S1x1024.size inb_S1x1024_S1x1024_0_0).toLoadRect (View.loadsAt_vmem h_S1x1024))
    let v73 : Vec F S512x1024 .f32 ← Prog.lift (.load arg4 (Rect.unit (s := S512x1024) ![0, 0] S512x1024.size inb_S512x1024_S512x1024_0_0).toLoadRect (View.loadsAt_vmem h_S512x1024))
    let v75 : Vec F S512x1024 .f32 ← Prog.lift (.load arg10 (Rect.unit (s := S512x1024) ![0, 0] S512x1024.size inb_S512x1024_S512x1024_0_0).toLoadRect (View.loadsAt_vmem h_S512x1024))
    Prog.lift (.store arg10 (Rect.unit (s := S512x1024) ![0, 0] S512x1024.size inb_S512x1024_S512x1024_0_0) (k1_pay5 v43 v45 v46 v73) Finset.univ (View.stores_vmem_bits_univ h_S512x1024 rfl) (.inl rfl))
    let v76 : Vec F S1x1024 .f32 ← Prog.lift (.load arg14 (Rect.unit (s := S1x1024) ![0, 0] S1x1024.size inb_S1x1024_S1x1024_0_0).toLoadRect (View.loadsAt_vmem h_S1x1024))
    let v79 : Vec F S1x1024 .f32 ← Prog.lift (.load arg14 (Rect.unit (s := S1x1024) ![0, 0] S1x1024.size inb_S1x1024_S1x1024_0_0).toLoadRect (View.loadsAt_vmem h_S1x1024))
    Prog.lift (.store arg14 (Rect.unit (s := S1x1024) ![0, 0] S1x1024.size inb_S1x1024_S1x1024_0_0) (k1_pay6 v43 v45 v76) Finset.univ (View.stores_vmem_bits_univ h_S1x1024 rfl) (.inl rfl))
    pure ⟨⟩
  else do
    pure ⟨⟩
  pure ⟨⟩

/-- The gradients of the gate's and the up projection's weights. -/
noncomputable def cc2_ffn_dwgu (i : grid2.Coords) (arg2 : Memref sig .tc .vmem S2048x1024 .bf16) (harg2 : arg2.IsWhole) (arg3 : Memref sig .tc .vmem S1x2048x704 .bf16) (harg3 : arg3.IsWhole) (arg4 : Memref sig .tc .vmem S1x2048x704 .bf16) (harg4 : arg4.IsWhole) (arg5 : Memref sig .tc .vmem S1x1x1024x704 .f32) (harg5 : arg5.IsWhole) (arg6 : Memref sig .tc .vmem S1x1x1024x704 .f32) (harg6 : arg6.IsWhole) :
    Prog (TpuEff nD τ sig (Elt F) Λ₀ .tc) PUnit := do
  let arg1 : BitVec 32 := BitVec.ofNat 32 (i 1).val
  let v0 : BitVec 1 := Scalar.cmpi .eq arg1 0#32
  let v1 : BitVec 32 := Scalar.extui v0
  let v2 : BitVec 1 := Scalar.cmpi .ne v1 0#32
  if k2_h1 : v2 = 1#1 then do
    let v25 : Vec F S1x1x1024x704 .f32 ← Prog.lift (.load arg5 (Rect.unit (s := S1x1x1024x704) ![0, 0, 0, 0] S1x1x1024x704.size inb_S1x1x1024x704_S1x1x1024x704_0_0_0_0).toLoadRect (View.loadsAt_vmem h_S1x1x1024x704))
    Prog.lift (.store arg5 (Rect.unit (s := S1x1x1024x704) ![0, 0, 0, 0] S1x1x1024x704.size inb_S1x1x1024x704_S1x1x1024x704_0_0_0_0) (k2_pay1 (F := F)) Finset.univ (View.stores_vmem_bits_univ h_S1x1x1024x704 rfl) (.inl rfl))
    let v29 : Vec F S1x1x1024x704 .f32 ← Prog.lift (.load arg6 (Rect.unit (s := S1x1x1024x704) ![0, 0, 0, 0] S1x1x1024x704.size inb_S1x1x1024x704_S1x1x1024x704_0_0_0_0).toLoadRect (View.loadsAt_vmem h_S1x1x1024x704))
    Prog.lift (.store arg6 (Rect.unit (s := S1x1x1024x704) ![0, 0, 0, 0] S1x1x1024x704.size inb_S1x1x1024x704_S1x1x1024x704_0_0_0_0) (k2_pay2 (F := F)) Finset.univ (View.stores_vmem_bits_univ h_S1x1x1024x704 rfl) (.inl rfl))
    pure ⟨⟩
  else do
    pure ⟨⟩
  let v3 : Vec F S2048x1024 .bf16 ← Prog.lift (.load arg2 (Rect.unit (s := S2048x1024) ![0, 0] S2048x1024.size inb_S2048x1024_S2048x1024_0_0).toLoadRect (View.loadsAt_vmem h_S2048x1024))
  let v6 : Vec F S1x1x1024x704 .f32 ← Prog.lift (.load arg5 (Rect.unit (s := S1x1x1024x704) ![0, 0, 0, 0] S1x1x1024x704.size inb_S1x1x1024x704_S1x1x1024x704_0_0_0_0).toLoadRect (View.loadsAt_vmem h_S1x1x1024x704))
  let v8 : Vec F S1x2048x704 .bf16 ← Prog.lift (.load arg3 (Rect.unit (s := S1x2048x704) ![0, 0, 0] S1x2048x704.size inb_S1x2048x704_S1x2048x704_0_0_0).toLoadRect (View.loadsAt_vmem h_S1x2048x704))
  let v12 : Vec F S1x1x1024x704 .f32 ← Prog.lift (.load arg5 (Rect.unit (s := S1x1x1024x704) ![0, 0, 0, 0] S1x1x1024x704.size inb_S1x1x1024x704_S1x1x1024x704_0_0_0_0).toLoadRect (View.loadsAt_vmem h_S1x1x1024x704))
  Prog.lift (.store arg5 (Rect.unit (s := S1x1x1024x704) ![0, 0, 0, 0] S1x1x1024x704.size inb_S1x1x1024x704_S1x1x1024x704_0_0_0_0) (k2_pay4 v3 v6 v8) Finset.univ (View.stores_vmem_bits_univ h_S1x1x1024x704 rfl) (.inl rfl))
  let v15 : Vec F S1x1x1024x704 .f32 ← Prog.lift (.load arg6 (Rect.unit (s := S1x1x1024x704) ![0, 0, 0, 0] S1x1x1024x704.size inb_S1x1x1024x704_S1x1x1024x704_0_0_0_0).toLoadRect (View.loadsAt_vmem h_S1x1x1024x704))
  let v17 : Vec F S1x2048x704 .bf16 ← Prog.lift (.load arg4 (Rect.unit (s := S1x2048x704) ![0, 0, 0] S1x2048x704.size inb_S1x2048x704_S1x2048x704_0_0_0).toLoadRect (View.loadsAt_vmem h_S1x2048x704))
  let v21 : Vec F S1x1x1024x704 .f32 ← Prog.lift (.load arg6 (Rect.unit (s := S1x1x1024x704) ![0, 0, 0, 0] S1x1x1024x704.size inb_S1x1x1024x704_S1x1x1024x704_0_0_0_0).toLoadRect (View.loadsAt_vmem h_S1x1x1024x704))
  Prog.lift (.store arg6 (Rect.unit (s := S1x1x1024x704) ![0, 0, 0, 0] S1x1x1024x704.size inb_S1x1x1024x704_S1x1x1024x704_0_0_0_0) (k2_pay5 v3 v15 v17) Finset.univ (View.stores_vmem_bits_univ h_S1x1x1024x704 rfl) (.inl rfl))
  pure ⟨⟩

/-- The gradient of the down projection's weights. -/
noncomputable def cc3_ffn_dwd (i : grid3.Coords) (arg2 : Memref sig .tc .vmem S1x4096x704 .bf16) (harg2 : arg2.IsWhole) (arg3 : Memref sig .tc .vmem S4096x1024 .bf16) (harg3 : arg3.IsWhole) (arg4 : Memref sig .tc .vmem S1x1x704x1024 .f32) (harg4 : arg4.IsWhole) :
    Prog (TpuEff nD τ sig (Elt F) Λ₀ .tc) PUnit := do
  let arg1 : BitVec 32 := BitVec.ofNat 32 (i 1).val
  let v0 : BitVec 1 := Scalar.cmpi .eq arg1 0#32
  let v1 : BitVec 32 := Scalar.extui v0
  let v2 : BitVec 1 := Scalar.cmpi .ne v1 0#32
  if k3_h1 : v2 = 1#1 then do
    let v15 : Vec F S1x1x704x1024 .f32 ← Prog.lift (.load arg4 (Rect.unit (s := S1x1x704x1024) ![0, 0, 0, 0] S1x1x704x1024.size inb_S1x1x704x1024_S1x1x704x1024_0_0_0_0).toLoadRect (View.loadsAt_vmem h_S1x1x704x1024))
    Prog.lift (.store arg4 (Rect.unit (s := S1x1x704x1024) ![0, 0, 0, 0] S1x1x704x1024.size inb_S1x1x704x1024_S1x1x704x1024_0_0_0_0) (k3_pay1 (F := F)) Finset.univ (View.stores_vmem_bits_univ h_S1x1x704x1024 rfl) (.inl rfl))
    pure ⟨⟩
  else do
    pure ⟨⟩
  let v3 : Vec F S1x1x704x1024 .f32 ← Prog.lift (.load arg4 (Rect.unit (s := S1x1x704x1024) ![0, 0, 0, 0] S1x1x704x1024.size inb_S1x1x704x1024_S1x1x704x1024_0_0_0_0).toLoadRect (View.loadsAt_vmem h_S1x1x704x1024))
  let v5 : Vec F S1x4096x704 .bf16 ← Prog.lift (.load arg2 (Rect.unit (s := S1x4096x704) ![0, 0, 0] S1x4096x704.size inb_S1x4096x704_S1x4096x704_0_0_0).toLoadRect (View.loadsAt_vmem h_S1x4096x704))
  let v7 : Vec F S4096x1024 .bf16 ← Prog.lift (.load arg3 (Rect.unit (s := S4096x1024) ![0, 0] S4096x1024.size inb_S4096x1024_S4096x1024_0_0).toLoadRect (View.loadsAt_vmem h_S4096x1024))
  let v11 : Vec F S1x1x704x1024 .f32 ← Prog.lift (.load arg4 (Rect.unit (s := S1x1x704x1024) ![0, 0, 0, 0] S1x1x704x1024.size inb_S1x1x704x1024_S1x1x704x1024_0_0_0_0).toLoadRect (View.loadsAt_vmem h_S1x1x704x1024))
  Prog.lift (.store arg4 (Rect.unit (s := S1x1x704x1024) ![0, 0, 0, 0] S1x1x704x1024.size inb_S1x1x704x1024_S1x1x704x1024_0_0_0_0) (k3_pay2 v3 v5 v7) Finset.univ (View.stores_vmem_bits_univ h_S1x1x704x1024 rfl) (.inl rfl))
  pure ⟨⟩

end Cert.HalfFFN

end
-- ==== Proof.LayerText.lean ====
/- The half layer's table of bodies, pipelines and host program, with the half layer left open. -/
module

public import proofs.«01_k».proof.Proof.LayerBody

@[expose] public section

noncomputable section

namespace Cert.HalfFFN

open Cert.KernelIdeal Cert.KernelIdeal.Gen
open Idealize.ShloMosaic Idealize.ShloMosaic.TcCoe
open Idealize.SL Idealize.SL.Sem

variable {F : FTy → Type} [FloatOps F] [Half]

/-- The bodies by label. -/
def defs₀ : Defs nD τ sig (Elt F) Λ₀ := Defs.onTc fun
  | 0, (t, s) => cc0_ffn_fwd (grid0.coords t) (win0_0.stage (s 0)) (hstage0_0 ((s 0).cast nbuf0_0)) (win0_1.stage (s 1)) (hstage0_1 ((s 1).cast nbuf0_1)) (win0_2.stage (s 2)) (hstage0_2 ((s 2).cast nbuf0_2)) (win0_3.stage (s 3)) (hstage0_3 ((s 3).cast nbuf0_3)) (win0_4.stage (s 4)) (hstage0_4 ((s 4).cast nbuf0_4)) (win0_5.stage (s 5)) (hstage0_5 ((s 5).cast nbuf0_5)) (win0_6.stage (s 6)) (hstage0_6 ((s 6).cast nbuf0_6)) (win0_7.stage (s 7)) (hstage0_7 ((s 7).cast nbuf0_7)) (win0_8.stage (s 8)) (hstage0_8 ((s 8).cast nbuf0_8)) (win0_9.stage (s 9)) (hstage0_9 ((s 9).cast nbuf0_9)) (Memref.whole cc0_scratch0) (Memref.isWhole_whole _)
  | 1, (t, s) => cc1_ffn_bwd_dx (grid1.coords t) (win1_0.stage (s 0)) (hstage1_0 ((s 0).cast nbuf1_0)) (win1_1.stage (s 1)) (hstage1_1 ((s 1).cast nbuf1_1)) (win1_2.stage (s 2)) (hstage1_2 ((s 2).cast nbuf1_2)) (win1_3.stage (s 3)) (hstage1_3 ((s 3).cast nbuf1_3)) (win1_4.stage (s 4)) (hstage1_4 ((s 4).cast nbuf1_4)) (win1_5.stage (s 5)) (hstage1_5 ((s 5).cast nbuf1_5)) (win1_6.stage (s 6)) (hstage1_6 ((s 6).cast nbuf1_6)) (win1_7.stage (s 7)) (hstage1_7 ((s 7).cast nbuf1_7)) (win1_8.stage (s 8)) (hstage1_8 ((s 8).cast nbuf1_8)) (win1_9.stage (s 9)) (hstage1_9 ((s 9).cast nbuf1_9)) (win1_10.stage (s 10)) (hstage1_10 ((s 10).cast nbuf1_10)) (win1_11.stage (s 11)) (hstage1_11 ((s 11).cast nbuf1_11)) (win1_12.stage (s 12)) (hstage1_12 ((s 12).cast nbuf1_12))
  | 2, (t, s) => cc2_ffn_dwgu (grid2.coords t) (win2_0.stage (s 0)) (hstage2_0 ((s 0).cast nbuf2_0)) (win2_1.stage (s 1)) (hstage2_1 ((s 1).cast nbuf2_1)) (win2_2.stage (s 2)) (hstage2_2 ((s 2).cast nbuf2_2)) (win2_3.stage (s 3)) (hstage2_3 ((s 3).cast nbuf2_3)) (win2_4.stage (s 4)) (hstage2_4 ((s 4).cast nbuf2_4))
  | 3, (t, s) => cc3_ffn_dwd (grid3.coords t) (win3_0.stage (s 0)) (hstage3_0 ((s 0).cast nbuf3_0)) (win3_1.stage (s 1)) (hstage3_1 ((s 1).cast nbuf3_1)) (win3_2.stage (s 2)) (hstage3_2 ((s 2).cast nbuf3_2))
  | ⟨_ + 4, h⟩, _ => absurd h (Nat.not_lt.2 (Nat.le_add_left _ _))

/-- Call 0 as a pipeline. -/
abbrev cfg0 : Pipeline.Cfg sig Λ₀ where
  grid := grid0
  W := 10
  win := win0
  body := 0
  bodyArgs t s := (t, s)
  idle := idle0
/-- A numeral for one of call 0's windows. -/
instance numeral0 (n : ℕ) : OfNat (Fin cfg0.W) n := Fin.instOfNat (n := 10) (i := n)

/-- Call 1 as a pipeline. -/
abbrev cfg1 : Pipeline.Cfg sig Λ₀ where
  grid := grid1
  W := 13
  win := win1
  body := 1
  bodyArgs t s := (t, s)
  idle := idle1
/-- A numeral for one of call 1's windows. -/
instance numeral1 (n : ℕ) : OfNat (Fin cfg1.W) n := Fin.instOfNat (n := 13) (i := n)

/-- Call 2 as a pipeline. -/
abbrev cfg2 : Pipeline.Cfg sig Λ₀ where
  grid := grid2
  W := 5
  win := win2
  body := 2
  bodyArgs t s := (t, s)
/-- A numeral for one of call 2's windows. -/
instance numeral2 (n : ℕ) : OfNat (Fin cfg2.W) n := Fin.instOfNat (n := 5) (i := n)

/-- Call 3 as a pipeline. -/
abbrev cfg3 : Pipeline.Cfg sig Λ₀ where
  grid := grid3
  W := 3
  win := win3
  body := 3
  bodyArgs t s := (t, s)
/-- A numeral for one of call 3's windows. -/
instance numeral3 (n : ℕ) : OfNat (Fin cfg3.W) n := Fin.instOfNat (n := 3) (i := n)

/-- The pallas_calls of @main, in order; no index reaches the closing arm. -/
abbrev cfgs : Fin 4 → Pipeline.Cfg sig Λ₀ := fun | ⟨0, _⟩ => cfg0 | ⟨1, _⟩ => cfg1 | ⟨2, _⟩ => cfg2 | ⟨3, _⟩ => cfg3 | _ => cfg0
/-- The same as pipelines with prefetched tables: none has one. -/
abbrev pcfgs : Fin 4 → Pipeline.PCfg sig Λ₀ (Elt F) := fun p => (cfgs p).toPCfg

/-- The body table. -/
def defs : Defs nD τ sig (Elt F) (Pipeline.Sig Λ₀ (Fin 4) fun p => (pcfgs (F := F) p).Adm) := Pipeline.defs pcfgs defs₀

/-- The row of the norm's weights. -/
theorem sl10 : S8x1024.Slices ![Half.e.val, 0] S1x1024 := (by decide : ∀ e : Fin 8, S8x1024.Slices ![e.val, 0] S1x1024) Half.e
/-- The slab of a gradient stack. -/
theorem sl15 : S4x8x1024x704.Slices ![0, Half.e.val, 0, 0] S4x1x1024x704 := (by decide : ∀ e : Fin 8, S4x8x1024x704.Slices ![0, e.val, 0, 0] S4x1x1024x704) Half.e
/-- The slab of the other gradient stack. -/
theorem sl19 : S4x8x704x1024.Slices ![0, Half.e.val, 0, 0] S4x1x704x1024 := (by decide : ∀ e : Fin 8, S4x8x704x1024.Slices ![0, e.val, 0, 0] S4x1x704x1024) Half.e

/-- The host program: cut and cast the weights, run the four calls, cut the gradients out of their stacks. -/
noncomputable def main : Dev nD → Prog (TpuEff nD τ sig (Elt F) (Pipeline.Sig Λ₀ (Fin 4) fun p => (pcfgs (F := F) p).Adm) .tc) PUnit := fun _ => do
  hlo rfl (StableHlo.unary main_arg2 main_v0 ((truncf .bf16 · bitsLt_bf16_f32) : (⟨S4x2x1024x2816, .f32⟩ : BufTy).Contents (Elt F) → (⟨S4x2x1024x2816, .bf16⟩ : BufTy).Contents (Elt F))) (fun _ => .ret ⟨⟩)
  hlo rfl (StableHlo.reshape main_v0 main_v1 (rfl : (.bf16 : EltTy) = .bf16) shapeCasts_S4x2x1024x2816_S8x1024x4x704) (fun _ => .ret ⟨⟩)
  hlo rfl (StableHlo.unary main_v1 main_v2 ((transpose S4x8x1024x704 [2, 0, 1, 3] · transposes_S8x1024x4x704_S4x8x1024x704_2_0_1_3) : (⟨S8x1024x4x704, .bf16⟩ : BufTy).Contents (Elt F) → (⟨S4x8x1024x704, .bf16⟩ : BufTy).Contents (Elt F))) (fun _ => .ret ⟨⟩)
  hlo rfl (StableHlo.unary main_arg3 main_v3 ((truncf .bf16 · bitsLt_bf16_f32) : (⟨S4x2x1024x2816, .f32⟩ : BufTy).Contents (Elt F) → (⟨S4x2x1024x2816, .bf16⟩ : BufTy).Contents (Elt F))) (fun _ => .ret ⟨⟩)
  hlo rfl (StableHlo.reshape main_v3 main_v4 (rfl : (.bf16 : EltTy) = .bf16) shapeCasts_S4x2x1024x2816_S8x1024x4x704) (fun _ => .ret ⟨⟩)
  hlo rfl (StableHlo.unary main_v4 main_v5 ((transpose S4x8x1024x704 [2, 0, 1, 3] · transposes_S8x1024x4x704_S4x8x1024x704_2_0_1_3) : (⟨S8x1024x4x704, .bf16⟩ : BufTy).Contents (Elt F) → (⟨S4x8x1024x704, .bf16⟩ : BufTy).Contents (Elt F))) (fun _ => .ret ⟨⟩)
  hlo rfl (StableHlo.unary main_arg4 main_v6 ((truncf .bf16 · bitsLt_bf16_f32) : (⟨S4x2x2816x1024, .f32⟩ : BufTy).Contents (Elt F) → (⟨S4x2x2816x1024, .bf16⟩ : BufTy).Contents (Elt F))) (fun _ => .ret ⟨⟩)
  hlo rfl (StableHlo.reshape main_v6 main_v7 (rfl : (.bf16 : EltTy) = .bf16) shapeCasts_S4x2x2816x1024_S8x4x704x1024) (fun _ => .ret ⟨⟩)
  hlo rfl (StableHlo.unary main_v7 main_v8 ((transpose S4x8x704x1024 [1, 0, 2, 3] · transposes_S8x4x704x1024_S4x8x704x1024_1_0_2_3) : (⟨S8x4x704x1024, .bf16⟩ : BufTy).Contents (Elt F) → (⟨S4x8x704x1024, .bf16⟩ : BufTy).Contents (Elt F))) (fun _ => .ret ⟨⟩)
  hlo rfl (StableHlo.reshape main_arg1 main_v9 (rfl : (.f32 : EltTy) = .f32) shapeCasts_S4x2x1024_S8x1024) (fun _ => .ret ⟨⟩)
  hlo rfl (StableHlo.unary main_v9 main_v10 ((extractStridedSlice S1x1024 ![Half.e.val, 0] · sl10) : (⟨S8x1024, .f32⟩ : BufTy).Contents (Elt F) → (⟨S1x1024, .f32⟩ : BufTy).Contents (Elt F))) (fun _ => .ret ⟨⟩)
  Prog.lift (.customCall (Pipeline.entry 0) ())
  Prog.lift (.customCall (Pipeline.entry 1) ())
  Prog.lift (.customCall (Pipeline.entry 2) ())
  Prog.lift (.customCall (Pipeline.entry 3) ())
  hlo rfl (StableHlo.unary main_v13_0 main_v15 ((extractStridedSlice S4x1x1024x704 ![0, Half.e.val, 0, 0] · sl15) : (⟨S4x8x1024x704, .f32⟩ : BufTy).Contents (Elt F) → (⟨S4x1x1024x704, .f32⟩ : BufTy).Contents (Elt F))) (fun _ => .ret ⟨⟩)
  hlo rfl (StableHlo.reshape main_v15 main_v16 (rfl : (.f32 : EltTy) = .f32) shapeCasts_S4x1x1024x704_S4x1024x704) (fun _ => .ret ⟨⟩)
  hlo rfl (StableHlo.unary main_v13_1 main_v17 ((extractStridedSlice S4x1x1024x704 ![0, Half.e.val, 0, 0] · sl15) : (⟨S4x8x1024x704, .f32⟩ : BufTy).Contents (Elt F) → (⟨S4x1x1024x704, .f32⟩ : BufTy).Contents (Elt F))) (fun _ => .ret ⟨⟩)
  hlo rfl (StableHlo.reshape main_v17 main_v18 (rfl : (.f32 : EltTy) = .f32) shapeCasts_S4x1x1024x704_S4x1024x704) (fun _ => .ret ⟨⟩)
  hlo rfl (StableHlo.unary main_v14 main_v19 ((extractStridedSlice S4x1x704x1024 ![0, Half.e.val, 0, 0] · sl19) : (⟨S4x8x704x1024, .f32⟩ : BufTy).Contents (Elt F) → (⟨S4x1x704x1024, .f32⟩ : BufTy).Contents (Elt F))) (fun _ => .ret ⟨⟩)
  hlo rfl (StableHlo.reshape main_v19 main_v20 (rfl : (.f32 : EltTy) = .f32) shapeCasts_S4x1x704x1024_S4x704x1024) (fun _ => .ret ⟨⟩)
  pure ⟨⟩

end Cert.HalfFFN

end
-- ==== Proof.LayerLaunch.lean ====
/- The layout facts of the half layer's four calls, with the half layer left open. -/
module

public import proofs.«01_k».proof.Proof.LayerText
public import proofs.«01_k».proof.Proof.Gen.KernelIdeal.Launch

@[expose] public section

noncomputable section

namespace Cert.HalfFFN

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F] [Half]

/-- The program's staging cells are pairwise distinct. -/
theorem cellOf_inj : Function.Injective (Pipeline.cellOf (nD := nD) (τ := τ) cfgs) :=
  Pipeline.cellOf_injective_of_table cfgs semTab (fun | 0 => rfl | 1 => rfl | 2 => rfl | 3 => rfl | ⟨_ + 4, h⟩ => absurd h (Nat.not_lt.2 (Nat.le_add_left _ _))) semsDistinct semsDisjoint
/-! The layout facts do not read the index maps, so they are the printed program's. -/

/-- But for their index maps, call 0's windows are the printed program's. -/
theorem same_spec0 : KernelIdeal.spec0 = spec0 := funext fun w => by fin_cases w <;> rfl
theorem winFacts0 : Pipeline.WinFacts spec0 := same_spec0 ▸ KernelIdeal.Gen.winFacts0
theorem block_pos0 : ∀ w : Fin 10, 0 < (spec0 w).block.numel := same_spec0 ▸ KernelIdeal.Gen.block_pos0
theorem arr_whole0 : ∀ w : Fin 10, (spec0 w).arr.IsWhole := same_spec0 ▸ KernelIdeal.Gen.arr_whole0
theorem stage_whole0 : ∀ (w : Fin 10) (s : Fin (spec0 w).nbuf), ((spec0 w).stage s).IsWhole := same_spec0 ▸ KernelIdeal.Gen.stage_whole0
theorem launch0 : Pipeline.LaunchFacts (nD := nD) (τ := τ) cfgs 0 := ⟨cellOf_inj, winFacts0, block_pos0, arr_whole0, stage_whole0⟩

/-- But for their index maps, call 1's windows are the printed program's. -/
theorem same_spec1 : KernelIdeal.spec1 = spec1 := funext fun w => by fin_cases w <;> rfl
theorem winFacts1 : Pipeline.WinFacts spec1 := same_spec1 ▸ KernelIdeal.Gen.winFacts1
theorem block_pos1 : ∀ w : Fin 13, 0 < (spec1 w).block.numel := same_spec1 ▸ KernelIdeal.Gen.block_pos1
theorem arr_whole1 : ∀ w : Fin 13, (spec1 w).arr.IsWhole := same_spec1 ▸ KernelIdeal.Gen.arr_whole1
theorem stage_whole1 : ∀ (w : Fin 13) (s : Fin (spec1 w).nbuf), ((spec1 w).stage s).IsWhole := same_spec1 ▸ KernelIdeal.Gen.stage_whole1
theorem launch1 : Pipeline.LaunchFacts (nD := nD) (τ := τ) cfgs 1 := ⟨cellOf_inj, winFacts1, block_pos1, arr_whole1, stage_whole1⟩

/-- But for their index maps, call 2's windows are the printed program's. -/
theorem same_spec2 : KernelIdeal.spec2 = spec2 := funext fun w => by fin_cases w <;> rfl
theorem winFacts2 : Pipeline.WinFacts spec2 := same_spec2 ▸ KernelIdeal.Gen.winFacts2
theorem block_pos2 : ∀ w : Fin 5, 0 < (spec2 w).block.numel := same_spec2 ▸ KernelIdeal.Gen.block_pos2
theorem arr_whole2 : ∀ w : Fin 5, (spec2 w).arr.IsWhole := same_spec2 ▸ KernelIdeal.Gen.arr_whole2
theorem stage_whole2 : ∀ (w : Fin 5) (s : Fin (spec2 w).nbuf), ((spec2 w).stage s).IsWhole := same_spec2 ▸ KernelIdeal.Gen.stage_whole2
theorem launch2 : Pipeline.LaunchFacts (nD := nD) (τ := τ) cfgs 2 := ⟨cellOf_inj, winFacts2, block_pos2, arr_whole2, stage_whole2⟩

/-- But for their index maps, call 3's windows are the printed program's. -/
theorem same_spec3 : KernelIdeal.spec3 = spec3 := funext fun w => by fin_cases w <;> rfl
theorem winFacts3 : Pipeline.WinFacts spec3 := same_spec3 ▸ KernelIdeal.Gen.winFacts3
theorem block_pos3 : ∀ w : Fin 3, 0 < (spec3 w).block.numel := same_spec3 ▸ KernelIdeal.Gen.block_pos3
theorem arr_whole3 : ∀ w : Fin 3, (spec3 w).arr.IsWhole := same_spec3 ▸ KernelIdeal.Gen.arr_whole3
theorem stage_whole3 : ∀ (w : Fin 3) (s : Fin (spec3 w).nbuf), ((spec3 w).stage s).IsWhole := same_spec3 ▸ KernelIdeal.Gen.stage_whole3
theorem launch3 : Pipeline.LaunchFacts (nD := nD) (τ := τ) cfgs 3 := ⟨cellOf_inj, winFacts3, block_pos3, arr_whole3, stage_whole3⟩

/-- The scoped rest split at the scratch buffer. -/
theorem scopedRest0_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec0 c : sProp (MT nD τ sig Ix Val Name U Lvl))
      = iprop(iprop((∃ f : Buf Val ((c : Thread nD τ).loc cc0_scratch0), ((c : Thread nD τ).loc cc0_scratch0) ↦{fullShare} f))
          ∗ Pipeline.scopedRestBut (Ix := Ix) (Name := Name) (U := U) (Lvl := Lvl) (Val := Val) spec0 c [cc0_scratch0]) := by
  rw [← same_spec0]; exact KernelIdeal.Gen.scopedRest0_split c

/-- The unscoped rest of the backward call, buffer by buffer. -/
theorem unscopedRest1_eq {Ix : Type} [DecidableEq Ix] {Val : EltTy → Type} {Name : Type} [DecidableEq Name] {U : Type} [URA U] {Lvl : Type} (c : Dev nD) (V : (b : Ref sig .tc) → Buf Val ((c : Thread nD τ).loc b)) :
    (Pipeline.unscopedRest (Ix := Ix) (Name := Name) (U := U) (Lvl := Lvl) spec1 c V : sProp (MT nD τ sig Ix Val Name U Lvl))
      = iprop((((c : Thread nD τ).loc main_arg1) ↦{fullShare} V main_arg1) ∗ (((c : Thread nD τ).loc main_arg2) ↦{fullShare} V main_arg2) ∗ (((c : Thread nD τ).loc main_arg3) ↦{fullShare} V main_arg3) ∗ (((c : Thread nD τ).loc main_arg4) ↦{fullShare} V main_arg4) ∗ (((c : Thread nD τ).loc main_v0) ↦{fullShare} V main_v0) ∗ (((c : Thread nD τ).loc main_v1) ↦{fullShare} V main_v1) ∗ (((c : Thread nD τ).loc main_v3) ↦{fullShare} V main_v3) ∗ (((c : Thread nD τ).loc main_v4) ↦{fullShare} V main_v4) ∗ (((c : Thread nD τ).loc main_v6) ↦{fullShare} V main_v6) ∗ (((c : Thread nD τ).loc main_v7) ↦{fullShare} V main_v7) ∗ (((c : Thread nD τ).loc main_v9) ↦{fullShare} V main_v9) ∗ (((c : Thread nD τ).loc main_v11_0) ↦{fullShare} V main_v11_0) ∗ (((c : Thread nD τ).loc main_v11_1) ↦{fullShare} V main_v11_1) ∗ (((c : Thread nD τ).loc main_v11_4) ↦{fullShare} V main_v11_4) ∗ (((c : Thread nD τ).loc main_v13_0) ↦{fullShare} V main_v13_0) ∗ (((c : Thread nD τ).loc main_v13_1) ↦{fullShare} V main_v13_1) ∗ (((c : Thread nD τ).loc main_v14) ↦{fullShare} V main_v14) ∗ (((c : Thread nD τ).loc main_v15) ↦{fullShare} V main_v15) ∗ (((c : Thread nD τ).loc main_v16) ↦{fullShare} V main_v16) ∗ (((c : Thread nD τ).loc main_v17) ↦{fullShare} V main_v17) ∗ (((c : Thread nD τ).loc main_v18) ↦{fullShare} V main_v18) ∗ (((c : Thread nD τ).loc main_v19) ↦{fullShare} V main_v19) ∗ (((c : Thread nD τ).loc main_v20) ↦{fullShare} V main_v20)) := by
  rw [← same_spec1]; exact KernelIdeal.Gen.unscopedRest1_eq c V

/-- 11 host operations of @main, in order. -/
abbrev hostOps0 : List (HloOp τ sig (Elt F)) :=
  [ StableHlo.unary main_arg2 main_v0 ((truncf .bf16 · bitsLt_bf16_f32) : (⟨S4x2x1024x2816, .f32⟩ : BufTy).Contents (Elt F) → (⟨S4x2x1024x2816, .bf16⟩ : BufTy).Contents (Elt F)),
    StableHlo.reshape main_v0 main_v1 (rfl : (.bf16 : EltTy) = .bf16) shapeCasts_S4x2x1024x2816_S8x1024x4x704,
    StableHlo.unary main_v1 main_v2 ((transpose S4x8x1024x704 [2, 0, 1, 3] · transposes_S8x1024x4x704_S4x8x1024x704_2_0_1_3) : (⟨S8x1024x4x704, .bf16⟩ : BufTy).Contents (Elt F) → (⟨S4x8x1024x704, .bf16⟩ : BufTy).Contents (Elt F)),
    StableHlo.unary main_arg3 main_v3 ((truncf .bf16 · bitsLt_bf16_f32) : (⟨S4x2x1024x2816, .f32⟩ : BufTy).Contents (Elt F) → (⟨S4x2x1024x2816, .bf16⟩ : BufTy).Contents (Elt F)),
    StableHlo.reshape main_v3 main_v4 (rfl : (.bf16 : EltTy) = .bf16) shapeCasts_S4x2x1024x2816_S8x1024x4x704,
    StableHlo.unary main_v4 main_v5 ((transpose S4x8x1024x704 [2, 0, 1, 3] · transposes_S8x1024x4x704_S4x8x1024x704_2_0_1_3) : (⟨S8x1024x4x704, .bf16⟩ : BufTy).Contents (Elt F) → (⟨S4x8x1024x704, .bf16⟩ : BufTy).Contents (Elt F)),
    StableHlo.unary main_arg4 main_v6 ((truncf .bf16 · bitsLt_bf16_f32) : (⟨S4x2x2816x1024, .f32⟩ : BufTy).Contents (Elt F) → (⟨S4x2x2816x1024, .bf16⟩ : BufTy).Contents (Elt F)),
    StableHlo.reshape main_v6 main_v7 (rfl : (.bf16 : EltTy) = .bf16) shapeCasts_S4x2x2816x1024_S8x4x704x1024,
    StableHlo.unary main_v7 main_v8 ((transpose S4x8x704x1024 [1, 0, 2, 3] · transposes_S8x4x704x1024_S4x8x704x1024_1_0_2_3) : (⟨S8x4x704x1024, .bf16⟩ : BufTy).Contents (Elt F) → (⟨S4x8x704x1024, .bf16⟩ : BufTy).Contents (Elt F)),
    StableHlo.reshape main_arg1 main_v9 (rfl : (.f32 : EltTy) = .f32) shapeCasts_S4x2x1024_S8x1024,
    StableHlo.unary main_v9 main_v10 ((extractStridedSlice S1x1024 ![Half.e.val, 0] · sl10) : (⟨S8x1024, .f32⟩ : BufTy).Contents (Elt F) → (⟨S1x1024, .f32⟩ : BufTy).Contents (Elt F)) ]
/-- Each touches TensorCore references only (`HostSeg.ofOps` over `StableHlo.tcRefs`, or a subset by `sub_ucRefs`). -/
theorem hostOps0_sub : (hostOps0 : List (HloOp τ sig (Elt F))).Forall fun op => op.bufs ⊆ StableHlo.tcRefs τ sig :=
  ⟨StableHlo.unary_bufs_sub .., StableHlo.reshape_bufs_sub .., StableHlo.unary_bufs_sub .., StableHlo.unary_bufs_sub .., StableHlo.reshape_bufs_sub .., StableHlo.unary_bufs_sub .., StableHlo.unary_bufs_sub .., StableHlo.reshape_bufs_sub .., StableHlo.unary_bufs_sub .., StableHlo.reshape_bufs_sub .., StableHlo.unary_bufs_sub ..⟩
/-- 6 host operations of @main, in order. -/
abbrev hostOps4 : List (HloOp τ sig (Elt F)) :=
  [ StableHlo.unary main_v13_0 main_v15 ((extractStridedSlice S4x1x1024x704 ![0, Half.e.val, 0, 0] · sl15) : (⟨S4x8x1024x704, .f32⟩ : BufTy).Contents (Elt F) → (⟨S4x1x1024x704, .f32⟩ : BufTy).Contents (Elt F)),
    StableHlo.reshape main_v15 main_v16 (rfl : (.f32 : EltTy) = .f32) shapeCasts_S4x1x1024x704_S4x1024x704,
    StableHlo.unary main_v13_1 main_v17 ((extractStridedSlice S4x1x1024x704 ![0, Half.e.val, 0, 0] · sl15) : (⟨S4x8x1024x704, .f32⟩ : BufTy).Contents (Elt F) → (⟨S4x1x1024x704, .f32⟩ : BufTy).Contents (Elt F)),
    StableHlo.reshape main_v17 main_v18 (rfl : (.f32 : EltTy) = .f32) shapeCasts_S4x1x1024x704_S4x1024x704,
    StableHlo.unary main_v14 main_v19 ((extractStridedSlice S4x1x704x1024 ![0, Half.e.val, 0, 0] · sl19) : (⟨S4x8x704x1024, .f32⟩ : BufTy).Contents (Elt F) → (⟨S4x1x704x1024, .f32⟩ : BufTy).Contents (Elt F)),
    StableHlo.reshape main_v19 main_v20 (rfl : (.f32 : EltTy) = .f32) shapeCasts_S4x1x704x1024_S4x704x1024 ]
/-- Each touches TensorCore references only (`HostSeg.ofOps` over `StableHlo.tcRefs`, or a subset by `sub_ucRefs`). -/
theorem hostOps4_sub : (hostOps4 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.reshape_bufs_sub ..⟩
/-- `main` is the chain of its items (`Pipeline.chain`): operation stretches, regions, loops and branches in
    order, a module-local function called from it a stretch of its own. Each item aligned with the block's
    statements (`StableHlo.chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (Lib/Pipeline/Regions.lean § Aligning a block with its items). -/
theorem main_chain (c : Dev nD) : main (F := F) c = (Pipeline.chain
  [ StableHlo.seq hostOps0,
    Prog.lift (.customCall (Pipeline.entry 0) ()),
    Prog.lift (.customCall (Pipeline.entry 1) ()),
    Prog.lift (.customCall (Pipeline.entry 2) ()),
    Prog.lift (.customCall (Pipeline.entry 3) ()),
    StableHlo.seq hostOps4 ] : Prog (TpuEff nD τ sig (Elt F) (Pipeline.Sig Λ₀ (Fin 4) fun p => (pcfgs (F := F) p).Adm) .tc) PUnit) := by
  rewrite [StableHlo.chain_seq_cons, Pipeline.chain_cons, Pipeline.chain_cons, Pipeline.chain_cons, Pipeline.chain_cons, StableHlo.chain_seq_cons]
  chain_rfl

/-- @main is the run of the certificate's segments: its host segments over the `hostOpsJ` and its regions at
    pipelines 0, 1, 2, 3, in @main's order (`Pipeline.Seg.run`; `θ_run_regions_kit`'s `hmain` by
    `fun c Q => by rw [Gen.main_segs …]`). -/
theorem main_segs {Ix : Type} [DecidableEq Ix] {Name : Type} [DecidableEq Name] {U : Type} [URA U] {Lvl : Type} [Preorder Lvl]
    (a : (p : Fin 4) → (pcfgs (F := F) p).Adm) (pdats : (p : Fin 4) → (c : Dev nD) → Pipeline.Dat τ (Elt F) Ix Name U Lvl (Pipeline.pin (pcfgs (F := F)) a p) c)
    (ι : Ix) (𝒱 : Variants) (L : GSem nD τ sig → Finset Ix) (lv : GSem nD τ sig → Ix → Lvl)
    (H0 : Pipeline.HostSeg (Ix := Ix) (Name := Name) (U := U) (Lvl := Lvl) (pcfgs (F := F)) defs₀ 𝒱 L lv) (H4 : Pipeline.HostSeg (Ix := Ix) (Name := Name) (U := U) (Lvl := Lvl) (pcfgs (F := F)) defs₀ 𝒱 L lv)
    (R0 : Pipeline.RegionSeg (pcfgs (F := F)) a pdats ι defs₀ 𝒱 L lv 0) (R1 : Pipeline.RegionSeg (pcfgs (F := F)) a pdats ι defs₀ 𝒱 L lv 1) (R2 : Pipeline.RegionSeg (pcfgs (F := F)) a pdats ι defs₀ 𝒱 L lv 2) (R3 : Pipeline.RegionSeg (pcfgs (F := F)) a pdats ι defs₀ 𝒱 L lv 3)
    (h0 : H0.prog = StableHlo.seq hostOps0) (h4 : H4.prog = StableHlo.seq hostOps4)
    (c : Dev nD) :
    main c = Pipeline.Seg.run [.host H0, .region R0, .region R1, .region R2, .region R3, .host H4] := by
  simp only [Pipeline.Seg.run]
  rw [h0, h4]
  rfl

end Cert.HalfFFN

end
-- ==== Proof.LayerPoints.lean ====
/- The points of the four grids at which each block is fetched and written back, with the half layer left open. -/
module

public import proofs.«01_k».proof.Proof.LayerText
public import Idealize.ShloMosaic.Lib.Pipeline.Kit

@[expose] public section

noncomputable section

namespace Cert.HalfFFN

open Cert.KernelIdeal Cert.KernelIdeal.Gen
open Idealize.ShloMosaic Idealize.ShloMosaic.TcCoe
open Idealize.SL Idealize.SL.Sem

variable {F : FTy → Type} [FloatOps F] [Half]
/-! ## custom_call 0 -/

/-- Window 0 (operand 0 (%arg0)) is fetched at the points ≡ 0 (mod 4). -/
theorem fetch0_0 : ∀ t : Fin cfg0.N, (cfg0.win 0).fetch t = true ↔ t.val % 4 = 0 :=
  (fun t => Pipeline.Window.fetch_reads win0_0 rfl 0 (by decide) (by decide) (Pipeline.Window.sep_of_coord cc0_transform_0 0 0 (fun _ => rfl) (by decide)) (P := 4) (by decide) t : ∀ t : Fin grid0.N, win0_0.fetch t = true ↔ t.val % 4 = 0)
/-- Window 1 (operand 1 (%10)) is fetched at the first point only. -/
theorem fetch0_1 : ∀ t : Fin cfg0.N, (cfg0.win 1).fetch t = true ↔ t.val % 32 = 0 :=
  (fun t => Pipeline.Window.fetch_const win0_1 rfl (fun _ _ => rfl) (n := 32) (by decide) t : ∀ t : Fin grid0.N, win0_1.fetch t = true ↔ t.val % 32 = 0)
/-- Window 2 (operand 2 (%2)) is fetched at every point. -/
theorem fetch0_2 : ∀ t : Fin cfg0.N, (cfg0.win 2).fetch t = true :=
  (fun t => (Pipeline.Window.fetch_reads win0_2 rfl 1 (by decide) (by change grid0.fixedAfter reads0_2 _ = true; decide) (Pipeline.Window.sep_of_coord cc0_transform_2 1 0 (fun _ => rfl) (by decide)) (P := 1) (by decide) t).mpr (Nat.mod_one _) : ∀ t : Fin grid0.N, win0_2.fetch t = true)
/-- Window 3 (operand 3 (%5)) is fetched at every point. -/
theorem fetch0_3 : ∀ t : Fin cfg0.N, (cfg0.win 3).fetch t = true :=
  (fun t => (Pipeline.Window.fetch_reads win0_3 rfl 1 (by decide) (by change grid0.fixedAfter reads0_3 _ = true; decide) (Pipeline.Window.sep_of_coord cc0_transform_3 1 0 (fun _ => rfl) (by decide)) (P := 1) (by decide) t).mpr (Nat.mod_one _) : ∀ t : Fin grid0.N, win0_3.fetch t = true)
/-- Window 4 (operand 4 (%8)) is fetched at every point. -/
theorem fetch0_4 : ∀ t : Fin cfg0.N, (cfg0.win 4).fetch t = true :=
  (fun t => (Pipeline.Window.fetch_reads win0_4 rfl 1 (by decide) (by change grid0.fixedAfter reads0_4 _ = true; decide) (Pipeline.Window.sep_of_coord cc0_transform_4 1 0 (fun _ => rfl) (by decide)) (P := 1) (by decide) t).mpr (Nat.mod_one _) : ∀ t : Fin grid0.N, win0_4.fetch t = true)
/-- Window 5 (result 0 (%11#0)) is written back at the points ≡ 3 (mod 4). -/
theorem flush0_5 : ∀ t : Fin cfg0.N, (cfg0.win 5).flush t = true ↔ t.val % 4 = 3 :=
  (fun t => Pipeline.Window.flush_reads win0_5 rfl 0 (by decide) (by decide) (Pipeline.Window.sep_of_coord cc0_transform_5 0 0 (fun _ => rfl) (by decide)) (P := 4) (m := 3) (by decide) rfl t : ∀ t : Fin grid0.N, win0_5.flush t = true ↔ t.val % 4 = 3)
/-- Window 6 (result 1 (%11#1)) is written back at the points ≡ 3 (mod 4). -/
theorem flush0_6 : ∀ t : Fin cfg0.N, (cfg0.win 6).flush t = true ↔ t.val % 4 = 3 :=
  (fun t => Pipeline.Window.flush_reads win0_6 rfl 0 (by decide) (by decide) (Pipeline.Window.sep_of_coord cc0_transform_6 0 0 (fun _ => rfl) (by decide)) (P := 4) (m := 3) (by decide) rfl t : ∀ t : Fin grid0.N, win0_6.flush t = true ↔ t.val % 4 = 3)
/-- Window 7 (result 2 (%11#2)) is written back at every point. -/
theorem flush0_7 : ∀ t : Fin cfg0.N, (cfg0.win 7).flush t = true :=
  (fun t => (Pipeline.Window.flush_reads win0_7 rfl 1 (by decide) (by decide) (Pipeline.Window.sep_of_coord cc0_transform_7 1 0 (fun _ => rfl) (by decide)) (P := 1) (m := 0) (by decide) rfl t).mpr (Nat.mod_one _) : ∀ t : Fin grid0.N, win0_7.flush t = true)
/-- Window 8 (result 3 (%11#3)) is written back at every point. -/
theorem flush0_8 : ∀ t : Fin cfg0.N, (cfg0.win 8).flush t = true :=
  (fun t => (Pipeline.Window.flush_reads win0_8 rfl 1 (by decide) (by decide) (Pipeline.Window.sep_of_coord cc0_transform_8 1 0 (fun _ => rfl) (by decide)) (P := 1) (m := 0) (by decide) rfl t).mpr (Nat.mod_one _) : ∀ t : Fin grid0.N, win0_8.flush t = true)
/-- Window 9 (result 4 (%11#4)) is written back at every point. -/
theorem flush0_9 : ∀ t : Fin cfg0.N, (cfg0.win 9).flush t = true :=
  (fun t => (Pipeline.Window.flush_reads win0_9 rfl 1 (by decide) (by decide) (Pipeline.Window.sep_of_coord cc0_transform_9 1 0 (fun _ => rfl) (by decide)) (P := 1) (m := 0) (by decide) rfl t).mpr (Nat.mod_one _) : ∀ t : Fin grid0.N, win0_9.flush t = true)

/-- The current staging memref of each window at point `t`: which of its buffers it is on. -/
abbrev st0_0 (t : Fin cfg0.N) := (cfg0.win 0).stage (cfg0.slots t 0)
abbrev st0_1 (t : Fin cfg0.N) := (cfg0.win 1).stage (cfg0.slots t 1)
abbrev st0_2 (t : Fin cfg0.N) := (cfg0.win 2).stage (cfg0.slots t 2)
abbrev st0_3 (t : Fin cfg0.N) := (cfg0.win 3).stage (cfg0.slots t 3)
abbrev st0_4 (t : Fin cfg0.N) := (cfg0.win 4).stage (cfg0.slots t 4)
abbrev st0_5 (t : Fin cfg0.N) := (cfg0.win 5).stage (cfg0.slots t 5)
abbrev st0_6 (t : Fin cfg0.N) := (cfg0.win 6).stage (cfg0.slots t 6)
abbrev st0_7 (t : Fin cfg0.N) := (cfg0.win 7).stage (cfg0.slots t 7)
abbrev st0_8 (t : Fin cfg0.N) := (cfg0.win 8).stage (cfg0.slots t 8)
abbrev st0_9 (t : Fin cfg0.N) := (cfg0.win 9).stage (cfg0.slots t 9)

/-- The kernel body at point `t`, on what the pipeline calls it with (`defs₀`'s row at the slots). -/
abbrev bodyAt0 (t : Fin cfg0.N) : Prog (TpuEff nD τ sig (Elt F) Λ₀ .tc) PUnit :=
  cc0_ffn_fwd (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _)

/-! ## custom_call 1 -/

/-- Window 0 (operand 0 (%arg0)) is fetched at the points ≡ 0 (mod 4). -/
theorem fetch1_0 : ∀ t : Fin cfg1.N, (cfg1.win 0).fetch t = true ↔ t.val % 4 = 0 :=
  (fun t => Pipeline.Window.fetch_reads win1_0 rfl 0 (by decide) (by decide) (Pipeline.Window.sep_of_coord cc1_transform_0 0 0 (fun _ => rfl) (by decide)) (P := 4) (by decide) t : ∀ t : Fin grid1.N, win1_0.fetch t = true ↔ t.val % 4 = 0)
/-- Window 1 (operand 1 (%10)) is fetched at the first point only. -/
theorem fetch1_1 : ∀ t : Fin cfg1.N, (cfg1.win 1).fetch t = true ↔ t.val % 64 = 0 :=
  (fun t => Pipeline.Window.fetch_const win1_1 rfl (fun _ _ => rfl) (n := 64) (by decide) t : ∀ t : Fin grid1.N, win1_1.fetch t = true ↔ t.val % 64 = 0)
/-- Window 2 (operand 2 (%arg5)) is fetched at the points ≡ 0 (mod 4). -/
theorem fetch1_2 : ∀ t : Fin cfg1.N, (cfg1.win 2).fetch t = true ↔ t.val % 4 = 0 :=
  (fun t => Pipeline.Window.fetch_reads win1_2 rfl 0 (by decide) (by decide) (Pipeline.Window.sep_of_coord cc1_transform_2 0 0 (fun _ => rfl) (by decide)) (P := 4) (by decide) t : ∀ t : Fin grid1.N, win1_2.fetch t = true ↔ t.val % 4 = 0)
/-- Window 3 (operand 3 (%11#2)) is fetched at every point. -/
theorem fetch1_3 : ∀ t : Fin cfg1.N, (cfg1.win 3).fetch t = true :=
  (fun t => (Pipeline.Window.fetch_reads win1_3 rfl 1 (by decide) (by decide) (Pipeline.Window.sep_of_coord cc1_transform_3 1 0 (fun _ => rfl) (by decide)) (P := 1) (by decide) t).mpr (Nat.mod_one _) : ∀ t : Fin grid1.N, win1_3.fetch t = true)
/-- Window 4 (operand 4 (%11#3)) is fetched at every point. -/
theorem fetch1_4 : ∀ t : Fin cfg1.N, (cfg1.win 4).fetch t = true :=
  (fun t => (Pipeline.Window.fetch_reads win1_4 rfl 1 (by decide) (by decide) (Pipeline.Window.sep_of_coord cc1_transform_4 1 0 (fun _ => rfl) (by decide)) (P := 1) (by decide) t).mpr (Nat.mod_one _) : ∀ t : Fin grid1.N, win1_4.fetch t = true)
/-- Window 5 (operand 5 (%2)) is fetched at every point. -/
theorem fetch1_5 : ∀ t : Fin cfg1.N, (cfg1.win 5).fetch t = true :=
  (fun t => (Pipeline.Window.fetch_reads win1_5 rfl 1 (by decide) (by change grid1.fixedAfter reads1_5 _ = true; decide) (Pipeline.Window.sep_of_coord cc1_transform_5 1 0 (fun _ => rfl) (by decide)) (P := 1) (by decide) t).mpr (Nat.mod_one _) : ∀ t : Fin grid1.N, win1_5.fetch t = true)
/-- Window 6 (operand 6 (%5)) is fetched at every point. -/
theorem fetch1_6 : ∀ t : Fin cfg1.N, (cfg1.win 6).fetch t = true :=
  (fun t => (Pipeline.Window.fetch_reads win1_6 rfl 1 (by decide) (by change grid1.fixedAfter reads1_6 _ = true; decide) (Pipeline.Window.sep_of_coord cc1_transform_6 1 0 (fun _ => rfl) (by decide)) (P := 1) (by decide) t).mpr (Nat.mod_one _) : ∀ t : Fin grid1.N, win1_6.fetch t = true)
/-- Window 7 (operand 7 (%8)) is fetched at every point. -/
theorem fetch1_7 : ∀ t : Fin cfg1.N, (cfg1.win 7).fetch t = true :=
  (fun t => (Pipeline.Window.fetch_reads win1_7 rfl 1 (by decide) (by change grid1.fixedAfter reads1_7 _ = true; decide) (Pipeline.Window.sep_of_coord cc1_transform_7 1 0 (fun _ => rfl) (by decide)) (P := 1) (by decide) t).mpr (Nat.mod_one _) : ∀ t : Fin grid1.N, win1_7.fetch t = true)
/-- Window 8 (result 0 (%12#0)) is written back at the points ≡ 3 (mod 4). -/
theorem flush1_8 : ∀ t : Fin cfg1.N, (cfg1.win 8).flush t = true ↔ t.val % 4 = 3 :=
  (fun t => Pipeline.Window.flush_reads win1_8 rfl 0 (by decide) (by decide) (Pipeline.Window.sep_of_coord cc1_transform_8 0 0 (fun _ => rfl) (by decide)) (P := 4) (m := 3) (by decide) rfl t : ∀ t : Fin grid1.N, win1_8.flush t = true ↔ t.val % 4 = 3)
/-- Window 9 (result 1 (%12#1)) is written back at every point. -/
theorem flush1_9 : ∀ t : Fin cfg1.N, (cfg1.win 9).flush t = true :=
  (fun t => (Pipeline.Window.flush_reads win1_9 rfl 1 (by decide) (by decide) (Pipeline.Window.sep_of_coord cc1_transform_9 1 0 (fun _ => rfl) (by decide)) (P := 1) (m := 0) (by decide) rfl t).mpr (Nat.mod_one _) : ∀ t : Fin grid1.N, win1_9.flush t = true)
/-- Window 10 (result 2 (%12#2)) is written back at every point. -/
theorem flush1_10 : ∀ t : Fin cfg1.N, (cfg1.win 10).flush t = true :=
  (fun t => (Pipeline.Window.flush_reads win1_10 rfl 1 (by decide) (by decide) (Pipeline.Window.sep_of_coord cc1_transform_10 1 0 (fun _ => rfl) (by decide)) (P := 1) (m := 0) (by decide) rfl t).mpr (Nat.mod_one _) : ∀ t : Fin grid1.N, win1_10.flush t = true)
/-- Window 11 (result 3 (%12#3)) is written back at the points ≡ 3 (mod 4). -/
theorem flush1_11 : ∀ t : Fin cfg1.N, (cfg1.win 11).flush t = true ↔ t.val % 4 = 3 :=
  (fun t => Pipeline.Window.flush_reads win1_11 rfl 0 (by decide) (by decide) (Pipeline.Window.sep_of_coord cc1_transform_11 0 0 (fun _ => rfl) (by decide)) (P := 4) (m := 3) (by decide) rfl t : ∀ t : Fin grid1.N, win1_11.flush t = true ↔ t.val % 4 = 3)
/-- Window 12 (result 4 (%12#4)) is written back at the last point only. -/
theorem flush1_12 : ∀ t : Fin cfg1.N, (cfg1.win 12).flush t = true ↔ t.val % 64 = 63 :=
  (fun t => Pipeline.Window.flush_const win1_12 rfl (fun _ _ => rfl) (n := 64) (by decide) rfl t : ∀ t : Fin grid1.N, win1_12.flush t = true ↔ t.val % 64 = 63)

/-- The current staging memref of each window at point `t`: which of its buffers it is on. -/
abbrev st1_0 (t : Fin cfg1.N) := (cfg1.win 0).stage (cfg1.slots t 0)
abbrev st1_1 (t : Fin cfg1.N) := (cfg1.win 1).stage (cfg1.slots t 1)
abbrev st1_2 (t : Fin cfg1.N) := (cfg1.win 2).stage (cfg1.slots t 2)
abbrev st1_3 (t : Fin cfg1.N) := (cfg1.win 3).stage (cfg1.slots t 3)
abbrev st1_4 (t : Fin cfg1.N) := (cfg1.win 4).stage (cfg1.slots t 4)
abbrev st1_5 (t : Fin cfg1.N) := (cfg1.win 5).stage (cfg1.slots t 5)
abbrev st1_6 (t : Fin cfg1.N) := (cfg1.win 6).stage (cfg1.slots t 6)
abbrev st1_7 (t : Fin cfg1.N) := (cfg1.win 7).stage (cfg1.slots t 7)
abbrev st1_8 (t : Fin cfg1.N) := (cfg1.win 8).stage (cfg1.slots t 8)
abbrev st1_9 (t : Fin cfg1.N) := (cfg1.win 9).stage (cfg1.slots t 9)
abbrev st1_10 (t : Fin cfg1.N) := (cfg1.win 10).stage (cfg1.slots t 10)
abbrev st1_11 (t : Fin cfg1.N) := (cfg1.win 11).stage (cfg1.slots t 11)
abbrev st1_12 (t : Fin cfg1.N) := (cfg1.win 12).stage (cfg1.slots t 12)

/-- The kernel body at point `t`, on what the pipeline calls it with (`defs₀`'s row at the slots). -/
abbrev bodyAt1 (t : Fin cfg1.N) : Prog (TpuEff nD τ sig (Elt F) Λ₀ .tc) PUnit :=
  cc1_ffn_bwd_dx (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (win1_11.stage (cfg1.slots t 11)) (hstage1_11 ((cfg1.slots t 11).cast nbuf1_11)) (win1_12.stage (cfg1.slots t 12)) (hstage1_12 ((cfg1.slots t 12).cast nbuf1_12))

/-! ## custom_call 2 -/

/-- Window 0 (operand 0 (%11#1)) is fetched at every point. -/
theorem fetch2_0 : ∀ t : Fin cfg2.N, (cfg2.win 0).fetch t = true :=
  (fun t => (Pipeline.Window.fetch_reads win2_0 rfl 1 (by decide) (by decide) (Pipeline.Window.sep_of_coord cc2_transform_0 1 0 (fun _ => rfl) (by decide)) (P := 1) (by decide) t).mpr (Nat.mod_one _) : ∀ t : Fin grid2.N, win2_0.fetch t = true)
/-- Window 1 (operand 1 (%12#1)) is fetched at every point. -/
theorem fetch2_1 : ∀ t : Fin cfg2.N, (cfg2.win 1).fetch t = true :=
  (fun t => (Pipeline.Window.fetch_reads win2_1 rfl 1 (by decide) (by decide) (Pipeline.Window.sep_of_coord cc2_transform_1 1 1 (fun _ => rfl) (by decide)) (P := 1) (by decide) t).mpr (Nat.mod_one _) : ∀ t : Fin grid2.N, win2_1.fetch t = true)
/-- Window 2 (operand 2 (%12#2)) is fetched at every point. -/
theorem fetch2_2 : ∀ t : Fin cfg2.N, (cfg2.win 2).fetch t = true :=
  (fun t => (Pipeline.Window.fetch_reads win2_2 rfl 1 (by decide) (by decide) (Pipeline.Window.sep_of_coord cc2_transform_2 1 1 (fun _ => rfl) (by decide)) (P := 1) (by decide) t).mpr (Nat.mod_one _) : ∀ t : Fin grid2.N, win2_2.fetch t = true)
/-- Window 3 (result 0 (%13#0)) is written back at the points ≡ 3 (mod 4). -/
theorem flush2_3 : ∀ t : Fin cfg2.N, (cfg2.win 3).flush t = true ↔ t.val % 4 = 3 :=
  (fun t => Pipeline.Window.flush_reads win2_3 rfl 0 (by decide) (by change grid2.fixedAfter reads2_3 _ = true; decide) (Pipeline.Window.sep_of_coord cc2_transform_3 0 0 (fun _ => rfl) (by decide)) (P := 4) (m := 3) (by decide) rfl t : ∀ t : Fin grid2.N, win2_3.flush t = true ↔ t.val % 4 = 3)
/-- Window 4 (result 1 (%13#1)) is written back at the points ≡ 3 (mod 4). -/
theorem flush2_4 : ∀ t : Fin cfg2.N, (cfg2.win 4).flush t = true ↔ t.val % 4 = 3 :=
  (fun t => Pipeline.Window.flush_reads win2_4 rfl 0 (by decide) (by change grid2.fixedAfter reads2_4 _ = true; decide) (Pipeline.Window.sep_of_coord cc2_transform_4 0 0 (fun _ => rfl) (by decide)) (P := 4) (m := 3) (by decide) rfl t : ∀ t : Fin grid2.N, win2_4.flush t = true ↔ t.val % 4 = 3)

/-- The current staging memref of each window at point `t`: which of its buffers it is on. -/
abbrev st2_0 (t : Fin cfg2.N) := (cfg2.win 0).stage (cfg2.slots t 0)
abbrev st2_1 (t : Fin cfg2.N) := (cfg2.win 1).stage (cfg2.slots t 1)
abbrev st2_2 (t : Fin cfg2.N) := (cfg2.win 2).stage (cfg2.slots t 2)
abbrev st2_3 (t : Fin cfg2.N) := (cfg2.win 3).stage (cfg2.slots t 3)
abbrev st2_4 (t : Fin cfg2.N) := (cfg2.win 4).stage (cfg2.slots t 4)

/-- The kernel body at point `t`, on what the pipeline calls it with (`defs₀`'s row at the slots). -/
abbrev bodyAt2 (t : Fin cfg2.N) : Prog (TpuEff nD τ sig (Elt F) Λ₀ .tc) PUnit :=
  cc2_ffn_dwgu (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4))

/-! ## custom_call 3 -/

/-- Window 0 (operand 0 (%11#4)) is fetched at every point. -/
theorem fetch3_0 : ∀ t : Fin cfg3.N, (cfg3.win 0).fetch t = true :=
  (fun t => (Pipeline.Window.fetch_reads win3_0 rfl 1 (by decide) (by decide) (Pipeline.Window.sep_of_coord cc3_transform_0 1 1 (fun _ => rfl) (by decide)) (P := 1) (by decide) t).mpr (Nat.mod_one _) : ∀ t : Fin grid3.N, win3_0.fetch t = true)
/-- Window 1 (operand 1 (%12#3)) is fetched at every point. -/
theorem fetch3_1 : ∀ t : Fin cfg3.N, (cfg3.win 1).fetch t = true :=
  (fun t => (Pipeline.Window.fetch_reads win3_1 rfl 1 (by decide) (by decide) (Pipeline.Window.sep_of_coord cc3_transform_1 1 0 (fun _ => rfl) (by decide)) (P := 1) (by decide) t).mpr (Nat.mod_one _) : ∀ t : Fin grid3.N, win3_1.fetch t = true)
/-- Window 2 (result 0 (%14)) is written back at the points ≡ 1 (mod 2). -/
theorem flush3_2 : ∀ t : Fin cfg3.N, (cfg3.win 2).flush t = true ↔ t.val % 2 = 1 :=
  (fun t => Pipeline.Window.flush_reads win3_2 rfl 0 (by decide) (by change grid3.fixedAfter reads3_2 _ = true; decide) (Pipeline.Window.sep_of_coord cc3_transform_2 0 0 (fun _ => rfl) (by decide)) (P := 2) (m := 1) (by decide) rfl t : ∀ t : Fin grid3.N, win3_2.flush t = true ↔ t.val % 2 = 1)

/-- The current staging memref of each window at point `t`: which of its buffers it is on. -/
abbrev st3_0 (t : Fin cfg3.N) := (cfg3.win 0).stage (cfg3.slots t 0)
abbrev st3_1 (t : Fin cfg3.N) := (cfg3.win 1).stage (cfg3.slots t 1)
abbrev st3_2 (t : Fin cfg3.N) := (cfg3.win 2).stage (cfg3.slots t 2)

/-- The kernel body at point `t`, on what the pipeline calls it with (`defs₀`'s row at the slots). -/
abbrev bodyAt3 (t : Fin cfg3.N) : Prog (TpuEff nD τ sig (Elt F) Λ₀ .tc) PUnit :=
  cc3_ffn_dwd (grid3.coords t) (win3_0.stage (cfg3.slots t 0)) (hstage3_0 ((cfg3.slots t 0).cast nbuf3_0)) (win3_1.stage (cfg3.slots t 1)) (hstage3_1 ((cfg3.slots t 1).cast nbuf3_1)) (win3_2.stage (cfg3.slots t 2)) (hstage3_2 ((cfg3.slots t 2).cast nbuf3_2))

end Cert.HalfFFN

end
-- ==== Proof.LayerRegions.lean ====
/- The half layer's host program as a chain of host stretches and calls, with the half layer left open. -/
module

public import proofs.«01_k».proof.Proof.LayerLaunch
public import Idealize.ShloMosaic.Lib.Pipeline.Frame
public import Idealize.ShloMosaic.Lib.Pipeline.Regions

@[expose] public section

noncomputable section

namespace Cert.HalfFFN

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Half]

/-! ## The buffers' contents between items -/

/-- What the regions leave in the unscoped buffers they may change (a region's output windows' arrays and its operands
    left in HBM that are no argument), per core: the unknowns the valuations below are written over — `outs J r c`, the
    contents of `r` on core `c` after item J−1, read only at these points:
    * `outs 2 main_v11_0`: what region 0 (custom_call 0), item 1, leaves in `main_v11_0`
    * `outs 2 main_v11_1`: what region 0 (custom_call 0), item 1, leaves in `main_v11_1`
    * `outs 2 main_v11_2`: what region 0 (custom_call 0), item 1, leaves in `main_v11_2`
    * `outs 2 main_v11_3`: what region 0 (custom_call 0), item 1, leaves in `main_v11_3`
    * `outs 2 main_v11_4`: what region 0 (custom_call 0), item 1, leaves in `main_v11_4`
    * `outs 3 main_v12_0`: what region 1 (custom_call 1), item 2, leaves in `main_v12_0`
    * `outs 3 main_v12_1`: what region 1 (custom_call 1), item 2, leaves in `main_v12_1`
    * `outs 3 main_v12_2`: what region 1 (custom_call 1), item 2, leaves in `main_v12_2`
    * `outs 3 main_v12_3`: what region 1 (custom_call 1), item 2, leaves in `main_v12_3`
    * `outs 3 main_v12_4`: what region 1 (custom_call 1), item 2, leaves in `main_v12_4`
    * `outs 4 main_v13_0`: what region 2 (custom_call 2), item 3, leaves in `main_v13_0`
    * `outs 4 main_v13_1`: what region 2 (custom_call 2), item 3, leaves in `main_v13_1`
    * `outs 5 main_v14`: what region 3 (custom_call 3), item 4, leaves in `main_v14` -/
abbrev Outs : Type := ℕ → (r : Ref sig .tc) → (c : Dev nD) → Buf (Elt F) ((c : Thread nD τ).loc r)

variable (m : (ℓ : Loc nD τ sig) → Buf (Elt F) ℓ) (outs : Outs (F := F))

/-- Core `c`'s unscoped buffers at launch. -/
abbrev V0 (c : Dev nD) : Valuation τ sig (Elt F) := fun b => m (c, b)
/-- Core `c`'s unscoped buffers after item 0, the host stretch `hostOps0`. -/
abbrev V1 (c : Dev nD) : Valuation τ sig (Elt F) := StableHlo.after hostOps0 (V0 m c)
/-- Core `c`'s unscoped buffers after item 1, region 0 (custom_call 0), which may change `main_v11_0`, `main_v11_1`, `main_v11_2`, `main_v11_3`, `main_v11_4`. -/
abbrev V2 (c : Dev nD) : Valuation τ sig (Elt F) := Function.update (Function.update (Function.update (Function.update (Function.update (V1 m c) main_v11_0 (outs 2 main_v11_0 c)) main_v11_1 (outs 2 main_v11_1 c)) main_v11_2 (outs 2 main_v11_2 c)) main_v11_3 (outs 2 main_v11_3 c)) main_v11_4 (outs 2 main_v11_4 c)
/-- Core `c`'s unscoped buffers after item 2, region 1 (custom_call 1), which may change `main_v12_0`, `main_v12_1`, `main_v12_2`, `main_v12_3`, `main_v12_4`. -/
abbrev V3 (c : Dev nD) : Valuation τ sig (Elt F) := Function.update (Function.update (Function.update (Function.update (Function.update (V2 m outs c) main_v12_0 (outs 3 main_v12_0 c)) main_v12_1 (outs 3 main_v12_1 c)) main_v12_2 (outs 3 main_v12_2 c)) main_v12_3 (outs 3 main_v12_3 c)) main_v12_4 (outs 3 main_v12_4 c)
/-- Core `c`'s unscoped buffers after item 3, region 2 (custom_call 2), which may change `main_v13_0`, `main_v13_1`. -/
abbrev V4 (c : Dev nD) : Valuation τ sig (Elt F) := Function.update (Function.update (V3 m outs c) main_v13_0 (outs 4 main_v13_0 c)) main_v13_1 (outs 4 main_v13_1 c)
/-- Core `c`'s unscoped buffers after item 4, region 3 (custom_call 3), which may change `main_v14`. -/
abbrev V5 (c : Dev nD) : Valuation τ sig (Elt F) := Function.update (V4 m outs c) main_v14 (outs 5 main_v14 c)
/-- Core `c`'s unscoped buffers after item 5, the host stretch `hostOps4`. -/
abbrev V6 (c : Dev nD) : Valuation τ sig (Elt F) := StableHlo.after hostOps4 (V5 m outs c)

/-! ## What the host stretches write -/

theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4, main_v5, main_v6, main_v7, main_v8, main_v9, main_v10]
theorem hostOps0_writes : (hostOps0 : List (HloOp τ sig (Elt F))).Forall fun op => op.writes ⊆ (hostOps0_W.map (Proc.devRef (τ := τ) .tc)).toFinset :=
  StableHlo.forall_writes_sub_of_map rfl
theorem hostOps4_fresh : (hostOps4 : List (HloOp τ sig (Elt F))).Forall fun op => op.fresh = ∅ := by
  simp only [List.Forall]; repeat' constructor
/-- The reference each operation of `hostOps4` writes, in order. -/
abbrev hostOps4_W : List (Ref sig .tc) := [main_v15, main_v16, main_v17, main_v18, main_v19, main_v20]
theorem hostOps4_writes : (hostOps4 : List (HloOp τ sig (Elt F))).Forall fun op => op.writes ⊆ (hostOps4_W.map (Proc.devRef (τ := τ) .tc)).toFinset :=
  StableHlo.forall_writes_sub_of_map rfl

/-! ## What each item leaves unchanged -/

theorem V1_of (c : Dev nD) (r : Ref sig .tc) (h : r ∉ hostOps0_W) : V1 m c r = V0 m c r :=
  StableHlo.after_of_writes_sub hostOps0 _ hostOps0_writes h
theorem V2_of (c : Dev nD) (r : Ref sig .tc) (h : r ∉ ([main_v11_0, main_v11_1, main_v11_2, main_v11_3, main_v11_4] : List (Ref sig .tc))) : V2 m outs c r = V1 m c r := by
  simp only [V2, Function.update_of_ne (StableHlo.devRef_ne_of_ne (List.ne_of_not_mem_cons h) : (Proc.devRef .tc r : DevRef τ sig) ≠ Proc.devRef .tc main_v11_0), Function.update_of_ne (StableHlo.devRef_ne_of_ne (List.ne_of_not_mem_cons (List.not_mem_of_not_mem_cons h)) : (Proc.devRef .tc r : DevRef τ sig) ≠ Proc.devRef .tc main_v11_1), Function.update_of_ne (StableHlo.devRef_ne_of_ne (List.ne_of_not_mem_cons (List.not_mem_of_not_mem_cons (List.not_mem_of_not_mem_cons h))) : (Proc.devRef .tc r : DevRef τ sig) ≠ Proc.devRef .tc main_v11_2), Function.update_of_ne (StableHlo.devRef_ne_of_ne (List.ne_of_not_mem_cons (List.not_mem_of_not_mem_cons (List.not_mem_of_not_mem_cons (List.not_mem_of_not_mem_cons h)))) : (Proc.devRef .tc r : DevRef τ sig) ≠ Proc.devRef .tc main_v11_3), Function.update_of_ne (StableHlo.devRef_ne_of_ne (List.ne_of_not_mem_cons (List.not_mem_of_not_mem_cons (List.not_mem_of_not_mem_cons (List.not_mem_of_not_mem_cons (List.not_mem_of_not_mem_cons h))))) : (Proc.devRef .tc r : DevRef τ sig) ≠ Proc.devRef .tc main_v11_4)]
theorem V3_of (c : Dev nD) (r : Ref sig .tc) (h : r ∉ ([main_v12_0, main_v12_1, main_v12_2, main_v12_3, main_v12_4] : List (Ref sig .tc))) : V3 m outs c r = V2 m outs c r := by
  simp only [V3, Function.update_of_ne (StableHlo.devRef_ne_of_ne (List.ne_of_not_mem_cons h) : (Proc.devRef .tc r : DevRef τ sig) ≠ Proc.devRef .tc main_v12_0), Function.update_of_ne (StableHlo.devRef_ne_of_ne (List.ne_of_not_mem_cons (List.not_mem_of_not_mem_cons h)) : (Proc.devRef .tc r : DevRef τ sig) ≠ Proc.devRef .tc main_v12_1), Function.update_of_ne (StableHlo.devRef_ne_of_ne (List.ne_of_not_mem_cons (List.not_mem_of_not_mem_cons (List.not_mem_of_not_mem_cons h))) : (Proc.devRef .tc r : DevRef τ sig) ≠ Proc.devRef .tc main_v12_2), Function.update_of_ne (StableHlo.devRef_ne_of_ne (List.ne_of_not_mem_cons (List.not_mem_of_not_mem_cons (List.not_mem_of_not_mem_cons (List.not_mem_of_not_mem_cons h)))) : (Proc.devRef .tc r : DevRef τ sig) ≠ Proc.devRef .tc main_v12_3), Function.update_of_ne (StableHlo.devRef_ne_of_ne (List.ne_of_not_mem_cons (List.not_mem_of_not_mem_cons (List.not_mem_of_not_mem_cons (List.not_mem_of_not_mem_cons (List.not_mem_of_not_mem_cons h))))) : (Proc.devRef .tc r : DevRef τ sig) ≠ Proc.devRef .tc main_v12_4)]
theorem V4_of (c : Dev nD) (r : Ref sig .tc) (h : r ∉ ([main_v13_0, main_v13_1] : List (Ref sig .tc))) : V4 m outs c r = V3 m outs c r := by
  simp only [V4, Function.update_of_ne (StableHlo.devRef_ne_of_ne (List.ne_of_not_mem_cons h) : (Proc.devRef .tc r : DevRef τ sig) ≠ Proc.devRef .tc main_v13_0), Function.update_of_ne (StableHlo.devRef_ne_of_ne (List.ne_of_not_mem_cons (List.not_mem_of_not_mem_cons h)) : (Proc.devRef .tc r : DevRef τ sig) ≠ Proc.devRef .tc main_v13_1)]
theorem V5_of (c : Dev nD) (r : Ref sig .tc) (h : r ∉ ([main_v14] : List (Ref sig .tc))) : V5 m outs c r = V4 m outs c r := by
  simp only [V5, Function.update_of_ne (StableHlo.devRef_ne_of_ne (List.ne_of_not_mem_cons h) : (Proc.devRef .tc r : DevRef τ sig) ≠ Proc.devRef .tc main_v14)]
theorem V6_of (c : Dev nD) (r : Ref sig .tc) (h : r ∉ hostOps4_W) : V6 m outs c r = V5 m outs c r :=
  StableHlo.after_of_writes_sub hostOps4 _ hostOps4_writes h

/-! ## No item writes an argument -/

/-- `main_arg0` reaches the end as launched: no host stretch writes it, no region may change it. -/
theorem V6_main_arg0 (c : Dev nD) : V6 m outs c main_arg0 = m ((c : Thread nD τ).loc main_arg0) :=
  (V6_of m outs c main_arg0 (by decide)).trans <| (V5_of m outs c main_arg0 (by decide)).trans <| (V4_of m outs c main_arg0 (by decide)).trans <| (V3_of m outs c main_arg0 (by decide)).trans <| (V2_of m outs c main_arg0 (by decide)).trans <| (V1_of m c main_arg0 (by decide)).trans rfl
/-- `main_arg1` reaches the end as launched: no host stretch writes it, no region may change it. -/
theorem V6_main_arg1 (c : Dev nD) : V6 m outs c main_arg1 = m ((c : Thread nD τ).loc main_arg1) :=
  (V6_of m outs c main_arg1 (by decide)).trans <| (V5_of m outs c main_arg1 (by decide)).trans <| (V4_of m outs c main_arg1 (by decide)).trans <| (V3_of m outs c main_arg1 (by decide)).trans <| (V2_of m outs c main_arg1 (by decide)).trans <| (V1_of m c main_arg1 (by decide)).trans rfl
/-- `main_arg2` reaches the end as launched: no host stretch writes it, no region may change it. -/
theorem V6_main_arg2 (c : Dev nD) : V6 m outs c main_arg2 = m ((c : Thread nD τ).loc main_arg2) :=
  (V6_of m outs c main_arg2 (by decide)).trans <| (V5_of m outs c main_arg2 (by decide)).trans <| (V4_of m outs c main_arg2 (by decide)).trans <| (V3_of m outs c main_arg2 (by decide)).trans <| (V2_of m outs c main_arg2 (by decide)).trans <| (V1_of m c main_arg2 (by decide)).trans rfl
/-- `main_arg3` reaches the end as launched: no host stretch writes it, no region may change it. -/
theorem V6_main_arg3 (c : Dev nD) : V6 m outs c main_arg3 = m ((c : Thread nD τ).loc main_arg3) :=
  (V6_of m outs c main_arg3 (by decide)).trans <| (V5_of m outs c main_arg3 (by decide)).trans <| (V4_of m outs c main_arg3 (by decide)).trans <| (V3_of m outs c main_arg3 (by decide)).trans <| (V2_of m outs c main_arg3 (by decide)).trans <| (V1_of m c main_arg3 (by decide)).trans rfl
/-- `main_arg4` reaches the end as launched: no host stretch writes it, no region may change it. -/
theorem V6_main_arg4 (c : Dev nD) : V6 m outs c main_arg4 = m ((c : Thread nD τ).loc main_arg4) :=
  (V6_of m outs c main_arg4 (by decide)).trans <| (V5_of m outs c main_arg4 (by decide)).trans <| (V4_of m outs c main_arg4 (by decide)).trans <| (V3_of m outs c main_arg4 (by decide)).trans <| (V2_of m outs c main_arg4 (by decide)).trans <| (V1_of m c main_arg4 (by decide)).trans rfl
/-- `main_arg5` reaches the end as launched: no host stretch writes it, no region may change it. -/
theorem V6_main_arg5 (c : Dev nD) : V6 m outs c main_arg5 = m ((c : Thread nD τ).loc main_arg5) :=
  (V6_of m outs c main_arg5 (by decide)).trans <| (V5_of m outs c main_arg5 (by decide)).trans <| (V4_of m outs c main_arg5 (by decide)).trans <| (V3_of m outs c main_arg5 (by decide)).trans <| (V2_of m outs c main_arg5 (by decide)).trans <| (V1_of m c main_arg5 (by decide)).trans rfl

/-! ## The items as segments -/

section Segs

variable {Ix : Type} [DecidableEq Ix] {U : Type} [URA U] {Lvl : Type} [Preorder Lvl]
variable (𝒱₀ : Variants) (L : GSem nD τ sig → Finset Ix) (lv : GSem nD τ sig → Ix → Lvl)
variable (E : Fin 5 → Dev nD → sProp (MT nD τ sig Ix (Elt F) ℕ U Lvl))

/-- Item 0: the host stretch `hostOps0` over the unscoped buffers from `V0`, the rest `E 0` riding along
    (`HostSeg.ofOps`: `StableHlo.wp_seq`). -/
def seg0 : HostSeg (Ix := Ix) (Name := ℕ) (U := U) (Lvl := Lvl) (pcfgs (F := F)) defs₀ 𝒱₀ L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) (E 0)
/-- Item 5: the host stretch `hostOps4` over the unscoped buffers from `V5`, the rest `E 4` riding along
    (`HostSeg.ofOps`: `StableHlo.wp_seq`). -/
def seg5 : HostSeg (Ix := Ix) (Name := ℕ) (U := U) (Lvl := Lvl) (pcfgs (F := F)) defs₀ 𝒱₀ L lv :=
  HostSeg.ofOps _ _ _ _ _ (Pipeline.ucRefs τ sig) hostOps4
    (fun op h => Pipeline.sub_ucRefs op ((List.forall_iff_forall_mem.mp hostOps4_sub) op h))
    (fun op h => (List.forall_iff_forall_mem.mp hostOps4_fresh) op h) (V5 m outs) (E 4)

end Segs

section

variable {Ix : Type} [DecidableEq Ix] {U : Type} [URA U] {Lvl : Type} [Preorder Lvl]

/-- The prefetched tables' admissible contents: no pallas_call has a table. -/
abbrev adm : (p : Fin 4) → (pcfgs (F := F) p).Adm := fun p => (cfgs p).toPCfg_adm

/-- @main's items as the kit's segments on core `c` (the same list on every core: no stretch here reads the device): the host
    stretches' (`segJ`), the regions' the given records. -/
abbrev segs (𝒱₀ : Variants) (L : GSem nD τ sig → Finset Ix) (lv : GSem nD τ sig → Ix → Lvl) (E : Fin 5 → Dev nD → sProp (MT nD τ sig Ix (Elt F) ℕ U Lvl)) (ι : Ix)
    (pdats : (p : Fin 4) → (c : Dev nD) → Dat τ (Elt F) Ix ℕ U Lvl (cfgs p) c) (R0 : RegionSeg (pcfgs (F := F)) adm pdats ι defs₀ 𝒱₀ L lv 0) (R1 : RegionSeg (pcfgs (F := F)) adm pdats ι defs₀ 𝒱₀ L lv 1) (R2 : RegionSeg (pcfgs (F := F)) adm pdats ι defs₀ 𝒱₀ L lv 2) (R3 : RegionSeg (pcfgs (F := F)) adm pdats ι defs₀ 𝒱₀ L lv 3) (c : Dev nD) :
    List (Seg (pcfgs (F := F)) adm pdats ι defs₀ 𝒱₀ L lv) :=
  [.host (seg0 m 𝒱₀ L lv E), .region R0, .region R1, .region R2, .region R3, .host (seg5 m outs 𝒱₀ L lv E)]

end

/-! ## The frame, given the regions' records -/

/-- The TensorCore has no unscoped semaphore. -/
theorem regions_no_unscoped : ∀ sm : SemLoc sig, sm.isScoped .tc = true := by decide

-- `θ_run_regions_kit_dev_sems`'s implicit arguments are found by unifying its conclusion with this one, which takes unfolding
-- plain definitions in a metavariable's type
set_option backward.isDefEq.respectTransparency.types false in
/-- THE CONDITIONAL FRAME. For any user algebra, level assignment, launch dues and ghost resources, any rest states
    `E` the launch makes on every core at once (`hE0`) and that end owing nothing (`hE4`), any contents the regions
    leave (`outs`) and any proof data: GIVEN, per region K, a segment record entered from this module's thread state
    before it and left at the one after it (`RK`, `hpreK`, `hpostK`), every weakly fair execution of @main from memory `m`
    with zero counters terminates, and every final state holds each argument as launched and has every semaphore counter
    at zero (the post claims.py's frame claim states, at any `F`): the kit shows every counter at zero but the TensorCores'
    unscoped ones, of which this program declares none (`regions_no_unscoped`). -/
theorem frame_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 4) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 5 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE4 : ∀ c : Dev nD, E 4 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V2 m outs c) ∗ E 1 c) ⊢ R1.pre c)
    (hpost1 : ∀ c : Dev nD, R1.post c ⊢ iprop(StableHlo.held (c : Thread nD τ) (Pipeline.ucRefs τ sig) (V3 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V3 m outs c) ∗ E 2 c) ⊢ R2.pre c)
    (hpost2 : ∀ c : Dev nD, R2.post c ⊢ iprop(StableHlo.held (c : Thread nD τ) (Pipeline.ucRefs τ sig) (V4 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V4 m outs c) ∗ E 3 c) ⊢ R3.pre c)
    (hpost3 : ∀ c : Dev nD, R3.post c ⊢ iprop(StableHlo.held (c : Thread nD τ) (Pipeline.ucRefs τ sig) (V5 m outs c) ∗ E 4 c)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  refine Pipeline.θ_run_regions_kit_dev_sems (pcfgs (F := F)) adm pdats ι cellOf_inj EP defs₀ 𝒱₀ L lv m ρ main
    (segs m outs 𝒱₀ L lv E ι pdats R0 R1 R2 R3)
    (fun c Q => by
      rewrite [main_chain c, Seg.run_eq_chain,
        show (segs m outs 𝒱₀ L lv E ι pdats R0 R1 R2 R3 c).map Seg.prog = [
          StableHlo.seq hostOps0,
          Prog.lift (.customCall (Pipeline.entry 0) ()),
          Prog.lift (.customCall (Pipeline.entry 1) ()),
          Prog.lift (.customCall (Pipeline.entry 2) ()),
          Prog.lift (.customCall (Pipeline.entry 3) ()),
          StableHlo.seq hostOps4 ] from rfl]
      dsimp (config := { failIfUnchanged := false }) only
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V6 m outs c))
    (hch := fun c => ⟨.rfl, hpre0 c, (hpost0 c).trans (hpre1 c), (hpost1 c).trans (hpre2 c), (hpost2 c).trans (hpre3 c), hpost3 c, sep_mono .rfl (hE4 c)⟩)
    (hinit := ?_) (QY := fun c s => s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5))
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V6 m outs c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (V6_main_arg0 m outs c),
        (h (Proc.devRef .tc main_arg1) (Finset.mem_filter.mpr ⟨StableHlo.devRef_mem_tcRefs main_arg1, by decide⟩)).trans (V6_main_arg1 m outs c),
        (h (Proc.devRef .tc main_arg2) (Finset.mem_filter.mpr ⟨StableHlo.devRef_mem_tcRefs main_arg2, by decide⟩)).trans (V6_main_arg2 m outs c),
        (h (Proc.devRef .tc main_arg3) (Finset.mem_filter.mpr ⟨StableHlo.devRef_mem_tcRefs main_arg3, by decide⟩)).trans (V6_main_arg3 m outs c),
        (h (Proc.devRef .tc main_arg4) (Finset.mem_filter.mpr ⟨StableHlo.devRef_mem_tcRefs main_arg4, by decide⟩)).trans (V6_main_arg4 m outs c),
        (h (Proc.devRef .tc main_arg5) (Finset.mem_filter.mpr ⟨StableHlo.devRef_mem_tcRefs main_arg5, by decide⟩)).trans (V6_main_arg5 m outs c)⟩
    · iexact HSI

end Cert.HalfFFN

end
-- ==== Proof.FwdBody.lean ====
module

public import proofs.«01_k».proof.Proof.LayerLaunch
public import proofs.«01_k».proof.Proof.LayerText
public import proofs.«01_k».proof.Proof.LayerPoints
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.VecWindow
public import Idealize.ShloMosaic.Lib.Ring
public import Idealize.ShloMosaic.Lib.Tactic
public import Idealize.ShloMosaic.Lib.WordCmp

/-! # The forward call, one grid point at a time

The body of the forward call of the half-FFN is run from its staging buffers. For each of the three kinds of grid point
(first, middle and last hidden block of a row block) a theorem states what every buffer holds afterwards,
in terms of the named values of the printed body. -/

@[expose] public section

set_option maxRecDepth 16384

noncomputable section

namespace Cert.HalfFFN

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Half]

local notation "𝕄" => MT nD τ sig Unit (Elt F) ℕ (UR sig nD τ) ℕ

/-- A two-axis zero offset is the constant zero offset. -/
theorem hz2 : (![0, 0] : Fin 2 → Nat) = fun _ => 0 := by funext a; fin_cases a <;> rfl
/-- A three-axis zero offset is the constant zero offset. -/
theorem hz3 : (![0, 0, 0] : Fin 3 → Nat) = fun _ => 0 := by funext a; fin_cases a <;> rfl
/-- A four-axis zero offset is the constant zero offset. -/
theorem hz4 : (![0, 0, 0, 0] : Fin 4 → Nat) = fun _ => 0 := by funext a; fin_cases a <;> rfl

/-- The normalised row block, `rms_norm(x) * g` rounded. -/
abbrev fwdH (x0 : Vec F S1024x1024 .f32) (x1 : Vec F S1x1024 .f32) : Vec F S1024x1024 .bf16 := k0_pay6 x0 x1
/-- The saved factor `b * (s * (1 + a * (1 - s)))` of one hidden block. -/
abbrev fwdU (h : Vec F S1024x1024 .bf16) (x2 x3 : Vec F S1x1x1024x704 .bf16) : Vec F S1x1024x704 .bf16 := k0_pay13 h x2 x3
/-- The saved factor `a * s` of one hidden block. -/
abbrev fwdSA (h : Vec F S1024x1024 .bf16) (x2 : Vec F S1x1x1024x704 .bf16) : Vec F S1x1024x704 .bf16 := k0_pay1 (k0_pay14 h x2)
/-- The gated hidden block `z`. -/
abbrev fwdZ (h : Vec F S1024x1024 .bf16) (x2 x3 : Vec F S1x1x1024x704 .bf16) : Vec F S1x1024x704 .bf16 := k0_pay3 (k0_pay10 h x3) (k0_pay12 h x2)
/-- One step of the accumulation of `z @ wd` over the hidden blocks. -/
abbrev fwdAcc (h : Vec F S1024x1024 .bf16) (x2 x3 : Vec F S1x1x1024x704 .bf16) (x4 : Vec F S1x1x704x1024 .bf16) (a : Vec F S1024x1024 .f32) : Vec F S1024x1024 .f32 :=
  k0_pay4 (k0_pay10 h x3) (k0_pay12 h x2) a x4

set_option maxHeartbeats 1000000 in
/-- First hidden block: the normalised block is formed and stored, the accumulator starts at zero. -/
theorem body0_first (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1x1024x704 .bf16) (harg4 : arg4.IsWhole) (arg5 : Memref sig .tc .vmem S1x1x1024x704 .bf16) (harg5 : arg5.IsWhole) (arg6 : Memref sig .tc .vmem S1x1x704x1024 .bf16) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1x1024x704 .bf16) (harg9 : arg9.IsWhole) (arg10 : Memref sig .tc .vmem S1x1024x704 .bf16) (harg10 : arg10.IsWhole) (arg11 : Memref sig .tc .vmem S1x1024x704 .bf16) (harg11 : arg11.IsWhole) (arg12 : Memref sig .tc .vmem S1024x1024 .f32) (harg12 : arg12.IsWhole) (hc1 : k0_cond1 i = 1#1) (hc2 : ¬ k0_cond2 i = 1#1)
    (x0 : Vec F S1024x1024 .f32) (x1 : Vec F S1x1024 .f32) (x2 : Vec F S1x1x1024x704 .bf16) (x3 : Vec F S1x1x1024x704 .bf16) (x4 : Vec F S1x1x704x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg8 fullShare (fwdH x0 x1) ∗ owns (c : Thread nD τ) arg9 fullShare (fwdU (fwdH x0 x1) x2 x3) ∗ owns (c : Thread nD τ) arg10 fullShare (fwdSA (fwdH x0 x1) x2) ∗ owns (c : Thread nD τ) arg11 fullShare (fwdZ (fwdH x0 x1) x2 x3) ∗ owns (c : Thread nD τ) arg12 fullShare (fwdAcc (fwdH x0 x1) x2 x3 x4 k0_pay7)) -∗ K ⟨⟩))
      ⊢ wp frame (wpE (defs₀ (F := F)) Variants.none c none) E (cc0_ffn_fwd i arg2 harg2 arg3 harg3 arg4 harg4 arg5 harg5 arg6 harg6 arg7 harg7 arg8 harg8 arg9 harg9 arg10 harg10 arg11 harg11 arg12 harg12) K := by
  unfold cc0_ffn_fwd
  unfold k0_part1
  unfold owns
  iintro ⟨⟨%f2, %hf2, H2⟩, ⟨%f3, %hf3, H3⟩, ⟨%f4, %hf4, H4⟩, ⟨%f5, %hf5, H5⟩, ⟨%f6, %hf6, H6⟩, ⟨%d8, %f8, -, H8⟩, ⟨%d9, %f9, -, H9⟩, ⟨%d10, %f10, -, H10⟩, ⟨%d11, %f11, -, H11⟩, ⟨%d12, %f12, -, H12⟩, Hk⟩
  obtain rfl := harg2.eq_unread hf2; obtain rfl := harg3.eq_unread hf3; obtain rfl := harg4.eq_unread hf4; obtain rfl := harg5.eq_unread hf5; obtain rfl := harg6.eq_unread hf6
  sl_exec (disch := first | sl_exact hc1 | sl_exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H8]
  · iexists _; isplitr; swap; · iexact H8
    ipureintro; refine (View.read_writes_full _ _ _ _ _).trans ?_
    first | (sl_unfold_words; done) | (try sl_unfold_words)
    simp only [View.readAt_eq_ld, harg2.read_unread, harg3.read_unread, harg4.read_unread, harg5.read_unread, harg6.read_unread, View.ld_unit_zero (S := S1024x1024) hz2, View.readCov_unit_zero (S := S1024x1024) _ hz2, View.ld_unit_zero (S := S1x1024) hz2, View.readCov_unit_zero (S := S1x1024) _ hz2, View.ld_unit_zero (S := S1x1024x704) hz3, View.readCov_unit_zero (S := S1x1024x704) _ hz3, View.ld_unit_zero (S := S1x1x1024x704) hz4, View.readCov_unit_zero (S := S1x1x1024x704) _ hz4, View.ld_unit_zero (S := S1x1x704x1024) hz4, View.readCov_unit_zero (S := S1x1x704x1024) _ hz4]
  isplitl [H9]
  · iexists _; isplitr; swap; · iexact H9
    ipureintro; refine (View.read_writes_full _ _ _ _ _).trans ?_
    first | (sl_unfold_words; done) | (try sl_unfold_words)
    simp only [View.readAt_eq_ld, harg2.read_unread, harg3.read_unread, harg4.read_unread, harg5.read_unread, harg6.read_unread, View.ld_unit_zero (S := S1024x1024) hz2, View.readCov_unit_zero (S := S1024x1024) _ hz2, View.ld_unit_zero (S := S1x1024) hz2, View.readCov_unit_zero (S := S1x1024) _ hz2, View.ld_unit_zero (S := S1x1024x704) hz3, View.readCov_unit_zero (S := S1x1024x704) _ hz3, View.ld_unit_zero (S := S1x1x1024x704) hz4, View.readCov_unit_zero (S := S1x1x1024x704) _ hz4, View.ld_unit_zero (S := S1x1x704x1024) hz4, View.readCov_unit_zero (S := S1x1x704x1024) _ hz4]
  isplitl [H10]
  · iexists _; isplitr; swap; · iexact H10
    ipureintro; refine (View.read_writes_full _ _ _ _ _).trans ?_
    first | (sl_unfold_words; done) | (try sl_unfold_words)
    simp only [View.readAt_eq_ld, harg2.read_unread, harg3.read_unread, harg4.read_unread, harg5.read_unread, harg6.read_unread, View.ld_unit_zero (S := S1024x1024) hz2, View.readCov_unit_zero (S := S1024x1024) _ hz2, View.ld_unit_zero (S := S1x1024) hz2, View.readCov_unit_zero (S := S1x1024) _ hz2, View.ld_unit_zero (S := S1x1024x704) hz3, View.readCov_unit_zero (S := S1x1024x704) _ hz3, View.ld_unit_zero (S := S1x1x1024x704) hz4, View.readCov_unit_zero (S := S1x1x1024x704) _ hz4, View.ld_unit_zero (S := S1x1x704x1024) hz4, View.readCov_unit_zero (S := S1x1x704x1024) _ hz4]
  isplitl [H11]
  · iexists _; isplitr; swap; · iexact H11
    ipureintro; refine (View.read_writes_full _ _ _ _ _).trans ?_
    first | (sl_unfold_words; done) | (try sl_unfold_words)
    simp only [View.readAt_eq_ld, harg2.read_unread, harg3.read_unread, harg4.read_unread, harg5.read_unread, harg6.read_unread, View.ld_unit_zero (S := S1024x1024) hz2, View.readCov_unit_zero (S := S1024x1024) _ hz2, View.ld_unit_zero (S := S1x1024) hz2, View.readCov_unit_zero (S := S1x1024) _ hz2, View.ld_unit_zero (S := S1x1024x704) hz3, View.readCov_unit_zero (S := S1x1024x704) _ hz3, View.ld_unit_zero (S := S1x1x1024x704) hz4, View.readCov_unit_zero (S := S1x1x1024x704) _ hz4, View.ld_unit_zero (S := S1x1x704x1024) hz4, View.readCov_unit_zero (S := S1x1x704x1024) _ hz4]
  iexists _; isplitr; swap; · iexact H12
  ipureintro; refine (View.read_writes_full _ _ _ _ _).trans ?_
  first | (sl_unfold_words; done) | (try sl_unfold_words)
  simp only [View.readAt_eq_ld, harg2.read_unread, harg3.read_unread, harg4.read_unread, harg5.read_unread, harg6.read_unread, View.ld_unit_zero (S := S1024x1024) hz2, View.readCov_unit_zero (S := S1024x1024) _ hz2, View.ld_unit_zero (S := S1x1024) hz2, View.readCov_unit_zero (S := S1x1024) _ hz2, View.ld_unit_zero (S := S1x1024x704) hz3, View.readCov_unit_zero (S := S1x1024x704) _ hz3, View.ld_unit_zero (S := S1x1x1024x704) hz4, View.readCov_unit_zero (S := S1x1x1024x704) _ hz4, View.ld_unit_zero (S := S1x1x704x1024) hz4, View.readCov_unit_zero (S := S1x1x704x1024) _ hz4]

set_option maxHeartbeats 1000000 in
/-- Middle hidden block: the normalised block is read back, the accumulator runs on. -/
theorem body0_mid (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1x1024x704 .bf16) (harg4 : arg4.IsWhole) (arg5 : Memref sig .tc .vmem S1x1x1024x704 .bf16) (harg5 : arg5.IsWhole) (arg6 : Memref sig .tc .vmem S1x1x704x1024 .bf16) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1x1024x704 .bf16) (harg9 : arg9.IsWhole) (arg10 : Memref sig .tc .vmem S1x1024x704 .bf16) (harg10 : arg10.IsWhole) (arg11 : Memref sig .tc .vmem S1x1024x704 .bf16) (harg11 : arg11.IsWhole) (arg12 : Memref sig .tc .vmem S1024x1024 .f32) (harg12 : arg12.IsWhole) (hc1 : ¬ k0_cond1 i = 1#1) (hc2 : ¬ k0_cond2 i = 1#1)
    (x0 : Vec F S1024x1024 .f32) (x1 : Vec F S1x1024 .f32) (x2 : Vec F S1x1x1024x704 .bf16) (x3 : Vec F S1x1x1024x704 .bf16) (x4 : Vec F S1x1x704x1024 .bf16) (h : Vec F S1024x1024 .bf16) (a : Vec F S1024x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg8 fullShare h ∗ (∃ d, owns (c : Thread nD τ) arg9 fullShare d) ∗ (∃ d, owns (c : Thread nD τ) arg10 fullShare d) ∗ (∃ d, owns (c : Thread nD τ) arg11 fullShare d) ∗ owns (c : Thread nD τ) arg12 fullShare a
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg8 fullShare h ∗ owns (c : Thread nD τ) arg9 fullShare (fwdU (h) x2 x3) ∗ owns (c : Thread nD τ) arg10 fullShare (fwdSA (h) x2) ∗ owns (c : Thread nD τ) arg11 fullShare (fwdZ (h) x2 x3) ∗ owns (c : Thread nD τ) arg12 fullShare (fwdAcc (h) x2 x3 x4 a)) -∗ K ⟨⟩))
      ⊢ wp frame (wpE (defs₀ (F := F)) Variants.none c none) E (cc0_ffn_fwd i arg2 harg2 arg3 harg3 arg4 harg4 arg5 harg5 arg6 harg6 arg7 harg7 arg8 harg8 arg9 harg9 arg10 harg10 arg11 harg11 arg12 harg12) K := by
  unfold cc0_ffn_fwd
  unfold k0_part1
  unfold owns
  iintro ⟨⟨%f2, %hf2, H2⟩, ⟨%f3, %hf3, H3⟩, ⟨%f4, %hf4, H4⟩, ⟨%f5, %hf5, H5⟩, ⟨%f6, %hf6, H6⟩, ⟨%f8, %hf8, H8⟩, ⟨%d9, %f9, -, H9⟩, ⟨%d10, %f10, -, H10⟩, ⟨%d11, %f11, -, H11⟩, ⟨%f12, %hf12, H12⟩, Hk⟩
  obtain rfl := harg2.eq_unread hf2; obtain rfl := harg3.eq_unread hf3; obtain rfl := harg4.eq_unread hf4; obtain rfl := harg5.eq_unread hf5; obtain rfl := harg6.eq_unread hf6; obtain rfl := harg8.eq_unread hf8; obtain rfl := harg12.eq_unread hf12
  sl_exec (disch := first | sl_exact hc1 | sl_exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H8]
  · iexists _; isplitr; · ipureintro; exact harg8.read_unread _
    iexact H8
  isplitl [H9]
  · iexists _; isplitr; swap; · iexact H9
    ipureintro; refine (View.read_writes_full _ _ _ _ _).trans ?_
    first | (sl_unfold_words; done) | (try sl_unfold_words)
    simp only [View.readAt_eq_ld, harg2.read_unread, harg3.read_unread, harg4.read_unread, harg5.read_unread, harg6.read_unread, harg8.read_unread, harg12.read_unread, View.ld_unit_zero (S := S1024x1024) hz2, View.readCov_unit_zero (S := S1024x1024) _ hz2, View.ld_unit_zero (S := S1x1024) hz2, View.readCov_unit_zero (S := S1x1024) _ hz2, View.ld_unit_zero (S := S1x1024x704) hz3, View.readCov_unit_zero (S := S1x1024x704) _ hz3, View.ld_unit_zero (S := S1x1x1024x704) hz4, View.readCov_unit_zero (S := S1x1x1024x704) _ hz4, View.ld_unit_zero (S := S1x1x704x1024) hz4, View.readCov_unit_zero (S := S1x1x704x1024) _ hz4]
  isplitl [H10]
  · iexists _; isplitr; swap; · iexact H10
    ipureintro; refine (View.read_writes_full _ _ _ _ _).trans ?_
    first | (sl_unfold_words; done) | (try sl_unfold_words)
    simp only [View.readAt_eq_ld, harg2.read_unread, harg3.read_unread, harg4.read_unread, harg5.read_unread, harg6.read_unread, harg8.read_unread, harg12.read_unread, View.ld_unit_zero (S := S1024x1024) hz2, View.readCov_unit_zero (S := S1024x1024) _ hz2, View.ld_unit_zero (S := S1x1024) hz2, View.readCov_unit_zero (S := S1x1024) _ hz2, View.ld_unit_zero (S := S1x1024x704) hz3, View.readCov_unit_zero (S := S1x1024x704) _ hz3, View.ld_unit_zero (S := S1x1x1024x704) hz4, View.readCov_unit_zero (S := S1x1x1024x704) _ hz4, View.ld_unit_zero (S := S1x1x704x1024) hz4, View.readCov_unit_zero (S := S1x1x704x1024) _ hz4]
  isplitl [H11]
  · iexists _; isplitr; swap; · iexact H11
    ipureintro; refine (View.read_writes_full _ _ _ _ _).trans ?_
    first | (sl_unfold_words; done) | (try sl_unfold_words)
    simp only [View.readAt_eq_ld, harg2.read_unread, harg3.read_unread, harg4.read_unread, harg5.read_unread, harg6.read_unread, harg8.read_unread, harg12.read_unread, View.ld_unit_zero (S := S1024x1024) hz2, View.readCov_unit_zero (S := S1024x1024) _ hz2, View.ld_unit_zero (S := S1x1024) hz2, View.readCov_unit_zero (S := S1x1024) _ hz2, View.ld_unit_zero (S := S1x1024x704) hz3, View.readCov_unit_zero (S := S1x1024x704) _ hz3, View.ld_unit_zero (S := S1x1x1024x704) hz4, View.readCov_unit_zero (S := S1x1x1024x704) _ hz4, View.ld_unit_zero (S := S1x1x704x1024) hz4, View.readCov_unit_zero (S := S1x1x704x1024) _ hz4]
  iexists _; isplitr; swap; · iexact H12
  ipureintro; refine (View.read_writes_full _ _ _ _ _).trans ?_
  first | (sl_unfold_words; done) | (try sl_unfold_words)
  simp only [View.readAt_eq_ld, harg2.read_unread, harg3.read_unread, harg4.read_unread, harg5.read_unread, harg6.read_unread, harg8.read_unread, harg12.read_unread, View.ld_unit_zero (S := S1024x1024) hz2, View.readCov_unit_zero (S := S1024x1024) _ hz2, View.ld_unit_zero (S := S1x1024) hz2, View.readCov_unit_zero (S := S1x1024) _ hz2, View.ld_unit_zero (S := S1x1024x704) hz3, View.readCov_unit_zero (S := S1x1024x704) _ hz3, View.ld_unit_zero (S := S1x1x1024x704) hz4, View.readCov_unit_zero (S := S1x1x1024x704) _ hz4, View.ld_unit_zero (S := S1x1x704x1024) hz4, View.readCov_unit_zero (S := S1x1x704x1024) _ hz4]

set_option maxHeartbeats 1000000 in
/-- Last hidden block: as the middle ones, and the row block of the result is stored. -/
theorem body0_last (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1x1024x704 .bf16) (harg4 : arg4.IsWhole) (arg5 : Memref sig .tc .vmem S1x1x1024x704 .bf16) (harg5 : arg5.IsWhole) (arg6 : Memref sig .tc .vmem S1x1x704x1024 .bf16) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1x1024x704 .bf16) (harg9 : arg9.IsWhole) (arg10 : Memref sig .tc .vmem S1x1024x704 .bf16) (harg10 : arg10.IsWhole) (arg11 : Memref sig .tc .vmem S1x1024x704 .bf16) (harg11 : arg11.IsWhole) (arg12 : Memref sig .tc .vmem S1024x1024 .f32) (harg12 : arg12.IsWhole) (hc1 : ¬ k0_cond1 i = 1#1) (hc2 : k0_cond2 i = 1#1)
    (x0 : Vec F S1024x1024 .f32) (x1 : Vec F S1x1024 .f32) (x2 : Vec F S1x1x1024x704 .bf16) (x3 : Vec F S1x1x1024x704 .bf16) (x4 : Vec F S1x1x704x1024 .bf16) (h : Vec F S1024x1024 .bf16) (a : Vec F S1024x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare h ∗ (∃ d, owns (c : Thread nD τ) arg9 fullShare d) ∗ (∃ d, owns (c : Thread nD τ) arg10 fullShare d) ∗ (∃ d, owns (c : Thread nD τ) arg11 fullShare d) ∗ owns (c : Thread nD τ) arg12 fullShare a
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay5 x0 (fwdAcc (h) x2 x3 x4 a)) ∗ owns (c : Thread nD τ) arg8 fullShare h ∗ owns (c : Thread nD τ) arg9 fullShare (fwdU (h) x2 x3) ∗ owns (c : Thread nD τ) arg10 fullShare (fwdSA (h) x2) ∗ owns (c : Thread nD τ) arg11 fullShare (fwdZ (h) x2 x3) ∗ owns (c : Thread nD τ) arg12 fullShare (fwdAcc (h) x2 x3 x4 a)) -∗ K ⟨⟩))
      ⊢ wp frame (wpE (defs₀ (F := F)) Variants.none c none) E (cc0_ffn_fwd i arg2 harg2 arg3 harg3 arg4 harg4 arg5 harg5 arg6 harg6 arg7 harg7 arg8 harg8 arg9 harg9 arg10 harg10 arg11 harg11 arg12 harg12) K := by
  unfold cc0_ffn_fwd
  unfold k0_part1
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%d9, %f9, -, H9⟩, ⟨%d10, %f10, -, H10⟩, ⟨%d11, %f11, -, H11⟩, ⟨%f12, %hf12, H12⟩, Hk⟩
  obtain rfl := harg2.eq_unread hf2; obtain rfl := harg3.eq_unread hf3; obtain rfl := harg4.eq_unread hf4; obtain rfl := harg5.eq_unread hf5; obtain rfl := harg6.eq_unread hf6; obtain rfl := harg8.eq_unread hf8; obtain rfl := harg12.eq_unread hf12
  sl_exec (disch := first | sl_exact hc1 | sl_exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro; refine (View.read_writes_full _ _ _ _ _).trans ?_
    first | (sl_unfold_words; done) | (try sl_unfold_words)
    simp only [View.readAt_eq_ld, harg2.read_unread, harg3.read_unread, harg4.read_unread, harg5.read_unread, harg6.read_unread, harg8.read_unread, harg12.read_unread, View.ld_unit_zero (S := S1024x1024) hz2, View.readCov_unit_zero (S := S1024x1024) _ hz2, View.ld_unit_zero (S := S1x1024) hz2, View.readCov_unit_zero (S := S1x1024) _ hz2, View.ld_unit_zero (S := S1x1024x704) hz3, View.readCov_unit_zero (S := S1x1024x704) _ hz3, View.ld_unit_zero (S := S1x1x1024x704) hz4, View.readCov_unit_zero (S := S1x1x1024x704) _ hz4, View.ld_unit_zero (S := S1x1x704x1024) hz4, View.readCov_unit_zero (S := S1x1x704x1024) _ hz4]
  isplitl [H8]
  · iexists _; isplitr; · ipureintro; exact harg8.read_unread _
    iexact H8
  isplitl [H9]
  · iexists _; isplitr; swap; · iexact H9
    ipureintro; refine (View.read_writes_full _ _ _ _ _).trans ?_
    first | (sl_unfold_words; done) | (try sl_unfold_words)
    simp only [View.readAt_eq_ld, harg2.read_unread, harg3.read_unread, harg4.read_unread, harg5.read_unread, harg6.read_unread, harg8.read_unread, harg12.read_unread, View.ld_unit_zero (S := S1024x1024) hz2, View.readCov_unit_zero (S := S1024x1024) _ hz2, View.ld_unit_zero (S := S1x1024) hz2, View.readCov_unit_zero (S := S1x1024) _ hz2, View.ld_unit_zero (S := S1x1024x704) hz3, View.readCov_unit_zero (S := S1x1024x704) _ hz3, View.ld_unit_zero (S := S1x1x1024x704) hz4, View.readCov_unit_zero (S := S1x1x1024x704) _ hz4, View.ld_unit_zero (S := S1x1x704x1024) hz4, View.readCov_unit_zero (S := S1x1x704x1024) _ hz4]
  isplitl [H10]
  · iexists _; isplitr; swap; · iexact H10
    ipureintro; refine (View.read_writes_full _ _ _ _ _).trans ?_
    first | (sl_unfold_words; done) | (try sl_unfold_words)
    simp only [View.readAt_eq_ld, harg2.read_unread, harg3.read_unread, harg4.read_unread, harg5.read_unread, harg6.read_unread, harg8.read_unread, harg12.read_unread, View.ld_unit_zero (S := S1024x1024) hz2, View.readCov_unit_zero (S := S1024x1024) _ hz2, View.ld_unit_zero (S := S1x1024) hz2, View.readCov_unit_zero (S := S1x1024) _ hz2, View.ld_unit_zero (S := S1x1024x704) hz3, View.readCov_unit_zero (S := S1x1024x704) _ hz3, View.ld_unit_zero (S := S1x1x1024x704) hz4, View.readCov_unit_zero (S := S1x1x1024x704) _ hz4, View.ld_unit_zero (S := S1x1x704x1024) hz4, View.readCov_unit_zero (S := S1x1x704x1024) _ hz4]
  isplitl [H11]
  · iexists _; isplitr; swap; · iexact H11
    ipureintro; refine (View.read_writes_full _ _ _ _ _).trans ?_
    first | (sl_unfold_words; done) | (try sl_unfold_words)
    simp only [View.readAt_eq_ld, harg2.read_unread, harg3.read_unread, harg4.read_unread, harg5.read_unread, harg6.read_unread, harg8.read_unread, harg12.read_unread, View.ld_unit_zero (S := S1024x1024) hz2, View.readCov_unit_zero (S := S1024x1024) _ hz2, View.ld_unit_zero (S := S1x1024) hz2, View.readCov_unit_zero (S := S1x1024) _ hz2, View.ld_unit_zero (S := S1x1024x704) hz3, View.readCov_unit_zero (S := S1x1024x704) _ hz3, View.ld_unit_zero (S := S1x1x1024x704) hz4, View.readCov_unit_zero (S := S1x1x1024x704) _ hz4, View.ld_unit_zero (S := S1x1x704x1024) hz4, View.readCov_unit_zero (S := S1x1x704x1024) _ hz4]
  iexists _; isplitr; swap; · iexact H12
  ipureintro; refine (View.read_writes_full _ _ _ _ _).trans ?_
  first | (sl_unfold_words; done) | (try sl_unfold_words)
  simp only [View.readAt_eq_ld, harg2.read_unread, harg3.read_unread, harg4.read_unread, harg5.read_unread, harg6.read_unread, harg8.read_unread, harg12.read_unread, View.ld_unit_zero (S := S1024x1024) hz2, View.readCov_unit_zero (S := S1024x1024) _ hz2, View.ld_unit_zero (S := S1x1024) hz2, View.readCov_unit_zero (S := S1x1024) _ hz2, View.ld_unit_zero (S := S1x1024x704) hz3, View.readCov_unit_zero (S := S1x1024x704) _ hz3, View.ld_unit_zero (S := S1x1x1024x704) hz4, View.readCov_unit_zero (S := S1x1x1024x704) _ hz4, View.ld_unit_zero (S := S1x1x704x1024) hz4, View.readCov_unit_zero (S := S1x1x704x1024) _ hz4]

end Cert.HalfFFN

end
-- ==== Proof.Carry.lean ====
module

public import proofs.«01_k».proof.Proof.LayerLaunch
public import proofs.«01_k».proof.Proof.LayerText
public import proofs.«01_k».proof.Proof.LayerPoints
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.VecWindow
public import Idealize.ShloMosaic.Lib.Ring
public import Idealize.ShloMosaic.Lib.Tactic
public import Idealize.ShloMosaic.Lib.WordCmp

/-! # Buffers a body does not touch at some grid points

An output's staging buffer that a body leaves alone at some points carries its contents to the next point. The lemmas here
say what such a buffer holds, from what the body left at the last point that wrote it. -/

@[expose] public section

set_option maxRecDepth 16384

noncomputable section

namespace Cert.HalfFFN

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Half]

local notation "𝕄" => MT nD τ sig Unit (Elt F) ℕ (UR sig nD τ) ℕ

variable {cfg : Pipeline.Cfg sig Λ₀} {c : Dev nD}

/-- The grid point before `t`. -/
abbrev prev {N : ℕ} (t : Fin N) : Fin N := ⟨t.val - 1, Nat.lt_of_le_of_lt (Nat.sub_le _ _) t.isLt⟩

/-- A set `P` of points closed backwards through idle points, none after a write-back: at each of them the buffer holds `X`,
    where `X` does not change over an idle point and is what the body left over a live one. -/
theorem before_carried (dat : Dat τ (Elt F) Unit ℕ (UR sig nD τ) ℕ cfg c) (w : Fin cfg.W) (hw : (cfg.win w).isOut = true)
    (hclip : ∀ (i : cfg.grid.Coords) a, (cfg.win w).clip i a = none)
    (X : Fin cfg.N → (cfg.win w).block.Idx → Elt F (cfg.win w).elt) (P : Fin cfg.N → Prop)
    (hP : ∀ t, P t → t.val ≠ 0 ∧ (cfg.win w).flush (prev t) = false
      ∧ (cfg.idle w (cfg.grid.coords (prev t)) = true → P (prev t) ∧ X t = X (prev t))
      ∧ (cfg.idle w (cfg.grid.coords (prev t)) = false → dat.after w (prev t) = X t)) :
    ∀ (n : ℕ) (t : Fin cfg.N), t.val = n → P t → ∀ d, dat.before w t d = X t := by
  intro n
  induction n with
  | zero => intro t ht hp; exact absurd ht (hP t hp).1
  | succ n ih =>
    intro t ht hp d
    obtain ⟨h0, hfl, hidle, hlive⟩ := hP t hp
    rw [dat.before_of_pos w t h0 ((cfg.win w).fetch_out hw t), hfl, if_neg Bool.false_ne_true]
    unfold Dat.left
    cases hi : cfg.idle w (cfg.grid.coords (prev t)) with
    | true =>
      dsimp only
      rw [ih (prev t) (by show t.val - 1 = n; omega) (hidle hi).1, (hidle hi).2]
    | false =>
      dsimp only; unfold Dat.kept
      rw [Pipeline.fill_of_clip_none w _ (hclip _) d (dat.after w _), Window.fill_cut, hlive hi]

/-- What the body must hand back of a buffer it writes at this point: its contents after the body. -/
theorem leaves_live (dat : Dat τ (Elt F) Unit ℕ (UR sig nD τ) ℕ cfg c) (w : Fin cfg.W) (t : Fin cfg.N)
    (hi : cfg.idle w (cfg.grid.coords t) = false) (X : (cfg.win w).block.Idx → Elt F (cfg.win w).elt) (hX : dat.after w t = X) :
    owns (c : Thread nD τ) ((cfg.win w).stage (cfg.slots t w)) fullShare X ⊢ dat.leavesExact w t := by
  subst hX; unfold Dat.leavesExact; rw [hi]

/-- The same of a buffer it carries through this point. -/
theorem leaves_carried (dat : Dat τ (Elt F) Unit ℕ (UR sig nD τ) ℕ cfg c) (w : Fin cfg.W) (t : Fin cfg.N)
    (hi : cfg.idle w (cfg.grid.coords t) = true) (X : (cfg.win w).block.Idx → Elt F (cfg.win w).elt)
    (hb : (cfg.win w).flush t = false → ∃ d, dat.before w t d = X) (ha : (cfg.win w).flush t = true → dat.after w t = X) :
    owns (c : Thread nD τ) ((cfg.win w).stage (cfg.slots t w)) fullShare X ⊢ dat.leavesExact w t := by
  unfold Dat.leavesExact; rw [hi]
  cases hf : (cfg.win w).flush t with
  | true => dsimp only; rw [ha hf]
  | false =>
    obtain ⟨d, hd⟩ := hb hf
    dsimp only; rw [← hd]
    iintro H; iexists d; iexact H

end Cert.HalfFFN

end
-- ==== Proof.FwdRegion.lean ====
module

public import proofs.«01_k».proof.Proof.LayerLaunch
public import proofs.«01_k».proof.Proof.LayerText
public import proofs.«01_k».proof.Proof.LayerPoints
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.VecWindow
public import Idealize.ShloMosaic.Lib.Ring
public import Idealize.ShloMosaic.Lib.Tactic
public import Idealize.ShloMosaic.Lib.WordCmp
public import proofs.«01_k».proof.Proof.FwdBody
public import proofs.«01_k».proof.Proof.Carry

/-! # The forward call over its grid

Row block by row block the call forms the normalised rows, then runs through the four hidden blocks. This module names what every
staging buffer and the accumulator hold after each grid point, and shows that the body keeps to it. -/

@[expose] public section

set_option maxRecDepth 16384

noncomputable section

namespace Cert.HalfFFN

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Half]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- An input window holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- An input window holds its block at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- An input window holds its block at every point. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- An input window holds its block at every point. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- The first hidden block of a row block. -/
theorem hcond0_1 : ∀ t : Fin cfg0.N, k0_cond1 (grid0.coords t) = 1#1 ↔ t.val % 4 = 0 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [k0_cond1, e1]
    word_cmp
   : ∀ t : Fin grid0.N, k0_cond1 (grid0.coords t) = 1#1 ↔ t.val % 4 = 0)

/-- The last hidden block of a row block. -/
theorem hcond0_2 : ∀ t : Fin cfg0.N, k0_cond2 (grid0.coords t) = 1#1 ↔ t.val % 4 = 3 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [k0_cond2, e1]
    word_cmp
   : ∀ t : Fin grid0.N, k0_cond2 (grid0.coords t) = 1#1 ↔ t.val % 4 = 3)

/-- Output 5 is idle but at the last hidden block. -/
theorem idle0_5 (t : Fin cfg0.N) : cfg0.idle 5 (grid0.coords t) = true ↔ ¬ t.val % 4 = 3 := by
  rw [← hcond0_2 t]; show (!(k0_cond2 (grid0.coords t) == 1#1)) = true ↔ _
  simp
/-- Output 6 is idle but at the first hidden block. -/
theorem idle0_6 (t : Fin cfg0.N) : cfg0.idle 6 (grid0.coords t) = true ↔ ¬ t.val % 4 = 0 := by
  rw [← hcond0_1 t]; show (!(k0_cond1 (grid0.coords t) == 1#1)) = true ↔ _
  simp

/-- The first point of `t`'s row block. -/
def row0 (t : Fin cfg0.N) : Fin cfg0.N := ⟨4 * (t.val / 4), Nat.lt_of_le_of_lt (by omega) t.isLt⟩
theorem row0_self (t : Fin cfg0.N) (h : t.val % 4 = 0) : row0 t = t := Fin.ext (by show 4 * (t.val / 4) = t.val; omega)
theorem row0_prev (t : Fin cfg0.N) (h : ¬ t.val % 4 = 0) : row0 t = row0 (prev t) :=
  Fin.ext (by show 4 * (t.val / 4) = 4 * ((t.val - 1) / 4); omega)

/-- The normalised rows of `t`'s row block. -/
def hrow (c : Dev nD) (t : Fin cfg0.N) : Vec F S1024x1024 .bf16 := fwdH (iblk0 V c 0 (row0 t)) (iblk0 V c 1 (row0 t))
theorem hrow_self (c : Dev nD) (t : Fin cfg0.N) (h : t.val % 4 = 0) : hrow V c t = fwdH (iblk0 V c 0 t) (iblk0 V c 1 t) := by
  unfold hrow; rw [row0_self t h]
theorem hrow_prev (c : Dev nD) (t : Fin cfg0.N) (h : ¬ t.val % 4 = 0) : hrow V c t = hrow V c (prev t) := by
  unfold hrow; rw [row0_prev t h]

/-- The accumulator after point `n`. -/
def acc0 (c : Dev nD) : (n : ℕ) → n < cfg0.N → Vec F S1024x1024 .f32
  | 0, hn => fwdAcc (hrow V c ⟨0, hn⟩) (iblk0 V c 2 ⟨0, hn⟩) (iblk0 V c 3 ⟨0, hn⟩) (iblk0 V c 4 ⟨0, hn⟩) k0_pay7
  | n + 1, hn => fwdAcc (hrow V c ⟨n + 1, hn⟩) (iblk0 V c 2 ⟨n + 1, hn⟩) (iblk0 V c 3 ⟨n + 1, hn⟩) (iblk0 V c 4 ⟨n + 1, hn⟩)
      (if (n + 1) % 4 = 0 then k0_pay7 else acc0 c n (Nat.lt_of_succ_lt hn))

theorem acc0_first (c : Dev nD) (t : Fin cfg0.N) (h : t.val % 4 = 0) :
    acc0 V c t.val t.isLt = fwdAcc (hrow V c t) (iblk0 V c 2 t) (iblk0 V c 3 t) (iblk0 V c 4 t) k0_pay7 := by
  obtain ⟨n, hn⟩ := t
  cases n with
  | zero => rfl
  | succ n => simp only [acc0]; rw [if_pos h]
theorem acc0_next (c : Dev nD) (t : Fin cfg0.N) (h : ¬ t.val % 4 = 0) :
    acc0 V c t.val t.isLt = fwdAcc (hrow V c t) (iblk0 V c 2 t) (iblk0 V c 3 t) (iblk0 V c 4 t) (acc0 V c (prev t).val (prev t).isLt) := by
  obtain ⟨n, hn⟩ := t
  cases n with
  | zero => exact absurd rfl h
  | succ n => simp only [acc0]; rw [if_neg h]; rfl

/-- The accumulator's memref. -/
abbrev scM0 : Memref sig .tc .vmem S1024x1024 .f32 := Memref.whole cc0_scratch0

/-- What the call keeps beside the accumulator. -/
abbrev rest0 (c : Dev nD) : sProp 𝕄 := Pipeline.scopedRestBut (Ix := Unit) (Name := ℕ) (U := UR sig nD τ) (Lvl := ℕ) (Val := Elt F) spec0 c [cc0_scratch0]

/-- The accumulator split out of what the call starts from. -/
theorem PhiA0_eq (c : Dev nD) :
    (Pipeline.ΦA spec0 c : sProp 𝕄)
      = iprop(iprop((∃ d, owns (c : Thread nD τ) scM0 fullShare d) ∗ rest0 c) ∗ (∃ r, prngReg c r)) := by
  unfold Pipeline.ΦA; rw [scopedRest0_split]; simp only [scM0, owns_whole]; try rfl

/-- The invariant between points: the accumulator at its contents after the point before. -/
def PhiS (c : Dev nD) : (n : ℕ) → n ≤ cfg0.N → sProp 𝕄
  | 0, _ => Pipeline.ΦA spec0 c
  | n + 1, hn => iprop(iprop(owns (c : Thread nD τ) scM0 fullShare (acc0 V c n hn) ∗ rest0 c) ∗ (∃ r, prngReg c r))

theorem PhiS_pos (c : Dev nD) (n : ℕ) (h : n ≤ cfg0.N) (hz : n ≠ 0) :
    PhiS V c n h = iprop(iprop(owns (c : Thread nD τ) scM0 fullShare (acc0 V c (n - 1) (by omega)) ∗ rest0 c) ∗ (∃ r, prngReg c r)) := by
  cases n with
  | zero => exact absurd rfl hz
  | succ n => rfl

/-- The accumulator's contents can always be forgotten. -/
theorem PhiS_any (c : Dev nD) (n : ℕ) (h : n ≤ cfg0.N) : PhiS V c n h ⊢ Pipeline.ΦA spec0 c := by
  by_cases hz : n = 0
  · subst hz; exact Idealize.SL.BI.Entails.refl _
  · rw [PhiS_pos V c n h hz, PhiA0_eq]
    iintro ⟨⟨HS, HR⟩, Hg⟩
    isplitl [HS HR]
    · isplitl [HS]
      · iexists _; iexact HS
      iexact HR
    iexact Hg

/-- What the forward call's arrays, staging buffers and accumulator hold. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => k0_pay5 (iblk0 V c 0 t) (acc0 V c t.val t.isLt)
    | ⟨6, _⟩ => hrow V c t
    | ⟨7, _⟩ => fwdU (hrow V c t) (iblk0 V c 2 t) (iblk0 V c 3 t)
    | ⟨8, _⟩ => fwdSA (hrow V c t) (iblk0 V c 2 t)
    | ⟨9, _⟩ => fwdZ (hrow V c t) (iblk0 V c 2 t) (iblk0 V c 3 t)
  Φ t := PhiS V c t.val (Nat.le_of_lt_succ t.isLt)
  q _ := fullShare
  owed _ := 0

/-- The proof data's arrays are what the call finds. -/
theorem A_eq0 (c : Dev nD) (w : Fin cfg0.W) : (dat0 V c).A w = V c (Pipeline.arrRef spec0 w) := by
  dsimp only [dat0]

/-! What the body leaves, window by window. -/
theorem after0_0 (c : Dev nD) (t : Fin cfg0.N) : (dat0 V c).after 0 t = iblk0 V c 0 t := by dsimp only [dat0] <;> rfl
theorem after0_1 (c : Dev nD) (t : Fin cfg0.N) : (dat0 V c).after 1 t = iblk0 V c 1 t := by dsimp only [dat0] <;> rfl
theorem after0_2 (c : Dev nD) (t : Fin cfg0.N) : (dat0 V c).after 2 t = iblk0 V c 2 t := by dsimp only [dat0] <;> rfl
theorem after0_3 (c : Dev nD) (t : Fin cfg0.N) : (dat0 V c).after 3 t = iblk0 V c 3 t := by dsimp only [dat0] <;> rfl
theorem after0_4 (c : Dev nD) (t : Fin cfg0.N) : (dat0 V c).after 4 t = iblk0 V c 4 t := by dsimp only [dat0] <;> rfl
theorem after0_5 (c : Dev nD) (t : Fin cfg0.N) : (dat0 V c).after 5 t = k0_pay5 (iblk0 V c 0 t) (acc0 V c t.val t.isLt) := by dsimp only [dat0] <;> rfl
theorem after0_6 (c : Dev nD) (t : Fin cfg0.N) : (dat0 V c).after 6 t = hrow V c t := by dsimp only [dat0] <;> rfl
theorem after0_7 (c : Dev nD) (t : Fin cfg0.N) : (dat0 V c).after 7 t = fwdU (hrow V c t) (iblk0 V c 2 t) (iblk0 V c 3 t) := by dsimp only [dat0] <;> rfl
theorem after0_8 (c : Dev nD) (t : Fin cfg0.N) : (dat0 V c).after 8 t = fwdSA (hrow V c t) (iblk0 V c 2 t) := by dsimp only [dat0] <;> rfl
theorem after0_9 (c : Dev nD) (t : Fin cfg0.N) : (dat0 V c).after 9 t = fwdZ (hrow V c t) (iblk0 V c 2 t) (iblk0 V c 3 t) := by dsimp only [dat0] <;> rfl

/-! Each input's staging buffer holds its block. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- The normalised rows stay in their buffer through the hidden blocks. -/
theorem before0_6 (c : Dev nD) (t : Fin cfg0.N) (h : ¬ t.val % 4 = 0) (d) : (dat0 V c).before 6 t d = hrow V c t :=
  before_carried (dat0 V c) 6 rfl (fun _ _ => rfl) (fun t => hrow V c t) (fun t => ¬ t.val % 4 = 0)
    (fun t ht => ⟨fun h0 => ht (by rw [h0]),
      Bool.eq_false_iff.mpr fun hf => by have := (flush0_6 (prev t)).mp hf; dsimp only at this; omega,
      fun hi => ⟨(idle0_6 (prev t)).mp hi, hrow_prev V c t ht⟩,
      fun _ => by rw [after0_6, ← hrow_prev V c t ht]⟩) t.val t rfl h d

theorem PhiS_castSucc (c : Dev nD) (t : Fin cfg0.N) :
    (dat0 V c).Φ t.castSucc = PhiS V c t.val (Nat.le_of_lt t.isLt) := by
  dsimp only [dat0]; exact Pipeline.Dat.Φ_castSucc (PhiS V c) t

/-! Each window's staging memref at a point, and its wholeness. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1024x704 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1024x704 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x704x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024x704 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024x704 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1024x704 .bf16 := win0_9.stage (cfg0.slots t 9)
abbrev hs0_9 (t : Fin cfg0.N) : (ms0_9 t).IsWhole := hstage0_9 ((cfg0.slots t 9).cast nbuf0_9)

/-- What the body is called with at point `t`. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d)))

/-- What it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t)

set_option maxHeartbeats 4000000 in
/-- The body at any point keeps to the proof data. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = iprop(iprop(owns (c : Thread nD τ) scM0 fullShare (acc0 V c t.val t.isLt) ∗ rest0 c) ∗ (∃ r, prngReg c r)) from rfl]
  rw [PhiS_castSucc V c t]
  by_cases h0 : t.val % 4 = 0
  · have h3 : ¬ t.val % 4 = 3 := by omega
    refine (sep_mono_left (PhiS_any V c _ _)).trans ?_
    rw [PhiA0_eq, acc0_first V c t h0]
    have e6 := hrow_self V c t h0
    iintro ⟨⟨⟨⟨%e, HS⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (body0_first c (grid0.coords t) (ms0_0 t) (hs0_0 t) (ms0_1 t) (hs0_1 t) (ms0_2 t) (hs0_2 t) (ms0_3 t) (hs0_3 t) (ms0_4 t) (hs0_4 t) (ms0_5 t) (hs0_5 t)
      (ms0_6 t) (hs0_6 t) (ms0_7 t) (hs0_7 t) (ms0_8 t) (hs0_8 t) (ms0_9 t) (hs0_9 t) scM0 (Memref.isWhole_whole _) ((hcond0_1 t).mpr h0) (fun h => h3 ((hcond0_2 t).mp h))
      (iblk0 V c 0 t) (iblk0 V c 1 t) (iblk0 V c 2 t) (iblk0 V c 3 t) (iblk0 V c 4 t)  Set.univ _)
    isplitl [H0]; · iexact H0
    isplitl [H1]; · iexact H1
    isplitl [H2]; · iexact H2
    isplitl [H3]; · iexact H3
    isplitl [H4]; · iexact H4
    isplitl [H6]; · iexists _; iexact H6
    isplitl [H7]; · iexists _; iexact H7
    isplitl [H8]; · iexists _; iexact H8
    isplitl [H9]; · iexists _; iexact H9
    isplitl [HS]; · iexists _; iexact HS
    rw [← e6]
    iintro ⟨H0, H1, H2, H3, H4, H6, H7, H8, H9, HS⟩
    isplitl [HS HR Hg]
    · isplitl [HS HR]
      · isplitl [HS]; · iexact HS
        iexact HR
      iexact Hg
    isplitl [Ho]; · iexact Ho
    isplitl [H0]; · iapply (leaves_live (dat0 V c) 0 t rfl _ (after0_0 V c t)); iexact H0
    isplitl [H1]; · iapply (leaves_live (dat0 V c) 1 t rfl _ (after0_1 V c t)); iexact H1
    isplitl [H2]; · iapply (leaves_live (dat0 V c) 2 t rfl _ (after0_2 V c t)); iexact H2
    isplitl [H3]; · iapply (leaves_live (dat0 V c) 3 t rfl _ (after0_3 V c t)); iexact H3
    isplitl [H4]; · iapply (leaves_live (dat0 V c) 4 t rfl _ (after0_4 V c t)); iexact H4
    isplitl [H5]
    · rw [Dat.leavesExact_idle (dat0 V c) 5 t ((idle0_5 t).mpr h3) (Bool.eq_false_iff.mpr fun h => h3 ((flush0_5 t).mp h))]; iexists d5; iexact H5
    isplitl [H6]; · iapply (leaves_live (dat0 V c) 6 t (Bool.eq_false_iff.mpr fun h => (idle0_6 t).mp h h0) _ (after0_6 V c t)); iexact H6
    isplitl [H7]; · iapply (leaves_live (dat0 V c) 7 t rfl _ (after0_7 V c t)); iexact H7
    isplitl [H8]; · iapply (leaves_live (dat0 V c) 8 t rfl _ (after0_8 V c t)); iexact H8
    iapply (leaves_live (dat0 V c) 9 t rfl _ (after0_9 V c t)); iexact H9
  · have hz : t.val ≠ 0 := fun h => h0 (by rw [h])
    simp only [before0_6 V c t h0]
    rw [PhiS_pos V c _ _ hz, acc0_next V c t h0]
    by_cases h3 : t.val % 4 = 3
    · have hx5 : (dat0 V c).after 5 t = k0_pay5 (iblk0 V c 0 t) (fwdAcc (hrow V c t) (iblk0 V c 2 t) (iblk0 V c 3 t) (iblk0 V c 4 t) (acc0 V c (prev t).val (prev t).isLt)) := by
        rw [after0_5, acc0_next V c t h0]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (body0_last c (grid0.coords t) (ms0_0 t) (hs0_0 t) (ms0_1 t) (hs0_1 t) (ms0_2 t) (hs0_2 t) (ms0_3 t) (hs0_3 t) (ms0_4 t) (hs0_4 t) (ms0_5 t) (hs0_5 t)
        (ms0_6 t) (hs0_6 t) (ms0_7 t) (hs0_7 t) (ms0_8 t) (hs0_8 t) (ms0_9 t) (hs0_9 t) scM0 (Memref.isWhole_whole _) (fun h => h0 ((hcond0_1 t).mp h)) ((hcond0_2 t).mpr h3)
        (iblk0 V c 0 t) (iblk0 V c 1 t) (iblk0 V c 2 t) (iblk0 V c 3 t) (iblk0 V c 4 t) (hrow V c t) (acc0 V c (prev t).val (prev t).isLt) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexists _; iexact H7
      isplitl [H8]; · iexists _; iexact H8
      isplitl [H9]; · iexists _; iexact H9
      isplitl [HS]; · iexact HS
      iintro ⟨H0, H1, H2, H3, H4, H5, H6, H7, H8, H9, HS⟩
      isplitl [HS HR Hg]
      · isplitl [HS HR]
        · isplitl [HS]; · iexact HS
          iexact HR
        iexact Hg
      isplitl [Ho]; · iexact Ho
      isplitl [H0]; · iapply (leaves_live (dat0 V c) 0 t rfl _ (after0_0 V c t)); iexact H0
      isplitl [H1]; · iapply (leaves_live (dat0 V c) 1 t rfl _ (after0_1 V c t)); iexact H1
      isplitl [H2]; · iapply (leaves_live (dat0 V c) 2 t rfl _ (after0_2 V c t)); iexact H2
      isplitl [H3]; · iapply (leaves_live (dat0 V c) 3 t rfl _ (after0_3 V c t)); iexact H3
      isplitl [H4]; · iapply (leaves_live (dat0 V c) 4 t rfl _ (after0_4 V c t)); iexact H4
      isplitl [H5]; · iapply (leaves_live (dat0 V c) 5 t (Bool.eq_false_iff.mpr fun h => (idle0_5 t).mp h h3) _ hx5); iexact H5
      isplitl [H6]; · iapply (leaves_carried (dat0 V c) 6 t ((idle0_6 t).mpr h0) _ (fun _ => ⟨d6, before0_6 V c t h0 d6⟩) (fun _ => after0_6 V c t)); iexact H6
      isplitl [H7]; · iapply (leaves_live (dat0 V c) 7 t rfl _ (after0_7 V c t)); iexact H7
      isplitl [H8]; · iapply (leaves_live (dat0 V c) 8 t rfl _ (after0_8 V c t)); iexact H8
      iapply (leaves_live (dat0 V c) 9 t rfl _ (after0_9 V c t)); iexact H9
    · iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (body0_mid c (grid0.coords t) (ms0_0 t) (hs0_0 t) (ms0_1 t) (hs0_1 t) (ms0_2 t) (hs0_2 t) (ms0_3 t) (hs0_3 t) (ms0_4 t) (hs0_4 t) (ms0_5 t) (hs0_5 t)
        (ms0_6 t) (hs0_6 t) (ms0_7 t) (hs0_7 t) (ms0_8 t) (hs0_8 t) (ms0_9 t) (hs0_9 t) scM0 (Memref.isWhole_whole _) (fun h => h0 ((hcond0_1 t).mp h)) (fun h => h3 ((hcond0_2 t).mp h))
        (iblk0 V c 0 t) (iblk0 V c 1 t) (iblk0 V c 2 t) (iblk0 V c 3 t) (iblk0 V c 4 t) (hrow V c t) (acc0 V c (prev t).val (prev t).isLt) Set.univ _)
      isplitl [H0]; · iexact H0
      isplitl [H1]; · iexact H1
      isplitl [H2]; · iexact H2
      isplitl [H3]; · iexact H3
      isplitl [H4]; · iexact H4
      isplitl [H6]; · iexact H6
      isplitl [H7]; · iexists _; iexact H7
      isplitl [H8]; · iexists _; iexact H8
      isplitl [H9]; · iexists _; iexact H9
      isplitl [HS]; · iexact HS
      iintro ⟨H0, H1, H2, H3, H4, H6, H7, H8, H9, HS⟩
      isplitl [HS HR Hg]
      · isplitl [HS HR]
        · isplitl [HS]; · iexact HS
          iexact HR
        iexact Hg
      isplitl [Ho]; · iexact Ho
      isplitl [H0]; · iapply (leaves_live (dat0 V c) 0 t rfl _ (after0_0 V c t)); iexact H0
      isplitl [H1]; · iapply (leaves_live (dat0 V c) 1 t rfl _ (after0_1 V c t)); iexact H1
      isplitl [H2]; · iapply (leaves_live (dat0 V c) 2 t rfl _ (after0_2 V c t)); iexact H2
      isplitl [H3]; · iapply (leaves_live (dat0 V c) 3 t rfl _ (after0_3 V c t)); iexact H3
      isplitl [H4]; · iapply (leaves_live (dat0 V c) 4 t rfl _ (after0_4 V c t)); iexact H4
      isplitl [H5]
      · rw [Dat.leavesExact_idle (dat0 V c) 5 t ((idle0_5 t).mpr h3) (Bool.eq_false_iff.mpr fun h => h3 ((flush0_5 t).mp h))]; iexists d5; iexact H5
      isplitl [H6]; · iapply (leaves_carried (dat0 V c) 6 t ((idle0_6 t).mpr h0) _ (fun _ => ⟨d6, before0_6 V c t h0 d6⟩) (fun _ => after0_6 V c t)); iexact H6
      isplitl [H7]; · iapply (leaves_live (dat0 V c) 7 t rfl _ (after0_7 V c t)); iexact H7
      isplitl [H8]; · iapply (leaves_live (dat0 V c) 8 t rfl _ (after0_8 V c t)); iexact H8
      iapply (leaves_live (dat0 V c) 9 t rfl _ (after0_9 V c t)); iexact H9

/-- The body table's row at point `t` is the body. -/
theorem bodyRow0 (t : Fin cfg0.N) :
    defs₀ (F := F) .tc cfg0.body (cfg0.bodyArgs t (cfg0.slots t)) = bodyAt0 t := by
  unfold defs₀; rw [Defs.onTc_tc]

/-- The pipeline's obligation of the body, at every point. -/
theorem body_obligation0 (c : Dev nD) : BodyObligation (dat0 (F := F) V c) (defs₀ (F := F)) Variants.none () Set.univ := fun t => by
  rw [bigSep_W0, bigSep_W0, bodyRow0]
  exact triple_restated (sound_body0 V c t) rfl .rfl fun _ => .rfl

/-- What the launch hands the call is the invariant before the first point. -/
theorem hin0 (c : Dev nD) : Pipeline.ΦA spec0 c ⊢ (dat0 V c).Φ 0 := Idealize.SL.BI.Entails.refl _

/-- After the last point the invariant gives it back. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl]
  exact PhiS_any V c _ _

end Cert.HalfFFN

end
-- ==== Proof.BwdBody.lean ====
module

public import proofs.«01_k».proof.Proof.LayerLaunch
public import proofs.«01_k».proof.Proof.LayerText
public import proofs.«01_k».proof.Proof.LayerPoints
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.VecWindow
public import Idealize.ShloMosaic.Lib.Ring
public import Idealize.ShloMosaic.Lib.Tactic
public import Idealize.ShloMosaic.Lib.WordCmp
public import proofs.«01_k».proof.Proof.FwdBody

/-! # The backward call, one grid point at a time

The body of the call that forms the gradient of the half-FFN's input and the gradients of its hidden values is run from its
staging buffers. For each of the four kinds of grid point a theorem states what every buffer holds afterwards. -/

@[expose] public section

set_option maxRecDepth 16384

noncomputable section

namespace Cert.HalfFFN

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Half]

local notation "𝕄" => MT nD τ sig Unit (Elt F) ℕ (UR sig nD τ) ℕ

/-- The scaled cotangent `0.5 * dy` of a row block, rounded. -/
abbrev bwdY (x2 : Vec F S512x1024 .f32) : Vec F S512x1024 .bf16 := k1_pay7 x2
/-- The gradient of one hidden block of the gate's argument. -/
abbrev bwdA (y : Vec F S512x1024 .bf16) (x7 : Vec F S1x1x704x1024 .bf16) (x3 : Vec F S1x512x704 .bf16) : Vec F S1x512x704 .bf16 := k1_pay13 y x7 x3
/-- The gradient of one hidden block of the other factor. -/
abbrev bwdB (y : Vec F S512x1024 .bf16) (x7 : Vec F S1x1x704x1024 .bf16) (x4 : Vec F S1x512x704 .bf16) : Vec F S1x512x704 .bf16 := k1_pay14 y x7 x4
/-- One step of the accumulation of the normalised row's gradient over the hidden blocks. -/
abbrev bwdAcc (y : Vec F S512x1024 .bf16) (x3 x4 : Vec F S1x512x704 .bf16) (x5 x6 : Vec F S1x1x1024x704 .bf16) (x7 : Vec F S1x1x704x1024 .bf16)
    (a : Vec F S512x1024 .f32) : Vec F S512x1024 .f32 := k1_pay1 (k1_pay11 y x7 x3) (k1_pay12 y x7 x4) a x5 x6

set_option maxHeartbeats 1000000 in
/-- The first grid point: the scaled cotangent is stored, both accumulators start at zero. -/
theorem body1_zero (c : Dev nD) (i : grid1.Coords) (arg2 : Memref sig .tc .vmem S512x1024 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S1x512x704 .bf16) (harg5 : arg5.IsWhole) (arg6 : Memref sig .tc .vmem S1x512x704 .bf16) (harg6 : arg6.IsWhole) (arg7 : Memref sig .tc .vmem S1x1x1024x704 .bf16) (harg7 : arg7.IsWhole) (arg8 : Memref sig .tc .vmem S1x1x1024x704 .bf16) (harg8 : arg8.IsWhole) (arg9 : Memref sig .tc .vmem S1x1x704x1024 .bf16) (harg9 : arg9.IsWhole) (arg10 : Memref sig .tc .vmem S512x1024 .f32) (harg10 : arg10.IsWhole) (arg11 : Memref sig .tc .vmem S1x512x704 .bf16) (harg11 : arg11.IsWhole) (arg12 : Memref sig .tc .vmem S1x512x704 .bf16) (harg12 : arg12.IsWhole) (arg13 : Memref sig .tc .vmem S512x1024 .bf16) (harg13 : arg13.IsWhole) (arg14 : Memref sig .tc .vmem S1x1024 .f32) (harg14 : arg14.IsWhole) (hc1 : k1_cond1 i = 1#1) (hc2 : k1_cond2 i = 1#1) (hc3 : ¬ k1_cond3 i = 1#1)
    (x0 : Vec F S512x1024 .f32) (x1 : Vec F S1x1024 .f32) (x2 : Vec F S512x1024 .f32) (x3 : Vec F S1x512x704 .bf16) (x4 : Vec F S1x512x704 .bf16) (x5 : Vec F S1x1x1024x704 .bf16) (x6 : Vec F S1x1x1024x704 .bf16) (x7 : Vec F S1x1x704x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (bwdAcc (bwdY x2) x3 x4 x5 x6 x7 k1_pay8) ∗ owns (c : Thread nD τ) arg11 fullShare (bwdA (bwdY x2) x7 x3) ∗ owns (c : Thread nD τ) arg12 fullShare (bwdB (bwdY x2) x7 x4) ∗ owns (c : Thread nD τ) arg13 fullShare (bwdY x2) ∗ owns (c : Thread nD τ) arg14 fullShare (k1_pay9)) -∗ K ⟨⟩))
      ⊢ wp frame (wpE (defs₀ (F := F)) Variants.none c none) E (cc1_ffn_bwd_dx i arg2 harg2 arg3 harg3 arg4 harg4 arg5 harg5 arg6 harg6 arg7 harg7 arg8 harg8 arg9 harg9 arg10 harg10 arg11 harg11 arg12 harg12 arg13 harg13 arg14 harg14) K := by
  unfold cc1_ffn_bwd_dx
  unfold k1_part1
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
  sl_exec (disch := first | sl_exact hc1 | sl_exact hc2 | sl_exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; swap; · iexact H10
    ipureintro; refine (View.read_writes_full _ _ _ _ _).trans ?_
    first | (sl_unfold_words; done) | (try sl_unfold_words)
    simp only [View.readAt_eq_ld, harg2.read_unread, harg3.read_unread, harg4.read_unread, harg5.read_unread, harg6.read_unread, harg7.read_unread, harg8.read_unread, harg9.read_unread, View.ld_unit_zero (S := S1x1024) hz2, View.readCov_unit_zero (S := S1x1024) _ hz2, View.ld_unit_zero (S := S1x1x1024x704) hz4, View.readCov_unit_zero (S := S1x1x1024x704) _ hz4, View.ld_unit_zero (S := S1x1x704x1024) hz4, View.readCov_unit_zero (S := S1x1x704x1024) _ hz4, View.ld_unit_zero (S := S1x512x704) hz3, View.readCov_unit_zero (S := S1x512x704) _ hz3, View.ld_unit_zero (S := S512x1024) hz2, View.readCov_unit_zero (S := S512x1024) _ hz2]
  isplitl [H11]
  · iexists _; isplitr; swap; · iexact H11
    ipureintro; refine (View.read_writes_full _ _ _ _ _).trans ?_
    first | (sl_unfold_words; done) | (try sl_unfold_words)
    simp only [View.readAt_eq_ld, harg2.read_unread, harg3.read_unread, harg4.read_unread, harg5.read_unread, harg6.read_unread, harg7.read_unread, harg8.read_unread, harg9.read_unread, View.ld_unit_zero (S := S1x1024) hz2, View.readCov_unit_zero (S := S1x1024) _ hz2, View.ld_unit_zero (S := S1x1x1024x704) hz4, View.readCov_unit_zero (S := S1x1x1024x704) _ hz4, View.ld_unit_zero (S := S1x1x704x1024) hz4, View.readCov_unit_zero (S := S1x1x704x1024) _ hz4, View.ld_unit_zero (S := S1x512x704) hz3, View.readCov_unit_zero (S := S1x512x704) _ hz3, View.ld_unit_zero (S := S512x1024) hz2, View.readCov_unit_zero (S := S512x1024) _ hz2]
  isplitl [H12]
  · iexists _; isplitr; swap; · iexact H12
    ipureintro; refine (View.read_writes_full _ _ _ _ _).trans ?_
    first | (sl_unfold_words; done) | (try sl_unfold_words)
    simp only [View.readAt_eq_ld, harg2.read_unread, harg3.read_unread, harg4.read_unread, harg5.read_unread, harg6.read_unread, harg7.read_unread, harg8.read_unread, harg9.read_unread, View.ld_unit_zero (S := S1x1024) hz2, View.readCov_unit_zero (S := S1x1024) _ hz2, View.ld_unit_zero (S := S1x1x1024x704) hz4, View.readCov_unit_zero (S := S1x1x1024x704) _ hz4, View.ld_unit_zero (S := S1x1x704x1024) hz4, View.readCov_unit_zero (S := S1x1x704x1024) _ hz4, View.ld_unit_zero (S := S1x512x704) hz3, View.readCov_unit_zero (S := S1x512x704) _ hz3, View.ld_unit_zero (S := S512x1024) hz2, View.readCov_unit_zero (S := S512x1024) _ hz2]
  isplitl [H13]
  · iexists _; isplitr; swap; · iexact H13
    ipureintro; refine (View.read_writes_full _ _ _ _ _).trans ?_
    first | (sl_unfold_words; done) | (try sl_unfold_words)
    simp only [View.readAt_eq_ld, harg2.read_unread, harg3.read_unread, harg4.read_unread, harg5.read_unread, harg6.read_unread, harg7.read_unread, harg8.read_unread, harg9.read_unread, View.ld_unit_zero (S := S1x1024) hz2, View.readCov_unit_zero (S := S1x1024) _ hz2, View.ld_unit_zero (S := S1x1x1024x704) hz4, View.readCov_unit_zero (S := S1x1x1024x704) _ hz4, View.ld_unit_zero (S := S1x1x704x1024) hz4, View.readCov_unit_zero (S := S1x1x704x1024) _ hz4, View.ld_unit_zero (S := S1x512x704) hz3, View.readCov_unit_zero (S := S1x512x704) _ hz3, View.ld_unit_zero (S := S512x1024) hz2, View.readCov_unit_zero (S := S512x1024) _ hz2]
  iexists _; isplitr; swap; · iexact H14
  ipureintro; refine (View.read_writes_full _ _ _ _ _).trans ?_
  first | (sl_unfold_words; done) | (try sl_unfold_words)
  simp only [View.readAt_eq_ld, harg2.read_unread, harg3.read_unread, harg4.read_unread, harg5.read_unread, harg6.read_unread, harg7.read_unread, harg8.read_unread, harg9.read_unread, View.ld_unit_zero (S := S1x1024) hz2, View.readCov_unit_zero (S := S1x1024) _ hz2, View.ld_unit_zero (S := S1x1x1024x704) hz4, View.readCov_unit_zero (S := S1x1x1024x704) _ hz4, View.ld_unit_zero (S := S1x1x704x1024) hz4, View.readCov_unit_zero (S := S1x1x704x1024) _ hz4, View.ld_unit_zero (S := S1x512x704) hz3, View.readCov_unit_zero (S := S1x512x704) _ hz3, View.ld_unit_zero (S := S512x1024) hz2, View.readCov_unit_zero (S := S512x1024) _ hz2]

set_option maxHeartbeats 1000000 in
/-- First hidden block of a later row block. -/
theorem body1_first (c : Dev nD) (i : grid1.Coords) (arg2 : Memref sig .tc .vmem S512x1024 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S1x512x704 .bf16) (harg5 : arg5.IsWhole) (arg6 : Memref sig .tc .vmem S1x512x704 .bf16) (harg6 : arg6.IsWhole) (arg7 : Memref sig .tc .vmem S1x1x1024x704 .bf16) (harg7 : arg7.IsWhole) (arg8 : Memref sig .tc .vmem S1x1x1024x704 .bf16) (harg8 : arg8.IsWhole) (arg9 : Memref sig .tc .vmem S1x1x704x1024 .bf16) (harg9 : arg9.IsWhole) (arg10 : Memref sig .tc .vmem S512x1024 .f32) (harg10 : arg10.IsWhole) (arg11 : Memref sig .tc .vmem S1x512x704 .bf16) (harg11 : arg11.IsWhole) (arg12 : Memref sig .tc .vmem S1x512x704 .bf16) (harg12 : arg12.IsWhole) (arg13 : Memref sig .tc .vmem S512x1024 .bf16) (harg13 : arg13.IsWhole) (arg14 : Memref sig .tc .vmem S1x1024 .f32) (harg14 : arg14.IsWhole) (hc1 : k1_cond1 i = 1#1) (hc2 : ¬ k1_cond2 i = 1#1) (hc3 : ¬ k1_cond3 i = 1#1)
    (x0 : Vec F S512x1024 .f32) (x1 : Vec F S1x1024 .f32) (x2 : Vec F S512x1024 .f32) (x3 : Vec F S1x512x704 .bf16) (x4 : Vec F S1x512x704 .bf16) (x5 : Vec F S1x1x1024x704 .bf16) (x6 : Vec F S1x1x1024x704 .bf16) (x7 : Vec F S1x1x704x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (bwdAcc (bwdY x2) x3 x4 x5 x6 x7 k1_pay8) ∗ owns (c : Thread nD τ) arg11 fullShare (bwdA (bwdY x2) x7 x3) ∗ owns (c : Thread nD τ) arg12 fullShare (bwdB (bwdY x2) x7 x4) ∗ owns (c : Thread nD τ) arg13 fullShare (bwdY x2)) -∗ K ⟨⟩))
      ⊢ wp frame (wpE (defs₀ (F := F)) Variants.none c none) E (cc1_ffn_bwd_dx i arg2 harg2 arg3 harg3 arg4 harg4 arg5 harg5 arg6 harg6 arg7 harg7 arg8 harg8 arg9 harg9 arg10 harg10 arg11 harg11 arg12 harg12 arg13 harg13 arg14 harg14) K := by
  unfold cc1_ffn_bwd_dx
  unfold k1_part1
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
  sl_exec (disch := first | sl_exact hc1 | sl_exact hc2 | sl_exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; swap; · iexact H10
    ipureintro; refine (View.read_writes_full _ _ _ _ _).trans ?_
    first | (sl_unfold_words; done) | (try sl_unfold_words)
    simp only [View.readAt_eq_ld, harg2.read_unread, harg3.read_unread, harg4.read_unread, harg5.read_unread, harg6.read_unread, harg7.read_unread, harg8.read_unread, harg9.read_unread, View.ld_unit_zero (S := S1x1024) hz2, View.readCov_unit_zero (S := S1x1024) _ hz2, View.ld_unit_zero (S := S1x1x1024x704) hz4, View.readCov_unit_zero (S := S1x1x1024x704) _ hz4, View.ld_unit_zero (S := S1x1x704x1024) hz4, View.readCov_unit_zero (S := S1x1x704x1024) _ hz4, View.ld_unit_zero (S := S1x512x704) hz3, View.readCov_unit_zero (S := S1x512x704) _ hz3, View.ld_unit_zero (S := S512x1024) hz2, View.readCov_unit_zero (S := S512x1024) _ hz2]
  isplitl [H11]
  · iexists _; isplitr; swap; · iexact H11
    ipureintro; refine (View.read_writes_full _ _ _ _ _).trans ?_
    first | (sl_unfold_words; done) | (try sl_unfold_words)
    simp only [View.readAt_eq_ld, harg2.read_unread, harg3.read_unread, harg4.read_unread, harg5.read_unread, harg6.read_unread, harg7.read_unread, harg8.read_unread, harg9.read_unread, View.ld_unit_zero (S := S1x1024) hz2, View.readCov_unit_zero (S := S1x1024) _ hz2, View.ld_unit_zero (S := S1x1x1024x704) hz4, View.readCov_unit_zero (S := S1x1x1024x704) _ hz4, View.ld_unit_zero (S := S1x1x704x1024) hz4, View.readCov_unit_zero (S := S1x1x704x1024) _ hz4, View.ld_unit_zero (S := S1x512x704) hz3, View.readCov_unit_zero (S := S1x512x704) _ hz3, View.ld_unit_zero (S := S512x1024) hz2, View.readCov_unit_zero (S := S512x1024) _ hz2]
  isplitl [H12]
  · iexists _; isplitr; swap; · iexact H12
    ipureintro; refine (View.read_writes_full _ _ _ _ _).trans ?_
    first | (sl_unfold_words; done) | (try sl_unfold_words)
    simp only [View.readAt_eq_ld, harg2.read_unread, harg3.read_unread, harg4.read_unread, harg5.read_unread, harg6.read_unread, harg7.read_unread, harg8.read_unread, harg9.read_unread, View.ld_unit_zero (S := S1x1024) hz2, View.readCov_unit_zero (S := S1x1024) _ hz2, View.ld_unit_zero (S := S1x1x1024x704) hz4, View.readCov_unit_zero (S := S1x1x1024x704) _ hz4, View.ld_unit_zero (S := S1x1x704x1024) hz4, View.readCov_unit_zero (S := S1x1x704x1024) _ hz4, View.ld_unit_zero (S := S1x512x704) hz3, View.readCov_unit_zero (S := S1x512x704) _ hz3, View.ld_unit_zero (S := S512x1024) hz2, View.readCov_unit_zero (S := S512x1024) _ hz2]
  iexists _; isplitr; swap; · iexact H13
  ipureintro; refine (View.read_writes_full _ _ _ _ _).trans ?_
  first | (sl_unfold_words; done) | (try sl_unfold_words)
  simp only [View.readAt_eq_ld, harg2.read_unread, harg3.read_unread, harg4.read_unread, harg5.read_unread, harg6.read_unread, harg7.read_unread, harg8.read_unread, harg9.read_unread, View.ld_unit_zero (S := S1x1024) hz2, View.readCov_unit_zero (S := S1x1024) _ hz2, View.ld_unit_zero (S := S1x1x1024x704) hz4, View.readCov_unit_zero (S := S1x1x1024x704) _ hz4, View.ld_unit_zero (S := S1x1x704x1024) hz4, View.readCov_unit_zero (S := S1x1x704x1024) _ hz4, View.ld_unit_zero (S := S1x512x704) hz3, View.readCov_unit_zero (S := S1x512x704) _ hz3, View.ld_unit_zero (S := S512x1024) hz2, View.readCov_unit_zero (S := S512x1024) _ hz2]

set_option maxHeartbeats 1000000 in
/-- Middle hidden block: the scaled cotangent is read back. -/
theorem body1_mid (c : Dev nD) (i : grid1.Coords) (arg2 : Memref sig .tc .vmem S512x1024 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S1x512x704 .bf16) (harg5 : arg5.IsWhole) (arg6 : Memref sig .tc .vmem S1x512x704 .bf16) (harg6 : arg6.IsWhole) (arg7 : Memref sig .tc .vmem S1x1x1024x704 .bf16) (harg7 : arg7.IsWhole) (arg8 : Memref sig .tc .vmem S1x1x1024x704 .bf16) (harg8 : arg8.IsWhole) (arg9 : Memref sig .tc .vmem S1x1x704x1024 .bf16) (harg9 : arg9.IsWhole) (arg10 : Memref sig .tc .vmem S512x1024 .f32) (harg10 : arg10.IsWhole) (arg11 : Memref sig .tc .vmem S1x512x704 .bf16) (harg11 : arg11.IsWhole) (arg12 : Memref sig .tc .vmem S1x512x704 .bf16) (harg12 : arg12.IsWhole) (arg13 : Memref sig .tc .vmem S512x1024 .bf16) (harg13 : arg13.IsWhole) (arg14 : Memref sig .tc .vmem S1x1024 .f32) (harg14 : arg14.IsWhole) (hc1 : ¬ k1_cond1 i = 1#1) (hc2 : ¬ k1_cond2 i = 1#1) (hc3 : ¬ k1_cond3 i = 1#1)
    (x0 : Vec F S512x1024 .f32) (x1 : Vec F S1x1024 .f32) (x2 : Vec F S512x1024 .f32) (x3 : Vec F S1x512x704 .bf16) (x4 : Vec F S1x512x704 .bf16) (x5 : Vec F S1x1x1024x704 .bf16) (x6 : Vec F S1x1x1024x704 .bf16) (x7 : Vec F S1x1x704x1024 .bf16) (a : Vec F S512x1024 .f32) (y : Vec F S512x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare a ∗ (∃ d, owns (c : Thread nD τ) arg11 fullShare d) ∗ (∃ d, owns (c : Thread nD τ) arg12 fullShare d) ∗ owns (c : Thread nD τ) arg13 fullShare y
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (bwdAcc (y) x3 x4 x5 x6 x7 a) ∗ owns (c : Thread nD τ) arg11 fullShare (bwdA (y) x7 x3) ∗ owns (c : Thread nD τ) arg12 fullShare (bwdB (y) x7 x4) ∗ owns (c : Thread nD τ) arg13 fullShare y) -∗ K ⟨⟩))
      ⊢ wp frame (wpE (defs₀ (F := F)) Variants.none c none) E (cc1_ffn_bwd_dx i arg2 harg2 arg3 harg3 arg4 harg4 arg5 harg5 arg6 harg6 arg7 harg7 arg8 harg8 arg9 harg9 arg10 harg10 arg11 harg11 arg12 harg12 arg13 harg13 arg14 harg14) K := by
  unfold cc1_ffn_bwd_dx
  unfold k1_part1
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%f13, %hf13, H13⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg13.eq_unread hf13
  sl_exec (disch := first | sl_exact hc1 | sl_exact hc2 | sl_exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; swap; · iexact H10
    ipureintro; refine (View.read_writes_full _ _ _ _ _).trans ?_
    first | (sl_unfold_words; done) | (try sl_unfold_words)
    simp only [View.readAt_eq_ld, harg2.read_unread, harg3.read_unread, harg4.read_unread, harg5.read_unread, harg6.read_unread, harg7.read_unread, harg8.read_unread, harg9.read_unread, harg10.read_unread, harg13.read_unread, View.ld_unit_zero (S := S1x1024) hz2, View.readCov_unit_zero (S := S1x1024) _ hz2, View.ld_unit_zero (S := S1x1x1024x704) hz4, View.readCov_unit_zero (S := S1x1x1024x704) _ hz4, View.ld_unit_zero (S := S1x1x704x1024) hz4, View.readCov_unit_zero (S := S1x1x704x1024) _ hz4, View.ld_unit_zero (S := S1x512x704) hz3, View.readCov_unit_zero (S := S1x512x704) _ hz3, View.ld_unit_zero (S := S512x1024) hz2, View.readCov_unit_zero (S := S512x1024) _ hz2]
  isplitl [H11]
  · iexists _; isplitr; swap; · iexact H11
    ipureintro; refine (View.read_writes_full _ _ _ _ _).trans ?_
    first | (sl_unfold_words; done) | (try sl_unfold_words)
    simp only [View.readAt_eq_ld, harg2.read_unread, harg3.read_unread, harg4.read_unread, harg5.read_unread, harg6.read_unread, harg7.read_unread, harg8.read_unread, harg9.read_unread, harg10.read_unread, harg13.read_unread, View.ld_unit_zero (S := S1x1024) hz2, View.readCov_unit_zero (S := S1x1024) _ hz2, View.ld_unit_zero (S := S1x1x1024x704) hz4, View.readCov_unit_zero (S := S1x1x1024x704) _ hz4, View.ld_unit_zero (S := S1x1x704x1024) hz4, View.readCov_unit_zero (S := S1x1x704x1024) _ hz4, View.ld_unit_zero (S := S1x512x704) hz3, View.readCov_unit_zero (S := S1x512x704) _ hz3, View.ld_unit_zero (S := S512x1024) hz2, View.readCov_unit_zero (S := S512x1024) _ hz2]
  isplitl [H12]
  · iexists _; isplitr; swap; · iexact H12
    ipureintro; refine (View.read_writes_full _ _ _ _ _).trans ?_
    first | (sl_unfold_words; done) | (try sl_unfold_words)
    simp only [View.readAt_eq_ld, harg2.read_unread, harg3.read_unread, harg4.read_unread, harg5.read_unread, harg6.read_unread, harg7.read_unread, harg8.read_unread, harg9.read_unread, harg10.read_unread, harg13.read_unread, View.ld_unit_zero (S := S1x1024) hz2, View.readCov_unit_zero (S := S1x1024) _ hz2, View.ld_unit_zero (S := S1x1x1024x704) hz4, View.readCov_unit_zero (S := S1x1x1024x704) _ hz4, View.ld_unit_zero (S := S1x1x704x1024) hz4, View.readCov_unit_zero (S := S1x1x704x1024) _ hz4, View.ld_unit_zero (S := S1x512x704) hz3, View.readCov_unit_zero (S := S1x512x704) _ hz3, View.ld_unit_zero (S := S512x1024) hz2, View.readCov_unit_zero (S := S512x1024) _ hz2]
  iexists _; isplitr; · ipureintro; exact harg13.read_unread _
  iexact H13

set_option maxHeartbeats 1000000 in
/-- Last hidden block: the norm's backward pass closes the row block, and the scale's gradient runs on. -/
theorem body1_last (c : Dev nD) (i : grid1.Coords) (arg2 : Memref sig .tc .vmem S512x1024 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S1x512x704 .bf16) (harg5 : arg5.IsWhole) (arg6 : Memref sig .tc .vmem S1x512x704 .bf16) (harg6 : arg6.IsWhole) (arg7 : Memref sig .tc .vmem S1x1x1024x704 .bf16) (harg7 : arg7.IsWhole) (arg8 : Memref sig .tc .vmem S1x1x1024x704 .bf16) (harg8 : arg8.IsWhole) (arg9 : Memref sig .tc .vmem S1x1x704x1024 .bf16) (harg9 : arg9.IsWhole) (arg10 : Memref sig .tc .vmem S512x1024 .f32) (harg10 : arg10.IsWhole) (arg11 : Memref sig .tc .vmem S1x512x704 .bf16) (harg11 : arg11.IsWhole) (arg12 : Memref sig .tc .vmem S1x512x704 .bf16) (harg12 : arg12.IsWhole) (arg13 : Memref sig .tc .vmem S512x1024 .bf16) (harg13 : arg13.IsWhole) (arg14 : Memref sig .tc .vmem S1x1024 .f32) (harg14 : arg14.IsWhole) (hc1 : ¬ k1_cond1 i = 1#1) (hc2 : ¬ k1_cond2 i = 1#1) (hc3 : k1_cond3 i = 1#1)
    (x0 : Vec F S512x1024 .f32) (x1 : Vec F S1x1024 .f32) (x2 : Vec F S512x1024 .f32) (x3 : Vec F S1x512x704 .bf16) (x4 : Vec F S1x512x704 .bf16) (x5 : Vec F S1x1x1024x704 .bf16) (x6 : Vec F S1x1x1024x704 .bf16) (x7 : Vec F S1x1x704x1024 .bf16) (a : Vec F S512x1024 .f32) (y : Vec F S512x1024 .bf16) (s : Vec F S1x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare a ∗ (∃ d, owns (c : Thread nD τ) arg11 fullShare d) ∗ (∃ d, owns (c : Thread nD τ) arg12 fullShare d) ∗ owns (c : Thread nD τ) arg13 fullShare y ∗ owns (c : Thread nD τ) arg14 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (k1_pay5 (bwdAcc (y) x3 x4 x5 x6 x7 a) x0 x1 x2) ∗ owns (c : Thread nD τ) arg11 fullShare (bwdA (y) x7 x3) ∗ owns (c : Thread nD τ) arg12 fullShare (bwdB (y) x7 x4) ∗ owns (c : Thread nD τ) arg13 fullShare y ∗ owns (c : Thread nD τ) arg14 fullShare (k1_pay6 (bwdAcc (y) x3 x4 x5 x6 x7 a) x0 s)) -∗ K ⟨⟩))
      ⊢ wp frame (wpE (defs₀ (F := F)) Variants.none c none) E (cc1_ffn_bwd_dx i arg2 harg2 arg3 harg3 arg4 harg4 arg5 harg5 arg6 harg6 arg7 harg7 arg8 harg8 arg9 harg9 arg10 harg10 arg11 harg11 arg12 harg12 arg13 harg13 arg14 harg14) K := by
  unfold cc1_ffn_bwd_dx
  unfold k1_part1
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%f13, %hf13, H13⟩, ⟨%f14, %hf14, H14⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg13.eq_unread hf13; obtain rfl := harg14.eq_unread hf14
  sl_exec (disch := first | sl_exact hc1 | sl_exact hc2 | sl_exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; swap; · iexact H10
    ipureintro; refine (View.read_writes_full _ _ _ _ _).trans ?_
    first | (sl_unfold_words; done) | (try sl_unfold_words)
    simp only [View.readAt_eq_ld, harg2.read_unread, harg3.read_unread, harg4.read_unread, harg5.read_unread, harg6.read_unread, harg7.read_unread, harg8.read_unread, harg9.read_unread, harg10.read_unread, harg13.read_unread, harg14.read_unread, View.ld_unit_zero (S := S1x1024) hz2, View.readCov_unit_zero (S := S1x1024) _ hz2, View.ld_unit_zero (S := S1x1x1024x704) hz4, View.readCov_unit_zero (S := S1x1x1024x704) _ hz4, View.ld_unit_zero (S := S1x1x704x1024) hz4, View.readCov_unit_zero (S := S1x1x704x1024) _ hz4, View.ld_unit_zero (S := S1x512x704) hz3, View.readCov_unit_zero (S := S1x512x704) _ hz3, View.ld_unit_zero (S := S512x1024) hz2, View.readCov_unit_zero (S := S512x1024) _ hz2]
  isplitl [H11]
  · iexists _; isplitr; swap; · iexact H11
    ipureintro; refine (View.read_writes_full _ _ _ _ _).trans ?_
    first | (sl_unfold_words; done) | (try sl_unfold_words)
    simp only [View.readAt_eq_ld, harg2.read_unread, harg3.read_unread, harg4.read_unread, harg5.read_unread, harg6.read_unread, harg7.read_unread, harg8.read_unread, harg9.read_unread, harg10.read_unread, harg13.read_unread, harg14.read_unread, View.ld_unit_zero (S := S1x1024) hz2, View.readCov_unit_zero (S := S1x1024) _ hz2, View.ld_unit_zero (S := S1x1x1024x704) hz4, View.readCov_unit_zero (S := S1x1x1024x704) _ hz4, View.ld_unit_zero (S := S1x1x704x1024) hz4, View.readCov_unit_zero (S := S1x1x704x1024) _ hz4, View.ld_unit_zero (S := S1x512x704) hz3, View.readCov_unit_zero (S := S1x512x704) _ hz3, View.ld_unit_zero (S := S512x1024) hz2, View.readCov_unit_zero (S := S512x1024) _ hz2]
  isplitl [H12]
  · iexists _; isplitr; swap; · iexact H12
    ipureintro; refine (View.read_writes_full _ _ _ _ _).trans ?_
    first | (sl_unfold_words; done) | (try sl_unfold_words)
    simp only [View.readAt_eq_ld, harg2.read_unread, harg3.read_unread, harg4.read_unread, harg5.read_unread, harg6.read_unread, harg7.read_unread, harg8.read_unread, harg9.read_unread, harg10.read_unread, harg13.read_unread, harg14.read_unread, View.ld_unit_zero (S := S1x1024) hz2, View.readCov_unit_zero (S := S1x1024) _ hz2, View.ld_unit_zero (S := S1x1x1024x704) hz4, View.readCov_unit_zero (S := S1x1x1024x704) _ hz4, View.ld_unit_zero (S := S1x1x704x1024) hz4, View.readCov_unit_zero (S := S1x1x704x1024) _ hz4, View.ld_unit_zero (S := S1x512x704) hz3, View.readCov_unit_zero (S := S1x512x704) _ hz3, View.ld_unit_zero (S := S512x1024) hz2, View.readCov_unit_zero (S := S512x1024) _ hz2]
  isplitl [H13]
  · iexists _; isplitr; · ipureintro; exact harg13.read_unread _
    iexact H13
  iexists _; isplitr; swap; · iexact H14
  ipureintro; refine (View.read_writes_full _ _ _ _ _).trans ?_
  first | (sl_unfold_words; done) | (try sl_unfold_words)
  simp only [View.readAt_eq_ld, harg2.read_unread, harg3.read_unread, harg4.read_unread, harg5.read_unread, harg6.read_unread, harg7.read_unread, harg8.read_unread, harg9.read_unread, harg10.read_unread, harg13.read_unread, harg14.read_unread, View.ld_unit_zero (S := S1x1024) hz2, View.readCov_unit_zero (S := S1x1024) _ hz2, View.ld_unit_zero (S := S1x1x1024x704) hz4, View.readCov_unit_zero (S := S1x1x1024x704) _ hz4, View.ld_unit_zero (S := S1x1x704x1024) hz4, View.readCov_unit_zero (S := S1x1x704x1024) _ hz4, View.ld_unit_zero (S := S1x512x704) hz3, View.readCov_unit_zero (S := S1x512x704) _ hz3, View.ld_unit_zero (S := S512x1024) hz2, View.readCov_unit_zero (S := S512x1024) _ hz2]

end Cert.HalfFFN

end
-- ==== Proof.BwdRegion.lean ====
module

public import proofs.«01_k».proof.Proof.LayerLaunch
public import proofs.«01_k».proof.Proof.LayerText
public import proofs.«01_k».proof.Proof.LayerPoints
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.VecWindow
public import Idealize.ShloMosaic.Lib.Ring
public import Idealize.ShloMosaic.Lib.Tactic
public import Idealize.ShloMosaic.Lib.WordCmp
public import proofs.«01_k».proof.Proof.BwdBody
public import proofs.«01_k».proof.Proof.Carry

/-! # The backward call over its grid

Row block by row block the call scales the cotangent, forms the hidden gradients of the four hidden blocks, accumulates the gradient of
the normalised rows, and closes it through the norm; the scale's gradient runs over all row blocks. This module names what every staging
buffer holds after each grid point, and shows that the body keeps to it. -/

@[expose] public section

set_option maxRecDepth 16384

noncomputable section

namespace Cert.HalfFFN

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Half]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- An input window holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- An input window holds its block at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- An input window holds its block at every point. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- An input window holds its block at every point. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- An input window holds its block at every point. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- An input window holds its block at every point. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- An input window holds its block at every point. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- The first hidden block of a row block. -/
theorem hcond1_1 : ∀ t : Fin cfg1.N, k1_cond1 (grid1.coords t) = 1#1 ↔ t.val % 4 = 0 :=
  (fun t => by
    have ht : t.val < 64 := Nat.lt_of_lt_of_eq t.isLt N_1
    have e0 : (grid1.coords t 0).val = t.val / 4 % 16 := Pipeline.Grid.coords_val t 0 (by decide) rfl
    have e1 : (grid1.coords t 1).val = t.val / 1 % 4 := Pipeline.Grid.coords_val t 1 (by decide) rfl
    simp only [k1_cond1, e1]
    word_cmp
   : ∀ t : Fin grid1.N, k1_cond1 (grid1.coords t) = 1#1 ↔ t.val % 4 = 0)

/-- The first grid point. -/
theorem hcond1_2 : ∀ t : Fin cfg1.N, k1_cond2 (grid1.coords t) = 1#1 ↔ t.val = 0 :=
  (fun t => by
    have ht : t.val < 64 := Nat.lt_of_lt_of_eq t.isLt N_1
    have e0 : (grid1.coords t 0).val = t.val / 4 % 16 := Pipeline.Grid.coords_val t 0 (by decide) rfl
    have e1 : (grid1.coords t 1).val = t.val / 1 % 4 := Pipeline.Grid.coords_val t 1 (by decide) rfl
    simp only [k1_cond2, e0, e1]
    word_cmp
   : ∀ t : Fin grid1.N, k1_cond2 (grid1.coords t) = 1#1 ↔ t.val = 0)

/-- The last hidden block of a row block. -/
theorem hcond1_3 : ∀ t : Fin cfg1.N, k1_cond3 (grid1.coords t) = 1#1 ↔ t.val % 4 = 3 :=
  (fun t => by
    have ht : t.val < 64 := Nat.lt_of_lt_of_eq t.isLt N_1
    have e0 : (grid1.coords t 0).val = t.val / 4 % 16 := Pipeline.Grid.coords_val t 0 (by decide) rfl
    have e1 : (grid1.coords t 1).val = t.val / 1 % 4 := Pipeline.Grid.coords_val t 1 (by decide) rfl
    simp only [k1_cond3, e1]
    word_cmp
   : ∀ t : Fin grid1.N, k1_cond3 (grid1.coords t) = 1#1 ↔ t.val % 4 = 3)

/-- Output 11 is idle but at the first hidden block. -/
theorem idle1_11 (t : Fin cfg1.N) : cfg1.idle 11 (grid1.coords t) = true ↔ ¬ t.val % 4 = 0 := by
  rw [← hcond1_1 t]; show (!(k1_cond1 (grid1.coords t) == 1#1)) = true ↔ _
  simp
/-- Output 12 is idle but at the first grid point and at the last hidden blocks. -/
theorem idle1_12 (t : Fin cfg1.N) : cfg1.idle 12 (grid1.coords t) = true ↔ (¬ t.val = 0 ∧ ¬ t.val % 4 = 3) := by
  rw [← hcond1_2 t, ← hcond1_3 t]; show (!(k1_cond2 (grid1.coords t) == 1#1) && !(k1_cond3 (grid1.coords t) == 1#1)) = true ↔ _
  simp

/-- The first point of `t`'s row block. -/
def row1 (t : Fin cfg1.N) : Fin cfg1.N := ⟨4 * (t.val / 4), Nat.lt_of_le_of_lt (by omega) t.isLt⟩
theorem row1_self (t : Fin cfg1.N) (h : t.val % 4 = 0) : row1 t = t := Fin.ext (by show 4 * (t.val / 4) = t.val; omega)
theorem row1_prev (t : Fin cfg1.N) (h : ¬ t.val % 4 = 0) : row1 t = row1 (prev t) :=
  Fin.ext (by show 4 * (t.val / 4) = 4 * ((t.val - 1) / 4); omega)

/-- The scaled cotangent rows of `t`'s row block. -/
def yrow (c : Dev nD) (t : Fin cfg1.N) : Vec F S512x1024 .bf16 := bwdY (iblk1 V c 2 (row1 t))
theorem yrow_self (c : Dev nD) (t : Fin cfg1.N) (h : t.val % 4 = 0) : yrow V c t = bwdY (iblk1 V c 2 t) := by
  unfold yrow; rw [row1_self t h]
theorem yrow_prev (c : Dev nD) (t : Fin cfg1.N) (h : ¬ t.val % 4 = 0) : yrow V c t = yrow V c (prev t) := by
  unfold yrow; rw [row1_prev t h]

/-- One accumulation step at point `t`, from `a`. -/
abbrev step1 (c : Dev nD) (t : Fin cfg1.N) (a : Vec F S512x1024 .f32) : Vec F S512x1024 .f32 :=
  bwdAcc (yrow V c t) (iblk1 V c 3 t) (iblk1 V c 4 t) (iblk1 V c 5 t) (iblk1 V c 6 t) (iblk1 V c 7 t) a

/-- The accumulated gradient of the normalised rows after point `n`. -/
def acc1 (c : Dev nD) : (n : ℕ) → n < cfg1.N → Vec F S512x1024 .f32
  | 0, hn => step1 V c ⟨0, hn⟩ k1_pay8
  | n + 1, hn => step1 V c ⟨n + 1, hn⟩ (if (n + 1) % 4 = 0 then k1_pay8 else acc1 c n (Nat.lt_of_succ_lt hn))

theorem acc1_first (c : Dev nD) (t : Fin cfg1.N) (h : t.val % 4 = 0) : acc1 V c t.val t.isLt = step1 V c t k1_pay8 := by
  obtain ⟨n, hn⟩ := t
  cases n with
  | zero => rfl
  | succ n => simp only [acc1]; rw [if_pos h]
theorem acc1_next (c : Dev nD) (t : Fin cfg1.N) (h : ¬ t.val % 4 = 0) :
    acc1 V c t.val t.isLt = step1 V c t (acc1 V c (prev t).val (prev t).isLt) := by
  obtain ⟨n, hn⟩ := t
  cases n with
  | zero => exact absurd rfl h
  | succ n => simp only [acc1]; rw [if_neg h]; rfl

/-- The scale's gradient after point `n`. -/
def dg1 (c : Dev nD) : (n : ℕ) → n < cfg1.N → Vec F S1x1024 .f32
  | 0, _ => k1_pay9
  | n + 1, hn => if (n + 1) % 4 = 3 then k1_pay6 (acc1 V c (n + 1) hn) (iblk1 V c 0 ⟨n + 1, hn⟩) (dg1 c n (Nat.lt_of_succ_lt hn))
      else dg1 c n (Nat.lt_of_succ_lt hn)

theorem dg1_zero (c : Dev nD) (t : Fin cfg1.N) (h : t.val = 0) : dg1 V c t.val t.isLt = k1_pay9 := by
  obtain ⟨n, hn⟩ := t
  cases n with
  | zero => rfl
  | succ n => exact absurd h (Nat.succ_ne_zero n)
theorem dg1_last (c : Dev nD) (t : Fin cfg1.N) (h : t.val % 4 = 3) :
    dg1 V c t.val t.isLt = k1_pay6 (acc1 V c t.val t.isLt) (iblk1 V c 0 t) (dg1 V c (prev t).val (prev t).isLt) := by
  obtain ⟨n, hn⟩ := t
  cases n with
  | zero => exact absurd (show 0 % 4 = 3 from h) (by decide)
  | succ n => simp only [dg1]; rw [if_pos h]; rfl
theorem dg1_kept (c : Dev nD) (t : Fin cfg1.N) (h0 : ¬ t.val = 0) (h : ¬ t.val % 4 = 3) :
    dg1 V c t.val t.isLt = dg1 V c (prev t).val (prev t).isLt := by
  obtain ⟨n, hn⟩ := t
  cases n with
  | zero => exact absurd rfl h0
  | succ n => simp only [dg1]; rw [if_neg h]; rfl

/-- What the input gradient's buffer holds after point `t`: the accumulator, closed through the norm at the last hidden block. -/
def dx1 (c : Dev nD) (t : Fin cfg1.N) : Vec F S512x1024 .f32 :=
  if t.val % 4 = 3 then k1_pay5 (acc1 V c t.val t.isLt) (iblk1 V c 0 t) (iblk1 V c 1 t) (iblk1 V c 2 t) else acc1 V c t.val t.isLt

/-- What the backward call's arrays and staging buffers hold. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => dx1 V c t
    | ⟨9, _⟩ => bwdA (yrow V c t) (iblk1 V c 7 t) (iblk1 V c 3 t)
    | ⟨10, _⟩ => bwdB (yrow V c t) (iblk1 V c 7 t) (iblk1 V c 4 t)
    | ⟨11, _⟩ => yrow V c t
    | ⟨12, _⟩ => dg1 V c t.val t.isLt
  Φ _ := Pipeline.ΦA spec1 c
  q _ := fullShare
  owed _ := 0

/-- The proof data's arrays are what the call finds. -/
theorem A_eq1 (c : Dev nD) (w : Fin cfg1.W) : (dat1 V c).A w = V c (Pipeline.arrRef spec1 w) := by
  dsimp only [dat1]

/-! What the body leaves, window by window. -/
theorem after1_0 (c : Dev nD) (t : Fin cfg1.N) : (dat1 V c).after 0 t = iblk1 V c 0 t := by dsimp only [dat1] <;> rfl
theorem after1_1 (c : Dev nD) (t : Fin cfg1.N) : (dat1 V c).after 1 t = iblk1 V c 1 t := by dsimp only [dat1] <;> rfl
theorem after1_2 (c : Dev nD) (t : Fin cfg1.N) : (dat1 V c).after 2 t = iblk1 V c 2 t := by dsimp only [dat1] <;> rfl
theorem after1_3 (c : Dev nD) (t : Fin cfg1.N) : (dat1 V c).after 3 t = iblk1 V c 3 t := by dsimp only [dat1] <;> rfl
theorem after1_4 (c : Dev nD) (t : Fin cfg1.N) : (dat1 V c).after 4 t = iblk1 V c 4 t := by dsimp only [dat1] <;> rfl
theorem after1_5 (c : Dev nD) (t : Fin cfg1.N) : (dat1 V c).after 5 t = iblk1 V c 5 t := by dsimp only [dat1] <;> rfl
theorem after1_6 (c : Dev nD) (t : Fin cfg1.N) : (dat1 V c).after 6 t = iblk1 V c 6 t := by dsimp only [dat1] <;> rfl
theorem after1_7 (c : Dev nD) (t : Fin cfg1.N) : (dat1 V c).after 7 t = iblk1 V c 7 t := by dsimp only [dat1] <;> rfl
theorem after1_8 (c : Dev nD) (t : Fin cfg1.N) : (dat1 V c).after 8 t = dx1 V c t := by dsimp only [dat1] <;> rfl
theorem after1_9 (c : Dev nD) (t : Fin cfg1.N) : (dat1 V c).after 9 t = bwdA (yrow V c t) (iblk1 V c 7 t) (iblk1 V c 3 t) := by dsimp only [dat1] <;> rfl
theorem after1_10 (c : Dev nD) (t : Fin cfg1.N) : (dat1 V c).after 10 t = bwdB (yrow V c t) (iblk1 V c 7 t) (iblk1 V c 4 t) := by dsimp only [dat1] <;> rfl
theorem after1_11 (c : Dev nD) (t : Fin cfg1.N) : (dat1 V c).after 11 t = yrow V c t := by dsimp only [dat1] <;> rfl
theorem after1_12 (c : Dev nD) (t : Fin cfg1.N) : (dat1 V c).after 12 t = dg1 V c t.val t.isLt := by dsimp only [dat1] <;> rfl

/-! Each input's staging buffer holds its block. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-- The accumulator's buffer at a later hidden block holds what the block before left. -/
theorem before1_8 (c : Dev nD) (t : Fin cfg1.N) (h : ¬ t.val % 4 = 0) (d) : (dat1 V c).before 8 t d = acc1 V c (prev t).val (prev t).isLt := by
  rw [(dat1 V c).before_out_kept 8 rfl t (fun h0 => h (by rw [h0]))
    (Bool.eq_false_iff.mpr fun hf => by have := (flush1_8 (prev t)).mp hf; dsimp only at this; omega) (fun _ => rfl) (fun _ _ => rfl) d]
  rw [after1_8]; unfold dx1; rw [if_neg (by dsimp only; omega)]
/-- The scaled cotangent stays in its buffer through the hidden blocks. -/
theorem before1_11 (c : Dev nD) (t : Fin cfg1.N) (h : ¬ t.val % 4 = 0) (d) : (dat1 V c).before 11 t d = yrow V c t :=
  before_carried (dat1 V c) 11 rfl (fun _ _ => rfl) (fun t => yrow V c t) (fun t => ¬ t.val % 4 = 0)
    (fun t ht => ⟨fun h0 => ht (by rw [h0]),
      Bool.eq_false_iff.mpr fun hf => by have := (flush1_11 (prev t)).mp hf; dsimp only at this; omega,
      fun hi => ⟨(idle1_11 (prev t)).mp hi, yrow_prev V c t ht⟩,
      fun _ => by rw [after1_11, ← yrow_prev V c t ht]⟩) t.val t rfl h d
/-- The scale's gradient stays in its buffer over the whole grid. -/
theorem before1_12 (c : Dev nD) (t : Fin cfg1.N) (h : ¬ t.val = 0) (d) : (dat1 V c).before 12 t d = dg1 V c (prev t).val (prev t).isLt :=
  before_carried (dat1 V c) 12 rfl (fun _ _ => rfl) (fun t => dg1 V c (prev t).val (prev t).isLt) (fun t => ¬ t.val = 0)
    (fun t ht => ⟨ht,
      Bool.eq_false_iff.mpr fun hf => by
        have := (flush1_12 (prev t)).mp hf; have hN : t.val < 64 := Nat.lt_of_lt_of_eq t.isLt N_1; dsimp only at this; omega,
      fun hi => ⟨((idle1_12 (prev t)).mp hi).1, dg1_kept V c (prev t) ((idle1_12 (prev t)).mp hi).1 ((idle1_12 (prev t)).mp hi).2⟩,
      fun _ => after1_12 V c (prev t)⟩) t.val t rfl h d

/-! Each window's staging memref at a point, and its wholeness. -/
abbrev ms1_0 (t : Fin cfg1.N) : Memref sig .tc .vmem S512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x704 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512x704 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1x1024x704 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1x1024x704 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x1x704x1024 .bf16 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S512x1024 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x512x704 .bf16 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S1x512x704 .bf16 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S512x1024 .bf16 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S1x1024 .f32 := win1_12.stage (cfg1.slots t 12)
abbrev hs1_12 (t : Fin cfg1.N) : (ms1_12 t).IsWhole := hstage1_12 ((cfg1.slots t 12).cast nbuf1_12)

/-- What the body is called with at point `t`. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d)))

/-- What it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t
    ∗ (dat1 V c).leavesExact 12 t)

set_option maxHeartbeats 8000000 in
/-- The body at any point keeps to the proof data. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl]
  rw [show (dat1 V c).Φ t.succ = Pipeline.ΦA spec1 c from rfl, show (dat1 V c).Φ t.castSucc = Pipeline.ΦA spec1 c from rfl]
  by_cases h0 : t.val % 4 = 0
  · have h3 : ¬ t.val % 4 = 3 := by omega
    have e11 := yrow_self V c t h0
    have hx8 : (dat1 V c).after 8 t = step1 V c t k1_pay8 := by
      rw [after1_8]; unfold dx1; rw [if_neg h3, acc1_first V c t h0]
    by_cases hz : t.val = 0
    · have hx12 : (dat1 V c).after 12 t = k1_pay9 := by rw [after1_12, dg1_zero V c t hz]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (body1_zero c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) ((hcond1_1 t).mpr h0) ((hcond1_2 t).mpr hz) (fun h => h3 ((hcond1_3 t).mp h))
        (iblk1 V c 0 t) (iblk1 V c 1 t) (iblk1 V c 2 t) (iblk1 V c 3 t) (iblk1 V c 4 t) (iblk1 V c 5 t) (iblk1 V c 6 t) (iblk1 V c 7 t)  Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [H12]; · iexists _; iexact H12
      rw [← e11]
      iintro ⟨H0, H1, H2, H3, H4, H5, H6, H7, H8, H9, H10, H11, H12⟩
      isplitl [HΦ]; · iexact HΦ
      isplitl [Ho]; · iexact Ho
      isplitl [H0]; · iapply (leaves_live (dat1 V c) 0 t rfl _ (after1_0 V c t)); iexact H0
      isplitl [H1]; · iapply (leaves_live (dat1 V c) 1 t rfl _ (after1_1 V c t)); iexact H1
      isplitl [H2]; · iapply (leaves_live (dat1 V c) 2 t rfl _ (after1_2 V c t)); iexact H2
      isplitl [H3]; · iapply (leaves_live (dat1 V c) 3 t rfl _ (after1_3 V c t)); iexact H3
      isplitl [H4]; · iapply (leaves_live (dat1 V c) 4 t rfl _ (after1_4 V c t)); iexact H4
      isplitl [H5]; · iapply (leaves_live (dat1 V c) 5 t rfl _ (after1_5 V c t)); iexact H5
      isplitl [H6]; · iapply (leaves_live (dat1 V c) 6 t rfl _ (after1_6 V c t)); iexact H6
      isplitl [H7]; · iapply (leaves_live (dat1 V c) 7 t rfl _ (after1_7 V c t)); iexact H7
      isplitl [H8]; · iapply (leaves_live (dat1 V c) 8 t rfl _ hx8); iexact H8
      isplitl [H9]; · iapply (leaves_live (dat1 V c) 9 t rfl _ (after1_9 V c t)); iexact H9
      isplitl [H10]; · iapply (leaves_live (dat1 V c) 10 t rfl _ (after1_10 V c t)); iexact H10
      isplitl [H11]; · iapply (leaves_live (dat1 V c) 11 t (Bool.eq_false_iff.mpr fun h => (idle1_11 t).mp h h0) _ (after1_11 V c t)); iexact H11
      iapply (leaves_live (dat1 V c) 12 t (Bool.eq_false_iff.mpr fun h => ((idle1_12 t).mp h).1 hz) _ hx12); iexact H12
    · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (body1_first c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) ((hcond1_1 t).mpr h0) (fun h => hz ((hcond1_2 t).mp h)) (fun h => h3 ((hcond1_3 t).mp h))
        (iblk1 V c 0 t) (iblk1 V c 1 t) (iblk1 V c 2 t) (iblk1 V c 3 t) (iblk1 V c 4 t) (iblk1 V c 5 t) (iblk1 V c 6 t) (iblk1 V c 7 t)  Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      rw [← e11]
      iintro ⟨H0, H1, H2, H3, H4, H5, H6, H7, H8, H9, H10, H11⟩
      isplitl [HΦ]; · iexact HΦ
      isplitl [Ho]; · iexact Ho
      isplitl [H0]; · iapply (leaves_live (dat1 V c) 0 t rfl _ (after1_0 V c t)); iexact H0
      isplitl [H1]; · iapply (leaves_live (dat1 V c) 1 t rfl _ (after1_1 V c t)); iexact H1
      isplitl [H2]; · iapply (leaves_live (dat1 V c) 2 t rfl _ (after1_2 V c t)); iexact H2
      isplitl [H3]; · iapply (leaves_live (dat1 V c) 3 t rfl _ (after1_3 V c t)); iexact H3
      isplitl [H4]; · iapply (leaves_live (dat1 V c) 4 t rfl _ (after1_4 V c t)); iexact H4
      isplitl [H5]; · iapply (leaves_live (dat1 V c) 5 t rfl _ (after1_5 V c t)); iexact H5
      isplitl [H6]; · iapply (leaves_live (dat1 V c) 6 t rfl _ (after1_6 V c t)); iexact H6
      isplitl [H7]; · iapply (leaves_live (dat1 V c) 7 t rfl _ (after1_7 V c t)); iexact H7
      isplitl [H8]; · iapply (leaves_live (dat1 V c) 8 t rfl _ hx8); iexact H8
      isplitl [H9]; · iapply (leaves_live (dat1 V c) 9 t rfl _ (after1_9 V c t)); iexact H9
      isplitl [H10]; · iapply (leaves_live (dat1 V c) 10 t rfl _ (after1_10 V c t)); iexact H10
      isplitl [H11]; · iapply (leaves_live (dat1 V c) 11 t (Bool.eq_false_iff.mpr fun h => (idle1_11 t).mp h h0) _ (after1_11 V c t)); iexact H11
      rw [Dat.leavesExact_idle (dat1 V c) 12 t ((idle1_12 t).mpr ⟨hz, h3⟩) (Bool.eq_false_iff.mpr fun h => by have := (flush1_12 t).mp h; omega)]; iexists d12; iexact H12
  · have hz : ¬ t.val = 0 := fun h => h0 (by rw [h])
    simp only [before1_8 V c t h0, before1_11 V c t h0]
    by_cases h3 : t.val % 4 = 3
    · have hx8 : (dat1 V c).after 8 t = k1_pay5 (step1 V c t (acc1 V c (prev t).val (prev t).isLt)) (iblk1 V c 0 t) (iblk1 V c 1 t) (iblk1 V c 2 t) := by
        rw [after1_8]; unfold dx1; rw [if_pos h3, acc1_next V c t h0]
      have hx12 : (dat1 V c).after 12 t = k1_pay6 (step1 V c t (acc1 V c (prev t).val (prev t).isLt)) (iblk1 V c 0 t) (dg1 V c (prev t).val (prev t).isLt) := by
        rw [after1_12, dg1_last V c t h3, acc1_next V c t h0]
      simp only [before1_12 V c t hz]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (body1_last c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (fun h => h0 ((hcond1_1 t).mp h)) (fun h => hz ((hcond1_2 t).mp h)) ((hcond1_3 t).mpr h3)
        (iblk1 V c 0 t) (iblk1 V c 1 t) (iblk1 V c 2 t) (iblk1 V c 3 t) (iblk1 V c 4 t) (iblk1 V c 5 t) (iblk1 V c 6 t) (iblk1 V c 7 t) (acc1 V c (prev t).val (prev t).isLt) (yrow V c t) (dg1 V c (prev t).val (prev t).isLt) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexact H11
      isplitl [H12]; · iexact H12
      iintro ⟨H0, H1, H2, H3, H4, H5, H6, H7, H8, H9, H10, H11, H12⟩
      isplitl [HΦ]; · iexact HΦ
      isplitl [Ho]; · iexact Ho
      isplitl [H0]; · iapply (leaves_live (dat1 V c) 0 t rfl _ (after1_0 V c t)); iexact H0
      isplitl [H1]; · iapply (leaves_live (dat1 V c) 1 t rfl _ (after1_1 V c t)); iexact H1
      isplitl [H2]; · iapply (leaves_live (dat1 V c) 2 t rfl _ (after1_2 V c t)); iexact H2
      isplitl [H3]; · iapply (leaves_live (dat1 V c) 3 t rfl _ (after1_3 V c t)); iexact H3
      isplitl [H4]; · iapply (leaves_live (dat1 V c) 4 t rfl _ (after1_4 V c t)); iexact H4
      isplitl [H5]; · iapply (leaves_live (dat1 V c) 5 t rfl _ (after1_5 V c t)); iexact H5
      isplitl [H6]; · iapply (leaves_live (dat1 V c) 6 t rfl _ (after1_6 V c t)); iexact H6
      isplitl [H7]; · iapply (leaves_live (dat1 V c) 7 t rfl _ (after1_7 V c t)); iexact H7
      isplitl [H8]; · iapply (leaves_live (dat1 V c) 8 t rfl _ hx8); iexact H8
      isplitl [H9]; · iapply (leaves_live (dat1 V c) 9 t rfl _ (after1_9 V c t)); iexact H9
      isplitl [H10]; · iapply (leaves_live (dat1 V c) 10 t rfl _ (after1_10 V c t)); iexact H10
      isplitl [H11]; · iapply (leaves_carried (dat1 V c) 11 t ((idle1_11 t).mpr h0) _ (fun _ => ⟨d11, before1_11 V c t h0 d11⟩) (fun _ => after1_11 V c t)); iexact H11
      iapply (leaves_live (dat1 V c) 12 t (Bool.eq_false_iff.mpr fun h => ((idle1_12 t).mp h).2 h3) _ hx12); iexact H12
    · have hx8 : (dat1 V c).after 8 t = step1 V c t (acc1 V c (prev t).val (prev t).isLt) := by
        rw [after1_8]; unfold dx1; rw [if_neg h3, acc1_next V c t h0]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (body1_mid c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (fun h => h0 ((hcond1_1 t).mp h)) (fun h => hz ((hcond1_2 t).mp h)) (fun h => h3 ((hcond1_3 t).mp h))
        (iblk1 V c 0 t) (iblk1 V c 1 t) (iblk1 V c 2 t) (iblk1 V c 3 t) (iblk1 V c 4 t) (iblk1 V c 5 t) (iblk1 V c 6 t) (iblk1 V c 7 t) (acc1 V c (prev t).val (prev t).isLt) (yrow V c t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexact H11
      iintro ⟨H0, H1, H2, H3, H4, H5, H6, H7, H8, H9, H10, H11⟩
      isplitl [HΦ]; · iexact HΦ
      isplitl [Ho]; · iexact Ho
      isplitl [H0]; · iapply (leaves_live (dat1 V c) 0 t rfl _ (after1_0 V c t)); iexact H0
      isplitl [H1]; · iapply (leaves_live (dat1 V c) 1 t rfl _ (after1_1 V c t)); iexact H1
      isplitl [H2]; · iapply (leaves_live (dat1 V c) 2 t rfl _ (after1_2 V c t)); iexact H2
      isplitl [H3]; · iapply (leaves_live (dat1 V c) 3 t rfl _ (after1_3 V c t)); iexact H3
      isplitl [H4]; · iapply (leaves_live (dat1 V c) 4 t rfl _ (after1_4 V c t)); iexact H4
      isplitl [H5]; · iapply (leaves_live (dat1 V c) 5 t rfl _ (after1_5 V c t)); iexact H5
      isplitl [H6]; · iapply (leaves_live (dat1 V c) 6 t rfl _ (after1_6 V c t)); iexact H6
      isplitl [H7]; · iapply (leaves_live (dat1 V c) 7 t rfl _ (after1_7 V c t)); iexact H7
      isplitl [H8]; · iapply (leaves_live (dat1 V c) 8 t rfl _ hx8); iexact H8
      isplitl [H9]; · iapply (leaves_live (dat1 V c) 9 t rfl _ (after1_9 V c t)); iexact H9
      isplitl [H10]; · iapply (leaves_live (dat1 V c) 10 t rfl _ (after1_10 V c t)); iexact H10
      isplitl [H11]; · iapply (leaves_carried (dat1 V c) 11 t ((idle1_11 t).mpr h0) _ (fun _ => ⟨d11, before1_11 V c t h0 d11⟩) (fun _ => after1_11 V c t)); iexact H11
      rw [Dat.leavesExact_idle (dat1 V c) 12 t ((idle1_12 t).mpr ⟨hz, h3⟩) (Bool.eq_false_iff.mpr fun h => by have := (flush1_12 t).mp h; omega)]; iexists d12; iexact H12

/-- The body table's row at point `t` is the body. -/
theorem bodyRow1 (t : Fin cfg1.N) :
    defs₀ (F := F) .tc cfg1.body (cfg1.bodyArgs t (cfg1.slots t)) = bodyAt1 t := by
  unfold defs₀; rw [Defs.onTc_tc]

/-- The pipeline's obligation of the body, at every point. -/
theorem body_obligation1 (c : Dev nD) : BodyObligation (dat1 (F := F) V c) (defs₀ (F := F)) Variants.none () Set.univ := fun t => by
  rw [bigSep_W1, bigSep_W1, bodyRow1]
  exact triple_restated (sound_body1 V c t) rfl .rfl fun _ => .rfl

end Cert.HalfFFN

end
-- ==== Proof.DwBody.lean ====
module

public import proofs.«01_k».proof.Proof.LayerLaunch
public import proofs.«01_k».proof.Proof.LayerText
public import proofs.«01_k».proof.Proof.LayerPoints
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.VecWindow
public import Idealize.ShloMosaic.Lib.Ring
public import Idealize.ShloMosaic.Lib.Tactic
public import Idealize.ShloMosaic.Lib.WordCmp
public import proofs.«01_k».proof.Proof.FwdBody

/-! # The two weight-gradient calls, one grid point at a time

Each grid point adds one block of rows to the products `hᵀ da`, `hᵀ db` and `zᵀ dyh`, which start at zero with the first block. -/

@[expose] public section

set_option maxRecDepth 16384

noncomputable section

namespace Cert.HalfFFN

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Half]

local notation "𝕄" => MT nD τ sig Unit (Elt F) ℕ (UR sig nD τ) ℕ

set_option maxHeartbeats 1000000 in
/-- First row block of the gate's and the up weight's gradients. -/
theorem body2_first (c : Dev nD) (i : grid2.Coords) (arg2 : Memref sig .tc .vmem S2048x1024 .bf16) (harg2 : arg2.IsWhole) (arg3 : Memref sig .tc .vmem S1x2048x704 .bf16) (harg3 : arg3.IsWhole) (arg4 : Memref sig .tc .vmem S1x2048x704 .bf16) (harg4 : arg4.IsWhole) (arg5 : Memref sig .tc .vmem S1x1x1024x704 .f32) (harg5 : arg5.IsWhole) (arg6 : Memref sig .tc .vmem S1x1x1024x704 .f32) (harg6 : arg6.IsWhole) (hc1 : (Scalar.cmpi .ne (Scalar.extui (Scalar.cmpi .eq (BitVec.ofNat 32 (i 1).val) 0#32)) 0#32) = 1#1)
    (x0 : Vec F S2048x1024 .bf16) (x1 : Vec F S1x2048x704 .bf16) (x2 : Vec F S1x2048x704 .bf16) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare (k2_pay4 x0 k2_pay1 x1) ∗ owns (c : Thread nD τ) arg6 fullShare (k2_pay5 x0 k2_pay2 x2)) -∗ K ⟨⟩))
      ⊢ wp frame (wpE (defs₀ (F := F)) Variants.none c none) E (cc2_ffn_dwgu i arg2 harg2 arg3 harg3 arg4 harg4 arg5 harg5 arg6 harg6) K := by
  unfold cc2_ffn_dwgu
  unfold owns
  iintro ⟨⟨%f2, %hf2, H2⟩, ⟨%f3, %hf3, H3⟩, ⟨%f4, %hf4, H4⟩, ⟨%d5, %f5, -, H5⟩, ⟨%d6, %f6, -, H6⟩, Hk⟩
  obtain rfl := harg2.eq_unread hf2; obtain rfl := harg3.eq_unread hf3; obtain rfl := harg4.eq_unread hf4
  sl_exec (disch := first | sl_exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; swap; · iexact H5
    ipureintro; refine (View.read_writes_full _ _ _ _ _).trans ?_
    first | (sl_unfold_words; done) | (try sl_unfold_words)
    simp only [View.readAt_eq_ld, harg2.read_unread, harg3.read_unread, harg4.read_unread, View.ld_unit_zero (S := S1x1x1024x704) hz4, View.readCov_unit_zero (S := S1x1x1024x704) _ hz4, View.ld_unit_zero (S := S1x2048x704) hz3, View.readCov_unit_zero (S := S1x2048x704) _ hz3, View.ld_unit_zero (S := S2048x1024) hz2, View.readCov_unit_zero (S := S2048x1024) _ hz2]
  iexists _; isplitr; swap; · iexact H6
  ipureintro; refine (View.read_writes_full _ _ _ _ _).trans ?_
  first | (sl_unfold_words; done) | (try sl_unfold_words)
  simp only [View.readAt_eq_ld, harg2.read_unread, harg3.read_unread, harg4.read_unread, View.ld_unit_zero (S := S1x1x1024x704) hz4, View.readCov_unit_zero (S := S1x1x1024x704) _ hz4, View.ld_unit_zero (S := S1x2048x704) hz3, View.readCov_unit_zero (S := S1x2048x704) _ hz3, View.ld_unit_zero (S := S2048x1024) hz2, View.readCov_unit_zero (S := S2048x1024) _ hz2]

set_option maxHeartbeats 1000000 in
/-- A later row block of the gate's and the up weight's gradients. -/
theorem body2_later (c : Dev nD) (i : grid2.Coords) (arg2 : Memref sig .tc .vmem S2048x1024 .bf16) (harg2 : arg2.IsWhole) (arg3 : Memref sig .tc .vmem S1x2048x704 .bf16) (harg3 : arg3.IsWhole) (arg4 : Memref sig .tc .vmem S1x2048x704 .bf16) (harg4 : arg4.IsWhole) (arg5 : Memref sig .tc .vmem S1x1x1024x704 .f32) (harg5 : arg5.IsWhole) (arg6 : Memref sig .tc .vmem S1x1x1024x704 .f32) (harg6 : arg6.IsWhole) (hc1 : ¬ (Scalar.cmpi .ne (Scalar.extui (Scalar.cmpi .eq (BitVec.ofNat 32 (i 1).val) 0#32)) 0#32) = 1#1)
    (x0 : Vec F S2048x1024 .bf16) (x1 : Vec F S1x2048x704 .bf16) (x2 : Vec F S1x2048x704 .bf16) (a : Vec F S1x1x1024x704 .f32) (b : Vec F S1x1x1024x704 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare a ∗ owns (c : Thread nD τ) arg6 fullShare b
        ∗ (iprop(owns (c : Thread nD τ) arg2 fullShare x0 ∗ owns (c : Thread nD τ) arg3 fullShare x1 ∗ owns (c : Thread nD τ) arg4 fullShare x2 ∗ owns (c : Thread nD τ) arg5 fullShare (k2_pay4 x0 a x1) ∗ owns (c : Thread nD τ) arg6 fullShare (k2_pay5 x0 b x2)) -∗ K ⟨⟩))
      ⊢ wp frame (wpE (defs₀ (F := F)) Variants.none c none) E (cc2_ffn_dwgu i arg2 harg2 arg3 harg3 arg4 harg4 arg5 harg5 arg6 harg6) K := by
  unfold cc2_ffn_dwgu
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4; obtain rfl := harg5.eq_unread hf5; obtain rfl := harg6.eq_unread hf6
  sl_exec (disch := first | sl_exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; swap; · iexact H5
    ipureintro; refine (View.read_writes_full _ _ _ _ _).trans ?_
    first | (sl_unfold_words; done) | (try sl_unfold_words)
    simp only [View.readAt_eq_ld, harg2.read_unread, harg3.read_unread, harg4.read_unread, harg5.read_unread, harg6.read_unread, View.ld_unit_zero (S := S1x1x1024x704) hz4, View.readCov_unit_zero (S := S1x1x1024x704) _ hz4, View.ld_unit_zero (S := S1x2048x704) hz3, View.readCov_unit_zero (S := S1x2048x704) _ hz3, View.ld_unit_zero (S := S2048x1024) hz2, View.readCov_unit_zero (S := S2048x1024) _ hz2]
  iexists _; isplitr; swap; · iexact H6
  ipureintro; refine (View.read_writes_full _ _ _ _ _).trans ?_
  first | (sl_unfold_words; done) | (try sl_unfold_words)
  simp only [View.readAt_eq_ld, harg2.read_unread, harg3.read_unread, harg4.read_unread, harg5.read_unread, harg6.read_unread, View.ld_unit_zero (S := S1x1x1024x704) hz4, View.readCov_unit_zero (S := S1x1x1024x704) _ hz4, View.ld_unit_zero (S := S1x2048x704) hz3, View.readCov_unit_zero (S := S1x2048x704) _ hz3, View.ld_unit_zero (S := S2048x1024) hz2, View.readCov_unit_zero (S := S2048x1024) _ hz2]

set_option maxHeartbeats 1000000 in
/-- First row block of the down weight's gradient. -/
theorem body3_first (c : Dev nD) (i : grid3.Coords) (arg2 : Memref sig .tc .vmem S1x4096x704 .bf16) (harg2 : arg2.IsWhole) (arg3 : Memref sig .tc .vmem S4096x1024 .bf16) (harg3 : arg3.IsWhole) (arg4 : Memref sig .tc .vmem S1x1x704x1024 .f32) (harg4 : arg4.IsWhole) (hc1 : (Scalar.cmpi .ne (Scalar.extui (Scalar.cmpi .eq (BitVec.ofNat 32 (i 1).val) 0#32)) 0#32) = 1#1)
    (x0 : Vec F S1x4096x704 .bf16) (x1 : Vec F S4096x1024 .bf16) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (k3_pay2 k3_pay1 x0 x1)) -∗ K ⟨⟩))
      ⊢ wp frame (wpE (defs₀ (F := F)) Variants.none c none) E (cc3_ffn_dwd i arg2 harg2 arg3 harg3 arg4 harg4) K := by
  unfold cc3_ffn_dwd
  unfold owns
  iintro ⟨⟨%f2, %hf2, H2⟩, ⟨%f3, %hf3, H3⟩, ⟨%d4, %f4, -, H4⟩, Hk⟩
  obtain rfl := harg2.eq_unread hf2; obtain rfl := harg3.eq_unread hf3
  sl_exec (disch := first | sl_exact hc1)
  sl_step
  iapply Hk
  isplitl [H2]
  · iexists _; isplitr; · ipureintro; exact harg2.read_unread _
    iexact H2
  isplitl [H3]
  · iexists _; isplitr; · ipureintro; exact harg3.read_unread _
    iexact H3
  iexists _; isplitr; swap; · iexact H4
  ipureintro; refine (View.read_writes_full _ _ _ _ _).trans ?_
  first | (sl_unfold_words; done) | (try sl_unfold_words)
  simp only [View.readAt_eq_ld, harg2.read_unread, harg3.read_unread, View.ld_unit_zero (S := S1x1x704x1024) hz4, View.readCov_unit_zero (S := S1x1x704x1024) _ hz4, View.ld_unit_zero (S := S1x4096x704) hz3, View.readCov_unit_zero (S := S1x4096x704) _ hz3, View.ld_unit_zero (S := S4096x1024) hz2, View.readCov_unit_zero (S := S4096x1024) _ hz2]

set_option maxHeartbeats 1000000 in
/-- A later row block of the down weight's gradient. -/
theorem body3_later (c : Dev nD) (i : grid3.Coords) (arg2 : Memref sig .tc .vmem S1x4096x704 .bf16) (harg2 : arg2.IsWhole) (arg3 : Memref sig .tc .vmem S4096x1024 .bf16) (harg3 : arg3.IsWhole) (arg4 : Memref sig .tc .vmem S1x1x704x1024 .f32) (harg4 : arg4.IsWhole) (hc1 : ¬ (Scalar.cmpi .ne (Scalar.extui (Scalar.cmpi .eq (BitVec.ofNat 32 (i 1).val) 0#32)) 0#32) = 1#1)
    (x0 : Vec F S1x4096x704 .bf16) (x1 : Vec F S4096x1024 .bf16) (a : Vec F S1x1x704x1024 .f32) (E : Set ℕ) (K : PUnit → sProp 𝕄) :
    iprop(owns (c : Thread nD τ) arg2 fullShare x0 ∗ owns (c : Thread nD τ) arg3 fullShare x1 ∗ owns (c : Thread nD τ) arg4 fullShare a
        ∗ (iprop(owns (c : Thread nD τ) arg2 fullShare x0 ∗ owns (c : Thread nD τ) arg3 fullShare x1 ∗ owns (c : Thread nD τ) arg4 fullShare (k3_pay2 a x0 x1)) -∗ K ⟨⟩))
      ⊢ wp frame (wpE (defs₀ (F := F)) Variants.none c none) E (cc3_ffn_dwd i arg2 harg2 arg3 harg3 arg4 harg4) K := by
  unfold cc3_ffn_dwd
  unfold owns
  iintro ⟨⟨%f2, %hf2, H2⟩, ⟨%f3, %hf3, H3⟩, ⟨%f4, %hf4, H4⟩, Hk⟩
  obtain rfl := harg2.eq_unread hf2; obtain rfl := harg3.eq_unread hf3; obtain rfl := harg4.eq_unread hf4
  sl_exec (disch := first | sl_exact hc1)
  sl_step
  iapply Hk
  isplitl [H2]
  · iexists _; isplitr; · ipureintro; exact harg2.read_unread _
    iexact H2
  isplitl [H3]
  · iexists _; isplitr; · ipureintro; exact harg3.read_unread _
    iexact H3
  iexists _; isplitr; swap; · iexact H4
  ipureintro; refine (View.read_writes_full _ _ _ _ _).trans ?_
  first | (sl_unfold_words; done) | (try sl_unfold_words)
  simp only [View.readAt_eq_ld, harg2.read_unread, harg3.read_unread, harg4.read_unread, View.ld_unit_zero (S := S1x1x704x1024) hz4, View.readCov_unit_zero (S := S1x1x704x1024) _ hz4, View.ld_unit_zero (S := S1x4096x704) hz3, View.readCov_unit_zero (S := S1x4096x704) _ hz3, View.ld_unit_zero (S := S4096x1024) hz2, View.readCov_unit_zero (S := S4096x1024) _ hz2]

end Cert.HalfFFN

end
-- ==== Proof.DwRegion.lean ====
module

public import proofs.«01_k».proof.Proof.LayerLaunch
public import proofs.«01_k».proof.Proof.LayerText
public import proofs.«01_k».proof.Proof.LayerPoints
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.VecWindow
public import Idealize.ShloMosaic.Lib.Ring
public import Idealize.ShloMosaic.Lib.Tactic
public import Idealize.ShloMosaic.Lib.WordCmp
public import proofs.«01_k».proof.Proof.DwBody
public import proofs.«01_k».proof.Proof.Carry

/-! # The two weight-gradient calls over their grids

For each hidden block the row blocks are added up. This module names what every staging buffer holds after each grid point, and shows
that the bodies keep to it. -/

@[expose] public section

set_option maxRecDepth 16384

noncomputable section

namespace Cert.HalfFFN

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Half]

local notation "𝕄" => MT nD τ sig Unit (Elt F) ℕ (UR sig nD τ) ℕ

variable (V : (c : Dev nD) → (b : Ref sig .tc) → Buf (Elt F) ((c : Thread nD τ).loc b))

/-! ## The gate's and the up weight's gradients -/

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- An input window holds its block at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- An input window holds its block at every point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- The first row block of an output block. -/
theorem hcond2 : ∀ t : Fin cfg2.N, (Scalar.cmpi .ne (Scalar.extui (Scalar.cmpi .eq (BitVec.ofNat 32 (grid2.coords t 1).val) 0#32)) 0#32) = 1#1 ↔ t.val % 4 = 0 :=
  (fun t => by
    have ht : t.val < 16 := Nat.lt_of_lt_of_eq t.isLt N_2
    have e0 : (grid2.coords t 0).val = t.val / 4 % 4 := Pipeline.Grid.coords_val t 0 (by decide) rfl
    have e1 : (grid2.coords t 1).val = t.val / 1 % 4 := Pipeline.Grid.coords_val t 1 (by decide) rfl
    simp only [e1]
    word_cmp
   : ∀ t : Fin grid2.N, (Scalar.cmpi .ne (Scalar.extui (Scalar.cmpi .eq (BitVec.ofNat 32 (grid2.coords t 1).val) 0#32)) 0#32) = 1#1 ↔ t.val % 4 = 0)

/-- The gate weight's gradient block after point `n`. -/
def acc2_3 (c : Dev nD) : (n : ℕ) → n < cfg2.N → Vec F S1x1x1024x704 .f32
  | 0, hn => k2_pay4 (iblk2 V c 0 ⟨0, hn⟩) k2_pay1 (iblk2 V c 1 ⟨0, hn⟩)
  | n + 1, hn => k2_pay4 (iblk2 V c 0 ⟨n + 1, hn⟩) (if (n + 1) % 4 = 0 then k2_pay1 else acc2_3 c n (Nat.lt_of_succ_lt hn)) (iblk2 V c 1 ⟨n + 1, hn⟩)

theorem acc2_3_first (c : Dev nD) (t : Fin cfg2.N) (h : t.val % 4 = 0) :
    acc2_3 V c t.val t.isLt = k2_pay4 (iblk2 V c 0 t) k2_pay1 (iblk2 V c 1 t) := by
  obtain ⟨n, hn⟩ := t
  cases n with
  | zero => rfl
  | succ n => simp only [acc2_3]; rw [if_pos h]
theorem acc2_3_next (c : Dev nD) (t : Fin cfg2.N) (h : ¬ t.val % 4 = 0) :
    acc2_3 V c t.val t.isLt = k2_pay4 (iblk2 V c 0 t) (acc2_3 V c (prev t).val (prev t).isLt) (iblk2 V c 1 t) := by
  obtain ⟨n, hn⟩ := t
  cases n with
  | zero => exact absurd rfl h
  | succ n => simp only [acc2_3]; rw [if_neg h]; rfl

/-- The up weight's gradient block after point `n`. -/
def acc2_4 (c : Dev nD) : (n : ℕ) → n < cfg2.N → Vec F S1x1x1024x704 .f32
  | 0, hn => k2_pay5 (iblk2 V c 0 ⟨0, hn⟩) k2_pay2 (iblk2 V c 2 ⟨0, hn⟩)
  | n + 1, hn => k2_pay5 (iblk2 V c 0 ⟨n + 1, hn⟩) (if (n + 1) % 4 = 0 then k2_pay2 else acc2_4 c n (Nat.lt_of_succ_lt hn)) (iblk2 V c 2 ⟨n + 1, hn⟩)

theorem acc2_4_first (c : Dev nD) (t : Fin cfg2.N) (h : t.val % 4 = 0) :
    acc2_4 V c t.val t.isLt = k2_pay5 (iblk2 V c 0 t) k2_pay2 (iblk2 V c 2 t) := by
  obtain ⟨n, hn⟩ := t
  cases n with
  | zero => rfl
  | succ n => simp only [acc2_4]; rw [if_pos h]
theorem acc2_4_next (c : Dev nD) (t : Fin cfg2.N) (h : ¬ t.val % 4 = 0) :
    acc2_4 V c t.val t.isLt = k2_pay5 (iblk2 V c 0 t) (acc2_4 V c (prev t).val (prev t).isLt) (iblk2 V c 2 t) := by
  obtain ⟨n, hn⟩ := t
  cases n with
  | zero => exact absurd rfl h
  | succ n => simp only [acc2_4]; rw [if_neg h]; rfl

/-- What the call's arrays and staging buffers hold. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => acc2_3 V c t.val t.isLt
    | ⟨4, _⟩ => acc2_4 V c t.val t.isLt
  Φ _ := Pipeline.ΦA spec2 c
  q _ := fullShare
  owed _ := 0

/-- The proof data's arrays are what the call finds. -/
theorem A_eq2 (c : Dev nD) (w : Fin cfg2.W) : (dat2 V c).A w = V c (Pipeline.arrRef spec2 w) := by
  dsimp only [dat2]

/-! What the body leaves, window by window. -/
theorem after2_0 (c : Dev nD) (t : Fin cfg2.N) : (dat2 V c).after 0 t = iblk2 V c 0 t := by dsimp only [dat2] <;> rfl
theorem after2_1 (c : Dev nD) (t : Fin cfg2.N) : (dat2 V c).after 1 t = iblk2 V c 1 t := by dsimp only [dat2] <;> rfl
theorem after2_2 (c : Dev nD) (t : Fin cfg2.N) : (dat2 V c).after 2 t = iblk2 V c 2 t := by dsimp only [dat2] <;> rfl
theorem after2_3 (c : Dev nD) (t : Fin cfg2.N) : (dat2 V c).after 3 t = acc2_3 V c t.val t.isLt := by dsimp only [dat2] <;> rfl
theorem after2_4 (c : Dev nD) (t : Fin cfg2.N) : (dat2 V c).after 4 t = acc2_4 V c t.val t.isLt := by dsimp only [dat2] <;> rfl

/-! Each input's staging buffer holds its block. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- The accumulator's buffer at a later row block holds what the block before left. -/
theorem before2_3 (c : Dev nD) (t : Fin cfg2.N) (h : ¬ t.val % 4 = 0) (d) : (dat2 V c).before 3 t d = acc2_3 V c (prev t).val (prev t).isLt := by
  rw [(dat2 V c).before_out_kept 3 rfl t (fun h0 => h (by rw [h0]))
    (Bool.eq_false_iff.mpr fun hf => by have := (flush2_3 (prev t)).mp hf; dsimp only at this; omega) (fun _ => rfl) (fun _ _ => rfl) d]
  rw [after2_3]
/-- The accumulator's buffer at a later row block holds what the block before left. -/
theorem before2_4 (c : Dev nD) (t : Fin cfg2.N) (h : ¬ t.val % 4 = 0) (d) : (dat2 V c).before 4 t d = acc2_4 V c (prev t).val (prev t).isLt := by
  rw [(dat2 V c).before_out_kept 4 rfl t (fun h0 => h (by rw [h0]))
    (Bool.eq_false_iff.mpr fun hf => by have := (flush2_4 (prev t)).mp hf; dsimp only at this; omega) (fun _ => rfl) (fun _ _ => rfl) d]
  rw [after2_4]

/-! Each window's staging memref at a point, and its wholeness. -/
abbrev ms2_0 (t : Fin cfg2.N) : Memref sig .tc .vmem S2048x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x2048x704 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x2048x704 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1x1024x704 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1x1024x704 .f32 := win2_4.stage (cfg2.slots t 4)
abbrev hs2_4 (t : Fin cfg2.N) : (ms2_4 t).IsWhole := hstage2_4 ((cfg2.slots t 4).cast nbuf2_4)

/-- What the body is called with at point `t`. -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- What it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4000000 in
/-- The body at any point keeps to the proof data. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = Pipeline.ΦA spec2 c from rfl, show (dat2 V c).Φ t.castSucc = Pipeline.ΦA spec2 c from rfl]
  by_cases h0 : t.val % 4 = 0
  · have hx3 := (after2_3 V c t).trans (acc2_3_first V c t h0)
    have hx4 := (after2_4 V c t).trans (acc2_4_first V c t h0)
    iintro ⟨HΦ, Ho, ⟨%d0, H0⟩, ⟨%d1, H1⟩, ⟨%d2, H2⟩, ⟨%d3, H3⟩, ⟨%d4, H4⟩⟩
    iapply (body2_first c (grid2.coords t) (ms2_0 t) (hs2_0 t) (ms2_1 t) (hs2_1 t) (ms2_2 t) (hs2_2 t) (ms2_3 t) (hs2_3 t) (ms2_4 t) (hs2_4 t) ((hcond2 t).mpr h0)
      (iblk2 V c 0 t) (iblk2 V c 1 t) (iblk2 V c 2 t)  Set.univ _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iapply (leaves_live (dat2 V c) 0 t rfl _ (after2_0 V c t)); iexact H0
    isplitl [H1]; · iapply (leaves_live (dat2 V c) 1 t rfl _ (after2_1 V c t)); iexact H1
    isplitl [H2]; · iapply (leaves_live (dat2 V c) 2 t rfl _ (after2_2 V c t)); iexact H2
    isplitl [H3]; · iapply (leaves_live (dat2 V c) 3 t rfl _ hx3); iexact H3
    iapply (leaves_live (dat2 V c) 4 t rfl _ hx4); iexact H4
  · have hx3 := (after2_3 V c t).trans (acc2_3_next V c t h0)
    have hx4 := (after2_4 V c t).trans (acc2_4_next V c t h0)
    simp only [before2_3 V c t h0, before2_4 V c t h0]
    iintro ⟨HΦ, Ho, ⟨%d0, H0⟩, ⟨%d1, H1⟩, ⟨%d2, H2⟩, ⟨%d3, H3⟩, ⟨%d4, H4⟩⟩
    iapply (body2_later c (grid2.coords t) (ms2_0 t) (hs2_0 t) (ms2_1 t) (hs2_1 t) (ms2_2 t) (hs2_2 t) (ms2_3 t) (hs2_3 t) (ms2_4 t) (hs2_4 t) (fun h => h0 ((hcond2 t).mp h))
      (iblk2 V c 0 t) (iblk2 V c 1 t) (iblk2 V c 2 t) (acc2_3 V c (prev t).val (prev t).isLt) (acc2_4 V c (prev t).val (prev t).isLt) Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iapply (leaves_live (dat2 V c) 0 t rfl _ (after2_0 V c t)); iexact H0
    isplitl [H1]; · iapply (leaves_live (dat2 V c) 1 t rfl _ (after2_1 V c t)); iexact H1
    isplitl [H2]; · iapply (leaves_live (dat2 V c) 2 t rfl _ (after2_2 V c t)); iexact H2
    isplitl [H3]; · iapply (leaves_live (dat2 V c) 3 t rfl _ hx3); iexact H3
    iapply (leaves_live (dat2 V c) 4 t rfl _ hx4); iexact H4

/-- The body table's row at point `t` is the body. -/
theorem bodyRow2 (t : Fin cfg2.N) :
    defs₀ (F := F) .tc cfg2.body (cfg2.bodyArgs t (cfg2.slots t)) = bodyAt2 t := by
  unfold defs₀; rw [Defs.onTc_tc]

/-- The pipeline's obligation of the body, at every point. -/
theorem body_obligation2 (c : Dev nD) : BodyObligation (dat2 (F := F) V c) (defs₀ (F := F)) Variants.none () Set.univ := fun t => by
  rw [bigSep_W2, bigSep_W2, bodyRow2]
  exact triple_restated (sound_body2 V c t) rfl .rfl fun _ => .rfl

/-! ## The down weight's gradient -/

/-- Window `w`'s block at point `t`, read off its array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window holds its block at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- An input window holds its block at every point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- The first row block of an output block. -/
theorem hcond3 : ∀ t : Fin cfg3.N, (Scalar.cmpi .ne (Scalar.extui (Scalar.cmpi .eq (BitVec.ofNat 32 (grid3.coords t 1).val) 0#32)) 0#32) = 1#1 ↔ t.val % 2 = 0 :=
  (fun t => by
    have ht : t.val < 8 := Nat.lt_of_lt_of_eq t.isLt N_3
    have e0 : (grid3.coords t 0).val = t.val / 2 % 4 := Pipeline.Grid.coords_val t 0 (by decide) rfl
    have e1 : (grid3.coords t 1).val = t.val / 1 % 2 := Pipeline.Grid.coords_val t 1 (by decide) rfl
    simp only [e1]
    word_cmp
   : ∀ t : Fin grid3.N, (Scalar.cmpi .ne (Scalar.extui (Scalar.cmpi .eq (BitVec.ofNat 32 (grid3.coords t 1).val) 0#32)) 0#32) = 1#1 ↔ t.val % 2 = 0)

/-- The down weight's gradient block after point `n`. -/
def acc3_2 (c : Dev nD) : (n : ℕ) → n < cfg3.N → Vec F S1x1x704x1024 .f32
  | 0, hn => k3_pay2 k3_pay1 (iblk3 V c 0 ⟨0, hn⟩) (iblk3 V c 1 ⟨0, hn⟩)
  | n + 1, hn => k3_pay2 (if (n + 1) % 2 = 0 then k3_pay1 else acc3_2 c n (Nat.lt_of_succ_lt hn)) (iblk3 V c 0 ⟨n + 1, hn⟩) (iblk3 V c 1 ⟨n + 1, hn⟩)

theorem acc3_2_first (c : Dev nD) (t : Fin cfg3.N) (h : t.val % 2 = 0) :
    acc3_2 V c t.val t.isLt = k3_pay2 k3_pay1 (iblk3 V c 0 t) (iblk3 V c 1 t) := by
  obtain ⟨n, hn⟩ := t
  cases n with
  | zero => rfl
  | succ n => simp only [acc3_2]; rw [if_pos h]
theorem acc3_2_next (c : Dev nD) (t : Fin cfg3.N) (h : ¬ t.val % 2 = 0) :
    acc3_2 V c t.val t.isLt = k3_pay2 (acc3_2 V c (prev t).val (prev t).isLt) (iblk3 V c 0 t) (iblk3 V c 1 t) := by
  obtain ⟨n, hn⟩ := t
  cases n with
  | zero => exact absurd rfl h
  | succ n => simp only [acc3_2]; rw [if_neg h]; rfl

/-- What the call's arrays and staging buffers hold. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => acc3_2 V c t.val t.isLt
  Φ _ := Pipeline.ΦA spec3 c
  q _ := fullShare
  owed _ := 0

/-- The proof data's arrays are what the call finds. -/
theorem A_eq3 (c : Dev nD) (w : Fin cfg3.W) : (dat3 V c).A w = V c (Pipeline.arrRef spec3 w) := by
  dsimp only [dat3]

/-! What the body leaves, window by window. -/
theorem after3_0 (c : Dev nD) (t : Fin cfg3.N) : (dat3 V c).after 0 t = iblk3 V c 0 t := by dsimp only [dat3] <;> rfl
theorem after3_1 (c : Dev nD) (t : Fin cfg3.N) : (dat3 V c).after 1 t = iblk3 V c 1 t := by dsimp only [dat3] <;> rfl
theorem after3_2 (c : Dev nD) (t : Fin cfg3.N) : (dat3 V c).after 2 t = acc3_2 V c t.val t.isLt := by dsimp only [dat3] <;> rfl

/-! Each input's staging buffer holds its block. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- The accumulator's buffer at a later row block holds what the block before left. -/
theorem before3_2 (c : Dev nD) (t : Fin cfg3.N) (h : ¬ t.val % 2 = 0) (d) : (dat3 V c).before 2 t d = acc3_2 V c (prev t).val (prev t).isLt := by
  rw [(dat3 V c).before_out_kept 2 rfl t (fun h0 => h (by rw [h0]))
    (Bool.eq_false_iff.mpr fun hf => by have := (flush3_2 (prev t)).mp hf; dsimp only at this; omega) (fun _ => rfl) (fun _ _ => rfl) d]
  rw [after3_2]

/-! Each window's staging memref at a point, and its wholeness. -/
abbrev ms3_0 (t : Fin cfg3.N) : Memref sig .tc .vmem S1x4096x704 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S4096x1024 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x1x704x1024 .f32 := win3_2.stage (cfg3.slots t 2)
abbrev hs3_2 (t : Fin cfg3.N) : (ms3_2 t).IsWhole := hstage3_2 ((cfg3.slots t 2).cast nbuf3_2)

/-- What the body is called with at point `t`. -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

/-- What it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4000000 in
/-- The body at any point keeps to the proof data. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = Pipeline.ΦA spec3 c from rfl, show (dat3 V c).Φ t.castSucc = Pipeline.ΦA spec3 c from rfl]
  by_cases h0 : t.val % 2 = 0
  · have hx2 := (after3_2 V c t).trans (acc3_2_first V c t h0)
    iintro ⟨HΦ, Ho, ⟨%d0, H0⟩, ⟨%d1, H1⟩, ⟨%d2, H2⟩⟩
    iapply (body3_first c (grid3.coords t) (ms3_0 t) (hs3_0 t) (ms3_1 t) (hs3_1 t) (ms3_2 t) (hs3_2 t) ((hcond3 t).mpr h0)
      (iblk3 V c 0 t) (iblk3 V c 1 t)  Set.univ _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iapply (leaves_live (dat3 V c) 0 t rfl _ (after3_0 V c t)); iexact H0
    isplitl [H1]; · iapply (leaves_live (dat3 V c) 1 t rfl _ (after3_1 V c t)); iexact H1
    iapply (leaves_live (dat3 V c) 2 t rfl _ hx2); iexact H2
  · have hx2 := (after3_2 V c t).trans (acc3_2_next V c t h0)
    simp only [before3_2 V c t h0]
    iintro ⟨HΦ, Ho, ⟨%d0, H0⟩, ⟨%d1, H1⟩, ⟨%d2, H2⟩⟩
    iapply (body3_later c (grid3.coords t) (ms3_0 t) (hs3_0 t) (ms3_1 t) (hs3_1 t) (ms3_2 t) (hs3_2 t) (fun h => h0 ((hcond3 t).mp h))
      (iblk3 V c 0 t) (iblk3 V c 1 t) (acc3_2 V c (prev t).val (prev t).isLt) Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iapply (leaves_live (dat3 V c) 0 t rfl _ (after3_0 V c t)); iexact H0
    isplitl [H1]; · iapply (leaves_live (dat3 V c) 1 t rfl _ (after3_1 V c t)); iexact H1
    iapply (leaves_live (dat3 V c) 2 t rfl _ hx2); iexact H2

/-- The body table's row at point `t` is the body. -/
theorem bodyRow3 (t : Fin cfg3.N) :
    defs₀ (F := F) .tc cfg3.body (cfg3.bodyArgs t (cfg3.slots t)) = bodyAt3 t := by
  unfold defs₀; rw [Defs.onTc_tc]

/-- The pipeline's obligation of the body, at every point. -/
theorem body_obligation3 (c : Dev nD) : BodyObligation (dat3 (F := F) V c) (defs₀ (F := F)) Variants.none () Set.univ := fun t => by
  rw [bigSep_W3, bigSep_W3, bodyRow3]
  exact triple_restated (sound_body3 V c t) rfl .rfl fun _ => .rfl

end Cert.HalfFFN

end
-- ==== Proof.Run.lean ====
module

public import proofs.«01_k».proof.Proof.LayerLaunch
public import proofs.«01_k».proof.Proof.LayerText
public import proofs.«01_k».proof.Proof.LayerPoints
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.VecWindow
public import Idealize.ShloMosaic.Lib.Ring
public import Idealize.ShloMosaic.Lib.Tactic
public import Idealize.ShloMosaic.Lib.WordCmp
public import proofs.«01_k».proof.Proof.LayerRegions
public import proofs.«01_k».proof.Proof.FwdRegion
public import proofs.«01_k».proof.Proof.BwdRegion
public import proofs.«01_k».proof.Proof.DwRegion

/-! # The whole step: host lines, four calls, host lines

The buffers' contents at each boundary are a fold through the program: what the host lines compute, then what each call leaves in its
arrays. Every run ends with every buffer at the fold's last value. -/

@[expose] public section

set_option maxRecDepth 16384

noncomputable section

namespace Cert.HalfFFN

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Half]

local notation "𝕄" => MT nD τ sig Unit (Elt F) ℕ (UR sig nD τ) ℕ

variable (m : (ℓ : Loc nD τ sig) → Buf (Elt F) ℓ) (ρ : Dev nD → PrngReg)

/-- The argument arrays. -/
abbrev argRefs : List (Ref sig .tc) := [main_arg0, main_arg1, main_arg2, main_arg3, main_arg4, main_arg5]
theorem host0_args : ∀ a ∈ argRefs, a ∉ hostOps0_W := ListAll.forall_mem_of_all_decide (by decide +kernel)
theorem host4_args : ∀ a ∈ argRefs, a ∉ hostOps4_W := ListAll.forall_mem_of_all_decide (by decide +kernel)

/-- A core's buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After the host lines that prepare the weights. -/
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (host0_args a ha)).trans (W0_args m ρ c a ha)
/-- The same, at the core's references. -/
abbrev U1 : (c : Dev nD) → (b : Ref sig .tc) → Buf (Elt F) ((c : Thread nD τ).loc b) := fun c b => W1 m ρ c b

/-- After call 0: its arrays at what its write-backs leave, every other buffer as before. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of the call's outputs keeps its contents. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (U1 m ρ) c).arrAt_in w (h w rfl) _).trans (A_eq0 (U1 m ρ) c w))
  · exact W2_of_ne m ρ c r fun w e => hw ⟨w, e⟩
/-- To be none of the call's outputs is the same for every half layer. -/
theorem notOut0 {r : Ref sig .tc} (h : ∀ w : Fin 10, Pipeline.arrRef KernelIdeal.spec0 w = r → (KernelIdeal.win0 w).isOut = false) :
    ∀ w : Fin cfg0.W, Pipeline.arrRef spec0 w = r → (cfg0.win w).isOut = false := by
  rw [← same_spec0]
  intro w hw
  exact (show (cfg0.win w).isOut = (KernelIdeal.win0 w).isOut by fin_cases w <;> rfl).trans (h w hw)
theorem argsIn0 : ∀ a ∈ argRefs, ∀ w : Fin cfg0.W, Pipeline.arrRef spec0 w = a → (cfg0.win w).isOut = false := fun a ha =>
  notOut0 ((ListAll.forall_mem_of_all_decide (by decide +kernel) :
    ∀ a ∈ argRefs, ∀ w : Fin 10, Pipeline.arrRef KernelIdeal.spec0 w = a → (KernelIdeal.win0 w).isOut = false) a ha)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same, at the core's references. -/
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After call 1: its arrays at what its write-backs leave, every other buffer as before. -/
def W3 (c : Dev nD) : Valuation τ sig (Elt F) :=
  Pipeline.withArrays spec1 c (W2 m ρ c) fun w => (dat1 (U2 m ρ) c).arrAt w cfg1.N
theorem W3_arr (c : Dev nD) (w : Fin cfg1.W) :
    W3 m ρ c (Proc.devRef .tc (Pipeline.arrRef spec1 w)) = (dat1 (U2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of the call's outputs keeps its contents. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (U2 m ρ) c).arrAt_in w (h w rfl) _).trans (A_eq1 (U2 m ρ) c w))
  · exact W3_of_ne m ρ c r fun w e => hw ⟨w, e⟩
/-- To be none of the call's outputs is the same for every half layer. -/
theorem notOut1 {r : Ref sig .tc} (h : ∀ w : Fin 13, Pipeline.arrRef KernelIdeal.spec1 w = r → (KernelIdeal.win1 w).isOut = false) :
    ∀ w : Fin cfg1.W, Pipeline.arrRef spec1 w = r → (cfg1.win w).isOut = false := by
  rw [← same_spec1]
  intro w hw
  exact (show (cfg1.win w).isOut = (KernelIdeal.win1 w).isOut by fin_cases w <;> rfl).trans (h w hw)
theorem argsIn1 : ∀ a ∈ argRefs, ∀ w : Fin cfg1.W, Pipeline.arrRef spec1 w = a → (cfg1.win w).isOut = false := fun a ha =>
  notOut1 ((ListAll.forall_mem_of_all_decide (by decide +kernel) :
    ∀ a ∈ argRefs, ∀ w : Fin 13, Pipeline.arrRef KernelIdeal.spec1 w = a → (KernelIdeal.win1 w).isOut = false) a ha)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same, at the core's references. -/
abbrev U3 : (c : Dev nD) → (b : Ref sig .tc) → Buf (Elt F) ((c : Thread nD τ).loc b) := fun c b => W3 m ρ c b
theorem hF1 (c : Dev nD) (w : Fin cfg1.W) : (dat1 (U2 m ρ) c).arrAt w cfg1.N = U3 m ρ c (Pipeline.arrRef spec1 w) :=
  (W3_arr m ρ c w).symm
theorem hrest1 (c : Dev nD) : ∀ b, b ∉ Finset.univ.image (Pipeline.arrRef spec1) → U3 m ρ c b = U2 m ρ c b :=
  fun b hb => W3_of_ne m ρ c b fun w e => hb (Finset.mem_image.mpr ⟨w, Finset.mem_univ _, e⟩)

/-- After call 2: its arrays at what its write-backs leave, every other buffer as before. -/
def W4 (c : Dev nD) : Valuation τ sig (Elt F) :=
  Pipeline.withArrays spec2 c (W3 m ρ c) fun w => (dat2 (U3 m ρ) c).arrAt w cfg2.N
theorem W4_arr (c : Dev nD) (w : Fin cfg2.W) :
    W4 m ρ c (Proc.devRef .tc (Pipeline.arrRef spec2 w)) = (dat2 (U3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- A reference that is none of the call's outputs keeps its contents. -/
theorem W4_of (c : Dev nD) (r : Ref sig .tc) (h : ∀ w : Fin cfg2.W, Pipeline.arrRef spec2 w = r → (cfg2.win w).isOut = false) :
    W4 m ρ c (Proc.devRef .tc r) = W3 m ρ c (Proc.devRef .tc r) := by
  by_cases hw : ∃ w : Fin cfg2.W, Pipeline.arrRef spec2 w = r
  · obtain ⟨w, rfl⟩ := hw
    exact (W4_arr m ρ c w).trans (((dat2 (U3 m ρ) c).arrAt_in w (h w rfl) _).trans (A_eq2 (U3 m ρ) c w))
  · exact W4_of_ne m ρ c r fun w e => hw ⟨w, e⟩
/-- To be none of the call's outputs is the same for every half layer. -/
theorem notOut2 {r : Ref sig .tc} (h : ∀ w : Fin 5, Pipeline.arrRef KernelIdeal.spec2 w = r → (KernelIdeal.win2 w).isOut = false) :
    ∀ w : Fin cfg2.W, Pipeline.arrRef spec2 w = r → (cfg2.win w).isOut = false := by
  rw [← same_spec2]
  intro w hw
  exact (show (cfg2.win w).isOut = (KernelIdeal.win2 w).isOut by fin_cases w <;> rfl).trans (h w hw)
theorem argsIn2 : ∀ a ∈ argRefs, ∀ w : Fin cfg2.W, Pipeline.arrRef spec2 w = a → (cfg2.win w).isOut = false := fun a ha =>
  notOut2 ((ListAll.forall_mem_of_all_decide (by decide +kernel) :
    ∀ a ∈ argRefs, ∀ w : Fin 5, Pipeline.arrRef KernelIdeal.spec2 w = a → (KernelIdeal.win2 w).isOut = false) a ha)
theorem W4_args (c : Dev nD) : ∀ a ∈ argRefs, W4 m ρ c (Proc.devRef .tc a) = m ((c : Thread nD τ).loc a) :=
  fun a ha => (W4_of m ρ c a (argsIn2 a ha)).trans (W3_args m ρ c a ha)
/-- The same, at the core's references. -/
abbrev U4 : (c : Dev nD) → (b : Ref sig .tc) → Buf (Elt F) ((c : Thread nD τ).loc b) := fun c b => W4 m ρ c b
theorem hF2 (c : Dev nD) (w : Fin cfg2.W) : (dat2 (U3 m ρ) c).arrAt w cfg2.N = U4 m ρ c (Pipeline.arrRef spec2 w) :=
  (W4_arr m ρ c w).symm
theorem hrest2 (c : Dev nD) : ∀ b, b ∉ Finset.univ.image (Pipeline.arrRef spec2) → U4 m ρ c b = U3 m ρ c b :=
  fun b hb => W4_of_ne m ρ c b fun w e => hb (Finset.mem_image.mpr ⟨w, Finset.mem_univ _, e⟩)

/-- After call 3: its arrays at what its write-backs leave, every other buffer as before. -/
def W5 (c : Dev nD) : Valuation τ sig (Elt F) :=
  Pipeline.withArrays spec3 c (W4 m ρ c) fun w => (dat3 (U4 m ρ) c).arrAt w cfg3.N
theorem W5_arr (c : Dev nD) (w : Fin cfg3.W) :
    W5 m ρ c (Proc.devRef .tc (Pipeline.arrRef spec3 w)) = (dat3 (U4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
/-- A reference that is none of the call's outputs keeps its contents. -/
theorem W5_of (c : Dev nD) (r : Ref sig .tc) (h : ∀ w : Fin cfg3.W, Pipeline.arrRef spec3 w = r → (cfg3.win w).isOut = false) :
    W5 m ρ c (Proc.devRef .tc r) = W4 m ρ c (Proc.devRef .tc r) := by
  by_cases hw : ∃ w : Fin cfg3.W, Pipeline.arrRef spec3 w = r
  · obtain ⟨w, rfl⟩ := hw
    exact (W5_arr m ρ c w).trans (((dat3 (U4 m ρ) c).arrAt_in w (h w rfl) _).trans (A_eq3 (U4 m ρ) c w))
  · exact W5_of_ne m ρ c r fun w e => hw ⟨w, e⟩
/-- To be none of the call's outputs is the same for every half layer. -/
theorem notOut3 {r : Ref sig .tc} (h : ∀ w : Fin 3, Pipeline.arrRef KernelIdeal.spec3 w = r → (KernelIdeal.win3 w).isOut = false) :
    ∀ w : Fin cfg3.W, Pipeline.arrRef spec3 w = r → (cfg3.win w).isOut = false := by
  rw [← same_spec3]
  intro w hw
  exact (show (cfg3.win w).isOut = (KernelIdeal.win3 w).isOut by fin_cases w <;> rfl).trans (h w hw)
theorem argsIn3 : ∀ a ∈ argRefs, ∀ w : Fin cfg3.W, Pipeline.arrRef spec3 w = a → (cfg3.win w).isOut = false := fun a ha =>
  notOut3 ((ListAll.forall_mem_of_all_decide (by decide +kernel) :
    ∀ a ∈ argRefs, ∀ w : Fin 3, Pipeline.arrRef KernelIdeal.spec3 w = a → (KernelIdeal.win3 w).isOut = false) a ha)
theorem W5_args (c : Dev nD) : ∀ a ∈ argRefs, W5 m ρ c (Proc.devRef .tc a) = m ((c : Thread nD τ).loc a) :=
  fun a ha => (W5_of m ρ c a (argsIn3 a ha)).trans (W4_args m ρ c a ha)
/-- The same, at the core's references. -/
abbrev U5 : (c : Dev nD) → (b : Ref sig .tc) → Buf (Elt F) ((c : Thread nD τ).loc b) := fun c b => W5 m ρ c b
theorem hF3 (c : Dev nD) (w : Fin cfg3.W) : (dat3 (U4 m ρ) c).arrAt w cfg3.N = U5 m ρ c (Pipeline.arrRef spec3 w) :=
  (W5_arr m ρ c w).symm
theorem hrest3 (c : Dev nD) : ∀ b, b ∉ Finset.univ.image (Pipeline.arrRef spec3) → U5 m ρ c b = U4 m ρ c b :=
  fun b hb => W5_of_ne m ρ c b fun w e => hb (Finset.mem_image.mpr ⟨w, Finset.mem_univ _, e⟩)

/-- After the host lines that cut the results out. -/
abbrev W6 : Dev nD → Valuation τ sig (Elt F) := fun c => StableHlo.after hostOps4 (W5 m ρ c)
theorem W6_of (c : Dev nD) (r : Ref sig .tc) (h : r ∉ hostOps4_W) : W6 m ρ c (Proc.devRef .tc r) = W5 m ρ c (Proc.devRef .tc r) :=
  StableHlo.after_of_writes_sub hostOps4 _ hostOps4_writes h
theorem W6_args (c : Dev nD) : ∀ a ∈ argRefs, W6 m ρ c (Proc.devRef .tc a) = m ((c : Thread nD τ).loc a) :=
  fun a ha => (W6_of m ρ c a (host4_args a ha)).trans (W5_args m ρ c a ha)

/-! ## The segments -/

/-- Every call's proof data at the contents it is entered with. -/
def pdats : (p : Fin 4) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U2 m ρ) c
  | ⟨2, _⟩ => fun c => dat2 (U3 m ρ) c
  | ⟨3, _⟩ => fun c => dat3 (U4 m ρ) c
abbrev noVar : Variants := Variants.none
abbrev noLev : GSem nD τ sig → Finset Unit := fun _ => ∅
abbrev levZ : GSem nD τ sig → Unit → ℕ := fun _ _ => 0
/-- What rides along: the generator register, and nothing owed. -/
abbrev rides (c : Dev nD) : sProp 𝕄 := iprop((∃ r, prngReg c r) ∗ ∃ W, owes (c : Thread nD τ) (0 : CellTallies nD τ sig Unit) W)
/-- A stretch of host lines as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVar noLev levZ :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rides

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What the core holds at the end. -/
abbrev lastT (c : Dev nD) : sProp 𝕄 := iprop(StableHlo.held (c : Thread nD τ) (Pipeline.ucRefs τ sig) (W6 m ρ c) ∗ ∃ r, prngReg c r)

set_option backward.isDefEq.respectTransparency.types false in
/-- Call 0 as a segment: its arrays are taken out of the buffers and put back at its exit contents. -/
def reg0 : Pipeline.RegionSeg (pcfgs (F := F)) adm (pdats m ρ) () defs₀ noVar noLev levZ 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ noLev levZ 0 fun _ _ => rfl
  pre c := iprop(StableHlo.held (c : Thread nD τ) (Pipeline.ucRefs τ sig) (W1 m ρ c) ∗ rides c)
  post c := iprop(StableHlo.held (c : Thread nD τ) (Pipeline.ucRefs τ sig) (W2 m ρ c) ∗ rides c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) (A_eq0 (U1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec0 c ⊢ (pdats m ρ 0 c).Φ 0 from hin0 (U1 m ρ) c)
    unfold Pipeline.ΦA
    iintro ⟨Hp, -, Hr⟩
    isplitl [Hr]; · iexact Hr
    iexact Hp
  hout c := by
    rw [Pipeline.ownSems0_none]
    refine BIBase.Entails.trans (show (pdats m ρ 0 c).Φ (Fin.last _) ⊢ Pipeline.ΦA spec0 c from hout0 (U1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment: its arrays are taken out of the buffers and put back at its exit contents. -/
def reg1 : Pipeline.RegionSeg (pcfgs (F := F)) adm (pdats m ρ) () defs₀ noVar noLev levZ 1 where
  win := launch1.win.to₀
  block_pos := launch1.block_pos
  stage_whole := launch1.stage_whole
  K := PEmpty
  osem k := k.elim
  ho := Pipeline.OwnSemFacts.none _
  hbody c := (body_obligation1 (U2 m ρ) c).loose
  hwaits := Pipeline.hwaits_of_owed_zero _ _ _ _ noLev levZ 1 fun _ _ => rfl
  pre c := iprop(StableHlo.held (c : Thread nD τ) (Pipeline.ucRefs τ sig) (W2 m ρ c) ∗ rides c)
  post c := iprop(StableHlo.held (c : Thread nD τ) (Pipeline.ucRefs τ sig) (W3 m ρ c) ∗ rides c)
  X c := iprop(∃ r, prngReg c r)
  Y c := iprop(∃ r, prngReg c r)
  Z c := Pipeline.unscopedRest (Ix := Unit) (Name := ℕ) (U := UR sig nD τ) (Lvl := ℕ) spec1 c (U2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U2 m ρ c) (A_eq1 (U2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U2 m ρ c) (U3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment: its arrays are taken out of the buffers and put back at its exit contents. -/
def reg2 : Pipeline.RegionSeg (pcfgs (F := F)) adm (pdats m ρ) () defs₀ noVar noLev levZ 2 where
  win := launch2.win.to₀
  block_pos := launch2.block_pos
  stage_whole := launch2.stage_whole
  K := PEmpty
  osem k := k.elim
  ho := Pipeline.OwnSemFacts.none _
  hbody c := (body_obligation2 (U3 m ρ) c).loose
  hwaits := Pipeline.hwaits_of_owed_zero _ _ _ _ noLev levZ 2 fun _ _ => rfl
  pre c := iprop(StableHlo.held (c : Thread nD τ) (Pipeline.ucRefs τ sig) (W3 m ρ c) ∗ rides c)
  post c := iprop(StableHlo.held (c : Thread nD τ) (Pipeline.ucRefs τ sig) (W4 m ρ c) ∗ rides c)
  X c := iprop(∃ r, prngReg c r)
  Y c := iprop(∃ r, prngReg c r)
  Z c := Pipeline.unscopedRest (Ix := Unit) (Name := ℕ) (U := UR sig nD τ) (Lvl := ℕ) spec2 c (U3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (U3 m ρ c) (A_eq2 (U3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (U3 m ρ c) (U4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 3 as a segment: its arrays are taken out of the buffers and put back at its exit contents. -/
def reg3 : Pipeline.RegionSeg (pcfgs (F := F)) adm (pdats m ρ) () defs₀ noVar noLev levZ 3 where
  win := launch3.win.to₀
  block_pos := launch3.block_pos
  stage_whole := launch3.stage_whole
  K := PEmpty
  osem k := k.elim
  ho := Pipeline.OwnSemFacts.none _
  hbody c := (body_obligation3 (U4 m ρ) c).loose
  hwaits := Pipeline.hwaits_of_owed_zero _ _ _ _ noLev levZ 3 fun _ _ => rfl
  pre c := iprop(StableHlo.held (c : Thread nD τ) (Pipeline.ucRefs τ sig) (W4 m ρ c) ∗ rides c)
  post c := iprop(StableHlo.held (c : Thread nD τ) (Pipeline.ucRefs τ sig) (W5 m ρ c) ∗ rides c)
  X c := iprop(∃ r, prngReg c r)
  Y c := iprop(∃ r, prngReg c r)
  Z c := Pipeline.unscopedRest (Ix := Unit) (Name := ℕ) (U := UR sig nD τ) (Lvl := ℕ) spec3 c (U4 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (U4 m ρ c) (A_eq3 (U4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (U4 m ρ c) (U5 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program is its segments, and its run -/

abbrev allSegs : List (Pipeline.Seg (pcfgs (F := F)) adm (pdats m ρ) () defs₀ noVar noLev levZ) :=
  [ .host (hseg hostOps0 hostOps0_sub hostOps0_fresh (W0 m ρ)),
    .region (reg0 m ρ),
    .region (reg1 m ρ),
    .region (reg2 m ρ),
    .region (reg3 m ρ),
    .host (hseg hostOps4 hostOps4_sub hostOps4_fresh (W5 m ρ)) ]
theorem main_run (c : Dev nD) : main (F := F) c = Pipeline.Seg.run (allSegs m ρ) := (main_chain c).trans (by chain_rfl)

theorem no_unscoped : ∀ sm : SemLoc sig, sm.isScoped .tc = true := by decide

set_option backward.isDefEq.respectTransparency.types false in
/-- Every run of the step terminates without a fault, every buffer that outlives it at the fold's last value and every
    semaphore counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W6 m ρ c b) ∧ r.2.sem = fun _ => 0) :=
  Pipeline.θ_run_regions_kit_sems (pcfgs (F := F)) adm (pdats m ρ) () cellOf_inj emb₁ defs₀ noVar noLev levZ m ρ main (allSegs m ρ)
    (fun c Q => by rw [main_run m ρ c])
    (by simp only [allSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ rides c)) (Tₙ := lastT m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach noLev levZ fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨fun c => h c, funext fun g => hz g (.inr (no_unscoped g.2))⟩)

/-- The frame: the arguments end as launched, every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c =>
      ⟨(h.1 c _ (mem_uc main_arg0 (by decide))).trans (W6_args m ρ c main_arg0 (by decide)),
       (h.1 c _ (mem_uc main_arg1 (by decide))).trans (W6_args m ρ c main_arg1 (by decide)),
       (h.1 c _ (mem_uc main_arg2 (by decide))).trans (W6_args m ρ c main_arg2 (by decide)),
       (h.1 c _ (mem_uc main_arg3 (by decide))).trans (W6_args m ρ c main_arg3 (by decide)),
       (h.1 c _ (mem_uc main_arg4 (by decide))).trans (W6_args m ρ c main_arg4 (by decide)),
       (h.1 c _ (mem_uc main_arg5 (by decide))).trans (W6_args m ρ c main_arg5 (by decide))⟩, h.2⟩) (run_all m ρ)

end Cert.HalfFFN

end
-- ==== Proof.HalfIndex.lean ====
/- Where a half layer's weights lie in the arrays of the whole network: four layers, two half layers each. -/
module

public import proofs.«01_k».proof.Proof.LayerWindows

@[expose] public section

noncomputable section

namespace Cert.HalfFFN

variable [Half]

/-- The layer of the half layer. -/
def ly : Fin 4 := ⟨Half.e.val / 2, by omega⟩
/-- Which of its layer's two half layers it is. -/
def hf : Fin 2 := ⟨Half.e.val % 2, by omega⟩
/-- The half layers are numbered layer by layer. -/
theorem ly_hf : ly.val * 2 + hf.val = Half.e.val := by simp only [ly, hf]; omega

end Cert.HalfFFN

end
-- ==== Proof.Math.lean ====
/- The half feed-forward layer and its gradients as functions of real (extended real) matrices, the way the kernel
   arranges them, and the sums the kernel cuts into blocks. -/
module

public import Idealize.ShloMosaic.Lib.Pointwise

@[expose] public section

noncomputable section

namespace Cert.HalfFFN

open Idealize.ShloMosaic

/-- The hidden coordinate that block `j` holds at place `k`. -/
def hid (j : Fin 4) (k : Fin 704) : Fin 2816 := ⟨j.val * 704 + k.val, by omega⟩

/-- A sum over the hidden coordinates, block by block. -/
theorem sum_hid (f : Fin 2816 → EReal) : ∑ c, f c = ∑ j : Fin 4, ∑ k : Fin 704, f (hid j k) :=
  Fin.sum_univ_tiles 4 704 rfl f

section
variable (X : Fin 8192 → Fin 1024 → EReal) (g : Fin 1024 → EReal) (Wg Wu : Fin 1024 → Fin 2816 → EReal)
  (Wd : Fin 2816 → Fin 1024 → EReal) (Dy : Fin 8192 → Fin 1024 → EReal)

/-- The width of a row, 1024, as the kernel's constant. -/
abbrev cWidth : EReal := Ideal.ofBits FTy.f32 1149239296#32
/-- The small number added to the mean square. -/
abbrev cEps : EReal := Ideal.ofBits FTy.f32 897988541#32
/-- One half, as the kernel's constant. -/
abbrev cHalf : EReal := Ideal.ofBits FTy.f32 1056964608#32

/-- The reciprocal root mean square of a row. -/
def rinv (r : Fin 8192) : EReal := Ideal.rsqrt (Ideal.div (∑ k, X r k * X r k) cWidth + cEps)
/-- The normalised, scaled row. -/
def hN (r : Fin 8192) (l : Fin 1024) : EReal := X r l * rinv X r * g l
/-- A projection of the normalised rows to the hidden width. -/
def pr (W : Fin 1024 → Fin 2816 → EReal) (r : Fin 8192) (c : Fin 2816) : EReal := ∑ d, hN X g r d * W d c
/-- The sigmoid, as the kernel spells it. -/
def sg (a : EReal) : EReal := Ideal.div 1 (1 + Ideal.exp (0 - a))
/-- The gate, `a · σ(a)`. -/
def kSA (r : Fin 8192) (c : Fin 2816) : EReal := pr X g Wg r c * sg (pr X g Wg r c)
/-- The up projection times the gate's derivative. -/
def kU (r : Fin 8192) (c : Fin 2816) : EReal :=
  pr X g Wu r c * (sg (pr X g Wg r c) * (1 + pr X g Wg r c * (1 - sg (pr X g Wg r c))))
/-- The hidden activation. -/
def kZ (r : Fin 8192) (c : Fin 2816) : EReal := kSA X g Wg r c * pr X g Wu r c
/-- The half layer's result. -/
def kXo (r : Fin 8192) (l : Fin 1024) : EReal := X r l + cHalf * ∑ c, kZ X g Wg Wu r c * Wd c l
/-- Half the cotangent. -/
def kY (r : Fin 8192) (l : Fin 1024) : EReal := cHalf * Dy r l
/-- The cotangent of the hidden activation. -/
def kDz (r : Fin 8192) (c : Fin 2816) : EReal := ∑ l, kY Dy r l * Wd c l
/-- The cotangent of the gate projection. -/
def kDA (r : Fin 8192) (c : Fin 2816) : EReal := kDz Wd Dy r c * kU X g Wg Wu r c
/-- The cotangent of the up projection. -/
def kDB (r : Fin 8192) (c : Fin 2816) : EReal := kDz Wd Dy r c * kSA X g Wg r c
/-- The cotangent of the normalised rows. -/
def kDh (r : Fin 8192) (l : Fin 1024) : EReal :=
  ∑ j : Fin 4, (∑ k : Fin 704, kDA X g Wg Wu Wd Dy r (hid j k) * Wg l (hid j k)
    + ∑ k : Fin 704, kDB X g Wg Wd Dy r (hid j k) * Wu l (hid j k))
/-- The backward pass of the normalisation, added to the cotangent that skips the layer. -/
def kDx (r : Fin 8192) (l : Fin 1024) : EReal :=
  Dy r l + rinv X r * (kDh X g Wg Wu Wd Dy r l * g l
    - X r l * rinv X r * Ideal.div (∑ k, kDh X g Wg Wu Wd Dy r k * g k * (X r k * rinv X r)) cWidth)
/-- The gradient of the scale. -/
def kDg (l : Fin 1024) : EReal := ∑ r, kDh X g Wg Wu Wd Dy r l * (X r l * rinv X r)
/-- The gradient of the gate's weights. -/
def kDwg (l : Fin 1024) (c : Fin 2816) : EReal := ∑ r, hN X g r l * kDA X g Wg Wu Wd Dy r c
/-- The gradient of the up projection's weights. -/
def kDwu (l : Fin 1024) (c : Fin 2816) : EReal := ∑ r, hN X g r l * kDB X g Wg Wd Dy r c
/-- The gradient of the down projection's weights. -/
def kDwd (c : Fin 2816) (l : Fin 1024) : EReal := ∑ r, kZ X g Wg Wu r c * kY Dy r l
end

/-- A sum accumulated over four points. -/
theorem unroll4 {N : ℕ} (a : (n : ℕ) → n < N → EReal) (T : Fin N → EReal)
    (h0 : ∀ t : Fin N, t.val % 4 = 0 → a t.val t.isLt = T t)
    (h1 : ∀ t : Fin N, ¬ t.val % 4 = 0 → a t.val t.isLt = a (t.val - 1) (by omega) + T t)
    (t : Fin N) (ht : t.val % 4 = 3) :
    a t.val t.isLt = T ⟨t.val - 3, by omega⟩ + T ⟨t.val - 2, by omega⟩ + T ⟨t.val - 1, by omega⟩ + T t := by
  rw [h1 t (by omega)]
  have e1 := h1 ⟨t.val - 1, by omega⟩ (by dsimp only; omega)
  have e2 := h1 ⟨t.val - 2, by omega⟩ (by dsimp only; omega)
  have e3 := h0 ⟨t.val - 3, by omega⟩ (by dsimp only; omega)
  dsimp only at e1 e2 e3
  have e1' : a (t.val - 1 - 1) (by omega) = a (t.val - 2) (by omega) := by congr 1
  have e2' : a (t.val - 2 - 1) (by omega) = a (t.val - 3) (by omega) := by congr 1
  rw [e1, e1', e2, e2', e3]

/-- A sum accumulated over two points. -/
theorem unroll2 {N : ℕ} (a : (n : ℕ) → n < N → EReal) (T : Fin N → EReal)
    (h0 : ∀ t : Fin N, t.val % 2 = 0 → a t.val t.isLt = T t)
    (h1 : ∀ t : Fin N, ¬ t.val % 2 = 0 → a t.val t.isLt = a (t.val - 1) (by omega) + T t)
    (t : Fin N) (ht : t.val % 2 = 1) :
    a t.val t.isLt = T ⟨t.val - 1, by omega⟩ + T t := by
  rw [h1 t (by omega)]
  have e1 := h0 ⟨t.val - 1, by omega⟩ (by dsimp only; omega)
  dsimp only at e1
  rw [e1]

/-- A sum that gains a term at every fourth point. -/
theorem unroll_every4 {N : ℕ} (hN : N ≤ 64) (a : (n : ℕ) → n < N → EReal) (T : Fin 16 → EReal) (h0 : ∀ h, a 0 h = 0)
    (h1 : ∀ t : Fin N, t.val % 4 = 3 → a t.val t.isLt = a (t.val - 1) (by omega) + T ⟨t.val / 4, by omega⟩)
    (h2 : ∀ t : Fin N, ¬ t.val = 0 → ¬ t.val % 4 = 3 → a t.val t.isLt = a (t.val - 1) (by omega)) :
    ∀ (n : ℕ) (hn : n < N), a n hn = ∑ q : Fin 16, if q.val < (n + 1) / 4 then T q else 0 := by
  intro n
  induction n with
  | zero => intro hn; rw [h0]; exact (Finset.sum_eq_zero fun q _ => if_neg (by omega)).symm
  | succ n ih =>
    intro hn
    have ih' := ih (Nat.lt_of_succ_lt hn)
    by_cases h : (n + 1) % 4 = 3
    · have e := h1 ⟨n + 1, hn⟩ h
      dsimp only at e
      have hq : (n + 1) / 4 < 16 := by omega
      have e' : a (n + 1 - 1) (by omega) = a n (Nat.lt_of_succ_lt hn) := rfl
      rw [e, e', ih', ← Finset.sum_erase_add _ _ (Finset.mem_univ (⟨(n + 1) / 4, hq⟩ : Fin 16)),
        ← Finset.sum_erase_add (f := fun q : Fin 16 => if q.val < (n + 1 + 1) / 4 then T q else 0) _ (Finset.mem_univ (⟨(n + 1) / 4, hq⟩ : Fin 16)),
        if_neg (by dsimp only; omega), if_pos (by dsimp only; omega), add_zero]
      refine congrArg (· + _) (Finset.sum_congr rfl fun q hq' => ?_)
      have hne : q.val ≠ (n + 1) / 4 := fun e => (Finset.mem_erase.mp hq').1 (Fin.ext e)
      exact if_congr (by omega) rfl rfl
    · have e := h2 ⟨n + 1, hn⟩ (Nat.succ_ne_zero n) h
      refine e.trans (ih'.trans (Finset.sum_congr rfl fun q _ => if_congr (by omega) rfl rfl))

end Cert.HalfFFN

end
-- ==== Proof.FwdValue.lean ====
/- What the forward call leaves in its five result arrays, at an index, as functions of the arrays it finds. -/
module

public import proofs.«01_k».proof.Proof.FwdRegion
public import proofs.«01_k».proof.Proof.Math
public import Idealize.ShloMosaic.Lib.Pipeline.ValueKit.Geometry
public import Idealize.ShloMosaic.Lib.Pipeline.ValueKit.Point

@[expose] public section

set_option maxHeartbeats 1000000

noncomputable section

namespace Cert.HalfFFN

open Idealize.ShloMosaic Idealize.ShloMosaic.TcCoe Idealize.ShloMosaic.Tactic Cert.KernelIdeal Cert.KernelIdeal.Gen
open Idealize.ShloMosaic.Pipeline (Dat Cfg Window)

variable [Half]

/-! ### The body's values at an index -/

theorem pay6_at (x : Vec Ideal S1024x1024 .f32) (g : Vec Ideal S1x1024 .f32) (r l : Fin 1024) :
    k0_pay6 x g (ix2 r l) = x (ix2 r l) * Ideal.rsqrt (Ideal.div (∑ k, x (ix2 r k) * x (ix2 r k)) cWidth + cEps) * g (ix2 0 l) := by
  pointwise [k0_pay6]
theorem pay9_at (h : Vec Ideal S1024x1024 .bf16) (w : Vec Ideal S1x1x1024x704 .bf16) (r : Fin 1024) (l : Fin 704) :
    k0_pay9 h w (ix2 r l) = ∑ d, h (ix2 r d) * w (ix4 0 0 d l) := by
  pointwise [k0_pay9, k0_pay8]
theorem pay10_at (h : Vec Ideal S1024x1024 .bf16) (w : Vec Ideal S1x1x1024x704 .bf16) (r : Fin 1024) (l : Fin 704) :
    k0_pay10 h w (ix2 r l) = ∑ d, h (ix2 r d) * w (ix4 0 0 d l) := by
  pointwise [k0_pay10, k0_pay8]
theorem pay11_at (h : Vec Ideal S1024x1024 .bf16) (w : Vec Ideal S1x1x1024x704 .bf16) (r : Fin 1024) (l : Fin 704) :
    k0_pay11 h w (ix2 r l) = sg (k0_pay9 h w (ix2 r l)) := by
  unfold sg; pointwise [k0_pay11]
theorem pay12_at (h : Vec Ideal S1024x1024 .bf16) (w : Vec Ideal S1x1x1024x704 .bf16) (r : Fin 1024) (l : Fin 704) :
    k0_pay12 h w (ix2 r l) = k0_pay9 h w (ix2 r l) * sg (k0_pay9 h w (ix2 r l)) := by
  rw [← pay11_at]; pointwise [k0_pay12]
theorem fwdU_at (h : Vec Ideal S1024x1024 .bf16) (w w' : Vec Ideal S1x1x1024x704 .bf16) (z : Fin 1) (r : Fin 1024) (l : Fin 704) :
    fwdU h w w' (ix3 z r l) = k0_pay10 h w' (ix2 r l) * (sg (k0_pay9 h w (ix2 r l)) * (1 + k0_pay9 h w (ix2 r l) * (1 - sg (k0_pay9 h w (ix2 r l))))) := by
  rw [← pay11_at]; unfold fwdU; pointwise [k0_pay13]
theorem fwdSA_at (h : Vec Ideal S1024x1024 .bf16) (w : Vec Ideal S1x1x1024x704 .bf16) (z : Fin 1) (r : Fin 1024) (l : Fin 704) :
    fwdSA h w (ix3 z r l) = k0_pay9 h w (ix2 r l) * sg (k0_pay9 h w (ix2 r l)) := by
  rw [← pay12_at]; unfold fwdSA; pointwise [k0_pay1, k0_pay14]
theorem fwdZ_at (h : Vec Ideal S1024x1024 .bf16) (w w' : Vec Ideal S1x1x1024x704 .bf16) (z : Fin 1) (r : Fin 1024) (l : Fin 704) :
    fwdZ h w w' (ix3 z r l) = k0_pay9 h w (ix2 r l) * sg (k0_pay9 h w (ix2 r l)) * k0_pay10 h w' (ix2 r l) := by
  rw [← pay12_at]; unfold fwdZ; pointwise [k0_pay3, k0_pay2]
theorem fwdAcc_at (h : Vec Ideal S1024x1024 .bf16) (w w' : Vec Ideal S1x1x1024x704 .bf16) (d : Vec Ideal S1x1x704x1024 .bf16)
    (a : Vec Ideal S1024x1024 .f32) (r l : Fin 1024) :
    fwdAcc h w w' d a (ix2 r l) = a (ix2 r l) + ∑ k : Fin 704, fwdZ h w w' (ix3 0 r k) * d (ix4 0 0 k l) := by
  unfold fwdAcc fwdZ; pointwise [k0_pay4, k0_pay3, k0_pay2]
theorem pay7_at (r l : Fin 1024) : k0_pay7 (F := Ideal) (ix2 r l) = 0 := by
  pointwise [k0_pay7]
theorem pay5_at (a b : Vec Ideal S1024x1024 .f32) (r l : Fin 1024) :
    k0_pay5 a b (ix2 r l) = a (ix2 r l) + cHalf * b (ix2 r l) := by
  pointwise [k0_pay5]

/-! ### The blocks at an index -/

/-- The row that place `r` of point `t`'s row block holds. -/
def frow (t : Fin cfg0.N) (r : Fin 1024) : Fin 8192 := ⟨t.val / 4 * 1024 + r.val, by have h : t.val < 32 := t.isLt; omega⟩
/-- Point `t`'s hidden block. -/
def fblk (t : Fin cfg0.N) : Fin 4 := ⟨t.val % 4, by omega⟩
theorem frow_row0 (t : Fin cfg0.N) (r : Fin 1024) : frow (row0 t) r = frow t r :=
  Fin.ext (by show 4 * (t.val / 4) / 4 * 1024 + r.val = t.val / 4 * 1024 + r.val; omega)

theorem e0_0 : ∀ t : Fin cfg0.N, win0_0.index t = ![t.val / 4, 0] := (by decide +kernel : ∀ t : Fin grid0.N, win0_0.index t = ![t.val / 4, 0])
theorem e0_1 : ∀ t : Fin cfg0.N, win0_1.index t = ![0, 0] := (by decide +kernel : ∀ t : Fin grid0.N, win0_1.index t = ![0, 0])
theorem e0_2 : ∀ t : Fin cfg0.N, win0_2.index t = ![t.val % 4, Half.e.val, 0, 0] := (by decide +kernel : ∀ (e : Fin 8) (t : Fin grid0.N),
  (![(BitVec.ofNat 32 (grid0.coords t 1).val).toNat, e.val, (0#32).toNat, (0#32).toNat] : Fin 4 → ℕ) = ![t.val % 4, e.val, 0, 0]) Half.e
theorem e0_3 : ∀ t : Fin cfg0.N, win0_3.index t = ![t.val % 4, Half.e.val, 0, 0] := (by decide +kernel : ∀ (e : Fin 8) (t : Fin grid0.N),
  (![(BitVec.ofNat 32 (grid0.coords t 1).val).toNat, e.val, (0#32).toNat, (0#32).toNat] : Fin 4 → ℕ) = ![t.val % 4, e.val, 0, 0]) Half.e
theorem e0_4 : ∀ t : Fin cfg0.N, win0_4.index t = ![t.val % 4, Half.e.val, 0, 0] := (by decide +kernel : ∀ (e : Fin 8) (t : Fin grid0.N),
  (![(BitVec.ofNat 32 (grid0.coords t 1).val).toNat, e.val, (0#32).toNat, (0#32).toNat] : Fin 4 → ℕ) = ![t.val % 4, e.val, 0, 0]) Half.e
theorem e0_5 : ∀ t : Fin cfg0.N, win0_5.index t = ![t.val / 4, 0] := (by decide +kernel : ∀ t : Fin grid0.N, win0_5.index t = ![t.val / 4, 0])
theorem e0_6 : ∀ t : Fin cfg0.N, win0_6.index t = ![t.val / 4, 0] := (by decide +kernel : ∀ t : Fin grid0.N, win0_6.index t = ![t.val / 4, 0])
theorem e0_7 : ∀ t : Fin cfg0.N, win0_7.index t = ![t.val % 4, t.val / 4, 0] := (by decide +kernel : ∀ t : Fin grid0.N, win0_7.index t = ![t.val % 4, t.val / 4, 0])
theorem e0_8 : ∀ t : Fin cfg0.N, win0_8.index t = ![t.val % 4, t.val / 4, 0] := (by decide +kernel : ∀ t : Fin grid0.N, win0_8.index t = ![t.val % 4, t.val / 4, 0])
theorem e0_9 : ∀ t : Fin cfg0.N, win0_9.index t = ![t.val % 4, t.val / 4, 0] := (by decide +kernel : ∀ t : Fin grid0.N, win0_9.index t = ![t.val % 4, t.val / 4, 0])

section
variable (V : (c : Dev nD) → (b : Ref sig .tc) → Buf (Elt Ideal) ((c : Thread nD τ).loc b)) (c : Dev nD)

theorem blk0_0 (t : Fin cfg0.N) (r l : Fin 1024) : iblk0 V c 0 t (ix2 r l) = V c main_arg0 (ix2 (frow t r) l) := by
  blk_simp [iblk0]
  refine congrArg (V c main_arg0) ?_
  blk_ext [e0_0, frow]
theorem blk0_1 (t : Fin cfg0.N) (z : Fin 1) (l : Fin 1024) : iblk0 V c 1 t (ix2 z l) = V c main_v10 (ix2 z l) := by
  blk_simp [iblk0]
  refine congrArg (V c main_v10) ?_
  blk_ext [e0_1]
theorem blk0_2 (t : Fin cfg0.N) (z z' : Fin 1) (d : Fin 1024) (k : Fin 704) :
    iblk0 V c 2 t (ix4 z z' d k) = V c main_v2 (ix4 (fblk t) Half.e d k) := by
  blk_simp [iblk0]
  refine congrArg (V c main_v2) ?_
  blk_ext [e0_2, fblk]

theorem blk0_3 (t : Fin cfg0.N) (z z' : Fin 1) (d : Fin 1024) (k : Fin 704) :
    iblk0 V c 3 t (ix4 z z' d k) = V c main_v5 (ix4 (fblk t) Half.e d k) := by
  blk_simp [iblk0]
  refine congrArg (V c main_v5) ?_
  blk_ext [e0_3, fblk]
theorem blk0_4 (t : Fin cfg0.N) (z z' : Fin 1) (k : Fin 704) (l : Fin 1024) :
    iblk0 V c 4 t (ix4 z z' k l) = V c main_v8 (ix4 (fblk t) Half.e k l) := by
  blk_simp [iblk0]
  refine congrArg (V c main_v8) ?_
  blk_ext [e0_4, fblk]

/-! ### What the call computes, at an index -/

variable (X : Fin 8192 → Fin 1024 → EReal) (g : Fin 1024 → EReal) (Wg Wu : Fin 1024 → Fin 2816 → EReal)
  (Wd : Fin 2816 → Fin 1024 → EReal)

/-- The call finds the rows `X`, the scale `g` and its half layer's weights in its operands. -/
structure FwdIn : Prop where
  x : ∀ r l, V c main_arg0 (ix2 r l) = X r l
  g : ∀ l, V c main_v10 (ix2 0 l) = g l
  wg : ∀ j d k, V c main_v2 (ix4 j Half.e d k) = Wg d (hid j k)
  wu : ∀ j d k, V c main_v5 (ix4 j Half.e d k) = Wu d (hid j k)
  wd : ∀ j k l, V c main_v8 (ix4 j Half.e k l) = Wd (hid j k) l

variable {V c X g Wg Wu Wd}

theorem hrow_at (H : FwdIn V c X g Wg Wu Wd) (t : Fin cfg0.N) (r l : Fin 1024) : hrow V c t (ix2 r l) = hN X g (frow t r) l := by
  unfold hrow fwdH
  rw [pay6_at]
  simp only [blk0_0, blk0_1, H.x, H.g, frow_row0]
  rfl
theorem gate_at (H : FwdIn V c X g Wg Wu Wd) (t : Fin cfg0.N) (r : Fin 1024) (k : Fin 704) :
    k0_pay9 (hrow V c t) (iblk0 V c 2 t) (ix2 r k) = pr X g Wg (frow t r) (hid (fblk t) k) := by
  rw [pay9_at]
  simp only [hrow_at H, blk0_2, H.wg]
  rfl
theorem up_at (H : FwdIn V c X g Wg Wu Wd) (t : Fin cfg0.N) (r : Fin 1024) (k : Fin 704) :
    k0_pay10 (hrow V c t) (iblk0 V c 3 t) (ix2 r k) = pr X g Wu (frow t r) (hid (fblk t) k) := by
  rw [pay10_at]
  simp only [hrow_at H, blk0_3, H.wu]
  rfl
theorem z_at (H : FwdIn V c X g Wg Wu Wd) (t : Fin cfg0.N) (z : Fin 1) (r : Fin 1024) (k : Fin 704) :
    fwdZ (hrow V c t) (iblk0 V c 2 t) (iblk0 V c 3 t) (ix3 z r k) = kZ X g Wg Wu (frow t r) (hid (fblk t) k) := by
  rw [fwdZ_at, gate_at H, up_at H]
  rfl
/-- One point's share of the down projection. -/
def share0 (X : Fin 8192 → Fin 1024 → EReal) (g : Fin 1024 → EReal) (Wg Wu : Fin 1024 → Fin 2816 → EReal)
    (Wd : Fin 2816 → Fin 1024 → EReal) (R : Fin 8192) (j : Fin 4) (l : Fin 1024) : EReal :=
  ∑ k, kZ X g Wg Wu R (hid j k) * Wd (hid j k) l
theorem acc0_at (H : FwdIn V c X g Wg Wu Wd) (t : Fin cfg0.N) (ht : t.val % 4 = 3) (r l : Fin 1024) :
    acc0 V c t.val t.isLt (ix2 r l) = ∑ h, kZ X g Wg Wu (frow t r) h * Wd h l := by
  rw [unroll4 (fun n hn => acc0 V c n hn (ix2 r l)) (fun t => share0 X g Wg Wu Wd (frow t r) (fblk t) l) ?_ ?_ t ht, sum_hid,
    Fin.sum_univ_four]
  · have hd : ∀ k, k < 4 → (t.val - k) / 4 = t.val / 4 := fun k hk => by omega
    have hf : ∀ k (hk : k < 4), frow ⟨t.val - k, by have := t.isLt; omega⟩ r = frow t r := fun k hk => by
      apply Fin.ext; simp only [frow]; omega
    have hb : ∀ k (hk : k < 4), fblk ⟨t.val - k, by have := t.isLt; omega⟩ = ⟨3 - k, by omega⟩ := fun k hk => by
      apply Fin.ext; simp only [fblk]; omega
    have hb' : fblk t = 3 := by apply Fin.ext; simp only [fblk]; omega
    rw [hf 3 (by omega), hf 2 (by omega), hf 1 (by omega), hb 3 (by omega), hb 2 (by omega), hb 1 (by omega), hb']
    rfl
  · intro t h
    rw [acc0_first V c t h, fwdAcc_at, pay7_at, zero_add]
    simp only [z_at H, blk0_4, H.wd]
    rfl
  · intro t h
    rw [acc0_next V c t h, fwdAcc_at]
    simp only [z_at H, blk0_4, H.wd]
    rfl

/-- The half layer's result, whole. -/
theorem xo_final (H : FwdIn V c X g Wg Wu Wd) :
    (dat0 V c).arrAt 5 cfg0.N = fun i => kXo X g Wg Wu Wd (i (0 : Fin 2)) (i (1 : Fin 2)) := by
  refine (dat0 V c).arrAt_eq_of_covers 5 _ (show win0_5.Covers by decide +kernel) fun t hf y => ?_
  blk_simp
  rw [after0_5]
  change k0_pay5 _ _ y = _
  obtain ⟨p, q, rfl⟩ : ∃ (p : Fin 1024) (q : Fin 1024), y = ix2 p q := ⟨y 0, y 1, eq_ix2 (n0 := 1024) (n1 := 1024) y⟩
  rw [pay5_at, acc0_at H t ((flush0_5 t).1 hf), blk0_0, H.x]
  have e0 : ((win0_5.blk t).view.emb (ix2 p q)) (0 : Fin 2) = frow t p := by
    apply Fin.ext; blk_simp [e0_5, frow]
  have e1 : ((win0_5.blk t).view.emb (ix2 p q)) (1 : Fin 2) = q := by
    apply Fin.ext; blk_simp [e0_5]
  rw [e0, e1]
  rfl

/-- The normalised rows, whole. -/
theorem h_final (H : FwdIn V c X g Wg Wu Wd) :
    (dat0 V c).arrAt 6 cfg0.N = fun i => hN X g (i (0 : Fin 2)) (i (1 : Fin 2)) := by
  refine (dat0 V c).arrAt_eq_of_covers 6 _ (show win0_6.Covers by decide +kernel) fun t hf y => ?_
  blk_simp
  rw [after0_6]
  change hrow V c t y = _
  obtain ⟨p, q, rfl⟩ : ∃ (p : Fin 1024) (q : Fin 1024), y = ix2 p q := ⟨y 0, y 1, eq_ix2 (n0 := 1024) (n1 := 1024) y⟩
  rw [hrow_at H]
  have e0 : ((win0_6.blk t).view.emb (ix2 p q)) (0 : Fin 2) = frow t p := by
    apply Fin.ext; blk_simp [e0_6, frow]
  have e1 : ((win0_6.blk t).view.emb (ix2 p q)) (1 : Fin 2) = q := by
    apply Fin.ext; blk_simp [e0_6]
  rw [e0, e1]

/-- The up projection times the gate's derivative, whole. -/
theorem u_final (H : FwdIn V c X g Wg Wu Wd) :
    (dat0 V c).arrAt 7 cfg0.N = fun i => kU X g Wg Wu (i (1 : Fin 3)) (hid (i (0 : Fin 3)) (i (2 : Fin 3))) := by
  refine (dat0 V c).arrAt_eq_of_covers 7 _ (show win0_7.Covers by decide +kernel) fun t hf y => ?_
  blk_simp
  rw [after0_7]
  change fwdU (hrow V c t) (iblk0 V c 2 t) (iblk0 V c 3 t) y = _
  obtain ⟨z, p, q, rfl⟩ : ∃ (z : Fin 1) (p : Fin 1024) (q : Fin 704), y = ix3 z p q :=
    ⟨y 0, y 1, y 2, eq_ix3 (n0 := 1) (n1 := 1024) (n2 := 704) y⟩
  rw [fwdU_at, gate_at H, up_at H]
  have e0 : ((win0_7.blk t).view.emb (ix3 z p q)) (0 : Fin 3) = fblk t := by
    apply Fin.ext; blk_simp [e0_7, fblk]
  have e1 : ((win0_7.blk t).view.emb (ix3 z p q)) (1 : Fin 3) = frow t p := by
    apply Fin.ext; blk_simp [e0_7, frow]
  have e2 : ((win0_7.blk t).view.emb (ix3 z p q)) (2 : Fin 3) = q := by
    apply Fin.ext; blk_simp [e0_7]
  rw [e0, e1, e2]
  rfl

/-- The gate, whole. -/
theorem sa_final (H : FwdIn V c X g Wg Wu Wd) :
    (dat0 V c).arrAt 8 cfg0.N = fun i => kSA X g Wg (i (1 : Fin 3)) (hid (i (0 : Fin 3)) (i (2 : Fin 3))) := by
  refine (dat0 V c).arrAt_eq_of_covers 8 _ (show win0_8.Covers by decide +kernel) fun t hf y => ?_
  blk_simp
  rw [after0_8]
  change fwdSA (hrow V c t) (iblk0 V c 2 t) y = _
  obtain ⟨z, p, q, rfl⟩ : ∃ (z : Fin 1) (p : Fin 1024) (q : Fin 704), y = ix3 z p q :=
    ⟨y 0, y 1, y 2, eq_ix3 (n0 := 1) (n1 := 1024) (n2 := 704) y⟩
  rw [fwdSA_at, gate_at H]
  have e0 : ((win0_8.blk t).view.emb (ix3 z p q)) (0 : Fin 3) = fblk t := by
    apply Fin.ext; blk_simp [e0_8, fblk]
  have e1 : ((win0_8.blk t).view.emb (ix3 z p q)) (1 : Fin 3) = frow t p := by
    apply Fin.ext; blk_simp [e0_8, frow]
  have e2 : ((win0_8.blk t).view.emb (ix3 z p q)) (2 : Fin 3) = q := by
    apply Fin.ext; blk_simp [e0_8]
  rw [e0, e1, e2]
  rfl

/-- The hidden activation, whole. -/
theorem z_final (H : FwdIn V c X g Wg Wu Wd) :
    (dat0 V c).arrAt 9 cfg0.N = fun i => kZ X g Wg Wu (i (1 : Fin 3)) (hid (i (0 : Fin 3)) (i (2 : Fin 3))) := by
  refine (dat0 V c).arrAt_eq_of_covers 9 _ (show win0_9.Covers by decide +kernel) fun t hf y => ?_
  blk_simp
  rw [after0_9]
  change fwdZ (hrow V c t) (iblk0 V c 2 t) (iblk0 V c 3 t) y = _
  obtain ⟨z, p, q, rfl⟩ : ∃ (z : Fin 1) (p : Fin 1024) (q : Fin 704), y = ix3 z p q :=
    ⟨y 0, y 1, y 2, eq_ix3 (n0 := 1) (n1 := 1024) (n2 := 704) y⟩
  rw [z_at H]
  have e0 : ((win0_9.blk t).view.emb (ix3 z p q)) (0 : Fin 3) = fblk t := by
    apply Fin.ext; blk_simp [e0_9, fblk]
  have e1 : ((win0_9.blk t).view.emb (ix3 z p q)) (1 : Fin 3) = frow t p := by
    apply Fin.ext; blk_simp [e0_9, frow]
  have e2 : ((win0_9.blk t).view.emb (ix3 z p q)) (2 : Fin 3) = q := by
    apply Fin.ext; blk_simp [e0_9]
  rw [e0, e1, e2]

end

end Cert.HalfFFN

end
-- ==== Proof.BwdValue.lean ====
/- What the backward call leaves in its five result arrays, at an index, as functions of the arrays it finds. -/
module

public import proofs.«01_k».proof.Proof.BwdRegion
public import proofs.«01_k».proof.Proof.Math
public import Idealize.ShloMosaic.Lib.Pipeline.ValueKit.Geometry
public import Idealize.ShloMosaic.Lib.Pipeline.ValueKit.Point

@[expose] public section

set_option maxHeartbeats 1000000

noncomputable section

namespace Cert.HalfFFN

open Idealize.ShloMosaic Idealize.ShloMosaic.TcCoe Idealize.ShloMosaic.Tactic Cert.KernelIdeal Cert.KernelIdeal.Gen
open Idealize.ShloMosaic.Pipeline (Dat Cfg Window)

variable [Half]

/-! ### The body's values at an index -/

/-- The reciprocal root mean square of row `r` of a block. -/
abbrev brinv (x : Vec Ideal S512x1024 .f32) (r : Fin 512) : EReal :=
  Ideal.rsqrt (Ideal.div (∑ k, x (ix2 r k) * x (ix2 r k)) cWidth + cEps)

theorem bwdY_at (y : Vec Ideal S512x1024 .f32) (r : Fin 512) (l : Fin 1024) : bwdY y (ix2 r l) = cHalf * y (ix2 r l) := by
  pointwise [k1_pay7]
theorem bwdA_at (y : Vec Ideal S512x1024 .bf16) (w : Vec Ideal S1x1x704x1024 .bf16) (u : Vec Ideal S1x512x704 .bf16)
    (z : Fin 1) (r : Fin 512) (k : Fin 704) :
    bwdA y w u (ix3 z r k) = (∑ d, y (ix2 r d) * w (ix4 0 0 k d)) * u (ix3 0 r k) := by
  pointwise [k1_pay13, k1_pay11, k1_pay10]
theorem bwdB_at (y : Vec Ideal S512x1024 .bf16) (w : Vec Ideal S1x1x704x1024 .bf16) (u : Vec Ideal S1x512x704 .bf16)
    (z : Fin 1) (r : Fin 512) (k : Fin 704) :
    bwdB y w u (ix3 z r k) = (∑ d, y (ix2 r d) * w (ix4 0 0 k d)) * u (ix3 0 r k) := by
  pointwise [k1_pay14, k1_pay12, k1_pay10]
theorem bwdAcc_at (y : Vec Ideal S512x1024 .bf16) (u v : Vec Ideal S1x512x704 .bf16) (wg wu : Vec Ideal S1x1x1024x704 .bf16)
    (wd : Vec Ideal S1x1x704x1024 .bf16) (a : Vec Ideal S512x1024 .f32) (r : Fin 512) (l : Fin 1024) :
    bwdAcc y u v wg wu wd a (ix2 r l) = a (ix2 r l)
      + (∑ k, bwdA y wd u (ix3 0 r k) * wg (ix4 0 0 l k) + ∑ k, bwdB y wd v (ix3 0 r k) * wu (ix4 0 0 l k)) := by
  unfold bwdAcc bwdA bwdB; pointwise [k1_pay1, k1_pay13, k1_pay14]
theorem k1_pay8_at (r : Fin 512) (l : Fin 1024) : k1_pay8 (F := Ideal) (ix2 r l) = 0 := by
  pointwise [k1_pay8]
theorem k1_pay9_at (z : Fin 1) (l : Fin 1024) : k1_pay9 (F := Ideal) (ix2 z l) = 0 := by
  pointwise [k1_pay9]
theorem k1_pay5_at (a x : Vec Ideal S512x1024 .f32) (g : Vec Ideal S1x1024 .f32) (y : Vec Ideal S512x1024 .f32) (r : Fin 512) (l : Fin 1024) :
    k1_pay5 a x g y (ix2 r l) = y (ix2 r l) + brinv x r * (a (ix2 r l) * g (ix2 0 l)
      - x (ix2 r l) * brinv x r * Ideal.div (∑ k, a (ix2 r k) * g (ix2 0 k) * (x (ix2 r k) * brinv x r)) cWidth) := by
  pointwise [k1_pay5, k1_pay2, k1_pay4, k1_pay3]
theorem k1_pay6_at (a x : Vec Ideal S512x1024 .f32) (y : Vec Ideal S1x1024 .f32) (z : Fin 1) (l : Fin 1024) :
    k1_pay6 a x y (ix2 z l) = y (ix2 z l) + ∑ r, a (ix2 r l) * (x (ix2 r l) * brinv x r) := by
  pointwise [k1_pay6, k1_pay2, k1_pay4, k1_pay3]

/-! ### The blocks at an index -/

/-- The row that place `r` of point `t`'s row block holds. -/
def brow (t : Fin cfg1.N) (r : Fin 512) : Fin 8192 := ⟨t.val / 4 * 512 + r.val, by have h : t.val < 64 := t.isLt; omega⟩
/-- Point `t`'s hidden block. -/
def bblk (t : Fin cfg1.N) : Fin 4 := ⟨t.val % 4, by omega⟩
theorem brow_row1 (t : Fin cfg1.N) (r : Fin 512) : brow (row1 t) r = brow t r :=
  Fin.ext (by show 4 * (t.val / 4) / 4 * 512 + r.val = t.val / 4 * 512 + r.val; omega)

theorem e1_0 : ∀ t : Fin cfg1.N, win1_0.index t = ![t.val / 4, 0] := (by decide +kernel : ∀ t : Fin grid1.N, win1_0.index t = ![t.val / 4, 0])
theorem e1_1 : ∀ t : Fin cfg1.N, win1_1.index t = ![0, 0] := (by decide +kernel : ∀ t : Fin grid1.N, win1_1.index t = ![0, 0])
theorem e1_2 : ∀ t : Fin cfg1.N, win1_2.index t = ![t.val / 4, 0] := (by decide +kernel : ∀ t : Fin grid1.N, win1_2.index t = ![t.val / 4, 0])
theorem e1_3 : ∀ t : Fin cfg1.N, win1_3.index t = ![t.val % 4, t.val / 4, 0] := (by decide +kernel : ∀ t : Fin grid1.N, win1_3.index t = ![t.val % 4, t.val / 4, 0])
theorem e1_4 : ∀ t : Fin cfg1.N, win1_4.index t = ![t.val % 4, t.val / 4, 0] := (by decide +kernel : ∀ t : Fin grid1.N, win1_4.index t = ![t.val % 4, t.val / 4, 0])
theorem e1_5 : ∀ t : Fin cfg1.N, win1_5.index t = ![t.val % 4, Half.e.val, 0, 0] := (by decide +kernel : ∀ (e : Fin 8) (t : Fin grid1.N),
  (![(BitVec.ofNat 32 (grid1.coords t 1).val).toNat, e.val, (0#32).toNat, (0#32).toNat] : Fin 4 → ℕ) = ![t.val % 4, e.val, 0, 0]) Half.e
theorem e1_6 : ∀ t : Fin cfg1.N, win1_6.index t = ![t.val % 4, Half.e.val, 0, 0] := (by decide +kernel : ∀ (e : Fin 8) (t : Fin grid1.N),
  (![(BitVec.ofNat 32 (grid1.coords t 1).val).toNat, e.val, (0#32).toNat, (0#32).toNat] : Fin 4 → ℕ) = ![t.val % 4, e.val, 0, 0]) Half.e
theorem e1_7 : ∀ t : Fin cfg1.N, win1_7.index t = ![t.val % 4, Half.e.val, 0, 0] := (by decide +kernel : ∀ (e : Fin 8) (t : Fin grid1.N),
  (![(BitVec.ofNat 32 (grid1.coords t 1).val).toNat, e.val, (0#32).toNat, (0#32).toNat] : Fin 4 → ℕ) = ![t.val % 4, e.val, 0, 0]) Half.e
theorem e1_8 : ∀ t : Fin cfg1.N, win1_8.index t = ![t.val / 4, 0] := (by decide +kernel : ∀ t : Fin grid1.N, win1_8.index t = ![t.val / 4, 0])
theorem e1_9 : ∀ t : Fin cfg1.N, win1_9.index t = ![t.val % 4, t.val / 4, 0] := (by decide +kernel : ∀ t : Fin grid1.N, win1_9.index t = ![t.val % 4, t.val / 4, 0])
theorem e1_10 : ∀ t : Fin cfg1.N, win1_10.index t = ![t.val % 4, t.val / 4, 0] := (by decide +kernel : ∀ t : Fin grid1.N, win1_10.index t = ![t.val % 4, t.val / 4, 0])
theorem e1_11 : ∀ t : Fin cfg1.N, win1_11.index t = ![t.val / 4, 0] := (by decide +kernel : ∀ t : Fin grid1.N, win1_11.index t = ![t.val / 4, 0])
theorem e1_12 : ∀ t : Fin cfg1.N, win1_12.index t = ![0, 0] := (by decide +kernel : ∀ t : Fin grid1.N, win1_12.index t = ![0, 0])

section
variable (V : (c : Dev nD) → (b : Ref sig .tc) → Buf (Elt Ideal) ((c : Thread nD τ).loc b)) (c : Dev nD)

theorem blk1_0 (t : Fin cfg1.N) (r : Fin 512) (l : Fin 1024) : iblk1 V c 0 t (ix2 r l) = V c main_arg0 (ix2 (brow t r) l) := by
  blk_simp [iblk1]
  refine congrArg (V c main_arg0) ?_
  blk_ext [e1_0, brow]
theorem blk1_1 (t : Fin cfg1.N) (z : Fin 1) (l : Fin 1024) : iblk1 V c 1 t (ix2 z l) = V c main_v10 (ix2 z l) := by
  blk_simp [iblk1]
  refine congrArg (V c main_v10) ?_
  blk_ext [e1_1]
theorem blk1_2 (t : Fin cfg1.N) (r : Fin 512) (l : Fin 1024) : iblk1 V c 2 t (ix2 r l) = V c main_arg5 (ix2 (brow t r) l) := by
  blk_simp [iblk1]
  refine congrArg (V c main_arg5) ?_
  blk_ext [e1_2, brow]
theorem blk1_3 (t : Fin cfg1.N) (z : Fin 1) (r : Fin 512) (k : Fin 704) : iblk1 V c 3 t (ix3 z r k) = V c main_v11_2 (ix3 (bblk t) (brow t r) k) := by
  blk_simp [iblk1]
  refine congrArg (V c main_v11_2) ?_
  blk_ext [e1_3, brow, bblk]
theorem blk1_4 (t : Fin cfg1.N) (z : Fin 1) (r : Fin 512) (k : Fin 704) : iblk1 V c 4 t (ix3 z r k) = V c main_v11_3 (ix3 (bblk t) (brow t r) k) := by
  blk_simp [iblk1]
  refine congrArg (V c main_v11_3) ?_
  blk_ext [e1_4, brow, bblk]
theorem blk1_5 (t : Fin cfg1.N) (z z' : Fin 1) (d : Fin 1024) (k : Fin 704) : iblk1 V c 5 t (ix4 z z' d k) = V c main_v2 (ix4 (bblk t) Half.e d k) := by
  blk_simp [iblk1]
  refine congrArg (V c main_v2) ?_
  blk_ext [e1_5, bblk]
theorem blk1_6 (t : Fin cfg1.N) (z z' : Fin 1) (d : Fin 1024) (k : Fin 704) : iblk1 V c 6 t (ix4 z z' d k) = V c main_v5 (ix4 (bblk t) Half.e d k) := by
  blk_simp [iblk1]
  refine congrArg (V c main_v5) ?_
  blk_ext [e1_6, bblk]
theorem blk1_7 (t : Fin cfg1.N) (z z' : Fin 1) (k : Fin 704) (d : Fin 1024) : iblk1 V c 7 t (ix4 z z' k d) = V c main_v8 (ix4 (bblk t) Half.e k d) := by
  blk_simp [iblk1]
  refine congrArg (V c main_v8) ?_
  blk_ext [e1_7, bblk]

/-! ### What the call computes, at an index -/

variable (X : Fin 8192 → Fin 1024 → EReal) (g : Fin 1024 → EReal) (Wg Wu : Fin 1024 → Fin 2816 → EReal)
  (Wd : Fin 2816 → Fin 1024 → EReal) (Dy : Fin 8192 → Fin 1024 → EReal)

/-- The call finds the rows, the scale, the cotangent, the weights and what the forward call saved in its operands. -/
structure BwdIn : Prop where
  x : ∀ r l, V c main_arg0 (ix2 r l) = X r l
  gs : ∀ l, V c main_v10 (ix2 0 l) = g l
  dy : ∀ r l, V c main_arg5 (ix2 r l) = Dy r l
  u : ∀ j r k, V c main_v11_2 (ix3 j r k) = kU X g Wg Wu r (hid j k)
  sa : ∀ j r k, V c main_v11_3 (ix3 j r k) = kSA X g Wg r (hid j k)
  wg : ∀ j d k, V c main_v2 (ix4 j Half.e d k) = Wg d (hid j k)
  wu : ∀ j d k, V c main_v5 (ix4 j Half.e d k) = Wu d (hid j k)
  wd : ∀ j k l, V c main_v8 (ix4 j Half.e k l) = Wd (hid j k) l

variable {V c X g Wg Wu Wd Dy}

theorem yrow_at (H : BwdIn V c X g Wg Wu Wd Dy) (t : Fin cfg1.N) (r : Fin 512) (l : Fin 1024) :
    yrow V c t (ix2 r l) = kY Dy (brow t r) l := by
  unfold yrow
  rw [bwdY_at, blk1_2, H.dy, brow_row1]
  rfl
theorem da_at (H : BwdIn V c X g Wg Wu Wd Dy) (t : Fin cfg1.N) (z : Fin 1) (r : Fin 512) (k : Fin 704) :
    bwdA (yrow V c t) (iblk1 V c 7 t) (iblk1 V c 3 t) (ix3 z r k) = kDA X g Wg Wu Wd Dy (brow t r) (hid (bblk t) k) := by
  rw [bwdA_at]
  simp only [yrow_at H, blk1_7, blk1_3, H.wd, H.u]
  rfl
theorem db_at (H : BwdIn V c X g Wg Wu Wd Dy) (t : Fin cfg1.N) (z : Fin 1) (r : Fin 512) (k : Fin 704) :
    bwdB (yrow V c t) (iblk1 V c 7 t) (iblk1 V c 4 t) (ix3 z r k) = kDB X g Wg Wd Dy (brow t r) (hid (bblk t) k) := by
  rw [bwdB_at]
  simp only [yrow_at H, blk1_7, blk1_4, H.wd, H.sa]
  rfl
/-- One point's share of the cotangent of the normalised rows. -/
def share1 (X : Fin 8192 → Fin 1024 → EReal) (g : Fin 1024 → EReal) (Wg Wu : Fin 1024 → Fin 2816 → EReal)
    (Wd : Fin 2816 → Fin 1024 → EReal) (Dy : Fin 8192 → Fin 1024 → EReal) (R : Fin 8192) (j : Fin 4) (l : Fin 1024) : EReal :=
  ∑ k, kDA X g Wg Wu Wd Dy R (hid j k) * Wg l (hid j k) + ∑ k, kDB X g Wg Wd Dy R (hid j k) * Wu l (hid j k)
theorem step1_at (H : BwdIn V c X g Wg Wu Wd Dy) (t : Fin cfg1.N) (a : Vec Ideal S512x1024 .f32) (r : Fin 512) (l : Fin 1024) :
    step1 V c t a (ix2 r l) = a (ix2 r l) + share1 X g Wg Wu Wd Dy (brow t r) (bblk t) l := by
  show bwdAcc _ _ _ _ _ _ a (ix2 r l) = _
  rw [bwdAcc_at]
  simp only [da_at H, db_at H, blk1_5, blk1_6, H.wg, H.wu]
  rfl
theorem acc1_at (H : BwdIn V c X g Wg Wu Wd Dy) (t : Fin cfg1.N) (ht : t.val % 4 = 3) (r : Fin 512) (l : Fin 1024) :
    acc1 V c t.val t.isLt (ix2 r l) = kDh X g Wg Wu Wd Dy (brow t r) l := by
  rw [unroll4 (fun n hn => acc1 V c n hn (ix2 r l)) (fun t => share1 X g Wg Wu Wd Dy (brow t r) (bblk t) l) ?_ ?_ t ht]
  · unfold kDh
    rw [Fin.sum_univ_four]
    have hf : ∀ k (hk : k < 4), brow ⟨t.val - k, by have := t.isLt; omega⟩ r = brow t r := fun k hk => by
      apply Fin.ext; simp only [brow]; omega
    have hb : ∀ k (hk : k < 4), bblk ⟨t.val - k, by have := t.isLt; omega⟩ = ⟨3 - k, by omega⟩ := fun k hk => by
      apply Fin.ext; simp only [bblk]; omega
    have hb' : bblk t = 3 := by apply Fin.ext; simp only [bblk]; omega
    rw [hf 3 (by omega), hf 2 (by omega), hf 1 (by omega), hb 3 (by omega), hb 2 (by omega), hb 1 (by omega), hb']
    rfl
  · intro t h
    rw [acc1_first V c t h, step1_at H, k1_pay8_at, zero_add]
  · intro t h
    rw [acc1_next V c t h, step1_at H]

/-- The rows block `q` of the gradient of the scale sums over. -/
def share1g (X : Fin 8192 → Fin 1024 → EReal) (g : Fin 1024 → EReal) (Wg Wu : Fin 1024 → Fin 2816 → EReal)
    (Wd : Fin 2816 → Fin 1024 → EReal) (Dy : Fin 8192 → Fin 1024 → EReal) (q : Fin 16) (l : Fin 1024) : EReal :=
  ∑ r : Fin 512, kDh X g Wg Wu Wd Dy ⟨q.val * 512 + r.val, by omega⟩ l
    * (X ⟨q.val * 512 + r.val, by omega⟩ l * rinv X ⟨q.val * 512 + r.val, by omega⟩)
theorem brinv_at (H : BwdIn V c X g Wg Wu Wd Dy) (t : Fin cfg1.N) (r : Fin 512) : brinv (iblk1 V c 0 t) r = rinv X (brow t r) := by
  unfold brinv
  simp only [blk1_0, H.x]
  rfl
theorem dg1_step (H : BwdIn V c X g Wg Wu Wd Dy) (t : Fin cfg1.N) (ht : t.val % 4 = 3) (z : Fin 1) (l : Fin 1024) :
    dg1 V c t.val t.isLt (ix2 z l) = dg1 V c (prev t).val (prev t).isLt (ix2 z l)
      + share1g X g Wg Wu Wd Dy ⟨t.val / 4, by have h : t.val < 64 := t.isLt; omega⟩ l := by
  rw [dg1_last V c t ht, k1_pay6_at]
  simp only [acc1_at H t ht, brinv_at H, blk1_0, H.x]
  rfl
/-- After point `n` the gradient of the scale is the sum over the row blocks done. -/
theorem dg1_at (H : BwdIn V c X g Wg Wu Wd Dy) (z : Fin 1) (l : Fin 1024) (n : ℕ) (hn : n < cfg1.N) :
    dg1 V c n hn (ix2 z l) = ∑ q : Fin 16, if q.val < (n + 1) / 4 then share1g X g Wg Wu Wd Dy q l else 0 := by
  refine unroll_every4 (le_of_eq (show grid1.N = 64 by decide +kernel)) (fun n hn => dg1 V c n hn (ix2 z l)) (fun q => share1g X g Wg Wu Wd Dy q l) ?_ ?_ ?_ n hn
  · intro h
    exact (congrFun (dg1_zero V c ⟨0, h⟩ rfl) _).trans (k1_pay9_at z l)
  · intro t h
    exact dg1_step H t h z l
  · intro t h0 h
    exact congrFun (dg1_kept V c t h0 h) _

/-- The cotangent of the rows, whole. -/
theorem dx_final (H : BwdIn V c X g Wg Wu Wd Dy) :
    (dat1 V c).arrAt 8 cfg1.N = fun i => kDx X g Wg Wu Wd Dy (i (0 : Fin 2)) (i (1 : Fin 2)) := by
  refine (dat1 V c).arrAt_eq_of_covers 8 _ (show win1_8.Covers by decide +kernel) fun t hf y => ?_
  blk_simp
  rw [after1_8]
  change dx1 V c t y = _
  obtain ⟨p, q, rfl⟩ : ∃ (p : Fin 512) (q : Fin 1024), y = ix2 p q := ⟨y 0, y 1, eq_ix2 (n0 := 512) (n1 := 1024) y⟩
  have ht : t.val % 4 = 3 := (flush1_8 t).1 hf
  unfold dx1
  rw [if_pos ht, k1_pay5_at]
  simp only [acc1_at H t ht, brinv_at H, blk1_0, blk1_1, blk1_2, H.x, H.gs, H.dy]
  have e0 : ((win1_8.blk t).view.emb (ix2 p q)) (0 : Fin 2) = brow t p := by
    apply Fin.ext; blk_simp [e1_8, brow]
  have e1 : ((win1_8.blk t).view.emb (ix2 p q)) (1 : Fin 2) = q := by
    apply Fin.ext; blk_simp [e1_8]
  rw [e0, e1]
  rfl

/-- Half the cotangent, whole. -/
theorem y_final (H : BwdIn V c X g Wg Wu Wd Dy) :
    (dat1 V c).arrAt 11 cfg1.N = fun i => kY Dy (i (0 : Fin 2)) (i (1 : Fin 2)) := by
  refine (dat1 V c).arrAt_eq_of_covers 11 _ (show win1_11.Covers by decide +kernel) fun t hf y => ?_
  blk_simp
  rw [after1_11]
  change yrow V c t y = _
  obtain ⟨p, q, rfl⟩ : ∃ (p : Fin 512) (q : Fin 1024), y = ix2 p q := ⟨y 0, y 1, eq_ix2 (n0 := 512) (n1 := 1024) y⟩
  rw [yrow_at H]
  have e0 : ((win1_11.blk t).view.emb (ix2 p q)) (0 : Fin 2) = brow t p := by
    apply Fin.ext; blk_simp [e1_11, brow]
  have e1 : ((win1_11.blk t).view.emb (ix2 p q)) (1 : Fin 2) = q := by
    apply Fin.ext; blk_simp [e1_11]
  rw [e0, e1]

/-- The gradient of the scale, whole. -/
theorem dg_final (H : BwdIn V c X g Wg Wu Wd Dy) :
    (dat1 V c).arrAt 12 cfg1.N = fun i => kDg X g Wg Wu Wd Dy (i (1 : Fin 2)) := by
  refine (dat1 V c).arrAt_eq_of_covers 12 _ (show win1_12.Covers by decide +kernel) fun t hf y => ?_
  blk_simp
  rw [after1_12]
  obtain ⟨z, q, rfl⟩ : ∃ (z : Fin 1) (q : Fin 1024), y = ix2 z q := ⟨y 0, y 1, eq_ix2 (n0 := 1) (n1 := 1024) y⟩
  refine (dg1_at H z q t.val t.isLt).trans ?_
  have ht : t.val = 63 := by have := (flush1_12 t).1 hf; have h : t.val < 64 := t.isLt; omega
  have e1 : ((win1_12.blk t).view.emb (ix2 z q)) (1 : Fin 2) = q := by
    apply Fin.ext; blk_simp [e1_12]
  rw [e1]
  unfold kDg
  rw [Fin.sum_univ_tiles 16 512 rfl]
  refine Finset.sum_congr rfl fun j _ => ?_
  rw [if_pos (by have := j.isLt; omega)]
  rfl

/-- The cotangent of the gate projection, whole. -/
theorem da_final (H : BwdIn V c X g Wg Wu Wd Dy) :
    (dat1 V c).arrAt 9 cfg1.N = fun i => kDA X g Wg Wu Wd Dy (i (1 : Fin 3)) (hid (i (0 : Fin 3)) (i (2 : Fin 3))) := by
  refine (dat1 V c).arrAt_eq_of_covers 9 _ (show win1_9.Covers by decide +kernel) fun t hf y => ?_
  blk_simp
  rw [after1_9]
  change bwdA (yrow V c t) (iblk1 V c 7 t) (iblk1 V c 3 t) y = _
  obtain ⟨z, p, q, rfl⟩ : ∃ (z : Fin 1) (p : Fin 512) (q : Fin 704), y = ix3 z p q :=
    ⟨y 0, y 1, y 2, eq_ix3 (n0 := 1) (n1 := 512) (n2 := 704) y⟩
  rw [da_at H]
  have e0 : ((win1_9.blk t).view.emb (ix3 z p q)) (0 : Fin 3) = bblk t := by
    apply Fin.ext; blk_simp [e1_9, bblk]
  have e1 : ((win1_9.blk t).view.emb (ix3 z p q)) (1 : Fin 3) = brow t p := by
    apply Fin.ext; blk_simp [e1_9, brow]
  have e2 : ((win1_9.blk t).view.emb (ix3 z p q)) (2 : Fin 3) = q := by
    apply Fin.ext; blk_simp [e1_9]
  rw [e0, e1, e2]

/-- The cotangent of the up projection, whole. -/
theorem db_final (H : BwdIn V c X g Wg Wu Wd Dy) :
    (dat1 V c).arrAt 10 cfg1.N = fun i => kDB X g Wg Wd Dy (i (1 : Fin 3)) (hid (i (0 : Fin 3)) (i (2 : Fin 3))) := by
  refine (dat1 V c).arrAt_eq_of_covers 10 _ (show win1_10.Covers by decide +kernel) fun t hf y => ?_
  blk_simp
  rw [after1_10]
  change bwdB (yrow V c t) (iblk1 V c 7 t) (iblk1 V c 4 t) y = _
  obtain ⟨z, p, q, rfl⟩ : ∃ (z : Fin 1) (p : Fin 512) (q : Fin 704), y = ix3 z p q :=
    ⟨y 0, y 1, y 2, eq_ix3 (n0 := 1) (n1 := 512) (n2 := 704) y⟩
  rw [db_at H]
  have e0 : ((win1_10.blk t).view.emb (ix3 z p q)) (0 : Fin 3) = bblk t := by
    apply Fin.ext; blk_simp [e1_10, bblk]
  have e1 : ((win1_10.blk t).view.emb (ix3 z p q)) (1 : Fin 3) = brow t p := by
    apply Fin.ext; blk_simp [e1_10, brow]
  have e2 : ((win1_10.blk t).view.emb (ix3 z p q)) (2 : Fin 3) = q := by
    apply Fin.ext; blk_simp [e1_10]
  rw [e0, e1, e2]

end

end Cert.HalfFFN

end
-- ==== Proof.DwValue.lean ====
/- What the two weight gradient calls leave in their result arrays' slice of the half layer, at an index, as functions of the arrays they find. -/
module

public import proofs.«01_k».proof.Proof.DwRegion
public import proofs.«01_k».proof.Proof.Math
public import Idealize.ShloMosaic.Lib.Pipeline.ValueKit.Geometry
public import Idealize.ShloMosaic.Lib.Pipeline.ValueKit.Point
public import Idealize.ShloMosaic.Lib.Pipeline.ValueKit.Partial

@[expose] public section

set_option maxHeartbeats 1000000

noncomputable section

namespace Cert.HalfFFN

open Idealize.ShloMosaic Idealize.ShloMosaic.TcCoe Idealize.ShloMosaic.Tactic Cert.KernelIdeal Cert.KernelIdeal.Gen
open Idealize.ShloMosaic.Pipeline (Dat Cfg Window)

variable [Half]

/-! ### The bodies' values at an index -/

theorem k2_pay4_at (h : Vec Ideal S2048x1024 .bf16) (a : Vec Ideal S1x1x1024x704 .f32) (d : Vec Ideal S1x2048x704 .bf16)
    (z z' : Fin 1) (r : Fin 1024) (l : Fin 704) :
    k2_pay4 h a d (ix4 z z' r l) = a (ix4 0 0 r l) + ∑ k, h (ix2 k r) * d (ix3 0 k l) := by
  pointwise [k2_pay4, k2_pay3]
theorem k2_pay5_at (h : Vec Ideal S2048x1024 .bf16) (a : Vec Ideal S1x1x1024x704 .f32) (d : Vec Ideal S1x2048x704 .bf16)
    (z z' : Fin 1) (r : Fin 1024) (l : Fin 704) :
    k2_pay5 h a d (ix4 z z' r l) = a (ix4 0 0 r l) + ∑ k, h (ix2 k r) * d (ix3 0 k l) := by
  pointwise [k2_pay5, k2_pay3]
theorem k2_pay1_at (z z' : Fin 1) (r : Fin 1024) (l : Fin 704) : k2_pay1 (F := Ideal) (ix4 z z' r l) = 0 := by
  pointwise [k2_pay1]
theorem k2_pay2_at (z z' : Fin 1) (r : Fin 1024) (l : Fin 704) : k2_pay2 (F := Ideal) (ix4 z z' r l) = 0 := by
  pointwise [k2_pay2]
theorem k3_pay2_at (a : Vec Ideal S1x1x704x1024 .f32) (u : Vec Ideal S1x4096x704 .bf16) (y : Vec Ideal S4096x1024 .bf16)
    (z z' : Fin 1) (r : Fin 704) (l : Fin 1024) :
    k3_pay2 a u y (ix4 z z' r l) = a (ix4 0 0 r l) + ∑ k, u (ix3 0 k r) * y (ix2 k l) := by
  pointwise [k3_pay2]
theorem k3_pay1_at (z z' : Fin 1) (r : Fin 704) (l : Fin 1024) : k3_pay1 (F := Ideal) (ix4 z z' r l) = 0 := by
  pointwise [k3_pay1]

/-! ### The blocks at an index -/

/-- The row that place `k` of point `t`'s row block holds, in the first call. -/
def wrow (t : Fin cfg2.N) (k : Fin 2048) : Fin 8192 := ⟨t.val % 4 * 2048 + k.val, by omega⟩
/-- Point `t`'s hidden block, in the first call. -/
def wblk (t : Fin cfg2.N) : Fin 4 := ⟨t.val / 4, by have h : t.val < 16 := t.isLt; omega⟩
/-- The row that place `k` of point `t`'s row block holds, in the second call. -/
def vrow (t : Fin cfg3.N) (k : Fin 4096) : Fin 8192 := ⟨t.val % 2 * 4096 + k.val, by omega⟩
/-- Point `t`'s hidden block, in the second call. -/
def vblk (t : Fin cfg3.N) : Fin 4 := ⟨t.val / 2, by have h : t.val < 8 := t.isLt; omega⟩

theorem e2_0 : ∀ t : Fin cfg2.N, win2_0.index t = ![t.val % 4, 0] := (by decide +kernel : ∀ t : Fin grid2.N, win2_0.index t = ![t.val % 4, 0])
theorem e2_1 : ∀ t : Fin cfg2.N, win2_1.index t = ![t.val / 4, t.val % 4, 0] := (by decide +kernel : ∀ t : Fin grid2.N, win2_1.index t = ![t.val / 4, t.val % 4, 0])
theorem e2_2 : ∀ t : Fin cfg2.N, win2_2.index t = ![t.val / 4, t.val % 4, 0] := (by decide +kernel : ∀ t : Fin grid2.N, win2_2.index t = ![t.val / 4, t.val % 4, 0])
theorem e2_3 : ∀ t : Fin cfg2.N, win2_3.index t = ![t.val / 4, Half.e.val, 0, 0] := (by decide +kernel : ∀ (e : Fin 8) (t : Fin grid2.N),
  (![(BitVec.ofNat 32 (grid2.coords t 0).val).toNat, e.val, (0#32).toNat, (0#32).toNat] : Fin 4 → ℕ) = ![t.val / 4, e.val, 0, 0]) Half.e
theorem e2_4 : ∀ t : Fin cfg2.N, win2_4.index t = ![t.val / 4, Half.e.val, 0, 0] := (by decide +kernel : ∀ (e : Fin 8) (t : Fin grid2.N),
  (![(BitVec.ofNat 32 (grid2.coords t 0).val).toNat, e.val, (0#32).toNat, (0#32).toNat] : Fin 4 → ℕ) = ![t.val / 4, e.val, 0, 0]) Half.e
theorem e3_0 : ∀ t : Fin cfg3.N, win3_0.index t = ![t.val / 2, t.val % 2, 0] := (by decide +kernel : ∀ t : Fin grid3.N, win3_0.index t = ![t.val / 2, t.val % 2, 0])
theorem e3_1 : ∀ t : Fin cfg3.N, win3_1.index t = ![t.val % 2, 0] := (by decide +kernel : ∀ t : Fin grid3.N, win3_1.index t = ![t.val % 2, 0])
theorem e3_2 : ∀ t : Fin cfg3.N, win3_2.index t = ![t.val / 2, Half.e.val, 0, 0] := (by decide +kernel : ∀ (e : Fin 8) (t : Fin grid3.N),
  (![(BitVec.ofNat 32 (grid3.coords t 0).val).toNat, e.val, (0#32).toNat, (0#32).toNat] : Fin 4 → ℕ) = ![t.val / 2, e.val, 0, 0]) Half.e

section
variable (V : (c : Dev nD) → (b : Ref sig .tc) → Buf (Elt Ideal) ((c : Thread nD τ).loc b)) (c : Dev nD)

theorem blk2_0 (t : Fin cfg2.N) (k : Fin 2048) (l : Fin 1024) : iblk2 V c 0 t (ix2 k l) = V c main_v11_1 (ix2 (wrow t k) l) := by
  blk_simp [iblk2]
  refine congrArg (V c main_v11_1) ?_
  blk_ext [e2_0, wrow]
theorem blk2_1 (t : Fin cfg2.N) (z : Fin 1) (k : Fin 2048) (l : Fin 704) : iblk2 V c 1 t (ix3 z k l) = V c main_v12_1 (ix3 (wblk t) (wrow t k) l) := by
  blk_simp [iblk2]
  refine congrArg (V c main_v12_1) ?_
  blk_ext [e2_1, wrow, wblk]
theorem blk2_2 (t : Fin cfg2.N) (z : Fin 1) (k : Fin 2048) (l : Fin 704) : iblk2 V c 2 t (ix3 z k l) = V c main_v12_2 (ix3 (wblk t) (wrow t k) l) := by
  blk_simp [iblk2]
  refine congrArg (V c main_v12_2) ?_
  blk_ext [e2_2, wrow, wblk]
theorem blk3_0 (t : Fin cfg3.N) (z : Fin 1) (k : Fin 4096) (l : Fin 704) : iblk3 V c 0 t (ix3 z k l) = V c main_v11_4 (ix3 (vblk t) (vrow t k) l) := by
  blk_simp [iblk3]
  refine congrArg (V c main_v11_4) ?_
  blk_ext [e3_0, vrow, vblk]
theorem blk3_1 (t : Fin cfg3.N) (k : Fin 4096) (l : Fin 1024) : iblk3 V c 1 t (ix2 k l) = V c main_v12_3 (ix2 (vrow t k) l) := by
  blk_simp [iblk3]
  refine congrArg (V c main_v12_3) ?_
  blk_ext [e3_1, vrow]

/-! ### What the calls compute, at an index -/

/-- A product of two matrices over their rows. -/
def dwForm {m n : ℕ} (A : Fin 8192 → Fin m → EReal) (B : Fin 8192 → Fin n → EReal) (a : Fin m) (b : Fin n) : EReal := ∑ r, A r a * B r b

variable {V c} {Hm : Fin 8192 → Fin 1024 → EReal} {D : Fin 8192 → Fin 2816 → EReal}

theorem acc2_3_at (hh : ∀ r l, V c main_v11_1 (ix2 r l) = Hm r l)
    (hd : ∀ j r k, V c main_v12_1 (ix3 j r k) = D r (hid j k)) (t : Fin cfg2.N) (ht : t.val % 4 = 3) (z z' : Fin 1)
    (l : Fin 1024) (k : Fin 704) :
    acc2_3 V c t.val t.isLt (ix4 z z' l k) = ∑ r, Hm r l * D r (hid (wblk t) k) := by
  obtain rfl : z = 0 := Subsingleton.elim _ _
  obtain rfl : z' = 0 := Subsingleton.elim _ _
  rw [unroll4 (fun n hn => acc2_3 V c n hn (ix4 0 0 l k)) (fun t => ∑ x, Hm (wrow t x) l * D (wrow t x) (hid (wblk t) k)) ?_ ?_ t ht,
    Fin.sum_univ_tiles 4 2048 rfl, Fin.sum_univ_four]
  · have hb : ∀ k (hk : k < 4), wblk ⟨t.val - k, by have := t.isLt; omega⟩ = wblk t := fun k hk => by
      apply Fin.ext; simp only [wblk]; omega
    have hr : ∀ k (hk : k < 4) x, wrow ⟨t.val - k, by have := t.isLt; omega⟩ x = ⟨(3 - k) * 2048 + x.val, by omega⟩ := fun k hk x => by
      apply Fin.ext; simp only [wrow]; omega
    have hr' : ∀ x, wrow t x = ⟨3 * 2048 + x.val, by omega⟩ := fun x => by apply Fin.ext; simp only [wrow]; omega
    simp only [hb 3 (by omega), hb 2 (by omega), hb 1 (by omega), hr 3 (by omega), hr 2 (by omega), hr 1 (by omega), hr']
    rfl
  · intro t h
    rw [acc2_3_first V c t h, k2_pay4_at, k2_pay1_at, zero_add]
    simp only [blk2_0, blk2_1, hh, hd]
  · intro t h
    rw [acc2_3_next V c t h, k2_pay4_at]
    simp only [blk2_0, blk2_1, hh, hd]

/-- The written-back blocks of window 3 cover this half layer's slice. -/
theorem covers2_3 : win2_3.CoversWhere fun β => β (1 : Fin 4) = Half.e.val :=
  (by decide +kernel : ∀ e : Fin 8, Pipeline.Window.CoversWhere (@win2_3 ⟨e⟩) fun β => β (1 : Fin 4) = e.val) Half.e

theorem dwg_final (hh : ∀ r l, V c main_v11_1 (ix2 r l) = Hm r l)
    (hd : ∀ j r k, V c main_v12_1 (ix3 j r k) = D r (hid j k)) (j : Fin 4) (l : Fin 1024) (k : Fin 704) :
    (dat2 V c).arrAt 3 cfg2.N (ix4 j Half.e l k) = ∑ r, Hm r l * D r (hid j k) := by
  refine ((dat2 V c).arrAt_apply_of_coversWhere 3
    (fun i => dwForm Hm D (i (2 : Fin 4)) (hid (i (0 : Fin 4)) (i (3 : Fin 4))))
    (P := fun i => (i (1 : Fin 4)).val = Half.e.val) (fun β => β (1 : Fin 4) = Half.e.val) covers2_3 (fun t hf y => ?_)
    (fun j => by simp only [Pipeline.Window.cell_apply]; exact Iff.of_eq (congrArg (· = Half.e.val) (Nat.div_one _).symm)) (ix4 j Half.e l k)).trans (if_pos rfl)
  blk_simp
  rw [after2_3]
  obtain ⟨z, z', p, q, rfl⟩ : ∃ (z z' : Fin 1) (p : Fin 1024) (q : Fin 704), y = ix4 z z' p q :=
    ⟨y 0, y 1, y 2, y 3, eq_ix4 (n0 := 1) (n1 := 1) (n2 := 1024) (n3 := 704) y⟩
  refine (acc2_3_at hh hd t ((flush2_3 t).1 hf) z z' p q).trans ?_
  have e0 : ((win2_3.blk t).view.emb (ix4 z z' p q)) (0 : Fin 4) = wblk t := by
    apply Fin.ext; blk_simp [e2_3, wblk]
  have e2 : ((win2_3.blk t).view.emb (ix4 z z' p q)) (2 : Fin 4) = p := by
    apply Fin.ext; blk_simp [e2_3]
  have e3 : ((win2_3.blk t).view.emb (ix4 z z' p q)) (3 : Fin 4) = q := by
    apply Fin.ext; blk_simp [e2_3]
  rw [e0, e2, e3]
  rfl

theorem acc2_4_at (hh : ∀ r l, V c main_v11_1 (ix2 r l) = Hm r l)
    (hd : ∀ j r k, V c main_v12_2 (ix3 j r k) = D r (hid j k)) (t : Fin cfg2.N) (ht : t.val % 4 = 3) (z z' : Fin 1)
    (l : Fin 1024) (k : Fin 704) :
    acc2_4 V c t.val t.isLt (ix4 z z' l k) = ∑ r, Hm r l * D r (hid (wblk t) k) := by
  obtain rfl : z = 0 := Subsingleton.elim _ _
  obtain rfl : z' = 0 := Subsingleton.elim _ _
  rw [unroll4 (fun n hn => acc2_4 V c n hn (ix4 0 0 l k)) (fun t => ∑ x, Hm (wrow t x) l * D (wrow t x) (hid (wblk t) k)) ?_ ?_ t ht,
    Fin.sum_univ_tiles 4 2048 rfl, Fin.sum_univ_four]
  · have hb : ∀ k (hk : k < 4), wblk ⟨t.val - k, by have := t.isLt; omega⟩ = wblk t := fun k hk => by
      apply Fin.ext; simp only [wblk]; omega
    have hr : ∀ k (hk : k < 4) x, wrow ⟨t.val - k, by have := t.isLt; omega⟩ x = ⟨(3 - k) * 2048 + x.val, by omega⟩ := fun k hk x => by
      apply Fin.ext; simp only [wrow]; omega
    have hr' : ∀ x, wrow t x = ⟨3 * 2048 + x.val, by omega⟩ := fun x => by apply Fin.ext; simp only [wrow]; omega
    simp only [hb 3 (by omega), hb 2 (by omega), hb 1 (by omega), hr 3 (by omega), hr 2 (by omega), hr 1 (by omega), hr']
    rfl
  · intro t h
    rw [acc2_4_first V c t h, k2_pay5_at, k2_pay2_at, zero_add]
    simp only [blk2_0, blk2_2, hh, hd]
  · intro t h
    rw [acc2_4_next V c t h, k2_pay5_at]
    simp only [blk2_0, blk2_2, hh, hd]

/-- The written-back blocks of window 4 cover this half layer's slice. -/
theorem covers2_4 : win2_4.CoversWhere fun β => β (1 : Fin 4) = Half.e.val :=
  (by decide +kernel : ∀ e : Fin 8, Pipeline.Window.CoversWhere (@win2_4 ⟨e⟩) fun β => β (1 : Fin 4) = e.val) Half.e

theorem dwu_final (hh : ∀ r l, V c main_v11_1 (ix2 r l) = Hm r l)
    (hd : ∀ j r k, V c main_v12_2 (ix3 j r k) = D r (hid j k)) (j : Fin 4) (l : Fin 1024) (k : Fin 704) :
    (dat2 V c).arrAt 4 cfg2.N (ix4 j Half.e l k) = ∑ r, Hm r l * D r (hid j k) := by
  refine ((dat2 V c).arrAt_apply_of_coversWhere 4
    (fun i => dwForm Hm D (i (2 : Fin 4)) (hid (i (0 : Fin 4)) (i (3 : Fin 4))))
    (P := fun i => (i (1 : Fin 4)).val = Half.e.val) (fun β => β (1 : Fin 4) = Half.e.val) covers2_4 (fun t hf y => ?_)
    (fun j => by simp only [Pipeline.Window.cell_apply]; exact Iff.of_eq (congrArg (· = Half.e.val) (Nat.div_one _).symm)) (ix4 j Half.e l k)).trans (if_pos rfl)
  blk_simp
  rw [after2_4]
  obtain ⟨z, z', p, q, rfl⟩ : ∃ (z z' : Fin 1) (p : Fin 1024) (q : Fin 704), y = ix4 z z' p q :=
    ⟨y 0, y 1, y 2, y 3, eq_ix4 (n0 := 1) (n1 := 1) (n2 := 1024) (n3 := 704) y⟩
  refine (acc2_4_at hh hd t ((flush2_4 t).1 hf) z z' p q).trans ?_
  have e0 : ((win2_4.blk t).view.emb (ix4 z z' p q)) (0 : Fin 4) = wblk t := by
    apply Fin.ext; blk_simp [e2_4, wblk]
  have e2 : ((win2_4.blk t).view.emb (ix4 z z' p q)) (2 : Fin 4) = p := by
    apply Fin.ext; blk_simp [e2_4]
  have e3 : ((win2_4.blk t).view.emb (ix4 z z' p q)) (3 : Fin 4) = q := by
    apply Fin.ext; blk_simp [e2_4]
  rw [e0, e2, e3]
  rfl

variable {Z : Fin 8192 → Fin 2816 → EReal} {Y : Fin 8192 → Fin 1024 → EReal}

theorem acc3_2_at (hz : ∀ j r k, V c main_v11_4 (ix3 j r k) = Z r (hid j k))
    (hy : ∀ r l, V c main_v12_3 (ix2 r l) = Y r l) (t : Fin cfg3.N) (ht : t.val % 2 = 1) (z z' : Fin 1)
    (k : Fin 704) (l : Fin 1024) :
    acc3_2 V c t.val t.isLt (ix4 z z' k l) = ∑ r, Z r (hid (vblk t) k) * Y r l := by
  obtain rfl : z = 0 := Subsingleton.elim _ _
  obtain rfl : z' = 0 := Subsingleton.elim _ _
  rw [unroll2 (fun n hn => acc3_2 V c n hn (ix4 0 0 k l)) (fun t => ∑ x, Z (vrow t x) (hid (vblk t) k) * Y (vrow t x) l) ?_ ?_ t ht,
    Fin.sum_univ_tiles 2 4096 rfl, Fin.sum_univ_two]
  · have hb : vblk ⟨t.val - 1, by have := t.isLt; omega⟩ = vblk t := by
      apply Fin.ext; simp only [vblk]; omega
    have hr : ∀ x, vrow ⟨t.val - 1, by have := t.isLt; omega⟩ x = ⟨0 * 4096 + x.val, by omega⟩ := fun x => by
      apply Fin.ext; simp only [vrow]; omega
    have hr' : ∀ x, vrow t x = ⟨1 * 4096 + x.val, by omega⟩ := fun x => by apply Fin.ext; simp only [vrow]; omega
    simp only [hb, hr, hr']
    rfl
  · intro t h
    rw [acc3_2_first V c t h, k3_pay2_at, k3_pay1_at, zero_add]
    simp only [blk3_0, blk3_1, hz, hy]
  · intro t h
    rw [acc3_2_next V c t h, k3_pay2_at]
    simp only [blk3_0, blk3_1, hz, hy]

/-- The written-back blocks of window 2 cover this half layer's slice. -/
theorem covers3_2 : win3_2.CoversWhere fun β => β (1 : Fin 4) = Half.e.val :=
  (by decide +kernel : ∀ e : Fin 8, Pipeline.Window.CoversWhere (@win3_2 ⟨e⟩) fun β => β (1 : Fin 4) = e.val) Half.e

theorem dwd_final (hz : ∀ j r k, V c main_v11_4 (ix3 j r k) = Z r (hid j k))
    (hy : ∀ r l, V c main_v12_3 (ix2 r l) = Y r l) (j : Fin 4) (k : Fin 704) (l : Fin 1024) :
    (dat3 V c).arrAt 2 cfg3.N (ix4 j Half.e k l) = ∑ r, Z r (hid j k) * Y r l := by
  refine ((dat3 V c).arrAt_apply_of_coversWhere 2
    (fun i => dwForm Z Y (hid (i (0 : Fin 4)) (i (2 : Fin 4))) (i (3 : Fin 4)))
    (P := fun i => (i (1 : Fin 4)).val = Half.e.val) (fun β => β (1 : Fin 4) = Half.e.val) covers3_2 (fun t hf y => ?_)
    (fun j => by simp only [Pipeline.Window.cell_apply]; exact Iff.of_eq (congrArg (· = Half.e.val) (Nat.div_one _).symm)) (ix4 j Half.e k l)).trans (if_pos rfl)
  blk_simp
  rw [after3_2]
  obtain ⟨z, z', p, q, rfl⟩ : ∃ (z z' : Fin 1) (p : Fin 704) (q : Fin 1024), y = ix4 z z' p q :=
    ⟨y 0, y 1, y 2, y 3, eq_ix4 (n0 := 1) (n1 := 1) (n2 := 704) (n3 := 1024) y⟩
  refine (acc3_2_at hz hy t ((flush3_2 t).1 hf) z z' p q).trans ?_
  have e0 : ((win3_2.blk t).view.emb (ix4 z z' p q)) (0 : Fin 4) = vblk t := by
    apply Fin.ext; blk_simp [e3_2, vblk]
  have e2 : ((win3_2.blk t).view.emb (ix4 z z' p q)) (2 : Fin 4) = p := by
    apply Fin.ext; blk_simp [e3_2]
  have e3 : ((win3_2.blk t).view.emb (ix4 z z' p q)) (3 : Fin 4) = q := by
    apply Fin.ext; blk_simp [e3_2]
  rw [e0, e2, e3]
  rfl

end

end Cert.HalfFFN

end
-- ==== Proof.Steps.lean ====
/- The host lines before and after the four calls read at an index, and what the whole step leaves in its six results. -/
module

public import proofs.«01_k».proof.Proof.Run
public import proofs.«01_k».proof.Proof.HalfIndex
public import proofs.«01_k».proof.Proof.FwdValue
public import proofs.«01_k».proof.Proof.BwdValue
public import proofs.«01_k».proof.Proof.DwValue

@[expose] public section

set_option maxHeartbeats 1000000

noncomputable section

namespace Cert.HalfFFN

open Idealize.ShloMosaic Idealize.ShloMosaic.TcCoe Idealize.ShloMosaic.Tactic Cert.KernelIdeal Cert.KernelIdeal.Gen

variable [Half]

variable (m : (ℓ : Loc nD τ sig) → Buf (Elt Ideal) ℓ) (ρ : Dev nD → PrngReg) (c : Dev nD)

/-- The rows the step is given. -/
def inX (r : Fin 8192) (l : Fin 1024) : EReal := m ((c : Thread nD τ).loc main_arg0) (ix2 r l)
/-- The half layer's scale. -/
def inG (l : Fin 1024) : EReal := m ((c : Thread nD τ).loc main_arg1) (ix3 ly hf l)
/-- The half layer's gate weights. -/
def inWg (d : Fin 1024) (k : Fin 2816) : EReal := m ((c : Thread nD τ).loc main_arg2) (ix4 ly hf d k)
/-- The half layer's up weights. -/
def inWu (d : Fin 1024) (k : Fin 2816) : EReal := m ((c : Thread nD τ).loc main_arg3) (ix4 ly hf d k)
/-- The half layer's down weights. -/
def inWd (k : Fin 2816) (d : Fin 1024) : EReal := m ((c : Thread nD τ).loc main_arg4) (ix4 ly hf k d)
/-- The cotangent of the half layer's result. -/
def inDy (r : Fin 8192) (l : Fin 1024) : EReal := m ((c : Thread nD τ).loc main_arg5) (ix2 r l)

/-! ### The host lines before the calls -/

theorem v2_eq : U1 m ρ c main_v2 = transpose S4x8x1024x704 [2, 0, 1, 3]
    (shapeCast S8x1024x4x704 (truncf (F := Ideal) (s := S4x2x1024x2816) (φ := .f32) .bf16 (m ((c : Thread nD τ).loc main_arg2)) bitsLt_bf16_f32) shapeCasts_S4x2x1024x2816_S8x1024x4x704)
    transposes_S8x1024x4x704_S4x8x1024x704_2_0_1_3 := by
  show StableHlo.after hostOps0 (W0 m ρ c) (Proc.devRef .tc main_v2) = _
  after_results
  rfl
theorem v2_at (j : Fin 4) (d : Fin 1024) (k : Fin 704) : U1 m ρ c main_v2 (ix4 j Half.e d k) = inWg m c d (hid j k) := by
  rw [v2_eq]
  unfold inWg hid
  pointwise
  rfl
theorem v5_eq : U1 m ρ c main_v5 = transpose S4x8x1024x704 [2, 0, 1, 3]
    (shapeCast S8x1024x4x704 (truncf (F := Ideal) (s := S4x2x1024x2816) (φ := .f32) .bf16 (m ((c : Thread nD τ).loc main_arg3)) bitsLt_bf16_f32) shapeCasts_S4x2x1024x2816_S8x1024x4x704)
    transposes_S8x1024x4x704_S4x8x1024x704_2_0_1_3 := by
  show StableHlo.after hostOps0 (W0 m ρ c) (Proc.devRef .tc main_v5) = _
  after_results
  rfl
theorem v5_at (j : Fin 4) (d : Fin 1024) (k : Fin 704) : U1 m ρ c main_v5 (ix4 j Half.e d k) = inWu m c d (hid j k) := by
  rw [v5_eq]
  unfold inWu hid
  pointwise
  rfl
theorem v8_eq : U1 m ρ c main_v8 = transpose S4x8x704x1024 [1, 0, 2, 3]
    (shapeCast S8x4x704x1024 (truncf (F := Ideal) (s := S4x2x2816x1024) (φ := .f32) .bf16 (m ((c : Thread nD τ).loc main_arg4)) bitsLt_bf16_f32) shapeCasts_S4x2x2816x1024_S8x4x704x1024)
    transposes_S8x4x704x1024_S4x8x704x1024_1_0_2_3 := by
  show StableHlo.after hostOps0 (W0 m ρ c) (Proc.devRef .tc main_v8) = _
  after_results
  rfl
theorem v8_at (j : Fin 4) (k : Fin 704) (l : Fin 1024) : U1 m ρ c main_v8 (ix4 j Half.e k l) = inWd m c (hid j k) l := by
  rw [v8_eq]
  unfold inWd hid
  pointwise
  rfl
theorem v10_eq : U1 m ρ c main_v10 = extractStridedSlice S1x1024 ![Half.e.val, 0]
    (shapeCast (s := S4x2x1024) S8x1024 (m ((c : Thread nD τ).loc main_arg1)) shapeCasts_S4x2x1024_S8x1024) sl10 := by
  show StableHlo.after hostOps0 (W0 m ρ c) (Proc.devRef .tc main_v10) = _
  after_results
  rfl
theorem v10_at (l : Fin 1024) : U1 m ρ c main_v10 (ix2 0 l) = inG m c l := by
  rw [v10_eq]
  unfold inG
  pointwise
  rfl

/-! ### The four calls -/

theorem fwdIn : FwdIn (U1 m ρ) c (inX m c) (inG m c) (inWg m c) (inWu m c) (inWd m c) where
  x r l := congrFun (W1_args m ρ c main_arg0 (by decide)) (ix2 r l)
  g := v10_at m ρ c
  wg := v2_at m ρ c
  wu := v5_at m ρ c
  wd := v8_at m ρ c

theorem u2_keep (r : Ref sig .tc) (h : ∀ w : Fin cfg0.W, Pipeline.arrRef spec0 w = r → (cfg0.win w).isOut = false) :
    U2 m ρ c r = U1 m ρ c r := W2_of m ρ c r h
theorem u3_keep (r : Ref sig .tc) (h : ∀ w : Fin cfg1.W, Pipeline.arrRef spec1 w = r → (cfg1.win w).isOut = false) :
    U3 m ρ c r = U2 m ρ c r := W3_of m ρ c r h
theorem u4_keep (r : Ref sig .tc) (h : ∀ w : Fin cfg2.W, Pipeline.arrRef spec2 w = r → (cfg2.win w).isOut = false) :
    U4 m ρ c r = U3 m ρ c r := W4_of m ρ c r h
theorem u5_keep (r : Ref sig .tc) (h : ∀ w : Fin cfg3.W, Pipeline.arrRef spec3 w = r → (cfg3.win w).isOut = false) :
    U5 m ρ c r = U4 m ρ c r := W5_of m ρ c r h
theorem v11_0_at (r : Fin 8192) (l : Fin 1024) : U2 m ρ c main_v11_0 (ix2 r l) = kXo (inX m c) (inG m c) (inWg m c) (inWu m c) (inWd m c) r l :=
  congrFun ((W2_arr m ρ c 5).trans (xo_final (fwdIn m ρ c))) (ix2 r l)
theorem v11_1_at (r : Fin 8192) (l : Fin 1024) : U2 m ρ c main_v11_1 (ix2 r l) = hN (inX m c) (inG m c) r l :=
  congrFun ((W2_arr m ρ c 6).trans (h_final (fwdIn m ρ c))) (ix2 r l)
theorem v11_2_at (j : Fin 4) (r : Fin 8192) (k : Fin 704) : U2 m ρ c main_v11_2 (ix3 j r k) = kU (inX m c) (inG m c) (inWg m c) (inWu m c) r (hid j k) :=
  congrFun ((W2_arr m ρ c 7).trans (u_final (fwdIn m ρ c))) (ix3 j r k)
theorem v11_3_at (j : Fin 4) (r : Fin 8192) (k : Fin 704) : U2 m ρ c main_v11_3 (ix3 j r k) = kSA (inX m c) (inG m c) (inWg m c) r (hid j k) :=
  congrFun ((W2_arr m ρ c 8).trans (sa_final (fwdIn m ρ c))) (ix3 j r k)
theorem v11_4_at (j : Fin 4) (r : Fin 8192) (k : Fin 704) : U2 m ρ c main_v11_4 (ix3 j r k) = kZ (inX m c) (inG m c) (inWg m c) (inWu m c) r (hid j k) :=
  congrFun ((W2_arr m ρ c 9).trans (z_final (fwdIn m ρ c))) (ix3 j r k)

theorem bwdIn : BwdIn (U2 m ρ) c (inX m c) (inG m c) (inWg m c) (inWu m c) (inWd m c) (inDy m c) where
  x r l := (congrFun (u2_keep m ρ c main_arg0 (notOut0 (by decide +kernel))) _).trans ((fwdIn m ρ c).x r l)
  gs l := (congrFun (u2_keep m ρ c main_v10 (notOut0 (by decide +kernel))) _).trans ((fwdIn m ρ c).g l)
  dy r l := congrFun (W2_args m ρ c main_arg5 (by decide)) (ix2 r l)
  u j r k := v11_2_at m ρ c j r k
  sa j r k := v11_3_at m ρ c j r k
  wg j d k := (congrFun (u2_keep m ρ c main_v2 (notOut0 (by decide +kernel))) _).trans ((fwdIn m ρ c).wg j d k)
  wu j d k := (congrFun (u2_keep m ρ c main_v5 (notOut0 (by decide +kernel))) _).trans ((fwdIn m ρ c).wu j d k)
  wd j k l := (congrFun (u2_keep m ρ c main_v8 (notOut0 (by decide +kernel))) _).trans ((fwdIn m ρ c).wd j k l)

theorem v12_0_at (r : Fin 8192) (l : Fin 1024) : U3 m ρ c main_v12_0 (ix2 r l) = kDx (inX m c) (inG m c) (inWg m c) (inWu m c) (inWd m c) (inDy m c) r l :=
  congrFun ((W3_arr m ρ c 8).trans (dx_final (bwdIn m ρ c))) (ix2 r l)
theorem v12_1_at (j : Fin 4) (r : Fin 8192) (k : Fin 704) : U3 m ρ c main_v12_1 (ix3 j r k) = kDA (inX m c) (inG m c) (inWg m c) (inWu m c) (inWd m c) (inDy m c) r (hid j k) :=
  congrFun ((W3_arr m ρ c 9).trans (da_final (bwdIn m ρ c))) (ix3 j r k)
theorem v12_2_at (j : Fin 4) (r : Fin 8192) (k : Fin 704) : U3 m ρ c main_v12_2 (ix3 j r k) = kDB (inX m c) (inG m c) (inWg m c) (inWd m c) (inDy m c) r (hid j k) :=
  congrFun ((W3_arr m ρ c 10).trans (db_final (bwdIn m ρ c))) (ix3 j r k)
theorem v12_3_at (r : Fin 8192) (l : Fin 1024) : U3 m ρ c main_v12_3 (ix2 r l) = kY (inDy m c) r l :=
  congrFun ((W3_arr m ρ c 11).trans (y_final (bwdIn m ρ c))) (ix2 r l)
theorem v12_4_at (z : Fin 1) (l : Fin 1024) : U3 m ρ c main_v12_4 (ix2 z l) = kDg (inX m c) (inG m c) (inWg m c) (inWu m c) (inWd m c) (inDy m c) l :=
  congrFun ((W3_arr m ρ c 12).trans (dg_final (bwdIn m ρ c))) (ix2 z l)

theorem v13_0_at (j : Fin 4) (l : Fin 1024) (k : Fin 704) : U4 m ρ c main_v13_0 (ix4 j Half.e l k)
    = kDwg (inX m c) (inG m c) (inWg m c) (inWu m c) (inWd m c) (inDy m c) l (hid j k) :=
  (congrFun (W4_arr m ρ c 3) _).trans (dwg_final
    (fun r l => (congrFun (u3_keep m ρ c main_v11_1 (notOut1 (by decide +kernel))) _).trans (v11_1_at m ρ c r l))
    (fun j r k => v12_1_at m ρ c j r k) j l k)
theorem v13_1_at (j : Fin 4) (l : Fin 1024) (k : Fin 704) : U4 m ρ c main_v13_1 (ix4 j Half.e l k)
    = kDwu (inX m c) (inG m c) (inWg m c) (inWd m c) (inDy m c) l (hid j k) :=
  (congrFun (W4_arr m ρ c 4) _).trans (dwu_final
    (fun r l => (congrFun (u3_keep m ρ c main_v11_1 (notOut1 (by decide +kernel))) _).trans (v11_1_at m ρ c r l))
    (fun j r k => v12_2_at m ρ c j r k) j l k)
theorem v14_at (j : Fin 4) (k : Fin 704) (l : Fin 1024) : U5 m ρ c main_v14 (ix4 j Half.e k l)
    = kDwd (inX m c) (inG m c) (inWg m c) (inWu m c) (inDy m c) (hid j k) l :=
  (congrFun (W5_arr m ρ c 2) _).trans (dwd_final
    (fun j r k => (congrFun (u4_keep m ρ c main_v11_4 (notOut2 (by decide +kernel))) _).trans
      ((congrFun (u3_keep m ρ c main_v11_4 (notOut1 (by decide +kernel))) _).trans (v11_4_at m ρ c j r k)))
    (fun r l => (congrFun (u4_keep m ρ c main_v12_3 (notOut2 (by decide +kernel))) _).trans (v12_3_at m ρ c r l)) j k l)

/-! ### The six results at the end -/

theorem end_xo (r : Fin 8192) (l : Fin 1024) : W6 m ρ c (Proc.devRef .tc main_v11_0) (ix2 r l)
    = kXo (inX m c) (inG m c) (inWg m c) (inWu m c) (inWd m c) r l := by
  rw [W6_of m ρ c main_v11_0 (by decide +kernel)]
  exact (congrFun (u5_keep m ρ c main_v11_0 (notOut3 (by decide +kernel))) _).trans ((congrFun (u4_keep m ρ c main_v11_0 (notOut2 (by decide +kernel))) _).trans
    ((congrFun (u3_keep m ρ c main_v11_0 (notOut1 (by decide +kernel))) _).trans (v11_0_at m ρ c r l)))
theorem end_dx (r : Fin 8192) (l : Fin 1024) : W6 m ρ c (Proc.devRef .tc main_v12_0) (ix2 r l)
    = kDx (inX m c) (inG m c) (inWg m c) (inWu m c) (inWd m c) (inDy m c) r l := by
  rw [W6_of m ρ c main_v12_0 (by decide +kernel)]
  exact (congrFun (u5_keep m ρ c main_v12_0 (notOut3 (by decide +kernel))) _).trans ((congrFun (u4_keep m ρ c main_v12_0 (notOut2 (by decide +kernel))) _).trans
    (v12_0_at m ρ c r l))
theorem end_dg (z : Fin 1) (l : Fin 1024) : W6 m ρ c (Proc.devRef .tc main_v12_4) (ix2 z l)
    = kDg (inX m c) (inG m c) (inWg m c) (inWu m c) (inWd m c) (inDy m c) l := by
  rw [W6_of m ρ c main_v12_4 (by decide +kernel)]
  exact (congrFun (u5_keep m ρ c main_v12_4 (notOut3 (by decide +kernel))) _).trans ((congrFun (u4_keep m ρ c main_v12_4 (notOut2 (by decide +kernel))) _).trans
    (v12_4_at m ρ c z l))
theorem v16_eq : W6 m ρ c (Proc.devRef .tc main_v16) = shapeCast S4x1024x704
    (extractStridedSlice S4x1x1024x704 ![0, Half.e.val, 0, 0] (U5 m ρ c main_v13_0) sl15) shapeCasts_S4x1x1024x704_S4x1024x704 := by
  show StableHlo.after hostOps4 (W5 m ρ c) (Proc.devRef .tc main_v16) = _
  after_results
  rfl
theorem end_dwg (j : Fin 4) (l : Fin 1024) (k : Fin 704) : W6 m ρ c (Proc.devRef .tc main_v16) (ix3 j l k)
    = kDwg (inX m c) (inG m c) (inWg m c) (inWu m c) (inWd m c) (inDy m c) l (hid j k) := by
  rw [v16_eq, ← v13_0_at m ρ c, ← congrFun (u5_keep m ρ c main_v13_0 (notOut3 (by decide +kernel)))]
  pointwise
theorem v18_eq : W6 m ρ c (Proc.devRef .tc main_v18) = shapeCast S4x1024x704
    (extractStridedSlice S4x1x1024x704 ![0, Half.e.val, 0, 0] (U5 m ρ c main_v13_1) sl15) shapeCasts_S4x1x1024x704_S4x1024x704 := by
  show StableHlo.after hostOps4 (W5 m ρ c) (Proc.devRef .tc main_v18) = _
  after_results
  rfl
theorem end_dwu (j : Fin 4) (l : Fin 1024) (k : Fin 704) : W6 m ρ c (Proc.devRef .tc main_v18) (ix3 j l k)
    = kDwu (inX m c) (inG m c) (inWg m c) (inWd m c) (inDy m c) l (hid j k) := by
  rw [v18_eq, ← v13_1_at m ρ c, ← congrFun (u5_keep m ρ c main_v13_1 (notOut3 (by decide +kernel)))]
  pointwise
theorem v20_eq : W6 m ρ c (Proc.devRef .tc main_v20) = shapeCast S4x704x1024
    (extractStridedSlice S4x1x704x1024 ![0, Half.e.val, 0, 0] (U5 m ρ c main_v14) sl19) shapeCasts_S4x1x704x1024_S4x704x1024 := by
  show StableHlo.after hostOps4 (W5 m ρ c) (Proc.devRef .tc main_v20) = _
  after_results
  rfl
theorem end_dwd (j : Fin 4) (k : Fin 704) (l : Fin 1024) : W6 m ρ c (Proc.devRef .tc main_v20) (ix3 j k l)
    = kDwd (inX m c) (inG m c) (inWg m c) (inWu m c) (inDy m c) (hid j k) l := by
  rw [v20_eq, ← v14_at m ρ c]
  pointwise

end Cert.HalfFFN

end
-- ==== Proof.RefText.lean ====
/- The reference program's operations, one definition each, for any of the eight half layers: the printed reference of half layer
   `e` is this text at `e`. The four slices of the weights are the only places where the half layers differ. -/
module

public import proofs.«01_k».proof.Proof.HalfIndex
public import proofs.«01_k».proof.Proof.Gen.ReferenceIdeal.Read

@[expose] public section

noncomputable section

namespace Cert.HalfFFN.Ref

open Cert.ReferenceIdeal Cert.ReferenceIdeal.Gen Idealize.ShloMosaic Idealize.ShloMosaic.TcCoe

variable {F : FTy → Type} [FloatOps F] [Half]

/-- The half layer's scale lies inside the scales. -/
theorem slG : S4x2x1024.Slices ![ly.val, hf.val, 0] S1x1x1024 :=
  (by decide : ∀ (a : Fin 4) (b : Fin 2), S4x2x1024.Slices ![a.val, b.val, 0] S1x1x1024) ly hf
/-- The half layer's weights into the hidden width lie inside theirs. -/
theorem slIn : S4x2x1024x2816.Slices ![ly.val, hf.val, 0, 0] S1x1x1024x2816 :=
  (by decide : ∀ (a : Fin 4) (b : Fin 2), S4x2x1024x2816.Slices ![a.val, b.val, 0, 0] S1x1x1024x2816) ly hf
/-- The half layer's weights out of the hidden width lie inside theirs. -/
theorem slOut : S4x2x2816x1024.Slices ![ly.val, hf.val, 0, 0] S1x1x2816x1024 :=
  (by decide : ∀ (a : Fin 4) (b : Fin 2), S4x2x2816x1024.Slices ![a.val, b.val, 0, 0] S1x1x2816x1024) ly hf

def val_main_v0 (x1 : (⟨S4x2x1024, .f32⟩ : BufTy).Contents (Elt F)) : (⟨S1x1x1024, .f32⟩ : BufTy).Contents (Elt F) :=
  extractStridedSlice S1x1x1024 ![ly.val, hf.val, 0] (x1) slG
def val_main_v1 (x1 : (⟨S4x2x1024, .f32⟩ : BufTy).Contents (Elt F)) : (⟨S1024, .f32⟩ : BufTy).Contents (Elt F) :=
  shapeCast _ (val_main_v0 (F := F) x1) shapeCasts_S1x1x1024_S1024
def val_main_v2 (x2 : (⟨S4x2x1024x2816, .f32⟩ : BufTy).Contents (Elt F)) : (⟨S1x1x1024x2816, .f32⟩ : BufTy).Contents (Elt F) :=
  extractStridedSlice S1x1x1024x2816 ![ly.val, hf.val, 0, 0] (x2) slIn
def val_main_v3 (x2 : (⟨S4x2x1024x2816, .f32⟩ : BufTy).Contents (Elt F)) : (⟨S1024x2816, .f32⟩ : BufTy).Contents (Elt F) :=
  shapeCast _ (val_main_v2 (F := F) x2) shapeCasts_S1x1x1024x2816_S1024x2816
def val_main_v4 (x3 : (⟨S4x2x1024x2816, .f32⟩ : BufTy).Contents (Elt F)) : (⟨S1x1x1024x2816, .f32⟩ : BufTy).Contents (Elt F) :=
  extractStridedSlice S1x1x1024x2816 ![ly.val, hf.val, 0, 0] (x3) slIn
def val_main_v5 (x3 : (⟨S4x2x1024x2816, .f32⟩ : BufTy).Contents (Elt F)) : (⟨S1024x2816, .f32⟩ : BufTy).Contents (Elt F) :=
  shapeCast _ (val_main_v4 (F := F) x3) shapeCasts_S1x1x1024x2816_S1024x2816
def val_main_v6 (x4 : (⟨S4x2x2816x1024, .f32⟩ : BufTy).Contents (Elt F)) : (⟨S1x1x2816x1024, .f32⟩ : BufTy).Contents (Elt F) :=
  extractStridedSlice S1x1x2816x1024 ![ly.val, hf.val, 0, 0] (x4) slOut
def val_main_v7 (x4 : (⟨S4x2x2816x1024, .f32⟩ : BufTy).Contents (Elt F)) : (⟨S2816x1024, .f32⟩ : BufTy).Contents (Elt F) :=
  shapeCast _ (val_main_v6 (F := F) x4) shapeCasts_S1x1x2816x1024_S2816x1024
def val_main_v8 (x0 : (⟨S8192x1024, .f32⟩ : BufTy).Contents (Elt F)) : (⟨S8192x1024, .f32⟩ : BufTy).Contents (Elt F) :=
  mulf (x0) (x0)
def val_main_cst : (⟨S_, .f32⟩ : BufTy).Contents (Elt F) :=
  constant S_ .f32 0x00000000#32
def val_main_v9 (x0 : (⟨S8192x1024, .f32⟩ : BufTy).Contents (Elt F)) : (⟨S8192, .f32⟩ : BufTy).Contents (Elt F) :=
  Host.reduceAdd (val_main_v8 (F := F) x0) (val_main_cst (F := F)) reducesTo_S8192x1024_S8192_d1 h_S_
def val_main_v10 (x0 : (⟨S8192x1024, .f32⟩ : BufTy).Contents (Elt F)) : (⟨S8192x1, .f32⟩ : BufTy).Contents (Elt F) :=
  broadcastInDim S8192x1 ![0] bcast_S8192_S8192x1_0 (val_main_v9 (F := F) x0)
def val_main_cst_0 : (⟨S_, .f32⟩ : BufTy).Contents (Elt F) :=
  constant S_ .f32 0x44800000#32
def val_main_v11 : (⟨S8192x1, .f32⟩ : BufTy).Contents (Elt F) :=
  broadcastInDim S8192x1 ![] bcast_S_S8192x1 (val_main_cst_0 (F := F))
def val_main_v12 (x0 : (⟨S8192x1024, .f32⟩ : BufTy).Contents (Elt F)) : (⟨S8192x1, .f32⟩ : BufTy).Contents (Elt F) :=
  Host.divf (val_main_v10 (F := F) x0) (val_main_v11 (F := F))
def val_main_cst_1 : (⟨S_, .f32⟩ : BufTy).Contents (Elt F) :=
  constant S_ .f32 0x358637BD#32
def val_main_v13 : (⟨S8192x1, .f32⟩ : BufTy).Contents (Elt F) :=
  broadcastInDim S8192x1 ![] bcast_S_S8192x1 (val_main_cst_1 (F := F))
def val_main_v14 (x0 : (⟨S8192x1024, .f32⟩ : BufTy).Contents (Elt F)) : (⟨S8192x1, .f32⟩ : BufTy).Contents (Elt F) :=
  addf (val_main_v12 (F := F) x0) (val_main_v13 (F := F))
def val_main_v15 (x0 : (⟨S8192x1024, .f32⟩ : BufTy).Contents (Elt F)) : (⟨S8192x1, .f32⟩ : BufTy).Contents (Elt F) :=
  Host.rsqrt (val_main_v14 (F := F) x0)
def val_main_v16 (x0 : (⟨S8192x1024, .f32⟩ : BufTy).Contents (Elt F)) : (⟨S8192x1, .f32⟩ : BufTy).Contents (Elt F) :=
  Host.divf (val_main_v15 (F := F) x0) (val_main_v14 (F := F) x0)
def val_main_cst_2 : (⟨S_, .f32⟩ : BufTy).Contents (Elt F) :=
  constant S_ .f32 0xBF000000#32
def val_main_v17 : (⟨S8192x1, .f32⟩ : BufTy).Contents (Elt F) :=
  broadcastInDim S8192x1 ![] bcast_S_S8192x1 (val_main_cst_2 (F := F))
def val_main_v18 (x0 : (⟨S8192x1024, .f32⟩ : BufTy).Contents (Elt F)) : (⟨S8192x1, .f32⟩ : BufTy).Contents (Elt F) :=
  mulf (val_main_v17 (F := F)) (val_main_v16 (F := F) x0)
def val_main_v19 (x0 : (⟨S8192x1024, .f32⟩ : BufTy).Contents (Elt F)) : (⟨S8192x1024, .f32⟩ : BufTy).Contents (Elt F) :=
  broadcastInDim S8192x1024 ![0, 1] bcast_S8192x1_S8192x1024_0_1 (val_main_v15 (F := F) x0)
def val_main_v20 (x0 : (⟨S8192x1024, .f32⟩ : BufTy).Contents (Elt F)) : (⟨S8192x1024, .f32⟩ : BufTy).Contents (Elt F) :=
  mulf (x0) (val_main_v19 (F := F) x0)
def val_main_v21 (x1 : (⟨S4x2x1024, .f32⟩ : BufTy).Contents (Elt F)) : (⟨S1x1024, .f32⟩ : BufTy).Contents (Elt F) :=
  broadcastInDim S1x1024 ![1] bcast_S1024_S1x1024_1 (val_main_v1 (F := F) x1)
def val_main_v22 (x1 : (⟨S4x2x1024, .f32⟩ : BufTy).Contents (Elt F)) : (⟨S8192x1024, .f32⟩ : BufTy).Contents (Elt F) :=
  broadcastInDim S8192x1024 ![0, 1] bcast_S1x1024_S8192x1024_0_1 (val_main_v21 (F := F) x1)
def val_main_v23 (x0 : (⟨S8192x1024, .f32⟩ : BufTy).Contents (Elt F)) (x1 : (⟨S4x2x1024, .f32⟩ : BufTy).Contents (Elt F)) : (⟨S8192x1024, .f32⟩ : BufTy).Contents (Elt F) :=
  mulf (val_main_v20 (F := F) x0) (val_main_v22 (F := F) x1)
def val_main_v24 (x0 : (⟨S8192x1024, .f32⟩ : BufTy).Contents (Elt F)) (x1 : (⟨S4x2x1024, .f32⟩ : BufTy).Contents (Elt F)) (x2 : (⟨S4x2x1024x2816, .f32⟩ : BufTy).Contents (Elt F)) : (⟨S8192x2816, .f32⟩ : BufTy).Contents (Elt F) :=
  Host.dotGeneral dot_S8192x1024_S1024x2816_S8192x2816_1_0_0_1_n_n none (val_main_v23 (F := F) x0 x1) (val_main_v3 (F := F) x2)
def val_main_call0_v0 (x0 : (⟨S8192x1024, .f32⟩ : BufTy).Contents (Elt F)) (x1 : (⟨S4x2x1024, .f32⟩ : BufTy).Contents (Elt F)) (x2 : (⟨S4x2x1024x2816, .f32⟩ : BufTy).Contents (Elt F)) : (⟨S8192x2816, .f32⟩ : BufTy).Contents (Elt F) :=
  Host.negf (val_main_v24 (F := F) x0 x1 x2)
def val_main_call0_v1 (x0 : (⟨S8192x1024, .f32⟩ : BufTy).Contents (Elt F)) (x1 : (⟨S4x2x1024, .f32⟩ : BufTy).Contents (Elt F)) (x2 : (⟨S4x2x1024x2816, .f32⟩ : BufTy).Contents (Elt F)) : (⟨S8192x2816, .f32⟩ : BufTy).Contents (Elt F) :=
  Host.exp (val_main_call0_v0 (F := F) x0 x1 x2)
def val_main_call0_cst : (⟨S_, .f32⟩ : BufTy).Contents (Elt F) :=
  constant S_ .f32 0x3F800000#32
def val_main_call0_v2 : (⟨S8192x2816, .f32⟩ : BufTy).Contents (Elt F) :=
  broadcastInDim S8192x2816 ![] bcast_S_S8192x2816 (val_main_call0_cst (F := F))
def val_main_call0_v3 (x0 : (⟨S8192x1024, .f32⟩ : BufTy).Contents (Elt F)) (x1 : (⟨S4x2x1024, .f32⟩ : BufTy).Contents (Elt F)) (x2 : (⟨S4x2x1024x2816, .f32⟩ : BufTy).Contents (Elt F)) : (⟨S8192x2816, .f32⟩ : BufTy).Contents (Elt F) :=
  addf (val_main_call0_v2 (F := F)) (val_main_call0_v1 (F := F) x0 x1 x2)
def val_main_call0_cst_0 : (⟨S_, .f32⟩ : BufTy).Contents (Elt F) :=
  constant S_ .f32 0x3F800000#32
def val_main_call0_v4 : (⟨S8192x2816, .f32⟩ : BufTy).Contents (Elt F) :=
  broadcastInDim S8192x2816 ![] bcast_S_S8192x2816 (val_main_call0_cst_0 (F := F))
def val_main_v25_2 (x0 : (⟨S8192x1024, .f32⟩ : BufTy).Contents (Elt F)) (x1 : (⟨S4x2x1024, .f32⟩ : BufTy).Contents (Elt F)) (x2 : (⟨S4x2x1024x2816, .f32⟩ : BufTy).Contents (Elt F)) : (⟨S8192x2816, .f32⟩ : BufTy).Contents (Elt F) :=
  Host.divf (val_main_call0_v4 (F := F)) (val_main_call0_v3 (F := F) x0 x1 x2)
def val_main_call0_cst_1 : (⟨S_, .f32⟩ : BufTy).Contents (Elt F) :=
  constant S_ .f32 0x3F800000#32
def val_main_call0_v6 : (⟨S8192x2816, .f32⟩ : BufTy).Contents (Elt F) :=
  broadcastInDim S8192x2816 ![] bcast_S_S8192x2816 (val_main_call0_cst_1 (F := F))
def val_main_call0_v7 (x0 : (⟨S8192x1024, .f32⟩ : BufTy).Contents (Elt F)) (x1 : (⟨S4x2x1024, .f32⟩ : BufTy).Contents (Elt F)) (x2 : (⟨S4x2x1024x2816, .f32⟩ : BufTy).Contents (Elt F)) : (⟨S8192x2816, .f32⟩ : BufTy).Contents (Elt F) :=
  subf (val_main_call0_v6 (F := F)) (val_main_v25_2 (F := F) x0 x1 x2)
def val_main_v25_1 (x0 : (⟨S8192x1024, .f32⟩ : BufTy).Contents (Elt F)) (x1 : (⟨S4x2x1024, .f32⟩ : BufTy).Contents (Elt F)) (x2 : (⟨S4x2x1024x2816, .f32⟩ : BufTy).Contents (Elt F)) : (⟨S8192x2816, .f32⟩ : BufTy).Contents (Elt F) :=
  mulf (val_main_v25_2 (F := F) x0 x1 x2) (val_main_call0_v7 (F := F) x0 x1 x2)
def val_main_v25_0 (x0 : (⟨S8192x1024, .f32⟩ : BufTy).Contents (Elt F)) (x1 : (⟨S4x2x1024, .f32⟩ : BufTy).Contents (Elt F)) (x2 : (⟨S4x2x1024x2816, .f32⟩ : BufTy).Contents (Elt F)) : (⟨S8192x2816, .f32⟩ : BufTy).Contents (Elt F) :=
  mulf (val_main_v24 (F := F) x0 x1 x2) (val_main_v25_2 (F := F) x0 x1 x2)
def val_main_v26 (x0 : (⟨S8192x1024, .f32⟩ : BufTy).Contents (Elt F)) (x1 : (⟨S4x2x1024, .f32⟩ : BufTy).Contents (Elt F)) (x3 : (⟨S4x2x1024x2816, .f32⟩ : BufTy).Contents (Elt F)) : (⟨S8192x2816, .f32⟩ : BufTy).Contents (Elt F) :=
  Host.dotGeneral dot_S8192x1024_S1024x2816_S8192x2816_1_0_0_1_n_n none (val_main_v23 (F := F) x0 x1) (val_main_v5 (F := F) x3)
def val_main_v27 (x0 : (⟨S8192x1024, .f32⟩ : BufTy).Contents (Elt F)) (x1 : (⟨S4x2x1024, .f32⟩ : BufTy).Contents (Elt F)) (x2 x3 : (⟨S4x2x1024x2816, .f32⟩ : BufTy).Contents (Elt F)) : (⟨S8192x2816, .f32⟩ : BufTy).Contents (Elt F) :=
  mulf (val_main_v25_0 (F := F) x0 x1 x2) (val_main_v26 (F := F) x0 x1 x3)
def val_main_v28 (x0 : (⟨S8192x1024, .f32⟩ : BufTy).Contents (Elt F)) (x1 : (⟨S4x2x1024, .f32⟩ : BufTy).Contents (Elt F)) (x2 x3 : (⟨S4x2x1024x2816, .f32⟩ : BufTy).Contents (Elt F)) (x4 : (⟨S4x2x2816x1024, .f32⟩ : BufTy).Contents (Elt F)) : (⟨S8192x1024, .f32⟩ : BufTy).Contents (Elt F) :=
  Host.dotGeneral dot_S8192x2816_S2816x1024_S8192x1024_1_0_0_1_n_n none (val_main_v27 (F := F) x0 x1 x2 x3) (val_main_v7 (F := F) x4)
def val_main_cst_3 : (⟨S_, .f32⟩ : BufTy).Contents (Elt F) :=
  constant S_ .f32 0x3F000000#32
def val_main_v29 : (⟨S8192x1024, .f32⟩ : BufTy).Contents (Elt F) :=
  broadcastInDim S8192x1024 ![] bcast_S_S8192x1024 (val_main_cst_3 (F := F))
def val_main_v30 (x0 : (⟨S8192x1024, .f32⟩ : BufTy).Contents (Elt F)) (x1 : (⟨S4x2x1024, .f32⟩ : BufTy).Contents (Elt F)) (x2 x3 : (⟨S4x2x1024x2816, .f32⟩ : BufTy).Contents (Elt F)) (x4 : (⟨S4x2x2816x1024, .f32⟩ : BufTy).Contents (Elt F)) : (⟨S8192x1024, .f32⟩ : BufTy).Contents (Elt F) :=
  mulf (val_main_v29 (F := F)) (val_main_v28 (F := F) x0 x1 x2 x3 x4)
def val_main_v31 (x0 : (⟨S8192x1024, .f32⟩ : BufTy).Contents (Elt F)) (x1 : (⟨S4x2x1024, .f32⟩ : BufTy).Contents (Elt F)) (x2 x3 : (⟨S4x2x1024x2816, .f32⟩ : BufTy).Contents (Elt F)) (x4 : (⟨S4x2x2816x1024, .f32⟩ : BufTy).Contents (Elt F)) : (⟨S8192x1024, .f32⟩ : BufTy).Contents (Elt F) :=
  addf (x0) (val_main_v30 (F := F) x0 x1 x2 x3 x4)
def val_main_v32 (x5 : (⟨S8192x1024, .f32⟩ : BufTy).Contents (Elt F)) : (⟨S8192x1024, .f32⟩ : BufTy).Contents (Elt F) :=
  shapeCast _ (x5) shapeCasts_S8192x1024_S8192x1024
def val_main_cst_4 : (⟨S_, .f32⟩ : BufTy).Contents (Elt F) :=
  constant S_ .f32 0x3F000000#32
def val_main_v33 : (⟨S8192x1024, .f32⟩ : BufTy).Contents (Elt F) :=
  broadcastInDim S8192x1024 ![] bcast_S_S8192x1024 (val_main_cst_4 (F := F))
def val_main_v34 (x5 : (⟨S8192x1024, .f32⟩ : BufTy).Contents (Elt F)) : (⟨S8192x1024, .f32⟩ : BufTy).Contents (Elt F) :=
  mulf (val_main_v33 (F := F)) (val_main_v32 (F := F) x5)
def val_main_v35 (x0 : (⟨S8192x1024, .f32⟩ : BufTy).Contents (Elt F)) (x1 : (⟨S4x2x1024, .f32⟩ : BufTy).Contents (Elt F)) (x2 x3 : (⟨S4x2x1024x2816, .f32⟩ : BufTy).Contents (Elt F)) (x5 : (⟨S8192x1024, .f32⟩ : BufTy).Contents (Elt F)) : (⟨S1024x2816, .f32⟩ : BufTy).Contents (Elt F) :=
  Host.dotGeneral dot_S8192x1024_S8192x2816_S1024x2816_0_0_1_1_n_n none (val_main_v34 (F := F) x5) (val_main_v27 (F := F) x0 x1 x2 x3)
def val_main_v36 (x0 : (⟨S8192x1024, .f32⟩ : BufTy).Contents (Elt F)) (x1 : (⟨S4x2x1024, .f32⟩ : BufTy).Contents (Elt F)) (x2 x3 : (⟨S4x2x1024x2816, .f32⟩ : BufTy).Contents (Elt F)) (x5 : (⟨S8192x1024, .f32⟩ : BufTy).Contents (Elt F)) : (⟨S2816x1024, .f32⟩ : BufTy).Contents (Elt F) :=
  transpose S2816x1024 [1, 0] (val_main_v35 (F := F) x0 x1 x2 x3 x5) transposes_S1024x2816_S2816x1024_1_0
def val_main_v37 (x4 : (⟨S4x2x2816x1024, .f32⟩ : BufTy).Contents (Elt F)) (x5 : (⟨S8192x1024, .f32⟩ : BufTy).Contents (Elt F)) : (⟨S8192x2816, .f32⟩ : BufTy).Contents (Elt F) :=
  Host.dotGeneral dot_S8192x1024_S2816x1024_S8192x2816_1_1_0_0_n_n none (val_main_v34 (F := F) x5) (val_main_v7 (F := F) x4)
def val_main_v38 (x0 : (⟨S8192x1024, .f32⟩ : BufTy).Contents (Elt F)) (x1 : (⟨S4x2x1024, .f32⟩ : BufTy).Contents (Elt F)) (x2 : (⟨S4x2x1024x2816, .f32⟩ : BufTy).Contents (Elt F)) (x4 : (⟨S4x2x2816x1024, .f32⟩ : BufTy).Contents (Elt F)) (x5 : (⟨S8192x1024, .f32⟩ : BufTy).Contents (Elt F)) : (⟨S8192x2816, .f32⟩ : BufTy).Contents (Elt F) :=
  mulf (val_main_v25_0 (F := F) x0 x1 x2) (val_main_v37 (F := F) x4 x5)
def val_main_v39 (x0 : (⟨S8192x1024, .f32⟩ : BufTy).Contents (Elt F)) (x1 : (⟨S4x2x1024, .f32⟩ : BufTy).Contents (Elt F)) (x3 : (⟨S4x2x1024x2816, .f32⟩ : BufTy).Contents (Elt F)) (x4 : (⟨S4x2x2816x1024, .f32⟩ : BufTy).Contents (Elt F)) (x5 : (⟨S8192x1024, .f32⟩ : BufTy).Contents (Elt F)) : (⟨S8192x2816, .f32⟩ : BufTy).Contents (Elt F) :=
  mulf (val_main_v37 (F := F) x4 x5) (val_main_v26 (F := F) x0 x1 x3)
def val_main_v40 (x0 : (⟨S8192x1024, .f32⟩ : BufTy).Contents (Elt F)) (x1 : (⟨S4x2x1024, .f32⟩ : BufTy).Contents (Elt F)) (x2 : (⟨S4x2x1024x2816, .f32⟩ : BufTy).Contents (Elt F)) (x4 : (⟨S4x2x2816x1024, .f32⟩ : BufTy).Contents (Elt F)) (x5 : (⟨S8192x1024, .f32⟩ : BufTy).Contents (Elt F)) : (⟨S2816x1024, .f32⟩ : BufTy).Contents (Elt F) :=
  Host.dotGeneral dot_S8192x2816_S8192x1024_S2816x1024_0_0_1_1_n_n none (val_main_v38 (F := F) x0 x1 x2 x4 x5) (val_main_v23 (F := F) x0 x1)
def val_main_v41 (x0 : (⟨S8192x1024, .f32⟩ : BufTy).Contents (Elt F)) (x1 : (⟨S4x2x1024, .f32⟩ : BufTy).Contents (Elt F)) (x2 : (⟨S4x2x1024x2816, .f32⟩ : BufTy).Contents (Elt F)) (x4 : (⟨S4x2x2816x1024, .f32⟩ : BufTy).Contents (Elt F)) (x5 : (⟨S8192x1024, .f32⟩ : BufTy).Contents (Elt F)) : (⟨S1024x2816, .f32⟩ : BufTy).Contents (Elt F) :=
  transpose S1024x2816 [1, 0] (val_main_v40 (F := F) x0 x1 x2 x4 x5) transposes_S2816x1024_S1024x2816_1_0
def val_main_v42 (x0 : (⟨S8192x1024, .f32⟩ : BufTy).Contents (Elt F)) (x1 : (⟨S4x2x1024, .f32⟩ : BufTy).Contents (Elt F)) (x2 x3 : (⟨S4x2x1024x2816, .f32⟩ : BufTy).Contents (Elt F)) (x4 : (⟨S4x2x2816x1024, .f32⟩ : BufTy).Contents (Elt F)) (x5 : (⟨S8192x1024, .f32⟩ : BufTy).Contents (Elt F)) : (⟨S8192x1024, .f32⟩ : BufTy).Contents (Elt F) :=
  Host.dotGeneral dot_S8192x2816_S1024x2816_S8192x1024_1_1_0_0_n_n none (val_main_v38 (F := F) x0 x1 x2 x4 x5) (val_main_v5 (F := F) x3)
def val_main_call1_v0 (x0 : (⟨S8192x1024, .f32⟩ : BufTy).Contents (Elt F)) (x1 : (⟨S4x2x1024, .f32⟩ : BufTy).Contents (Elt F)) (x2 x3 : (⟨S4x2x1024x2816, .f32⟩ : BufTy).Contents (Elt F)) (x4 : (⟨S4x2x2816x1024, .f32⟩ : BufTy).Contents (Elt F)) (x5 : (⟨S8192x1024, .f32⟩ : BufTy).Contents (Elt F)) : (⟨S8192x2816, .f32⟩ : BufTy).Contents (Elt F) :=
  mulf (val_main_v24 (F := F) x0 x1 x2) (val_main_v39 (F := F) x0 x1 x3 x4 x5)
def val_main_call1_v1 (x0 : (⟨S8192x1024, .f32⟩ : BufTy).Contents (Elt F)) (x1 : (⟨S4x2x1024, .f32⟩ : BufTy).Contents (Elt F)) (x2 x3 : (⟨S4x2x1024x2816, .f32⟩ : BufTy).Contents (Elt F)) (x4 : (⟨S4x2x2816x1024, .f32⟩ : BufTy).Contents (Elt F)) (x5 : (⟨S8192x1024, .f32⟩ : BufTy).Contents (Elt F)) : (⟨S8192x2816, .f32⟩ : BufTy).Contents (Elt F) :=
  mulf (val_main_v39 (F := F) x0 x1 x3 x4 x5) (val_main_v25_2 (F := F) x0 x1 x2)
def val_main_call1_v2 (x0 : (⟨S8192x1024, .f32⟩ : BufTy).Contents (Elt F)) (x1 : (⟨S4x2x1024, .f32⟩ : BufTy).Contents (Elt F)) (x2 x3 : (⟨S4x2x1024x2816, .f32⟩ : BufTy).Contents (Elt F)) (x4 : (⟨S4x2x2816x1024, .f32⟩ : BufTy).Contents (Elt F)) (x5 : (⟨S8192x1024, .f32⟩ : BufTy).Contents (Elt F)) : (⟨S8192x2816, .f32⟩ : BufTy).Contents (Elt F) :=
  mulf (val_main_call1_v0 (F := F) x0 x1 x2 x3 x4 x5) (val_main_v25_1 (F := F) x0 x1 x2)
def val_main_v43 (x0 : (⟨S8192x1024, .f32⟩ : BufTy).Contents (Elt F)) (x1 : (⟨S4x2x1024, .f32⟩ : BufTy).Contents (Elt F)) (x2 x3 : (⟨S4x2x1024x2816, .f32⟩ : BufTy).Contents (Elt F)) (x4 : (⟨S4x2x2816x1024, .f32⟩ : BufTy).Contents (Elt F)) (x5 : (⟨S8192x1024, .f32⟩ : BufTy).Contents (Elt F)) : (⟨S8192x2816, .f32⟩ : BufTy).Contents (Elt F) :=
  addf (val_main_call1_v1 (F := F) x0 x1 x2 x3 x4 x5) (val_main_call1_v2 (F := F) x0 x1 x2 x3 x4 x5)
def val_main_v44 (x0 : (⟨S8192x1024, .f32⟩ : BufTy).Contents (Elt F)) (x1 : (⟨S4x2x1024, .f32⟩ : BufTy).Contents (Elt F)) (x2 x3 : (⟨S4x2x1024x2816, .f32⟩ : BufTy).Contents (Elt F)) (x4 : (⟨S4x2x2816x1024, .f32⟩ : BufTy).Contents (Elt F)) (x5 : (⟨S8192x1024, .f32⟩ : BufTy).Contents (Elt F)) : (⟨S2816x1024, .f32⟩ : BufTy).Contents (Elt F) :=
  Host.dotGeneral dot_S8192x2816_S8192x1024_S2816x1024_0_0_1_1_n_n none (val_main_v43 (F := F) x0 x1 x2 x3 x4 x5) (val_main_v23 (F := F) x0 x1)
def val_main_v45 (x0 : (⟨S8192x1024, .f32⟩ : BufTy).Contents (Elt F)) (x1 : (⟨S4x2x1024, .f32⟩ : BufTy).Contents (Elt F)) (x2 x3 : (⟨S4x2x1024x2816, .f32⟩ : BufTy).Contents (Elt F)) (x4 : (⟨S4x2x2816x1024, .f32⟩ : BufTy).Contents (Elt F)) (x5 : (⟨S8192x1024, .f32⟩ : BufTy).Contents (Elt F)) : (⟨S1024x2816, .f32⟩ : BufTy).Contents (Elt F) :=
  transpose S1024x2816 [1, 0] (val_main_v44 (F := F) x0 x1 x2 x3 x4 x5) transposes_S2816x1024_S1024x2816_1_0
def val_main_v46 (x0 : (⟨S8192x1024, .f32⟩ : BufTy).Contents (Elt F)) (x1 : (⟨S4x2x1024, .f32⟩ : BufTy).Contents (Elt F)) (x2 x3 : (⟨S4x2x1024x2816, .f32⟩ : BufTy).Contents (Elt F)) (x4 : (⟨S4x2x2816x1024, .f32⟩ : BufTy).Contents (Elt F)) (x5 : (⟨S8192x1024, .f32⟩ : BufTy).Contents (Elt F)) : (⟨S8192x1024, .f32⟩ : BufTy).Contents (Elt F) :=
  Host.dotGeneral dot_S8192x2816_S1024x2816_S8192x1024_1_1_0_0_n_n none (val_main_v43 (F := F) x0 x1 x2 x3 x4 x5) (val_main_v3 (F := F) x2)
def val_main_v47 (x0 : (⟨S8192x1024, .f32⟩ : BufTy).Contents (Elt F)) (x1 : (⟨S4x2x1024, .f32⟩ : BufTy).Contents (Elt F)) (x2 x3 : (⟨S4x2x1024x2816, .f32⟩ : BufTy).Contents (Elt F)) (x4 : (⟨S4x2x2816x1024, .f32⟩ : BufTy).Contents (Elt F)) (x5 : (⟨S8192x1024, .f32⟩ : BufTy).Contents (Elt F)) : (⟨S8192x1024, .f32⟩ : BufTy).Contents (Elt F) :=
  addf (val_main_v42 (F := F) x0 x1 x2 x3 x4 x5) (val_main_v46 (F := F) x0 x1 x2 x3 x4 x5)
def val_main_v48 (x0 : (⟨S8192x1024, .f32⟩ : BufTy).Contents (Elt F)) (x1 : (⟨S4x2x1024, .f32⟩ : BufTy).Contents (Elt F)) (x2 x3 : (⟨S4x2x1024x2816, .f32⟩ : BufTy).Contents (Elt F)) (x4 : (⟨S4x2x2816x1024, .f32⟩ : BufTy).Contents (Elt F)) (x5 : (⟨S8192x1024, .f32⟩ : BufTy).Contents (Elt F)) : (⟨S8192x1024, .f32⟩ : BufTy).Contents (Elt F) :=
  mulf (val_main_v20 (F := F) x0) (val_main_v47 (F := F) x0 x1 x2 x3 x4 x5)
def val_main_cst_5 : (⟨S_, .f32⟩ : BufTy).Contents (Elt F) :=
  constant S_ .f32 0x00000000#32
def val_main_v49 (x0 : (⟨S8192x1024, .f32⟩ : BufTy).Contents (Elt F)) (x1 : (⟨S4x2x1024, .f32⟩ : BufTy).Contents (Elt F)) (x2 x3 : (⟨S4x2x1024x2816, .f32⟩ : BufTy).Contents (Elt F)) (x4 : (⟨S4x2x2816x1024, .f32⟩ : BufTy).Contents (Elt F)) (x5 : (⟨S8192x1024, .f32⟩ : BufTy).Contents (Elt F)) : (⟨S1024, .f32⟩ : BufTy).Contents (Elt F) :=
  Host.reduceAdd (val_main_v48 (F := F) x0 x1 x2 x3 x4 x5) (val_main_cst_5 (F := F)) reducesTo_S8192x1024_S1024_d0 h_S_
def val_main_v50 (x0 : (⟨S8192x1024, .f32⟩ : BufTy).Contents (Elt F)) (x1 : (⟨S4x2x1024, .f32⟩ : BufTy).Contents (Elt F)) (x2 x3 : (⟨S4x2x1024x2816, .f32⟩ : BufTy).Contents (Elt F)) (x4 : (⟨S4x2x2816x1024, .f32⟩ : BufTy).Contents (Elt F)) (x5 : (⟨S8192x1024, .f32⟩ : BufTy).Contents (Elt F)) : (⟨S1x1024, .f32⟩ : BufTy).Contents (Elt F) :=
  shapeCast _ (val_main_v49 (F := F) x0 x1 x2 x3 x4 x5) shapeCasts_S1024_S1x1024
def val_main_v51 (x1 : (⟨S4x2x1024, .f32⟩ : BufTy).Contents (Elt F)) : (⟨S8192x1024, .f32⟩ : BufTy).Contents (Elt F) :=
  broadcastInDim S8192x1024 ![0, 1] bcast_S1x1024_S8192x1024_0_1 (val_main_v21 (F := F) x1)
def val_main_v52 (x0 : (⟨S8192x1024, .f32⟩ : BufTy).Contents (Elt F)) (x1 : (⟨S4x2x1024, .f32⟩ : BufTy).Contents (Elt F)) (x2 x3 : (⟨S4x2x1024x2816, .f32⟩ : BufTy).Contents (Elt F)) (x4 : (⟨S4x2x2816x1024, .f32⟩ : BufTy).Contents (Elt F)) (x5 : (⟨S8192x1024, .f32⟩ : BufTy).Contents (Elt F)) : (⟨S8192x1024, .f32⟩ : BufTy).Contents (Elt F) :=
  mulf (val_main_v47 (F := F) x0 x1 x2 x3 x4 x5) (val_main_v51 (F := F) x1)
def val_main_cst_6 : (⟨S_, .f32⟩ : BufTy).Contents (Elt F) :=
  constant S_ .f32 0x00000000#32
def val_main_v53 (x0 : (⟨S8192x1024, .f32⟩ : BufTy).Contents (Elt F)) (x1 : (⟨S4x2x1024, .f32⟩ : BufTy).Contents (Elt F)) (x2 x3 : (⟨S4x2x1024x2816, .f32⟩ : BufTy).Contents (Elt F)) (x4 : (⟨S4x2x2816x1024, .f32⟩ : BufTy).Contents (Elt F)) (x5 : (⟨S8192x1024, .f32⟩ : BufTy).Contents (Elt F)) : (⟨S1024, .f32⟩ : BufTy).Contents (Elt F) :=
  Host.reduceAdd (val_main_v50 (F := F) x0 x1 x2 x3 x4 x5) (val_main_cst_6 (F := F)) reducesTo_S1x1024_S1024_d0 h_S_
def val_main_v54 (x0 : (⟨S8192x1024, .f32⟩ : BufTy).Contents (Elt F)) (x1 : (⟨S4x2x1024, .f32⟩ : BufTy).Contents (Elt F)) (x2 x3 : (⟨S4x2x1024x2816, .f32⟩ : BufTy).Contents (Elt F)) (x4 : (⟨S4x2x2816x1024, .f32⟩ : BufTy).Contents (Elt F)) (x5 : (⟨S8192x1024, .f32⟩ : BufTy).Contents (Elt F)) : (⟨S8192x1024, .f32⟩ : BufTy).Contents (Elt F) :=
  mulf (x0) (val_main_v52 (F := F) x0 x1 x2 x3 x4 x5)
def val_main_cst_7 : (⟨S_, .f32⟩ : BufTy).Contents (Elt F) :=
  constant S_ .f32 0x00000000#32
def val_main_v55 (x0 : (⟨S8192x1024, .f32⟩ : BufTy).Contents (Elt F)) (x1 : (⟨S4x2x1024, .f32⟩ : BufTy).Contents (Elt F)) (x2 x3 : (⟨S4x2x1024x2816, .f32⟩ : BufTy).Contents (Elt F)) (x4 : (⟨S4x2x2816x1024, .f32⟩ : BufTy).Contents (Elt F)) (x5 : (⟨S8192x1024, .f32⟩ : BufTy).Contents (Elt F)) : (⟨S8192, .f32⟩ : BufTy).Contents (Elt F) :=
  Host.reduceAdd (val_main_v54 (F := F) x0 x1 x2 x3 x4 x5) (val_main_cst_7 (F := F)) reducesTo_S8192x1024_S8192_d1 h_S_
def val_main_v56 (x0 : (⟨S8192x1024, .f32⟩ : BufTy).Contents (Elt F)) (x1 : (⟨S4x2x1024, .f32⟩ : BufTy).Contents (Elt F)) (x2 x3 : (⟨S4x2x1024x2816, .f32⟩ : BufTy).Contents (Elt F)) (x4 : (⟨S4x2x2816x1024, .f32⟩ : BufTy).Contents (Elt F)) (x5 : (⟨S8192x1024, .f32⟩ : BufTy).Contents (Elt F)) : (⟨S8192x1, .f32⟩ : BufTy).Contents (Elt F) :=
  shapeCast _ (val_main_v55 (F := F) x0 x1 x2 x3 x4 x5) shapeCasts_S8192_S8192x1
def val_main_v57 (x0 : (⟨S8192x1024, .f32⟩ : BufTy).Contents (Elt F)) : (⟨S8192x1024, .f32⟩ : BufTy).Contents (Elt F) :=
  broadcastInDim S8192x1024 ![0, 1] bcast_S8192x1_S8192x1024_0_1 (val_main_v15 (F := F) x0)
def val_main_v58 (x0 : (⟨S8192x1024, .f32⟩ : BufTy).Contents (Elt F)) (x1 : (⟨S4x2x1024, .f32⟩ : BufTy).Contents (Elt F)) (x2 x3 : (⟨S4x2x1024x2816, .f32⟩ : BufTy).Contents (Elt F)) (x4 : (⟨S4x2x2816x1024, .f32⟩ : BufTy).Contents (Elt F)) (x5 : (⟨S8192x1024, .f32⟩ : BufTy).Contents (Elt F)) : (⟨S8192x1024, .f32⟩ : BufTy).Contents (Elt F) :=
  mulf (val_main_v52 (F := F) x0 x1 x2 x3 x4 x5) (val_main_v57 (F := F) x0)
def val_main_v59 (x0 : (⟨S8192x1024, .f32⟩ : BufTy).Contents (Elt F)) (x1 : (⟨S4x2x1024, .f32⟩ : BufTy).Contents (Elt F)) (x2 x3 : (⟨S4x2x1024x2816, .f32⟩ : BufTy).Contents (Elt F)) (x4 : (⟨S4x2x2816x1024, .f32⟩ : BufTy).Contents (Elt F)) (x5 : (⟨S8192x1024, .f32⟩ : BufTy).Contents (Elt F)) : (⟨S8192x1024, .f32⟩ : BufTy).Contents (Elt F) :=
  addf (x5) (val_main_v58 (F := F) x0 x1 x2 x3 x4 x5)
def val_main_v60 (x0 : (⟨S8192x1024, .f32⟩ : BufTy).Contents (Elt F)) (x1 : (⟨S4x2x1024, .f32⟩ : BufTy).Contents (Elt F)) (x2 x3 : (⟨S4x2x1024x2816, .f32⟩ : BufTy).Contents (Elt F)) (x4 : (⟨S4x2x2816x1024, .f32⟩ : BufTy).Contents (Elt F)) (x5 : (⟨S8192x1024, .f32⟩ : BufTy).Contents (Elt F)) : (⟨S8192x1, .f32⟩ : BufTy).Contents (Elt F) :=
  mulf (val_main_v56 (F := F) x0 x1 x2 x3 x4 x5) (val_main_v18 (F := F) x0)
def val_main_cst_8 : (⟨S_, .f32⟩ : BufTy).Contents (Elt F) :=
  constant S_ .f32 0x44800000#32
def val_main_v61 : (⟨S8192x1, .f32⟩ : BufTy).Contents (Elt F) :=
  broadcastInDim S8192x1 ![] bcast_S_S8192x1 (val_main_cst_8 (F := F))
def val_main_v62 (x0 : (⟨S8192x1024, .f32⟩ : BufTy).Contents (Elt F)) (x1 : (⟨S4x2x1024, .f32⟩ : BufTy).Contents (Elt F)) (x2 x3 : (⟨S4x2x1024x2816, .f32⟩ : BufTy).Contents (Elt F)) (x4 : (⟨S4x2x2816x1024, .f32⟩ : BufTy).Contents (Elt F)) (x5 : (⟨S8192x1024, .f32⟩ : BufTy).Contents (Elt F)) : (⟨S8192x1, .f32⟩ : BufTy).Contents (Elt F) :=
  Host.divf (val_main_v60 (F := F) x0 x1 x2 x3 x4 x5) (val_main_v61 (F := F))
def val_main_cst_9 : (⟨S_, .f32⟩ : BufTy).Contents (Elt F) :=
  constant S_ .f32 0x00000000#32
def val_main_v63 (x0 : (⟨S8192x1024, .f32⟩ : BufTy).Contents (Elt F)) (x1 : (⟨S4x2x1024, .f32⟩ : BufTy).Contents (Elt F)) (x2 x3 : (⟨S4x2x1024x2816, .f32⟩ : BufTy).Contents (Elt F)) (x4 : (⟨S4x2x2816x1024, .f32⟩ : BufTy).Contents (Elt F)) (x5 : (⟨S8192x1024, .f32⟩ : BufTy).Contents (Elt F)) : (⟨S8192, .f32⟩ : BufTy).Contents (Elt F) :=
  Host.reduceAdd (val_main_v62 (F := F) x0 x1 x2 x3 x4 x5) (val_main_cst_9 (F := F)) reducesTo_S8192x1_S8192_d1 h_S_
def val_main_v64 (x0 : (⟨S8192x1024, .f32⟩ : BufTy).Contents (Elt F)) (x1 : (⟨S4x2x1024, .f32⟩ : BufTy).Contents (Elt F)) (x2 x3 : (⟨S4x2x1024x2816, .f32⟩ : BufTy).Contents (Elt F)) (x4 : (⟨S4x2x2816x1024, .f32⟩ : BufTy).Contents (Elt F)) (x5 : (⟨S8192x1024, .f32⟩ : BufTy).Contents (Elt F)) : (⟨S8192x1024, .f32⟩ : BufTy).Contents (Elt F) :=
  broadcastInDim S8192x1024 ![0] bcast_S8192_S8192x1024_0 (val_main_v63 (F := F) x0 x1 x2 x3 x4 x5)
def val_main_v65 (x0 : (⟨S8192x1024, .f32⟩ : BufTy).Contents (Elt F)) (x1 : (⟨S4x2x1024, .f32⟩ : BufTy).Contents (Elt F)) (x2 x3 : (⟨S4x2x1024x2816, .f32⟩ : BufTy).Contents (Elt F)) (x4 : (⟨S4x2x2816x1024, .f32⟩ : BufTy).Contents (Elt F)) (x5 : (⟨S8192x1024, .f32⟩ : BufTy).Contents (Elt F)) : (⟨S8192x1024, .f32⟩ : BufTy).Contents (Elt F) :=
  mulf (x0) (val_main_v64 (F := F) x0 x1 x2 x3 x4 x5)
def val_main_v66 (x0 : (⟨S8192x1024, .f32⟩ : BufTy).Contents (Elt F)) (x1 : (⟨S4x2x1024, .f32⟩ : BufTy).Contents (Elt F)) (x2 x3 : (⟨S4x2x1024x2816, .f32⟩ : BufTy).Contents (Elt F)) (x4 : (⟨S4x2x2816x1024, .f32⟩ : BufTy).Contents (Elt F)) (x5 : (⟨S8192x1024, .f32⟩ : BufTy).Contents (Elt F)) : (⟨S8192x1024, .f32⟩ : BufTy).Contents (Elt F) :=
  addf (val_main_v59 (F := F) x0 x1 x2 x3 x4 x5) (val_main_v65 (F := F) x0 x1 x2 x3 x4 x5)
def val_main_v67 (x0 : (⟨S8192x1024, .f32⟩ : BufTy).Contents (Elt F)) (x1 : (⟨S4x2x1024, .f32⟩ : BufTy).Contents (Elt F)) (x2 x3 : (⟨S4x2x1024x2816, .f32⟩ : BufTy).Contents (Elt F)) (x4 : (⟨S4x2x2816x1024, .f32⟩ : BufTy).Contents (Elt F)) (x5 : (⟨S8192x1024, .f32⟩ : BufTy).Contents (Elt F)) : (⟨S8192x1024, .f32⟩ : BufTy).Contents (Elt F) :=
  mulf (val_main_v64 (F := F) x0 x1 x2 x3 x4 x5) (x0)
def val_main_v68 (x0 : (⟨S8192x1024, .f32⟩ : BufTy).Contents (Elt F)) (x1 : (⟨S4x2x1024, .f32⟩ : BufTy).Contents (Elt F)) (x2 x3 : (⟨S4x2x1024x2816, .f32⟩ : BufTy).Contents (Elt F)) (x4 : (⟨S4x2x2816x1024, .f32⟩ : BufTy).Contents (Elt F)) (x5 : (⟨S8192x1024, .f32⟩ : BufTy).Contents (Elt F)) : (⟨S8192x1024, .f32⟩ : BufTy).Contents (Elt F) :=
  addf (val_main_v66 (F := F) x0 x1 x2 x3 x4 x5) (val_main_v67 (F := F) x0 x1 x2 x3 x4 x5)
def val_main_v69 (x0 : (⟨S8192x1024, .f32⟩ : BufTy).Contents (Elt F)) (x1 : (⟨S4x2x1024, .f32⟩ : BufTy).Contents (Elt F)) (x2 x3 : (⟨S4x2x1024x2816, .f32⟩ : BufTy).Contents (Elt F)) (x4 : (⟨S4x2x2816x1024, .f32⟩ : BufTy).Contents (Elt F)) (x5 : (⟨S8192x1024, .f32⟩ : BufTy).Contents (Elt F)) : (⟨S1x1024, .f32⟩ : BufTy).Contents (Elt F) :=
  shapeCast _ (val_main_v53 (F := F) x0 x1 x2 x3 x4 x5) shapeCasts_S1024_S1x1024
def val_main_v70 (x0 : (⟨S8192x1024, .f32⟩ : BufTy).Contents (Elt F)) (x1 : (⟨S4x2x1024, .f32⟩ : BufTy).Contents (Elt F)) (x2 x3 : (⟨S4x2x1024x2816, .f32⟩ : BufTy).Contents (Elt F)) (x4 : (⟨S4x2x2816x1024, .f32⟩ : BufTy).Contents (Elt F)) (x5 : (⟨S8192x1024, .f32⟩ : BufTy).Contents (Elt F)) : (⟨S1024x4x704, .f32⟩ : BufTy).Contents (Elt F) :=
  shapeCast _ (val_main_v45 (F := F) x0 x1 x2 x3 x4 x5) shapeCasts_S1024x2816_S1024x4x704
def val_main_v71 (x0 : (⟨S8192x1024, .f32⟩ : BufTy).Contents (Elt F)) (x1 : (⟨S4x2x1024, .f32⟩ : BufTy).Contents (Elt F)) (x2 x3 : (⟨S4x2x1024x2816, .f32⟩ : BufTy).Contents (Elt F)) (x4 : (⟨S4x2x2816x1024, .f32⟩ : BufTy).Contents (Elt F)) (x5 : (⟨S8192x1024, .f32⟩ : BufTy).Contents (Elt F)) : (⟨S4x1024x704, .f32⟩ : BufTy).Contents (Elt F) :=
  transpose S4x1024x704 [1, 0, 2] (val_main_v70 (F := F) x0 x1 x2 x3 x4 x5) transposes_S1024x4x704_S4x1024x704_1_0_2
def val_main_v72 (x0 : (⟨S8192x1024, .f32⟩ : BufTy).Contents (Elt F)) (x1 : (⟨S4x2x1024, .f32⟩ : BufTy).Contents (Elt F)) (x2 : (⟨S4x2x1024x2816, .f32⟩ : BufTy).Contents (Elt F)) (x4 : (⟨S4x2x2816x1024, .f32⟩ : BufTy).Contents (Elt F)) (x5 : (⟨S8192x1024, .f32⟩ : BufTy).Contents (Elt F)) : (⟨S1024x4x704, .f32⟩ : BufTy).Contents (Elt F) :=
  shapeCast _ (val_main_v41 (F := F) x0 x1 x2 x4 x5) shapeCasts_S1024x2816_S1024x4x704
def val_main_v73 (x0 : (⟨S8192x1024, .f32⟩ : BufTy).Contents (Elt F)) (x1 : (⟨S4x2x1024, .f32⟩ : BufTy).Contents (Elt F)) (x2 : (⟨S4x2x1024x2816, .f32⟩ : BufTy).Contents (Elt F)) (x4 : (⟨S4x2x2816x1024, .f32⟩ : BufTy).Contents (Elt F)) (x5 : (⟨S8192x1024, .f32⟩ : BufTy).Contents (Elt F)) : (⟨S4x1024x704, .f32⟩ : BufTy).Contents (Elt F) :=
  transpose S4x1024x704 [1, 0, 2] (val_main_v72 (F := F) x0 x1 x2 x4 x5) transposes_S1024x4x704_S4x1024x704_1_0_2
def val_main_v74 (x0 : (⟨S8192x1024, .f32⟩ : BufTy).Contents (Elt F)) (x1 : (⟨S4x2x1024, .f32⟩ : BufTy).Contents (Elt F)) (x2 x3 : (⟨S4x2x1024x2816, .f32⟩ : BufTy).Contents (Elt F)) (x5 : (⟨S8192x1024, .f32⟩ : BufTy).Contents (Elt F)) : (⟨S4x704x1024, .f32⟩ : BufTy).Contents (Elt F) :=
  shapeCast _ (val_main_v36 (F := F) x0 x1 x2 x3 x5) shapeCasts_S2816x1024_S4x704x1024

end Cert.HalfFFN.Ref

end
-- ==== Proof.RefValue.lean ====
/- The reference's stages at an index, as functions of real (extended real) matrices. -/
module

public import proofs.«01_k».proof.Proof.RefText
public import proofs.«01_k».proof.Proof.Math

@[expose] public section

set_option maxHeartbeats 1000000

noncomputable section

namespace Cert.HalfFFN.Ref

open Idealize.ShloMosaic Cert.ReferenceIdeal Cert.ReferenceIdeal.Gen

variable [Half]

abbrev A0 := (⟨S8192x1024, .f32⟩ : BufTy).Contents (Elt Ideal)
abbrev A1 := (⟨S4x2x1024, .f32⟩ : BufTy).Contents (Elt Ideal)
abbrev A2 := (⟨S4x2x1024x2816, .f32⟩ : BufTy).Contents (Elt Ideal)
abbrev A4 := (⟨S4x2x2816x1024, .f32⟩ : BufTy).Contents (Elt Ideal)

/-- A matrix read off an array of its shape. -/
abbrev mat (x : A0) (r : Fin 8192) (l : Fin 1024) : EReal := x (ix2 r l)
/-- The half layer's scale. -/
abbrev vec (x : A1) (l : Fin 1024) : EReal := x (ix3 ly hf l)
/-- The half layer's weights, into the hidden width. -/
abbrev win (x : A2) (d : Fin 1024) (k : Fin 2816) : EReal := x (ix4 ly hf d k)
/-- The half layer's weights, out of the hidden width. -/
abbrev wout (x : A4) (k : Fin 2816) (l : Fin 1024) : EReal := x (ix4 ly hf k l)

variable (x0 : A0) (x1 : A1) (x2 x3 : A2) (x4 : A4) (x5 : A0)

theorem v1_at (l : Fin 1024) : val_main_v1 (F := Ideal) x1 (ix1 l) = vec x1 l := by
  pointwise [val_main_v1, val_main_v0]
theorem v3_at (d : Fin 1024) (k : Fin 2816) : val_main_v3 (F := Ideal) x2 (ix2 d k) = win x2 d k := by
  pointwise [val_main_v3, val_main_v2]
theorem v5_at (d : Fin 1024) (k : Fin 2816) : val_main_v5 (F := Ideal) x3 (ix2 d k) = win x3 d k := by
  pointwise [val_main_v5, val_main_v4]
theorem v7_at (k : Fin 2816) (l : Fin 1024) : val_main_v7 (F := Ideal) x4 (ix2 k l) = wout x4 k l := by
  pointwise [val_main_v7, val_main_v6]
theorem v14_at (r : Fin 8192) (z : Fin 1) : val_main_v14 (F := Ideal) x0 (ix2 r z) = Ideal.div (∑ k, mat x0 r k * mat x0 r k) cWidth + cEps := by
  pointwise [val_main_v14, val_main_v13, val_main_cst_1, val_main_v12, val_main_v11, val_main_cst_0, val_main_v10, val_main_v9, val_main_cst, val_main_v8]
theorem v15_at (r : Fin 8192) (z : Fin 1) : val_main_v15 (F := Ideal) x0 (ix2 r z) = rinv (mat x0) r := by
  unfold rinv; rw [← v14_at x0 r z]; pointwise [val_main_v15]
theorem v18_at (r : Fin 8192) (z : Fin 1) : val_main_v18 (F := Ideal) x0 (ix2 r z)
    = Ideal.ofBits FTy.f32 0xBF000000#32 * Ideal.div (rinv (mat x0) r) (Ideal.div (∑ k, mat x0 r k * mat x0 r k) cWidth + cEps) := by
  rw [← v14_at x0 r z, ← v15_at x0 r z]; pointwise [val_main_v18, val_main_v17, val_main_cst_2, val_main_v16]
theorem v20_at (r : Fin 8192) (l : Fin 1024) : val_main_v20 (F := Ideal) x0 (ix2 r l) = mat x0 r l * rinv (mat x0) r := by
  rw [← v15_at x0 r 0]; pointwise [val_main_v20, val_main_v19]
theorem v23_at (r : Fin 8192) (l : Fin 1024) : val_main_v23 (F := Ideal) x0 x1 (ix2 r l) = hN (mat x0) (vec x1) r l := by
  unfold hN; rw [← v20_at x0 r l, ← v1_at x1 l]; pointwise [val_main_v23, val_main_v22, val_main_v21]
theorem v24_at (r : Fin 8192) (c : Fin 2816) : val_main_v24 (F := Ideal) x0 x1 x2 (ix2 r c) = pr (mat x0) (vec x1) (win x2) r c := by
  unfold pr; simp only [← v23_at x0 x1, ← v3_at x2]; pointwise [val_main_v24]
theorem v26_at (r : Fin 8192) (c : Fin 2816) : val_main_v26 (F := Ideal) x0 x1 x3 (ix2 r c) = pr (mat x0) (vec x1) (win x3) r c := by
  unfold pr; simp only [← v23_at x0 x1, ← v5_at x3]; pointwise [val_main_v26]
theorem v25_2_at (r : Fin 8192) (c : Fin 2816) : val_main_v25_2 (F := Ideal) x0 x1 x2 (ix2 r c) = sg (pr (mat x0) (vec x1) (win x2) r c) := by
  unfold sg; rw [← v24_at x0 x1 x2 r c, sub_eq_add_neg, zero_add]
  pointwise [val_main_v25_2, val_main_call0_v4, val_main_call0_cst_0, val_main_call0_v3, val_main_call0_v2, val_main_call0_cst, val_main_call0_v1, val_main_call0_v0]
theorem v25_1_at (r : Fin 8192) (c : Fin 2816) : val_main_v25_1 (F := Ideal) x0 x1 x2 (ix2 r c)
    = sg (pr (mat x0) (vec x1) (win x2) r c) * (1 - sg (pr (mat x0) (vec x1) (win x2) r c)) := by
  rw [← v25_2_at x0 x1 x2 r c]
  pointwise [val_main_v25_1, val_main_call0_v7, val_main_call0_v6, val_main_call0_cst_1]
theorem v25_0_at (r : Fin 8192) (c : Fin 2816) : val_main_v25_0 (F := Ideal) x0 x1 x2 (ix2 r c) = kSA (mat x0) (vec x1) (win x2) r c := by
  unfold kSA; rw [← v25_2_at x0 x1 x2 r c, ← v24_at x0 x1 x2 r c]
  pointwise [val_main_v25_0]
theorem v27_at (r : Fin 8192) (c : Fin 2816) : val_main_v27 (F := Ideal) x0 x1 x2 x3 (ix2 r c) = kZ (mat x0) (vec x1) (win x2) (win x3) r c := by
  unfold kZ; rw [← v25_0_at x0 x1 x2 r c, ← v26_at x0 x1 x3 r c]
  pointwise [val_main_v27]
theorem v31_at (r : Fin 8192) (l : Fin 1024) : val_main_v31 (F := Ideal) x0 x1 x2 x3 x4 (ix2 r l)
    = kXo (mat x0) (vec x1) (win x2) (win x3) (wout x4) r l := by
  unfold kXo; simp only [← v27_at x0 x1 x2 x3, ← v7_at x4]
  pointwise [val_main_v31, val_main_v30, val_main_v29, val_main_cst_3, val_main_v28]
theorem v34_at (r : Fin 8192) (l : Fin 1024) : val_main_v34 (F := Ideal) x5 (ix2 r l) = kY (mat x5) r l := by
  unfold kY; pointwise [val_main_v34, val_main_v33, val_main_cst_4, val_main_v32]
theorem v37_at (r : Fin 8192) (c : Fin 2816) : val_main_v37 (F := Ideal) x4 x5 (ix2 r c) = kDz (wout x4) (mat x5) r c := by
  unfold kDz; simp only [← v34_at x5, ← v7_at x4]; pointwise [val_main_v37]
theorem v38_at (r : Fin 8192) (c : Fin 2816) : val_main_v38 (F := Ideal) x0 x1 x2 x4 x5 (ix2 r c)
    = kDB (mat x0) (vec x1) (win x2) (wout x4) (mat x5) r c := by
  unfold kDB; rw [← v37_at x4 x5 r c, ← v25_0_at x0 x1 x2 r c, mul_comm]; pointwise [val_main_v38]

/-- The cotangent of the gate projection, as the reference expands it. -/
def rDA (X : Fin 8192 → Fin 1024 → EReal) (g : Fin 1024 → EReal) (Wg Wu : Fin 1024 → Fin 2816 → EReal)
    (Wd : Fin 2816 → Fin 1024 → EReal) (Dy : Fin 8192 → Fin 1024 → EReal) (r : Fin 8192) (c : Fin 2816) : EReal :=
  kDz Wd Dy r c * pr X g Wu r c * sg (pr X g Wg r c)
    + pr X g Wg r c * (kDz Wd Dy r c * pr X g Wu r c) * (sg (pr X g Wg r c) * (1 - sg (pr X g Wg r c)))
/-- The cotangent of the normalised rows, as the reference sums it. -/
def rDh (X : Fin 8192 → Fin 1024 → EReal) (g : Fin 1024 → EReal) (Wg Wu : Fin 1024 → Fin 2816 → EReal)
    (Wd : Fin 2816 → Fin 1024 → EReal) (Dy : Fin 8192 → Fin 1024 → EReal) (r : Fin 8192) (l : Fin 1024) : EReal :=
  ∑ c, kDB X g Wg Wd Dy r c * Wu l c + ∑ c, rDA X g Wg Wu Wd Dy r c * Wg l c
/-- The cotangent of the mean square's sum, as the reference computes it. -/
def rDs (X : Fin 8192 → Fin 1024 → EReal) (g : Fin 1024 → EReal) (Wg Wu : Fin 1024 → Fin 2816 → EReal)
    (Wd : Fin 2816 → Fin 1024 → EReal) (Dy : Fin 8192 → Fin 1024 → EReal) (r : Fin 8192) : EReal :=
  Ideal.div ((∑ l, X r l * (rDh X g Wg Wu Wd Dy r l * g l)) * (Ideal.ofBits FTy.f32 0xBF000000#32
    * Ideal.div (rinv X r) (Ideal.div (∑ k, X r k * X r k) cWidth + cEps))) cWidth
/-- The cotangent of the rows, as the reference computes it. -/
def rDx (X : Fin 8192 → Fin 1024 → EReal) (g : Fin 1024 → EReal) (Wg Wu : Fin 1024 → Fin 2816 → EReal)
    (Wd : Fin 2816 → Fin 1024 → EReal) (Dy : Fin 8192 → Fin 1024 → EReal) (r : Fin 8192) (l : Fin 1024) : EReal :=
  Dy r l + rDh X g Wg Wu Wd Dy r l * g l * rinv X r + X r l * rDs X g Wg Wu Wd Dy r + rDs X g Wg Wu Wd Dy r * X r l

theorem v39_at (r : Fin 8192) (c : Fin 2816) : val_main_v39 (F := Ideal) x0 x1 x3 x4 x5 (ix2 r c)
    = kDz (wout x4) (mat x5) r c * pr (mat x0) (vec x1) (win x3) r c := by
  rw [← v37_at x4 x5 r c, ← v26_at x0 x1 x3 r c]; pointwise [val_main_v39]
theorem v43_at (r : Fin 8192) (c : Fin 2816) : val_main_v43 (F := Ideal) x0 x1 x2 x3 x4 x5 (ix2 r c)
    = rDA (mat x0) (vec x1) (win x2) (win x3) (wout x4) (mat x5) r c := by
  unfold rDA; rw [← v39_at x0 x1 x3 x4 x5 r c, ← v25_1_at x0 x1 x2 r c, ← v25_2_at x0 x1 x2 r c, ← v24_at x0 x1 x2 r c]
  pointwise [val_main_v43, val_main_call1_v2, val_main_call1_v1, val_main_call1_v0]
theorem v47_at (r : Fin 8192) (l : Fin 1024) : val_main_v47 (F := Ideal) x0 x1 x2 x3 x4 x5 (ix2 r l)
    = rDh (mat x0) (vec x1) (win x2) (win x3) (wout x4) (mat x5) r l := by
  unfold rDh; simp only [← v38_at x0 x1 x2 x4 x5, ← v43_at x0 x1 x2 x3 x4 x5, ← v3_at x2, ← v5_at x3]
  pointwise [val_main_v47, val_main_v42, val_main_v46]
theorem v52_at (r : Fin 8192) (l : Fin 1024) : val_main_v52 (F := Ideal) x0 x1 x2 x3 x4 x5 (ix2 r l)
    = rDh (mat x0) (vec x1) (win x2) (win x3) (wout x4) (mat x5) r l * vec x1 l := by
  rw [← v47_at x0 x1 x2 x3 x4 x5 r l, ← v1_at x1 l]
  pointwise [val_main_v52, val_main_v51, val_main_v21]
theorem v64_at (r : Fin 8192) (l : Fin 1024) : val_main_v64 (F := Ideal) x0 x1 x2 x3 x4 x5 (ix2 r l)
    = rDs (mat x0) (vec x1) (win x2) (win x3) (wout x4) (mat x5) r := by
  unfold rDs; rw [← v18_at x0 r 0]; simp only [← v52_at x0 x1 x2 x3 x4 x5]
  pointwise [val_main_v64, val_main_v63, val_main_cst_9, val_main_v62, val_main_v61, val_main_cst_8, val_main_v60, val_main_v56, val_main_v55, val_main_cst_7, val_main_v54]
  exact Fin.sum_univ_one _
theorem v68_at (r : Fin 8192) (l : Fin 1024) : val_main_v68 (F := Ideal) x0 x1 x2 x3 x4 x5 (ix2 r l)
    = rDx (mat x0) (vec x1) (win x2) (win x3) (wout x4) (mat x5) r l := by
  unfold rDx; rw [← v64_at x0 x1 x2 x3 x4 x5 r l, ← v52_at x0 x1 x2 x3 x4 x5 r l, ← v15_at x0 r 0]
  pointwise [val_main_v68, val_main_v67, val_main_v66, val_main_v65, val_main_v59, val_main_v58, val_main_v57]
theorem v69_at (z : Fin 1) (l : Fin 1024) : val_main_v69 (F := Ideal) x0 x1 x2 x3 x4 x5 (ix2 z l)
    = ∑ r, mat x0 r l * rinv (mat x0) r * rDh (mat x0) (vec x1) (win x2) (win x3) (wout x4) (mat x5) r l := by
  simp only [← v47_at x0 x1 x2 x3 x4 x5, ← v20_at x0]
  pointwise [val_main_v69, val_main_v53, val_main_cst_6, val_main_v50, val_main_v49, val_main_cst_5, val_main_v48]
  exact Fin.sum_univ_one _
theorem v71_at (j : Fin 4) (l : Fin 1024) (k : Fin 704) : val_main_v71 (F := Ideal) x0 x1 x2 x3 x4 x5 (ix3 j l k)
    = ∑ r, rDA (mat x0) (vec x1) (win x2) (win x3) (wout x4) (mat x5) r (hid j k) * hN (mat x0) (vec x1) r l := by
  simp only [← v43_at x0 x1 x2 x3 x4 x5, ← v23_at x0 x1]
  pointwise [val_main_v71, val_main_v70, val_main_v45, val_main_v44, hid]
theorem v73_at (j : Fin 4) (l : Fin 1024) (k : Fin 704) : val_main_v73 (F := Ideal) x0 x1 x2 x4 x5 (ix3 j l k)
    = ∑ r, kDB (mat x0) (vec x1) (win x2) (wout x4) (mat x5) r (hid j k) * hN (mat x0) (vec x1) r l := by
  simp only [← v38_at x0 x1 x2 x4 x5, ← v23_at x0 x1]
  pointwise [val_main_v73, val_main_v72, val_main_v41, val_main_v40, hid]
theorem v74_at (j : Fin 4) (k : Fin 704) (l : Fin 1024) : val_main_v74 (F := Ideal) x0 x1 x2 x3 x5 (ix3 j k l)
    = ∑ r, kY (mat x5) r l * kZ (mat x0) (vec x1) (win x2) (win x3) r (hid j k) := by
  simp only [← v34_at x5, ← v27_at x0 x1 x2 x3]
  pointwise [val_main_v74, val_main_v36, val_main_v35, hid]

end Cert.HalfFFN.Ref

end
-- ==== Proof.Equation.lean ====
/- Of real arguments the kernel's form of each gradient is the reference's. -/
module

public import proofs.«01_k».proof.Proof.RefValue

@[expose] public section

set_option maxHeartbeats 1000000

noncomputable section

namespace Cert.HalfFFN.Equation

open Idealize.ShloMosaic Cert.HalfFFN Cert.HalfFFN.Ref

/-! ## The constants -/

theorem width_bits : cWidth = ((1024 : ℝ) : EReal) := by
  show Ideal.ofBits FTy.f32 1149239296#32 = _
  simp [Ideal.ofBits, Ideal.ieee, -EReal.coe_mul]; norm_num
theorem half_bits : cHalf = ((1 / 2 : ℝ) : EReal) := by
  show Ideal.ofBits FTy.f32 1056964608#32 = _
  simp [Ideal.ofBits, Ideal.ieee, -EReal.coe_mul]; norm_num
theorem neg_half_bits : Ideal.ofBits FTy.f32 0xBF000000#32 = ((-(1 / 2) : ℝ) : EReal) := by
  simp [Ideal.ofBits, Ideal.ieee, -EReal.coe_mul]; norm_num
theorem eps_bits : ∃ e : ℝ, 0 < e ∧ cEps = (e : EReal) := by
  refine ⟨8796093 / 8796093022208, by norm_num, ?_⟩
  show Ideal.ofBits FTy.f32 897988541#32 = _
  simp [Ideal.ofBits, Ideal.ieee, -EReal.coe_mul]; norm_num

/-! ## Real numbers among the extended reals -/

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- An extended real that is a real number. -/
def IsReal (x : EReal) : Prop := ∃ a : ℝ, x = (a : EReal)

theorem IsReal.add {x y : EReal} : IsReal x → IsReal y → IsReal (x + y) := by
  rintro ⟨a, rfl⟩ ⟨b, rfl⟩; exact ⟨a + b, (EReal.coe_add a b).symm⟩
theorem IsReal.mul {x y : EReal} : IsReal x → IsReal y → IsReal (x * y) := by
  rintro ⟨a, rfl⟩ ⟨b, rfl⟩; exact ⟨a * b, (EReal.coe_mul a b).symm⟩
theorem IsReal.sub {x y : EReal} : IsReal x → IsReal y → IsReal (x - y) := by
  rintro ⟨a, rfl⟩ ⟨b, rfl⟩; exact ⟨a - b, (EReal.coe_sub a b).symm⟩
theorem IsReal.sum {n : ℕ} {f : Fin n → EReal} (h : ∀ i, IsReal (f i)) : IsReal (∑ i, f i) := by
  choose a ha using h
  exact ⟨∑ i, a i, by rw [← coe_sum]; exact Finset.sum_congr rfl fun i _ => ha i⟩
theorem IsReal.one : IsReal 1 := ⟨1, rfl⟩

/-- The sigmoid of a real number is one. -/
theorem IsReal.sg {a : EReal} : IsReal a → IsReal (sg a) := by
  rintro ⟨a, rfl⟩
  refine ⟨1 / (1 + Real.exp (-a)), ?_⟩
  have h1 : (0 : EReal) - (a : EReal) = ((-a : ℝ) : EReal) := by rw [sub_eq_add_neg, zero_add]; rfl
  have h2 : (1 : EReal) + ((Real.exp (-a) : ℝ) : EReal) = ((1 + Real.exp (-a) : ℝ) : EReal) := by rw [EReal.coe_add]; rfl
  unfold HalfFFN.sg
  rw [h1, Ideal.exp_coe, h2, Ideal.div_coe (by positivity), one_mul]

section
variable {X : Fin 8192 → Fin 1024 → EReal} {g : Fin 1024 → EReal} {Wg Wu : Fin 1024 → Fin 2816 → EReal}
  {Wd : Fin 2816 → Fin 1024 → EReal} {Dy : Fin 8192 → Fin 1024 → EReal}

/-- The mean square and its reciprocal root, of real rows. -/
theorem rms_real (hX : ∀ r l, IsReal (X r l)) (r : Fin 8192) :
    ∃ v i : ℝ, v ≠ 0 ∧ i * i * v = 1 ∧ Ideal.div (∑ k, X r k * X r k) cWidth + cEps = (v : EReal) ∧ rinv X r = (i : EReal) := by
  choose x hx using hX
  obtain ⟨e, he, hb⟩ := eps_bits
  have hs : ∑ k, X r k * X r k = ((∑ k, x r k * x r k : ℝ) : EReal) := by
    rw [← coe_sum]; exact Finset.sum_congr rfl fun k _ => by rw [hx, EReal.coe_mul]
  have hpos : 0 < (∑ k, x r k * x r k) * (1 / 1024) + e :=
    add_pos_of_nonneg_of_pos (mul_nonneg (Finset.sum_nonneg fun k _ => mul_self_nonneg _) (by norm_num)) he
  have hv : Ideal.div (∑ k, X r k * X r k) cWidth + cEps = (((∑ k, x r k * x r k) * (1 / 1024) + e : ℝ) : EReal) := by
    rw [hs, width_bits, Ideal.div_coe (by norm_num), hb, EReal.coe_add, EReal.coe_mul]
  refine ⟨_, (√((∑ k, x r k * x r k) * (1 / 1024) + e))⁻¹, hpos.ne', ?_, hv, ?_⟩
  · rw [← mul_inv, Real.mul_self_sqrt hpos.le, inv_mul_cancel₀ hpos.ne']
  · unfold rinv
    rw [hv, Ideal.rsqrt_coe, if_neg (not_lt.2 hpos.le), if_neg hpos.ne']

theorem rinv_real (hX : ∀ r l, IsReal (X r l)) (r : Fin 8192) : IsReal (rinv X r) := by
  obtain ⟨_, i, _, _, _, h⟩ := rms_real hX r
  exact ⟨i, h⟩

theorem hN_real (hX : ∀ r l, IsReal (X r l)) (hg : ∀ l, IsReal (g l)) (r : Fin 8192) (l : Fin 1024) : IsReal (hN X g r l) :=
  ((hX r l).mul (rinv_real hX r)).mul (hg l)
theorem pr_real {W : Fin 1024 → Fin 2816 → EReal} (hX : ∀ r l, IsReal (X r l)) (hg : ∀ l, IsReal (g l)) (hW : ∀ d c, IsReal (W d c))
    (r : Fin 8192) (c : Fin 2816) : IsReal (pr X g W r c) :=
  .sum fun d => (hN_real hX hg r d).mul (hW d c)
theorem kDz_real (hWd : ∀ c l, IsReal (Wd c l)) (hDy : ∀ r l, IsReal (Dy r l)) (r : Fin 8192) (c : Fin 2816) : IsReal (kDz Wd Dy r c) :=
  .sum fun l => (IsReal.mul ⟨_, half_bits⟩ (hDy r l)).mul (hWd c l)

/-- The two spellings of the gate's derivative times a cotangent. -/
theorem gate_eq {z b a s : EReal} (hz : IsReal z) (hb : IsReal b) (ha : IsReal a) (hs : IsReal s) :
    z * (b * (s * (1 + a * (1 - s)))) = z * b * s + a * (z * b) * (s * (1 - s)) := by
  obtain ⟨z, rfl⟩ := hz; obtain ⟨b, rfl⟩ := hb; obtain ⟨a, rfl⟩ := ha; obtain ⟨s, rfl⟩ := hs
  have e : z * (b * (s * (1 + a * (1 - s)))) = z * b * s + a * (z * b) * (s * (1 - s)) := by ring
  exact_mod_cast congrArg (fun t : ℝ => (t : EReal)) e

/-- The two spellings of the normalisation's backward pass, at one element. -/
theorem norm_eq {x i v d t S c : ℝ} (hv : v ≠ 0) (hi : i * i * v = 1) :
    d + i * (t - x * i * (S * i * c)) = d + t * i + x * (S * (-(1 / 2) * (i * (1 / v))) * c) + S * (-(1 / 2) * (i * (1 / v))) * c * x := by
  have h : 1 / v = i * i := by field_simp; linarith
  rw [h]; ring

variable (hX : ∀ r l, IsReal (X r l)) (hg : ∀ l, IsReal (g l)) (hWg : ∀ d c, IsReal (Wg d c)) (hWu : ∀ d c, IsReal (Wu d c))
  (hWd : ∀ c l, IsReal (Wd c l)) (hDy : ∀ r l, IsReal (Dy r l))
include hX hg hWg hWu hWd hDy

/-- The gate projection's cotangent. -/
theorem kDA_eq (r : Fin 8192) (c : Fin 2816) : kDA X g Wg Wu Wd Dy r c = rDA X g Wg Wu Wd Dy r c :=
  gate_eq (kDz_real hWd hDy r c) (pr_real hX hg hWu r c) (pr_real hX hg hWg r c) (pr_real hX hg hWg r c).sg

/-- The normalised rows' cotangent: the kernel's four blocks are the reference's two sums. -/
theorem kDh_eq (r : Fin 8192) (l : Fin 1024) : kDh X g Wg Wu Wd Dy r l = rDh X g Wg Wu Wd Dy r l := by
  unfold kDh rDh
  simp only [kDA_eq hX hg hWg hWu hWd hDy]
  rw [Finset.sum_add_distrib, ← sum_hid fun c => rDA X g Wg Wu Wd Dy r c * Wg l c, ← sum_hid fun c => kDB X g Wg Wd Dy r c * Wu l c, add_comm]

theorem rDA_real (r : Fin 8192) (c : Fin 2816) : IsReal (rDA X g Wg Wu Wd Dy r c) :=
  have a := pr_real hX hg hWg r c
  have zb := (kDz_real hWd hDy r c).mul (pr_real hX hg hWu r c)
  (zb.mul a.sg).add ((a.mul zb).mul (a.sg.mul (IsReal.one.sub a.sg)))

theorem rDh_real (r : Fin 8192) (l : Fin 1024) : IsReal (rDh X g Wg Wu Wd Dy r l) :=
  have a (c : Fin 2816) := pr_real hX hg hWg r c
  (IsReal.sum fun c => ((kDz_real hWd hDy r c).mul ((a c).mul (a c).sg)).mul (hWu l c)).add
    (IsReal.sum fun c => (rDA_real hX hg hWg hWu hWd hDy r c).mul (hWg l c))

/-- The rows' cotangent. -/
theorem kDx_eq (r : Fin 8192) (l : Fin 1024) : kDx X g Wg Wu Wd Dy r l = rDx X g Wg Wu Wd Dy r l := by
  obtain ⟨v, i, hv, hi, ev, ei⟩ := rms_real hX r
  have hh := rDh_real hX hg hWg hWu hWd hDy
  unfold kDx rDx rDs
  simp only [kDh_eq hX hg hWg hWu hWd hDy]
  generalize rDh X g Wg Wu Wd Dy = H at hh ⊢
  rw [ev, ei, neg_half_bits, width_bits]
  choose x hx using hX
  choose gg hgg using hg
  choose d hd using hDy
  choose h hhh using hh
  have e1 : ∑ k, H r k * g k * (X r k * (i : EReal)) = (((∑ k, x r k * (h r k * gg k)) * i : ℝ) : EReal) := by
    rw [Finset.sum_mul, ← coe_sum]
    exact Finset.sum_congr rfl fun k _ => by
      rw [hhh, hgg, hx, ← EReal.coe_mul, ← EReal.coe_mul, ← EReal.coe_mul]; congr 1; ring
  have e2 : ∑ k, X r k * (H r k * g k) = ((∑ k, x r k * (h r k * gg k) : ℝ) : EReal) := by
    rw [← coe_sum]
    exact Finset.sum_congr rfl fun k _ => by rw [hhh, hgg, hx, EReal.coe_mul, EReal.coe_mul]
  rw [e1, e2, hhh, hgg, hx, hd, Ideal.div_coe hv, Ideal.div_coe (by norm_num), Ideal.div_coe (by norm_num)]
  have e := norm_eq (x := x r l) (d := d r l) (t := h r l * gg l) (S := ∑ k, x r k * (h r k * gg k)) (c := 1 / 1024) hv hi
  simp only [← EReal.coe_mul, ← EReal.coe_add, ← EReal.coe_sub]
  exact congrArg (fun t : ℝ => (t : EReal)) e

/-- The scale's gradient. -/
theorem kDg_eq (l : Fin 1024) : kDg X g Wg Wu Wd Dy l = ∑ r, X r l * rinv X r * rDh X g Wg Wu Wd Dy r l :=
  Finset.sum_congr rfl fun r _ => by rw [kDh_eq hX hg hWg hWu hWd hDy, mul_comm]

/-- The gate weights' gradient. -/
theorem kDwg_eq (l : Fin 1024) (c : Fin 2816) : kDwg X g Wg Wu Wd Dy l c = ∑ r, rDA X g Wg Wu Wd Dy r c * hN X g r l :=
  Finset.sum_congr rfl fun r _ => by rw [kDA_eq hX hg hWg hWu hWd hDy, mul_comm]
end

/-- The up projection weights' gradient. -/
theorem kDwu_eq (X : Fin 8192 → Fin 1024 → EReal) (g : Fin 1024 → EReal) (Wg : Fin 1024 → Fin 2816 → EReal)
    (Wd : Fin 2816 → Fin 1024 → EReal) (Dy : Fin 8192 → Fin 1024 → EReal) (l : Fin 1024) (c : Fin 2816) :
    kDwu X g Wg Wd Dy l c = ∑ r, kDB X g Wg Wd Dy r c * hN X g r l :=
  Finset.sum_congr rfl fun r _ => mul_comm _ _

/-- The down projection weights' gradient. -/
theorem kDwd_eq (X : Fin 8192 → Fin 1024 → EReal) (g : Fin 1024 → EReal) (Wg Wu : Fin 1024 → Fin 2816 → EReal)
    (Dy : Fin 8192 → Fin 1024 → EReal) (c : Fin 2816) (l : Fin 1024) :
    kDwd X g Wg Wu Dy c l = ∑ r, kY Dy r l * kZ X g Wg Wu r c :=
  Finset.sum_congr rfl fun r _ => mul_comm _ _

end Cert.HalfFFN.Equation

end
-- ==== Proof.Value.lean ====
/- Of finite arguments the reference's six results are the contents the kernel's run ends with. -/
module

public import proofs.«01_k».proof.Proof.Finite
public import proofs.«01_k».proof.Proof.Steps
public import proofs.«01_k».proof.Proof.Equation

@[expose] public section

set_option maxHeartbeats 1000000

noncomputable section

namespace Cert.HalfFFN

open Idealize.ShloMosaic Idealize.ShloMosaic.TcCoe Cert.KernelIdeal Cert.HalfFFN.Ref Cert.HalfFFN.Equation

variable [Half]

variable (m : (ℓ : Loc nD τ sig) → Buf (Elt Ideal) ℓ) (ρ : Dev nD → PrngReg) (c : Dev nD)

/-- The arguments as arrays. -/
abbrev ar0 : A0 := m ((c : Thread nD τ).loc main_arg0)
abbrev ar1 : A1 := m ((c : Thread nD τ).loc main_arg1)
abbrev ar2 : A2 := m ((c : Thread nD τ).loc main_arg2)
abbrev ar3 : A2 := m ((c : Thread nD τ).loc main_arg3)
abbrev ar4 : A4 := m ((c : Thread nD τ).loc main_arg4)
abbrev ar5 : A0 := m ((c : Thread nD τ).loc main_arg5)

theorem same_xo : val_main_v31 (F := Ideal) (ar0 m c) (ar1 m c) (ar2 m c) (ar3 m c) (ar4 m c) = W6 m ρ c (Proc.devRef .tc main_v11_0) := by
  funext i
  obtain ⟨p, q, rfl⟩ : ∃ (p : Fin 8192) (q : Fin 1024), i = ix2 p q := ⟨i 0, i 1, eq_ix2 (n0 := 8192) (n1 := 1024) i⟩
  exact (v31_at _ _ _ _ _ p q).trans (end_xo m ρ c p q).symm

theorem same_dwu : val_main_v73 (F := Ideal) (ar0 m c) (ar1 m c) (ar2 m c) (ar4 m c) (ar5 m c) = W6 m ρ c (Proc.devRef .tc main_v18) := by
  funext i
  obtain ⟨p, q, s, rfl⟩ : ∃ (p : Fin 4) (q : Fin 1024) (s : Fin 704), i = ix3 p q s :=
    ⟨i 0, i 1, i 2, eq_ix3 (n0 := 4) (n1 := 1024) (n2 := 704) i⟩
  exact (v73_at _ _ _ _ _ p q s).trans ((kDwu_eq _ _ _ _ _ _ _).symm.trans (end_dwu m ρ c p q s).symm)

theorem same_dwd : val_main_v74 (F := Ideal) (ar0 m c) (ar1 m c) (ar2 m c) (ar3 m c) (ar5 m c) = W6 m ρ c (Proc.devRef .tc main_v20) := by
  funext i
  obtain ⟨p, q, s, rfl⟩ : ∃ (p : Fin 4) (q : Fin 704) (s : Fin 1024), i = ix3 p q s :=
    ⟨i 0, i 1, i 2, eq_ix3 (n0 := 4) (n1 := 704) (n2 := 1024) i⟩
  exact (v74_at _ _ _ _ _ p q s).trans ((kDwd_eq _ _ _ _ _ _ _).symm.trans (end_dwd m ρ c p q s).symm)

variable (h : Finite.AllReal (ar0 m c) ∧ Finite.AllReal (ar1 m c) ∧ Finite.AllReal (ar2 m c) ∧ Finite.AllReal (ar3 m c)
  ∧ Finite.AllReal (ar4 m c) ∧ Finite.AllReal (ar5 m c))
include h

theorem same_dx : val_main_v68 (F := Ideal) (ar0 m c) (ar1 m c) (ar2 m c) (ar3 m c) (ar4 m c) (ar5 m c)
    = W6 m ρ c (Proc.devRef .tc main_v12_0) := by
  funext i
  obtain ⟨p, q, rfl⟩ : ∃ (p : Fin 8192) (q : Fin 1024), i = ix2 p q := ⟨i 0, i 1, eq_ix2 (n0 := 8192) (n1 := 1024) i⟩
  exact (v68_at _ _ _ _ _ _ p q).trans ((kDx_eq (fun _ _ => h.1 _) (fun _ => h.2.1 _) (fun _ _ => h.2.2.1 _) (fun _ _ => h.2.2.2.1 _)
    (fun _ _ => h.2.2.2.2.1 _) (fun _ _ => h.2.2.2.2.2 _) p q).symm.trans (end_dx m ρ c p q).symm)

theorem same_dg : val_main_v69 (F := Ideal) (ar0 m c) (ar1 m c) (ar2 m c) (ar3 m c) (ar4 m c) (ar5 m c)
    = W6 m ρ c (Proc.devRef .tc main_v12_4) := by
  funext i
  obtain ⟨p, q, rfl⟩ : ∃ (p : Fin 1) (q : Fin 1024), i = ix2 p q := ⟨i 0, i 1, eq_ix2 (n0 := 1) (n1 := 1024) i⟩
  exact (v69_at _ _ _ _ _ _ p q).trans ((kDg_eq (fun _ _ => h.1 _) (fun _ => h.2.1 _) (fun _ _ => h.2.2.1 _) (fun _ _ => h.2.2.2.1 _)
    (fun _ _ => h.2.2.2.2.1 _) (fun _ _ => h.2.2.2.2.2 _) q).symm.trans (end_dg m ρ c p q).symm)

theorem same_dwg : val_main_v71 (F := Ideal) (ar0 m c) (ar1 m c) (ar2 m c) (ar3 m c) (ar4 m c) (ar5 m c)
    = W6 m ρ c (Proc.devRef .tc main_v16) := by
  funext i
  obtain ⟨p, q, s, rfl⟩ : ∃ (p : Fin 4) (q : Fin 1024) (s : Fin 704), i = ix3 p q s :=
    ⟨i 0, i 1, i 2, eq_ix3 (n0 := 4) (n1 := 1024) (n2 := 704) i⟩
  exact (v71_at _ _ _ _ _ _ p q s).trans ((kDwg_eq (fun _ _ => h.1 _) (fun _ => h.2.1 _) (fun _ _ => h.2.2.1 _) (fun _ _ => h.2.2.2.1 _)
    (fun _ _ => h.2.2.2.2.1 _) (fun _ _ => h.2.2.2.2.2 _) q _).symm.trans (end_dwg m ρ c p q s).symm)

end Cert.HalfFFN

end
-- ==== Proof.Claims.lean ====
/- From the generic half layer to a printed one: what has to be shown of a printed kernel and of a printed reference, and the claims that follow. -/
module

public import proofs.«01_k».proof.Proof.Value

@[expose] public section

set_option maxHeartbeats 1000000

noncomputable section

namespace Cert.HalfFFN

open Idealize.ShloMosaic Idealize.ShloMosaic.TcCoe Idealize.SL.Sem Cert.KernelIdeal

variable {F : FTy → Type} [FloatOps F] {H : Half}

/-- The type of a table of bodies, the four calls' pipelines included. -/
abbrev Table (F : FTy → Type) [FloatOps F] {H : Half} := Defs nD τ sig (Elt F) (Pipeline.Sig Λ₀ (Fin 4) fun p => (pcfgs (F := F) p).Adm)
/-- The type of a host program. -/
abbrev HostProg (F : FTy → Type) [FloatOps F] {H : Half} :=
  Dev nD → Prog (TpuEff nD τ sig (Elt F) (Pipeline.Sig Λ₀ (Fin 4) fun p => (pcfgs (F := F) p).Adm) .tc) PUnit

/-- A table and a host program are those of the half layer `H`. -/
structure Printed (d : Table F (H := H)) (p : HostProg F (H := H)) : Prop where
  table : d = defs
  host : p = main

/-- It is enough that each of the four bodies is the half layer's, and the host program. -/
theorem Printed.of {D : (l : Λ₀.Label) → Λ₀.Args l → Prog (TpuEff nD τ sig (Elt F) Λ₀ .tc) (Λ₀.Result l)} {p : HostProg F (H := H)}
    (h0 : ∀ a, D 0 a = defs₀ .tc 0 a) (h1 : ∀ a, D 1 a = defs₀ .tc 1 a) (h2 : ∀ a, D 2 a = defs₀ .tc 2 a) (h3 : ∀ a, D 3 a = defs₀ .tc 3 a)
    (hp : p = main) : Printed (Pipeline.defs pcfgs (Defs.onTc D)) p := by
  refine ⟨congrArg (Pipeline.defs pcfgs) (congrArg Defs.onTc (funext fun l => funext fun a => ?_)), hp⟩
  obtain ⟨n, hn⟩ := l
  match n, hn with
  | 0, _ => exact h0 a
  | 1, _ => exact h1 a
  | 2, _ => exact h2 a
  | 3, _ => exact h3 a

/-- A printed half layer terminates without a fault and leaves its arguments and every semaphore as it found them. -/
theorem Printed.frame {d : Table F (H := H)} {p : HostProg F (H := H)} (h : Printed d p)
    (m : (ℓ : Loc nD τ sig) → Buf (Elt F) ℓ) (ρ : Dev nD → PrngReg) :
    θ_run d (onTc (τ := τ) p) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  obtain ⟨rfl, rfl⟩ := h
  exact run_frame m ρ

/-- A printed half layer ends with the contents that the generic run ends with. -/
theorem Printed.ends {d : Table F (H := H)} {p : HostProg F (H := H)} (h : Printed d p)
    (m : (ℓ : Loc nD τ sig) → Buf (Elt F) ℓ) (ρ : Dev nD → PrngReg) :
    θ_run d (onTc (τ := τ) p) ⟨m, fun _ => 0, ρ⟩ (fun r => ∀ c : Dev nD,
      r.2.mem ((c.tc : Thread nD τ).loc main_v11_0) = W6 m ρ c (Proc.devRef .tc main_v11_0)
      ∧ r.2.mem ((c.tc : Thread nD τ).loc main_v12_0) = W6 m ρ c (Proc.devRef .tc main_v12_0)
      ∧ r.2.mem ((c.tc : Thread nD τ).loc main_v12_4) = W6 m ρ c (Proc.devRef .tc main_v12_4)
      ∧ r.2.mem ((c.tc : Thread nD τ).loc main_v16) = W6 m ρ c (Proc.devRef .tc main_v16)
      ∧ r.2.mem ((c.tc : Thread nD τ).loc main_v18) = W6 m ρ c (Proc.devRef .tc main_v18)
      ∧ r.2.mem ((c.tc : Thread nD τ).loc main_v20) = W6 m ρ c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  obtain ⟨rfl, rfl⟩ := h
  exact (θ_run defs _ _).mono (fun r h c =>
      ⟨h.1 c _ (mem_uc main_v11_0 (by decide)),
       h.1 c _ (mem_uc main_v12_0 (by decide)),
       h.1 c _ (mem_uc main_v12_4 (by decide)),
       h.1 c _ (mem_uc main_v16 (by decide)),
       h.1 c _ (mem_uc main_v18 (by decide)),
       h.1 c _ (mem_uc main_v20 (by decide)),
       (h.1 c _ (mem_uc main_arg0 (by decide))).trans (W6_args m ρ c main_arg0 (by decide)),
       (h.1 c _ (mem_uc main_arg1 (by decide))).trans (W6_args m ρ c main_arg1 (by decide)),
       (h.1 c _ (mem_uc main_arg2 (by decide))).trans (W6_args m ρ c main_arg2 (by decide)),
       (h.1 c _ (mem_uc main_arg3 (by decide))).trans (W6_args m ρ c main_arg3 (by decide)),
       (h.1 c _ (mem_uc main_arg4 (by decide))).trans (W6_args m ρ c main_arg4 (by decide)),
       (h.1 c _ (mem_uc main_arg5 (by decide))).trans (W6_args m ρ c main_arg5 (by decide))⟩) (run_all m ρ)

/-- A table for the reference's buffers, and a host program. -/
abbrev RefTable := Defs Cert.ReferenceIdeal.nD Cert.ReferenceIdeal.τ Cert.ReferenceIdeal.sig (Elt Ideal)
  (Pipeline.Sig Cert.ReferenceIdeal.Λ₀ (Fin 0) fun p => (Cert.ReferenceIdeal.pcfgs (F := Ideal) p).Adm)
abbrev RefProg := Dev Cert.ReferenceIdeal.nD → Prog (TpuEff Cert.ReferenceIdeal.nD Cert.ReferenceIdeal.τ Cert.ReferenceIdeal.sig (Elt Ideal)
  (Pipeline.Sig Cert.ReferenceIdeal.Λ₀ (Fin 0) fun p => (Cert.ReferenceIdeal.pcfgs (F := Ideal) p).Adm) .tc) PUnit

/-- A reference ends with the half layer's six results, its arguments unchanged. -/
abbrev RefEnds {H : Half} (d : RefTable) (p : RefProg) : Prop :=
  ∀ (m' : (ℓ : Loc Cert.ReferenceIdeal.nD Cert.ReferenceIdeal.τ Cert.ReferenceIdeal.sig) → Buf (Elt Ideal) ℓ) (ρ' : Dev Cert.ReferenceIdeal.nD → PrngReg),
  θ_run d (onTc (τ := Cert.ReferenceIdeal.τ) p) ⟨m', fun _ => 0, ρ'⟩ (fun r => ∀ c : Dev Cert.ReferenceIdeal.nD,
    r.2.mem ((c.tc : Thread Cert.ReferenceIdeal.nD Cert.ReferenceIdeal.τ).loc Cert.ReferenceIdeal.main_v31) = Ref.val_main_v31 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))
    ∧ r.2.mem ((c.tc : Thread Cert.ReferenceIdeal.nD Cert.ReferenceIdeal.τ).loc Cert.ReferenceIdeal.main_v68) = Ref.val_main_v68 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
    ∧ r.2.mem ((c.tc : Thread Cert.ReferenceIdeal.nD Cert.ReferenceIdeal.τ).loc Cert.ReferenceIdeal.main_v69) = Ref.val_main_v69 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
    ∧ r.2.mem ((c.tc : Thread Cert.ReferenceIdeal.nD Cert.ReferenceIdeal.τ).loc Cert.ReferenceIdeal.main_v71) = Ref.val_main_v71 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
    ∧ r.2.mem ((c.tc : Thread Cert.ReferenceIdeal.nD Cert.ReferenceIdeal.τ).loc Cert.ReferenceIdeal.main_v73) = Ref.val_main_v73 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
    ∧ r.2.mem ((c.tc : Thread Cert.ReferenceIdeal.nD Cert.ReferenceIdeal.τ).loc Cert.ReferenceIdeal.main_v74) = Ref.val_main_v74 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg5))
    ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
    ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
    ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
    ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
    ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
    ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

/-- A reference leaves its arguments as it found them, and has no semaphore. -/
theorem RefEnds.frame {d : RefTable} {p : RefProg} (h : RefEnds (H := H) d p)
    (m' : (ℓ : Loc Cert.ReferenceIdeal.nD Cert.ReferenceIdeal.τ Cert.ReferenceIdeal.sig) → Buf (Elt Ideal) ℓ) (ρ' : Dev Cert.ReferenceIdeal.nD → PrngReg) :
    θ_run d (onTc (τ := Cert.ReferenceIdeal.τ) p) ⟨m', fun _ => 0, ρ'⟩ (fun r => (∀ c : Dev Cert.ReferenceIdeal.nD,
    r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
    ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
    ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
    ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
    ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
    ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))
    ∧ r.2.sem = fun _ => 0) :=
  (θ_run d _ _).mono (fun r h => ⟨fun c => (h c).2.2.2.2.2.2, sem_eq_zero_of_no_sems (by decide) r.2⟩) (h m' ρ')

/-- Of finite arguments a printed half layer's six results are the reference's. -/
theorem Printed.algebraic [Cert.Pre_all_finite.Facts] {d : Table Ideal (H := H)} {p : HostProg Ideal (H := H)} (h : Printed d p)
    {dR : RefTable} {pR : RefProg} (hR : RefEnds (H := H) dR pR)
    (m : (ℓ : Loc nD τ sig) → Buf (Elt Ideal) ℓ) (ρ : Dev nD → PrngReg)
    (m' : (ℓ : Loc Cert.ReferenceIdeal.nD Cert.ReferenceIdeal.τ Cert.ReferenceIdeal.sig) → Buf (Elt Ideal) ℓ) (ρ' : Dev Cert.ReferenceIdeal.nD → PrngReg)
    (hpre : ∀ c : Dev nD, Cert.Pre_all_finite.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = fun _ => 1#1)
    (hag : ∀ c : Dev nD,
      m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)) :
    ∃ (v0 : (c : Dev nD) → Buf (Elt Ideal) ((c.tc : Thread nD τ).loc main_v11_0)) (v1 : (c : Dev nD) → Buf (Elt Ideal) ((c.tc : Thread nD τ).loc main_v12_0)) (v2 : (c : Dev nD) → Buf (Elt Ideal) ((c.tc : Thread nD τ).loc main_v12_4)) (v3 : (c : Dev nD) → Buf (Elt Ideal) ((c.tc : Thread nD τ).loc main_v16)) (v4 : (c : Dev nD) → Buf (Elt Ideal) ((c.tc : Thread nD τ).loc main_v18)) (v5 : (c : Dev nD) → Buf (Elt Ideal) ((c.tc : Thread nD τ).loc main_v20)),
      θ_run d (onTc (τ := τ) p) ⟨m, fun _ => 0, ρ⟩ (fun r => ∀ c : Dev nD,
      r.2.mem ((c.tc : Thread nD τ).loc main_v11_0) = v0 c
      ∧ r.2.mem ((c.tc : Thread nD τ).loc main_v12_0) = v1 c
      ∧ r.2.mem ((c.tc : Thread nD τ).loc main_v12_4) = v2 c
      ∧ r.2.mem ((c.tc : Thread nD τ).loc main_v16) = v3 c
      ∧ r.2.mem ((c.tc : Thread nD τ).loc main_v18) = v4 c
      ∧ r.2.mem ((c.tc : Thread nD τ).loc main_v20) = v5 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ θ_run dR (onTc (τ := Cert.ReferenceIdeal.τ) pR) ⟨m', fun _ => 0, ρ'⟩ (fun r => ∀ c : Dev Cert.ReferenceIdeal.nD,
    r.2.mem ((c.tc : Thread Cert.ReferenceIdeal.nD Cert.ReferenceIdeal.τ).loc Cert.ReferenceIdeal.main_v31) = v0 c
    ∧ r.2.mem ((c.tc : Thread Cert.ReferenceIdeal.nD Cert.ReferenceIdeal.τ).loc Cert.ReferenceIdeal.main_v68) = v1 c
    ∧ r.2.mem ((c.tc : Thread Cert.ReferenceIdeal.nD Cert.ReferenceIdeal.τ).loc Cert.ReferenceIdeal.main_v69) = v2 c
    ∧ r.2.mem ((c.tc : Thread Cert.ReferenceIdeal.nD Cert.ReferenceIdeal.τ).loc Cert.ReferenceIdeal.main_v71) = v3 c
    ∧ r.2.mem ((c.tc : Thread Cert.ReferenceIdeal.nD Cert.ReferenceIdeal.τ).loc Cert.ReferenceIdeal.main_v73) = v4 c
    ∧ r.2.mem ((c.tc : Thread Cert.ReferenceIdeal.nD Cert.ReferenceIdeal.τ).loc Cert.ReferenceIdeal.main_v74) = v5 c
    ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
    ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
    ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
    ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
    ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
    ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)) := by
  have hfin (c : Dev nD) := Finite.all_real _ _ _ _ _ _ (hpre c)
  refine ⟨_, _, _, _, _, _, h.ends m ρ, (θ_run dR _ _).mono (fun r h c => ?_) (hR m' ρ')⟩
  obtain ⟨a0, a1, a2, a3, a4, a5⟩ := hag c
  obtain ⟨h0, h1, h2, h3, h4, h5, hargs⟩ := h c
  refine ⟨h0.trans ?_, h1.trans ?_, h2.trans ?_, h3.trans ?_, h4.trans ?_, h5.trans ?_, hargs⟩
  · rw [a0, a1, a2, a3, a4]; exact same_xo m ρ c
  · rw [a0, a1, a2, a3, a4, a5]; exact same_dx m ρ c (hfin c)
  · rw [a0, a1, a2, a3, a4, a5]; exact same_dg m ρ c (hfin c)
  · rw [a0, a1, a2, a3, a4, a5]; exact same_dwg m ρ c (hfin c)
  · rw [a0, a1, a2, a4, a5]; exact same_dwu m ρ c
  · rw [a0, a1, a2, a3, a5]; exact same_dwd m ρ c

end Cert.HalfFFN

end
-- ==== Proof.Half7.lean ====
/- The second half layer of layer 3: the printed programs are the generic half layer at 7, and their claims. -/
module

public import proofs.«01_k».proof.Defs
public import proofs.«01_k».proof.Proof.Gen.Kernel
public import proofs.«01_k».proof.Proof.Gen.KernelIdeal
public import proofs.«01_k».proof.Proof.Gen.ReferenceIdeal.Run
public import proofs.«01_k».proof.Proof.Claims

@[expose] public section

set_option maxHeartbeats 8000000

noncomputable section

namespace Cert.HalfFFN.Half7

open Idealize.ShloMosaic Cert.HalfFFN

/-- The kernel at the bits is the half layer's text. -/
theorem printed : Printed (F := Bits) (H := ⟨7⟩) Cert.Kernel.defs Cert.Kernel.main :=
  .of (F := Bits) (H := ⟨7⟩) (D := @Cert.Kernel.defs₀ Bits _ _ .tc) (fun _ => rfl) (fun _ => rfl) (fun _ => rfl) (fun _ => rfl) rfl

/-- So is the kernel at the extended reals. -/
theorem printedIdeal : Printed (F := Ideal) (H := ⟨7⟩) Cert.KernelIdeal.defs Cert.KernelIdeal.main :=
  .of (F := Ideal) (H := ⟨7⟩) (D := @Cert.KernelIdeal.defs₀ Ideal _ _ .tc) (fun _ => rfl) (fun _ => rfl) (fun _ => rfl) (fun _ => rfl) rfl

/-- The reference's results are the half layer's. -/
theorem refEnds : RefEnds (H := ⟨7⟩) Cert.ReferenceIdeal.defs Cert.ReferenceIdeal.main :=
  Cert.ReferenceIdeal.Value.run (F := Ideal)

/-- The kernel terminates without a fault, leaves its six arguments and every semaphore as it found them, at the bits. -/
theorem frame : Cert.quiescent_Kernel := fun m ρ _ => printed.frame m ρ
/-- The same at the extended reals. -/
theorem frameIdeal : Cert.quiescent_KernelIdeal := fun m ρ _ => printedIdeal.frame m ρ
/-- The reference runs on the host and leaves its arguments as it found them. -/
theorem frameRef : Cert.quiescent_ReferenceIdeal := fun m ρ _ => refEnds.frame m ρ
/-- Of finite arguments the kernel's six results are the reference's. -/
theorem algebraic : Cert.algebraic_KernelIdeal_ReferenceIdeal_pre_all_finite (hPre_all_finite := Finite.facts) :=
  haveI := Finite.facts
  fun m ρ m' ρ' hpre hag => printedIdeal.algebraic refEnds m ρ m' ρ' hpre hag

end Cert.HalfFFN.Half7

end
-- ==== Proof.Half6.lean ====
/- The first half layer of layer 3: the printed programs are the generic half layer at 6, and their claims. -/
module

public import proofs.«01_k».proof.Defs
public import proofs.«01_k».proof.Proof.Gen.Kernel6
public import proofs.«01_k».proof.Proof.Gen.Kernel6Ideal
public import proofs.«01_k».proof.Proof.Gen.Reference6Ideal.Run
public import proofs.«01_k».proof.Proof.Claims

@[expose] public section

set_option maxHeartbeats 8000000

noncomputable section

namespace Cert.HalfFFN.Half6

open Idealize.ShloMosaic Cert.HalfFFN

/-- The kernel at the bits is the half layer's text. -/
theorem printed : Printed (F := Bits) (H := ⟨6⟩) Cert.Kernel6.defs Cert.Kernel6.main :=
  .of (F := Bits) (H := ⟨6⟩) (D := @Cert.Kernel6.defs₀ Bits _ _ .tc) (fun _ => rfl) (fun _ => rfl) (fun _ => rfl) (fun _ => rfl) rfl

/-- So is the kernel at the extended reals. -/
theorem printedIdeal : Printed (F := Ideal) (H := ⟨6⟩) Cert.Kernel6Ideal.defs Cert.Kernel6Ideal.main :=
  .of (F := Ideal) (H := ⟨6⟩) (D := @Cert.Kernel6Ideal.defs₀ Ideal _ _ .tc) (fun _ => rfl) (fun _ => rfl) (fun _ => rfl) (fun _ => rfl) rfl

/-- The reference's results are the half layer's. -/
theorem refEnds : RefEnds (H := ⟨6⟩) Cert.Reference6Ideal.defs Cert.Reference6Ideal.main :=
  Cert.Reference6Ideal.Value.run (F := Ideal)

/-- The kernel terminates without a fault, leaves its six arguments and every semaphore as it found them, at the bits. -/
theorem frame : Cert.quiescent_Kernel6 := fun m ρ _ => printed.frame m ρ
/-- The same at the extended reals. -/
theorem frameIdeal : Cert.quiescent_Kernel6Ideal := fun m ρ _ => printedIdeal.frame m ρ
/-- The reference runs on the host and leaves its arguments as it found them. -/
theorem frameRef : Cert.quiescent_Reference6Ideal := fun m ρ _ => refEnds.frame m ρ
/-- Of finite arguments the kernel's six results are the reference's. -/
theorem algebraic : Cert.algebraic_Kernel6Ideal_Reference6Ideal_pre_all_finite (hPre_all_finite := Finite.facts) :=
  haveI := Finite.facts
  fun m ρ m' ρ' hpre hag => printedIdeal.algebraic refEnds m ρ m' ρ' hpre hag

end Cert.HalfFFN.Half6

end
-- ==== Proof.Half5.lean ====
/- The second half layer of layer 2: the printed programs are the generic half layer at 5, and their claims. -/
module

public import proofs.«01_k».proof.Defs
public import proofs.«01_k».proof.Proof.Gen.Kernel5
public import proofs.«01_k».proof.Proof.Gen.Kernel5Ideal
public import proofs.«01_k».proof.Proof.Gen.Reference5Ideal.Run
public import proofs.«01_k».proof.Proof.Claims

@[expose] public section

set_option maxHeartbeats 8000000

noncomputable section

namespace Cert.HalfFFN.Half5

open Idealize.ShloMosaic Cert.HalfFFN

/-- The kernel at the bits is the half layer's text. -/
theorem printed : Printed (F := Bits) (H := ⟨5⟩) Cert.Kernel5.defs Cert.Kernel5.main :=
  .of (F := Bits) (H := ⟨5⟩) (D := @Cert.Kernel5.defs₀ Bits _ _ .tc) (fun _ => rfl) (fun _ => rfl) (fun _ => rfl) (fun _ => rfl) rfl

/-- So is the kernel at the extended reals. -/
theorem printedIdeal : Printed (F := Ideal) (H := ⟨5⟩) Cert.Kernel5Ideal.defs Cert.Kernel5Ideal.main :=
  .of (F := Ideal) (H := ⟨5⟩) (D := @Cert.Kernel5Ideal.defs₀ Ideal _ _ .tc) (fun _ => rfl) (fun _ => rfl) (fun _ => rfl) (fun _ => rfl) rfl

/-- The reference's results are the half layer's. -/
theorem refEnds : RefEnds (H := ⟨5⟩) Cert.Reference5Ideal.defs Cert.Reference5Ideal.main :=
  Cert.Reference5Ideal.Value.run (F := Ideal)

/-- The kernel terminates without a fault, leaves its six arguments and every semaphore as it found them, at the bits. -/
theorem frame : Cert.quiescent_Kernel5 := fun m ρ _ => printed.frame m ρ
/-- The same at the extended reals. -/
theorem frameIdeal : Cert.quiescent_Kernel5Ideal := fun m ρ _ => printedIdeal.frame m ρ
/-- The reference runs on the host and leaves its arguments as it found them. -/
theorem frameRef : Cert.quiescent_Reference5Ideal := fun m ρ _ => refEnds.frame m ρ
/-- Of finite arguments the kernel's six results are the reference's. -/
theorem algebraic : Cert.algebraic_Kernel5Ideal_Reference5Ideal_pre_all_finite (hPre_all_finite := Finite.facts) :=
  haveI := Finite.facts
  fun m ρ m' ρ' hpre hag => printedIdeal.algebraic refEnds m ρ m' ρ' hpre hag

end Cert.HalfFFN.Half5

end
-- ==== Proof.Half4.lean ====
/- The first half layer of layer 2: the printed programs are the generic half layer at 4, and their claims. -/
module

public import proofs.«01_k».proof.Defs
public import proofs.«01_k».proof.Proof.Gen.Kernel4
public import proofs.«01_k».proof.Proof.Gen.Kernel4Ideal
public import proofs.«01_k».proof.Proof.Gen.Reference4Ideal.Run
public import proofs.«01_k».proof.Proof.Claims

@[expose] public section

set_option maxHeartbeats 8000000

noncomputable section

namespace Cert.HalfFFN.Half4

open Idealize.ShloMosaic Cert.HalfFFN

/-- The kernel at the bits is the half layer's text. -/
theorem printed : Printed (F := Bits) (H := ⟨4⟩) Cert.Kernel4.defs Cert.Kernel4.main :=
  .of (F := Bits) (H := ⟨4⟩) (D := @Cert.Kernel4.defs₀ Bits _ _ .tc) (fun _ => rfl) (fun _ => rfl) (fun _ => rfl) (fun _ => rfl) rfl

/-- So is the kernel at the extended reals. -/
theorem printedIdeal : Printed (F := Ideal) (H := ⟨4⟩) Cert.Kernel4Ideal.defs Cert.Kernel4Ideal.main :=
  .of (F := Ideal) (H := ⟨4⟩) (D := @Cert.Kernel4Ideal.defs₀ Ideal _ _ .tc) (fun _ => rfl) (fun _ => rfl) (fun _ => rfl) (fun _ => rfl) rfl

/-- The reference's results are the half layer's. -/
theorem refEnds : RefEnds (H := ⟨4⟩) Cert.Reference4Ideal.defs Cert.Reference4Ideal.main :=
  Cert.Reference4Ideal.Value.run (F := Ideal)

/-- The kernel terminates without a fault, leaves its six arguments and every semaphore as it found them, at the bits. -/
theorem frame : Cert.quiescent_Kernel4 := fun m ρ _ => printed.frame m ρ
/-- The same at the extended reals. -/
theorem frameIdeal : Cert.quiescent_Kernel4Ideal := fun m ρ _ => printedIdeal.frame m ρ
/-- The reference runs on the host and leaves its arguments as it found them. -/
theorem frameRef : Cert.quiescent_Reference4Ideal := fun m ρ _ => refEnds.frame m ρ
/-- Of finite arguments the kernel's six results are the reference's. -/
theorem algebraic : Cert.algebraic_Kernel4Ideal_Reference4Ideal_pre_all_finite (hPre_all_finite := Finite.facts) :=
  haveI := Finite.facts
  fun m ρ m' ρ' hpre hag => printedIdeal.algebraic refEnds m ρ m' ρ' hpre hag

end Cert.HalfFFN.Half4

end
-- ==== Proof.Half3.lean ====
/- The second half layer of layer 1: the printed programs are the generic half layer at 3, and their claims. -/
module

public import proofs.«01_k».proof.Defs
public import proofs.«01_k».proof.Proof.Gen.Kernel3
public import proofs.«01_k».proof.Proof.Gen.Kernel3Ideal
public import proofs.«01_k».proof.Proof.Gen.Reference3Ideal.Run
public import proofs.«01_k».proof.Proof.Claims

@[expose] public section

set_option maxHeartbeats 8000000

noncomputable section

namespace Cert.HalfFFN.Half3

open Idealize.ShloMosaic Cert.HalfFFN

/-- The kernel at the bits is the half layer's text. -/
theorem printed : Printed (F := Bits) (H := ⟨3⟩) Cert.Kernel3.defs Cert.Kernel3.main :=
  .of (F := Bits) (H := ⟨3⟩) (D := @Cert.Kernel3.defs₀ Bits _ _ .tc) (fun _ => rfl) (fun _ => rfl) (fun _ => rfl) (fun _ => rfl) rfl

/-- So is the kernel at the extended reals. -/
theorem printedIdeal : Printed (F := Ideal) (H := ⟨3⟩) Cert.Kernel3Ideal.defs Cert.Kernel3Ideal.main :=
  .of (F := Ideal) (H := ⟨3⟩) (D := @Cert.Kernel3Ideal.defs₀ Ideal _ _ .tc) (fun _ => rfl) (fun _ => rfl) (fun _ => rfl) (fun _ => rfl) rfl

/-- The reference's results are the half layer's. -/
theorem refEnds : RefEnds (H := ⟨3⟩) Cert.Reference3Ideal.defs Cert.Reference3Ideal.main :=
  Cert.Reference3Ideal.Value.run (F := Ideal)

/-- The kernel terminates without a fault, leaves its six arguments and every semaphore as it found them, at the bits. -/
theorem frame : Cert.quiescent_Kernel3 := fun m ρ _ => printed.frame m ρ
/-- The same at the extended reals. -/
theorem frameIdeal : Cert.quiescent_Kernel3Ideal := fun m ρ _ => printedIdeal.frame m ρ
/-- The reference runs on the host and leaves its arguments as it found them. -/
theorem frameRef : Cert.quiescent_Reference3Ideal := fun m ρ _ => refEnds.frame m ρ
/-- Of finite arguments the kernel's six results are the reference's. -/
theorem algebraic : Cert.algebraic_Kernel3Ideal_Reference3Ideal_pre_all_finite (hPre_all_finite := Finite.facts) :=
  haveI := Finite.facts
  fun m ρ m' ρ' hpre hag => printedIdeal.algebraic refEnds m ρ m' ρ' hpre hag

end Cert.HalfFFN.Half3

end
-- ==== Proof.Half2.lean ====
/- The first half layer of layer 1: the printed programs are the generic half layer at 2, and their claims. -/
module

public import proofs.«01_k».proof.Defs
public import proofs.«01_k».proof.Proof.Gen.Kernel2
public import proofs.«01_k».proof.Proof.Gen.Kernel2Ideal
public import proofs.«01_k».proof.Proof.Gen.Reference2Ideal.Run
public import proofs.«01_k».proof.Proof.Claims

@[expose] public section

set_option maxHeartbeats 8000000

noncomputable section

namespace Cert.HalfFFN.Half2

open Idealize.ShloMosaic Cert.HalfFFN

/-- The kernel at the bits is the half layer's text. -/
theorem printed : Printed (F := Bits) (H := ⟨2⟩) Cert.Kernel2.defs Cert.Kernel2.main :=
  .of (F := Bits) (H := ⟨2⟩) (D := @Cert.Kernel2.defs₀ Bits _ _ .tc) (fun _ => rfl) (fun _ => rfl) (fun _ => rfl) (fun _ => rfl) rfl

/-- So is the kernel at the extended reals. -/
theorem printedIdeal : Printed (F := Ideal) (H := ⟨2⟩) Cert.Kernel2Ideal.defs Cert.Kernel2Ideal.main :=
  .of (F := Ideal) (H := ⟨2⟩) (D := @Cert.Kernel2Ideal.defs₀ Ideal _ _ .tc) (fun _ => rfl) (fun _ => rfl) (fun _ => rfl) (fun _ => rfl) rfl

/-- The reference's results are the half layer's. -/
theorem refEnds : RefEnds (H := ⟨2⟩) Cert.Reference2Ideal.defs Cert.Reference2Ideal.main :=
  Cert.Reference2Ideal.Value.run (F := Ideal)

/-- The kernel terminates without a fault, leaves its six arguments and every semaphore as it found them, at the bits. -/
theorem frame : Cert.quiescent_Kernel2 := fun m ρ _ => printed.frame m ρ
/-- The same at the extended reals. -/
theorem frameIdeal : Cert.quiescent_Kernel2Ideal := fun m ρ _ => printedIdeal.frame m ρ
/-- The reference runs on the host and leaves its arguments as it found them. -/
theorem frameRef : Cert.quiescent_Reference2Ideal := fun m ρ _ => refEnds.frame m ρ
/-- Of finite arguments the kernel's six results are the reference's. -/
theorem algebraic : Cert.algebraic_Kernel2Ideal_Reference2Ideal_pre_all_finite (hPre_all_finite := Finite.facts) :=
  haveI := Finite.facts
  fun m ρ m' ρ' hpre hag => printedIdeal.algebraic refEnds m ρ m' ρ' hpre hag

end Cert.HalfFFN.Half2

end
-- ==== Proof.Half1.lean ====
/- The second half layer of layer 0: the printed programs are the generic half layer at 1, and their claims. -/
module

public import proofs.«01_k».proof.Defs
public import proofs.«01_k».proof.Proof.Gen.Kernel1
public import proofs.«01_k».proof.Proof.Gen.Kernel1Ideal
public import proofs.«01_k».proof.Proof.Gen.Reference1Ideal.Run
public import proofs.«01_k».proof.Proof.Claims

@[expose] public section

set_option maxHeartbeats 8000000

noncomputable section

namespace Cert.HalfFFN.Half1

open Idealize.ShloMosaic Cert.HalfFFN

/-- The kernel at the bits is the half layer's text. -/
theorem printed : Printed (F := Bits) (H := ⟨1⟩) Cert.Kernel1.defs Cert.Kernel1.main :=
  .of (F := Bits) (H := ⟨1⟩) (D := @Cert.Kernel1.defs₀ Bits _ _ .tc) (fun _ => rfl) (fun _ => rfl) (fun _ => rfl) (fun _ => rfl) rfl

/-- So is the kernel at the extended reals. -/
theorem printedIdeal : Printed (F := Ideal) (H := ⟨1⟩) Cert.Kernel1Ideal.defs Cert.Kernel1Ideal.main :=
  .of (F := Ideal) (H := ⟨1⟩) (D := @Cert.Kernel1Ideal.defs₀ Ideal _ _ .tc) (fun _ => rfl) (fun _ => rfl) (fun _ => rfl) (fun _ => rfl) rfl

/-- The reference's results are the half layer's. -/
theorem refEnds : RefEnds (H := ⟨1⟩) Cert.Reference1Ideal.defs Cert.Reference1Ideal.main :=
  Cert.Reference1Ideal.Value.run (F := Ideal)

/-- The kernel terminates without a fault, leaves its six arguments and every semaphore as it found them, at the bits. -/
theorem frame : Cert.quiescent_Kernel1 := fun m ρ _ => printed.frame m ρ
/-- The same at the extended reals. -/
theorem frameIdeal : Cert.quiescent_Kernel1Ideal := fun m ρ _ => printedIdeal.frame m ρ
/-- The reference runs on the host and leaves its arguments as it found them. -/
theorem frameRef : Cert.quiescent_Reference1Ideal := fun m ρ _ => refEnds.frame m ρ
/-- Of finite arguments the kernel's six results are the reference's. -/
theorem algebraic : Cert.algebraic_Kernel1Ideal_Reference1Ideal_pre_all_finite (hPre_all_finite := Finite.facts) :=
  haveI := Finite.facts
  fun m ρ m' ρ' hpre hag => printedIdeal.algebraic refEnds m ρ m' ρ' hpre hag

end Cert.HalfFFN.Half1

end
-- ==== Proof.Half0.lean ====
/- The first half layer of layer 0: the printed programs are the generic half layer at 0, and their claims. -/
module

public import proofs.«01_k».proof.Defs
public import proofs.«01_k».proof.Proof.Gen.Kernel0
public import proofs.«01_k».proof.Proof.Gen.Kernel0Ideal
public import proofs.«01_k».proof.Proof.Gen.Reference0Ideal.Run
public import proofs.«01_k».proof.Proof.Claims

@[expose] public section

set_option maxHeartbeats 8000000

noncomputable section

namespace Cert.HalfFFN.Half0

open Idealize.ShloMosaic Cert.HalfFFN

/-- The kernel at the bits is the half layer's text. -/
theorem printed : Printed (F := Bits) (H := ⟨0⟩) Cert.Kernel0.defs Cert.Kernel0.main :=
  .of (F := Bits) (H := ⟨0⟩) (D := @Cert.Kernel0.defs₀ Bits _ _ .tc) (fun _ => rfl) (fun _ => rfl) (fun _ => rfl) (fun _ => rfl) rfl

/-- So is the kernel at the extended reals. -/
theorem printedIdeal : Printed (F := Ideal) (H := ⟨0⟩) Cert.Kernel0Ideal.defs Cert.Kernel0Ideal.main :=
  .of (F := Ideal) (H := ⟨0⟩) (D := @Cert.Kernel0Ideal.defs₀ Ideal _ _ .tc) (fun _ => rfl) (fun _ => rfl) (fun _ => rfl) (fun _ => rfl) rfl

/-- The reference's results are the half layer's. -/
theorem refEnds : RefEnds (H := ⟨0⟩) Cert.Reference0Ideal.defs Cert.Reference0Ideal.main :=
  Cert.Reference0Ideal.Value.run (F := Ideal)

/-- The kernel terminates without a fault, leaves its six arguments and every semaphore as it found them, at the bits. -/
theorem frame : Cert.quiescent_Kernel0 := fun m ρ _ => printed.frame m ρ
/-- The same at the extended reals. -/
theorem frameIdeal : Cert.quiescent_Kernel0Ideal := fun m ρ _ => printedIdeal.frame m ρ
/-- The reference runs on the host and leaves its arguments as it found them. -/
theorem frameRef : Cert.quiescent_Reference0Ideal := fun m ρ _ => refEnds.frame m ρ
/-- Of finite arguments the kernel's six results are the reference's. -/
theorem algebraic : Cert.algebraic_Kernel0Ideal_Reference0Ideal_pre_all_finite (hPre_all_finite := Finite.facts) :=
  haveI := Finite.facts
  fun m ρ m' ρ' hpre hag => printedIdeal.algebraic refEnds m ρ m' ρ' hpre hag

end Cert.HalfFFN.Half0

end
-- ==== Proof.LossBody.lean ====
/- What one grid point of the loss head leaves in its three result buffers, as functions of the blocks it reads. -/
module

public import proofs.«01_k».proof.Proof.Gen.KernelLossIdeal.Value

@[expose] public section

set_option maxHeartbeats 1000000

noncomputable section

namespace Cert.LossHead

open Idealize.ShloMosaic Idealize.ShloMosaic.TcCoe Cert.KernelLossIdeal Cert.KernelLossIdeal.Gen

variable {F : FTy → Type} [FloatOps F]

theorem hz2 : (![0, 0] : Fin 2 → Nat) = fun _ => 0 := by funext a; fin_cases a <;> rfl

/-- The loss so far and a tile's share of it. -/
abbrev lossAdd (x : Vec F S512x1024 .f32) (g : Vec F S1x1024 .f32) (y : Vec F S512x1024 .f32) (a : Vec F S8x128 .f32) : Vec F S8x128 .f32 :=
  k0_pay9 x g y a
/-- A tile's rows' cotangent. -/
abbrev lossDx (x : Vec F S512x1024 .f32) (g : Vec F S1x1024 .f32) (y : Vec F S512x1024 .f32) : Vec F S512x1024 .f32 :=
  k0_pay3 x (k0_pay7 g) (k0_pay10 x g y) (k0_pay11 x) k0_pay12
/-- The scale's gradient so far and a tile's share of it. -/
abbrev lossDg (x : Vec F S512x1024 .f32) (g : Vec F S1x1024 .f32) (y : Vec F S512x1024 .f32) (a : Vec F S1x1024 .f32) : Vec F S1x1024 .f32 :=
  k0_pay4 x (k0_pay10 x g y) (k0_pay11 x) k0_pay12 a

/-- At the first point, the loss's buffer. -/
theorem out_A_3 (c : Dev nD) (i : grid0.Coords) (a1 : Memref sig .tc .vmem S512x1024 .f32) (h1 : a1.IsWhole) (a2 : Memref sig .tc .vmem S1x1024 .f32) (h2 : a2.IsWhole)
    (a3 : Memref sig .tc .vmem S512x1024 .f32) (h3 : a3.IsWhole) (a4 : Memref sig .tc .vmem S8x128 .f32) (h4 : a4.IsWhole)
    (a5 : Memref sig .tc .vmem S512x1024 .f32) (h5 : a5.IsWhole) (a6 : Memref sig .tc .vmem S1x1024 .f32) (h6 : a6.IsWhole)
    (hc : cond0_0 i) (x : Vec F S512x1024 .f32) (g : Vec F S1x1024 .f32) (y : Vec F S512x1024 .f32) :
    out0_A_3 c i a1 h1 a2 h2 a3 h3 a4 h4 a5 h5 a6 h6 hc x g y = lossAdd x g y (k0_pay5 (F := F)) := by
  unfold out0_A_3
  rw [View.read_writes_eq_canon _ _ _ (cover0_A_3 c i a1 h1 a2 h2 a3 h3 a4 h4 a5 h5 a6 h6 hc x g y)]
  unfold kernelRun0_A
  dsimp only
  sl_unfold_words
  rw [View.canon_cons_unit_zero (S := S8x128) hz2]
  simp only [View.readAt_eq_ld, h1.read_unread, h2.read_unread, h3.read_unread, h4.read_unread, h6.read_unread,
    View.ld_unit_zero (S := S512x1024) hz2, View.ld_unit_zero (S := S1x1024) hz2, View.ld_unit_zero (S := S8x128) hz2,
    View.readCov_unit_zero (S := S1x1024) _ hz2, View.readCov_unit_zero (S := S8x128) _ hz2]

/-- At the first point, the rows' cotangent's buffer. -/
theorem out_A_4 (c : Dev nD) (i : grid0.Coords) (a1 : Memref sig .tc .vmem S512x1024 .f32) (h1 : a1.IsWhole) (a2 : Memref sig .tc .vmem S1x1024 .f32) (h2 : a2.IsWhole)
    (a3 : Memref sig .tc .vmem S512x1024 .f32) (h3 : a3.IsWhole) (a4 : Memref sig .tc .vmem S8x128 .f32) (h4 : a4.IsWhole)
    (a5 : Memref sig .tc .vmem S512x1024 .f32) (h5 : a5.IsWhole) (a6 : Memref sig .tc .vmem S1x1024 .f32) (h6 : a6.IsWhole)
    (hc : cond0_0 i) (x : Vec F S512x1024 .f32) (g : Vec F S1x1024 .f32) (y : Vec F S512x1024 .f32) :
    out0_A_4 c i a1 h1 a2 h2 a3 h3 a4 h4 a5 h5 a6 h6 hc x g y = lossDx x g y := by
  unfold out0_A_4
  rw [View.read_writes_eq_canon _ _ _ (cover0_A_4 c i a1 h1 a2 h2 a3 h3 a4 h4 a5 h5 a6 h6 hc x g y)]
  unfold kernelRun0_A
  dsimp only
  sl_unfold_words
  rw [View.canon_unit_zero (S := S512x1024) hz2]
  simp only [View.readAt_eq_ld, h1.read_unread, h2.read_unread, h3.read_unread, h4.read_unread, h6.read_unread,
    View.ld_unit_zero (S := S512x1024) hz2, View.ld_unit_zero (S := S1x1024) hz2, View.ld_unit_zero (S := S8x128) hz2,
    View.readCov_unit_zero (S := S1x1024) _ hz2, View.readCov_unit_zero (S := S8x128) _ hz2]

/-- At the first point, the scale's gradient's buffer. -/
theorem out_A_5 (c : Dev nD) (i : grid0.Coords) (a1 : Memref sig .tc .vmem S512x1024 .f32) (h1 : a1.IsWhole) (a2 : Memref sig .tc .vmem S1x1024 .f32) (h2 : a2.IsWhole)
    (a3 : Memref sig .tc .vmem S512x1024 .f32) (h3 : a3.IsWhole) (a4 : Memref sig .tc .vmem S8x128 .f32) (h4 : a4.IsWhole)
    (a5 : Memref sig .tc .vmem S512x1024 .f32) (h5 : a5.IsWhole) (a6 : Memref sig .tc .vmem S1x1024 .f32) (h6 : a6.IsWhole)
    (hc : cond0_0 i) (x : Vec F S512x1024 .f32) (g : Vec F S1x1024 .f32) (y : Vec F S512x1024 .f32) :
    out0_A_5 c i a1 h1 a2 h2 a3 h3 a4 h4 a5 h5 a6 h6 hc x g y = lossDg x g y (k0_pay6 (F := F)) := by
  unfold out0_A_5
  rw [View.read_writes_eq_canon _ _ _ (cover0_A_5 c i a1 h1 a2 h2 a3 h3 a4 h4 a5 h5 a6 h6 hc x g y)]
  unfold kernelRun0_A
  dsimp only
  sl_unfold_words
  rw [View.canon_cons_unit_zero (S := S1x1024) hz2]
  simp only [View.readAt_eq_ld, h1.read_unread, h2.read_unread, h3.read_unread, h4.read_unread, h6.read_unread,
    View.ld_unit_zero (S := S512x1024) hz2, View.ld_unit_zero (S := S1x1024) hz2, View.ld_unit_zero (S := S8x128) hz2,
    View.readCov_unit_zero (S := S1x1024) _ hz2, View.readCov_unit_zero (S := S8x128) _ hz2]

/-- At a later point, the loss's buffer. -/
theorem out_B_3 (c : Dev nD) (i : grid0.Coords) (a1 : Memref sig .tc .vmem S512x1024 .f32) (h1 : a1.IsWhole) (a2 : Memref sig .tc .vmem S1x1024 .f32) (h2 : a2.IsWhole)
    (a3 : Memref sig .tc .vmem S512x1024 .f32) (h3 : a3.IsWhole) (a4 : Memref sig .tc .vmem S8x128 .f32) (h4 : a4.IsWhole)
    (a5 : Memref sig .tc .vmem S512x1024 .f32) (h5 : a5.IsWhole) (a6 : Memref sig .tc .vmem S1x1024 .f32) (h6 : a6.IsWhole)
    (hc : ¬cond0_0 i) (x : Vec F S512x1024 .f32) (g : Vec F S1x1024 .f32) (y : Vec F S512x1024 .f32) (xo3 : Vec F S8x128 .f32) (xo5 : Vec F S1x1024 .f32) :
    out0_B_3 c i a1 h1 a2 h2 a3 h3 a4 h4 a5 h5 a6 h6 hc x g y xo3 xo5 = lossAdd x g y xo3 := by
  unfold out0_B_3
  rw [View.read_writes_eq_canon _ _ _ (cover0_B_3 c i a1 h1 a2 h2 a3 h3 a4 h4 a5 h5 a6 h6 hc x g y xo3 xo5)]
  unfold kernelRun0_B
  dsimp only
  sl_unfold_words
  rw [View.canon_unit_zero (S := S8x128) hz2]
  simp only [View.readAt_eq_ld, h1.read_unread, h2.read_unread, h3.read_unread, h4.read_unread, h6.read_unread,
    View.ld_unit_zero (S := S512x1024) hz2, View.ld_unit_zero (S := S1x1024) hz2, View.ld_unit_zero (S := S8x128) hz2,
    View.readCov_unit_zero (S := S1x1024) _ hz2, View.readCov_unit_zero (S := S8x128) _ hz2]

/-- At a later point, the rows' cotangent's buffer. -/
theorem out_B_4 (c : Dev nD) (i : grid0.Coords) (a1 : Memref sig .tc .vmem S512x1024 .f32) (h1 : a1.IsWhole) (a2 : Memref sig .tc .vmem S1x1024 .f32) (h2 : a2.IsWhole)
    (a3 : Memref sig .tc .vmem S512x1024 .f32) (h3 : a3.IsWhole) (a4 : Memref sig .tc .vmem S8x128 .f32) (h4 : a4.IsWhole)
    (a5 : Memref sig .tc .vmem S512x1024 .f32) (h5 : a5.IsWhole) (a6 : Memref sig .tc .vmem S1x1024 .f32) (h6 : a6.IsWhole)
    (hc : ¬cond0_0 i) (x : Vec F S512x1024 .f32) (g : Vec F S1x1024 .f32) (y : Vec F S512x1024 .f32) (xo3 : Vec F S8x128 .f32) (xo5 : Vec F S1x1024 .f32) :
    out0_B_4 c i a1 h1 a2 h2 a3 h3 a4 h4 a5 h5 a6 h6 hc x g y xo3 xo5 = lossDx x g y := by
  unfold out0_B_4
  rw [View.read_writes_eq_canon _ _ _ (cover0_B_4 c i a1 h1 a2 h2 a3 h3 a4 h4 a5 h5 a6 h6 hc x g y xo3 xo5)]
  unfold kernelRun0_B
  dsimp only
  sl_unfold_words
  rw [View.canon_unit_zero (S := S512x1024) hz2]
  simp only [View.readAt_eq_ld, h1.read_unread, h2.read_unread, h3.read_unread, h4.read_unread, h6.read_unread,
    View.ld_unit_zero (S := S512x1024) hz2, View.ld_unit_zero (S := S1x1024) hz2, View.ld_unit_zero (S := S8x128) hz2,
    View.readCov_unit_zero (S := S1x1024) _ hz2, View.readCov_unit_zero (S := S8x128) _ hz2]

/-- At a later point, the scale's gradient's buffer. -/
theorem out_B_5 (c : Dev nD) (i : grid0.Coords) (a1 : Memref sig .tc .vmem S512x1024 .f32) (h1 : a1.IsWhole) (a2 : Memref sig .tc .vmem S1x1024 .f32) (h2 : a2.IsWhole)
    (a3 : Memref sig .tc .vmem S512x1024 .f32) (h3 : a3.IsWhole) (a4 : Memref sig .tc .vmem S8x128 .f32) (h4 : a4.IsWhole)
    (a5 : Memref sig .tc .vmem S512x1024 .f32) (h5 : a5.IsWhole) (a6 : Memref sig .tc .vmem S1x1024 .f32) (h6 : a6.IsWhole)
    (hc : ¬cond0_0 i) (x : Vec F S512x1024 .f32) (g : Vec F S1x1024 .f32) (y : Vec F S512x1024 .f32) (xo3 : Vec F S8x128 .f32) (xo5 : Vec F S1x1024 .f32) :
    out0_B_5 c i a1 h1 a2 h2 a3 h3 a4 h4 a5 h5 a6 h6 hc x g y xo3 xo5 = lossDg x g y xo5 := by
  unfold out0_B_5
  rw [View.read_writes_eq_canon _ _ _ (cover0_B_5 c i a1 h1 a2 h2 a3 h3 a4 h4 a5 h5 a6 h6 hc x g y xo3 xo5)]
  unfold kernelRun0_B
  dsimp only
  sl_unfold_words
  rw [View.canon_unit_zero (S := S1x1024) hz2]
  simp only [View.readAt_eq_ld, h1.read_unread, h2.read_unread, h3.read_unread, h4.read_unread, h6.read_unread,
    View.ld_unit_zero (S := S512x1024) hz2, View.ld_unit_zero (S := S1x1024) hz2, View.ld_unit_zero (S := S8x128) hz2,
    View.readCov_unit_zero (S := S1x1024) _ hz2, View.readCov_unit_zero (S := S8x128) _ hz2]

end Cert.LossHead

end
-- ==== Proof.LossValue.lean ====
/- What the loss head leaves in its three result arrays, at an index, as functions of its arguments. -/
module

public import proofs.«01_k».proof.Proof.LossBody
public import proofs.«01_k».proof.Proof.Math
public import Idealize.ShloMosaic.Lib.Pipeline.ValueKit.Geometry
public import Idealize.ShloMosaic.Lib.Pipeline.ValueKit.Point

@[expose] public section

set_option maxHeartbeats 1000000

noncomputable section

namespace Cert.LossHead

open Idealize.ShloMosaic Idealize.ShloMosaic.TcCoe Idealize.ShloMosaic.Tactic Cert.KernelLossIdeal Cert.KernelLossIdeal.Gen
open Cert.HalfFFN (cWidth cEps rinv hN)

/-- The reciprocal of twice the width, as the kernel's constant. -/
abbrev cMean : EReal := Ideal.ofBits FTy.f32 0x3A000000#32
/-- The reciprocal of the width, as the kernel's constant. -/
abbrev cInv : EReal := Ideal.ofBits FTy.f32 0x3A800000#32

/-! ### The body's values at an index -/

theorem pay8_at (x : Vec Ideal S512x1024 .f32) (g : Vec Ideal S1x1024 .f32) (y : Vec Ideal S512x1024 .f32) (r : Fin 512) (l : Fin 1024) :
    k0_pay8 x g y (ix2 r l) = x (ix2 r l) * Ideal.rsqrt (Ideal.div (∑ k, x (ix2 r k) * x (ix2 r k)) cWidth + cEps) * g (ix2 0 l) - y (ix2 r l) := by
  pointwise [k0_pay8, k0_pay7]
theorem pay9_at (x : Vec Ideal S512x1024 .f32) (g : Vec Ideal S1x1024 .f32) (y : Vec Ideal S512x1024 .f32) (a : Vec Ideal S8x128 .f32)
    (p : Fin 8) (q : Fin 128) :
    k0_pay9 x g y a (ix2 p q) = a (ix2 p q) + cMean * ∑ r : Fin 512, ∑ l : Fin 1024, k0_pay8 x g y (ix2 r l) * k0_pay8 x g y (ix2 r l) := by
  pointwise [k0_pay9]
theorem lossAdd_at (x : Vec Ideal S512x1024 .f32) (g : Vec Ideal S1x1024 .f32) (y : Vec Ideal S512x1024 .f32) (a : Vec Ideal S8x128 .f32)
    (p : Fin 8) (q : Fin 128) :
    lossAdd x g y a (ix2 p q) = a (ix2 p q) + cMean * ∑ r : Fin 512, ∑ l : Fin 1024, k0_pay8 x g y (ix2 r l) * k0_pay8 x g y (ix2 r l) :=
  pay9_at x g y a p q
theorem pay1_at (x : Vec Ideal S512x1024 .f32) (r : Fin 512) (z : Fin 1) :
    k0_pay1 (k0_pay11 x) k0_pay12 (ix2 r z) = Ideal.rsqrt (Ideal.div (∑ k, x (ix2 r k) * x (ix2 r k)) cWidth + cEps) := by
  pointwise [k0_pay1, k0_pay11, k0_pay12]
theorem pay2_at (x : Vec Ideal S512x1024 .f32) (r : Fin 512) (l : Fin 1024) :
    k0_pay2 x (k0_pay11 x) k0_pay12 (ix2 r l) = x (ix2 r l) * k0_pay1 (k0_pay11 x) k0_pay12 (ix2 r 0) := by
  pointwise [k0_pay2]
theorem pay10_at (x : Vec Ideal S512x1024 .f32) (g : Vec Ideal S1x1024 .f32) (y : Vec Ideal S512x1024 .f32) (r : Fin 512) (l : Fin 1024) :
    k0_pay10 x g y (ix2 r l) = k0_pay8 x g y (ix2 r l) * cInv := by
  pointwise [k0_pay10]
theorem lossDx_at (x : Vec Ideal S512x1024 .f32) (g : Vec Ideal S1x1024 .f32) (y : Vec Ideal S512x1024 .f32) (r : Fin 512) (l : Fin 1024) :
    lossDx x g y (ix2 r l) = k0_pay1 (k0_pay11 x) k0_pay12 (ix2 r 0) * (k0_pay10 x g y (ix2 r l) * g (ix2 0 l)
      - k0_pay2 x (k0_pay11 x) k0_pay12 (ix2 r l)
        * Ideal.div (∑ k, k0_pay10 x g y (ix2 r k) * g (ix2 0 k) * k0_pay2 x (k0_pay11 x) k0_pay12 (ix2 r k)) cWidth) := by
  unfold lossDx; pointwise [k0_pay3, k0_pay7]
theorem lossDg_at (x : Vec Ideal S512x1024 .f32) (g : Vec Ideal S1x1024 .f32) (y : Vec Ideal S512x1024 .f32) (a : Vec Ideal S1x1024 .f32)
    (z : Fin 1) (l : Fin 1024) :
    lossDg x g y a (ix2 z l) = a (ix2 z l) + ∑ r : Fin 512, k0_pay10 x g y (ix2 r l) * k0_pay2 x (k0_pay11 x) k0_pay12 (ix2 r l) := by
  unfold lossDg; pointwise [k0_pay4]
theorem pay5_at (p : Fin 8) (q : Fin 128) : k0_pay5 (F := Ideal) (ix2 p q) = 0 := by
  pointwise [k0_pay5]
theorem pay6_at (z : Fin 1) (l : Fin 1024) : k0_pay6 (F := Ideal) (ix2 z l) = 0 := by
  pointwise [k0_pay6]

/-- A sum accumulated over every point. -/
theorem acc_sum {N : ℕ} (a : (n : ℕ) → n < N → EReal) (T : Fin N → EReal) (h0 : ∀ h, a 0 h = T ⟨0, h⟩)
    (h1 : ∀ (n : ℕ) (h : n + 1 < N), a (n + 1) h = a n (Nat.lt_of_succ_lt h) + T ⟨n + 1, h⟩) :
    ∀ (n : ℕ) (h : n < N), a n h = ∑ i : Fin (n + 1), T ⟨i.val, by omega⟩ := by
  intro n
  induction n with
  | zero => intro h; rw [h0, Fin.sum_univ_one]; rfl
  | succ n ih =>
    intro h
    rw [h1, ih]
    exact (Fin.sum_univ_castSucc fun i : Fin (n + 1 + 1) => T ⟨i.val, by omega⟩).symm

/-! ### The blocks at an index -/

/-- The row that place `r` of point `t`'s tile holds. -/
def lrow (t : Fin cfg0.N) (r : Fin 512) : Fin 8192 := ⟨t.val * 512 + r.val, by have h : t.val < 16 := t.isLt; omega⟩

/-- A sum over the rows, tile by tile. -/
theorem sum_rows (f : Fin 8192 → EReal) : ∑ R, f R = ∑ t : Fin 16, ∑ r : Fin 512, f (lrow t r) :=
  Fin.sum_univ_tiles 16 512 rfl f

theorem e0 : ∀ t : Fin cfg0.N, win0_0.index t = ![t.val, 0] := (by decide +kernel : ∀ t : Fin grid0.N, win0_0.index t = ![t.val, 0])
theorem e1 : ∀ t : Fin cfg0.N, win0_1.index t = ![0, 0] := (by decide +kernel : ∀ t : Fin grid0.N, win0_1.index t = ![0, 0])
theorem e2 : ∀ t : Fin cfg0.N, win0_2.index t = ![t.val, 0] := (by decide +kernel : ∀ t : Fin grid0.N, win0_2.index t = ![t.val, 0])
theorem e3 : ∀ t : Fin cfg0.N, win0_3.index t = ![0, 0] := (by decide +kernel : ∀ t : Fin grid0.N, win0_3.index t = ![0, 0])
theorem e4 : ∀ t : Fin cfg0.N, win0_4.index t = ![t.val, 0] := (by decide +kernel : ∀ t : Fin grid0.N, win0_4.index t = ![t.val, 0])
theorem e5 : ∀ t : Fin cfg0.N, win0_5.index t = ![0, 0] := (by decide +kernel : ∀ t : Fin grid0.N, win0_5.index t = ![0, 0])

/-! ### What the kernel computes, as functions of real (extended real) matrices -/

section
variable (X : Fin 8192 → Fin 1024 → EReal) (g : Fin 1024 → EReal) (Y : Fin 8192 → Fin 1024 → EReal)

/-- The error: the normalised row less the target. -/
def err (r : Fin 8192) (l : Fin 1024) : EReal := hN X g r l - Y r l
/-- The loss, tile by tile. -/
def kLoss : EReal := ∑ t : Fin 16, cMean * ∑ r : Fin 512, ∑ l : Fin 1024, err X g Y (lrow t r) l * err X g Y (lrow t r) l
/-- The rows' cotangent. -/
def kDx (r : Fin 8192) (l : Fin 1024) : EReal :=
  rinv X r * (err X g Y r l * cInv * g l
    - X r l * rinv X r * Ideal.div (∑ k, err X g Y r k * cInv * g k * (X r k * rinv X r)) cWidth)
/-- The scale's gradient. -/
def kDg (l : Fin 1024) : EReal := ∑ r, err X g Y r l * cInv * (X r l * rinv X r)
end

section
variable (m : (ℓ : Loc nD τ sig) → Buf (Elt Ideal) ℓ) (c : Dev nD)

/-- The rows. -/
abbrev X (r : Fin 8192) (l : Fin 1024) : EReal := m ((c : Thread nD τ).loc main_arg0) (ix2 r l)
/-- The scale. -/
abbrev G (l : Fin 1024) : EReal := m ((c : Thread nD τ).loc main_arg1) (ix1 l)
/-- The targets. -/
abbrev Y (r : Fin 8192) (l : Fin 1024) : EReal := m ((c : Thread nD τ).loc main_arg2) (ix2 r l)

theorem blk_x (t : Fin cfg0.N) (r : Fin 512) (l : Fin 1024) : iblk m c 0 t (ix2 r l) = X m c (lrow t r) l := by
  blk_ext! [iblk, V, e0, lrow]
theorem blk_g (t : Fin cfg0.N) (z : Fin 1) (l : Fin 1024) : iblk m c 1 t (ix2 z l) = G m c l := by
  blk_ext! [iblk, V, e1]
theorem blk_y (t : Fin cfg0.N) (r : Fin 512) (l : Fin 1024) : iblk m c 2 t (ix2 r l) = Y m c (lrow t r) l := by
  blk_ext! [iblk, V, e2, lrow]

theorem err_at (t : Fin cfg0.N) (r : Fin 512) (l : Fin 1024) :
    k0_pay8 (iblk m c 0 t) (iblk m c 1 t) (iblk m c 2 t) (ix2 r l) = err (X m c) (G m c) (Y m c) (lrow t r) l := by
  rw [pay8_at]
  simp only [blk_x, blk_g, blk_y]
  rfl
theorem scaled_at (t : Fin cfg0.N) (r : Fin 512) (l : Fin 1024) :
    k0_pay10 (iblk m c 0 t) (iblk m c 1 t) (iblk m c 2 t) (ix2 r l) = err (X m c) (G m c) (Y m c) (lrow t r) l * cInv := by
  rw [pay10_at, err_at]
theorem rinv_at (t : Fin cfg0.N) (r : Fin 512) (z : Fin 1) :
    k0_pay1 (k0_pay11 (iblk m c 0 t)) k0_pay12 (ix2 r z) = rinv (X m c) (lrow t r) := by
  rw [pay1_at]
  simp only [blk_x]
  rfl
theorem unit_at (t : Fin cfg0.N) (r : Fin 512) (l : Fin 1024) :
    k0_pay2 (iblk m c 0 t) (k0_pay11 (iblk m c 0 t)) k0_pay12 (ix2 r l) = X m c (lrow t r) l * rinv (X m c) (lrow t r) := by
  rw [pay2_at, rinv_at, blk_x]

/-! ### The three result arrays -/

theorem loss_first (t : Fin cfg0.N) (h : t.val % 16 = 0) :
    (outsAt0 m c t.val t.isLt).1 = lossAdd (iblk m c 0 t) (iblk m c 1 t) (iblk m c 2 t) (k0_pay5 (F := Ideal)) := by
  rw [outsAt0_A m c t h]; dsimp only; exact out_A_3 (F := Ideal) ..
theorem loss_next (t : Fin cfg0.N) (h : ¬t.val % 16 = 0) :
    (outsAt0 m c t.val t.isLt).1 = lossAdd (iblk m c 0 t) (iblk m c 1 t) (iblk m c 2 t)
      (outsAt0 m c (t.val - 1) (Nat.lt_of_le_of_lt (Nat.sub_le _ _) t.isLt)).1 := by
  rw [outsAt0_B m c t h]; dsimp only; exact out_B_3 (F := Ideal) ..
theorem dx_each (t : Fin cfg0.N) :
    (outsAt0 m c t.val t.isLt).2.1 = lossDx (iblk m c 0 t) (iblk m c 1 t) (iblk m c 2 t) := by
  by_cases h : t.val % 16 = 0
  · rw [outsAt0_A m c t h]; dsimp only; exact out_A_4 (F := Ideal) ..
  · rw [outsAt0_B m c t h]; dsimp only; exact out_B_4 (F := Ideal) ..
theorem dg_first (t : Fin cfg0.N) (h : t.val % 16 = 0) :
    (outsAt0 m c t.val t.isLt).2.2 = lossDg (iblk m c 0 t) (iblk m c 1 t) (iblk m c 2 t) (k0_pay6 (F := Ideal)) := by
  rw [outsAt0_A m c t h]; dsimp only; exact out_A_5 (F := Ideal) ..
theorem dg_next (t : Fin cfg0.N) (h : ¬t.val % 16 = 0) :
    (outsAt0 m c t.val t.isLt).2.2 = lossDg (iblk m c 0 t) (iblk m c 1 t) (iblk m c 2 t)
      (outsAt0 m c (t.val - 1) (Nat.lt_of_le_of_lt (Nat.sub_le _ _) t.isLt)).2.2 := by
  rw [outsAt0_B m c t h]; dsimp only; exact out_B_5 (F := Ideal) ..

theorem point_lt (t : Fin cfg0.N) : t.val < 16 := t.isLt

theorem loss_last (t : Fin cfg0.N) (ht : t.val % 16 = 15) (p : Fin 8) (q : Fin 128) :
    (outsAt0 m c t.val t.isLt).1 (ix2 p q) = kLoss (X m c) (G m c) (Y m c) := by
  have e : t = (15 : Fin 16) := Fin.ext (by have := point_lt t; show t.val = 15; omega)
  subst e
  refine (acc_sum (fun n h => (outsAt0 m c n h).1 (ix2 p q)) (fun t => cMean * ∑ r : Fin 512, ∑ l : Fin 1024,
    err (X m c) (G m c) (Y m c) (lrow t r) l * err (X m c) (G m c) (Y m c) (lrow t r) l) (fun h => ?_) (fun n h => ?_) 15 _).trans rfl
  · rw [loss_first m c ⟨0, h⟩ rfl, lossAdd_at, pay5_at, zero_add]
    simp only [err_at]
  · rw [loss_next m c ⟨n + 1, h⟩ (by have := point_lt ⟨n + 1, h⟩; dsimp only at this ⊢; omega), lossAdd_at]
    simp only [err_at]
    rfl

theorem dg_last (t : Fin cfg0.N) (ht : t.val % 16 = 15) (z : Fin 1) (l : Fin 1024) :
    (outsAt0 m c t.val t.isLt).2.2 (ix2 z l) = kDg (X m c) (G m c) (Y m c) l := by
  have e : t = (15 : Fin 16) := Fin.ext (by have := point_lt t; show t.val = 15; omega)
  subst e
  refine (acc_sum (fun n h => (outsAt0 m c n h).2.2 (ix2 z l)) (fun t => ∑ r : Fin 512,
    err (X m c) (G m c) (Y m c) (lrow t r) l * cInv * (X m c (lrow t r) l * rinv (X m c) (lrow t r))) (fun h => ?_) (fun n h => ?_) 15 _).trans
    (sum_rows fun R => err (X m c) (G m c) (Y m c) R l * cInv * (X m c R l * rinv (X m c) R)).symm
  · rw [dg_first m c ⟨0, h⟩ rfl, lossDg_at, pay6_at, zero_add]
    simp only [scaled_at, unit_at]
  · rw [dg_next m c ⟨n + 1, h⟩ (by have := point_lt ⟨n + 1, h⟩; dsimp only at this ⊢; omega), lossDg_at]
    simp only [scaled_at, unit_at]
    rfl

/-- The loss, in every place of its array. -/
theorem loss_final : (dats m 0 c).arrAt 3 cfg0.N = fun _ => kLoss (X m c) (G m c) (Y m c) := by
  refine (dats m 0 c).arrAt_eq_of_covers 3 _ (show win0_3.Covers by decide +kernel) fun t hf y => ?_
  blk_simp
  rw [after0_3]
  obtain ⟨p, q, rfl⟩ : ∃ (p : Fin 8) (q : Fin 128), y = ix2 p q := ⟨y 0, y 1, eq_ix2 (n0 := 8) (n1 := 128) y⟩
  exact loss_last m c t ((flush0_3 t).1 hf) p q

/-- The rows' cotangent, whole. -/
theorem dx_final : (dats m 0 c).arrAt 4 cfg0.N = fun i => kDx (X m c) (G m c) (Y m c) (i (0 : Fin 2)) (i (1 : Fin 2)) := by
  refine (dats m 0 c).arrAt_eq_of_covers 4 _ (show win0_4.Covers by decide +kernel) fun t hf y => ?_
  blk_simp
  rw [after0_4, dx_each]
  obtain ⟨p, q, rfl⟩ : ∃ (p : Fin 512) (q : Fin 1024), y = ix2 p q := ⟨y 0, y 1, eq_ix2 (n0 := 512) (n1 := 1024) y⟩
  have i0 : ((win0_4.blk t).view.emb (ix2 p q)) (0 : Fin 2) = lrow t p := by
    apply Fin.ext; blk_simp [e4, lrow]
  have i1 : ((win0_4.blk t).view.emb (ix2 p q)) (1 : Fin 2) = q := by
    apply Fin.ext; blk_simp [e4]
  rw [i0, i1]
  change lossDx _ _ _ (ix2 p q) = _
  rw [lossDx_at]
  simp only [rinv_at, scaled_at, unit_at, blk_g]
  rfl

/-- The scale's gradient, whole. -/
theorem dg_final : (dats m 0 c).arrAt 5 cfg0.N = fun i => kDg (X m c) (G m c) (Y m c) (i (1 : Fin 2)) := by
  refine (dats m 0 c).arrAt_eq_of_covers 5 _ (show win0_5.Covers by decide +kernel) fun t hf y => ?_
  blk_simp
  rw [after0_5]
  obtain ⟨z, q, rfl⟩ : ∃ (z : Fin 1) (q : Fin 1024), y = ix2 z q := ⟨y 0, y 1, eq_ix2 (n0 := 1) (n1 := 1024) y⟩
  have i1 : ((win0_5.blk t).view.emb (ix2 z q)) (1 : Fin 2) = q := by
    apply Fin.ext; blk_simp [e5]
  rw [i1]
  exact dg_last m c t ((flush0_5 t).1 hf) z q
end

end Cert.LossHead

end
-- ==== Proof.LossRef.lean ====
/- The stages of the loss head's reference at an index, as functions of real (extended real) matrices. -/
module

public import proofs.«01_k».proof.Proof.Gen.ReferenceLossIdeal.Read
public import proofs.«01_k».proof.Proof.LossValue

@[expose] public section

set_option maxHeartbeats 1000000

noncomputable section

namespace Cert.LossHead.Ref

open Idealize.ShloMosaic Cert.ReferenceLossIdeal Cert.ReferenceLossIdeal.Gen Cert.ReferenceLossIdeal.Read Cert.LossHead
open Cert.HalfFFN (cWidth cEps cHalf rinv hN)

abbrev A0 := (⟨S8192x1024, .f32⟩ : BufTy).Contents (Elt Ideal)
abbrev A1 := (⟨S1024, .f32⟩ : BufTy).Contents (Elt Ideal)

/-- A matrix read off an array of its shape. -/
abbrev mat (x : A0) (r : Fin 8192) (l : Fin 1024) : EReal := x (ix2 r l)
/-- A row read off an array of its shape. -/
abbrev vec (x : A1) (l : Fin 1024) : EReal := x (ix1 l)
/-- Two, one and minus one half, as the reference's constants. -/
abbrev cTwo : EReal := Ideal.ofBits FTy.f32 0x40000000#32
abbrev cOne : EReal := Ideal.ofBits FTy.f32 0x3F800000#32
abbrev cNeg : EReal := Ideal.ofBits FTy.f32 0xBF000000#32

/-- The loss, as the reference computes it. -/
def rLoss (X : Fin 8192 → Fin 1024 → EReal) (g : Fin 1024 → EReal) (Y : Fin 8192 → Fin 1024 → EReal) : EReal :=
  cHalf * ∑ r, Ideal.div (∑ l, err X g Y r l * err X g Y r l) cWidth
/-- The normalised rows' cotangent. -/
def rDh (X : Fin 8192 → Fin 1024 → EReal) (g : Fin 1024 → EReal) (Y : Fin 8192 → Fin 1024 → EReal) (r : Fin 8192) (l : Fin 1024) : EReal :=
  Ideal.div (cHalf * cOne) cWidth * (cTwo * err X g Y r l)
/-- The cotangent of the mean square's sum. -/
def rDs (X : Fin 8192 → Fin 1024 → EReal) (g : Fin 1024 → EReal) (Y : Fin 8192 → Fin 1024 → EReal) (r : Fin 8192) : EReal :=
  Ideal.div ((∑ l, X r l * (rDh X g Y r l * g l)) * (cNeg * Ideal.div (rinv X r) (Ideal.div (∑ k, X r k * X r k) cWidth + cEps))) cWidth
/-- The rows' cotangent. -/
def rDx (X : Fin 8192 → Fin 1024 → EReal) (g : Fin 1024 → EReal) (Y : Fin 8192 → Fin 1024 → EReal) (r : Fin 8192) (l : Fin 1024) : EReal :=
  rDh X g Y r l * g l * rinv X r + X r l * rDs X g Y r + rDs X g Y r * X r l

variable (x0 : A0) (x1 : A1) (x2 : A0)

theorem v6_at (r : Fin 8192) (z : Fin 1) : val_main_v6 (F := Ideal) x0 (ix2 r z) = Ideal.div (∑ k, mat x0 r k * mat x0 r k) cWidth + cEps := by
  pointwise [val_main_v6, val_main_v5, val_main_cst_1, val_main_v4, val_main_v3, val_main_cst_0, val_main_v2, val_main_v1, val_main_cst, val_main_v0]
theorem v7_at (r : Fin 8192) (z : Fin 1) : val_main_v7 (F := Ideal) x0 (ix2 r z) = rinv (mat x0) r := by
  unfold rinv; rw [← v6_at x0 r z]; pointwise [val_main_v7]
theorem v10_at (r : Fin 8192) (z : Fin 1) : val_main_v10 (F := Ideal) x0 (ix2 r z)
    = cNeg * Ideal.div (rinv (mat x0) r) (Ideal.div (∑ k, mat x0 r k * mat x0 r k) cWidth + cEps) := by
  rw [← v6_at x0 r z, ← v7_at x0 r z]; pointwise [val_main_v10, val_main_v9, val_main_cst_2, val_main_v8]
theorem v12_at (r : Fin 8192) (l : Fin 1024) : val_main_v12 (F := Ideal) x0 (ix2 r l) = mat x0 r l * rinv (mat x0) r := by
  rw [← v7_at x0 r 0]; pointwise [val_main_v12, val_main_v11]
theorem v16_at (r : Fin 8192) (l : Fin 1024) : val_main_v16 (F := Ideal) x0 x1 x2 (ix2 r l) = err (mat x0) (vec x1) (mat x2) r l := by
  unfold err hN; rw [← v12_at x0 r l]; pointwise [val_main_v16, val_main_v15, val_main_v14, val_main_v13]
theorem v24_at : val_main_v24 (F := Ideal) x0 x1 x2 ix0 = rLoss (mat x0) (vec x1) (mat x2) := by
  unfold rLoss; simp only [← v16_at x0 x1 x2]
  pointwise [val_main_v24, val_main_cst_7, val_main_v23, val_main_cst_6, val_main_v22, val_main_v21, val_main_cst_5, val_main_v20, val_main_cst_4, val_main_v17]
theorem v51_at (p : Fin 8) (q : Fin 128) : val_main_v51 (F := Ideal) x0 x1 x2 (ix2 p q) = rLoss (mat x0) (vec x1) (mat x2) := by
  rw [← v24_at x0 x1 x2]; pointwise [val_main_v51]
theorem v30_at (r : Fin 8192) (l : Fin 1024) : val_main_v30 (F := Ideal) x0 x1 x2 (ix2 r l) = rDh (mat x0) (vec x1) (mat x2) r l := by
  unfold rDh; rw [← v16_at x0 x1 x2 r l]
  pointwise [val_main_v30, val_main_v29, val_main_v28, val_main_v27, val_main_cst_10, val_main_v26, val_main_v25, val_main_cst_9, val_main_cst_8, val_main_v19, val_main_v18, val_main_cst_3]
theorem v52_at (z : Fin 1) (l : Fin 1024) : val_main_v52 (F := Ideal) x0 x1 x2 (ix2 z l)
    = ∑ r, mat x0 r l * rinv (mat x0) r * rDh (mat x0) (vec x1) (mat x2) r l := by
  simp only [← v30_at x0 x1 x2, ← v12_at x0]
  pointwise [val_main_v52, val_main_v36, val_main_cst_12, val_main_v33, val_main_v32, val_main_cst_11, val_main_v31]
  exact Fin.sum_univ_one _
theorem v35_at (r : Fin 8192) (l : Fin 1024) : val_main_v35 (F := Ideal) x0 x1 x2 (ix2 r l) = rDh (mat x0) (vec x1) (mat x2) r l * vec x1 l := by
  rw [← v30_at x0 x1 x2 r l]; pointwise [val_main_v35, val_main_v34, val_main_v13]
theorem v46_at (r : Fin 8192) (l : Fin 1024) : val_main_v46 (F := Ideal) x0 x1 x2 (ix2 r l) = rDs (mat x0) (vec x1) (mat x2) r := by
  unfold rDs; rw [← v10_at x0 r 0]; simp only [← v35_at x0 x1 x2]
  pointwise [val_main_v46, val_main_v45, val_main_cst_15, val_main_v44, val_main_v43, val_main_cst_14, val_main_v42, val_main_v39, val_main_v38, val_main_cst_13, val_main_v37]
  exact Fin.sum_univ_one _
theorem v50_at (r : Fin 8192) (l : Fin 1024) : val_main_v50 (F := Ideal) x0 x1 x2 (ix2 r l) = rDx (mat x0) (vec x1) (mat x2) r l := by
  unfold rDx; rw [← v46_at x0 x1 x2 r l, ← v35_at x0 x1 x2 r l, ← v7_at x0 r 0]
  pointwise [val_main_v50, val_main_v49, val_main_v48, val_main_v47, val_main_v41, val_main_v40]

end Cert.LossHead.Ref

end
-- ==== Proof.LossEquation.lean ====
/- Whatever the arguments, the loss head's loss and gradients are the reference's. -/
module

public import proofs.«01_k».proof.Proof.LossRef
public import proofs.«01_k».proof.Proof.Equation

@[expose] public section

set_option maxHeartbeats 1000000

noncomputable section

namespace Cert.LossHead

open Idealize.ShloMosaic Cert.LossHead.Ref
open Cert.HalfFFN (cWidth cEps cHalf rinv hN)
open Cert.HalfFFN.Equation (width_bits half_bits eps_bits IsReal rms_real)

/-! ## The constants -/

theorem mean_bits : cMean = ((1 / 2048 : ℝ) : EReal) := by
  show Ideal.ofBits FTy.f32 0x3A000000#32 = _
  simp [Ideal.ofBits, Ideal.ieee, -EReal.coe_mul]; norm_num
theorem inv_bits : cInv = ((1 / 1024 : ℝ) : EReal) := by
  show Ideal.ofBits FTy.f32 0x3A800000#32 = _
  simp [Ideal.ofBits, Ideal.ieee, -EReal.coe_mul]; norm_num
theorem two_bits : cTwo = ((2 : ℝ) : EReal) := by
  show Ideal.ofBits FTy.f32 0x40000000#32 = _
  simp [Ideal.ofBits, Ideal.ieee, -EReal.coe_mul]; norm_num
theorem one_bits : cOne = ((1 : ℝ) : EReal) := by
  show Ideal.ofBits FTy.f32 0x3F800000#32 = _
  simp [Ideal.ofBits, Ideal.ieee, -EReal.coe_mul]; norm_num

theorem neg_bits : cNeg = ((-(1 / 2) : ℝ) : EReal) := HalfFFN.Equation.neg_half_bits

/-! ## Sums and products of extended reals -/

/-- A real number that is not negative goes into a sum, whatever the terms. -/
theorem mul_sum {ι : Type} (s : Finset ι) (c : ℝ) (hc : 0 ≤ c) (f : ι → EReal) : (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (EReal.coe_nonneg.2 hc) (EReal.coe_ne_top c), ih]

theorem square_nonneg (x : EReal) : 0 ≤ x * x := by
  induction x using EReal.rec with
  | bot => simp
  | coe r => rw [← EReal.coe_mul]; exact EReal.coe_nonneg.2 (mul_self_nonneg r)
  | top => simp

/-- A real multiple, twice over. -/
theorem double (b : ℝ) (S : EReal) : (b : EReal) * S + (b : EReal) * S = ((2 * b : ℝ) : EReal) * S := by
  induction S using EReal.rec with
  | coe r => rw [← EReal.coe_mul, ← EReal.coe_mul, ← EReal.coe_add]; congr 1; ring
  | bot =>
    rcases lt_trichotomy b 0 with h | rfl | h
    · rw [EReal.coe_mul_bot_of_neg h, EReal.coe_mul_bot_of_neg (by linarith)]; simp
    · simp
    · rw [EReal.coe_mul_bot_of_pos h, EReal.coe_mul_bot_of_pos (by linarith)]; simp
  | top =>
    rcases lt_trichotomy b 0 with h | rfl | h
    · rw [EReal.coe_mul_top_of_neg h, EReal.coe_mul_top_of_neg (by linarith)]; simp
    · simp
    · rw [EReal.coe_mul_top_of_pos h, EReal.coe_mul_top_of_pos (by linarith)]; simp

/-- The two spellings of the normalisation's backward pass, at one element of a real row. -/
theorem row_eq (x i v : ℝ) (h0 : 0 ≤ i) (hv : v ≠ 0) (hi : i * i * v = 1) (S T : EReal) :
    (i : EReal) * (T - (x : EReal) * i * (S * i * ((1 / 1024 : ℝ) : EReal)))
      = T * i + x * (S * (((-(1 / 2) : ℝ) : EReal) * (i * ((1 / v : ℝ) : EReal))) * ((1 / 1024 : ℝ) : EReal))
        + S * (((-(1 / 2) : ℝ) : EReal) * (i * ((1 / v : ℝ) : EReal))) * ((1 / 1024 : ℝ) : EReal) * x := by
  have a1 : (x : EReal) * i * (S * i * ((1 / 1024 : ℝ) : EReal)) = ((x * i * i * (1 / 1024) : ℝ) : EReal) * S := by
    simp only [EReal.coe_mul]; ac_rfl
  have a2 : (x : EReal) * (S * (((-(1 / 2) : ℝ) : EReal) * (i * ((1 / v : ℝ) : EReal))) * ((1 / 1024 : ℝ) : EReal))
      = ((x * (-(1 / 2) * (i * (1 / v))) * (1 / 1024) : ℝ) : EReal) * S := by
    simp only [EReal.coe_mul]; ac_rfl
  have a3 : S * (((-(1 / 2) : ℝ) : EReal) * (i * ((1 / v : ℝ) : EReal))) * ((1 / 1024 : ℝ) : EReal) * x
      = ((x * (-(1 / 2) * (i * (1 / v))) * (1 / 1024) : ℝ) : EReal) * S := by
    simp only [EReal.coe_mul]; ac_rfl
  have w : 1 / v = i * i := by field_simp; linarith
  rw [a1, a2, a3, sub_eq_add_neg, ← EReal.neg_mul, ← EReal.coe_neg,
    EReal.left_distrib_of_nonneg_of_ne_top (EReal.coe_nonneg.2 h0) (EReal.coe_ne_top i), add_assoc, double, ← mul_assoc, ← EReal.coe_mul,
    mul_comm (i : EReal) T, w]
  congr 3
  ring

/-! ## The results -/

section
variable (X : Fin 8192 → Fin 1024 → EReal) (g : Fin 1024 → EReal) (Y : Fin 8192 → Fin 1024 → EReal)

/-- The loss. -/
theorem loss_eq : kLoss X g Y = rLoss X g Y := by
  unfold kLoss rLoss
  rw [mean_bits, half_bits, width_bits, mul_sum _ _ (by norm_num),
    sum_rows fun R => ((1 / 2 : ℝ) : EReal) * Ideal.div (∑ l, err X g Y R l * err X g Y R l) ((1024 : ℝ) : EReal)]
  refine Finset.sum_congr rfl fun t _ => ?_
  rw [mul_sum _ _ (by norm_num)]
  refine Finset.sum_congr rfl fun r _ => ?_
  rw [Ideal.div_coe (by norm_num), mul_comm (∑ l, _) _, ← mul_assoc, ← EReal.coe_mul]
  congr 2
  norm_num

/-- The normalised rows' cotangent. -/
theorem dh_eq (r : Fin 8192) (l : Fin 1024) : err X g Y r l * cInv = rDh X g Y r l := by
  unfold rDh
  rw [inv_bits, half_bits, one_bits, width_bits, two_bits, Ideal.div_coe (by norm_num), ← mul_assoc, ← EReal.coe_mul, ← EReal.coe_mul,
    ← EReal.coe_mul, mul_comm]
  congr 2
  norm_num

/-- The scale's gradient. -/
theorem dg_eq (l : Fin 1024) : kDg X g Y l = ∑ r, X r l * rinv X r * rDh X g Y r l :=
  Finset.sum_congr rfl fun r _ => by rw [dh_eq, mul_comm]

/-- A row with an infinity has an infinite mean square. -/
theorem rms_top (r : Fin 8192) (k : Fin 1024) (hk : X r k * X r k = ⊤) : Ideal.div (∑ k, X r k * X r k) cWidth + cEps = ⊤ := by
  obtain ⟨e, _, he⟩ := eps_bits
  have hs : ∑ k, X r k * X r k = ⊤ :=
    top_le_iff.1 (hk ▸ Finset.single_le_sum (f := fun k => X r k * X r k) (fun k _ => square_nonneg _) (Finset.mem_univ k))
  rw [hs, width_bits, Ideal.div_coe (by norm_num), EReal.top_mul_coe_of_pos (by norm_num), he, EReal.top_add_coe]

/-- The rows' cotangent. -/
theorem dx_eq (r : Fin 8192) (l : Fin 1024) : kDx X g Y r l = rDx X g Y r l := by
  unfold kDx rDx rDs
  simp only [dh_eq]
  by_cases h : ∃ k, X r k * X r k = ⊤
  · obtain ⟨k, hk⟩ := h
    have ht := rms_top X r k hk
    have hr : rinv X r = 0 := by unfold rinv; rw [ht]; rfl
    have hd : Ideal.div 0 ⊤ = 0 := by unfold Ideal.div; simp
    have hw : Ideal.div 0 ((1024 : ℝ) : EReal) = 0 := by rw [Ideal.div_coe (by norm_num), zero_mul]
    rw [ht, hr, hd, width_bits]
    simp [hw]
  · have hx : ∀ k, IsReal (X r k) := fun k => by
      have hk : ¬X r k * X r k = ⊤ := fun e => h ⟨k, e⟩
      generalize X r k = x at hk
      induction x using EReal.rec with
      | bot => simp at hk
      | coe a => exact ⟨a, rfl⟩
      | top => simp at hk
    obtain ⟨v, i, hv, hi, ev, ei⟩ := rms_real (X := fun _ => X r) (fun _ k => hx k) r
    change Ideal.div (∑ k, X r k * X r k) cWidth + cEps = (v : EReal) at ev
    change rinv X r = (i : EReal) at ei
    have h0 : 0 ≤ i := by
      have e := ei
      unfold rinv at e
      rw [ev, Ideal.rsqrt_coe, if_neg hv] at e
      split_ifs at e with h1
      · exact absurd e.symm (EReal.coe_ne_bot i)
      · rw [← EReal.coe_injective e]; positivity
    choose x hx using hx
    have hs : ∑ k, rDh X g Y r k * g k * (X r k * rinv X r) = (∑ k, X r k * (rDh X g Y r k * g k)) * (i : EReal) := by
      rw [mul_comm _ (i : EReal), mul_sum _ _ h0, ei]
      exact Finset.sum_congr rfl fun k _ => by ac_rfl
    rw [hs, ev, ei, hx l, width_bits, neg_bits, Ideal.div_coe hv, Ideal.div_coe (by norm_num), Ideal.div_coe (by norm_num)]
    exact row_eq (x l) i v h0 hv hi _ _
end

end Cert.LossHead

end
-- ==== Proof.Loss.lean ====
/- The loss head's claims: the frames, and that its three results are the reference's, whatever the arguments. -/
module

public import proofs.«01_k».proof.Defs
public import proofs.«01_k».proof.Proof.Gen.KernelLoss.Frame
public import proofs.«01_k».proof.Proof.LossEquation

@[expose] public section

set_option maxHeartbeats 1000000

noncomputable section

namespace Cert.LossHead

open Idealize.ShloMosaic Idealize.ShloMosaic.TcCoe Idealize.SL.Sem Cert.LossHead.Ref

/-- The kernel terminates without a fault, leaves its arguments and every semaphore as it found them, at the bits. -/
theorem frame : Cert.quiescent_KernelLoss := fun m ρ _ => Cert.KernelLoss.Gen.frame m ρ
/-- The same at the extended reals. -/
theorem frameIdeal : Cert.quiescent_KernelLossIdeal := fun m ρ _ => Cert.KernelLossIdeal.Gen.frame m ρ
/-- The reference runs on the host and leaves its arguments as it found them. -/
theorem frameRef : Cert.quiescent_ReferenceLossIdeal := fun m ρ _ =>
  (θ_run Cert.ReferenceLossIdeal.defs _ _).mono (fun r h => ⟨fun c => (h c).2.2.2, sem_eq_zero_of_no_sems (by decide) r.2⟩)
    (Cert.ReferenceLossIdeal.Value.run m ρ)

section
variable (m : (ℓ : Loc Cert.KernelLossIdeal.nD Cert.KernelLossIdeal.τ Cert.KernelLossIdeal.sig) → Buf (Elt Ideal) ℓ) (c : Dev Cert.KernelLossIdeal.nD)

/-- The arguments as arrays. -/
abbrev ar0 : A0 := m ((c : Thread Cert.KernelLossIdeal.nD Cert.KernelLossIdeal.τ).loc Cert.KernelLossIdeal.main_arg0)
abbrev ar1 : A1 := m ((c : Thread Cert.KernelLossIdeal.nD Cert.KernelLossIdeal.τ).loc Cert.KernelLossIdeal.main_arg1)
abbrev ar2 : A0 := m ((c : Thread Cert.KernelLossIdeal.nD Cert.KernelLossIdeal.τ).loc Cert.KernelLossIdeal.main_arg2)

theorem same_loss : Cert.ReferenceLossIdeal.Read.val_main_v51 (F := Ideal) (ar0 m c) (ar1 m c) (ar2 m c)
    = (Cert.KernelLossIdeal.Gen.dats m 0 c).arrAt 3 Cert.KernelLossIdeal.cfg0.N := by
  rw [loss_final]
  funext i
  obtain ⟨p, q, rfl⟩ : ∃ (p : Fin 8) (q : Fin 128), i = ix2 p q := ⟨i 0, i 1, eq_ix2 (n0 := 8) (n1 := 128) i⟩
  exact (v51_at _ _ _ p q).trans (loss_eq _ _ _).symm
theorem same_dx : Cert.ReferenceLossIdeal.Read.val_main_v50 (F := Ideal) (ar0 m c) (ar1 m c) (ar2 m c)
    = (Cert.KernelLossIdeal.Gen.dats m 0 c).arrAt 4 Cert.KernelLossIdeal.cfg0.N := by
  rw [dx_final]
  funext i
  obtain ⟨p, q, rfl⟩ : ∃ (p : Fin 8192) (q : Fin 1024), i = ix2 p q := ⟨i 0, i 1, eq_ix2 (n0 := 8192) (n1 := 1024) i⟩
  exact (v50_at _ _ _ p q).trans (dx_eq _ _ _ p q).symm
theorem same_dg : Cert.ReferenceLossIdeal.Read.val_main_v52 (F := Ideal) (ar0 m c) (ar1 m c) (ar2 m c)
    = (Cert.KernelLossIdeal.Gen.dats m 0 c).arrAt 5 Cert.KernelLossIdeal.cfg0.N := by
  rw [dg_final]
  funext i
  obtain ⟨z, q, rfl⟩ : ∃ (z : Fin 1) (q : Fin 1024), i = ix2 z q := ⟨i 0, i 1, eq_ix2 (n0 := 1) (n1 := 1024) i⟩
  exact (v52_at _ _ _ z q).trans (dg_eq _ _ _ q).symm
end

/-- Whatever the arguments, the kernel's loss and its two gradients are the reference's. -/
theorem algebraic : Cert.algebraic_KernelLossIdeal_ReferenceLossIdeal := fun m ρ m' ρ' _ hag => by
  refine ⟨_, _, _, Cert.KernelLossIdeal.Value.run_blocks m ρ,
    (θ_run Cert.ReferenceLossIdeal.defs _ _).mono (fun r h c => ?_) (Cert.ReferenceLossIdeal.Value.run m' ρ')⟩
  obtain ⟨h0, h1, h2, hk⟩ := h c
  obtain ⟨a0, a1, a2⟩ := hag c
  refine ⟨h0.trans ?_, h1.trans ?_, h2.trans ?_, hk⟩
  · refine (Cert.ReferenceLossIdeal.Read.val_main_v51_eq _ _ _).trans ?_
    rw [a0, a1, a2]; exact same_loss m c
  · refine (Cert.ReferenceLossIdeal.Read.val_main_v50_eq m' c).trans ?_
    rw [a0, a1, a2]; exact same_dx m c
  · refine (Cert.ReferenceLossIdeal.Read.val_main_v52_eq _ _ _).trans ?_
    rw [a0, a1, a2]; exact same_dg m c

end Cert.LossHead

end
-- ==== Proof.Out.lean ====
/- The HGRN2 mixer's output projection with the residual: what the call leaves, what the reference computes, and the claims. -/
module

public import proofs.«01_k».proof.Defs
public import proofs.«01_k».proof.Proof.Gen.KernelOut.Frame
public import proofs.«01_k».proof.Proof.Gen.KernelOutIdeal.Value
public import proofs.«01_k».proof.Proof.Gen.ReferenceOutIdeal.Read
public import Idealize.ShloMosaic.Lib.Pipeline.ValueKit.Geometry
public import Idealize.ShloMosaic.Lib.Pipeline.ValueKit.Point

@[expose] public section

set_option maxHeartbeats 1000000

noncomputable section

namespace Cert.OutProj

open Idealize.ShloMosaic Idealize.ShloMosaic.TcCoe Idealize.ShloMosaic.Tactic Idealize.SL.Sem Cert.KernelOutIdeal Cert.KernelOutIdeal.Gen

theorem hz2 : (![0, 0] : Fin 2 → Nat) = fun _ => 0 := by funext a; fin_cases a <;> rfl

/-- A point's tile: the residual's tile and the product of the rows' tile with the weights. -/
theorem pay_at (x : Vec Ideal S1024x1024 .f32) (y : Vec Ideal S1024x1024 .bf16) (w : Vec Ideal S1024x1024 .bf16) (r l : Fin 1024) :
    k0_pay1 x y w (ix2 r l) = x (ix2 r l) + ∑ k, y (ix2 r k) * w (ix2 k l) := by
  pointwise [k0_pay1]
theorem out_at (y w : Vec Ideal S1024x1024 .bf16) (x : Vec Ideal S1024x1024 .f32) (r l : Fin 1024) :
    out0_3 y w x (ix2 r l) = x (ix2 r l) + ∑ k, y (ix2 r k) * w (ix2 k l) := by
  unfold out0_3
  rw [View.canon_unit_zero (S := S1024x1024) hz2]
  simp only [View.ld_unit_zero (S := S1024x1024) hz2]
  exact pay_at x y w r l

/-- The row that place `r` of point `t`'s tile holds. -/
def trow (t : Fin cfg0.N) (r : Fin 1024) : Fin 8192 := ⟨t.val * 1024 + r.val, by have h : t.val < 8 := t.isLt; omega⟩

theorem e0 : ∀ t : Fin cfg0.N, win0_0.index t = ![t.val, 0] := (by decide +kernel : ∀ t : Fin grid0.N, win0_0.index t = ![t.val, 0])
theorem e1 : ∀ t : Fin cfg0.N, win0_1.index t = ![0, 0] := (by decide +kernel : ∀ t : Fin grid0.N, win0_1.index t = ![0, 0])
theorem e2 : ∀ t : Fin cfg0.N, win0_2.index t = ![t.val, 0] := (by decide +kernel : ∀ t : Fin grid0.N, win0_2.index t = ![t.val, 0])
theorem e3 : ∀ t : Fin cfg0.N, win0_3.index t = ![t.val, 0] := (by decide +kernel : ∀ t : Fin grid0.N, win0_3.index t = ![t.val, 0])

section
variable (m : (ℓ : Loc nD τ sig) → Buf (Elt Ideal) ℓ) (c : Dev nD)

/-- The mixer's rows. -/
abbrev aY : (⟨S8192x1024, .f32⟩ : BufTy).Contents (Elt Ideal) := m ((c : Thread nD τ).loc main_arg0)
/-- The projection's weights. -/
abbrev aW : (⟨S1x1024x1024, .f32⟩ : BufTy).Contents (Elt Ideal) := m ((c : Thread nD τ).loc main_arg1)
/-- The residual's rows. -/
abbrev aX : (⟨S8192x1024, .f32⟩ : BufTy).Contents (Elt Ideal) := m ((c : Thread nD τ).loc main_arg2)

theorem blk_y (t : Fin cfg0.N) (r l : Fin 1024) : iblk m c 0 t (ix2 r l) = aY m c (ix2 (trow t r) l) := by
  blk_ext! [iblk, V, e0, trow]
theorem blk_w (t : Fin cfg0.N) (k l : Fin 1024) : iblk m c 1 t (ix2 k l) = aW m c (ix3 0 k l) := by
  blk_ext! [iblk, V, e1]
theorem blk_x (t : Fin cfg0.N) (r l : Fin 1024) : iblk m c 2 t (ix2 r l) = aX m c (ix2 (trow t r) l) := by
  blk_ext! [iblk, V, e2, trow]

/-- The result, whole. -/
theorem out_final : (dats m 0 c).arrAt 3 cfg0.N = fun i => aX m c (ix2 (i (0 : Fin 2)) (i (1 : Fin 2)))
    + ∑ k : Fin 1024, aY m c (ix2 (i (0 : Fin 2)) k) * aW m c (ix3 0 k (i (1 : Fin 2))) := by
  refine (dats m 0 c).arrAt_eq_of_covers 3 _ (show win0_3.Covers by decide +kernel) fun t hf y => ?_
  blk_simp
  rw [after0_3]
  obtain ⟨p, q, rfl⟩ : ∃ (p : Fin 1024) (q : Fin 1024), y = ix2 p q := ⟨y 0, y 1, eq_ix2 (n0 := 1024) (n1 := 1024) y⟩
  have i0 : ((win0_3.blk t).view.emb (ix2 p q)) (0 : Fin 2) = trow t p := by
    apply Fin.ext; blk_simp [e3, trow]
  have i1 : ((win0_3.blk t).view.emb (ix2 p q)) (1 : Fin 2) = q := by
    apply Fin.ext; blk_simp [e3]
  rw [i0, i1]
  change out0_3 _ _ _ (ix2 p q) = _
  rw [out_at]
  simp only [blk_y, blk_w, blk_x]

/-- The reference's result at an index. -/
theorem ref_at (r : Fin 8192) (l : Fin 1024) : Cert.ReferenceOutIdeal.Read.val_main_v2 (F := Ideal) (aY m c) (aW m c) (aX m c) (ix2 r l)
    = aX m c (ix2 r l) + ∑ k : Fin 1024, aY m c (ix2 r k) * aW m c (ix3 0 k l) := by
  pointwise [Cert.ReferenceOutIdeal.Read.val_main_v2, Cert.ReferenceOutIdeal.Read.val_main_v1, Cert.ReferenceOutIdeal.Read.val_main_v0]

theorem same : Cert.ReferenceOutIdeal.Read.val_main_v2 (F := Ideal) (aY m c) (aW m c) (aX m c) = (dats m 0 c).arrAt 3 cfg0.N := by
  rw [out_final]
  funext i
  obtain ⟨p, q, rfl⟩ : ∃ (p : Fin 8192) (q : Fin 1024), i = ix2 p q := ⟨i 0, i 1, eq_ix2 (n0 := 8192) (n1 := 1024) i⟩
  exact ref_at m c p q
end

/-- The kernel terminates without a fault, leaves its arguments and every semaphore as it found them, at the bits. -/
theorem frame : Cert.quiescent_KernelOut := fun m ρ _ => Cert.KernelOut.Gen.frame m ρ
/-- The same at the extended reals. -/
theorem frameIdeal : Cert.quiescent_KernelOutIdeal := fun m ρ _ => Cert.KernelOutIdeal.Gen.frame m ρ
/-- The reference runs on the host and leaves its arguments as it found them. -/
theorem frameRef : Cert.quiescent_ReferenceOutIdeal := fun m ρ _ =>
  (θ_run Cert.ReferenceOutIdeal.defs _ _).mono (fun r h => ⟨fun c => (h c).2, sem_eq_zero_of_no_sems (by decide) r.2⟩)
    (Cert.ReferenceOutIdeal.Value.run (F := Ideal) m ρ)
/-- Whatever the arguments, the kernel's result is the reference's. -/
theorem algebraic : Cert.algebraic_KernelOutIdeal_ReferenceOutIdeal := fun m ρ m' ρ' _ hag => by
  refine ⟨_, Cert.KernelOutIdeal.Value.run_blocks m ρ,
    (θ_run Cert.ReferenceOutIdeal.defs _ _).mono (fun r h c => ?_) (Cert.ReferenceOutIdeal.Value.run m' ρ')⟩
  obtain ⟨h0, hk⟩ := h c
  obtain ⟨a0, a1, a2⟩ := hag c
  refine ⟨h0.trans ((Cert.ReferenceOutIdeal.Read.val_main_v2_eq _ _ _).trans ?_), hk⟩
  rw [a0, a1, a2]; exact same m c

end Cert.OutProj

end
-- ==== Proof.OutBwd.lean ====
/- The HGRN2 mixer's output projection backwards, the gradient of its rows: what the call leaves, what the reference computes, and the claims. -/
module

public import proofs.«01_k».proof.Defs
public import proofs.«01_k».proof.Proof.Gen.KernelNt.Frame
public import proofs.«01_k».proof.Proof.Gen.KernelNtIdeal.Value
public import proofs.«01_k».proof.Proof.Gen.ReferenceNtIdeal.Read
public import Idealize.ShloMosaic.Lib.Pipeline.ValueKit.Geometry
public import Idealize.ShloMosaic.Lib.Pipeline.ValueKit.Point

@[expose] public section

set_option maxHeartbeats 1000000

noncomputable section

namespace Cert.OutProjBwd

open Idealize.ShloMosaic Idealize.ShloMosaic.TcCoe Idealize.ShloMosaic.Tactic Idealize.SL.Sem Cert.KernelNtIdeal Cert.KernelNtIdeal.Gen

theorem hz2 : (![0, 0] : Fin 2 → Nat) = fun _ => 0 := by funext a; fin_cases a <;> rfl

/-- A point's tile: the product of the cotangent's tile with the transposed weights. -/
theorem pay_at (d : Vec Ideal S1024x1024 .f32) (w : Vec Ideal S1024x1024 .bf16) (r l : Fin 1024) :
    k0_pay2 d w (ix2 r l) = ∑ k, d (ix2 r k) * w (ix2 k l) := by
  pointwise [k0_pay2, k0_pay1]
theorem out2_at (d : Vec Ideal S1024x1024 .f32) (w : Vec Ideal S1024x1024 .bf16) (r l : Fin 1024) :
    out0_2 d w (ix2 r l) = ∑ k, d (ix2 r k) * w (ix2 k l) := by
  unfold out0_2
  rw [View.canon_unit_zero (S := S1024x1024) hz2]
  simp only [View.ld_unit_zero (S := S1024x1024) hz2]
  exact pay_at d w r l
theorem cast_at (d : Vec Ideal S1024x1024 .f32) (r l : Fin 1024) : k0_pay1 d (ix2 r l) = d (ix2 r l) := by
  pointwise [k0_pay1]
theorem out3_at (d : Vec Ideal S1024x1024 .f32) (w : Vec Ideal S1024x1024 .bf16) (r l : Fin 1024) : out0_3 d w (ix2 r l) = d (ix2 r l) := by
  unfold out0_3
  rw [View.canon_unit_zero (S := S1024x1024) hz2]
  simp only [View.ld_unit_zero (S := S1024x1024) hz2]
  exact cast_at d r l

/-- The row that place `r` of point `t`'s tile holds. -/
def trow (t : Fin cfg0.N) (r : Fin 1024) : Fin 8192 := ⟨t.val * 1024 + r.val, by have h : t.val < 8 := t.isLt; omega⟩

theorem e0 : ∀ t : Fin cfg0.N, win0_0.index t = ![t.val, 0] := (by decide +kernel : ∀ t : Fin grid0.N, win0_0.index t = ![t.val, 0])
theorem e1 : ∀ t : Fin cfg0.N, win0_1.index t = ![0, 0] := (by decide +kernel : ∀ t : Fin grid0.N, win0_1.index t = ![0, 0])
theorem e2 : ∀ t : Fin cfg0.N, win0_2.index t = ![t.val, 0] := (by decide +kernel : ∀ t : Fin grid0.N, win0_2.index t = ![t.val, 0])
theorem e3 : ∀ t : Fin cfg0.N, win0_3.index t = ![t.val, 0] := (by decide +kernel : ∀ t : Fin grid0.N, win0_3.index t = ![t.val, 0])

section
variable (m : (ℓ : Loc nD τ sig) → Buf (Elt Ideal) ℓ) (c : Dev nD)

/-- The projection's weights. -/
abbrev aW : (⟨S1x1024x1024, .f32⟩ : BufTy).Contents (Elt Ideal) := m ((c : Thread nD τ).loc main_arg1)
/-- The cotangent of the projection's result. -/
abbrev aD : (⟨S8192x1024, .f32⟩ : BufTy).Contents (Elt Ideal) := m ((c : Thread nD τ).loc main_arg2)

theorem blk_d (t : Fin cfg0.N) (r l : Fin 1024) : iblk m c 0 t (ix2 r l) = aD m c (ix2 (trow t r) l) := by
  blk_ext! [iblk, V, e0, trow]
theorem blk_w (t : Fin cfg0.N) (k l : Fin 1024) : iblk m c 1 t (ix2 k l) = aW m c (ix3 0 l k) := by
  blk_ext! [iblk, V, e1]

/-- The rows' gradient, whole. -/
theorem dy_final : (dats m 0 c).arrAt 2 cfg0.N = fun i => ∑ k : Fin 1024, aD m c (ix2 (i (0 : Fin 2)) k) * aW m c (ix3 0 (i (1 : Fin 2)) k) := by
  refine (dats m 0 c).arrAt_eq_of_covers 2 _ (show win0_2.Covers by decide +kernel) fun t hf y => ?_
  blk_simp
  rw [after0_2]
  obtain ⟨p, q, rfl⟩ : ∃ (p : Fin 1024) (q : Fin 1024), y = ix2 p q := ⟨y 0, y 1, eq_ix2 (n0 := 1024) (n1 := 1024) y⟩
  have i0 : ((win0_2.blk t).view.emb (ix2 p q)) (0 : Fin 2) = trow t p := by
    apply Fin.ext; blk_simp [e2, trow]
  have i1 : ((win0_2.blk t).view.emb (ix2 p q)) (1 : Fin 2) = q := by
    apply Fin.ext; blk_simp [e2]
  rw [i0, i1]
  change out0_2 _ _ (ix2 p q) = _
  rw [out2_at]
  simp only [blk_d, blk_w]

/-- The cast cotangent, whole. -/
theorem cast_final : (dats m 0 c).arrAt 3 cfg0.N = fun i => aD m c (ix2 (i (0 : Fin 2)) (i (1 : Fin 2))) := by
  refine (dats m 0 c).arrAt_eq_of_covers 3 _ (show win0_3.Covers by decide +kernel) fun t hf y => ?_
  blk_simp
  rw [after0_3]
  obtain ⟨p, q, rfl⟩ : ∃ (p : Fin 1024) (q : Fin 1024), y = ix2 p q := ⟨y 0, y 1, eq_ix2 (n0 := 1024) (n1 := 1024) y⟩
  have i0 : ((win0_3.blk t).view.emb (ix2 p q)) (0 : Fin 2) = trow t p := by
    apply Fin.ext; blk_simp [e3, trow]
  have i1 : ((win0_3.blk t).view.emb (ix2 p q)) (1 : Fin 2) = q := by
    apply Fin.ext; blk_simp [e3]
  rw [i0, i1]
  change out0_3 _ _ (ix2 p q) = _
  rw [out3_at, blk_d]

/-- The reference's results at an index. -/
theorem ref_at (r : Fin 8192) (l : Fin 1024) : Cert.ReferenceNtIdeal.Read.val_main_v2 (F := Ideal) (aW m c) (aD m c) (ix2 r l)
    = ∑ k : Fin 1024, aD m c (ix2 r k) * aW m c (ix3 0 l k) := by
  pointwise [Cert.ReferenceNtIdeal.Read.val_main_v2, Cert.ReferenceNtIdeal.Read.val_main_v0]
theorem ref_cast_at (r : Fin 8192) (l : Fin 1024) : Cert.ReferenceNtIdeal.Read.val_main_v3 (F := Ideal) (aD m c) (ix2 r l) = aD m c (ix2 r l) := by
  pointwise [Cert.ReferenceNtIdeal.Read.val_main_v3]

theorem same_dy : Cert.ReferenceNtIdeal.Read.val_main_v2 (F := Ideal) (aW m c) (aD m c) = (dats m 0 c).arrAt 2 cfg0.N := by
  rw [dy_final]
  funext i
  obtain ⟨p, q, rfl⟩ : ∃ (p : Fin 8192) (q : Fin 1024), i = ix2 p q := ⟨i 0, i 1, eq_ix2 (n0 := 8192) (n1 := 1024) i⟩
  exact ref_at m c p q
theorem same_cast : Cert.ReferenceNtIdeal.Read.val_main_v3 (F := Ideal) (aD m c) = (dats m 0 c).arrAt 3 cfg0.N := by
  rw [cast_final]
  funext i
  obtain ⟨p, q, rfl⟩ : ∃ (p : Fin 8192) (q : Fin 1024), i = ix2 p q := ⟨i 0, i 1, eq_ix2 (n0 := 8192) (n1 := 1024) i⟩
  exact ref_cast_at m c p q
end

/-- The kernel terminates without a fault, leaves its arguments and every semaphore as it found them, at the bits. -/
theorem frame : Cert.quiescent_KernelNt := fun m ρ _ => Cert.KernelNt.Gen.frame m ρ
/-- The same at the extended reals. -/
theorem frameIdeal : Cert.quiescent_KernelNtIdeal := fun m ρ _ => Cert.KernelNtIdeal.Gen.frame m ρ
/-- The reference runs on the host and leaves its arguments as it found them. -/
theorem frameRef : Cert.quiescent_ReferenceNtIdeal := fun m ρ _ =>
  (θ_run Cert.ReferenceNtIdeal.defs _ _).mono (fun r h => ⟨fun c => (h c).2.2, sem_eq_zero_of_no_sems (by decide) r.2⟩)
    (Cert.ReferenceNtIdeal.Value.run (F := Ideal) m ρ)
/-- Whatever the arguments, the kernel's results are the reference's. -/
theorem algebraic : Cert.algebraic_KernelNtIdeal_ReferenceNtIdeal := fun m ρ m' ρ' _ hag => by
  refine ⟨_, _, Cert.KernelNtIdeal.Value.run_blocks m ρ,
    (θ_run Cert.ReferenceNtIdeal.defs _ _).mono (fun r h c => ?_) (Cert.ReferenceNtIdeal.Value.run m' ρ')⟩
  obtain ⟨h0, h1, hk⟩ := h c
  obtain ⟨a0, a1, a2⟩ := hag c
  refine ⟨h0.trans ((Cert.ReferenceNtIdeal.Read.val_main_v2_eq _ _).trans ?_),
    h1.trans ((Cert.ReferenceNtIdeal.Read.val_main_v3_eq _).trans ?_), hk⟩
  · rw [a1, a2]; exact same_dy m c
  · rw [a2]; exact same_cast m c

end Cert.OutProjBwd

end
-- ==== Proof.InDw.lean ====
/- The gradient of the HGRN2 mixer's input weights: what the call leaves, what the reference computes, and the claims. -/
module

public import proofs.«01_k».proof.Defs
public import proofs.«01_k».proof.Proof.Math
public import proofs.«01_k».proof.Proof.Gen.KernelDw.Frame
public import proofs.«01_k».proof.Proof.Gen.KernelDwIdeal.Value
public import proofs.«01_k».proof.Proof.Gen.ReferenceDwIdeal.Read
public import Idealize.ShloMosaic.Lib.Pipeline.ValueKit.Geometry
public import Idealize.ShloMosaic.Lib.Pipeline.ValueKit.Point

@[expose] public section

set_option maxHeartbeats 1000000

noncomputable section

namespace Cert.InDw

open Cert.HalfFFN Idealize.ShloMosaic Idealize.ShloMosaic.TcCoe Idealize.ShloMosaic.Tactic Idealize.SL.Sem Cert.KernelDwIdeal Cert.KernelDwIdeal.Gen

/-- A point adds its rows' share of the product to the tile. -/
theorem step_at (a : Vec Ideal S1x1024x1024 .f32) (h d : Vec Ideal S2048x1024 .bf16) (z : Fin 1) (l n : Fin 1024) :
    k0_pay2 a h d (ix3 z l n) = a (ix3 z l n) + ∑ x, h (ix2 x l) * d (ix2 x n) := by
  obtain rfl : z = 0 := Subsingleton.elim _ _
  pointwise [k0_pay2]
/-- The first point of a tile starts from zero. -/
theorem zero_at (z : Fin 1) (l n : Fin 1024) : k0_pay1 (F := Ideal) (ix3 z l n) = 0 := by
  pointwise [k0_pay1]

/-- The row that place `x` of point `t`'s tile of rows holds. -/
def trow (t : Fin cfg0.N) (x : Fin 2048) : Fin 8192 := ⟨t.val % 4 * 2048 + x.val, by omega⟩
/-- The block of columns that point `t` works on. -/
def tblk (t : Fin cfg0.N) : Fin 4 := ⟨t.val / 4, by have h : t.val < 16 := t.isLt; omega⟩
/-- Column `n` of block `j`. -/
def col (j : Fin 4) (n : Fin 1024) : Fin 4096 := ⟨j.val * 1024 + n.val, by omega⟩

theorem e0 : ∀ t : Fin cfg0.N, win0_0.index t = ![t.val % 4, 0] := (by decide +kernel : ∀ t : Fin grid0.N, win0_0.index t = ![t.val % 4, 0])
theorem e1 : ∀ t : Fin cfg0.N, win0_1.index t = ![t.val % 4, t.val / 4] := (by decide +kernel : ∀ t : Fin grid0.N, win0_1.index t = ![t.val % 4, t.val / 4])
theorem e2 : ∀ t : Fin cfg0.N, win0_2.index t = ![t.val / 4, 0, 0] := (by decide +kernel : ∀ t : Fin grid0.N, win0_2.index t = ![t.val / 4, 0, 0])

section
variable (m : (ℓ : Loc nD τ sig) → Buf (Elt Ideal) ℓ) (c : Dev nD)

/-- The residual's rows. -/
abbrev aX : (⟨S8192x1024, .f32⟩ : BufTy).Contents (Elt Ideal) := m ((c : Thread nD τ).loc main_arg0)
/-- The mixer's scales. -/
abbrev aG : (⟨S4x1024, .f32⟩ : BufTy).Contents (Elt Ideal) := m ((c : Thread nD τ).loc main_arg1)
/-- The cotangent of the projection's result. -/
abbrev aD : (⟨S8192x4096, .f32⟩ : BufTy).Contents (Elt Ideal) := m ((c : Thread nD τ).loc main_arg3)
/-- The residual's rows as a matrix. -/
abbrev mX (r : Fin 8192) (l : Fin 1024) : EReal := aX m c (ix2 r l)
/-- The scale of the rows the projection sees. -/
abbrev vG (l : Fin 1024) : EReal := aG m c (ix2 2 l)

section
open Cert.ReferenceDwIdeal.Read

variable (x0 : (⟨S8192x1024, .f32⟩ : BufTy).Contents (Elt Ideal)) (x1 : (⟨S4x1024, .f32⟩ : BufTy).Contents (Elt Ideal))
  (x3 : (⟨S8192x4096, .f32⟩ : BufTy).Contents (Elt Ideal))

theorem v8_at (r : Fin 8192) (z : Fin 1) : val_main_v8 (F := Ideal) x0 (ix2 r z) = Ideal.div (∑ k : Fin 1024, x0 (ix2 r k) * x0 (ix2 r k)) cWidth + cEps := by
  pointwise [val_main_v8, val_main_v7, val_main_cst_1, val_main_v6, val_main_v5, val_main_cst_0, val_main_v4, val_main_v3, val_main_cst, val_main_v2]
theorem v9_at (r : Fin 8192) (z : Fin 1) : val_main_v9 (F := Ideal) x0 (ix2 r z) = rinv (fun r l => x0 (ix2 r l)) r := by
  unfold rinv; rw [← v8_at x0 r z]; pointwise [val_main_v9]
theorem v11_at (r : Fin 8192) (l : Fin 1024) : val_main_v11 (F := Ideal) x0 (ix2 r l) = x0 (ix2 r l) * rinv (fun r l => x0 (ix2 r l)) r := by
  rw [← v9_at x0 r 0]; pointwise [val_main_v11, val_main_v10]
theorem v14_at (r : Fin 8192) (l : Fin 1024) : val_main_v14 (F := Ideal) x0 x1 (ix2 r l) = hN (fun r l => x0 (ix2 r l)) (fun l => x1 (ix2 2 l)) r l := by
  unfold hN; rw [← v11_at x0 r l]; pointwise [val_main_v14, val_main_v13, val_main_v12, val_main_v1, val_main_v0]
theorem v17_at (k : Fin 4096) (l : Fin 1024) : val_main_v17 (F := Ideal) x0 x1 x3 (ix2 k l)
    = ∑ r : Fin 8192, x3 (ix2 r k) * hN (fun r l => x0 (ix2 r l)) (fun l => x1 (ix2 2 l)) r l := by
  simp only [← v14_at x0 x1]; pointwise [val_main_v17]
/-- The reference's result at an index. -/
theorem v21_at (j : Fin 4) (l n : Fin 1024) : val_main_v21 (F := Ideal) x0 x1 x3 (ix3 j l n)
    = ∑ r : Fin 8192, x3 (ix2 r (col j n)) * hN (fun r l => x0 (ix2 r l)) (fun l => x1 (ix2 2 l)) r l := by
  rw [← v17_at x0 x1 x3]; unfold col; pointwise [val_main_v21, val_main_v20, val_main_v19, val_main_v18]
end

theorem norm_eq : V m c main_v15 = fun i => Cert.ReferenceDwIdeal.Read.val_main_v14 (F := Ideal) (aX m c) (aG m c) i := by
  rfl

theorem blk_h (t : Fin cfg0.N) (x : Fin 2048) (l : Fin 1024) : iblk m c 0 t (ix2 x l) = hN (mX m c) (vG m c) (trow t x) l := by
  rw [← v14_at (aX m c) (aG m c)]
  have h : ∀ i, V m c main_v15 i = Cert.ReferenceDwIdeal.Read.val_main_v14 (F := Ideal) (aX m c) (aG m c) i := fun i => congrFun (norm_eq m c) i
  rw [← h]
  blk_simp [iblk]
  refine congrArg (V m c main_v15) ?_
  blk_ext [e0, trow]
theorem blk_d (t : Fin cfg0.N) (x : Fin 2048) (n : Fin 1024) : iblk m c 1 t (ix2 x n) = aD m c (ix2 (trow t x) (col (tblk t) n)) := by
  blk_ext! [iblk, V, e1, trow, tblk, col]

/-- What a tile holds after its last point. -/
theorem acc_at (t : Fin cfg0.N) (ht : t.val % 4 = 3) (z : Fin 1) (l n : Fin 1024) :
    outsAt0 m c t.val t.isLt (ix3 z l n) = ∑ r, hN (mX m c) (vG m c) r l * aD m c (ix2 r (col (tblk t) n)) := by
  rw [unroll4 (fun k hk => outsAt0 m c k hk (ix3 z l n))
      (fun t => ∑ x, hN (mX m c) (vG m c) (trow t x) l * aD m c (ix2 (trow t x) (col (tblk t) n))) ?_ ?_ t ht,
    Fin.sum_univ_tiles 4 2048 rfl, Fin.sum_univ_four]
  · have hb : ∀ k (hk : k < 4), tblk ⟨t.val - k, by have := t.isLt; omega⟩ = tblk t := fun k hk => by
      apply Fin.ext; simp only [tblk]; omega
    have hr : ∀ k (hk : k < 4) x, trow ⟨t.val - k, by have := t.isLt; omega⟩ x = ⟨(3 - k) * 2048 + x.val, by omega⟩ := fun k hk x => by
      apply Fin.ext; simp only [trow]; omega
    have hr' : ∀ x, trow t x = ⟨3 * 2048 + x.val, by omega⟩ := fun x => by apply Fin.ext; simp only [trow]; omega
    simp only [hb 3 (by omega), hb 2 (by omega), hb 1 (by omega), hr 3 (by omega), hr 2 (by omega), hr 1 (by omega), hr']
    rfl
  · intro t h
    have e : outsAt0 m c t.val t.isLt = k0_pay2 (k0_pay1 (F := Ideal)) (iblk m c 0 t) (iblk m c 1 t) := by
      rw [outsAt0_A m c t h]; exact Cert.KernelDwIdeal.Value.out_A_2_eq ..
    rw [e, step_at, zero_at, zero_add]
    simp only [blk_h, blk_d]
  · intro t h
    have e : outsAt0 m c t.val t.isLt = k0_pay2 (outsAt0 m c (t.val - 1) (Nat.lt_of_le_of_lt (Nat.sub_le _ _) t.isLt)) (iblk m c 0 t) (iblk m c 1 t) := by
      rw [outsAt0_B m c t h]; exact Cert.KernelDwIdeal.Value.out_B_2_eq ..
    rw [e, step_at]
    simp only [blk_h, blk_d]

/-- The result, whole. -/
theorem dw_final : (dats m 0 c).arrAt 2 cfg0.N = fun i => ∑ r : Fin 8192, hN (mX m c) (vG m c) r (i (1 : Fin 3))
    * aD m c (ix2 r (col (i (0 : Fin 3)) (i (2 : Fin 3)))) := by
  refine (dats m 0 c).arrAt_eq_of_covers 2 _ (show win0_2.Covers by decide +kernel) fun t hf y => ?_
  blk_simp
  rw [after0_2]
  obtain ⟨z, p, q, rfl⟩ : ∃ (z : Fin 1) (p : Fin 1024) (q : Fin 1024), y = ix3 z p q :=
    ⟨y 0, y 1, y 2, eq_ix3 (n0 := 1) (n1 := 1024) (n2 := 1024) y⟩
  refine (acc_at m c t ((flush0_2 t).1 hf) z p q).trans ?_
  have i0 : ((win0_2.blk t).view.emb (ix3 z p q)) (0 : Fin 3) = tblk t := by
    apply Fin.ext; blk_simp [e2, tblk]
  have i1 : ((win0_2.blk t).view.emb (ix3 z p q)) (1 : Fin 3) = p := by
    apply Fin.ext; blk_simp [e2]
  have i2 : ((win0_2.blk t).view.emb (ix3 z p q)) (2 : Fin 3) = q := by
    apply Fin.ext; blk_simp [e2]
  rw [i0, i1, i2]

theorem same : Cert.ReferenceDwIdeal.Read.val_main_v21 (F := Ideal) (aX m c) (aG m c) (aD m c) = (dats m 0 c).arrAt 2 cfg0.N := by
  rw [dw_final]
  funext i
  obtain ⟨j, p, q, rfl⟩ : ∃ (j : Fin 4) (p : Fin 1024) (q : Fin 1024), i = ix3 j p q :=
    ⟨i 0, i 1, i 2, eq_ix3 (n0 := 4) (n1 := 1024) (n2 := 1024) i⟩
  refine (v21_at _ _ _ j p q).trans ?_
  exact Finset.sum_congr rfl fun r _ => mul_comm _ _
end

/-- The kernel terminates without a fault, leaves its arguments and every semaphore as it found them, at the bits. -/
theorem frame : Cert.quiescent_KernelDw := fun m ρ _ => Cert.KernelDw.Gen.frame m ρ
/-- The same at the extended reals. -/
theorem frameIdeal : Cert.quiescent_KernelDwIdeal := fun m ρ _ => Cert.KernelDwIdeal.Gen.frame m ρ
/-- The reference runs on the host and leaves its arguments as it found them. -/
theorem frameRef : Cert.quiescent_ReferenceDwIdeal := fun m ρ _ =>
  (θ_run Cert.ReferenceDwIdeal.defs _ _).mono (fun r h => ⟨fun c => (h c).2, sem_eq_zero_of_no_sems (by decide) r.2⟩)
    (Cert.ReferenceDwIdeal.Value.run (F := Ideal) m ρ)
/-- Whatever the arguments, the kernel's result is the reference's. -/
theorem algebraic : Cert.algebraic_KernelDwIdeal_ReferenceDwIdeal := fun m ρ m' ρ' _ hag => by
  refine ⟨_, Cert.KernelDwIdeal.Value.run_blocks m ρ,
    (θ_run Cert.ReferenceDwIdeal.defs _ _).mono (fun r h c => ?_) (Cert.ReferenceDwIdeal.Value.run m' ρ')⟩
  obtain ⟨h0, hk⟩ := h c
  obtain ⟨a0, a1, a2, a3⟩ := hag c
  refine ⟨h0.trans ((Cert.ReferenceDwIdeal.Read.val_main_v21_eq _ _ _).trans ?_), hk⟩
  rw [a0, a1, a3]; exact same m c

end Cert.InDw

end
-- ==== Proof.OutDw.lean ====
/- The gradient of the HGRN2 mixer's output weights: what the call leaves, what the reference computes, and the claims. -/
module

public import proofs.«01_k».proof.Defs
public import proofs.«01_k».proof.Proof.Math
public import proofs.«01_k».proof.Proof.Gen.KernelWo.Frame
public import proofs.«01_k».proof.Proof.Gen.KernelWoIdeal.Value
public import proofs.«01_k».proof.Proof.Gen.ReferenceWoIdeal.Read
public import Idealize.ShloMosaic.Lib.Pipeline.ValueKit.Geometry
public import Idealize.ShloMosaic.Lib.Pipeline.ValueKit.Point

@[expose] public section

set_option maxHeartbeats 1000000

noncomputable section

namespace Cert.OutDw

open Cert.HalfFFN Idealize.ShloMosaic Idealize.ShloMosaic.TcCoe Idealize.ShloMosaic.Tactic Idealize.SL.Sem Cert.KernelWoIdeal Cert.KernelWoIdeal.Gen

/-- A point adds its rows' share of the product to the tile. -/
theorem step_at (a : Vec Ideal S1x256x1024 .f32) (h : Vec Ideal S2048x256 .bf16) (d : Vec Ideal S2048x1024 .bf16) (z : Fin 1) (l : Fin 256) (n : Fin 1024) :
    k0_pay2 a h d (ix3 z l n) = a (ix3 z l n) + ∑ x, h (ix2 x l) * d (ix2 x n) := by
  obtain rfl : z = 0 := Subsingleton.elim _ _
  pointwise [k0_pay2]
/-- The first point of a tile starts from zero. -/
theorem zero_at (z : Fin 1) (l : Fin 256) (n : Fin 1024) : k0_pay1 (F := Ideal) (ix3 z l n) = 0 := by
  pointwise [k0_pay1]

/-- The row that place `x` of point `t`'s tile of rows holds. -/
def trow (t : Fin cfg0.N) (x : Fin 2048) : Fin 8192 := ⟨t.val % 4 * 2048 + x.val, by omega⟩
/-- The block of the weights' rows that point `t` works on. -/
def tblk (t : Fin cfg0.N) : Fin 4 := ⟨t.val / 4, by have h : t.val < 16 := t.isLt; omega⟩
/-- Row `l` of block `j`. -/
def wrow (j : Fin 4) (l : Fin 256) : Fin 1024 := ⟨j.val * 256 + l.val, by omega⟩

theorem e0 : ∀ t : Fin cfg0.N, win0_0.index t = ![t.val % 4, t.val / 4] := (by decide +kernel : ∀ t : Fin grid0.N, win0_0.index t = ![t.val % 4, t.val / 4])
theorem e1 : ∀ t : Fin cfg0.N, win0_1.index t = ![t.val % 4, 0] := (by decide +kernel : ∀ t : Fin grid0.N, win0_1.index t = ![t.val % 4, 0])
theorem e2 : ∀ t : Fin cfg0.N, win0_2.index t = ![t.val / 4, 0, 0] := (by decide +kernel : ∀ t : Fin grid0.N, win0_2.index t = ![t.val / 4, 0, 0])

section
variable (m : (ℓ : Loc nD τ sig) → Buf (Elt Ideal) ℓ) (c : Dev nD)

/-- The mixer's rows. -/
abbrev aY : (⟨S8192x1024, .f32⟩ : BufTy).Contents (Elt Ideal) := m ((c : Thread nD τ).loc main_arg0)
/-- The cotangent of the projection's result. -/
abbrev aD : (⟨S8192x1024, .f32⟩ : BufTy).Contents (Elt Ideal) := m ((c : Thread nD τ).loc main_arg2)

/-- The reference's result at an index. -/
theorem ref_at (j : Fin 4) (l : Fin 256) (n : Fin 1024) : Cert.ReferenceWoIdeal.Read.val_main_v5 (F := Ideal) (aY m c) (aD m c) (ix3 j l n)
    = ∑ r : Fin 8192, aD m c (ix2 r n) * aY m c (ix2 r (wrow j l)) := by
  unfold wrow; pointwise [Cert.ReferenceWoIdeal.Read.val_main_v5, Cert.ReferenceWoIdeal.Read.val_main_v4, Cert.ReferenceWoIdeal.Read.val_main_v3, Cert.ReferenceWoIdeal.Read.val_main_v2]

theorem blk_h (t : Fin cfg0.N) (x : Fin 2048) (l : Fin 256) : iblk m c 0 t (ix2 x l) = aY m c (ix2 (trow t x) (wrow (tblk t) l)) := by
  blk_ext! [iblk, V, e0, trow, tblk, wrow]
theorem blk_d (t : Fin cfg0.N) (x : Fin 2048) (n : Fin 1024) : iblk m c 1 t (ix2 x n) = aD m c (ix2 (trow t x) n) := by
  blk_ext! [iblk, V, e1, trow]

/-- What a tile holds after its last point. -/
theorem acc_at (t : Fin cfg0.N) (ht : t.val % 4 = 3) (z : Fin 1) (l : Fin 256) (n : Fin 1024) :
    outsAt0 m c t.val t.isLt (ix3 z l n) = ∑ r, aY m c (ix2 r (wrow (tblk t) l)) * aD m c (ix2 r n) := by
  rw [unroll4 (fun k hk => outsAt0 m c k hk (ix3 z l n))
      (fun t => ∑ x, aY m c (ix2 (trow t x) (wrow (tblk t) l)) * aD m c (ix2 (trow t x) n)) ?_ ?_ t ht,
    Fin.sum_univ_tiles 4 2048 rfl, Fin.sum_univ_four]
  · have hb : ∀ k (hk : k < 4), tblk ⟨t.val - k, by have := t.isLt; omega⟩ = tblk t := fun k hk => by
      apply Fin.ext; simp only [tblk]; omega
    have hr : ∀ k (hk : k < 4) x, trow ⟨t.val - k, by have := t.isLt; omega⟩ x = ⟨(3 - k) * 2048 + x.val, by omega⟩ := fun k hk x => by
      apply Fin.ext; simp only [trow]; omega
    have hr' : ∀ x, trow t x = ⟨3 * 2048 + x.val, by omega⟩ := fun x => by apply Fin.ext; simp only [trow]; omega
    simp only [hb 3 (by omega), hb 2 (by omega), hb 1 (by omega), hr 3 (by omega), hr 2 (by omega), hr 1 (by omega), hr']
    rfl
  · intro t h
    have e : outsAt0 m c t.val t.isLt = k0_pay2 (k0_pay1 (F := Ideal)) (iblk m c 0 t) (iblk m c 1 t) := by
      rw [outsAt0_A m c t h]; exact Cert.KernelWoIdeal.Value.out_A_2_eq ..
    rw [e, step_at, zero_at, zero_add]
    simp only [blk_h, blk_d]
  · intro t h
    have e : outsAt0 m c t.val t.isLt = k0_pay2 (outsAt0 m c (t.val - 1) (Nat.lt_of_le_of_lt (Nat.sub_le _ _) t.isLt)) (iblk m c 0 t) (iblk m c 1 t) := by
      rw [outsAt0_B m c t h]; exact Cert.KernelWoIdeal.Value.out_B_2_eq ..
    rw [e, step_at]
    simp only [blk_h, blk_d]

/-- The result, whole. -/
theorem dw_final : (dats m 0 c).arrAt 2 cfg0.N = fun i => ∑ r : Fin 8192, aY m c (ix2 r (wrow (i (0 : Fin 3)) (i (1 : Fin 3))))
    * aD m c (ix2 r (i (2 : Fin 3))) := by
  refine (dats m 0 c).arrAt_eq_of_covers 2 _ (show win0_2.Covers by decide +kernel) fun t hf y => ?_
  blk_simp
  rw [after0_2]
  obtain ⟨z, p, q, rfl⟩ : ∃ (z : Fin 1) (p : Fin 256) (q : Fin 1024), y = ix3 z p q :=
    ⟨y 0, y 1, y 2, eq_ix3 (n0 := 1) (n1 := 256) (n2 := 1024) y⟩
  refine (acc_at m c t ((flush0_2 t).1 hf) z p q).trans ?_
  have i0 : ((win0_2.blk t).view.emb (ix3 z p q)) (0 : Fin 3) = tblk t := by
    apply Fin.ext; blk_simp [e2, tblk]
  have i1 : ((win0_2.blk t).view.emb (ix3 z p q)) (1 : Fin 3) = p := by
    apply Fin.ext; blk_simp [e2]
  have i2 : ((win0_2.blk t).view.emb (ix3 z p q)) (2 : Fin 3) = q := by
    apply Fin.ext; blk_simp [e2]
  rw [i0, i1, i2]

theorem same : Cert.ReferenceWoIdeal.Read.val_main_v5 (F := Ideal) (aY m c) (aD m c) = (dats m 0 c).arrAt 2 cfg0.N := by
  rw [dw_final]
  funext i
  obtain ⟨j, p, q, rfl⟩ : ∃ (j : Fin 4) (p : Fin 256) (q : Fin 1024), i = ix3 j p q :=
    ⟨i 0, i 1, i 2, eq_ix3 (n0 := 4) (n1 := 256) (n2 := 1024) i⟩
  refine (ref_at m c j p q).trans ?_
  exact Finset.sum_congr rfl fun r _ => mul_comm _ _
end

/-- The kernel terminates without a fault, leaves its arguments and every semaphore as it found them, at the bits. -/
theorem frame : Cert.quiescent_KernelWo := fun m ρ _ => Cert.KernelWo.Gen.frame m ρ
/-- The same at the extended reals. -/
theorem frameIdeal : Cert.quiescent_KernelWoIdeal := fun m ρ _ => Cert.KernelWoIdeal.Gen.frame m ρ
/-- The reference runs on the host and leaves its arguments as it found them. -/
theorem frameRef : Cert.quiescent_ReferenceWoIdeal := fun m ρ _ =>
  (θ_run Cert.ReferenceWoIdeal.defs _ _).mono (fun r h => ⟨fun c => (h c).2, sem_eq_zero_of_no_sems (by decide) r.2⟩)
    (Cert.ReferenceWoIdeal.Value.run (F := Ideal) m ρ)
/-- Whatever the arguments, the kernel's result is the reference's. -/
theorem algebraic : Cert.algebraic_KernelWoIdeal_ReferenceWoIdeal := fun m ρ m' ρ' _ hag => by
  refine ⟨_, Cert.KernelWoIdeal.Value.run_blocks m ρ,
    (θ_run Cert.ReferenceWoIdeal.defs _ _).mono (fun r h c => ?_) (Cert.ReferenceWoIdeal.Value.run m' ρ')⟩
  obtain ⟨h0, hk⟩ := h c
  obtain ⟨a0, a1, a2⟩ := hag c
  refine ⟨h0.trans ((Cert.ReferenceWoIdeal.Read.val_main_v5_eq _ _).trans ?_), hk⟩
  rw [a0, a2]; exact same m c

end Cert.OutDw

end
-- ==== Proof.ConvDw.lean ====
/- The gradient of the convolution module's input weights: what the call leaves, what the reference computes, and the claims. -/
module

public import proofs.«01_k».proof.Defs
public import proofs.«01_k».proof.Proof.Math
public import proofs.«01_k».proof.Proof.Gen.KernelCw.Frame
public import proofs.«01_k».proof.Proof.Gen.KernelCwIdeal.Value
public import proofs.«01_k».proof.Proof.Gen.ReferenceCwIdeal.Read
public import Idealize.ShloMosaic.Lib.Pipeline.ValueKit.Geometry
public import Idealize.ShloMosaic.Lib.Pipeline.ValueKit.Point

@[expose] public section

set_option maxHeartbeats 1000000

noncomputable section

namespace Cert.ConvDw

open Cert.HalfFFN Idealize.ShloMosaic Idealize.ShloMosaic.TcCoe Idealize.ShloMosaic.Tactic Idealize.SL.Sem Cert.KernelCwIdeal Cert.KernelCwIdeal.Gen

/-- A point adds its rows' share of the product to the tile. -/
theorem step_at (a : Vec Ideal S1x1024x512 .f32) (h : Vec Ideal S2048x1024 .bf16) (d : Vec Ideal S2048x512 .bf16) (z : Fin 1) (l : Fin 1024) (n : Fin 512) :
    k0_pay2 a h d (ix3 z l n) = a (ix3 z l n) + ∑ x, h (ix2 x l) * d (ix2 x n) := by
  obtain rfl : z = 0 := Subsingleton.elim _ _
  pointwise [k0_pay2]
/-- The first point of a tile starts from zero. -/
theorem zero_at (z : Fin 1) (l : Fin 1024) (n : Fin 512) : k0_pay1 (F := Ideal) (ix3 z l n) = 0 := by
  pointwise [k0_pay1]

/-- The row that place `x` of point `t`'s tile of rows holds. -/
def trow (t : Fin cfg0.N) (x : Fin 2048) : Fin 8192 := ⟨t.val % 4 * 2048 + x.val, by omega⟩
/-- The block of columns that point `t` works on. -/
def tblk (t : Fin cfg0.N) : Fin 4 := ⟨t.val / 4, by have h : t.val < 16 := t.isLt; omega⟩
/-- Column `n` of block `j`. -/
def col (j : Fin 4) (n : Fin 512) : Fin 2048 := ⟨j.val * 512 + n.val, by omega⟩

theorem e0 : ∀ t : Fin cfg0.N, win0_0.index t = ![t.val % 4, 0] := (by decide +kernel : ∀ t : Fin grid0.N, win0_0.index t = ![t.val % 4, 0])
theorem e1 : ∀ t : Fin cfg0.N, win0_1.index t = ![t.val % 4, t.val / 4] := (by decide +kernel : ∀ t : Fin grid0.N, win0_1.index t = ![t.val % 4, t.val / 4])
theorem e2 : ∀ t : Fin cfg0.N, win0_2.index t = ![t.val / 4, 0, 0] := (by decide +kernel : ∀ t : Fin grid0.N, win0_2.index t = ![t.val / 4, 0, 0])

section
variable (m : (ℓ : Loc nD τ sig) → Buf (Elt Ideal) ℓ) (c : Dev nD)

/-- The residual's rows. -/
abbrev aX : (⟨S8192x1024, .f32⟩ : BufTy).Contents (Elt Ideal) := m ((c : Thread nD τ).loc main_arg0)
/-- The mixers' scales. -/
abbrev aG : (⟨S4x1024, .f32⟩ : BufTy).Contents (Elt Ideal) := m ((c : Thread nD τ).loc main_arg1)
/-- The cotangent of the projection's result. -/
abbrev aD : (⟨S8192x2048, .f32⟩ : BufTy).Contents (Elt Ideal) := m ((c : Thread nD τ).loc main_arg3)
/-- The residual's rows as a matrix. -/
abbrev mX (r : Fin 8192) (l : Fin 1024) : EReal := aX m c (ix2 r l)
/-- The scale of the rows the projection sees. -/
abbrev vG (l : Fin 1024) : EReal := aG m c (ix2 0 l)

section
open Cert.ReferenceCwIdeal.Read

variable (x0 : (⟨S8192x1024, .f32⟩ : BufTy).Contents (Elt Ideal)) (x1 : (⟨S4x1024, .f32⟩ : BufTy).Contents (Elt Ideal))
  (x3 : (⟨S8192x2048, .f32⟩ : BufTy).Contents (Elt Ideal))

theorem v8_at (r : Fin 8192) (z : Fin 1) : val_main_v8 (F := Ideal) x0 (ix2 r z) = Ideal.div (∑ k : Fin 1024, x0 (ix2 r k) * x0 (ix2 r k)) cWidth + cEps := by
  pointwise [val_main_v8, val_main_v7, val_main_cst_1, val_main_v6, val_main_v5, val_main_cst_0, val_main_v4, val_main_v3, val_main_cst, val_main_v2]
theorem v9_at (r : Fin 8192) (z : Fin 1) : val_main_v9 (F := Ideal) x0 (ix2 r z) = rinv (fun r l => x0 (ix2 r l)) r := by
  unfold rinv; rw [← v8_at x0 r z]; pointwise [val_main_v9]
theorem v11_at (r : Fin 8192) (l : Fin 1024) : val_main_v11 (F := Ideal) x0 (ix2 r l) = x0 (ix2 r l) * rinv (fun r l => x0 (ix2 r l)) r := by
  rw [← v9_at x0 r 0]; pointwise [val_main_v11, val_main_v10]
theorem v14_at (r : Fin 8192) (l : Fin 1024) : val_main_v14 (F := Ideal) x0 x1 (ix2 r l) = hN (fun r l => x0 (ix2 r l)) (fun l => x1 (ix2 0 l)) r l := by
  unfold hN; rw [← v11_at x0 r l]; pointwise [val_main_v14, val_main_v13, val_main_v12, val_main_v1, val_main_v0]
theorem v17_at (k : Fin 2048) (l : Fin 1024) : val_main_v17 (F := Ideal) x0 x1 x3 (ix2 k l)
    = ∑ r : Fin 8192, x3 (ix2 r k) * hN (fun r l => x0 (ix2 r l)) (fun l => x1 (ix2 0 l)) r l := by
  simp only [← v14_at x0 x1]; pointwise [val_main_v17]
/-- The reference's result at an index. -/
theorem v21_at (j : Fin 4) (l : Fin 1024) (n : Fin 512) : val_main_v21 (F := Ideal) x0 x1 x3 (ix3 j l n)
    = ∑ r : Fin 8192, x3 (ix2 r (col j n)) * hN (fun r l => x0 (ix2 r l)) (fun l => x1 (ix2 0 l)) r l := by
  rw [← v17_at x0 x1 x3]; unfold col; pointwise [val_main_v21, val_main_v20, val_main_v19, val_main_v18]
end

theorem norm_eq : V m c main_v15 = fun i => Cert.ReferenceCwIdeal.Read.val_main_v14 (F := Ideal) (aX m c) (aG m c) i := by
  rfl

theorem blk_h (t : Fin cfg0.N) (x : Fin 2048) (l : Fin 1024) : iblk m c 0 t (ix2 x l) = hN (mX m c) (vG m c) (trow t x) l := by
  rw [← v14_at (aX m c) (aG m c)]
  have h : ∀ i, V m c main_v15 i = Cert.ReferenceCwIdeal.Read.val_main_v14 (F := Ideal) (aX m c) (aG m c) i := fun i => congrFun (norm_eq m c) i
  rw [← h]
  blk_simp [iblk]
  refine congrArg (V m c main_v15) ?_
  blk_ext [e0, trow]
theorem blk_d (t : Fin cfg0.N) (x : Fin 2048) (n : Fin 512) : iblk m c 1 t (ix2 x n) = aD m c (ix2 (trow t x) (col (tblk t) n)) := by
  blk_ext! [iblk, V, e1, trow, tblk, col]

/-- What a tile holds after its last point. -/
theorem acc_at (t : Fin cfg0.N) (ht : t.val % 4 = 3) (z : Fin 1) (l : Fin 1024) (n : Fin 512) :
    outsAt0 m c t.val t.isLt (ix3 z l n) = ∑ r, hN (mX m c) (vG m c) r l * aD m c (ix2 r (col (tblk t) n)) := by
  rw [unroll4 (fun k hk => outsAt0 m c k hk (ix3 z l n))
      (fun t => ∑ x, hN (mX m c) (vG m c) (trow t x) l * aD m c (ix2 (trow t x) (col (tblk t) n))) ?_ ?_ t ht,
    Fin.sum_univ_tiles 4 2048 rfl, Fin.sum_univ_four]
  · have hb : ∀ k (hk : k < 4), tblk ⟨t.val - k, by have := t.isLt; omega⟩ = tblk t := fun k hk => by
      apply Fin.ext; simp only [tblk]; omega
    have hr : ∀ k (hk : k < 4) x, trow ⟨t.val - k, by have := t.isLt; omega⟩ x = ⟨(3 - k) * 2048 + x.val, by omega⟩ := fun k hk x => by
      apply Fin.ext; simp only [trow]; omega
    have hr' : ∀ x, trow t x = ⟨3 * 2048 + x.val, by omega⟩ := fun x => by apply Fin.ext; simp only [trow]; omega
    simp only [hb 3 (by omega), hb 2 (by omega), hb 1 (by omega), hr 3 (by omega), hr 2 (by omega), hr 1 (by omega), hr']
    rfl
  · intro t h
    have e : outsAt0 m c t.val t.isLt = k0_pay2 (k0_pay1 (F := Ideal)) (iblk m c 0 t) (iblk m c 1 t) := by
      rw [outsAt0_A m c t h]; exact Cert.KernelCwIdeal.Value.out_A_2_eq ..
    rw [e, step_at, zero_at, zero_add]
    simp only [blk_h, blk_d]
  · intro t h
    have e : outsAt0 m c t.val t.isLt = k0_pay2 (outsAt0 m c (t.val - 1) (Nat.lt_of_le_of_lt (Nat.sub_le _ _) t.isLt)) (iblk m c 0 t) (iblk m c 1 t) := by
      rw [outsAt0_B m c t h]; exact Cert.KernelCwIdeal.Value.out_B_2_eq ..
    rw [e, step_at]
    simp only [blk_h, blk_d]

/-- The result, whole. -/
theorem dw_final : (dats m 0 c).arrAt 2 cfg0.N = fun i => ∑ r : Fin 8192, hN (mX m c) (vG m c) r (i (1 : Fin 3))
    * aD m c (ix2 r (col (i (0 : Fin 3)) (i (2 : Fin 3)))) := by
  refine (dats m 0 c).arrAt_eq_of_covers 2 _ (show win0_2.Covers by decide +kernel) fun t hf y => ?_
  blk_simp
  rw [after0_2]
  obtain ⟨z, p, q, rfl⟩ : ∃ (z : Fin 1) (p : Fin 1024) (q : Fin 512), y = ix3 z p q :=
    ⟨y 0, y 1, y 2, eq_ix3 (n0 := 1) (n1 := 1024) (n2 := 512) y⟩
  refine (acc_at m c t ((flush0_2 t).1 hf) z p q).trans ?_
  have i0 : ((win0_2.blk t).view.emb (ix3 z p q)) (0 : Fin 3) = tblk t := by
    apply Fin.ext; blk_simp [e2, tblk]
  have i1 : ((win0_2.blk t).view.emb (ix3 z p q)) (1 : Fin 3) = p := by
    apply Fin.ext; blk_simp [e2]
  have i2 : ((win0_2.blk t).view.emb (ix3 z p q)) (2 : Fin 3) = q := by
    apply Fin.ext; blk_simp [e2]
  rw [i0, i1, i2]

theorem same : Cert.ReferenceCwIdeal.Read.val_main_v21 (F := Ideal) (aX m c) (aG m c) (aD m c) = (dats m 0 c).arrAt 2 cfg0.N := by
  rw [dw_final]
  funext i
  obtain ⟨j, p, q, rfl⟩ : ∃ (j : Fin 4) (p : Fin 1024) (q : Fin 512), i = ix3 j p q :=
    ⟨i 0, i 1, i 2, eq_ix3 (n0 := 4) (n1 := 1024) (n2 := 512) i⟩
  refine (v21_at _ _ _ j p q).trans ?_
  exact Finset.sum_congr rfl fun r _ => mul_comm _ _
end

/-- The kernel terminates without a fault, leaves its arguments and every semaphore as it found them, at the bits. -/
theorem frame : Cert.quiescent_KernelCw := fun m ρ _ => Cert.KernelCw.Gen.frame m ρ
/-- The same at the extended reals. -/
theorem frameIdeal : Cert.quiescent_KernelCwIdeal := fun m ρ _ => Cert.KernelCwIdeal.Gen.frame m ρ
/-- The reference runs on the host and leaves its arguments as it found them. -/
theorem frameRef : Cert.quiescent_ReferenceCwIdeal := fun m ρ _ =>
  (θ_run Cert.ReferenceCwIdeal.defs _ _).mono (fun r h => ⟨fun c => (h c).2, sem_eq_zero_of_no_sems (by decide) r.2⟩)
    (Cert.ReferenceCwIdeal.Value.run (F := Ideal) m ρ)
/-- Whatever the arguments, the kernel's result is the reference's. -/
theorem algebraic : Cert.algebraic_KernelCwIdeal_ReferenceCwIdeal := fun m ρ m' ρ' _ hag => by
  refine ⟨_, Cert.KernelCwIdeal.Value.run_blocks m ρ,
    (θ_run Cert.ReferenceCwIdeal.defs _ _).mono (fun r h c => ?_) (Cert.ReferenceCwIdeal.Value.run m' ρ')⟩
  obtain ⟨h0, hk⟩ := h c
  obtain ⟨a0, a1, a2, a3⟩ := hag c
  refine ⟨h0.trans ((Cert.ReferenceCwIdeal.Read.val_main_v21_eq _ _ _).trans ?_), hk⟩
  rw [a0, a1, a3]; exact same m c

end Cert.ConvDw

end
-- ==== Proof.FoxDw.lean ====
/- The gradient of the forgetting attention's input weights, at the padded width: what the call leaves, what the reference computes, and the claims. -/
module

public import proofs.«01_k».proof.Defs
public import proofs.«01_k».proof.Proof.Math
public import proofs.«01_k».proof.Proof.Gen.KernelFw.Frame
public import proofs.«01_k».proof.Proof.Gen.KernelFwIdeal.Value
public import proofs.«01_k».proof.Proof.Gen.ReferenceFwIdeal.Read
public import Idealize.ShloMosaic.Lib.Pipeline.ValueKit.Geometry
public import Idealize.ShloMosaic.Lib.Pipeline.ValueKit.Point

@[expose] public section

set_option maxHeartbeats 1000000

noncomputable section

namespace Cert.FoxDw

open Cert.HalfFFN Idealize.ShloMosaic Idealize.ShloMosaic.TcCoe Idealize.ShloMosaic.Tactic Idealize.SL.Sem Cert.KernelFwIdeal Cert.KernelFwIdeal.Gen

/-- A point adds its rows' share of the product to the tile. -/
theorem step_at (a : Vec Ideal S1x1024x640 .f32) (h : Vec Ideal S2048x1024 .bf16) (d : Vec Ideal S2048x640 .bf16) (z : Fin 1) (l : Fin 1024) (n : Fin 640) :
    k0_pay2 a h d (ix3 z l n) = a (ix3 z l n) + ∑ x, h (ix2 x l) * d (ix2 x n) := by
  obtain rfl : z = 0 := Subsingleton.elim _ _
  pointwise [k0_pay2]
/-- The first point of a tile starts from zero. -/
theorem zero_at (z : Fin 1) (l : Fin 1024) (n : Fin 640) : k0_pay1 (F := Ideal) (ix3 z l n) = 0 := by
  pointwise [k0_pay1]

/-- The row that place `x` of point `t`'s tile of rows holds. -/
def trow (t : Fin cfg0.N) (x : Fin 2048) : Fin 8192 := ⟨t.val % 4 * 2048 + x.val, by omega⟩
/-- The block of columns that point `t` works on. -/
def tblk (t : Fin cfg0.N) : Fin 5 := ⟨t.val / 4, by have h : t.val < 20 := t.isLt; omega⟩
/-- Column `n` of block `j`. -/
def col (j : Fin 5) (n : Fin 640) : Fin 3200 := ⟨j.val * 640 + n.val, by omega⟩

theorem e0 : ∀ t : Fin cfg0.N, win0_0.index t = ![t.val % 4, 0] := (by decide +kernel : ∀ t : Fin grid0.N, win0_0.index t = ![t.val % 4, 0])
theorem e1 : ∀ t : Fin cfg0.N, win0_1.index t = ![t.val % 4, t.val / 4] := (by decide +kernel : ∀ t : Fin grid0.N, win0_1.index t = ![t.val % 4, t.val / 4])
theorem e2 : ∀ t : Fin cfg0.N, win0_2.index t = ![t.val / 4, 0, 0] := (by decide +kernel : ∀ t : Fin grid0.N, win0_2.index t = ![t.val / 4, 0, 0])

section
variable (m : (ℓ : Loc nD τ sig) → Buf (Elt Ideal) ℓ) (c : Dev nD)

/-- The residual's rows. -/
abbrev aX : (⟨S8192x1024, .f32⟩ : BufTy).Contents (Elt Ideal) := m ((c : Thread nD τ).loc main_arg0)
/-- The mixers' scales. -/
abbrev aG : (⟨S4x1024, .f32⟩ : BufTy).Contents (Elt Ideal) := m ((c : Thread nD τ).loc main_arg1)
/-- The cotangent of the projection's result. -/
abbrev aD : (⟨S8192x3200, .f32⟩ : BufTy).Contents (Elt Ideal) := m ((c : Thread nD τ).loc main_arg3)
/-- The residual's rows as a matrix. -/
abbrev mX (r : Fin 8192) (l : Fin 1024) : EReal := aX m c (ix2 r l)
/-- The scale of the rows the projection sees. -/
abbrev vG (l : Fin 1024) : EReal := aG m c (ix2 1 l)

section
open Cert.ReferenceFwIdeal.Read

variable (x0 : (⟨S8192x1024, .f32⟩ : BufTy).Contents (Elt Ideal)) (x1 : (⟨S4x1024, .f32⟩ : BufTy).Contents (Elt Ideal))
  (x3 : (⟨S8192x3200, .f32⟩ : BufTy).Contents (Elt Ideal))

theorem v8_at (r : Fin 8192) (z : Fin 1) : val_main_v8 (F := Ideal) x0 (ix2 r z) = Ideal.div (∑ k : Fin 1024, x0 (ix2 r k) * x0 (ix2 r k)) cWidth + cEps := by
  pointwise [val_main_v8, val_main_v7, val_main_cst_1, val_main_v6, val_main_v5, val_main_cst_0, val_main_v4, val_main_v3, val_main_cst, val_main_v2]
theorem v9_at (r : Fin 8192) (z : Fin 1) : val_main_v9 (F := Ideal) x0 (ix2 r z) = rinv (fun r l => x0 (ix2 r l)) r := by
  unfold rinv; rw [← v8_at x0 r z]; pointwise [val_main_v9]
theorem v11_at (r : Fin 8192) (l : Fin 1024) : val_main_v11 (F := Ideal) x0 (ix2 r l) = x0 (ix2 r l) * rinv (fun r l => x0 (ix2 r l)) r := by
  rw [← v9_at x0 r 0]; pointwise [val_main_v11, val_main_v10]
theorem v14_at (r : Fin 8192) (l : Fin 1024) : val_main_v14 (F := Ideal) x0 x1 (ix2 r l) = hN (fun r l => x0 (ix2 r l)) (fun l => x1 (ix2 1 l)) r l := by
  unfold hN; rw [← v11_at x0 r l]; pointwise [val_main_v14, val_main_v13, val_main_v12, val_main_v1, val_main_v0]
theorem v17_at (k : Fin 3200) (l : Fin 1024) : val_main_v17 (F := Ideal) x0 x1 x3 (ix2 k l)
    = ∑ r : Fin 8192, x3 (ix2 r k) * hN (fun r l => x0 (ix2 r l)) (fun l => x1 (ix2 1 l)) r l := by
  simp only [← v14_at x0 x1]; pointwise [val_main_v17]
/-- The reference's result at an index. -/
theorem v21_at (j : Fin 5) (l : Fin 1024) (n : Fin 640) : val_main_v21 (F := Ideal) x0 x1 x3 (ix3 j l n)
    = ∑ r : Fin 8192, x3 (ix2 r (col j n)) * hN (fun r l => x0 (ix2 r l)) (fun l => x1 (ix2 1 l)) r l := by
  rw [← v17_at x0 x1 x3]; unfold col; pointwise [val_main_v21, val_main_v20, val_main_v19, val_main_v18]
end

theorem norm_eq : V m c main_v15 = fun i => Cert.ReferenceFwIdeal.Read.val_main_v14 (F := Ideal) (aX m c) (aG m c) i := by
  rfl

theorem blk_h (t : Fin cfg0.N) (x : Fin 2048) (l : Fin 1024) : iblk m c 0 t (ix2 x l) = hN (mX m c) (vG m c) (trow t x) l := by
  rw [← v14_at (aX m c) (aG m c)]
  have h : ∀ i, V m c main_v15 i = Cert.ReferenceFwIdeal.Read.val_main_v14 (F := Ideal) (aX m c) (aG m c) i := fun i => congrFun (norm_eq m c) i
  rw [← h]
  blk_simp [iblk]
  refine congrArg (V m c main_v15) ?_
  blk_ext [e0, trow]
theorem blk_d (t : Fin cfg0.N) (x : Fin 2048) (n : Fin 640) : iblk m c 1 t (ix2 x n) = aD m c (ix2 (trow t x) (col (tblk t) n)) := by
  blk_ext! [iblk, V, e1, trow, tblk, col]

/-- What a tile holds after its last point. -/
theorem acc_at (t : Fin cfg0.N) (ht : t.val % 4 = 3) (z : Fin 1) (l : Fin 1024) (n : Fin 640) :
    outsAt0 m c t.val t.isLt (ix3 z l n) = ∑ r, hN (mX m c) (vG m c) r l * aD m c (ix2 r (col (tblk t) n)) := by
  rw [unroll4 (fun k hk => outsAt0 m c k hk (ix3 z l n))
      (fun t => ∑ x, hN (mX m c) (vG m c) (trow t x) l * aD m c (ix2 (trow t x) (col (tblk t) n))) ?_ ?_ t ht,
    Fin.sum_univ_tiles 4 2048 rfl, Fin.sum_univ_four]
  · have hb : ∀ k (hk : k < 4), tblk ⟨t.val - k, by have := t.isLt; omega⟩ = tblk t := fun k hk => by
      apply Fin.ext; simp only [tblk]; omega
    have hr : ∀ k (hk : k < 4) x, trow ⟨t.val - k, by have := t.isLt; omega⟩ x = ⟨(3 - k) * 2048 + x.val, by omega⟩ := fun k hk x => by
      apply Fin.ext; simp only [trow]; omega
    have hr' : ∀ x, trow t x = ⟨3 * 2048 + x.val, by omega⟩ := fun x => by apply Fin.ext; simp only [trow]; omega
    simp only [hb 3 (by omega), hb 2 (by omega), hb 1 (by omega), hr 3 (by omega), hr 2 (by omega), hr 1 (by omega), hr']
    rfl
  · intro t h
    have e : outsAt0 m c t.val t.isLt = k0_pay2 (k0_pay1 (F := Ideal)) (iblk m c 0 t) (iblk m c 1 t) := by
      rw [outsAt0_A m c t h]; exact Cert.KernelFwIdeal.Value.out_A_2_eq ..
    rw [e, step_at, zero_at, zero_add]
    simp only [blk_h, blk_d]
  · intro t h
    have e : outsAt0 m c t.val t.isLt = k0_pay2 (outsAt0 m c (t.val - 1) (Nat.lt_of_le_of_lt (Nat.sub_le _ _) t.isLt)) (iblk m c 0 t) (iblk m c 1 t) := by
      rw [outsAt0_B m c t h]; exact Cert.KernelFwIdeal.Value.out_B_2_eq ..
    rw [e, step_at]
    simp only [blk_h, blk_d]

/-- The result, whole. -/
theorem dw_final : (dats m 0 c).arrAt 2 cfg0.N = fun i => ∑ r : Fin 8192, hN (mX m c) (vG m c) r (i (1 : Fin 3))
    * aD m c (ix2 r (col (i (0 : Fin 3)) (i (2 : Fin 3)))) := by
  refine (dats m 0 c).arrAt_eq_of_covers 2 _ (show win0_2.Covers by decide +kernel) fun t hf y => ?_
  blk_simp
  rw [after0_2]
  obtain ⟨z, p, q, rfl⟩ : ∃ (z : Fin 1) (p : Fin 1024) (q : Fin 640), y = ix3 z p q :=
    ⟨y 0, y 1, y 2, eq_ix3 (n0 := 1) (n1 := 1024) (n2 := 640) y⟩
  refine (acc_at m c t ((flush0_2 t).1 hf) z p q).trans ?_
  have i0 : ((win0_2.blk t).view.emb (ix3 z p q)) (0 : Fin 3) = tblk t := by
    apply Fin.ext; blk_simp [e2, tblk]
  have i1 : ((win0_2.blk t).view.emb (ix3 z p q)) (1 : Fin 3) = p := by
    apply Fin.ext; blk_simp [e2]
  have i2 : ((win0_2.blk t).view.emb (ix3 z p q)) (2 : Fin 3) = q := by
    apply Fin.ext; blk_simp [e2]
  rw [i0, i1, i2]

theorem same : Cert.ReferenceFwIdeal.Read.val_main_v21 (F := Ideal) (aX m c) (aG m c) (aD m c) = (dats m 0 c).arrAt 2 cfg0.N := by
  rw [dw_final]
  funext i
  obtain ⟨j, p, q, rfl⟩ : ∃ (j : Fin 5) (p : Fin 1024) (q : Fin 640), i = ix3 j p q :=
    ⟨i 0, i 1, i 2, eq_ix3 (n0 := 5) (n1 := 1024) (n2 := 640) i⟩
  refine (v21_at _ _ _ j p q).trans ?_
  exact Finset.sum_congr rfl fun r _ => mul_comm _ _
end

/-- The kernel terminates without a fault, leaves its arguments and every semaphore as it found them, at the bits. -/
theorem frame : Cert.quiescent_KernelFw := fun m ρ _ => Cert.KernelFw.Gen.frame m ρ
/-- The same at the extended reals. -/
theorem frameIdeal : Cert.quiescent_KernelFwIdeal := fun m ρ _ => Cert.KernelFwIdeal.Gen.frame m ρ
/-- The reference runs on the host and leaves its arguments as it found them. -/
theorem frameRef : Cert.quiescent_ReferenceFwIdeal := fun m ρ _ =>
  (θ_run Cert.ReferenceFwIdeal.defs _ _).mono (fun r h => ⟨fun c => (h c).2, sem_eq_zero_of_no_sems (by decide) r.2⟩)
    (Cert.ReferenceFwIdeal.Value.run (F := Ideal) m ρ)
/-- Whatever the arguments, the kernel's result is the reference's. -/
theorem algebraic : Cert.algebraic_KernelFwIdeal_ReferenceFwIdeal := fun m ρ m' ρ' _ hag => by
  refine ⟨_, Cert.KernelFwIdeal.Value.run_blocks m ρ,
    (θ_run Cert.ReferenceFwIdeal.defs _ _).mono (fun r h c => ?_) (Cert.ReferenceFwIdeal.Value.run m' ρ')⟩
  obtain ⟨h0, hk⟩ := h c
  obtain ⟨a0, a1, a2, a3⟩ := hag c
  refine ⟨h0.trans ((Cert.ReferenceFwIdeal.Read.val_main_v21_eq _ _ _).trans ?_), hk⟩
  rw [a0, a1, a3]; exact same m c

end Cert.FoxDw

end
-- ==== Proof.lean ====
/- The claims of `proof/Defs.lean`, assembled from the modules under `Proof/`. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel6
public import proofs.«01_k».proof.Proof.Gen.Kernel6Ideal
public import proofs.«01_k».proof.Proof.Gen.Reference6Ideal
public import proofs.«01_k».proof.Proof.Gen.Reference6Ideal.Run
public import proofs.«01_k».proof.Proof.Gen.Kernel5
public import proofs.«01_k».proof.Proof.Gen.Kernel5Ideal
public import proofs.«01_k».proof.Proof.Gen.Reference5Ideal
public import proofs.«01_k».proof.Proof.Gen.Reference5Ideal.Run
public import proofs.«01_k».proof.Proof.Gen.Kernel4
public import proofs.«01_k».proof.Proof.Gen.Kernel4Ideal
public import proofs.«01_k».proof.Proof.Gen.Reference4Ideal
public import proofs.«01_k».proof.Proof.Gen.Reference4Ideal.Run
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Kernel1
public import proofs.«01_k».proof.Proof.Gen.Kernel1Ideal
public import proofs.«01_k».proof.Proof.Gen.Reference1Ideal
public import proofs.«01_k».proof.Proof.Gen.Reference1Ideal.Run
public import proofs.«01_k».proof.Proof.Gen.Kernel0
public import proofs.«01_k».proof.Proof.Gen.Kernel0Ideal
public import proofs.«01_k».proof.Proof.Gen.Reference0Ideal
public import proofs.«01_k».proof.Proof.Gen.Reference0Ideal.Run
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal.Read
public import proofs.«01_k».proof.Proof.Gen.KernelLoss
public import proofs.«01_k».proof.Proof.Gen.KernelLoss.Skeleton
public import proofs.«01_k».proof.Proof.Gen.KernelLoss.Launch
public import proofs.«01_k».proof.Proof.Gen.KernelLoss.Points
public import proofs.«01_k».proof.Proof.Gen.KernelLoss.Frame
public import proofs.«01_k».proof.Proof.Gen.KernelLossIdeal
public import proofs.«01_k».proof.Proof.Gen.KernelLossIdeal.Skeleton
public import proofs.«01_k».proof.Proof.Gen.KernelLossIdeal.Launch
public import proofs.«01_k».proof.Proof.Gen.KernelLossIdeal.Points
public import proofs.«01_k».proof.Proof.Gen.KernelLossIdeal.Value
public import proofs.«01_k».proof.Proof.Gen.ReferenceLossIdeal
public import proofs.«01_k».proof.Proof.Gen.ReferenceLossIdeal.Run
public import proofs.«01_k».proof.Proof.Gen.ReferenceLossIdeal.Read
public import proofs.«01_k».proof.Proof.Gen.KernelOut
public import proofs.«01_k».proof.Proof.Gen.KernelOut.Skeleton
public import proofs.«01_k».proof.Proof.Gen.KernelOut.Launch
public import proofs.«01_k».proof.Proof.Gen.KernelOut.Points
public import proofs.«01_k».proof.Proof.Gen.KernelOut.Frame
public import proofs.«01_k».proof.Proof.Gen.KernelOutIdeal
public import proofs.«01_k».proof.Proof.Gen.KernelOutIdeal.Skeleton
public import proofs.«01_k».proof.Proof.Gen.KernelOutIdeal.Launch
public import proofs.«01_k».proof.Proof.Gen.KernelOutIdeal.Points
public import proofs.«01_k».proof.Proof.Gen.KernelOutIdeal.Value
public import proofs.«01_k».proof.Proof.Gen.ReferenceOutIdeal
public import proofs.«01_k».proof.Proof.Gen.ReferenceOutIdeal.Run
public import proofs.«01_k».proof.Proof.Gen.ReferenceOutIdeal.Read
public import proofs.«01_k».proof.Proof.Gen.KernelNt
public import proofs.«01_k».proof.Proof.Gen.KernelNt.Skeleton
public import proofs.«01_k».proof.Proof.Gen.KernelNt.Launch
public import proofs.«01_k».proof.Proof.Gen.KernelNt.Points
public import proofs.«01_k».proof.Proof.Gen.KernelNt.Frame
public import proofs.«01_k».proof.Proof.Gen.KernelNtIdeal
public import proofs.«01_k».proof.Proof.Gen.KernelNtIdeal.Skeleton
public import proofs.«01_k».proof.Proof.Gen.KernelNtIdeal.Launch
public import proofs.«01_k».proof.Proof.Gen.KernelNtIdeal.Points
public import proofs.«01_k».proof.Proof.Gen.KernelNtIdeal.Value
public import proofs.«01_k».proof.Proof.Gen.ReferenceNtIdeal
public import proofs.«01_k».proof.Proof.Gen.ReferenceNtIdeal.Run
public import proofs.«01_k».proof.Proof.Gen.ReferenceNtIdeal.Read
public import proofs.«01_k».proof.Proof.Gen.KernelDw
public import proofs.«01_k».proof.Proof.Gen.KernelDw.Skeleton
public import proofs.«01_k».proof.Proof.Gen.KernelDw.Launch
public import proofs.«01_k».proof.Proof.Gen.KernelDw.Points
public import proofs.«01_k».proof.Proof.Gen.KernelDw.Frame
public import proofs.«01_k».proof.Proof.Gen.KernelDwIdeal
public import proofs.«01_k».proof.Proof.Gen.KernelDwIdeal.Skeleton
public import proofs.«01_k».proof.Proof.Gen.KernelDwIdeal.Launch
public import proofs.«01_k».proof.Proof.Gen.KernelDwIdeal.Points
public import proofs.«01_k».proof.Proof.Gen.KernelDwIdeal.Value
public import proofs.«01_k».proof.Proof.Gen.ReferenceDwIdeal
public import proofs.«01_k».proof.Proof.Gen.ReferenceDwIdeal.Run
public import proofs.«01_k».proof.Proof.Gen.ReferenceDwIdeal.Read
public import proofs.«01_k».proof.Proof.Gen.KernelWo
public import proofs.«01_k».proof.Proof.Gen.KernelWo.Skeleton
public import proofs.«01_k».proof.Proof.Gen.KernelWo.Launch
public import proofs.«01_k».proof.Proof.Gen.KernelWo.Points
public import proofs.«01_k».proof.Proof.Gen.KernelWo.Frame
public import proofs.«01_k».proof.Proof.Gen.KernelWoIdeal
public import proofs.«01_k».proof.Proof.Gen.KernelWoIdeal.Skeleton
public import proofs.«01_k».proof.Proof.Gen.KernelWoIdeal.Launch
public import proofs.«01_k».proof.Proof.Gen.KernelWoIdeal.Points
public import proofs.«01_k».proof.Proof.Gen.KernelWoIdeal.Value
public import proofs.«01_k».proof.Proof.Gen.ReferenceWoIdeal
public import proofs.«01_k».proof.Proof.Gen.ReferenceWoIdeal.Run
public import proofs.«01_k».proof.Proof.Gen.ReferenceWoIdeal.Read
public import proofs.«01_k».proof.Proof.Gen.KernelCw
public import proofs.«01_k».proof.Proof.Gen.KernelCw.Skeleton
public import proofs.«01_k».proof.Proof.Gen.KernelCw.Launch
public import proofs.«01_k».proof.Proof.Gen.KernelCw.Points
public import proofs.«01_k».proof.Proof.Gen.KernelCw.Frame
public import proofs.«01_k».proof.Proof.Gen.KernelCwIdeal
public import proofs.«01_k».proof.Proof.Gen.KernelCwIdeal.Skeleton
public import proofs.«01_k».proof.Proof.Gen.KernelCwIdeal.Launch
public import proofs.«01_k».proof.Proof.Gen.KernelCwIdeal.Points
public import proofs.«01_k».proof.Proof.Gen.KernelCwIdeal.Value
public import proofs.«01_k».proof.Proof.Gen.ReferenceCwIdeal
public import proofs.«01_k».proof.Proof.Gen.ReferenceCwIdeal.Run
public import proofs.«01_k».proof.Proof.Gen.ReferenceCwIdeal.Read
public import proofs.«01_k».proof.Proof.Gen.KernelFw
public import proofs.«01_k».proof.Proof.Gen.KernelFw.Skeleton
public import proofs.«01_k».proof.Proof.Gen.KernelFw.Launch
public import proofs.«01_k».proof.Proof.Gen.KernelFw.Points
public import proofs.«01_k».proof.Proof.Gen.KernelFw.Frame
public import proofs.«01_k».proof.Proof.Gen.KernelFwIdeal
public import proofs.«01_k».proof.Proof.Gen.KernelFwIdeal.Skeleton
public import proofs.«01_k».proof.Proof.Gen.KernelFwIdeal.Launch
public import proofs.«01_k».proof.Proof.Gen.KernelFwIdeal.Points
public import proofs.«01_k».proof.Proof.Gen.KernelFwIdeal.Value
public import proofs.«01_k».proof.Proof.Gen.ReferenceFwIdeal
public import proofs.«01_k».proof.Proof.Gen.ReferenceFwIdeal.Run
public import proofs.«01_k».proof.Proof.Gen.ReferenceFwIdeal.Read
public import proofs.«01_k».proof.Proof.Half7
public import proofs.«01_k».proof.Proof.Half6
public import proofs.«01_k».proof.Proof.Half5
public import proofs.«01_k».proof.Proof.Half4
public import proofs.«01_k».proof.Proof.Half3
public import proofs.«01_k».proof.Proof.Half2
public import proofs.«01_k».proof.Proof.Half1
public import proofs.«01_k».proof.Proof.Half0
public import proofs.«01_k».proof.Proof.Loss
public import proofs.«01_k».proof.Proof.Out
public import proofs.«01_k».proof.Proof.OutBwd
public import proofs.«01_k».proof.Proof.InDw
public import proofs.«01_k».proof.Proof.OutDw
public import proofs.«01_k».proof.Proof.ConvDw
public import proofs.«01_k».proof.Proof.FoxDw
public import Idealize.ShloMosaic.Adequacy
public import Idealize.ShloMosaic.Init

@[expose] public section

noncomputable section

namespace Cert.Proof

open Cert.HalfFFN

/-- The claims of the eight half layers, of the loss head and of six products of the mixers' projections: the frames, that the idealization is the printed text, and the results' values. -/
theorem claim : Cert.Claim := ⟨
  Cert.Kernel.Gen.facts, Cert.KernelIdeal.Gen.facts, Cert.ReferenceIdeal.Gen.facts,
  Cert.Kernel6.Gen.facts, Cert.Kernel6Ideal.Gen.facts, Cert.Reference6Ideal.Gen.facts,
  Cert.Kernel5.Gen.facts, Cert.Kernel5Ideal.Gen.facts, Cert.Reference5Ideal.Gen.facts,
  Cert.Kernel4.Gen.facts, Cert.Kernel4Ideal.Gen.facts, Cert.Reference4Ideal.Gen.facts,
  Cert.Kernel3.Gen.facts, Cert.Kernel3Ideal.Gen.facts, Cert.Reference3Ideal.Gen.facts,
  Cert.Kernel2.Gen.facts, Cert.Kernel2Ideal.Gen.facts, Cert.Reference2Ideal.Gen.facts,
  Cert.Kernel1.Gen.facts, Cert.Kernel1Ideal.Gen.facts, Cert.Reference1Ideal.Gen.facts,
  Cert.Kernel0.Gen.facts, Cert.Kernel0Ideal.Gen.facts, Cert.Reference0Ideal.Gen.facts,
  Cert.KernelLoss.Gen.facts, Cert.KernelLossIdeal.Gen.facts, Cert.ReferenceLossIdeal.Gen.facts,
  Cert.KernelOut.Gen.facts, Cert.KernelOutIdeal.Gen.facts, Cert.ReferenceOutIdeal.Gen.facts,
  Cert.KernelNt.Gen.facts, Cert.KernelNtIdeal.Gen.facts, Cert.ReferenceNtIdeal.Gen.facts,
  Cert.KernelDw.Gen.facts, Cert.KernelDwIdeal.Gen.facts, Cert.ReferenceDwIdeal.Gen.facts,
  Cert.KernelWo.Gen.facts, Cert.KernelWoIdeal.Gen.facts, Cert.ReferenceWoIdeal.Gen.facts,
  Cert.KernelCw.Gen.facts, Cert.KernelCwIdeal.Gen.facts, Cert.ReferenceCwIdeal.Gen.facts,
  Cert.KernelFw.Gen.facts, Cert.KernelFwIdeal.Gen.facts, Cert.ReferenceFwIdeal.Gen.facts,
  Finite.facts,
  Half7.frame, Half7.frameIdeal, fun m ρ _ => Half7.frameIdeal m ρ trivial, Half7.frameRef, fun m ρ _ => Half7.frameRef m ρ trivial,
  Half6.frame, Half6.frameIdeal, fun m ρ _ => Half6.frameIdeal m ρ trivial, Half6.frameRef, fun m ρ _ => Half6.frameRef m ρ trivial,
  Half5.frame, Half5.frameIdeal, fun m ρ _ => Half5.frameIdeal m ρ trivial, Half5.frameRef, fun m ρ _ => Half5.frameRef m ρ trivial,
  Half4.frame, Half4.frameIdeal, fun m ρ _ => Half4.frameIdeal m ρ trivial, Half4.frameRef, fun m ρ _ => Half4.frameRef m ρ trivial,
  Half3.frame, Half3.frameIdeal, fun m ρ _ => Half3.frameIdeal m ρ trivial, Half3.frameRef, fun m ρ _ => Half3.frameRef m ρ trivial,
  Half2.frame, Half2.frameIdeal, fun m ρ _ => Half2.frameIdeal m ρ trivial, Half2.frameRef, fun m ρ _ => Half2.frameRef m ρ trivial,
  Half1.frame, Half1.frameIdeal, fun m ρ _ => Half1.frameIdeal m ρ trivial, Half1.frameRef, fun m ρ _ => Half1.frameRef m ρ trivial,
  Half0.frame, Half0.frameIdeal, fun m ρ _ => Half0.frameIdeal m ρ trivial, Half0.frameRef, fun m ρ _ => Half0.frameRef m ρ trivial,
  LossHead.frame, LossHead.frameIdeal, LossHead.frameRef,
  OutProj.frame, OutProj.frameIdeal, OutProj.frameRef,
  OutProjBwd.frame, OutProjBwd.frameIdeal, OutProjBwd.frameRef,
  InDw.frame, InDw.frameIdeal, InDw.frameRef,
  OutDw.frame, OutDw.frameIdeal, OutDw.frameRef,
  ConvDw.frame, ConvDw.frameIdeal, ConvDw.frameRef,
  FoxDw.frame, FoxDw.frameIdeal, FoxDw.frameRef,
  trivial, Half7.algebraic, trivial, Half6.algebraic, trivial, Half5.algebraic, trivial, Half4.algebraic, trivial, Half3.algebraic, trivial, Half2.algebraic, trivial, Half1.algebraic, trivial, Half0.algebraic,
  trivial, LossHead.algebraic,
  trivial, OutProj.algebraic, trivial, OutProjBwd.algebraic, trivial, InDw.algebraic,
  trivial, OutDw.algebraic, trivial, ConvDw.algebraic, trivial, FoxDw.algebraic⟩

end Cert.Proof
